-- ==== Defs.lean ====
def Pre_Kernel [hPre_lens_ok : Cert.Pre_lens_ok.Facts] (m : (ℓ : Loc Cert.Kernel.nD Cert.Kernel.τ Cert.Kernel.sig) → Buf (Elt Bits) ℓ) : Prop :=
  ∀ c : Dev Cert.Kernel.nD,
    (Cert.Pre_lens_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lens_ok : Cert.Pre_lens_ok.Facts] (m : (ℓ : Loc Cert.KernelIdeal.nD Cert.KernelIdeal.τ Cert.KernelIdeal.sig) → Buf (Elt Ideal) ℓ) : Prop :=
  ∀ c : Dev Cert.KernelIdeal.nD,
    (Cert.Pre_lens_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lens_ok : Cert.Pre_lens_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lens_ok : Cert.Pre_lens_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lens_ok : Cert.Pre_lens_ok.Facts) (hPre_inputs_ok : Cert.Pre_inputs_ok.Facts),
    quiescent_Kernel (hKernel := hKernel) (hPre_lens_ok := hPre_lens_ok)
    ∧ quiescent_KernelIdeal (hKernelIdeal := hKernelIdeal) (hPre_lens_ok := hPre_lens_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16x128x1024 : Shape := ⟨3, ![16, 128, 1024]⟩
abbrev S16x128 : Shape := ⟨2, ![16, 128]⟩
abbrev S4096x1024 : Shape := ⟨2, ![4096, 1024]⟩
abbrev S4096x512 : Shape := ⟨2, ![4096, 512]⟩
abbrev S4096x8 : Shape := ⟨2, ![4096, 8]⟩
abbrev S1024x1024 : Shape := ⟨2, ![1024, 1024]⟩
abbrev S16 : Shape := ⟨1, ![16]⟩
abbrev S_ : Shape := ⟨0, ![]⟩

class Facts : Prop where
  bcast_S_S16 : S_.BroadcastsInDim S16 (![] : Fin 0 → Fin S16.rank)
  bitsLt_bf16_f32 : FTy.bits .bf16 < FTy.bits .f32
  bcast_S_S16x128x1024 : S_.BroadcastsInDim S16x128x1024 (![] : Fin 0 → Fin S16x128x1024.rank)
  reducesTo_S16x128x1024_S_d0_1_2 : S16x128x1024.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x8 : S_.BroadcastsInDim S4096x8 (![] : Fin 0 → Fin S4096x8.rank)
  reducesTo_S4096x8_S_d0_1 : S4096x8.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v30 : IVec S16 1) (main_v35 : IVec S16 1) : IVec S16 1 :=
  let main_v36 : IVec S16 1 := andi main_v30 main_v35
  main_v36

def fn_part1 {F : FTy → Type} [FloatOps F] (main_arg3 : FVec F S4096x1024 .bf16) (main_arg5 : FVec F S4096x8 .f32) (main_arg6 : FVec F S1024x1024 .f32) (main_v17 : IVec S16 1) : IVec S16 1 :=
  let main_v18 : FVec F S4096x1024 .f32 := (extf .f32 · bitsLt_bf16_f32) main_arg3
  let main_v19 : FVec F S4096x1024 .f32 := Host.absf main_v18
  let main_cst_4 : FVec F S_ .f32 := constant S_ .f32 0x7F800000#32
  let main_v20 : FVec F S4096x1024 .f32 := broadcastInDim S4096x1024 ![] bcast_S_S4096x1024 main_cst_4
  let main_v21 : IVec S4096x1024 1 := cmpf .olt main_v19 main_v20
  let main_c_5 : IVec S_ 1 := constantI S_ 1 1#1
  let main_v22 : IVec S_ 1 := (fun x v => Host.reduce IntOp.andi x v reducesTo_S4096x1024_S_d0_1 h_S_) main_v21 main_c_5
  let main_v23 : IVec S16 1 := broadcastInDim S16 ![] bcast_S_S16 main_v22
  let main_v24 : IVec S16 1 := andi main_v17 main_v23
  let main_v25 : FVec F S4096x8 .f32 := Host.absf main_arg5
  let main_cst_6 : FVec F S_ .f32 := constant S_ .f32 0x7F800000#32
  let main_v26 : FVec F S4096x8 .f32 := broadcastInDim S4096x8 ![] bcast_S_S4096x8 main_cst_6
  let main_v27 : IVec S4096x8 1 := cmpf .olt main_v25 main_v26
  let main_c_7 : IVec S_ 1 := constantI S_ 1 1#1
  let main_v28 : IVec S_ 1 := (fun x v => Host.reduce IntOp.andi x v reducesTo_S4096x8_S_d0_1 h_S_) main_v27 main_c_7
  let main_v29 : IVec S16 1 := broadcastInDim S16 ![] bcast_S_S16 main_v28
  let main_v30 : IVec S16 1 := andi main_v24 main_v29
  let main_v31 : FVec F S1024x1024 .f32 := Host.absf main_arg6
  let main_cst_8 : FVec F S_ .f32 := constant S_ .f32 0x7F800000#32
  let main_v32 : FVec F S1024x1024 .f32 := broadcastInDim S1024x1024 ![] bcast_S_S1024x1024 main_cst_8
  let main_v33 : IVec S1024x1024 1 := cmpf .olt main_v31 main_v32
  let main_c_9 : IVec S_ 1 := constantI S_ 1 1#1
  let main_v34 : IVec S_ 1 := (fun x v => Host.reduce IntOp.andi x v reducesTo_S1024x1024_S_d0_1 h_S_) main_v33 main_c_9
  let main_v35 : IVec S16 1 := broadcastInDim S16 ![] bcast_S_S16 main_v34
  fn_part2 (F := F) main_v30 main_v35

def fn {F : FTy → Type} [FloatOps F] (main_arg0 : FVec F S16x128x1024 .bf16) (main_arg1 : IVec S16x128x1024 8) (main_arg2 : FVec F S16x128 .f32) (main_arg3 : FVec F S4096x1024 .bf16) (main_arg4 : IVec S4096x512 8) (main_arg5 : FVec F S4096x8 .f32) (main_arg6 : FVec F S1024x1024 .f32) (main_arg7 : IVec S16 32) : IVec S16 1 :=
  let main_c : IVec S_ 32 := constantI S_ 32 0#32
  let main_v0 : IVec S16 32 := broadcastInDim S16 ![] bcast_S_S16 main_c
  let main_v1 : IVec S16 1 := cmpi .sge main_arg7 main_v0
  let main_c_0 : IVec S_ 32 := constantI S_ 32 128#32
  let main_v2 : IVec S16 32 := broadcastInDim S16 ![] bcast_S_S16 main_c_0
  let main_v3 : IVec S16 1 := cmpi .sle main_arg7 main_v2
  let main_v4 : IVec S16 1 := andi main_v1 main_v3
  let main_v5 : FVec F S16x128x1024 .f32 := (extf .f32 · bitsLt_bf16_f32) main_arg0
  let main_v6 : FVec F S16x128x1024 .f32 := Host.absf main_v5
  let main_cst : FVec F S_ .f32 := constant S_ .f32 0x7F800000#32
  let main_v7 : FVec F S16x128x1024 .f32 := broadcastInDim S16x128x1024 ![] bcast_S_S16x128x1024 main_cst
  let main_v8 : IVec S16x128x1024 1 := cmpf .olt main_v6 main_v7
  let main_c_1 : IVec S_ 1 := constantI S_ 1 1#1
  let main_v9 : IVec S_ 1 := (fun x v => Host.reduce IntOp.andi x v reducesTo_S16x128x1024_S_d0_1_2 h_S_) main_v8 main_c_1
  let main_v10 : IVec S16 1 := broadcastInDim S16 ![] bcast_S_S16 main_v9
  let main_v11 : IVec S16 1 := andi main_v4 main_v10
  let main_v12 : FVec F S16x128 .f32 := Host.absf main_arg2
  let main_cst_2 : FVec F S_ .f32 := constant S_ .f32 0x7F800000#32
  let main_v13 : FVec F S16x128 .f32 := broadcastInDim S16x128 ![] bcast_S_S16x128 main_cst_2
  let main_v14 : IVec S16x128 1 := cmpf .olt main_v12 main_v13
  let main_c_3 : IVec S_ 1 := constantI S_ 1 1#1
  let main_v15 : IVec S_ 1 := (fun x v => Host.reduce IntOp.andi x v reducesTo_S16x128_S_d0_1 h_S_) main_v14 main_c_3
  let main_v16 : IVec S16 1 := broadcastInDim S16 ![] bcast_S_S16 main_v15
  let main_v17 : IVec S16 1 := andi main_v11 main_v16
  fn_part1 (F := F) main_arg3 main_arg5 main_arg6 main_v17
-- ==== Pre_lens_ok.lean ====
abbrev S16x128x1024 : Shape := ⟨3, ![16, 128, 1024]⟩
abbrev S16x128 : Shape := ⟨2, ![16, 128]⟩
abbrev S4096x1024 : Shape := ⟨2, ![4096, 1024]⟩
abbrev S4096x512 : Shape := ⟨2, ![4096, 512]⟩
abbrev S4096x8 : Shape := ⟨2, ![4096, 8]⟩
abbrev S1024x1024 : Shape := ⟨2, ![1024, 1024]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x128x1024 .bf16) (main_arg1 : IVec S16x128x1024 8) (main_arg2 : FVec F S16x128 .f32) (main_arg3 : FVec F S4096x1024 .bf16) (main_arg4 : IVec S4096x512 8) (main_arg5 : FVec F S4096x8 .f32) (main_arg6 : FVec F S1024x1024 .f32) (main_arg7 : IVec S16 32) : IVec S16 1 :=
  let main_c : IVec S_ 32 := constantI S_ 32 0#32
  let main_v0 : IVec S16 32 := broadcastInDim S16 ![] bcast_S_S16 main_c
  let main_v1 : IVec S16 1 := cmpi .sge main_arg7 main_v0
  let main_c_0 : IVec S_ 32 := constantI S_ 32 128#32
  let main_v2 : IVec S16 32 := broadcastInDim S16 ![] bcast_S_S16 main_c_0
  let main_v3 : IVec S16 1 := cmpi .sle main_arg7 main_v2
  let main_v4 : IVec S16 1 := andi main_v1 main_v3
  main_v4
-- ==== Kernel.lean ====
abbrev S16x128x1024 : Shape := ⟨3, ![16, 128, 1024]⟩
abbrev S16x128 : Shape := ⟨2, ![16, 128]⟩
abbrev S4096x1024 : Shape := ⟨2, ![4096, 1024]⟩
abbrev S4096x512 : Shape := ⟨2, ![4096, 512]⟩
abbrev S4096x8 : Shape := ⟨2, ![4096, 8]⟩
abbrev S1024x1024 : Shape := ⟨2, ![1024, 1024]⟩
abbrev S16 : Shape := ⟨1, ![16]⟩
abbrev S2048x1024 : Shape := ⟨2, ![2048, 1024]⟩
abbrev S8x1x512 : Shape := ⟨3, ![8, 1, 512]⟩
abbrev S512x1024 : Shape := ⟨2, ![512, 1024]⟩
abbrev S512x512 : Shape := ⟨2, ![512, 512]⟩
abbrev S512x8 : Shape := ⟨2, ![512, 8]⟩
abbrev S1x1x512 : Shape := ⟨3, ![1, 1, 512]⟩
abbrev S8x2304x128 : Shape := ⟨3, ![8, 2304, 128]⟩
abbrev S18x128 : Shape := ⟨2, ![18, 128]⟩
abbrev S3x1024x1024 : Shape := ⟨3, ![3, 1024, 1024]⟩
abbrev S3x8x256x1024 : Shape := ⟨4, ![3, 8, 256, 1024]⟩
abbrev S8x512x256 : Shape := ⟨3, ![8, 512, 256]⟩
abbrev S2x512x128 : Shape := ⟨3, ![2, 512, 128]⟩
abbrev S1 : Shape := ⟨1, ![1]⟩
abbrev S1x128 : Shape := ⟨2, ![1, 128]⟩
abbrev S128x128 : Shape := ⟨2, ![128, 128]⟩
abbrev S1x128x128 : Shape := ⟨3, ![1, 128, 128]⟩
abbrev S256x128 : Shape := ⟨2, ![256, 128]⟩
abbrev S1x256x128 : Shape := ⟨3, ![1, 256, 128]⟩
abbrev S128x1024 : Shape := ⟨2, ![128, 1024]⟩
abbrev S1x128x1024 : Shape := ⟨3, ![1, 128, 1024]⟩
abbrev S256x1024 : Shape := ⟨2, ![256, 1024]⟩
abbrev S1x1024x1024 : Shape := ⟨3, ![1, 1024, 1024]⟩
abbrev S1x1x256x1024 : Shape := ⟨4, ![1, 1, 256, 1024]⟩
abbrev S512x1 : Shape := ⟨2, ![512, 1]⟩
abbrev S512x128 : Shape := ⟨2, ![512, 128]⟩
abbrev S512x256 : Shape := ⟨2, ![512, 256]⟩
abbrev S1x256 : Shape := ⟨2, ![1, 256]⟩
abbrev S1x512x256 : Shape := ⟨3, ![1, 512, 256]⟩
abbrev S1x512x128 : Shape := ⟨3, ![1, 512, 128]⟩
abbrev S128x512 : Shape := ⟨2, ![128, 512]⟩
abbrev S512 : Shape := ⟨1, ![512]⟩
abbrev S1x512 : Shape := ⟨2, ![1, 512]⟩

abbrev nBuf : Space → Nat
  | .hbm => 13
  | .vmem => 27
  | .smem => 2
  | _ => 0

abbrev bufTy : (tb : Table) → Fin (tcTables nBuf tb) → BufTy
  | .hbm, ⟨0, _⟩ => ⟨S16x128x1024, .bf16⟩
  | .hbm, ⟨1, _⟩ => ⟨S16x128x1024, .i8⟩
  | .hbm, ⟨2, _⟩ => ⟨S16x128, .f32⟩
  | .hbm, ⟨3, _⟩ => ⟨S4096x1024, .bf16⟩
  | .hbm, ⟨4, _⟩ => ⟨S4096x512, .i8⟩
  | .hbm, ⟨5, _⟩ => ⟨S4096x8, .f32⟩
  | .hbm, ⟨6, _⟩ => ⟨S1024x1024, .f32⟩
  | .hbm, ⟨7, _⟩ => ⟨S2048x1024, .bf16⟩
  | .hbm, ⟨8, _⟩ => ⟨S2048x1024, .i8⟩
  | .hbm, ⟨9, _⟩ => ⟨S4096x1024, .bf16⟩
  | .hbm, ⟨10, _⟩ => ⟨S8x1x512, .f32⟩
  | .hbm, ⟨11, _⟩ => ⟨S8x1x512, .f32⟩
  | .hbm, ⟨12, _⟩ => ⟨S4096x1024, .f32⟩
  | .local _ .vmem, ⟨0, _⟩ => ⟨S2048x1024, .bf16⟩
  | .local _ .vmem, ⟨1, _⟩ => ⟨S2048x1024, .i8⟩
  | .local _ .vmem, ⟨2, _⟩ => ⟨S16x128, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x512, .i8⟩
  | .local _ .vmem, ⟨7, _⟩ => ⟨S512x512, .i8⟩
  | .local _ .vmem, ⟨8, _⟩ => ⟨S512x8, .f32⟩
  | .local _ .vmem, ⟨9, _⟩ => ⟨S512x8, .f32⟩
  | .local _ .vmem, ⟨10, _⟩ => ⟨S512x1024, .bf16⟩
  | .local _ .vmem, ⟨11, _⟩ => ⟨S512x1024, .bf16⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S512x1024, .f32⟩
  | .local _ .vmem, ⟨17, _⟩ => ⟨S512x1024, .f32⟩
  | .local _ .vmem, ⟨18, _⟩ => ⟨S8x2304x128, .bf16⟩
  | .local _ .vmem, ⟨19, _⟩ => ⟨S8x2304x128, .bf16⟩
  | .local _ .vmem, ⟨20, _⟩ => ⟨S18x128, .f32⟩
  | .local _ .vmem, ⟨21, _⟩ => ⟨S18x128, .f32⟩
  | .local _ .vmem, ⟨22, _⟩ => ⟨S3x1024x1024, .bf16⟩
  | .local _ .vmem, ⟨23, _⟩ => ⟨S3x8x256x1024, .bf16⟩
  | .local _ .vmem, ⟨24, _⟩ => ⟨S8x512x256, .f32⟩
  | .local _ .vmem, ⟨25, _⟩ => ⟨S512x1024, .bf16⟩
  | .local _ .vmem, ⟨26, _⟩ => ⟨S2x512x128, .f32⟩
  | .local _ .smem, ⟨0, _⟩ => ⟨S16, .i32⟩
  | .local _ .smem, ⟨1, _⟩ => ⟨S1, .i32⟩
  | _, _ => ⟨S16x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_arg7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 : Fin 3 → Nat :=
  let c0_88 : Index := 0#32
  let c2_i32 : BitVec 32 := 2#32
  let c0_i32_84 : BitVec 32 := 0#32
  let c1_i32_85 : BitVec 32 := 1#32
  let v180 : BitVec 32 := Scalar.shrui c0_i32_84 c1_i32_85
  let v183 : BitVec 32 := Scalar.muli c2_i32 v180
  let v184 : Index := Scalar.indexCast v183
  let c0_89 : Index := 0#32
  ![0, v184.toNat, 0]
def k0_off2 : Fin 3 → Nat :=
  let c1_98 : Index := 1#32
  let c2_i32_97 : BitVec 32 := 2#32
  let c0_i32_84 : BitVec 32 := 0#32
  let c1_i32_85 : BitVec 32 := 1#32
  let v180 : BitVec 32 := Scalar.shrui c0_i32_84 c1_i32_85
  let v198 : BitVec 32 := Scalar.muli c2_i32_97 v180
  let v199 : Index := Scalar.indexCast v198
  let c0_99 : Index := 0#32
  ![1, v199.toNat, 0]
def k0_off3 : Fin 3 → Nat :=
  let c2_108 : Index := 2#32
  let c2_i32_107 : BitVec 32 := 2#32
  let c0_i32_84 : BitVec 32 := 0#32
  let c1_i32_85 : BitVec 32 := 1#32
  let v180 : BitVec 32 := Scalar.shrui c0_i32_84 c1_i32_85
  let v213 : BitVec 32 := Scalar.muli c2_i32_107 v180
  let v214 : Index := Scalar.indexCast v213
  let c0_109 : Index := 0#32
  ![2, v214.toNat, 0]
def k0_off4 : Fin 3 → Nat :=
  let c3_118 : Index := 3#32
  let c2_i32_117 : BitVec 32 := 2#32
  let c0_i32_84 : BitVec 32 := 0#32
  let c1_i32_85 : BitVec 32 := 1#32
  let v180 : BitVec 32 := Scalar.shrui c0_i32_84 c1_i32_85
  let v228 : BitVec 32 := Scalar.muli c2_i32_117 v180
  let v229 : Index := Scalar.indexCast v228
  let c0_119 : Index := 0#32
  ![3, v229.toNat, 0]
def k0_off5 : Fin 3 → Nat :=
  let c4_128 : Index := 4#32
  let c2_i32_127 : BitVec 32 := 2#32
  let c0_i32_84 : BitVec 32 := 0#32
  let c1_i32_85 : BitVec 32 := 1#32
  let v180 : BitVec 32 := Scalar.shrui c0_i32_84 c1_i32_85
  let v243 : BitVec 32 := Scalar.muli c2_i32_127 v180
  let v244 : Index := Scalar.indexCast v243
  let c0_129 : Index := 0#32
  ![4, v244.toNat, 0]
def k0_off6 : Fin 3 → Nat :=
  let c5_138 : Index := 5#32
  let c2_i32_137 : BitVec 32 := 2#32
  let c0_i32_84 : BitVec 32 := 0#32
  let c1_i32_85 : BitVec 32 := 1#32
  let v180 : BitVec 32 := Scalar.shrui c0_i32_84 c1_i32_85
  let v258 : BitVec 32 := Scalar.muli c2_i32_137 v180
  let v259 : Index := Scalar.indexCast v258
  let c0_139 : Index := 0#32
  ![5, v259.toNat, 0]
def k0_off7 : Fin 3 → Nat :=
  let c6_148 : Index := 6#32
  let c2_i32_147 : BitVec 32 := 2#32
  let c0_i32_84 : BitVec 32 := 0#32
  let c1_i32_85 : BitVec 32 := 1#32
  let v180 : BitVec 32 := Scalar.shrui c0_i32_84 c1_i32_85
  let v273 : BitVec 32 := Scalar.muli c2_i32_147 v180
  let v274 : Index := Scalar.indexCast v273
  let c0_149 : Index := 0#32
  ![6, v274.toNat, 0]
def k0_off8 : Fin 3 → Nat :=
  let c7_158 : Index := 7#32
  let c2_i32_157 : BitVec 32 := 2#32
  let c0_i32_84 : BitVec 32 := 0#32
  let c1_i32_85 : BitVec 32 := 1#32
  let v180 : BitVec 32 := Scalar.shrui c0_i32_84 c1_i32_85
  let v288 : BitVec 32 := Scalar.muli c2_i32_157 v180
  let v289 : Index := Scalar.indexCast v288
  let c0_159 : Index := 0#32
  ![7, v289.toNat, 0]
def k0_off9 : Fin 2 → Nat :=
  let c0_i32_171 : BitVec 32 := 0#32
  let c0_i32_173 : BitVec 32 := 0#32
  let v312 : BitVec 1 := Scalar.cmpi .sgt c0_i32_171 c0_i32_173
  let v313 : BitVec 32 := Scalar.extui v312
  let c0_i32_174 : BitVec 32 := 0#32
  let v314 : BitVec 1 := Scalar.cmpi .slt c0_i32_171 c0_i32_174
  let v315 : BitVec 32 := Scalar.extui v314
  let v316 : BitVec 32 := Scalar.subi v313 v315
  let c128_i32_172 : BitVec 32 := 128#32
  let c0_i32_175 : BitVec 32 := 0#32
  let v317 : BitVec 1 := Scalar.cmpi .sgt c128_i32_172 c0_i32_175
  let v318 : BitVec 32 := Scalar.extui v317
  let c0_i32_176 : BitVec 32 := 0#32
  let v319 : BitVec 1 := Scalar.cmpi .slt c128_i32_172 c0_i32_176
  let v320 : BitVec 32 := Scalar.extui v319
  let v321 : BitVec 32 := Scalar.subi v318 v320
  let v322 : BitVec 1 := Scalar.cmpi .ne v316 v321
  let v323 : BitVec 32 := Scalar.remsi c0_i32_171 c128_i32_172
  let c0_i32_177 : BitVec 32 := 0#32
  let v324 : BitVec 1 := Scalar.cmpi .ne v323 c0_i32_177
  let v325 : BitVec 1 := Scalar.andi v322 v324
  let v311 : BitVec 32 := Scalar.divsi c0_i32_171 c128_i32_172
  let c1_i32_178 : BitVec 32 := 1#32
  let v326 : BitVec 32 := Scalar.subi v311 c1_i32_178
  let v327 : BitVec 32 := Scalar.select v325 v326 v311
  let v341 : Index := Scalar.indexCast v327
  let c0_183 : Index := 0#32
  ![v341.toNat, 0]
def k0_off10 : Fin 2 → Nat :=
  let c0_i32_171 : BitVec 32 := 0#32
  let c0_i32_173 : BitVec 32 := 0#32
  let v312 : BitVec 1 := Scalar.cmpi .sgt c0_i32_171 c0_i32_173
  let v313 : BitVec 32 := Scalar.extui v312
  let c0_i32_174 : BitVec 32 := 0#32
  let v314 : BitVec 1 := Scalar.cmpi .slt c0_i32_171 c0_i32_174
  let v315 : BitVec 32 := Scalar.extui v314
  let v316 : BitVec 32 := Scalar.subi v313 v315
  let c128_i32_172 : BitVec 32 := 128#32
  let c0_i32_175 : BitVec 32 := 0#32
  let v317 : BitVec 1 := Scalar.cmpi .sgt c128_i32_172 c0_i32_175
  let v318 : BitVec 32 := Scalar.extui v317
  let c0_i32_176 : BitVec 32 := 0#32
  let v319 : BitVec 1 := Scalar.cmpi .slt c128_i32_172 c0_i32_176
  let v320 : BitVec 32 := Scalar.extui v319
  let v321 : BitVec 32 := Scalar.subi v318 v320
  let v322 : BitVec 1 := Scalar.cmpi .ne v316 v321
  let v323 : BitVec 32 := Scalar.remsi c0_i32_171 c128_i32_172
  let c0_i32_177 : BitVec 32 := 0#32
  let v324 : BitVec 1 := Scalar.cmpi .ne v323 c0_i32_177
  let v325 : BitVec 1 := Scalar.andi v322 v324
  let v311 : BitVec 32 := Scalar.divsi c0_i32_171 c128_i32_172
  let c1_i32_178 : BitVec 32 := 1#32
  let v326 : BitVec 32 := Scalar.subi v311 c1_i32_178
  let v327 : BitVec 32 := Scalar.select v325 v326 v311
  let c1_i32_182 : BitVec 32 := 1#32
  let v340 : BitVec 32 := Scalar.addi v327 c1_i32_182
  let v356 : Index := Scalar.indexCast v340
  let c0_188 : Index := 0#32
  ![v356.toNat, 0]
def k0_off11 (v179 : BitVec 32) : Fin 3 → Nat :=
  let c0_200 : Index := 0#32
  let c2_i32_199 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v378 : BitVec 32 := Scalar.muli c2_i32_199 v375
  let v379 : Index := Scalar.indexCast v378
  let c0_201 : Index := 0#32
  ![0, v379.toNat, 0]

def k0_off12 (v179 : BitVec 32) : Fin 3 → Nat :=
  let c1_210 : Index := 1#32
  let c2_i32_209 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v393 : BitVec 32 := Scalar.muli c2_i32_209 v375
  let v394 : Index := Scalar.indexCast v393
  let c0_211 : Index := 0#32
  ![1, v394.toNat, 0]
def k0_off13 (v179 : BitVec 32) : Fin 3 → Nat :=
  let c2_220 : Index := 2#32
  let c2_i32_219 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v408 : BitVec 32 := Scalar.muli c2_i32_219 v375
  let v409 : Index := Scalar.indexCast v408
  let c0_221 : Index := 0#32
  ![2, v409.toNat, 0]
def k0_off14 (v179 : BitVec 32) : Fin 3 → Nat :=
  let c3_230 : Index := 3#32
  let c2_i32_229 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v423 : BitVec 32 := Scalar.muli c2_i32_229 v375
  let v424 : Index := Scalar.indexCast v423
  let c0_231 : Index := 0#32
  ![3, v424.toNat, 0]
def k0_off15 (v179 : BitVec 32) : Fin 3 → Nat :=
  let c4_240 : Index := 4#32
  let c2_i32_239 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v438 : BitVec 32 := Scalar.muli c2_i32_239 v375
  let v439 : Index := Scalar.indexCast v438
  let c0_241 : Index := 0#32
  ![4, v439.toNat, 0]
def k0_off16 (v179 : BitVec 32) : Fin 3 → Nat :=
  let c5_250 : Index := 5#32
  let c2_i32_249 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v453 : BitVec 32 := Scalar.muli c2_i32_249 v375
  let v454 : Index := Scalar.indexCast v453
  let c0_251 : Index := 0#32
  ![5, v454.toNat, 0]
def k0_off17 (v179 : BitVec 32) : Fin 3 → Nat :=
  let c6_260 : Index := 6#32
  let c2_i32_259 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v468 : BitVec 32 := Scalar.muli c2_i32_259 v375
  let v469 : Index := Scalar.indexCast v468
  let c0_261 : Index := 0#32
  ![6, v469.toNat, 0]
def k0_off18 (v179 : BitVec 32) : Fin 3 → Nat :=
  let c7_270 : Index := 7#32
  let c2_i32_269 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c1_i32_196 : BitVec 32 := 1#32
  let v375 : BitVec 32 := Scalar.shrui v373 c1_i32_196
  let v483 : BitVec 32 := Scalar.muli c2_i32_269 v375
  let v484 : Index := Scalar.indexCast v483
  let c0_271 : Index := 0#32
  ![7, v484.toNat, 0]
def k0_off19 (v179 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c0_i32_284 : BitVec 32 := 0#32
  let v507 : BitVec 1 := Scalar.cmpi .sgt v373 c0_i32_284
  let v508 : BitVec 32 := Scalar.extui v507
  let c0_i32_285 : BitVec 32 := 0#32
  let v509 : BitVec 1 := Scalar.cmpi .slt v373 c0_i32_285
  let v510 : BitVec 32 := Scalar.extui v509
  let v511 : BitVec 32 := Scalar.subi v508 v510
  let c128_i32_283 : BitVec 32 := 128#32
  let c0_i32_286 : BitVec 32 := 0#32
  let v512 : BitVec 1 := Scalar.cmpi .sgt c128_i32_283 c0_i32_286
  let v513 : BitVec 32 := Scalar.extui v512
  let c0_i32_287 : BitVec 32 := 0#32
  let v514 : BitVec 1 := Scalar.cmpi .slt c128_i32_283 c0_i32_287
  let v515 : BitVec 32 := Scalar.extui v514
  let v516 : BitVec 32 := Scalar.subi v513 v515
  let v517 : BitVec 1 := Scalar.cmpi .ne v511 v516
  let v518 : BitVec 32 := Scalar.remsi v373 c128_i32_283
  let c0_i32_288 : BitVec 32 := 0#32
  let v519 : BitVec 1 := Scalar.cmpi .ne v518 c0_i32_288
  let v520 : BitVec 1 := Scalar.andi v517 v519
  let v506 : BitVec 32 := Scalar.divsi v373 c128_i32_283
  let c1_i32_289 : BitVec 32 := 1#32
  let v521 : BitVec 32 := Scalar.subi v506 c1_i32_289
  let v522 : BitVec 32 := Scalar.select v520 v521 v506
  let v536 : Index := Scalar.indexCast v522
  let c0_294 : Index := 0#32
  ![v536.toNat, 0]
def k0_off20 (v179 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let c0_i32_284 : BitVec 32 := 0#32
  let v507 : BitVec 1 := Scalar.cmpi .sgt v373 c0_i32_284
  let v508 : BitVec 32 := Scalar.extui v507
  let c0_i32_285 : BitVec 32 := 0#32
  let v509 : BitVec 1 := Scalar.cmpi .slt v373 c0_i32_285
  let v510 : BitVec 32 := Scalar.extui v509
  let v511 : BitVec 32 := Scalar.subi v508 v510
  let c128_i32_283 : BitVec 32 := 128#32
  let c0_i32_286 : BitVec 32 := 0#32
  let v512 : BitVec 1 := Scalar.cmpi .sgt c128_i32_283 c0_i32_286
  let v513 : BitVec 32 := Scalar.extui v512
  let c0_i32_287 : BitVec 32 := 0#32
  let v514 : BitVec 1 := Scalar.cmpi .slt c128_i32_283 c0_i32_287
  let v515 : BitVec 32 := Scalar.extui v514
  let v516 : BitVec 32 := Scalar.subi v513 v515
  let v517 : BitVec 1 := Scalar.cmpi .ne v511 v516
  let v518 : BitVec 32 := Scalar.remsi v373 c128_i32_283
  let c0_i32_288 : BitVec 32 := 0#32
  let v519 : BitVec 1 := Scalar.cmpi .ne v518 c0_i32_288
  let v520 : BitVec 1 := Scalar.andi v517 v519
  let v506 : BitVec 32 := Scalar.divsi v373 c128_i32_283
  let c1_i32_289 : BitVec 32 := 1#32
  let v521 : BitVec 32 := Scalar.subi v506 c1_i32_289
  let v522 : BitVec 32 := Scalar.select v520 v521 v506
  let c1_i32_293 : BitVec 32 := 1#32
  let v535 : BitVec 32 := Scalar.addi v522 c1_i32_293
  let v551 : Index := Scalar.indexCast v535
  let c0_299 : Index := 0#32
  ![v551.toNat, 0]

def k0_chk1 (i : grid0.Coords) (v179 : BitVec 32) : Prop :=
  (∀ (k0_h1 : k0_cond1 i = 1#1), ∀ a, (k0_off11 v179) a + S1x128x128.size a ≤ S8x2304x128.size a) ∧
  (∀ (k0_h1 : k0_cond1 i = 1#1), ∀ (hinb : ∀ a, (k0_off11 v179) a + S1x128x128.size a ≤ S8x2304x128.size a), (Rect.unit (s := S8x2304x128) (k0_off11 v179) S1x128x128.size hinb).PackedRows (EltTy.packing .bf16)) ∧
  (∀ (k0_h1 : k0_cond1 i = 1#1), ∀ a, (k0_off12 v179) a + S1x128x128.size a ≤ S8x2304x128.size a) ∧
  (∀ (k0_h1 : k0_cond1 i = 1#1), ∀ (hinb : ∀ a, (k0_off12 v179) a + S1x128x128.size a ≤ S8x2304x128.size a), (Rect.unit (s := S8x2304x128) (k0_off12 v179) S1x128x128.size hinb).PackedRows (EltTy.packing .bf16)) ∧
  (∀ (k0_h1 : k0_cond1 i = 1#1), ∀ a, (k0_off13 v179) a + S1x128x128.size a ≤ S8x2304x128.size a) ∧
  (∀ (k0_h1 : k0_cond1 i = 1#1), ∀ (hinb : ∀ a, (k0_off13 v179) a + S1x128x128.size a ≤ S8x2304x128.size a), (Rect.unit (s := S8x2304x128) (k0_off13 v179) S1x128x128.size hinb).PackedRows (EltTy.packing .bf16)) ∧
  (∀ (k0_h1 : k0_cond1 i = 1#1), ∀ a, (k0_off14 v179) a + S1x128x128.size a ≤ S8x2304x128.size a) ∧
  (∀ (k0_h1 : k0_cond1 i = 1#1), ∀ (hinb : ∀ a, (k0_off14 v179) a + S1x128x128.size a ≤ S8x2304x128.size a), (Rect.unit (s := S8x2304x128) (k0_off14 v179) S1x128x128.size hinb).PackedRows (EltTy.packing .bf16)) ∧
  (∀ (k0_h1 : k0_cond1 i = 1#1), ∀ a, (k0_off15 v179) a + S1x128x128.size a ≤ S8x2304x128.size a) ∧
  (∀ (k0_h1 : k0_cond1 i = 1#1), ∀ (hinb : ∀ a, (k0_off15 v179) a + S1x128x128.size a ≤ S8x2304x128.size a), (Rect.unit (s := S8x2304x128) (k0_off15 v179) S1x128x128.size hinb).PackedRows (EltTy.packing .bf16)) ∧
  (∀ (k0_h1 : k0_cond1 i = 1#1), ∀ a, (k0_off16 v179) a + S1x128x128.size a ≤ S8x2304x128.size a) ∧
  (∀ (k0_h1 : k0_cond1 i = 1#1), ∀ (hinb : ∀ a, (k0_off16 v179) a + S1x128x128.size a ≤ S8x2304x128.size a), (Rect.unit (s := S8x2304x128) (k0_off16 v179) S1x128x128.size hinb).PackedRows (EltTy.packing .bf16)) ∧
  (∀ (k0_h1 : k0_cond1 i = 1#1), ∀ a, (k0_off17 v179) a + S1x128x128.size a ≤ S8x2304x128.size a) ∧
  (∀ (k0_h1 : k0_cond1 i = 1#1), ∀ (hinb : ∀ a, (k0_off17 v179) a + S1x128x128.size a ≤ S8x2304x128.size a), (Rect.unit (s := S8x2304x128) (k0_off17 v179) S1x128x128.size hinb).PackedRows (EltTy.packing .bf16)) ∧
  (∀ (k0_h1 : k0_cond1 i = 1#1), ∀ a, (k0_off18 v179) a + S1x128x128.size a ≤ S8x2304x128.size a) ∧
  (∀ (k0_h1 : k0_cond1 i = 1#1), ∀ (hinb : ∀ a, (k0_off18 v179) a + S1x128x128.size a ≤ S8x2304x128.size a), (Rect.unit (s := S8x2304x128) (k0_off18 v179) S1x128x128.size hinb).PackedRows (EltTy.packing .bf16)) ∧
  (∀ (k0_h1 : k0_cond1 i = 1#1), ∀ a, (k0_off19 v179) a + S1x128.size a ≤ S18x128.size a) ∧
  (∀ (k0_h1 : k0_cond1 i = 1#1), ∀ a, (k0_off20 v179) a + S1x128.size a ≤ S18x128.size a)
theorem k0_off11_inb : ∀ (i : grid0.Coords) (v179 : BitVec 32) (k0_hw1 : k0_chk1 i v179), ∀ (k0_h1 : k0_cond1 i = 1#1), ∀ a, (k0_off11 v179) a + S1x128x128.size a ≤ S8x2304x128.size a := fun i v179 k0_hw1 k0_h1 => k0_hw1.1 k0_h1
theorem k0_off11_packedbf16 : ∀ (i : grid0.Coords) (v179 : BitVec 32) (k0_hw1 : k0_chk1 i v179), ∀ (k0_h1 : k0_cond1 i = 1#1), (Rect.unit (s := S8x2304x128) (k0_off11 v179) S1x128x128.size (k0_off11_inb i v179 k0_hw1 k0_h1)).PackedRows (EltTy.packing .bf16) := fun i v179 k0_hw1 k0_h1 => k0_hw1.2.1 k0_h1 (k0_off11_inb i v179 k0_hw1 k0_h1)
theorem k0_off12_inb : ∀ (i : grid0.Coords) (v179 : BitVec 32) (k0_hw1 : k0_chk1 i v179), ∀ (k0_h1 : k0_cond1 i = 1#1), ∀ a, (k0_off12 v179) a + S1x128x128.size a ≤ S8x2304x128.size a := fun i v179 k0_hw1 k0_h1 => k0_hw1.2.2.1 k0_h1
theorem k0_off12_packedbf16 : ∀ (i : grid0.Coords) (v179 : BitVec 32) (k0_hw1 : k0_chk1 i v179), ∀ (k0_h1 : k0_cond1 i = 1#1), (Rect.unit (s := S8x2304x128) (k0_off12 v179) S1x128x128.size (k0_off12_inb i v179 k0_hw1 k0_h1)).PackedRows (EltTy.packing .bf16) := fun i v179 k0_hw1 k0_h1 => k0_hw1.2.2.2.1 k0_h1 (k0_off12_inb i v179 k0_hw1 k0_h1)
theorem k0_off13_inb : ∀ (i : grid0.Coords) (v179 : BitVec 32) (k0_hw1 : k0_chk1 i v179), ∀ (k0_h1 : k0_cond1 i = 1#1), ∀ a, (k0_off13 v179) a + S1x128x128.size a ≤ S8x2304x128.size a := fun i v179 k0_hw1 k0_h1 => k0_hw1.2.2.2.2.1 k0_h1
theorem k0_off13_packedbf16 : ∀ (i : grid0.Coords) (v179 : BitVec 32) (k0_hw1 : k0_chk1 i v179), ∀ (k0_h1 : k0_cond1 i = 1#1), (Rect.unit (s := S8x2304x128) (k0_off13 v179) S1x128x128.size (k0_off13_inb i v179 k0_hw1 k0_h1)).PackedRows (EltTy.packing .bf16) := fun i v179 k0_hw1 k0_h1 => k0_hw1.2.2.2.2.2.1 k0_h1 (k0_off13_inb i v179 k0_hw1 k0_h1)
theorem k0_off14_inb : ∀ (i : grid0.Coords) (v179 : BitVec 32) (k0_hw1 : k0_chk1 i v179), ∀ (k0_h1 : k0_cond1 i = 1#1), ∀ a, (k0_off14 v179) a + S1x128x128.size a ≤ S8x2304x128.size a := fun i v179 k0_hw1 k0_h1 => k0_hw1.2.2.2.2.2.2.1 k0_h1
theorem k0_off14_packedbf16 : ∀ (i : grid0.Coords) (v179 : BitVec 32) (k0_hw1 : k0_chk1 i v179), ∀ (k0_h1 : k0_cond1 i = 1#1), (Rect.unit (s := S8x2304x128) (k0_off14 v179) S1x128x128.size (k0_off14_inb i v179 k0_hw1 k0_h1)).PackedRows (EltTy.packing .bf16) := fun i v179 k0_hw1 k0_h1 => k0_hw1.2.2.2.2.2.2.2.1 k0_h1 (k0_off14_inb i v179 k0_hw1 k0_h1)
theorem k0_off15_inb : ∀ (i : grid0.Coords) (v179 : BitVec 32) (k0_hw1 : k0_chk1 i v179), ∀ (k0_h1 : k0_cond1 i = 1#1), ∀ a, (k0_off15 v179) a + S1x128x128.size a ≤ S8x2304x128.size a := fun i v179 k0_hw1 k0_h1 => k0_hw1.2.2.2.2.2.2.2.2.1 k0_h1
theorem k0_off15_packedbf16 : ∀ (i : grid0.Coords) (v179 : BitVec 32) (k0_hw1 : k0_chk1 i v179), ∀ (k0_h1 : k0_cond1 i = 1#1), (Rect.unit (s := S8x2304x128) (k0_off15 v179) S1x128x128.size (k0_off15_inb i v179 k0_hw1 k0_h1)).PackedRows (EltTy.packing .bf16) := fun i v179 k0_hw1 k0_h1 => k0_hw1.2.2.2.2.2.2.2.2.2.1 k0_h1 (k0_off15_inb i v179 k0_hw1 k0_h1)
theorem k0_off16_inb : ∀ (i : grid0.Coords) (v179 : BitVec 32) (k0_hw1 : k0_chk1 i v179), ∀ (k0_h1 : k0_cond1 i = 1#1), ∀ a, (k0_off16 v179) a + S1x128x128.size a ≤ S8x2304x128.size a := fun i v179 k0_hw1 k0_h1 => k0_hw1.2.2.2.2.2.2.2.2.2.2.1 k0_h1
theorem k0_off16_packedbf16 : ∀ (i : grid0.Coords) (v179 : BitVec 32) (k0_hw1 : k0_chk1 i v179), ∀ (k0_h1 : k0_cond1 i = 1#1), (Rect.unit (s := S8x2304x128) (k0_off16 v179) S1x128x128.size (k0_off16_inb i v179 k0_hw1 k0_h1)).PackedRows (EltTy.packing .bf16) := fun i v179 k0_hw1 k0_h1 => k0_hw1.2.2.2.2.2.2.2.2.2.2.2.1 k0_h1 (k0_off16_inb i v179 k0_hw1 k0_h1)
theorem k0_off17_inb : ∀ (i : grid0.Coords) (v179 : BitVec 32) (k0_hw1 : k0_chk1 i v179), ∀ (k0_h1 : k0_cond1 i = 1#1), ∀ a, (k0_off17 v179) a + S1x128x128.size a ≤ S8x2304x128.size a := fun i v179 k0_hw1 k0_h1 => k0_hw1.2.2.2.2.2.2.2.2.2.2.2.2.1 k0_h1
theorem k0_off17_packedbf16 : ∀ (i : grid0.Coords) (v179 : BitVec 32) (k0_hw1 : k0_chk1 i v179), ∀ (k0_h1 : k0_cond1 i = 1#1), (Rect.unit (s := S8x2304x128) (k0_off17 v179) S1x128x128.size (k0_off17_inb i v179 k0_hw1 k0_h1)).PackedRows (EltTy.packing .bf16) := fun i v179 k0_hw1 k0_h1 => k0_hw1.2.2.2.2.2.2.2.2.2.2.2.2.2.1 k0_h1 (k0_off17_inb i v179 k0_hw1 k0_h1)
theorem k0_off18_inb : ∀ (i : grid0.Coords) (v179 : BitVec 32) (k0_hw1 : k0_chk1 i v179), ∀ (k0_h1 : k0_cond1 i = 1#1), ∀ a, (k0_off18 v179) a + S1x128x128.size a ≤ S8x2304x128.size a := fun i v179 k0_hw1 k0_h1 => k0_hw1.2.2.2.2.2.2.2.2.2.2.2.2.2.2.1 k0_h1
theorem k0_off18_packedbf16 : ∀ (i : grid0.Coords) (v179 : BitVec 32) (k0_hw1 : k0_chk1 i v179), ∀ (k0_h1 : k0_cond1 i = 1#1), (Rect.unit (s := S8x2304x128) (k0_off18 v179) S1x128x128.size (k0_off18_inb i v179 k0_hw1 k0_h1)).PackedRows (EltTy.packing .bf16) := fun i v179 k0_hw1 k0_h1 => k0_hw1.2.2.2.2.2.2.2.2.2.2.2.2.2.2.2.1 k0_h1 (k0_off18_inb i v179 k0_hw1 k0_h1)
theorem k0_off19_inb : ∀ (i : grid0.Coords) (v179 : BitVec 32) (k0_hw1 : k0_chk1 i v179), ∀ (k0_h1 : k0_cond1 i = 1#1), ∀ a, (k0_off19 v179) a + S1x128.size a ≤ S18x128.size a := fun i v179 k0_hw1 k0_h1 => k0_hw1.2.2.2.2.2.2.2.2.2.2.2.2.2.2.2.2.1 k0_h1
theorem k0_off20_inb : ∀ (i : grid0.Coords) (v179 : BitVec 32) (k0_hw1 : k0_chk1 i v179), ∀ (k0_h1 : k0_cond1 i = 1#1), ∀ a, (k0_off20 v179) a + S1x128.size a ≤ S18x128.size a := fun i v179 k0_hw1 k0_h1 => k0_hw1.2.2.2.2.2.2.2.2.2.2.2.2.2.2.2.2.2 k0_h1

def k0_off21 (v179 : BitVec 32) (v374 : BitVec 32) : Fin 3 → Nat :=
  let c0_310 : Index := 0#32
  let c2_i32_309 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v573 : BitVec 32 := Scalar.muli c2_i32_309 v570
  let v574 : Index := Scalar.indexCast v573
  let c0_311 : Index := 0#32
  ![0, v574.toNat, 0]

def k0_off22 (v179 : BitVec 32) (v374 : BitVec 32) : Fin 3 → Nat :=
  let c1_320 : Index := 1#32
  let c2_i32_319 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v588 : BitVec 32 := Scalar.muli c2_i32_319 v570
  let v589 : Index := Scalar.indexCast v588
  let c0_321 : Index := 0#32
  ![1, v589.toNat, 0]
def k0_off23 (v179 : BitVec 32) (v374 : BitVec 32) : Fin 3 → Nat :=
  let c2_330 : Index := 2#32
  let c2_i32_329 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v603 : BitVec 32 := Scalar.muli c2_i32_329 v570
  let v604 : Index := Scalar.indexCast v603
  let c0_331 : Index := 0#32
  ![2, v604.toNat, 0]
def k0_off24 (v179 : BitVec 32) (v374 : BitVec 32) : Fin 3 → Nat :=
  let c3_340 : Index := 3#32
  let c2_i32_339 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v618 : BitVec 32 := Scalar.muli c2_i32_339 v570
  let v619 : Index := Scalar.indexCast v618
  let c0_341 : Index := 0#32
  ![3, v619.toNat, 0]
def k0_off25 (v179 : BitVec 32) (v374 : BitVec 32) : Fin 3 → Nat :=
  let c4_350 : Index := 4#32
  let c2_i32_349 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v633 : BitVec 32 := Scalar.muli c2_i32_349 v570
  let v634 : Index := Scalar.indexCast v633
  let c0_351 : Index := 0#32
  ![4, v634.toNat, 0]
def k0_off26 (v179 : BitVec 32) (v374 : BitVec 32) : Fin 3 → Nat :=
  let c5_360 : Index := 5#32
  let c2_i32_359 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v648 : BitVec 32 := Scalar.muli c2_i32_359 v570
  let v649 : Index := Scalar.indexCast v648
  let c0_361 : Index := 0#32
  ![5, v649.toNat, 0]
def k0_off27 (v179 : BitVec 32) (v374 : BitVec 32) : Fin 3 → Nat :=
  let c6_370 : Index := 6#32
  let c2_i32_369 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v663 : BitVec 32 := Scalar.muli c2_i32_369 v570
  let v664 : Index := Scalar.indexCast v663
  let c0_371 : Index := 0#32
  ![6, v664.toNat, 0]
def k0_off28 (v179 : BitVec 32) (v374 : BitVec 32) : Fin 3 → Nat :=
  let c7_380 : Index := 7#32
  let c2_i32_379 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c1_i32_306 : BitVec 32 := 1#32
  let v570 : BitVec 32 := Scalar.shrui v568 c1_i32_306
  let v678 : BitVec 32 := Scalar.muli c2_i32_379 v570
  let v679 : Index := Scalar.indexCast v678
  let c0_381 : Index := 0#32
  ![7, v679.toNat, 0]
def k0_off29 (v179 : BitVec 32) (v374 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c0_i32_394 : BitVec 32 := 0#32
  let v702 : BitVec 1 := Scalar.cmpi .sgt v568 c0_i32_394
  let v703 : BitVec 32 := Scalar.extui v702
  let c0_i32_395 : BitVec 32 := 0#32
  let v704 : BitVec 1 := Scalar.cmpi .slt v568 c0_i32_395
  let v705 : BitVec 32 := Scalar.extui v704
  let v706 : BitVec 32 := Scalar.subi v703 v705
  let c128_i32_393 : BitVec 32 := 128#32
  let c0_i32_396 : BitVec 32 := 0#32
  let v707 : BitVec 1 := Scalar.cmpi .sgt c128_i32_393 c0_i32_396
  let v708 : BitVec 32 := Scalar.extui v707
  let c0_i32_397 : BitVec 32 := 0#32
  let v709 : BitVec 1 := Scalar.cmpi .slt c128_i32_393 c0_i32_397
  let v710 : BitVec 32 := Scalar.extui v709
  let v711 : BitVec 32 := Scalar.subi v708 v710
  let v712 : BitVec 1 := Scalar.cmpi .ne v706 v711
  let v713 : BitVec 32 := Scalar.remsi v568 c128_i32_393
  let c0_i32_398 : BitVec 32 := 0#32
  let v714 : BitVec 1 := Scalar.cmpi .ne v713 c0_i32_398
  let v715 : BitVec 1 := Scalar.andi v712 v714
  let v701 : BitVec 32 := Scalar.divsi v568 c128_i32_393
  let c1_i32_399 : BitVec 32 := 1#32
  let v716 : BitVec 32 := Scalar.subi v701 c1_i32_399
  let v717 : BitVec 32 := Scalar.select v715 v716 v701
  let v731 : Index := Scalar.indexCast v717
  let c0_404 : Index := 0#32
  ![v731.toNat, 0]
def k0_off30 (v179 : BitVec 32) (v374 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let c0_i32_394 : BitVec 32 := 0#32
  let v702 : BitVec 1 := Scalar.cmpi .sgt v568 c0_i32_394
  let v703 : BitVec 32 := Scalar.extui v702
  let c0_i32_395 : BitVec 32 := 0#32
  let v704 : BitVec 1 := Scalar.cmpi .slt v568 c0_i32_395
  let v705 : BitVec 32 := Scalar.extui v704
  let v706 : BitVec 32 := Scalar.subi v703 v705
  let c128_i32_393 : BitVec 32 := 128#32
  let c0_i32_396 : BitVec 32 := 0#32
  let v707 : BitVec 1 := Scalar.cmpi .sgt c128_i32_393 c0_i32_396
  let v708 : BitVec 32 := Scalar.extui v707
  let c0_i32_397 : BitVec 32 := 0#32
  let v709 : BitVec 1 := Scalar.cmpi .slt c128_i32_393 c0_i32_397
  let v710 : BitVec 32 := Scalar.extui v709
  let v711 : BitVec 32 := Scalar.subi v708 v710
  let v712 : BitVec 1 := Scalar.cmpi .ne v706 v711
  let v713 : BitVec 32 := Scalar.remsi v568 c128_i32_393
  let c0_i32_398 : BitVec 32 := 0#32
  let v714 : BitVec 1 := Scalar.cmpi .ne v713 c0_i32_398
  let v715 : BitVec 1 := Scalar.andi v712 v714
  let v701 : BitVec 32 := Scalar.divsi v568 c128_i32_393
  let c1_i32_399 : BitVec 32 := 1#32
  let v716 : BitVec 32 := Scalar.subi v701 c1_i32_399
  let v717 : BitVec 32 := Scalar.select v715 v716 v701
  let c1_i32_403 : BitVec 32 := 1#32
  let v730 : BitVec 32 := Scalar.addi v717 c1_i32_403
  let v746 : Index := Scalar.indexCast v730
  let c0_409 : Index := 0#32
  ![v746.toNat, 0]

def k0_chk2 (i : grid0.Coords) (v179 : BitVec 32) (v374 : BitVec 32) : Prop :=
  (∀ (k0_h1 : k0_cond1 i = 1#1), ∀ a, (k0_off21 v179 v374) a + S1x128x128.size a ≤ S8x2304x128.size a) ∧
  (∀ (k0_h1 : k0_cond1 i = 1#1), ∀ (hinb : ∀ a, (k0_off21 v179 v374) a + S1x128x128.size a ≤ S8x2304x128.size a), (Rect.unit (s := S8x2304x128) (k0_off21 v179 v374) S1x128x128.size hinb).PackedRows (EltTy.packing .bf16)) ∧
  (∀ (k0_h1 : k0_cond1 i = 1#1), ∀ a, (k0_off22 v179 v374) a + S1x128x128.size a ≤ S8x2304x128.size a) ∧
  (∀ (k0_h1 : k0_cond1 i = 1#1), ∀ (hinb : ∀ a, (k0_off22 v179 v374) a + S1x128x128.size a ≤ S8x2304x128.size a), (Rect.unit (s := S8x2304x128) (k0_off22 v179 v374) S1x128x128.size hinb).PackedRows (EltTy.packing .bf16)) ∧
  (∀ (k0_h1 : k0_cond1 i = 1#1), ∀ a, (k0_off23 v179 v374) a + S1x128x128.size a ≤ S8x2304x128.size a) ∧
  (∀ (k0_h1 : k0_cond1 i = 1#1), ∀ (hinb : ∀ a, (k0_off23 v179 v374) a + S1x128x128.size a ≤ S8x2304x128.size a), (Rect.unit (s := S8x2304x128) (k0_off23 v179 v374) S1x128x128.size hinb).PackedRows (EltTy.packing .bf16)) ∧
  (∀ (k0_h1 : k0_cond1 i = 1#1), ∀ a, (k0_off24 v179 v374) a + S1x128x128.size a ≤ S8x2304x128.size a) ∧
  (∀ (k0_h1 : k0_cond1 i = 1#1), ∀ (hinb : ∀ a, (k0_off24 v179 v374) a + S1x128x128.size a ≤ S8x2304x128.size a), (Rect.unit (s := S8x2304x128) (k0_off24 v179 v374) S1x128x128.size hinb).PackedRows (EltTy.packing .bf16)) ∧
  (∀ (k0_h1 : k0_cond1 i = 1#1), ∀ a, (k0_off25 v179 v374) a + S1x128x128.size a ≤ S8x2304x128.size a) ∧
  (∀ (k0_h1 : k0_cond1 i = 1#1), ∀ (hinb : ∀ a, (k0_off25 v179 v374) a + S1x128x128.size a ≤ S8x2304x128.size a), (Rect.unit (s := S8x2304x128) (k0_off25 v179 v374) S1x128x128.size hinb).PackedRows (EltTy.packing .bf16)) ∧
  (∀ (k0_h1 : k0_cond1 i = 1#1), ∀ a, (k0_off26 v179 v374) a + S1x128x128.size a ≤ S8x2304x128.size a) ∧
  (∀ (k0_h1 : k0_cond1 i = 1#1), ∀ (hinb : ∀ a, (k0_off26 v179 v374) a + S1x128x128.size a ≤ S8x2304x128.size a), (Rect.unit (s := S8x2304x128) (k0_off26 v179 v374) S1x128x128.size hinb).PackedRows (EltTy.packing .bf16)) ∧
  (∀ (k0_h1 : k0_cond1 i = 1#1), ∀ a, (k0_off27 v179 v374) a + S1x128x128.size a ≤ S8x2304x128.size a) ∧
  (∀ (k0_h1 : k0_cond1 i = 1#1), ∀ (hinb : ∀ a, (k0_off27 v179 v374) a + S1x128x128.size a ≤ S8x2304x128.size a), (Rect.unit (s := S8x2304x128) (k0_off27 v179 v374) S1x128x128.size hinb).PackedRows (EltTy.packing .bf16)) ∧
  (∀ (k0_h1 : k0_cond1 i = 1#1), ∀ a, (k0_off28 v179 v374) a + S1x128x128.size a ≤ S8x2304x128.size a) ∧
  (∀ (k0_h1 : k0_cond1 i = 1#1), ∀ (hinb : ∀ a, (k0_off28 v179 v374) a + S1x128x128.size a ≤ S8x2304x128.size a), (Rect.unit (s := S8x2304x128) (k0_off28 v179 v374) S1x128x128.size hinb).PackedRows (EltTy.packing .bf16)) ∧
  (∀ (k0_h1 : k0_cond1 i = 1#1), ∀ a, (k0_off29 v179 v374) a + S1x128.size a ≤ S18x128.size a) ∧
  (∀ (k0_h1 : k0_cond1 i = 1#1), ∀ a, (k0_off30 v179 v374) a + S1x128.size a ≤ S18x128.size a)
theorem k0_off21_inb : ∀ (i : grid0.Coords) (v179 : BitVec 32) (v374 : BitVec 32) (k0_hw2 : k0_chk2 i v179 v374), ∀ (k0_h1 : k0_cond1 i = 1#1), ∀ a, (k0_off21 v179 v374) a + S1x128x128.size a ≤ S8x2304x128.size a := fun i v179 v374 k0_hw2 k0_h1 => k0_hw2.1 k0_h1
theorem k0_off21_packedbf16 : ∀ (i : grid0.Coords) (v179 : BitVec 32) (v374 : BitVec 32) (k0_hw2 : k0_chk2 i v179 v374), ∀ (k0_h1 : k0_cond1 i = 1#1), (Rect.unit (s := S8x2304x128) (k0_off21 v179 v374) S1x128x128.size (k0_off21_inb i v179 v374 k0_hw2 k0_h1)).PackedRows (EltTy.packing .bf16) := fun i v179 v374 k0_hw2 k0_h1 => k0_hw2.2.1 k0_h1 (k0_off21_inb i v179 v374 k0_hw2 k0_h1)
theorem k0_off22_inb : ∀ (i : grid0.Coords) (v179 : BitVec 32) (v374 : BitVec 32) (k0_hw2 : k0_chk2 i v179 v374), ∀ (k0_h1 : k0_cond1 i = 1#1), ∀ a, (k0_off22 v179 v374) a + S1x128x128.size a ≤ S8x2304x128.size a := fun i v179 v374 k0_hw2 k0_h1 => k0_hw2.2.2.1 k0_h1
theorem k0_off22_packedbf16 : ∀ (i : grid0.Coords) (v179 : BitVec 32) (v374 : BitVec 32) (k0_hw2 : k0_chk2 i v179 v374), ∀ (k0_h1 : k0_cond1 i = 1#1), (Rect.unit (s := S8x2304x128) (k0_off22 v179 v374) S1x128x128.size (k0_off22_inb i v179 v374 k0_hw2 k0_h1)).PackedRows (EltTy.packing .bf16) := fun i v179 v374 k0_hw2 k0_h1 => k0_hw2.2.2.2.1 k0_h1 (k0_off22_inb i v179 v374 k0_hw2 k0_h1)
theorem k0_off23_inb : ∀ (i : grid0.Coords) (v179 : BitVec 32) (v374 : BitVec 32) (k0_hw2 : k0_chk2 i v179 v374), ∀ (k0_h1 : k0_cond1 i = 1#1), ∀ a, (k0_off23 v179 v374) a + S1x128x128.size a ≤ S8x2304x128.size a := fun i v179 v374 k0_hw2 k0_h1 => k0_hw2.2.2.2.2.1 k0_h1
theorem k0_off23_packedbf16 : ∀ (i : grid0.Coords) (v179 : BitVec 32) (v374 : BitVec 32) (k0_hw2 : k0_chk2 i v179 v374), ∀ (k0_h1 : k0_cond1 i = 1#1), (Rect.unit (s := S8x2304x128) (k0_off23 v179 v374) S1x128x128.size (k0_off23_inb i v179 v374 k0_hw2 k0_h1)).PackedRows (EltTy.packing .bf16) := fun i v179 v374 k0_hw2 k0_h1 => k0_hw2.2.2.2.2.2.1 k0_h1 (k0_off23_inb i v179 v374 k0_hw2 k0_h1)
theorem k0_off24_inb : ∀ (i : grid0.Coords) (v179 : BitVec 32) (v374 : BitVec 32) (k0_hw2 : k0_chk2 i v179 v374), ∀ (k0_h1 : k0_cond1 i = 1#1), ∀ a, (k0_off24 v179 v374) a + S1x128x128.size a ≤ S8x2304x128.size a := fun i v179 v374 k0_hw2 k0_h1 => k0_hw2.2.2.2.2.2.2.1 k0_h1
theorem k0_off24_packedbf16 : ∀ (i : grid0.Coords) (v179 : BitVec 32) (v374 : BitVec 32) (k0_hw2 : k0_chk2 i v179 v374), ∀ (k0_h1 : k0_cond1 i = 1#1), (Rect.unit (s := S8x2304x128) (k0_off24 v179 v374) S1x128x128.size (k0_off24_inb i v179 v374 k0_hw2 k0_h1)).PackedRows (EltTy.packing .bf16) := fun i v179 v374 k0_hw2 k0_h1 => k0_hw2.2.2.2.2.2.2.2.1 k0_h1 (k0_off24_inb i v179 v374 k0_hw2 k0_h1)
theorem k0_off25_inb : ∀ (i : grid0.Coords) (v179 : BitVec 32) (v374 : BitVec 32) (k0_hw2 : k0_chk2 i v179 v374), ∀ (k0_h1 : k0_cond1 i = 1#1), ∀ a, (k0_off25 v179 v374) a + S1x128x128.size a ≤ S8x2304x128.size a := fun i v179 v374 k0_hw2 k0_h1 => k0_hw2.2.2.2.2.2.2.2.2.1 k0_h1
theorem k0_off25_packedbf16 : ∀ (i : grid0.Coords) (v179 : BitVec 32) (v374 : BitVec 32) (k0_hw2 : k0_chk2 i v179 v374), ∀ (k0_h1 : k0_cond1 i = 1#1), (Rect.unit (s := S8x2304x128) (k0_off25 v179 v374) S1x128x128.size (k0_off25_inb i v179 v374 k0_hw2 k0_h1)).PackedRows (EltTy.packing .bf16) := fun i v179 v374 k0_hw2 k0_h1 => k0_hw2.2.2.2.2.2.2.2.2.2.1 k0_h1 (k0_off25_inb i v179 v374 k0_hw2 k0_h1)
theorem k0_off26_inb : ∀ (i : grid0.Coords) (v179 : BitVec 32) (v374 : BitVec 32) (k0_hw2 : k0_chk2 i v179 v374), ∀ (k0_h1 : k0_cond1 i = 1#1), ∀ a, (k0_off26 v179 v374) a + S1x128x128.size a ≤ S8x2304x128.size a := fun i v179 v374 k0_hw2 k0_h1 => k0_hw2.2.2.2.2.2.2.2.2.2.2.1 k0_h1
theorem k0_off26_packedbf16 : ∀ (i : grid0.Coords) (v179 : BitVec 32) (v374 : BitVec 32) (k0_hw2 : k0_chk2 i v179 v374), ∀ (k0_h1 : k0_cond1 i = 1#1), (Rect.unit (s := S8x2304x128) (k0_off26 v179 v374) S1x128x128.size (k0_off26_inb i v179 v374 k0_hw2 k0_h1)).PackedRows (EltTy.packing .bf16) := fun i v179 v374 k0_hw2 k0_h1 => k0_hw2.2.2.2.2.2.2.2.2.2.2.2.1 k0_h1 (k0_off26_inb i v179 v374 k0_hw2 k0_h1)
theorem k0_off27_inb : ∀ (i : grid0.Coords) (v179 : BitVec 32) (v374 : BitVec 32) (k0_hw2 : k0_chk2 i v179 v374), ∀ (k0_h1 : k0_cond1 i = 1#1), ∀ a, (k0_off27 v179 v374) a + S1x128x128.size a ≤ S8x2304x128.size a := fun i v179 v374 k0_hw2 k0_h1 => k0_hw2.2.2.2.2.2.2.2.2.2.2.2.2.1 k0_h1
theorem k0_off27_packedbf16 : ∀ (i : grid0.Coords) (v179 : BitVec 32) (v374 : BitVec 32) (k0_hw2 : k0_chk2 i v179 v374), ∀ (k0_h1 : k0_cond1 i = 1#1), (Rect.unit (s := S8x2304x128) (k0_off27 v179 v374) S1x128x128.size (k0_off27_inb i v179 v374 k0_hw2 k0_h1)).PackedRows (EltTy.packing .bf16) := fun i v179 v374 k0_hw2 k0_h1 => k0_hw2.2.2.2.2.2.2.2.2.2.2.2.2.2.1 k0_h1 (k0_off27_inb i v179 v374 k0_hw2 k0_h1)
theorem k0_off28_inb : ∀ (i : grid0.Coords) (v179 : BitVec 32) (v374 : BitVec 32) (k0_hw2 : k0_chk2 i v179 v374), ∀ (k0_h1 : k0_cond1 i = 1#1), ∀ a, (k0_off28 v179 v374) a + S1x128x128.size a ≤ S8x2304x128.size a := fun i v179 v374 k0_hw2 k0_h1 => k0_hw2.2.2.2.2.2.2.2.2.2.2.2.2.2.2.1 k0_h1
theorem k0_off28_packedbf16 : ∀ (i : grid0.Coords) (v179 : BitVec 32) (v374 : BitVec 32) (k0_hw2 : k0_chk2 i v179 v374), ∀ (k0_h1 : k0_cond1 i = 1#1), (Rect.unit (s := S8x2304x128) (k0_off28 v179 v374) S1x128x128.size (k0_off28_inb i v179 v374 k0_hw2 k0_h1)).PackedRows (EltTy.packing .bf16) := fun i v179 v374 k0_hw2 k0_h1 => k0_hw2.2.2.2.2.2.2.2.2.2.2.2.2.2.2.2.1 k0_h1 (k0_off28_inb i v179 v374 k0_hw2 k0_h1)
theorem k0_off29_inb : ∀ (i : grid0.Coords) (v179 : BitVec 32) (v374 : BitVec 32) (k0_hw2 : k0_chk2 i v179 v374), ∀ (k0_h1 : k0_cond1 i = 1#1), ∀ a, (k0_off29 v179 v374) a + S1x128.size a ≤ S18x128.size a := fun i v179 v374 k0_hw2 k0_h1 => k0_hw2.2.2.2.2.2.2.2.2.2.2.2.2.2.2.2.2.1 k0_h1
theorem k0_off30_inb : ∀ (i : grid0.Coords) (v179 : BitVec 32) (v374 : BitVec 32) (k0_hw2 : k0_chk2 i v179 v374), ∀ (k0_h1 : k0_cond1 i = 1#1), ∀ a, (k0_off30 v179 v374) a + S1x128.size a ≤ S18x128.size a := fun i v179 v374 k0_hw2 k0_h1 => k0_hw2.2.2.2.2.2.2.2.2.2.2.2.2.2.2.2.2.2 k0_h1

def k0_off31 (v179 : BitVec 32) (v374 : BitVec 32) (v569 : BitVec 32) : Fin 3 → Nat :=
  let c0_420 : Index := 0#32
  let c2_i32_419 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v768 : BitVec 32 := Scalar.muli c2_i32_419 v765
  let v769 : Index := Scalar.indexCast v768
  let c0_421 : Index := 0#32
  ![0, v769.toNat, 0]

def k0_off32 (v179 : BitVec 32) (v374 : BitVec 32) (v569 : BitVec 32) : Fin 3 → Nat :=
  let c1_430 : Index := 1#32
  let c2_i32_429 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v783 : BitVec 32 := Scalar.muli c2_i32_429 v765
  let v784 : Index := Scalar.indexCast v783
  let c0_431 : Index := 0#32
  ![1, v784.toNat, 0]
def k0_off33 (v179 : BitVec 32) (v374 : BitVec 32) (v569 : BitVec 32) : Fin 3 → Nat :=
  let c2_440 : Index := 2#32
  let c2_i32_439 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v798 : BitVec 32 := Scalar.muli c2_i32_439 v765
  let v799 : Index := Scalar.indexCast v798
  let c0_441 : Index := 0#32
  ![2, v799.toNat, 0]
def k0_off34 (v179 : BitVec 32) (v374 : BitVec 32) (v569 : BitVec 32) : Fin 3 → Nat :=
  let c3_450 : Index := 3#32
  let c2_i32_449 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v813 : BitVec 32 := Scalar.muli c2_i32_449 v765
  let v814 : Index := Scalar.indexCast v813
  let c0_451 : Index := 0#32
  ![3, v814.toNat, 0]
def k0_off35 (v179 : BitVec 32) (v374 : BitVec 32) (v569 : BitVec 32) : Fin 3 → Nat :=
  let c4_460 : Index := 4#32
  let c2_i32_459 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v828 : BitVec 32 := Scalar.muli c2_i32_459 v765
  let v829 : Index := Scalar.indexCast v828
  let c0_461 : Index := 0#32
  ![4, v829.toNat, 0]
def k0_off36 (v179 : BitVec 32) (v374 : BitVec 32) (v569 : BitVec 32) : Fin 3 → Nat :=
  let c5_470 : Index := 5#32
  let c2_i32_469 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v843 : BitVec 32 := Scalar.muli c2_i32_469 v765
  let v844 : Index := Scalar.indexCast v843
  let c0_471 : Index := 0#32
  ![5, v844.toNat, 0]
def k0_off37 (v179 : BitVec 32) (v374 : BitVec 32) (v569 : BitVec 32) : Fin 3 → Nat :=
  let c6_480 : Index := 6#32
  let c2_i32_479 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v858 : BitVec 32 := Scalar.muli c2_i32_479 v765
  let v859 : Index := Scalar.indexCast v858
  let c0_481 : Index := 0#32
  ![6, v859.toNat, 0]
def k0_off38 (v179 : BitVec 32) (v374 : BitVec 32) (v569 : BitVec 32) : Fin 3 → Nat :=
  let c7_490 : Index := 7#32
  let c2_i32_489 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c1_i32_416 : BitVec 32 := 1#32
  let v765 : BitVec 32 := Scalar.shrui v763 c1_i32_416
  let v873 : BitVec 32 := Scalar.muli c2_i32_489 v765
  let v874 : Index := Scalar.indexCast v873
  let c0_491 : Index := 0#32
  ![7, v874.toNat, 0]
def k0_off39 (v179 : BitVec 32) (v374 : BitVec 32) (v569 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c0_i32_504 : BitVec 32 := 0#32
  let v897 : BitVec 1 := Scalar.cmpi .sgt v763 c0_i32_504
  let v898 : BitVec 32 := Scalar.extui v897
  let c0_i32_505 : BitVec 32 := 0#32
  let v899 : BitVec 1 := Scalar.cmpi .slt v763 c0_i32_505
  let v900 : BitVec 32 := Scalar.extui v899
  let v901 : BitVec 32 := Scalar.subi v898 v900
  let c128_i32_503 : BitVec 32 := 128#32
  let c0_i32_506 : BitVec 32 := 0#32
  let v902 : BitVec 1 := Scalar.cmpi .sgt c128_i32_503 c0_i32_506
  let v903 : BitVec 32 := Scalar.extui v902
  let c0_i32_507 : BitVec 32 := 0#32
  let v904 : BitVec 1 := Scalar.cmpi .slt c128_i32_503 c0_i32_507
  let v905 : BitVec 32 := Scalar.extui v904
  let v906 : BitVec 32 := Scalar.subi v903 v905
  let v907 : BitVec 1 := Scalar.cmpi .ne v901 v906
  let v908 : BitVec 32 := Scalar.remsi v763 c128_i32_503
  let c0_i32_508 : BitVec 32 := 0#32
  let v909 : BitVec 1 := Scalar.cmpi .ne v908 c0_i32_508
  let v910 : BitVec 1 := Scalar.andi v907 v909
  let v896 : BitVec 32 := Scalar.divsi v763 c128_i32_503
  let c1_i32_509 : BitVec 32 := 1#32
  let v911 : BitVec 32 := Scalar.subi v896 c1_i32_509
  let v912 : BitVec 32 := Scalar.select v910 v911 v896
  let v926 : Index := Scalar.indexCast v912
  let c0_514 : Index := 0#32
  ![v926.toNat, 0]
def k0_off40 (v179 : BitVec 32) (v374 : BitVec 32) (v569 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let c0_i32_504 : BitVec 32 := 0#32
  let v897 : BitVec 1 := Scalar.cmpi .sgt v763 c0_i32_504
  let v898 : BitVec 32 := Scalar.extui v897
  let c0_i32_505 : BitVec 32 := 0#32
  let v899 : BitVec 1 := Scalar.cmpi .slt v763 c0_i32_505
  let v900 : BitVec 32 := Scalar.extui v899
  let v901 : BitVec 32 := Scalar.subi v898 v900
  let c128_i32_503 : BitVec 32 := 128#32
  let c0_i32_506 : BitVec 32 := 0#32
  let v902 : BitVec 1 := Scalar.cmpi .sgt c128_i32_503 c0_i32_506
  let v903 : BitVec 32 := Scalar.extui v902
  let c0_i32_507 : BitVec 32 := 0#32
  let v904 : BitVec 1 := Scalar.cmpi .slt c128_i32_503 c0_i32_507
  let v905 : BitVec 32 := Scalar.extui v904
  let v906 : BitVec 32 := Scalar.subi v903 v905
  let v907 : BitVec 1 := Scalar.cmpi .ne v901 v906
  let v908 : BitVec 32 := Scalar.remsi v763 c128_i32_503
  let c0_i32_508 : BitVec 32 := 0#32
  let v909 : BitVec 1 := Scalar.cmpi .ne v908 c0_i32_508
  let v910 : BitVec 1 := Scalar.andi v907 v909
  let v896 : BitVec 32 := Scalar.divsi v763 c128_i32_503
  let c1_i32_509 : BitVec 32 := 1#32
  let v911 : BitVec 32 := Scalar.subi v896 c1_i32_509
  let v912 : BitVec 32 := Scalar.select v910 v911 v896
  let c1_i32_513 : BitVec 32 := 1#32
  let v925 : BitVec 32 := Scalar.addi v912 c1_i32_513
  let v941 : Index := Scalar.indexCast v925
  let c0_519 : Index := 0#32
  ![v941.toNat, 0]

def k0_chk3 (i : grid0.Coords) (v179 : BitVec 32) (v374 : BitVec 32) (v569 : BitVec 32) : Prop :=
  (∀ (k0_h1 : k0_cond1 i = 1#1), ∀ a, (k0_off31 v179 v374 v569) a + S1x128x128.size a ≤ S8x2304x128.size a) ∧
  (∀ (k0_h1 : k0_cond1 i = 1#1), ∀ (hinb : ∀ a, (k0_off31 v179 v374 v569) a + S1x128x128.size a ≤ S8x2304x128.size a), (Rect.unit (s := S8x2304x128) (k0_off31 v179 v374 v569) S1x128x128.size hinb).PackedRows (EltTy.packing .bf16)) ∧
  (∀ (k0_h1 : k0_cond1 i = 1#1), ∀ a, (k0_off32 v179 v374 v569) a + S1x128x128.size a ≤ S8x2304x128.size a) ∧
  (∀ (k0_h1 : k0_cond1 i = 1#1), ∀ (hinb : ∀ a, (k0_off32 v179 v374 v569) a + S1x128x128.size a ≤ S8x2304x128.size a), (Rect.unit (s := S8x2304x128) (k0_off32 v179 v374 v569) S1x128x128.size hinb).PackedRows (EltTy.packing .bf16)) ∧
  (∀ (k0_h1 : k0_cond1 i = 1#1), ∀ a, (k0_off33 v179 v374 v569) a + S1x128x128.size a ≤ S8x2304x128.size a) ∧
  (∀ (k0_h1 : k0_cond1 i = 1#1), ∀ (hinb : ∀ a, (k0_off33 v179 v374 v569) a + S1x128x128.size a ≤ S8x2304x128.size a), (Rect.unit (s := S8x2304x128) (k0_off33 v179 v374 v569) S1x128x128.size hinb).PackedRows (EltTy.packing .bf16)) ∧
  (∀ (k0_h1 : k0_cond1 i = 1#1), ∀ a, (k0_off34 v179 v374 v569) a + S1x128x128.size a ≤ S8x2304x128.size a) ∧
  (∀ (k0_h1 : k0_cond1 i = 1#1), ∀ (hinb : ∀ a, (k0_off34 v179 v374 v569) a + S1x128x128.size a ≤ S8x2304x128.size a), (Rect.unit (s := S8x2304x128) (k0_off34 v179 v374 v569) S1x128x128.size hinb).PackedRows (EltTy.packing .bf16)) ∧
  (∀ (k0_h1 : k0_cond1 i = 1#1), ∀ a, (k0_off35 v179 v374 v569) a + S1x128x128.size a ≤ S8x2304x128.size a) ∧
  (∀ (k0_h1 : k0_cond1 i = 1#1), ∀ (hinb : ∀ a, (k0_off35 v179 v374 v569) a + S1x128x128.size a ≤ S8x2304x128.size a), (Rect.unit (s := S8x2304x128) (k0_off35 v179 v374 v569) S1x128x128.size hinb).PackedRows (EltTy.packing .bf16)) ∧
  (∀ (k0_h1 : k0_cond1 i = 1#1), ∀ a, (k0_off36 v179 v374 v569) a + S1x128x128.size a ≤ S8x2304x128.size a) ∧
  (∀ (k0_h1 : k0_cond1 i = 1#1), ∀ (hinb : ∀ a, (k0_off36 v179 v374 v569) a + S1x128x128.size a ≤ S8x2304x128.size a), (Rect.unit (s := S8x2304x128) (k0_off36 v179 v374 v569) S1x128x128.size hinb).PackedRows (EltTy.packing .bf16)) ∧
  (∀ (k0_h1 : k0_cond1 i = 1#1), ∀ a, (k0_off37 v179 v374 v569) a + S1x128x128.size a ≤ S8x2304x128.size a) ∧
  (∀ (k0_h1 : k0_cond1 i = 1#1), ∀ (hinb : ∀ a, (k0_off37 v179 v374 v569) a + S1x128x128.size a ≤ S8x2304x128.size a), (Rect.unit (s := S8x2304x128) (k0_off37 v179 v374 v569) S1x128x128.size hinb).PackedRows (EltTy.packing .bf16)) ∧
  (∀ (k0_h1 : k0_cond1 i = 1#1), ∀ a, (k0_off38 v179 v374 v569) a + S1x128x128.size a ≤ S8x2304x128.size a) ∧
  (∀ (k0_h1 : k0_cond1 i = 1#1), ∀ (hinb : ∀ a, (k0_off38 v179 v374 v569) a + S1x128x128.size a ≤ S8x2304x128.size a), (Rect.unit (s := S8x2304x128) (k0_off38 v179 v374 v569) S1x128x128.size hinb).PackedRows (EltTy.packing .bf16)) ∧
  (∀ (k0_h1 : k0_cond1 i = 1#1), ∀ a, (k0_off39 v179 v374 v569) a + S1x128.size a ≤ S18x128.size a) ∧
  (∀ (k0_h1 : k0_cond1 i = 1#1), ∀ a, (k0_off40 v179 v374 v569) a + S1x128.size a ≤ S18x128.size a)
theorem k0_off31_inb : ∀ (i : grid0.Coords) (v179 : BitVec 32) (v374 : BitVec 32) (v569 : BitVec 32) (k0_hw3 : k0_chk3 i v179 v374 v569), ∀ (k0_h1 : k0_cond1 i = 1#1), ∀ a, (k0_off31 v179 v374 v569) a + S1x128x128.size a ≤ S8x2304x128.size a := fun i v179 v374 v569 k0_hw3 k0_h1 => k0_hw3.1 k0_h1
theorem k0_off31_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off31 v179 v374 v569) S1x128x128.size (k0_off31_inb i v179 v374 v569 k0_hw3 k0_h1)).PackedRows (EltTy.packing .bf16) := fun i v179 v374 v569 k0_hw3 k0_h1 => k0_hw3.2.1 k0_h1 (k0_off31_inb i v179 v374 v569 k0_hw3 k0_h1)
theorem k0_off32_inb : ∀ (i : grid0.Coords) (v179 : BitVec 32) (v374 : BitVec 32) (v569 : BitVec 32) (k0_hw3 : k0_chk3 i v179 v374 v569), ∀ (k0_h1 : k0_cond1 i = 1#1), ∀ a, (k0_off32 v179 v374 v569) a + S1x128x128.size a ≤ S8x2304x128.size a := fun i v179 v374 v569 k0_hw3 k0_h1 => k0_hw3.2.2.1 k0_h1
theorem k0_off32_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off32 v179 v374 v569) S1x128x128.size (k0_off32_inb i v179 v374 v569 k0_hw3 k0_h1)).PackedRows (EltTy.packing .bf16) := fun i v179 v374 v569 k0_hw3 k0_h1 => k0_hw3.2.2.2.1 k0_h1 (k0_off32_inb i v179 v374 v569 k0_hw3 k0_h1)
theorem k0_off33_inb : ∀ (i : grid0.Coords) (v179 : BitVec 32) (v374 : BitVec 32) (v569 : BitVec 32) (k0_hw3 : k0_chk3 i v179 v374 v569), ∀ (k0_h1 : k0_cond1 i = 1#1), ∀ a, (k0_off33 v179 v374 v569) a + S1x128x128.size a ≤ S8x2304x128.size a := fun i v179 v374 v569 k0_hw3 k0_h1 => k0_hw3.2.2.2.2.1 k0_h1
theorem k0_off33_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off33 v179 v374 v569) S1x128x128.size (k0_off33_inb i v179 v374 v569 k0_hw3 k0_h1)).PackedRows (EltTy.packing .bf16) := fun i v179 v374 v569 k0_hw3 k0_h1 => k0_hw3.2.2.2.2.2.1 k0_h1 (k0_off33_inb i v179 v374 v569 k0_hw3 k0_h1)
theorem k0_off34_inb : ∀ (i : grid0.Coords) (v179 : BitVec 32) (v374 : BitVec 32) (v569 : BitVec 32) (k0_hw3 : k0_chk3 i v179 v374 v569), ∀ (k0_h1 : k0_cond1 i = 1#1), ∀ a, (k0_off34 v179 v374 v569) a + S1x128x128.size a ≤ S8x2304x128.size a := fun i v179 v374 v569 k0_hw3 k0_h1 => k0_hw3.2.2.2.2.2.2.1 k0_h1
theorem k0_off34_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off34 v179 v374 v569) S1x128x128.size (k0_off34_inb i v179 v374 v569 k0_hw3 k0_h1)).PackedRows (EltTy.packing .bf16) := fun i v179 v374 v569 k0_hw3 k0_h1 => k0_hw3.2.2.2.2.2.2.2.1 k0_h1 (k0_off34_inb i v179 v374 v569 k0_hw3 k0_h1)
theorem k0_off35_inb : ∀ (i : grid0.Coords) (v179 : BitVec 32) (v374 : BitVec 32) (v569 : BitVec 32) (k0_hw3 : k0_chk3 i v179 v374 v569), ∀ (k0_h1 : k0_cond1 i = 1#1), ∀ a, (k0_off35 v179 v374 v569) a + S1x128x128.size a ≤ S8x2304x128.size a := fun i v179 v374 v569 k0_hw3 k0_h1 => k0_hw3.2.2.2.2.2.2.2.2.1 k0_h1
theorem k0_off35_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off35 v179 v374 v569) S1x128x128.size (k0_off35_inb i v179 v374 v569 k0_hw3 k0_h1)).PackedRows (EltTy.packing .bf16) := fun i v179 v374 v569 k0_hw3 k0_h1 => k0_hw3.2.2.2.2.2.2.2.2.2.1 k0_h1 (k0_off35_inb i v179 v374 v569 k0_hw3 k0_h1)
theorem k0_off36_inb : ∀ (i : grid0.Coords) (v179 : BitVec 32) (v374 : BitVec 32) (v569 : BitVec 32) (k0_hw3 : k0_chk3 i v179 v374 v569), ∀ (k0_h1 : k0_cond1 i = 1#1), ∀ a, (k0_off36 v179 v374 v569) a + S1x128x128.size a ≤ S8x2304x128.size a := fun i v179 v374 v569 k0_hw3 k0_h1 => k0_hw3.2.2.2.2.2.2.2.2.2.2.1 k0_h1
theorem k0_off36_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off36 v179 v374 v569) S1x128x128.size (k0_off36_inb i v179 v374 v569 k0_hw3 k0_h1)).PackedRows (EltTy.packing .bf16) := fun i v179 v374 v569 k0_hw3 k0_h1 => k0_hw3.2.2.2.2.2.2.2.2.2.2.2.1 k0_h1 (k0_off36_inb i v179 v374 v569 k0_hw3 k0_h1)
theorem k0_off37_inb : ∀ (i : grid0.Coords) (v179 : BitVec 32) (v374 : BitVec 32) (v569 : BitVec 32) (k0_hw3 : k0_chk3 i v179 v374 v569), ∀ (k0_h1 : k0_cond1 i = 1#1), ∀ a, (k0_off37 v179 v374 v569) a + S1x128x128.size a ≤ S8x2304x128.size a := fun i v179 v374 v569 k0_hw3 k0_h1 => k0_hw3.2.2.2.2.2.2.2.2.2.2.2.2.1 k0_h1
theorem k0_off37_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off37 v179 v374 v569) S1x128x128.size (k0_off37_inb i v179 v374 v569 k0_hw3 k0_h1)).PackedRows (EltTy.packing .bf16) := fun i v179 v374 v569 k0_hw3 k0_h1 => k0_hw3.2.2.2.2.2.2.2.2.2.2.2.2.2.1 k0_h1 (k0_off37_inb i v179 v374 v569 k0_hw3 k0_h1)
theorem k0_off38_inb : ∀ (i : grid0.Coords) (v179 : BitVec 32) (v374 : BitVec 32) (v569 : BitVec 32) (k0_hw3 : k0_chk3 i v179 v374 v569), ∀ (k0_h1 : k0_cond1 i = 1#1), ∀ a, (k0_off38 v179 v374 v569) a + S1x128x128.size a ≤ S8x2304x128.size a := fun i v179 v374 v569 k0_hw3 k0_h1 => k0_hw3.2.2.2.2.2.2.2.2.2.2.2.2.2.2.1 k0_h1
theorem k0_off38_packedbf16 : ∀ (i : grid0.Coords) (v179 : BitVec 32) (v374 : BitVec 32) (v569 : BitVec 32) (k0_hw3 : k0_chk3 i v179 v374 v569), ∀ (k0_h1 : k0_cond1 i = 1#1), (Rect.unit (s := S8x2304x128) (k0_off38 v179 v374 v569) S1x128x128.size (k0_off38_inb i v179 v374 v569 k0_hw3 k0_h1)).PackedRows (EltTy.packing .bf16) := fun i v179 v374 v569 k0_hw3 k0_h1 => k0_hw3.2.2.2.2.2.2.2.2.2.2.2.2.2.2.2.1 k0_h1 (k0_off38_inb i v179 v374 v569 k0_hw3 k0_h1)
theorem k0_off39_inb : ∀ (i : grid0.Coords) (v179 : BitVec 32) (v374 : BitVec 32) (v569 : BitVec 32) (k0_hw3 : k0_chk3 i v179 v374 v569), ∀ (k0_h1 : k0_cond1 i = 1#1), ∀ a, (k0_off39 v179 v374 v569) a + S1x128.size a ≤ S18x128.size a := fun i v179 v374 v569 k0_hw3 k0_h1 => k0_hw3.2.2.2.2.2.2.2.2.2.2.2.2.2.2.2.2.1 k0_h1
theorem k0_off40_inb : ∀ (i : grid0.Coords) (v179 : BitVec 32) (v374 : BitVec 32) (v569 : BitVec 32) (k0_hw3 : k0_chk3 i v179 v374 v569), ∀ (k0_h1 : k0_cond1 i = 1#1), ∀ a, (k0_off40 v179 v374 v569) a + S1x128.size a ≤ S18x128.size a := fun i v179 v374 v569 k0_hw3 k0_h1 => k0_hw3.2.2.2.2.2.2.2.2.2.2.2.2.2.2.2.2.2 k0_h1

def k0_off41 (v179 : BitVec 32) (v374 : BitVec 32) (v569 : BitVec 32) (v764 : BitVec 32) : Fin 3 → Nat :=
  let c0_530 : Index := 0#32
  let c2_i32_529 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v963 : BitVec 32 := Scalar.muli c2_i32_529 v960
  let v964 : Index := Scalar.indexCast v963
  let c0_531 : Index := 0#32
  ![0, v964.toNat, 0]

def k0_off42 (v179 : BitVec 32) (v374 : BitVec 32) (v569 : BitVec 32) (v764 : BitVec 32) : Fin 3 → Nat :=
  let c1_540 : Index := 1#32
  let c2_i32_539 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v978 : BitVec 32 := Scalar.muli c2_i32_539 v960
  let v979 : Index := Scalar.indexCast v978
  let c0_541 : Index := 0#32
  ![1, v979.toNat, 0]
def k0_off43 (v179 : BitVec 32) (v374 : BitVec 32) (v569 : BitVec 32) (v764 : BitVec 32) : Fin 3 → Nat :=
  let c2_550 : Index := 2#32
  let c2_i32_549 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v993 : BitVec 32 := Scalar.muli c2_i32_549 v960
  let v994 : Index := Scalar.indexCast v993
  let c0_551 : Index := 0#32
  ![2, v994.toNat, 0]
def k0_off44 (v179 : BitVec 32) (v374 : BitVec 32) (v569 : BitVec 32) (v764 : BitVec 32) : Fin 3 → Nat :=
  let c3_560 : Index := 3#32
  let c2_i32_559 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v1008 : BitVec 32 := Scalar.muli c2_i32_559 v960
  let v1009 : Index := Scalar.indexCast v1008
  let c0_561 : Index := 0#32
  ![3, v1009.toNat, 0]
def k0_off45 (v179 : BitVec 32) (v374 : BitVec 32) (v569 : BitVec 32) (v764 : BitVec 32) : Fin 3 → Nat :=
  let c4_570 : Index := 4#32
  let c2_i32_569 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v1023 : BitVec 32 := Scalar.muli c2_i32_569 v960
  let v1024 : Index := Scalar.indexCast v1023
  let c0_571 : Index := 0#32
  ![4, v1024.toNat, 0]
def k0_off46 (v179 : BitVec 32) (v374 : BitVec 32) (v569 : BitVec 32) (v764 : BitVec 32) : Fin 3 → Nat :=
  let c5_580 : Index := 5#32
  let c2_i32_579 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v1038 : BitVec 32 := Scalar.muli c2_i32_579 v960
  let v1039 : Index := Scalar.indexCast v1038
  let c0_581 : Index := 0#32
  ![5, v1039.toNat, 0]
def k0_off47 (v179 : BitVec 32) (v374 : BitVec 32) (v569 : BitVec 32) (v764 : BitVec 32) : Fin 3 → Nat :=
  let c6_590 : Index := 6#32
  let c2_i32_589 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v1053 : BitVec 32 := Scalar.muli c2_i32_589 v960
  let v1054 : Index := Scalar.indexCast v1053
  let c0_591 : Index := 0#32
  ![6, v1054.toNat, 0]
def k0_off48 (v179 : BitVec 32) (v374 : BitVec 32) (v569 : BitVec 32) (v764 : BitVec 32) : Fin 3 → Nat :=
  let c7_600 : Index := 7#32
  let c2_i32_599 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c1_i32_526 : BitVec 32 := 1#32
  let v960 : BitVec 32 := Scalar.shrui v958 c1_i32_526
  let v1068 : BitVec 32 := Scalar.muli c2_i32_599 v960
  let v1069 : Index := Scalar.indexCast v1068
  let c0_601 : Index := 0#32
  ![7, v1069.toNat, 0]
def k0_off49 (v179 : BitVec 32) (v374 : BitVec 32) (v569 : BitVec 32) (v764 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c0_i32_614 : BitVec 32 := 0#32
  let v1092 : BitVec 1 := Scalar.cmpi .sgt v958 c0_i32_614
  let v1093 : BitVec 32 := Scalar.extui v1092
  let c0_i32_615 : BitVec 32 := 0#32
  let v1094 : BitVec 1 := Scalar.cmpi .slt v958 c0_i32_615
  let v1095 : BitVec 32 := Scalar.extui v1094
  let v1096 : BitVec 32 := Scalar.subi v1093 v1095
  let c128_i32_613 : BitVec 32 := 128#32
  let c0_i32_616 : BitVec 32 := 0#32
  let v1097 : BitVec 1 := Scalar.cmpi .sgt c128_i32_613 c0_i32_616
  let v1098 : BitVec 32 := Scalar.extui v1097
  let c0_i32_617 : BitVec 32 := 0#32
  let v1099 : BitVec 1 := Scalar.cmpi .slt c128_i32_613 c0_i32_617
  let v1100 : BitVec 32 := Scalar.extui v1099
  let v1101 : BitVec 32 := Scalar.subi v1098 v1100
  let v1102 : BitVec 1 := Scalar.cmpi .ne v1096 v1101
  let v1103 : BitVec 32 := Scalar.remsi v958 c128_i32_613
  let c0_i32_618 : BitVec 32 := 0#32
  let v1104 : BitVec 1 := Scalar.cmpi .ne v1103 c0_i32_618
  let v1105 : BitVec 1 := Scalar.andi v1102 v1104
  let v1091 : BitVec 32 := Scalar.divsi v958 c128_i32_613
  let c1_i32_619 : BitVec 32 := 1#32
  let v1106 : BitVec 32 := Scalar.subi v1091 c1_i32_619
  let v1107 : BitVec 32 := Scalar.select v1105 v1106 v1091
  let v1121 : Index := Scalar.indexCast v1107
  let c0_624 : Index := 0#32
  ![v1121.toNat, 0]
def k0_off50 (v179 : BitVec 32) (v374 : BitVec 32) (v569 : BitVec 32) (v764 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let c0_i32_614 : BitVec 32 := 0#32
  let v1092 : BitVec 1 := Scalar.cmpi .sgt v958 c0_i32_614
  let v1093 : BitVec 32 := Scalar.extui v1092
  let c0_i32_615 : BitVec 32 := 0#32
  let v1094 : BitVec 1 := Scalar.cmpi .slt v958 c0_i32_615
  let v1095 : BitVec 32 := Scalar.extui v1094
  let v1096 : BitVec 32 := Scalar.subi v1093 v1095
  let c128_i32_613 : BitVec 32 := 128#32
  let c0_i32_616 : BitVec 32 := 0#32
  let v1097 : BitVec 1 := Scalar.cmpi .sgt c128_i32_613 c0_i32_616
  let v1098 : BitVec 32 := Scalar.extui v1097
  let c0_i32_617 : BitVec 32 := 0#32
  let v1099 : BitVec 1 := Scalar.cmpi .slt c128_i32_613 c0_i32_617
  let v1100 : BitVec 32 := Scalar.extui v1099
  let v1101 : BitVec 32 := Scalar.subi v1098 v1100
  let v1102 : BitVec 1 := Scalar.cmpi .ne v1096 v1101
  let v1103 : BitVec 32 := Scalar.remsi v958 c128_i32_613
  let c0_i32_618 : BitVec 32 := 0#32
  let v1104 : BitVec 1 := Scalar.cmpi .ne v1103 c0_i32_618
  let v1105 : BitVec 1 := Scalar.andi v1102 v1104
  let v1091 : BitVec 32 := Scalar.divsi v958 c128_i32_613
  let c1_i32_619 : BitVec 32 := 1#32
  let v1106 : BitVec 32 := Scalar.subi v1091 c1_i32_619
  let v1107 : BitVec 32 := Scalar.select v1105 v1106 v1091
  let c1_i32_623 : BitVec 32 := 1#32
  let v1120 : BitVec 32 := Scalar.addi v1107 c1_i32_623
  let v1136 : Index := Scalar.indexCast v1120
  let c0_629 : Index := 0#32
  ![v1136.toNat, 0]

def k0_chk4 (i : grid0.Coords) (v179 : BitVec 32) (v374 : BitVec 32) (v569 : BitVec 32) (v764 : BitVec 32) : Prop :=
  (∀ (k0_h1 : k0_cond1 i = 1#1), ∀ a, (k0_off41 v179 v374 v569 v764) a + S1x128x128.size a ≤ S8x2304x128.size a) ∧
  (∀ (k0_h1 : k0_cond1 i = 1#1), ∀ (hinb : ∀ a, (k0_off41 v179 v374 v569 v764) a + S1x128x128.size a ≤ S8x2304x128.size a), (Rect.unit (s := S8x2304x128) (k0_off41 v179 v374 v569 v764) S1x128x128.size hinb).PackedRows (EltTy.packing .bf16)) ∧
  (∀ (k0_h1 : k0_cond1 i = 1#1), ∀ a, (k0_off42 v179 v374 v569 v764) a + S1x128x128.size a ≤ S8x2304x128.size a) ∧
  (∀ (k0_h1 : k0_cond1 i = 1#1), ∀ (hinb : ∀ a, (k0_off42 v179 v374 v569 v764) a + S1x128x128.size a ≤ S8x2304x128.size a), (Rect.unit (s := S8x2304x128) (k0_off42 v179 v374 v569 v764) S1x128x128.size hinb).PackedRows (EltTy.packing .bf16)) ∧
  (∀ (k0_h1 : k0_cond1 i = 1#1), ∀ a, (k0_off43 v179 v374 v569 v764) a + S1x128x128.size a ≤ S8x2304x128.size a) ∧
  (∀ (k0_h1 : k0_cond1 i = 1#1), ∀ (hinb : ∀ a, (k0_off43 v179 v374 v569 v764) a + S1x128x128.size a ≤ S8x2304x128.size a), (Rect.unit (s := S8x2304x128) (k0_off43 v179 v374 v569 v764) S1x128x128.size hinb).PackedRows (EltTy.packing .bf16)) ∧
  (∀ (k0_h1 : k0_cond1 i = 1#1), ∀ a, (k0_off44 v179 v374 v569 v764) a + S1x128x128.size a ≤ S8x2304x128.size a) ∧
  (∀ (k0_h1 : k0_cond1 i = 1#1), ∀ (hinb : ∀ a, (k0_off44 v179 v374 v569 v764) a + S1x128x128.size a ≤ S8x2304x128.size a), (Rect.unit (s := S8x2304x128) (k0_off44 v179 v374 v569 v764) S1x128x128.size hinb).PackedRows (EltTy.packing .bf16)) ∧
  (∀ (k0_h1 : k0_cond1 i = 1#1), ∀ a, (k0_off45 v179 v374 v569 v764) a + S1x128x128.size a ≤ S8x2304x128.size a) ∧
  (∀ (k0_h1 : k0_cond1 i = 1#1), ∀ (hinb : ∀ a, (k0_off45 v179 v374 v569 v764) a + S1x128x128.size a ≤ S8x2304x128.size a), (Rect.unit (s := S8x2304x128) (k0_off45 v179 v374 v569 v764) S1x128x128.size hinb).PackedRows (EltTy.packing .bf16)) ∧
  (∀ (k0_h1 : k0_cond1 i = 1#1), ∀ a, (k0_off46 v179 v374 v569 v764) a + S1x128x128.size a ≤ S8x2304x128.size a) ∧
  (∀ (k0_h1 : k0_cond1 i = 1#1), ∀ (hinb : ∀ a, (k0_off46 v179 v374 v569 v764) a + S1x128x128.size a ≤ S8x2304x128.size a), (Rect.unit (s := S8x2304x128) (k0_off46 v179 v374 v569 v764) S1x128x128.size hinb).PackedRows (EltTy.packing .bf16)) ∧
  (∀ (k0_h1 : k0_cond1 i = 1#1), ∀ a, (k0_off47 v179 v374 v569 v764) a + S1x128x128.size a ≤ S8x2304x128.size a) ∧
  (∀ (k0_h1 : k0_cond1 i = 1#1), ∀ (hinb : ∀ a, (k0_off47 v179 v374 v569 v764) a + S1x128x128.size a ≤ S8x2304x128.size a), (Rect.unit (s := S8x2304x128) (k0_off47 v179 v374 v569 v764) S1x128x128.size hinb).PackedRows (EltTy.packing .bf16)) ∧
  (∀ (k0_h1 : k0_cond1 i = 1#1), ∀ a, (k0_off48 v179 v374 v569 v764) a + S1x128x128.size a ≤ S8x2304x128.size a) ∧
  (∀ (k0_h1 : k0_cond1 i = 1#1), ∀ (hinb : ∀ a, (k0_off48 v179 v374 v569 v764) a + S1x128x128.size a ≤ S8x2304x128.size a), (Rect.unit (s := S8x2304x128) (k0_off48 v179 v374 v569 v764) S1x128x128.size hinb).PackedRows (EltTy.packing .bf16)) ∧
  (∀ (k0_h1 : k0_cond1 i = 1#1), ∀ a, (k0_off49 v179 v374 v569 v764) a + S1x128.size a ≤ S18x128.size a) ∧
  (∀ (k0_h1 : k0_cond1 i = 1#1), ∀ a, (k0_off50 v179 v374 v569 v764) a + S1x128.size a ≤ S18x128.size a)
theorem k0_off41_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off41 v179 v374 v569 v764) a + S1x128x128.size a ≤ S8x2304x128.size a := fun i v179 v374 v569 v764 k0_hw4 k0_h1 => k0_hw4.1 k0_h1
theorem k0_off41_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off41 v179 v374 v569 v764) S1x128x128.size (k0_off41_inb i v179 v374 v569 v764 k0_hw4 k0_h1)).PackedRows (EltTy.packing .bf16) := fun i v179 v374 v569 v764 k0_hw4 k0_h1 => k0_hw4.2.1 k0_h1 (k0_off41_inb i v179 v374 v569 v764 k0_hw4 k0_h1)
theorem k0_off42_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off42 v179 v374 v569 v764) a + S1x128x128.size a ≤ S8x2304x128.size a := fun i v179 v374 v569 v764 k0_hw4 k0_h1 => k0_hw4.2.2.1 k0_h1
theorem k0_off42_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off42 v179 v374 v569 v764) S1x128x128.size (k0_off42_inb i v179 v374 v569 v764 k0_hw4 k0_h1)).PackedRows (EltTy.packing .bf16) := fun i v179 v374 v569 v764 k0_hw4 k0_h1 => k0_hw4.2.2.2.1 k0_h1 (k0_off42_inb i v179 v374 v569 v764 k0_hw4 k0_h1)
theorem k0_off43_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off43 v179 v374 v569 v764) a + S1x128x128.size a ≤ S8x2304x128.size a := fun i v179 v374 v569 v764 k0_hw4 k0_h1 => k0_hw4.2.2.2.2.1 k0_h1
theorem k0_off43_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off43 v179 v374 v569 v764) S1x128x128.size (k0_off43_inb i v179 v374 v569 v764 k0_hw4 k0_h1)).PackedRows (EltTy.packing .bf16) := fun i v179 v374 v569 v764 k0_hw4 k0_h1 => k0_hw4.2.2.2.2.2.1 k0_h1 (k0_off43_inb i v179 v374 v569 v764 k0_hw4 k0_h1)
theorem k0_off44_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off44 v179 v374 v569 v764) a + S1x128x128.size a ≤ S8x2304x128.size a := fun i v179 v374 v569 v764 k0_hw4 k0_h1 => k0_hw4.2.2.2.2.2.2.1 k0_h1
theorem k0_off44_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off44 v179 v374 v569 v764) S1x128x128.size (k0_off44_inb i v179 v374 v569 v764 k0_hw4 k0_h1)).PackedRows (EltTy.packing .bf16) := fun i v179 v374 v569 v764 k0_hw4 k0_h1 => k0_hw4.2.2.2.2.2.2.2.1 k0_h1 (k0_off44_inb i v179 v374 v569 v764 k0_hw4 k0_h1)
theorem k0_off45_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off45 v179 v374 v569 v764) a + S1x128x128.size a ≤ S8x2304x128.size a := fun i v179 v374 v569 v764 k0_hw4 k0_h1 => k0_hw4.2.2.2.2.2.2.2.2.1 k0_h1
theorem k0_off45_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off45 v179 v374 v569 v764) S1x128x128.size (k0_off45_inb i v179 v374 v569 v764 k0_hw4 k0_h1)).PackedRows (EltTy.packing .bf16) := fun i v179 v374 v569 v764 k0_hw4 k0_h1 => k0_hw4.2.2.2.2.2.2.2.2.2.1 k0_h1 (k0_off45_inb i v179 v374 v569 v764 k0_hw4 k0_h1)
theorem k0_off46_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off46 v179 v374 v569 v764) a + S1x128x128.size a ≤ S8x2304x128.size a := fun i v179 v374 v569 v764 k0_hw4 k0_h1 => k0_hw4.2.2.2.2.2.2.2.2.2.2.1 k0_h1
theorem k0_off46_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off46 v179 v374 v569 v764) S1x128x128.size (k0_off46_inb i v179 v374 v569 v764 k0_hw4 k0_h1)).PackedRows (EltTy.packing .bf16) := fun i v179 v374 v569 v764 k0_hw4 k0_h1 => k0_hw4.2.2.2.2.2.2.2.2.2.2.2.1 k0_h1 (k0_off46_inb i v179 v374 v569 v764 k0_hw4 k0_h1)
theorem k0_off47_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off47 v179 v374 v569 v764) a + S1x128x128.size a ≤ S8x2304x128.size a := fun i v179 v374 v569 v764 k0_hw4 k0_h1 => k0_hw4.2.2.2.2.2.2.2.2.2.2.2.2.1 k0_h1
theorem k0_off47_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off47 v179 v374 v569 v764) S1x128x128.size (k0_off47_inb i v179 v374 v569 v764 k0_hw4 k0_h1)).PackedRows (EltTy.packing .bf16) := fun i v179 v374 v569 v764 k0_hw4 k0_h1 => k0_hw4.2.2.2.2.2.2.2.2.2.2.2.2.2.1 k0_h1 (k0_off47_inb i v179 v374 v569 v764 k0_hw4 k0_h1)
theorem k0_off48_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off48 v179 v374 v569 v764) a + S1x128x128.size a ≤ S8x2304x128.size a := fun i v179 v374 v569 v764 k0_hw4 k0_h1 => k0_hw4.2.2.2.2.2.2.2.2.2.2.2.2.2.2.1 k0_h1
theorem k0_off48_packedbf16 : ∀ (i : grid0.Coords) (v179 : BitVec 32) (v374 : BitVec 32) (v569 : BitVec 32) (v764 : BitVec 32) (k0_hw4 : k0_chk4 i v179 v374 v569 v764), ∀ (k0_h1 : k0_cond1 i = 1#1), (Rect.unit (s := S8x2304x128) (k0_off48 v179 v374 v569 v764) S1x128x128.size (k0_off48_inb i v179 v374 v569 v764 k0_hw4 k0_h1)).PackedRows (EltTy.packing .bf16) := fun i v179 v374 v569 v764 k0_hw4 k0_h1 => k0_hw4.2.2.2.2.2.2.2.2.2.2.2.2.2.2.2.1 k0_h1 (k0_off48_inb i v179 v374 v569 v764 k0_hw4 k0_h1)
theorem k0_off49_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off49 v179 v374 v569 v764) a + S1x128.size a ≤ S18x128.size a := fun i v179 v374 v569 v764 k0_hw4 k0_h1 => k0_hw4.2.2.2.2.2.2.2.2.2.2.2.2.2.2.2.2.1 k0_h1
theorem k0_off50_inb : ∀ (i : grid0.Coords) (v179 : BitVec 32) (v374 : BitVec 32) (v569 : BitVec 32) (v764 : BitVec 32) (k0_hw4 : k0_chk4 i v179 v374 v569 v764), ∀ (k0_h1 : k0_cond1 i = 1#1), ∀ a, (k0_off50 v179 v374 v569 v764) a + S1x128.size a ≤ S18x128.size a := fun i v179 v374 v569 v764 k0_hw4 k0_h1 => k0_hw4.2.2.2.2.2.2.2.2.2.2.2.2.2.2.2.2.2 k0_h1

def k0_off51 (v179 : BitVec 32) (v374 : BitVec 32) (v569 : BitVec 32) (v764 : BitVec 32) (v959 : BitVec 32) : Fin 3 → Nat :=
  let c0_640 : Index := 0#32
  let c2_i32_639 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1158 : BitVec 32 := Scalar.muli c2_i32_639 v1155
  let v1159 : Index := Scalar.indexCast v1158
  let c0_641 : Index := 0#32
  ![0, v1159.toNat, 0]

def k0_off52 (v179 : BitVec 32) (v374 : BitVec 32) (v569 : BitVec 32) (v764 : BitVec 32) (v959 : BitVec 32) : Fin 3 → Nat :=
  let c1_650 : Index := 1#32
  let c2_i32_649 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1173 : BitVec 32 := Scalar.muli c2_i32_649 v1155
  let v1174 : Index := Scalar.indexCast v1173
  let c0_651 : Index := 0#32
  ![1, v1174.toNat, 0]
def k0_off53 (v179 : BitVec 32) (v374 : BitVec 32) (v569 : BitVec 32) (v764 : BitVec 32) (v959 : BitVec 32) : Fin 3 → Nat :=
  let c2_660 : Index := 2#32
  let c2_i32_659 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1188 : BitVec 32 := Scalar.muli c2_i32_659 v1155
  let v1189 : Index := Scalar.indexCast v1188
  let c0_661 : Index := 0#32
  ![2, v1189.toNat, 0]
def k0_off54 (v179 : BitVec 32) (v374 : BitVec 32) (v569 : BitVec 32) (v764 : BitVec 32) (v959 : BitVec 32) : Fin 3 → Nat :=
  let c3_670 : Index := 3#32
  let c2_i32_669 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1203 : BitVec 32 := Scalar.muli c2_i32_669 v1155
  let v1204 : Index := Scalar.indexCast v1203
  let c0_671 : Index := 0#32
  ![3, v1204.toNat, 0]
def k0_off55 (v179 : BitVec 32) (v374 : BitVec 32) (v569 : BitVec 32) (v764 : BitVec 32) (v959 : BitVec 32) : Fin 3 → Nat :=
  let c4_680 : Index := 4#32
  let c2_i32_679 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1218 : BitVec 32 := Scalar.muli c2_i32_679 v1155
  let v1219 : Index := Scalar.indexCast v1218
  let c0_681 : Index := 0#32
  ![4, v1219.toNat, 0]
def k0_off56 (v179 : BitVec 32) (v374 : BitVec 32) (v569 : BitVec 32) (v764 : BitVec 32) (v959 : BitVec 32) : Fin 3 → Nat :=
  let c5_690 : Index := 5#32
  let c2_i32_689 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1233 : BitVec 32 := Scalar.muli c2_i32_689 v1155
  let v1234 : Index := Scalar.indexCast v1233
  let c0_691 : Index := 0#32
  ![5, v1234.toNat, 0]
def k0_off57 (v179 : BitVec 32) (v374 : BitVec 32) (v569 : BitVec 32) (v764 : BitVec 32) (v959 : BitVec 32) : Fin 3 → Nat :=
  let c6_700 : Index := 6#32
  let c2_i32_699 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1248 : BitVec 32 := Scalar.muli c2_i32_699 v1155
  let v1249 : Index := Scalar.indexCast v1248
  let c0_701 : Index := 0#32
  ![6, v1249.toNat, 0]
def k0_off58 (v179 : BitVec 32) (v374 : BitVec 32) (v569 : BitVec 32) (v764 : BitVec 32) (v959 : BitVec 32) : Fin 3 → Nat :=
  let c7_710 : Index := 7#32
  let c2_i32_709 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c1_i32_636 : BitVec 32 := 1#32
  let v1155 : BitVec 32 := Scalar.shrui v1153 c1_i32_636
  let v1263 : BitVec 32 := Scalar.muli c2_i32_709 v1155
  let v1264 : Index := Scalar.indexCast v1263
  let c0_711 : Index := 0#32
  ![7, v1264.toNat, 0]
def k0_off59 (v179 : BitVec 32) (v374 : BitVec 32) (v569 : BitVec 32) (v764 : BitVec 32) (v959 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c0_i32_724 : BitVec 32 := 0#32
  let v1287 : BitVec 1 := Scalar.cmpi .sgt v1153 c0_i32_724
  let v1288 : BitVec 32 := Scalar.extui v1287
  let c0_i32_725 : BitVec 32 := 0#32
  let v1289 : BitVec 1 := Scalar.cmpi .slt v1153 c0_i32_725
  let v1290 : BitVec 32 := Scalar.extui v1289
  let v1291 : BitVec 32 := Scalar.subi v1288 v1290
  let c128_i32_723 : BitVec 32 := 128#32
  let c0_i32_726 : BitVec 32 := 0#32
  let v1292 : BitVec 1 := Scalar.cmpi .sgt c128_i32_723 c0_i32_726
  let v1293 : BitVec 32 := Scalar.extui v1292
  let c0_i32_727 : BitVec 32 := 0#32
  let v1294 : BitVec 1 := Scalar.cmpi .slt c128_i32_723 c0_i32_727
  let v1295 : BitVec 32 := Scalar.extui v1294
  let v1296 : BitVec 32 := Scalar.subi v1293 v1295
  let v1297 : BitVec 1 := Scalar.cmpi .ne v1291 v1296
  let v1298 : BitVec 32 := Scalar.remsi v1153 c128_i32_723
  let c0_i32_728 : BitVec 32 := 0#32
  let v1299 : BitVec 1 := Scalar.cmpi .ne v1298 c0_i32_728
  let v1300 : BitVec 1 := Scalar.andi v1297 v1299
  let v1286 : BitVec 32 := Scalar.divsi v1153 c128_i32_723
  let c1_i32_729 : BitVec 32 := 1#32
  let v1301 : BitVec 32 := Scalar.subi v1286 c1_i32_729
  let v1302 : BitVec 32 := Scalar.select v1300 v1301 v1286
  let v1316 : Index := Scalar.indexCast v1302
  let c0_734 : Index := 0#32
  ![v1316.toNat, 0]
def k0_off60 (v179 : BitVec 32) (v374 : BitVec 32) (v569 : BitVec 32) (v764 : BitVec 32) (v959 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let c0_i32_724 : BitVec 32 := 0#32
  let v1287 : BitVec 1 := Scalar.cmpi .sgt v1153 c0_i32_724
  let v1288 : BitVec 32 := Scalar.extui v1287
  let c0_i32_725 : BitVec 32 := 0#32
  let v1289 : BitVec 1 := Scalar.cmpi .slt v1153 c0_i32_725
  let v1290 : BitVec 32 := Scalar.extui v1289
  let v1291 : BitVec 32 := Scalar.subi v1288 v1290
  let c128_i32_723 : BitVec 32 := 128#32
  let c0_i32_726 : BitVec 32 := 0#32
  let v1292 : BitVec 1 := Scalar.cmpi .sgt c128_i32_723 c0_i32_726
  let v1293 : BitVec 32 := Scalar.extui v1292
  let c0_i32_727 : BitVec 32 := 0#32
  let v1294 : BitVec 1 := Scalar.cmpi .slt c128_i32_723 c0_i32_727
  let v1295 : BitVec 32 := Scalar.extui v1294
  let v1296 : BitVec 32 := Scalar.subi v1293 v1295
  let v1297 : BitVec 1 := Scalar.cmpi .ne v1291 v1296
  let v1298 : BitVec 32 := Scalar.remsi v1153 c128_i32_723
  let c0_i32_728 : BitVec 32 := 0#32
  let v1299 : BitVec 1 := Scalar.cmpi .ne v1298 c0_i32_728
  let v1300 : BitVec 1 := Scalar.andi v1297 v1299
  let v1286 : BitVec 32 := Scalar.divsi v1153 c128_i32_723
  let c1_i32_729 : BitVec 32 := 1#32
  let v1301 : BitVec 32 := Scalar.subi v1286 c1_i32_729
  let v1302 : BitVec 32 := Scalar.select v1300 v1301 v1286
  let c1_i32_733 : BitVec 32 := 1#32
  let v1315 : BitVec 32 := Scalar.addi v1302 c1_i32_733
  let v1331 : Index := Scalar.indexCast v1315
  let c0_739 : Index := 0#32
  ![v1331.toNat, 0]

def k0_chk5 (i : grid0.Coords) (v179 : BitVec 32) (v374 : BitVec 32) (v569 : BitVec 32) (v764 : BitVec 32) (v959 : BitVec 32) : Prop :=
  (∀ (k0_h1 : k0_cond1 i = 1#1), ∀ a, (k0_off51 v179 v374 v569 v764 v959) a + S1x128x128.size a ≤ S8x2304x128.size a) ∧
  (∀ (k0_h1 : k0_cond1 i = 1#1), ∀ (hinb : ∀ a, (k0_off51 v179 v374 v569 v764 v959) a + S1x128x128.size a ≤ S8x2304x128.size a), (Rect.unit (s := S8x2304x128) (k0_off51 v179 v374 v569 v764 v959) S1x128x128.size hinb).PackedRows (EltTy.packing .bf16)) ∧
  (∀ (k0_h1 : k0_cond1 i = 1#1), ∀ a, (k0_off52 v179 v374 v569 v764 v959) a + S1x128x128.size a ≤ S8x2304x128.size a) ∧
  (∀ (k0_h1 : k0_cond1 i = 1#1), ∀ (hinb : ∀ a, (k0_off52 v179 v374 v569 v764 v959) a + S1x128x128.size a ≤ S8x2304x128.size a), (Rect.unit (s := S8x2304x128) (k0_off52 v179 v374 v569 v764 v959) S1x128x128.size hinb).PackedRows (EltTy.packing .bf16)) ∧
  (∀ (k0_h1 : k0_cond1 i = 1#1), ∀ a, (k0_off53 v179 v374 v569 v764 v959) a + S1x128x128.size a ≤ S8x2304x128.size a) ∧
  (∀ (k0_h1 : k0_cond1 i = 1#1), ∀ (hinb : ∀ a, (k0_off53 v179 v374 v569 v764 v959) a + S1x128x128.size a ≤ S8x2304x128.size a), (Rect.unit (s := S8x2304x128) (k0_off53 v179 v374 v569 v764 v959) S1x128x128.size hinb).PackedRows (EltTy.packing .bf16)) ∧
  (∀ (k0_h1 : k0_cond1 i = 1#1), ∀ a, (k0_off54 v179 v374 v569 v764 v959) a + S1x128x128.size a ≤ S8x2304x128.size a) ∧
  (∀ (k0_h1 : k0_cond1 i = 1#1), ∀ (hinb : ∀ a, (k0_off54 v179 v374 v569 v764 v959) a + S1x128x128.size a ≤ S8x2304x128.size a), (Rect.unit (s := S8x2304x128) (k0_off54 v179 v374 v569 v764 v959) S1x128x128.size hinb).PackedRows (EltTy.packing .bf16)) ∧
  (∀ (k0_h1 : k0_cond1 i = 1#1), ∀ a, (k0_off55 v179 v374 v569 v764 v959) a + S1x128x128.size a ≤ S8x2304x128.size a) ∧
  (∀ (k0_h1 : k0_cond1 i = 1#1), ∀ (hinb : ∀ a, (k0_off55 v179 v374 v569 v764 v959) a + S1x128x128.size a ≤ S8x2304x128.size a), (Rect.unit (s := S8x2304x128) (k0_off55 v179 v374 v569 v764 v959) S1x128x128.size hinb).PackedRows (EltTy.packing .bf16)) ∧
  (∀ (k0_h1 : k0_cond1 i = 1#1), ∀ a, (k0_off56 v179 v374 v569 v764 v959) a + S1x128x128.size a ≤ S8x2304x128.size a) ∧
  (∀ (k0_h1 : k0_cond1 i = 1#1), ∀ (hinb : ∀ a, (k0_off56 v179 v374 v569 v764 v959) a + S1x128x128.size a ≤ S8x2304x128.size a), (Rect.unit (s := S8x2304x128) (k0_off56 v179 v374 v569 v764 v959) S1x128x128.size hinb).PackedRows (EltTy.packing .bf16)) ∧
  (∀ (k0_h1 : k0_cond1 i = 1#1), ∀ a, (k0_off57 v179 v374 v569 v764 v959) a + S1x128x128.size a ≤ S8x2304x128.size a) ∧
  (∀ (k0_h1 : k0_cond1 i = 1#1), ∀ (hinb : ∀ a, (k0_off57 v179 v374 v569 v764 v959) a + S1x128x128.size a ≤ S8x2304x128.size a), (Rect.unit (s := S8x2304x128) (k0_off57 v179 v374 v569 v764 v959) S1x128x128.size hinb).PackedRows (EltTy.packing .bf16)) ∧
  (∀ (k0_h1 : k0_cond1 i = 1#1), ∀ a, (k0_off58 v179 v374 v569 v764 v959) a + S1x128x128.size a ≤ S8x2304x128.size a) ∧
  (∀ (k0_h1 : k0_cond1 i = 1#1), ∀ (hinb : ∀ a, (k0_off58 v179 v374 v569 v764 v959) a + S1x128x128.size a ≤ S8x2304x128.size a), (Rect.unit (s := S8x2304x128) (k0_off58 v179 v374 v569 v764 v959) S1x128x128.size hinb).PackedRows (EltTy.packing .bf16)) ∧
  (∀ (k0_h1 : k0_cond1 i = 1#1), ∀ a, (k0_off59 v179 v374 v569 v764 v959) a + S1x128.size a ≤ S18x128.size a) ∧
  (∀ (k0_h1 : k0_cond1 i = 1#1), ∀ a, (k0_off60 v179 v374 v569 v764 v959) a + S1x128.size a ≤ S18x128.size a)
theorem k0_off51_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off51 v179 v374 v569 v764 v959) a + S1x128x128.size a ≤ S8x2304x128.size a := fun i v179 v374 v569 v764 v959 k0_hw5 k0_h1 => k0_hw5.1 k0_h1
theorem k0_off51_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off51 v179 v374 v569 v764 v959) S1x128x128.size (k0_off51_inb i v179 v374 v569 v764 v959 k0_hw5 k0_h1)).PackedRows (EltTy.packing .bf16) := fun i v179 v374 v569 v764 v959 k0_hw5 k0_h1 => k0_hw5.2.1 k0_h1 (k0_off51_inb i v179 v374 v569 v764 v959 k0_hw5 k0_h1)
theorem k0_off52_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off52 v179 v374 v569 v764 v959) a + S1x128x128.size a ≤ S8x2304x128.size a := fun i v179 v374 v569 v764 v959 k0_hw5 k0_h1 => k0_hw5.2.2.1 k0_h1
theorem k0_off52_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off52 v179 v374 v569 v764 v959) S1x128x128.size (k0_off52_inb i v179 v374 v569 v764 v959 k0_hw5 k0_h1)).PackedRows (EltTy.packing .bf16) := fun i v179 v374 v569 v764 v959 k0_hw5 k0_h1 => k0_hw5.2.2.2.1 k0_h1 (k0_off52_inb i v179 v374 v569 v764 v959 k0_hw5 k0_h1)
theorem k0_off53_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off53 v179 v374 v569 v764 v959) a + S1x128x128.size a ≤ S8x2304x128.size a := fun i v179 v374 v569 v764 v959 k0_hw5 k0_h1 => k0_hw5.2.2.2.2.1 k0_h1
theorem k0_off53_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off53 v179 v374 v569 v764 v959) S1x128x128.size (k0_off53_inb i v179 v374 v569 v764 v959 k0_hw5 k0_h1)).PackedRows (EltTy.packing .bf16) := fun i v179 v374 v569 v764 v959 k0_hw5 k0_h1 => k0_hw5.2.2.2.2.2.1 k0_h1 (k0_off53_inb i v179 v374 v569 v764 v959 k0_hw5 k0_h1)
theorem k0_off54_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off54 v179 v374 v569 v764 v959) a + S1x128x128.size a ≤ S8x2304x128.size a := fun i v179 v374 v569 v764 v959 k0_hw5 k0_h1 => k0_hw5.2.2.2.2.2.2.1 k0_h1
theorem k0_off54_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off54 v179 v374 v569 v764 v959) S1x128x128.size (k0_off54_inb i v179 v374 v569 v764 v959 k0_hw5 k0_h1)).PackedRows (EltTy.packing .bf16) := fun i v179 v374 v569 v764 v959 k0_hw5 k0_h1 => k0_hw5.2.2.2.2.2.2.2.1 k0_h1 (k0_off54_inb i v179 v374 v569 v764 v959 k0_hw5 k0_h1)
theorem k0_off55_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off55 v179 v374 v569 v764 v959) a + S1x128x128.size a ≤ S8x2304x128.size a := fun i v179 v374 v569 v764 v959 k0_hw5 k0_h1 => k0_hw5.2.2.2.2.2.2.2.2.1 k0_h1
theorem k0_off55_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off55 v179 v374 v569 v764 v959) S1x128x128.size (k0_off55_inb i v179 v374 v569 v764 v959 k0_hw5 k0_h1)).PackedRows (EltTy.packing .bf16) := fun i v179 v374 v569 v764 v959 k0_hw5 k0_h1 => k0_hw5.2.2.2.2.2.2.2.2.2.1 k0_h1 (k0_off55_inb i v179 v374 v569 v764 v959 k0_hw5 k0_h1)
theorem k0_off56_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off56 v179 v374 v569 v764 v959) a + S1x128x128.size a ≤ S8x2304x128.size a := fun i v179 v374 v569 v764 v959 k0_hw5 k0_h1 => k0_hw5.2.2.2.2.2.2.2.2.2.2.1 k0_h1
theorem k0_off56_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off56 v179 v374 v569 v764 v959) S1x128x128.size (k0_off56_inb i v179 v374 v569 v764 v959 k0_hw5 k0_h1)).PackedRows (EltTy.packing .bf16) := fun i v179 v374 v569 v764 v959 k0_hw5 k0_h1 => k0_hw5.2.2.2.2.2.2.2.2.2.2.2.1 k0_h1 (k0_off56_inb i v179 v374 v569 v764 v959 k0_hw5 k0_h1)
theorem k0_off57_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off57 v179 v374 v569 v764 v959) a + S1x128x128.size a ≤ S8x2304x128.size a := fun i v179 v374 v569 v764 v959 k0_hw5 k0_h1 => k0_hw5.2.2.2.2.2.2.2.2.2.2.2.2.1 k0_h1
theorem k0_off57_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off57 v179 v374 v569 v764 v959) S1x128x128.size (k0_off57_inb i v179 v374 v569 v764 v959 k0_hw5 k0_h1)).PackedRows (EltTy.packing .bf16) := fun i v179 v374 v569 v764 v959 k0_hw5 k0_h1 => k0_hw5.2.2.2.2.2.2.2.2.2.2.2.2.2.1 k0_h1 (k0_off57_inb i v179 v374 v569 v764 v959 k0_hw5 k0_h1)
theorem k0_off58_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off58 v179 v374 v569 v764 v959) a + S1x128x128.size a ≤ S8x2304x128.size a := fun i v179 v374 v569 v764 v959 k0_hw5 k0_h1 => k0_hw5.2.2.2.2.2.2.2.2.2.2.2.2.2.2.1 k0_h1
theorem k0_off58_packedbf16 : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), (Rect.unit (s := S8x2304x128) (k0_off58 v179 v374 v569 v764 v959) S1x128x128.size (k0_off58_inb i v179 v374 v569 v764 v959 k0_hw5 k0_h1)).PackedRows (EltTy.packing .bf16) := fun i v179 v374 v569 v764 v959 k0_hw5 k0_h1 => k0_hw5.2.2.2.2.2.2.2.2.2.2.2.2.2.2.2.1 k0_h1 (k0_off58_inb i v179 v374 v569 v764 v959 k0_hw5 k0_h1)
theorem k0_off59_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off59 v179 v374 v569 v764 v959) a + S1x128.size a ≤ S18x128.size a := fun i v179 v374 v569 v764 v959 k0_hw5 k0_h1 => k0_hw5.2.2.2.2.2.2.2.2.2.2.2.2.2.2.2.2.1 k0_h1
theorem k0_off60_inb : ∀ (i : grid0.Coords) (v179 : BitVec 32) (v374 : BitVec 32) (v569 : BitVec 32) (v764 : BitVec 32) (v959 : BitVec 32) (k0_hw5 : k0_chk5 i v179 v374 v569 v764 v959), ∀ (k0_h1 : k0_cond1 i = 1#1), ∀ a, (k0_off60 v179 v374 v569 v764 v959) a + S1x128.size a ≤ S18x128.size a := fun i v179 v374 v569 v764 v959 k0_hw5 k0_h1 => k0_hw5.2.2.2.2.2.2.2.2.2.2.2.2.2.2.2.2.2 k0_h1

def k0_off61 (v179 : BitVec 32) (v374 : BitVec 32) (v569 : BitVec 32) (v764 : BitVec 32) (v959 : BitVec 32) (v1154 : BitVec 32) : Fin 3 → Nat :=
  let c0_750 : Index := 0#32
  let c2_i32_749 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1353 : BitVec 32 := Scalar.muli c2_i32_749 v1350
  let v1354 : Index := Scalar.indexCast v1353
  let c0_751 : Index := 0#32
  ![0, v1354.toNat, 0]

def k0_off62 (v179 : BitVec 32) (v374 : BitVec 32) (v569 : BitVec 32) (v764 : BitVec 32) (v959 : BitVec 32) (v1154 : BitVec 32) : Fin 3 → Nat :=
  let c1_760 : Index := 1#32
  let c2_i32_759 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1368 : BitVec 32 := Scalar.muli c2_i32_759 v1350
  let v1369 : Index := Scalar.indexCast v1368
  let c0_761 : Index := 0#32
  ![1, v1369.toNat, 0]
def k0_off63 (v179 : BitVec 32) (v374 : BitVec 32) (v569 : BitVec 32) (v764 : BitVec 32) (v959 : BitVec 32) (v1154 : BitVec 32) : Fin 3 → Nat :=
  let c2_770 : Index := 2#32
  let c2_i32_769 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1383 : BitVec 32 := Scalar.muli c2_i32_769 v1350
  let v1384 : Index := Scalar.indexCast v1383
  let c0_771 : Index := 0#32
  ![2, v1384.toNat, 0]
def k0_off64 (v179 : BitVec 32) (v374 : BitVec 32) (v569 : BitVec 32) (v764 : BitVec 32) (v959 : BitVec 32) (v1154 : BitVec 32) : Fin 3 → Nat :=
  let c3_780 : Index := 3#32
  let c2_i32_779 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1398 : BitVec 32 := Scalar.muli c2_i32_779 v1350
  let v1399 : Index := Scalar.indexCast v1398
  let c0_781 : Index := 0#32
  ![3, v1399.toNat, 0]
def k0_off65 (v179 : BitVec 32) (v374 : BitVec 32) (v569 : BitVec 32) (v764 : BitVec 32) (v959 : BitVec 32) (v1154 : BitVec 32) : Fin 3 → Nat :=
  let c4_790 : Index := 4#32
  let c2_i32_789 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1413 : BitVec 32 := Scalar.muli c2_i32_789 v1350
  let v1414 : Index := Scalar.indexCast v1413
  let c0_791 : Index := 0#32
  ![4, v1414.toNat, 0]
def k0_off66 (v179 : BitVec 32) (v374 : BitVec 32) (v569 : BitVec 32) (v764 : BitVec 32) (v959 : BitVec 32) (v1154 : BitVec 32) : Fin 3 → Nat :=
  let c5_800 : Index := 5#32
  let c2_i32_799 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1428 : BitVec 32 := Scalar.muli c2_i32_799 v1350
  let v1429 : Index := Scalar.indexCast v1428
  let c0_801 : Index := 0#32
  ![5, v1429.toNat, 0]
def k0_off67 (v179 : BitVec 32) (v374 : BitVec 32) (v569 : BitVec 32) (v764 : BitVec 32) (v959 : BitVec 32) (v1154 : BitVec 32) : Fin 3 → Nat :=
  let c6_810 : Index := 6#32
  let c2_i32_809 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1443 : BitVec 32 := Scalar.muli c2_i32_809 v1350
  let v1444 : Index := Scalar.indexCast v1443
  let c0_811 : Index := 0#32
  ![6, v1444.toNat, 0]
def k0_off68 (v179 : BitVec 32) (v374 : BitVec 32) (v569 : BitVec 32) (v764 : BitVec 32) (v959 : BitVec 32) (v1154 : BitVec 32) : Fin 3 → Nat :=
  let c7_820 : Index := 7#32
  let c2_i32_819 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c1_i32_746 : BitVec 32 := 1#32
  let v1350 : BitVec 32 := Scalar.shrui v1348 c1_i32_746
  let v1458 : BitVec 32 := Scalar.muli c2_i32_819 v1350
  let v1459 : Index := Scalar.indexCast v1458
  let c0_821 : Index := 0#32
  ![7, v1459.toNat, 0]
def k0_off69 (v179 : BitVec 32) (v374 : BitVec 32) (v569 : BitVec 32) (v764 : BitVec 32) (v959 : BitVec 32) (v1154 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c0_i32_834 : BitVec 32 := 0#32
  let v1482 : BitVec 1 := Scalar.cmpi .sgt v1348 c0_i32_834
  let v1483 : BitVec 32 := Scalar.extui v1482
  let c0_i32_835 : BitVec 32 := 0#32
  let v1484 : BitVec 1 := Scalar.cmpi .slt v1348 c0_i32_835
  let v1485 : BitVec 32 := Scalar.extui v1484
  let v1486 : BitVec 32 := Scalar.subi v1483 v1485
  let c128_i32_833 : BitVec 32 := 128#32
  let c0_i32_836 : BitVec 32 := 0#32
  let v1487 : BitVec 1 := Scalar.cmpi .sgt c128_i32_833 c0_i32_836
  let v1488 : BitVec 32 := Scalar.extui v1487
  let c0_i32_837 : BitVec 32 := 0#32
  let v1489 : BitVec 1 := Scalar.cmpi .slt c128_i32_833 c0_i32_837
  let v1490 : BitVec 32 := Scalar.extui v1489
  let v1491 : BitVec 32 := Scalar.subi v1488 v1490
  let v1492 : BitVec 1 := Scalar.cmpi .ne v1486 v1491
  let v1493 : BitVec 32 := Scalar.remsi v1348 c128_i32_833
  let c0_i32_838 : BitVec 32 := 0#32
  let v1494 : BitVec 1 := Scalar.cmpi .ne v1493 c0_i32_838
  let v1495 : BitVec 1 := Scalar.andi v1492 v1494
  let v1481 : BitVec 32 := Scalar.divsi v1348 c128_i32_833
  let c1_i32_839 : BitVec 32 := 1#32
  let v1496 : BitVec 32 := Scalar.subi v1481 c1_i32_839
  let v1497 : BitVec 32 := Scalar.select v1495 v1496 v1481
  let v1511 : Index := Scalar.indexCast v1497
  let c0_844 : Index := 0#32
  ![v1511.toNat, 0]
def k0_off70 (v179 : BitVec 32) (v374 : BitVec 32) (v569 : BitVec 32) (v764 : BitVec 32) (v959 : BitVec 32) (v1154 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let c0_i32_834 : BitVec 32 := 0#32
  let v1482 : BitVec 1 := Scalar.cmpi .sgt v1348 c0_i32_834
  let v1483 : BitVec 32 := Scalar.extui v1482
  let c0_i32_835 : BitVec 32 := 0#32
  let v1484 : BitVec 1 := Scalar.cmpi .slt v1348 c0_i32_835
  let v1485 : BitVec 32 := Scalar.extui v1484
  let v1486 : BitVec 32 := Scalar.subi v1483 v1485
  let c128_i32_833 : BitVec 32 := 128#32
  let c0_i32_836 : BitVec 32 := 0#32
  let v1487 : BitVec 1 := Scalar.cmpi .sgt c128_i32_833 c0_i32_836
  let v1488 : BitVec 32 := Scalar.extui v1487
  let c0_i32_837 : BitVec 32 := 0#32
  let v1489 : BitVec 1 := Scalar.cmpi .slt c128_i32_833 c0_i32_837
  let v1490 : BitVec 32 := Scalar.extui v1489
  let v1491 : BitVec 32 := Scalar.subi v1488 v1490
  let v1492 : BitVec 1 := Scalar.cmpi .ne v1486 v1491
  let v1493 : BitVec 32 := Scalar.remsi v1348 c128_i32_833
  let c0_i32_838 : BitVec 32 := 0#32
  let v1494 : BitVec 1 := Scalar.cmpi .ne v1493 c0_i32_838
  let v1495 : BitVec 1 := Scalar.andi v1492 v1494
  let v1481 : BitVec 32 := Scalar.divsi v1348 c128_i32_833
  let c1_i32_839 : BitVec 32 := 1#32
  let v1496 : BitVec 32 := Scalar.subi v1481 c1_i32_839
  let v1497 : BitVec 32 := Scalar.select v1495 v1496 v1481
  let c1_i32_843 : BitVec 32 := 1#32
  let v1510 : BitVec 32 := Scalar.addi v1497 c1_i32_843
  let v1526 : Index := Scalar.indexCast v1510
  let c0_849 : Index := 0#32
  ![v1526.toNat, 0]

def k0_chk6 (i : grid0.Coords) (v179 : BitVec 32) (v374 : BitVec 32) (v569 : BitVec 32) (v764 : BitVec 32) (v959 : BitVec 32) (v1154 : BitVec 32) : Prop :=
  (∀ (k0_h1 : k0_cond1 i = 1#1), ∀ a, (k0_off61 v179 v374 v569 v764 v959 v1154) a + S1x128x128.size a ≤ S8x2304x128.size a) ∧
  (∀ (k0_h1 : k0_cond1 i = 1#1), ∀ (hinb : ∀ a, (k0_off61 v179 v374 v569 v764 v959 v1154) a + S1x128x128.size a ≤ S8x2304x128.size a), (Rect.unit (s := S8x2304x128) (k0_off61 v179 v374 v569 v764 v959 v1154) S1x128x128.size hinb).PackedRows (EltTy.packing .bf16)) ∧
  (∀ (k0_h1 : k0_cond1 i = 1#1), ∀ a, (k0_off62 v179 v374 v569 v764 v959 v1154) a + S1x128x128.size a ≤ S8x2304x128.size a) ∧
  (∀ (k0_h1 : k0_cond1 i = 1#1), ∀ (hinb : ∀ a, (k0_off62 v179 v374 v569 v764 v959 v1154) a + S1x128x128.size a ≤ S8x2304x128.size a), (Rect.unit (s := S8x2304x128) (k0_off62 v179 v374 v569 v764 v959 v1154) S1x128x128.size hinb).PackedRows (EltTy.packing .bf16)) ∧
  (∀ (k0_h1 : k0_cond1 i = 1#1), ∀ a, (k0_off63 v179 v374 v569 v764 v959 v1154) a + S1x128x128.size a ≤ S8x2304x128.size a) ∧
  (∀ (k0_h1 : k0_cond1 i = 1#1), ∀ (hinb : ∀ a, (k0_off63 v179 v374 v569 v764 v959 v1154) a + S1x128x128.size a ≤ S8x2304x128.size a), (Rect.unit (s := S8x2304x128) (k0_off63 v179 v374 v569 v764 v959 v1154) S1x128x128.size hinb).PackedRows (EltTy.packing .bf16)) ∧
  (∀ (k0_h1 : k0_cond1 i = 1#1), ∀ a, (k0_off64 v179 v374 v569 v764 v959 v1154) a + S1x128x128.size a ≤ S8x2304x128.size a) ∧
  (∀ (k0_h1 : k0_cond1 i = 1#1), ∀ (hinb : ∀ a, (k0_off64 v179 v374 v569 v764 v959 v1154) a + S1x128x128.size a ≤ S8x2304x128.size a), (Rect.unit (s := S8x2304x128) (k0_off64 v179 v374 v569 v764 v959 v1154) S1x128x128.size hinb).PackedRows (EltTy.packing .bf16)) ∧
  (∀ (k0_h1 : k0_cond1 i = 1#1), ∀ a, (k0_off65 v179 v374 v569 v764 v959 v1154) a + S1x128x128.size a ≤ S8x2304x128.size a) ∧
  (∀ (k0_h1 : k0_cond1 i = 1#1), ∀ (hinb : ∀ a, (k0_off65 v179 v374 v569 v764 v959 v1154) a + S1x128x128.size a ≤ S8x2304x128.size a), (Rect.unit (s := S8x2304x128) (k0_off65 v179 v374 v569 v764 v959 v1154) S1x128x128.size hinb).PackedRows (EltTy.packing .bf16)) ∧
  (∀ (k0_h1 : k0_cond1 i = 1#1), ∀ a, (k0_off66 v179 v374 v569 v764 v959 v1154) a + S1x128x128.size a ≤ S8x2304x128.size a) ∧
  (∀ (k0_h1 : k0_cond1 i = 1#1), ∀ (hinb : ∀ a, (k0_off66 v179 v374 v569 v764 v959 v1154) a + S1x128x128.size a ≤ S8x2304x128.size a), (Rect.unit (s := S8x2304x128) (k0_off66 v179 v374 v569 v764 v959 v1154) S1x128x128.size hinb).PackedRows (EltTy.packing .bf16)) ∧
  (∀ (k0_h1 : k0_cond1 i = 1#1), ∀ a, (k0_off67 v179 v374 v569 v764 v959 v1154) a + S1x128x128.size a ≤ S8x2304x128.size a) ∧
  (∀ (k0_h1 : k0_cond1 i = 1#1), ∀ (hinb : ∀ a, (k0_off67 v179 v374 v569 v764 v959 v1154) a + S1x128x128.size a ≤ S8x2304x128.size a), (Rect.unit (s := S8x2304x128) (k0_off67 v179 v374 v569 v764 v959 v1154) S1x128x128.size hinb).PackedRows (EltTy.packing .bf16)) ∧
  (∀ (k0_h1 : k0_cond1 i = 1#1), ∀ a, (k0_off68 v179 v374 v569 v764 v959 v1154) a + S1x128x128.size a ≤ S8x2304x128.size a) ∧
  (∀ (k0_h1 : k0_cond1 i = 1#1), ∀ (hinb : ∀ a, (k0_off68 v179 v374 v569 v764 v959 v1154) a + S1x128x128.size a ≤ S8x2304x128.size a), (Rect.unit (s := S8x2304x128) (k0_off68 v179 v374 v569 v764 v959 v1154) S1x128x128.size hinb).PackedRows (EltTy.packing .bf16)) ∧
  (∀ (k0_h1 : k0_cond1 i = 1#1), ∀ a, (k0_off69 v179 v374 v569 v764 v959 v1154) a + S1x128.size a ≤ S18x128.size a) ∧
  (∀ (k0_h1 : k0_cond1 i = 1#1), ∀ a, (k0_off70 v179 v374 v569 v764 v959 v1154) a + S1x128.size a ≤ S18x128.size a)
theorem k0_off61_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off61 v179 v374 v569 v764 v959 v1154) a + S1x128x128.size a ≤ S8x2304x128.size a := fun i v179 v374 v569 v764 v959 v1154 k0_hw6 k0_h1 => k0_hw6.1 k0_h1
theorem k0_off61_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off61 v179 v374 v569 v764 v959 v1154) S1x128x128.size (k0_off61_inb i v179 v374 v569 v764 v959 v1154 k0_hw6 k0_h1)).PackedRows (EltTy.packing .bf16) := fun i v179 v374 v569 v764 v959 v1154 k0_hw6 k0_h1 => k0_hw6.2.1 k0_h1 (k0_off61_inb i v179 v374 v569 v764 v959 v1154 k0_hw6 k0_h1)
theorem k0_off62_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off62 v179 v374 v569 v764 v959 v1154) a + S1x128x128.size a ≤ S8x2304x128.size a := fun i v179 v374 v569 v764 v959 v1154 k0_hw6 k0_h1 => k0_hw6.2.2.1 k0_h1
theorem k0_off62_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off62 v179 v374 v569 v764 v959 v1154) S1x128x128.size (k0_off62_inb i v179 v374 v569 v764 v959 v1154 k0_hw6 k0_h1)).PackedRows (EltTy.packing .bf16) := fun i v179 v374 v569 v764 v959 v1154 k0_hw6 k0_h1 => k0_hw6.2.2.2.1 k0_h1 (k0_off62_inb i v179 v374 v569 v764 v959 v1154 k0_hw6 k0_h1)
theorem k0_off63_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off63 v179 v374 v569 v764 v959 v1154) a + S1x128x128.size a ≤ S8x2304x128.size a := fun i v179 v374 v569 v764 v959 v1154 k0_hw6 k0_h1 => k0_hw6.2.2.2.2.1 k0_h1
theorem k0_off63_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off63 v179 v374 v569 v764 v959 v1154) S1x128x128.size (k0_off63_inb i v179 v374 v569 v764 v959 v1154 k0_hw6 k0_h1)).PackedRows (EltTy.packing .bf16) := fun i v179 v374 v569 v764 v959 v1154 k0_hw6 k0_h1 => k0_hw6.2.2.2.2.2.1 k0_h1 (k0_off63_inb i v179 v374 v569 v764 v959 v1154 k0_hw6 k0_h1)
theorem k0_off64_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off64 v179 v374 v569 v764 v959 v1154) a + S1x128x128.size a ≤ S8x2304x128.size a := fun i v179 v374 v569 v764 v959 v1154 k0_hw6 k0_h1 => k0_hw6.2.2.2.2.2.2.1 k0_h1
theorem k0_off64_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off64 v179 v374 v569 v764 v959 v1154) S1x128x128.size (k0_off64_inb i v179 v374 v569 v764 v959 v1154 k0_hw6 k0_h1)).PackedRows (EltTy.packing .bf16) := fun i v179 v374 v569 v764 v959 v1154 k0_hw6 k0_h1 => k0_hw6.2.2.2.2.2.2.2.1 k0_h1 (k0_off64_inb i v179 v374 v569 v764 v959 v1154 k0_hw6 k0_h1)
theorem k0_off65_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off65 v179 v374 v569 v764 v959 v1154) a + S1x128x128.size a ≤ S8x2304x128.size a := fun i v179 v374 v569 v764 v959 v1154 k0_hw6 k0_h1 => k0_hw6.2.2.2.2.2.2.2.2.1 k0_h1
theorem k0_off65_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off65 v179 v374 v569 v764 v959 v1154) S1x128x128.size (k0_off65_inb i v179 v374 v569 v764 v959 v1154 k0_hw6 k0_h1)).PackedRows (EltTy.packing .bf16) := fun i v179 v374 v569 v764 v959 v1154 k0_hw6 k0_h1 => k0_hw6.2.2.2.2.2.2.2.2.2.1 k0_h1 (k0_off65_inb i v179 v374 v569 v764 v959 v1154 k0_hw6 k0_h1)
theorem k0_off66_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off66 v179 v374 v569 v764 v959 v1154) a + S1x128x128.size a ≤ S8x2304x128.size a := fun i v179 v374 v569 v764 v959 v1154 k0_hw6 k0_h1 => k0_hw6.2.2.2.2.2.2.2.2.2.2.1 k0_h1
theorem k0_off66_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off66 v179 v374 v569 v764 v959 v1154) S1x128x128.size (k0_off66_inb i v179 v374 v569 v764 v959 v1154 k0_hw6 k0_h1)).PackedRows (EltTy.packing .bf16) := fun i v179 v374 v569 v764 v959 v1154 k0_hw6 k0_h1 => k0_hw6.2.2.2.2.2.2.2.2.2.2.2.1 k0_h1 (k0_off66_inb i v179 v374 v569 v764 v959 v1154 k0_hw6 k0_h1)
theorem k0_off67_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off67 v179 v374 v569 v764 v959 v1154) a + S1x128x128.size a ≤ S8x2304x128.size a := fun i v179 v374 v569 v764 v959 v1154 k0_hw6 k0_h1 => k0_hw6.2.2.2.2.2.2.2.2.2.2.2.2.1 k0_h1
theorem k0_off67_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off67 v179 v374 v569 v764 v959 v1154) S1x128x128.size (k0_off67_inb i v179 v374 v569 v764 v959 v1154 k0_hw6 k0_h1)).PackedRows (EltTy.packing .bf16) := fun i v179 v374 v569 v764 v959 v1154 k0_hw6 k0_h1 => k0_hw6.2.2.2.2.2.2.2.2.2.2.2.2.2.1 k0_h1 (k0_off67_inb i v179 v374 v569 v764 v959 v1154 k0_hw6 k0_h1)
theorem k0_off68_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off68 v179 v374 v569 v764 v959 v1154) a + S1x128x128.size a ≤ S8x2304x128.size a := fun i v179 v374 v569 v764 v959 v1154 k0_hw6 k0_h1 => k0_hw6.2.2.2.2.2.2.2.2.2.2.2.2.2.2.1 k0_h1
theorem k0_off68_packedbf16 : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), (Rect.unit (s := S8x2304x128) (k0_off68 v179 v374 v569 v764 v959 v1154) S1x128x128.size (k0_off68_inb i v179 v374 v569 v764 v959 v1154 k0_hw6 k0_h1)).PackedRows (EltTy.packing .bf16) := fun i v179 v374 v569 v764 v959 v1154 k0_hw6 k0_h1 => k0_hw6.2.2.2.2.2.2.2.2.2.2.2.2.2.2.2.1 k0_h1 (k0_off68_inb i v179 v374 v569 v764 v959 v1154 k0_hw6 k0_h1)
theorem k0_off69_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off69 v179 v374 v569 v764 v959 v1154) a + S1x128.size a ≤ S18x128.size a := fun i v179 v374 v569 v764 v959 v1154 k0_hw6 k0_h1 => k0_hw6.2.2.2.2.2.2.2.2.2.2.2.2.2.2.2.2.1 k0_h1
theorem k0_off70_inb : ∀ (i : grid0.Coords) (v179 : BitVec 32) (v374 : BitVec 32) (v569 : BitVec 32) (v764 : BitVec 32) (v959 : BitVec 32) (v1154 : BitVec 32) (k0_hw6 : k0_chk6 i v179 v374 v569 v764 v959 v1154), ∀ (k0_h1 : k0_cond1 i = 1#1), ∀ a, (k0_off70 v179 v374 v569 v764 v959 v1154) a + S1x128.size a ≤ S18x128.size a := fun i v179 v374 v569 v764 v959 v1154 k0_hw6 k0_h1 => k0_hw6.2.2.2.2.2.2.2.2.2.2.2.2.2.2.2.2.2 k0_h1

def k0_off71 (v179 : BitVec 32) (v374 : BitVec 32) (v569 : BitVec 32) (v764 : BitVec 32) (v959 : BitVec 32) (v1154 : BitVec 32) (v1349 : BitVec 32) : Fin 3 → Nat :=
  let c0_860 : Index := 0#32
  let c2_i32_859 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1548 : BitVec 32 := Scalar.muli c2_i32_859 v1545
  let v1549 : Index := Scalar.indexCast v1548
  let c0_861 : Index := 0#32
  ![0, v1549.toNat, 0]

def k0_off72 (v179 : BitVec 32) (v374 : BitVec 32) (v569 : BitVec 32) (v764 : BitVec 32) (v959 : BitVec 32) (v1154 : BitVec 32) (v1349 : BitVec 32) : Fin 3 → Nat :=
  let c1_870 : Index := 1#32
  let c2_i32_869 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1563 : BitVec 32 := Scalar.muli c2_i32_869 v1545
  let v1564 : Index := Scalar.indexCast v1563
  let c0_871 : Index := 0#32
  ![1, v1564.toNat, 0]
def k0_off73 (v179 : BitVec 32) (v374 : BitVec 32) (v569 : BitVec 32) (v764 : BitVec 32) (v959 : BitVec 32) (v1154 : BitVec 32) (v1349 : BitVec 32) : Fin 3 → Nat :=
  let c2_880 : Index := 2#32
  let c2_i32_879 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1578 : BitVec 32 := Scalar.muli c2_i32_879 v1545
  let v1579 : Index := Scalar.indexCast v1578
  let c0_881 : Index := 0#32
  ![2, v1579.toNat, 0]
def k0_off74 (v179 : BitVec 32) (v374 : BitVec 32) (v569 : BitVec 32) (v764 : BitVec 32) (v959 : BitVec 32) (v1154 : BitVec 32) (v1349 : BitVec 32) : Fin 3 → Nat :=
  let c3_890 : Index := 3#32
  let c2_i32_889 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1593 : BitVec 32 := Scalar.muli c2_i32_889 v1545
  let v1594 : Index := Scalar.indexCast v1593
  let c0_891 : Index := 0#32
  ![3, v1594.toNat, 0]
def k0_off75 (v179 : BitVec 32) (v374 : BitVec 32) (v569 : BitVec 32) (v764 : BitVec 32) (v959 : BitVec 32) (v1154 : BitVec 32) (v1349 : BitVec 32) : Fin 3 → Nat :=
  let c4_900 : Index := 4#32
  let c2_i32_899 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1608 : BitVec 32 := Scalar.muli c2_i32_899 v1545
  let v1609 : Index := Scalar.indexCast v1608
  let c0_901 : Index := 0#32
  ![4, v1609.toNat, 0]
def k0_off76 (v179 : BitVec 32) (v374 : BitVec 32) (v569 : BitVec 32) (v764 : BitVec 32) (v959 : BitVec 32) (v1154 : BitVec 32) (v1349 : BitVec 32) : Fin 3 → Nat :=
  let c5_910 : Index := 5#32
  let c2_i32_909 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1623 : BitVec 32 := Scalar.muli c2_i32_909 v1545
  let v1624 : Index := Scalar.indexCast v1623
  let c0_911 : Index := 0#32
  ![5, v1624.toNat, 0]
def k0_off77 (v179 : BitVec 32) (v374 : BitVec 32) (v569 : BitVec 32) (v764 : BitVec 32) (v959 : BitVec 32) (v1154 : BitVec 32) (v1349 : BitVec 32) : Fin 3 → Nat :=
  let c6_920 : Index := 6#32
  let c2_i32_919 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1638 : BitVec 32 := Scalar.muli c2_i32_919 v1545
  let v1639 : Index := Scalar.indexCast v1638
  let c0_921 : Index := 0#32
  ![6, v1639.toNat, 0]
def k0_off78 (v179 : BitVec 32) (v374 : BitVec 32) (v569 : BitVec 32) (v764 : BitVec 32) (v959 : BitVec 32) (v1154 : BitVec 32) (v1349 : BitVec 32) : Fin 3 → Nat :=
  let c7_930 : Index := 7#32
  let c2_i32_929 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c1_i32_856 : BitVec 32 := 1#32
  let v1545 : BitVec 32 := Scalar.shrui v1543 c1_i32_856
  let v1653 : BitVec 32 := Scalar.muli c2_i32_929 v1545
  let v1654 : Index := Scalar.indexCast v1653
  let c0_931 : Index := 0#32
  ![7, v1654.toNat, 0]
def k0_off79 (v179 : BitVec 32) (v374 : BitVec 32) (v569 : BitVec 32) (v764 : BitVec 32) (v959 : BitVec 32) (v1154 : BitVec 32) (v1349 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c0_i32_944 : BitVec 32 := 0#32
  let v1677 : BitVec 1 := Scalar.cmpi .sgt v1543 c0_i32_944
  let v1678 : BitVec 32 := Scalar.extui v1677
  let c0_i32_945 : BitVec 32 := 0#32
  let v1679 : BitVec 1 := Scalar.cmpi .slt v1543 c0_i32_945
  let v1680 : BitVec 32 := Scalar.extui v1679
  let v1681 : BitVec 32 := Scalar.subi v1678 v1680
  let c128_i32_943 : BitVec 32 := 128#32
  let c0_i32_946 : BitVec 32 := 0#32
  let v1682 : BitVec 1 := Scalar.cmpi .sgt c128_i32_943 c0_i32_946
  let v1683 : BitVec 32 := Scalar.extui v1682
  let c0_i32_947 : BitVec 32 := 0#32
  let v1684 : BitVec 1 := Scalar.cmpi .slt c128_i32_943 c0_i32_947
  let v1685 : BitVec 32 := Scalar.extui v1684
  let v1686 : BitVec 32 := Scalar.subi v1683 v1685
  let v1687 : BitVec 1 := Scalar.cmpi .ne v1681 v1686
  let v1688 : BitVec 32 := Scalar.remsi v1543 c128_i32_943
  let c0_i32_948 : BitVec 32 := 0#32
  let v1689 : BitVec 1 := Scalar.cmpi .ne v1688 c0_i32_948
  let v1690 : BitVec 1 := Scalar.andi v1687 v1689
  let v1676 : BitVec 32 := Scalar.divsi v1543 c128_i32_943
  let c1_i32_949 : BitVec 32 := 1#32
  let v1691 : BitVec 32 := Scalar.subi v1676 c1_i32_949
  let v1692 : BitVec 32 := Scalar.select v1690 v1691 v1676
  let v1706 : Index := Scalar.indexCast v1692
  let c0_954 : Index := 0#32
  ![v1706.toNat, 0]
def k0_off80 (v179 : BitVec 32) (v374 : BitVec 32) (v569 : BitVec 32) (v764 : BitVec 32) (v959 : BitVec 32) (v1154 : BitVec 32) (v1349 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let c0_i32_944 : BitVec 32 := 0#32
  let v1677 : BitVec 1 := Scalar.cmpi .sgt v1543 c0_i32_944
  let v1678 : BitVec 32 := Scalar.extui v1677
  let c0_i32_945 : BitVec 32 := 0#32
  let v1679 : BitVec 1 := Scalar.cmpi .slt v1543 c0_i32_945
  let v1680 : BitVec 32 := Scalar.extui v1679
  let v1681 : BitVec 32 := Scalar.subi v1678 v1680
  let c128_i32_943 : BitVec 32 := 128#32
  let c0_i32_946 : BitVec 32 := 0#32
  let v1682 : BitVec 1 := Scalar.cmpi .sgt c128_i32_943 c0_i32_946
  let v1683 : BitVec 32 := Scalar.extui v1682
  let c0_i32_947 : BitVec 32 := 0#32
  let v1684 : BitVec 1 := Scalar.cmpi .slt c128_i32_943 c0_i32_947
  let v1685 : BitVec 32 := Scalar.extui v1684
  let v1686 : BitVec 32 := Scalar.subi v1683 v1685
  let v1687 : BitVec 1 := Scalar.cmpi .ne v1681 v1686
  let v1688 : BitVec 32 := Scalar.remsi v1543 c128_i32_943
  let c0_i32_948 : BitVec 32 := 0#32
  let v1689 : BitVec 1 := Scalar.cmpi .ne v1688 c0_i32_948
  let v1690 : BitVec 1 := Scalar.andi v1687 v1689
  let v1676 : BitVec 32 := Scalar.divsi v1543 c128_i32_943
  let c1_i32_949 : BitVec 32 := 1#32
  let v1691 : BitVec 32 := Scalar.subi v1676 c1_i32_949
  let v1692 : BitVec 32 := Scalar.select v1690 v1691 v1676
  let c1_i32_953 : BitVec 32 := 1#32
  let v1705 : BitVec 32 := Scalar.addi v1692 c1_i32_953
  let v1721 : Index := Scalar.indexCast v1705
  let c0_959 : Index := 0#32
  ![v1721.toNat, 0]

def k0_chk7 (i : grid0.Coords) (v179 : BitVec 32) (v374 : BitVec 32) (v569 : BitVec 32) (v764 : BitVec 32) (v959 : BitVec 32) (v1154 : BitVec 32) (v1349 : BitVec 32) : Prop :=
  (∀ (k0_h1 : k0_cond1 i = 1#1), ∀ a, (k0_off71 v179 v374 v569 v764 v959 v1154 v1349) a + S1x128x128.size a ≤ S8x2304x128.size a) ∧
  (∀ (k0_h1 : k0_cond1 i = 1#1), ∀ (hinb : ∀ a, (k0_off71 v179 v374 v569 v764 v959 v1154 v1349) a + S1x128x128.size a ≤ S8x2304x128.size a), (Rect.unit (s := S8x2304x128) (k0_off71 v179 v374 v569 v764 v959 v1154 v1349) S1x128x128.size hinb).PackedRows (EltTy.packing .bf16)) ∧
  (∀ (k0_h1 : k0_cond1 i = 1#1), ∀ a, (k0_off72 v179 v374 v569 v764 v959 v1154 v1349) a + S1x128x128.size a ≤ S8x2304x128.size a) ∧
  (∀ (k0_h1 : k0_cond1 i = 1#1), ∀ (hinb : ∀ a, (k0_off72 v179 v374 v569 v764 v959 v1154 v1349) a + S1x128x128.size a ≤ S8x2304x128.size a), (Rect.unit (s := S8x2304x128) (k0_off72 v179 v374 v569 v764 v959 v1154 v1349) S1x128x128.size hinb).PackedRows (EltTy.packing .bf16)) ∧
  (∀ (k0_h1 : k0_cond1 i = 1#1), ∀ a, (k0_off73 v179 v374 v569 v764 v959 v1154 v1349) a + S1x128x128.size a ≤ S8x2304x128.size a) ∧
  (∀ (k0_h1 : k0_cond1 i = 1#1), ∀ (hinb : ∀ a, (k0_off73 v179 v374 v569 v764 v959 v1154 v1349) a + S1x128x128.size a ≤ S8x2304x128.size a), (Rect.unit (s := S8x2304x128) (k0_off73 v179 v374 v569 v764 v959 v1154 v1349) S1x128x128.size hinb).PackedRows (EltTy.packing .bf16)) ∧
  (∀ (k0_h1 : k0_cond1 i = 1#1), ∀ a, (k0_off74 v179 v374 v569 v764 v959 v1154 v1349) a + S1x128x128.size a ≤ S8x2304x128.size a) ∧
  (∀ (k0_h1 : k0_cond1 i = 1#1), ∀ (hinb : ∀ a, (k0_off74 v179 v374 v569 v764 v959 v1154 v1349) a + S1x128x128.size a ≤ S8x2304x128.size a), (Rect.unit (s := S8x2304x128) (k0_off74 v179 v374 v569 v764 v959 v1154 v1349) S1x128x128.size hinb).PackedRows (EltTy.packing .bf16)) ∧
  (∀ (k0_h1 : k0_cond1 i = 1#1), ∀ a, (k0_off75 v179 v374 v569 v764 v959 v1154 v1349) a + S1x128x128.size a ≤ S8x2304x128.size a) ∧
  (∀ (k0_h1 : k0_cond1 i = 1#1), ∀ (hinb : ∀ a, (k0_off75 v179 v374 v569 v764 v959 v1154 v1349) a + S1x128x128.size a ≤ S8x2304x128.size a), (Rect.unit (s := S8x2304x128) (k0_off75 v179 v374 v569 v764 v959 v1154 v1349) S1x128x128.size hinb).PackedRows (EltTy.packing .bf16)) ∧
  (∀ (k0_h1 : k0_cond1 i = 1#1), ∀ a, (k0_off76 v179 v374 v569 v764 v959 v1154 v1349) a + S1x128x128.size a ≤ S8x2304x128.size a) ∧
  (∀ (k0_h1 : k0_cond1 i = 1#1), ∀ (hinb : ∀ a, (k0_off76 v179 v374 v569 v764 v959 v1154 v1349) a + S1x128x128.size a ≤ S8x2304x128.size a), (Rect.unit (s := S8x2304x128) (k0_off76 v179 v374 v569 v764 v959 v1154 v1349) S1x128x128.size hinb).PackedRows (EltTy.packing .bf16)) ∧
  (∀ (k0_h1 : k0_cond1 i = 1#1), ∀ a, (k0_off77 v179 v374 v569 v764 v959 v1154 v1349) a + S1x128x128.size a ≤ S8x2304x128.size a) ∧
  (∀ (k0_h1 : k0_cond1 i = 1#1), ∀ (hinb : ∀ a, (k0_off77 v179 v374 v569 v764 v959 v1154 v1349) a + S1x128x128.size a ≤ S8x2304x128.size a), (Rect.unit (s := S8x2304x128) (k0_off77 v179 v374 v569 v764 v959 v1154 v1349) S1x128x128.size hinb).PackedRows (EltTy.packing .bf16)) ∧
  (∀ (k0_h1 : k0_cond1 i = 1#1), ∀ a, (k0_off78 v179 v374 v569 v764 v959 v1154 v1349) a + S1x128x128.size a ≤ S8x2304x128.size a) ∧
  (∀ (k0_h1 : k0_cond1 i = 1#1), ∀ (hinb : ∀ a, (k0_off78 v179 v374 v569 v764 v959 v1154 v1349) a + S1x128x128.size a ≤ S8x2304x128.size a), (Rect.unit (s := S8x2304x128) (k0_off78 v179 v374 v569 v764 v959 v1154 v1349) S1x128x128.size hinb).PackedRows (EltTy.packing .bf16)) ∧
  (∀ (k0_h1 : k0_cond1 i = 1#1), ∀ a, (k0_off79 v179 v374 v569 v764 v959 v1154 v1349) a + S1x128.size a ≤ S18x128.size a) ∧
  (∀ (k0_h1 : k0_cond1 i = 1#1), ∀ a, (k0_off80 v179 v374 v569 v764 v959 v1154 v1349) a + S1x128.size a ≤ S18x128.size a)
theorem k0_off71_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off71 v179 v374 v569 v764 v959 v1154 v1349) a + S1x128x128.size a ≤ S8x2304x128.size a := fun i v179 v374 v569 v764 v959 v1154 v1349 k0_hw7 k0_h1 => k0_hw7.1 k0_h1
theorem k0_off71_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off71 v179 v374 v569 v764 v959 v1154 v1349) S1x128x128.size (k0_off71_inb i v179 v374 v569 v764 v959 v1154 v1349 k0_hw7 k0_h1)).PackedRows (EltTy.packing .bf16) := fun i v179 v374 v569 v764 v959 v1154 v1349 k0_hw7 k0_h1 => k0_hw7.2.1 k0_h1 (k0_off71_inb i v179 v374 v569 v764 v959 v1154 v1349 k0_hw7 k0_h1)
theorem k0_off72_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off72 v179 v374 v569 v764 v959 v1154 v1349) a + S1x128x128.size a ≤ S8x2304x128.size a := fun i v179 v374 v569 v764 v959 v1154 v1349 k0_hw7 k0_h1 => k0_hw7.2.2.1 k0_h1
theorem k0_off72_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off72 v179 v374 v569 v764 v959 v1154 v1349) S1x128x128.size (k0_off72_inb i v179 v374 v569 v764 v959 v1154 v1349 k0_hw7 k0_h1)).PackedRows (EltTy.packing .bf16) := fun i v179 v374 v569 v764 v959 v1154 v1349 k0_hw7 k0_h1 => k0_hw7.2.2.2.1 k0_h1 (k0_off72_inb i v179 v374 v569 v764 v959 v1154 v1349 k0_hw7 k0_h1)
theorem k0_off73_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off73 v179 v374 v569 v764 v959 v1154 v1349) a + S1x128x128.size a ≤ S8x2304x128.size a := fun i v179 v374 v569 v764 v959 v1154 v1349 k0_hw7 k0_h1 => k0_hw7.2.2.2.2.1 k0_h1
theorem k0_off73_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off73 v179 v374 v569 v764 v959 v1154 v1349) S1x128x128.size (k0_off73_inb i v179 v374 v569 v764 v959 v1154 v1349 k0_hw7 k0_h1)).PackedRows (EltTy.packing .bf16) := fun i v179 v374 v569 v764 v959 v1154 v1349 k0_hw7 k0_h1 => k0_hw7.2.2.2.2.2.1 k0_h1 (k0_off73_inb i v179 v374 v569 v764 v959 v1154 v1349 k0_hw7 k0_h1)
theorem k0_off74_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off74 v179 v374 v569 v764 v959 v1154 v1349) a + S1x128x128.size a ≤ S8x2304x128.size a := fun i v179 v374 v569 v764 v959 v1154 v1349 k0_hw7 k0_h1 => k0_hw7.2.2.2.2.2.2.1 k0_h1
theorem k0_off74_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off74 v179 v374 v569 v764 v959 v1154 v1349) S1x128x128.size (k0_off74_inb i v179 v374 v569 v764 v959 v1154 v1349 k0_hw7 k0_h1)).PackedRows (EltTy.packing .bf16) := fun i v179 v374 v569 v764 v959 v1154 v1349 k0_hw7 k0_h1 => k0_hw7.2.2.2.2.2.2.2.1 k0_h1 (k0_off74_inb i v179 v374 v569 v764 v959 v1154 v1349 k0_hw7 k0_h1)
theorem k0_off75_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off75 v179 v374 v569 v764 v959 v1154 v1349) a + S1x128x128.size a ≤ S8x2304x128.size a := fun i v179 v374 v569 v764 v959 v1154 v1349 k0_hw7 k0_h1 => k0_hw7.2.2.2.2.2.2.2.2.1 k0_h1
theorem k0_off75_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off75 v179 v374 v569 v764 v959 v1154 v1349) S1x128x128.size (k0_off75_inb i v179 v374 v569 v764 v959 v1154 v1349 k0_hw7 k0_h1)).PackedRows (EltTy.packing .bf16) := fun i v179 v374 v569 v764 v959 v1154 v1349 k0_hw7 k0_h1 => k0_hw7.2.2.2.2.2.2.2.2.2.1 k0_h1 (k0_off75_inb i v179 v374 v569 v764 v959 v1154 v1349 k0_hw7 k0_h1)
theorem k0_off76_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off76 v179 v374 v569 v764 v959 v1154 v1349) a + S1x128x128.size a ≤ S8x2304x128.size a := fun i v179 v374 v569 v764 v959 v1154 v1349 k0_hw7 k0_h1 => k0_hw7.2.2.2.2.2.2.2.2.2.2.1 k0_h1
theorem k0_off76_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off76 v179 v374 v569 v764 v959 v1154 v1349) S1x128x128.size (k0_off76_inb i v179 v374 v569 v764 v959 v1154 v1349 k0_hw7 k0_h1)).PackedRows (EltTy.packing .bf16) := fun i v179 v374 v569 v764 v959 v1154 v1349 k0_hw7 k0_h1 => k0_hw7.2.2.2.2.2.2.2.2.2.2.2.1 k0_h1 (k0_off76_inb i v179 v374 v569 v764 v959 v1154 v1349 k0_hw7 k0_h1)
theorem k0_off77_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off77 v179 v374 v569 v764 v959 v1154 v1349) a + S1x128x128.size a ≤ S8x2304x128.size a := fun i v179 v374 v569 v764 v959 v1154 v1349 k0_hw7 k0_h1 => k0_hw7.2.2.2.2.2.2.2.2.2.2.2.2.1 k0_h1
theorem k0_off77_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off77 v179 v374 v569 v764 v959 v1154 v1349) S1x128x128.size (k0_off77_inb i v179 v374 v569 v764 v959 v1154 v1349 k0_hw7 k0_h1)).PackedRows (EltTy.packing .bf16) := fun i v179 v374 v569 v764 v959 v1154 v1349 k0_hw7 k0_h1 => k0_hw7.2.2.2.2.2.2.2.2.2.2.2.2.2.1 k0_h1 (k0_off77_inb i v179 v374 v569 v764 v959 v1154 v1349 k0_hw7 k0_h1)
theorem k0_off78_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off78 v179 v374 v569 v764 v959 v1154 v1349) a + S1x128x128.size a ≤ S8x2304x128.size a := fun i v179 v374 v569 v764 v959 v1154 v1349 k0_hw7 k0_h1 => k0_hw7.2.2.2.2.2.2.2.2.2.2.2.2.2.2.1 k0_h1
theorem k0_off78_packedbf16 : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), (Rect.unit (s := S8x2304x128) (k0_off78 v179 v374 v569 v764 v959 v1154 v1349) S1x128x128.size (k0_off78_inb i v179 v374 v569 v764 v959 v1154 v1349 k0_hw7 k0_h1)).PackedRows (EltTy.packing .bf16) := fun i v179 v374 v569 v764 v959 v1154 v1349 k0_hw7 k0_h1 => k0_hw7.2.2.2.2.2.2.2.2.2.2.2.2.2.2.2.1 k0_h1 (k0_off78_inb i v179 v374 v569 v764 v959 v1154 v1349 k0_hw7 k0_h1)
theorem k0_off79_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off79 v179 v374 v569 v764 v959 v1154 v1349) a + S1x128.size a ≤ S18x128.size a := fun i v179 v374 v569 v764 v959 v1154 v1349 k0_hw7 k0_h1 => k0_hw7.2.2.2.2.2.2.2.2.2.2.2.2.2.2.2.2.1 k0_h1
theorem k0_off80_inb : ∀ (i : grid0.Coords) (v179 : BitVec 32) (v374 : BitVec 32) (v569 : BitVec 32) (v764 : BitVec 32) (v959 : BitVec 32) (v1154 : BitVec 32) (v1349 : BitVec 32) (k0_hw7 : k0_chk7 i v179 v374 v569 v764 v959 v1154 v1349), ∀ (k0_h1 : k0_cond1 i = 1#1), ∀ a, (k0_off80 v179 v374 v569 v764 v959 v1154 v1349) a + S1x128.size a ≤ S18x128.size a := fun i v179 v374 v569 v764 v959 v1154 v1349 k0_hw7 k0_h1 => k0_hw7.2.2.2.2.2.2.2.2.2.2.2.2.2.2.2.2.2 k0_h1

def k0_off81 (v179 : BitVec 32) (v374 : BitVec 32) (v569 : BitVec 32) (v764 : BitVec 32) (v959 : BitVec 32) (v1154 : BitVec 32) (v1349 : BitVec 32) (v1544 : BitVec 32) : Fin 3 → Nat :=
  let c0_969 : Index := 0#32
  let c2_i32_968 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1743 : BitVec 32 := Scalar.muli c2_i32_968 v1740
  let v1744 : Index := Scalar.indexCast v1743
  let c0_970 : Index := 0#32
  ![0, v1744.toNat, 0]

def k0_off82 (v179 : BitVec 32) (v374 : BitVec 32) (v569 : BitVec 32) (v764 : BitVec 32) (v959 : BitVec 32) (v1154 : BitVec 32) (v1349 : BitVec 32) (v1544 : BitVec 32) : Fin 3 → Nat :=
  let c1_979 : Index := 1#32
  let c2_i32_978 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1758 : BitVec 32 := Scalar.muli c2_i32_978 v1740
  let v1759 : Index := Scalar.indexCast v1758
  let c0_980 : Index := 0#32
  ![1, v1759.toNat, 0]
def k0_off83 (v179 : BitVec 32) (v374 : BitVec 32) (v569 : BitVec 32) (v764 : BitVec 32) (v959 : BitVec 32) (v1154 : BitVec 32) (v1349 : BitVec 32) (v1544 : BitVec 32) : Fin 3 → Nat :=
  let c2_989 : Index := 2#32
  let c2_i32_988 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1773 : BitVec 32 := Scalar.muli c2_i32_988 v1740
  let v1774 : Index := Scalar.indexCast v1773
  let c0_990 : Index := 0#32
  ![2, v1774.toNat, 0]
def k0_off84 (v179 : BitVec 32) (v374 : BitVec 32) (v569 : BitVec 32) (v764 : BitVec 32) (v959 : BitVec 32) (v1154 : BitVec 32) (v1349 : BitVec 32) (v1544 : BitVec 32) : Fin 3 → Nat :=
  let c3_999 : Index := 3#32
  let c2_i32_998 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1788 : BitVec 32 := Scalar.muli c2_i32_998 v1740
  let v1789 : Index := Scalar.indexCast v1788
  let c0_1000 : Index := 0#32
  ![3, v1789.toNat, 0]
def k0_off85 (v179 : BitVec 32) (v374 : BitVec 32) (v569 : BitVec 32) (v764 : BitVec 32) (v959 : BitVec 32) (v1154 : BitVec 32) (v1349 : BitVec 32) (v1544 : BitVec 32) : Fin 3 → Nat :=
  let c4_1009 : Index := 4#32
  let c2_i32_1008 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1803 : BitVec 32 := Scalar.muli c2_i32_1008 v1740
  let v1804 : Index := Scalar.indexCast v1803
  let c0_1010 : Index := 0#32
  ![4, v1804.toNat, 0]
def k0_off86 (v179 : BitVec 32) (v374 : BitVec 32) (v569 : BitVec 32) (v764 : BitVec 32) (v959 : BitVec 32) (v1154 : BitVec 32) (v1349 : BitVec 32) (v1544 : BitVec 32) : Fin 3 → Nat :=
  let c5_1019 : Index := 5#32
  let c2_i32_1018 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1818 : BitVec 32 := Scalar.muli c2_i32_1018 v1740
  let v1819 : Index := Scalar.indexCast v1818
  let c0_1020 : Index := 0#32
  ![5, v1819.toNat, 0]
def k0_off87 (v179 : BitVec 32) (v374 : BitVec 32) (v569 : BitVec 32) (v764 : BitVec 32) (v959 : BitVec 32) (v1154 : BitVec 32) (v1349 : BitVec 32) (v1544 : BitVec 32) : Fin 3 → Nat :=
  let c6_1029 : Index := 6#32
  let c2_i32_1028 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1833 : BitVec 32 := Scalar.muli c2_i32_1028 v1740
  let v1834 : Index := Scalar.indexCast v1833
  let c0_1030 : Index := 0#32
  ![6, v1834.toNat, 0]
def k0_off88 (v179 : BitVec 32) (v374 : BitVec 32) (v569 : BitVec 32) (v764 : BitVec 32) (v959 : BitVec 32) (v1154 : BitVec 32) (v1349 : BitVec 32) (v1544 : BitVec 32) : Fin 3 → Nat :=
  let c7_1039 : Index := 7#32
  let c2_i32_1038 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c1_i32_966 : BitVec 32 := 1#32
  let v1740 : BitVec 32 := Scalar.shrui v1738 c1_i32_966
  let v1848 : BitVec 32 := Scalar.muli c2_i32_1038 v1740
  let v1849 : Index := Scalar.indexCast v1848
  let c0_1040 : Index := 0#32
  ![7, v1849.toNat, 0]
def k0_off89 (v179 : BitVec 32) (v374 : BitVec 32) (v569 : BitVec 32) (v764 : BitVec 32) (v959 : BitVec 32) (v1154 : BitVec 32) (v1349 : BitVec 32) (v1544 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c0_i32_1053 : BitVec 32 := 0#32
  let v1872 : BitVec 1 := Scalar.cmpi .sgt v1738 c0_i32_1053
  let v1873 : BitVec 32 := Scalar.extui v1872
  let c0_i32_1054 : BitVec 32 := 0#32
  let v1874 : BitVec 1 := Scalar.cmpi .slt v1738 c0_i32_1054
  let v1875 : BitVec 32 := Scalar.extui v1874
  let v1876 : BitVec 32 := Scalar.subi v1873 v1875
  let c128_i32_1052 : BitVec 32 := 128#32
  let c0_i32_1055 : BitVec 32 := 0#32
  let v1877 : BitVec 1 := Scalar.cmpi .sgt c128_i32_1052 c0_i32_1055
  let v1878 : BitVec 32 := Scalar.extui v1877
  let c0_i32_1056 : BitVec 32 := 0#32
  let v1879 : BitVec 1 := Scalar.cmpi .slt c128_i32_1052 c0_i32_1056
  let v1880 : BitVec 32 := Scalar.extui v1879
  let v1881 : BitVec 32 := Scalar.subi v1878 v1880
  let v1882 : BitVec 1 := Scalar.cmpi .ne v1876 v1881
  let v1883 : BitVec 32 := Scalar.remsi v1738 c128_i32_1052
  let c0_i32_1057 : BitVec 32 := 0#32
  let v1884 : BitVec 1 := Scalar.cmpi .ne v1883 c0_i32_1057
  let v1885 : BitVec 1 := Scalar.andi v1882 v1884
  let v1871 : BitVec 32 := Scalar.divsi v1738 c128_i32_1052
  let c1_i32_1058 : BitVec 32 := 1#32
  let v1886 : BitVec 32 := Scalar.subi v1871 c1_i32_1058
  let v1887 : BitVec 32 := Scalar.select v1885 v1886 v1871
  let v1901 : Index := Scalar.indexCast v1887
  let c0_1063 : Index := 0#32
  ![v1901.toNat, 0]
def k0_off90 (v179 : BitVec 32) (v374 : BitVec 32) (v569 : BitVec 32) (v764 : BitVec 32) (v959 : BitVec 32) (v1154 : BitVec 32) (v1349 : BitVec 32) (v1544 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let c0_i32_1053 : BitVec 32 := 0#32
  let v1872 : BitVec 1 := Scalar.cmpi .sgt v1738 c0_i32_1053
  let v1873 : BitVec 32 := Scalar.extui v1872
  let c0_i32_1054 : BitVec 32 := 0#32
  let v1874 : BitVec 1 := Scalar.cmpi .slt v1738 c0_i32_1054
  let v1875 : BitVec 32 := Scalar.extui v1874
  let v1876 : BitVec 32 := Scalar.subi v1873 v1875
  let c128_i32_1052 : BitVec 32 := 128#32
  let c0_i32_1055 : BitVec 32 := 0#32
  let v1877 : BitVec 1 := Scalar.cmpi .sgt c128_i32_1052 c0_i32_1055
  let v1878 : BitVec 32 := Scalar.extui v1877
  let c0_i32_1056 : BitVec 32 := 0#32
  let v1879 : BitVec 1 := Scalar.cmpi .slt c128_i32_1052 c0_i32_1056
  let v1880 : BitVec 32 := Scalar.extui v1879
  let v1881 : BitVec 32 := Scalar.subi v1878 v1880
  let v1882 : BitVec 1 := Scalar.cmpi .ne v1876 v1881
  let v1883 : BitVec 32 := Scalar.remsi v1738 c128_i32_1052
  let c0_i32_1057 : BitVec 32 := 0#32
  let v1884 : BitVec 1 := Scalar.cmpi .ne v1883 c0_i32_1057
  let v1885 : BitVec 1 := Scalar.andi v1882 v1884
  let v1871 : BitVec 32 := Scalar.divsi v1738 c128_i32_1052
  let c1_i32_1058 : BitVec 32 := 1#32
  let v1886 : BitVec 32 := Scalar.subi v1871 c1_i32_1058
  let v1887 : BitVec 32 := Scalar.select v1885 v1886 v1871
  let c1_i32_1062 : BitVec 32 := 1#32
  let v1900 : BitVec 32 := Scalar.addi v1887 c1_i32_1062
  let v1916 : Index := Scalar.indexCast v1900
  let c0_1068 : Index := 0#32
  ![v1916.toNat, 0]

def k0_chk8 (i : grid0.Coords) (v179 : BitVec 32) (v374 : BitVec 32) (v569 : BitVec 32) (v764 : BitVec 32) (v959 : BitVec 32) (v1154 : BitVec 32) (v1349 : BitVec 32) (v1544 : BitVec 32) : Prop :=
  (∀ (k0_h1 : k0_cond1 i = 1#1), ∀ a, (k0_off81 v179 v374 v569 v764 v959 v1154 v1349 v1544) a + S1x128x128.size a ≤ S8x2304x128.size a) ∧
  (∀ (k0_h1 : k0_cond1 i = 1#1), ∀ (hinb : ∀ a, (k0_off81 v179 v374 v569 v764 v959 v1154 v1349 v1544) a + S1x128x128.size a ≤ S8x2304x128.size a), (Rect.unit (s := S8x2304x128) (k0_off81 v179 v374 v569 v764 v959 v1154 v1349 v1544) S1x128x128.size hinb).PackedRows (EltTy.packing .bf16)) ∧
  (∀ (k0_h1 : k0_cond1 i = 1#1), ∀ a, (k0_off82 v179 v374 v569 v764 v959 v1154 v1349 v1544) a + S1x128x128.size a ≤ S8x2304x128.size a) ∧
  (∀ (k0_h1 : k0_cond1 i = 1#1), ∀ (hinb : ∀ a, (k0_off82 v179 v374 v569 v764 v959 v1154 v1349 v1544) a + S1x128x128.size a ≤ S8x2304x128.size a), (Rect.unit (s := S8x2304x128) (k0_off82 v179 v374 v569 v764 v959 v1154 v1349 v1544) S1x128x128.size hinb).PackedRows (EltTy.packing .bf16)) ∧
  (∀ (k0_h1 : k0_cond1 i = 1#1), ∀ a, (k0_off83 v179 v374 v569 v764 v959 v1154 v1349 v1544) a + S1x128x128.size a ≤ S8x2304x128.size a) ∧
  (∀ (k0_h1 : k0_cond1 i = 1#1), ∀ (hinb : ∀ a, (k0_off83 v179 v374 v569 v764 v959 v1154 v1349 v1544) a + S1x128x128.size a ≤ S8x2304x128.size a), (Rect.unit (s := S8x2304x128) (k0_off83 v179 v374 v569 v764 v959 v1154 v1349 v1544) S1x128x128.size hinb).PackedRows (EltTy.packing .bf16)) ∧
  (∀ (k0_h1 : k0_cond1 i = 1#1), ∀ a, (k0_off84 v179 v374 v569 v764 v959 v1154 v1349 v1544) a + S1x128x128.size a ≤ S8x2304x128.size a) ∧
  (∀ (k0_h1 : k0_cond1 i = 1#1), ∀ (hinb : ∀ a, (k0_off84 v179 v374 v569 v764 v959 v1154 v1349 v1544) a + S1x128x128.size a ≤ S8x2304x128.size a), (Rect.unit (s := S8x2304x128) (k0_off84 v179 v374 v569 v764 v959 v1154 v1349 v1544) S1x128x128.size hinb).PackedRows (EltTy.packing .bf16)) ∧
  (∀ (k0_h1 : k0_cond1 i = 1#1), ∀ a, (k0_off85 v179 v374 v569 v764 v959 v1154 v1349 v1544) a + S1x128x128.size a ≤ S8x2304x128.size a) ∧
  (∀ (k0_h1 : k0_cond1 i = 1#1), ∀ (hinb : ∀ a, (k0_off85 v179 v374 v569 v764 v959 v1154 v1349 v1544) a + S1x128x128.size a ≤ S8x2304x128.size a), (Rect.unit (s := S8x2304x128) (k0_off85 v179 v374 v569 v764 v959 v1154 v1349 v1544) S1x128x128.size hinb).PackedRows (EltTy.packing .bf16)) ∧
  (∀ (k0_h1 : k0_cond1 i = 1#1), ∀ a, (k0_off86 v179 v374 v569 v764 v959 v1154 v1349 v1544) a + S1x128x128.size a ≤ S8x2304x128.size a) ∧
  (∀ (k0_h1 : k0_cond1 i = 1#1), ∀ (hinb : ∀ a, (k0_off86 v179 v374 v569 v764 v959 v1154 v1349 v1544) a + S1x128x128.size a ≤ S8x2304x128.size a), (Rect.unit (s := S8x2304x128) (k0_off86 v179 v374 v569 v764 v959 v1154 v1349 v1544) S1x128x128.size hinb).PackedRows (EltTy.packing .bf16)) ∧
  (∀ (k0_h1 : k0_cond1 i = 1#1), ∀ a, (k0_off87 v179 v374 v569 v764 v959 v1154 v1349 v1544) a + S1x128x128.size a ≤ S8x2304x128.size a) ∧
  (∀ (k0_h1 : k0_cond1 i = 1#1), ∀ (hinb : ∀ a, (k0_off87 v179 v374 v569 v764 v959 v1154 v1349 v1544) a + S1x128x128.size a ≤ S8x2304x128.size a), (Rect.unit (s := S8x2304x128) (k0_off87 v179 v374 v569 v764 v959 v1154 v1349 v1544) S1x128x128.size hinb).PackedRows (EltTy.packing .bf16)) ∧
  (∀ (k0_h1 : k0_cond1 i = 1#1), ∀ a, (k0_off88 v179 v374 v569 v764 v959 v1154 v1349 v1544) a + S1x128x128.size a ≤ S8x2304x128.size a) ∧
  (∀ (k0_h1 : k0_cond1 i = 1#1), ∀ (hinb : ∀ a, (k0_off88 v179 v374 v569 v764 v959 v1154 v1349 v1544) a + S1x128x128.size a ≤ S8x2304x128.size a), (Rect.unit (s := S8x2304x128) (k0_off88 v179 v374 v569 v764 v959 v1154 v1349 v1544) S1x128x128.size hinb).PackedRows (EltTy.packing .bf16)) ∧
  (∀ (k0_h1 : k0_cond1 i = 1#1), ∀ a, (k0_off89 v179 v374 v569 v764 v959 v1154 v1349 v1544) a + S1x128.size a ≤ S18x128.size a) ∧
  (∀ (k0_h1 : k0_cond1 i = 1#1), ∀ a, (k0_off90 v179 v374 v569 v764 v959 v1154 v1349 v1544) a + S1x128.size a ≤ S18x128.size a)
theorem k0_off81_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off81 v179 v374 v569 v764 v959 v1154 v1349 v1544) a + S1x128x128.size a ≤ S8x2304x128.size a := fun i v179 v374 v569 v764 v959 v1154 v1349 v1544 k0_hw8 k0_h1 => k0_hw8.1 k0_h1
theorem k0_off81_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off81 v179 v374 v569 v764 v959 v1154 v1349 v1544) S1x128x128.size (k0_off81_inb i v179 v374 v569 v764 v959 v1154 v1349 v1544 k0_hw8 k0_h1)).PackedRows (EltTy.packing .bf16) := fun i v179 v374 v569 v764 v959 v1154 v1349 v1544 k0_hw8 k0_h1 => k0_hw8.2.1 k0_h1 (k0_off81_inb i v179 v374 v569 v764 v959 v1154 v1349 v1544 k0_hw8 k0_h1)
theorem k0_off82_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off82 v179 v374 v569 v764 v959 v1154 v1349 v1544) a + S1x128x128.size a ≤ S8x2304x128.size a := fun i v179 v374 v569 v764 v959 v1154 v1349 v1544 k0_hw8 k0_h1 => k0_hw8.2.2.1 k0_h1
theorem k0_off82_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off82 v179 v374 v569 v764 v959 v1154 v1349 v1544) S1x128x128.size (k0_off82_inb i v179 v374 v569 v764 v959 v1154 v1349 v1544 k0_hw8 k0_h1)).PackedRows (EltTy.packing .bf16) := fun i v179 v374 v569 v764 v959 v1154 v1349 v1544 k0_hw8 k0_h1 => k0_hw8.2.2.2.1 k0_h1 (k0_off82_inb i v179 v374 v569 v764 v959 v1154 v1349 v1544 k0_hw8 k0_h1)
theorem k0_off83_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off83 v179 v374 v569 v764 v959 v1154 v1349 v1544) a + S1x128x128.size a ≤ S8x2304x128.size a := fun i v179 v374 v569 v764 v959 v1154 v1349 v1544 k0_hw8 k0_h1 => k0_hw8.2.2.2.2.1 k0_h1
theorem k0_off83_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off83 v179 v374 v569 v764 v959 v1154 v1349 v1544) S1x128x128.size (k0_off83_inb i v179 v374 v569 v764 v959 v1154 v1349 v1544 k0_hw8 k0_h1)).PackedRows (EltTy.packing .bf16) := fun i v179 v374 v569 v764 v959 v1154 v1349 v1544 k0_hw8 k0_h1 => k0_hw8.2.2.2.2.2.1 k0_h1 (k0_off83_inb i v179 v374 v569 v764 v959 v1154 v1349 v1544 k0_hw8 k0_h1)
theorem k0_off84_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off84 v179 v374 v569 v764 v959 v1154 v1349 v1544) a + S1x128x128.size a ≤ S8x2304x128.size a := fun i v179 v374 v569 v764 v959 v1154 v1349 v1544 k0_hw8 k0_h1 => k0_hw8.2.2.2.2.2.2.1 k0_h1
theorem k0_off84_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off84 v179 v374 v569 v764 v959 v1154 v1349 v1544) S1x128x128.size (k0_off84_inb i v179 v374 v569 v764 v959 v1154 v1349 v1544 k0_hw8 k0_h1)).PackedRows (EltTy.packing .bf16) := fun i v179 v374 v569 v764 v959 v1154 v1349 v1544 k0_hw8 k0_h1 => k0_hw8.2.2.2.2.2.2.2.1 k0_h1 (k0_off84_inb i v179 v374 v569 v764 v959 v1154 v1349 v1544 k0_hw8 k0_h1)
theorem k0_off85_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off85 v179 v374 v569 v764 v959 v1154 v1349 v1544) a + S1x128x128.size a ≤ S8x2304x128.size a := fun i v179 v374 v569 v764 v959 v1154 v1349 v1544 k0_hw8 k0_h1 => k0_hw8.2.2.2.2.2.2.2.2.1 k0_h1
theorem k0_off85_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off85 v179 v374 v569 v764 v959 v1154 v1349 v1544) S1x128x128.size (k0_off85_inb i v179 v374 v569 v764 v959 v1154 v1349 v1544 k0_hw8 k0_h1)).PackedRows (EltTy.packing .bf16) := fun i v179 v374 v569 v764 v959 v1154 v1349 v1544 k0_hw8 k0_h1 => k0_hw8.2.2.2.2.2.2.2.2.2.1 k0_h1 (k0_off85_inb i v179 v374 v569 v764 v959 v1154 v1349 v1544 k0_hw8 k0_h1)
theorem k0_off86_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off86 v179 v374 v569 v764 v959 v1154 v1349 v1544) a + S1x128x128.size a ≤ S8x2304x128.size a := fun i v179 v374 v569 v764 v959 v1154 v1349 v1544 k0_hw8 k0_h1 => k0_hw8.2.2.2.2.2.2.2.2.2.2.1 k0_h1
theorem k0_off86_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off86 v179 v374 v569 v764 v959 v1154 v1349 v1544) S1x128x128.size (k0_off86_inb i v179 v374 v569 v764 v959 v1154 v1349 v1544 k0_hw8 k0_h1)).PackedRows (EltTy.packing .bf16) := fun i v179 v374 v569 v764 v959 v1154 v1349 v1544 k0_hw8 k0_h1 => k0_hw8.2.2.2.2.2.2.2.2.2.2.2.1 k0_h1 (k0_off86_inb i v179 v374 v569 v764 v959 v1154 v1349 v1544 k0_hw8 k0_h1)
theorem k0_off87_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off87 v179 v374 v569 v764 v959 v1154 v1349 v1544) a + S1x128x128.size a ≤ S8x2304x128.size a := fun i v179 v374 v569 v764 v959 v1154 v1349 v1544 k0_hw8 k0_h1 => k0_hw8.2.2.2.2.2.2.2.2.2.2.2.2.1 k0_h1
theorem k0_off87_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off87 v179 v374 v569 v764 v959 v1154 v1349 v1544) S1x128x128.size (k0_off87_inb i v179 v374 v569 v764 v959 v1154 v1349 v1544 k0_hw8 k0_h1)).PackedRows (EltTy.packing .bf16) := fun i v179 v374 v569 v764 v959 v1154 v1349 v1544 k0_hw8 k0_h1 => k0_hw8.2.2.2.2.2.2.2.2.2.2.2.2.2.1 k0_h1 (k0_off87_inb i v179 v374 v569 v764 v959 v1154 v1349 v1544 k0_hw8 k0_h1)
theorem k0_off88_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off88 v179 v374 v569 v764 v959 v1154 v1349 v1544) a + S1x128x128.size a ≤ S8x2304x128.size a := fun i v179 v374 v569 v764 v959 v1154 v1349 v1544 k0_hw8 k0_h1 => k0_hw8.2.2.2.2.2.2.2.2.2.2.2.2.2.2.1 k0_h1
theorem k0_off88_packedbf16 : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), (Rect.unit (s := S8x2304x128) (k0_off88 v179 v374 v569 v764 v959 v1154 v1349 v1544) S1x128x128.size (k0_off88_inb i v179 v374 v569 v764 v959 v1154 v1349 v1544 k0_hw8 k0_h1)).PackedRows (EltTy.packing .bf16) := fun i v179 v374 v569 v764 v959 v1154 v1349 v1544 k0_hw8 k0_h1 => k0_hw8.2.2.2.2.2.2.2.2.2.2.2.2.2.2.2.1 k0_h1 (k0_off88_inb i v179 v374 v569 v764 v959 v1154 v1349 v1544 k0_hw8 k0_h1)
theorem k0_off89_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off89 v179 v374 v569 v764 v959 v1154 v1349 v1544) a + S1x128.size a ≤ S18x128.size a := fun i v179 v374 v569 v764 v959 v1154 v1349 v1544 k0_hw8 k0_h1 => k0_hw8.2.2.2.2.2.2.2.2.2.2.2.2.2.2.2.2.1 k0_h1
theorem k0_off90_inb : ∀ (i : grid0.Coords) (v179 : BitVec 32) (v374 : BitVec 32) (v569 : BitVec 32) (v764 : BitVec 32) (v959 : BitVec 32) (v1154 : BitVec 32) (v1349 : BitVec 32) (v1544 : BitVec 32) (k0_hw8 : k0_chk8 i v179 v374 v569 v764 v959 v1154 v1349 v1544), ∀ (k0_h1 : k0_cond1 i = 1#1), ∀ a, (k0_off90 v179 v374 v569 v764 v959 v1154 v1349 v1544) a + S1x128.size a ≤ S18x128.size a := fun i v179 v374 v569 v764 v959 v1154 v1349 v1544 k0_hw8 k0_h1 => k0_hw8.2.2.2.2.2.2.2.2.2.2.2.2.2.2.2.2.2 k0_h1

def k0_off91 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c0_1078 : Index := 0#32
  let c2_i32_1077 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v1938 : BitVec 32 := Scalar.muli c2_i32_1077 v1935
  let v1939 : Index := Scalar.indexCast v1938
  let c0_1079 : Index := 0#32
  ![0, v1939.toNat, 0]

def k0_off92 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c1_1088 : Index := 1#32
  let c2_i32_1087 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v1953 : BitVec 32 := Scalar.muli c2_i32_1087 v1935
  let v1954 : Index := Scalar.indexCast v1953
  let c0_1089 : Index := 0#32
  ![1, v1954.toNat, 0]
def k0_off93 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c2_1098 : Index := 2#32
  let c2_i32_1097 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v1968 : BitVec 32 := Scalar.muli c2_i32_1097 v1935
  let v1969 : Index := Scalar.indexCast v1968
  let c0_1099 : Index := 0#32
  ![2, v1969.toNat, 0]
def k0_off94 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c3_1108 : Index := 3#32
  let c2_i32_1107 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v1983 : BitVec 32 := Scalar.muli c2_i32_1107 v1935
  let v1984 : Index := Scalar.indexCast v1983
  let c0_1109 : Index := 0#32
  ![3, v1984.toNat, 0]
def k0_off95 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c4_1118 : Index := 4#32
  let c2_i32_1117 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v1998 : BitVec 32 := Scalar.muli c2_i32_1117 v1935
  let v1999 : Index := Scalar.indexCast v1998
  let c0_1119 : Index := 0#32
  ![4, v1999.toNat, 0]
def k0_off96 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c5_1128 : Index := 5#32
  let c2_i32_1127 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v2013 : BitVec 32 := Scalar.muli c2_i32_1127 v1935
  let v2014 : Index := Scalar.indexCast v2013
  let c0_1129 : Index := 0#32
  ![5, v2014.toNat, 0]
def k0_off97 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c6_1138 : Index := 6#32
  let c2_i32_1137 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v2028 : BitVec 32 := Scalar.muli c2_i32_1137 v1935
  let v2029 : Index := Scalar.indexCast v2028
  let c0_1139 : Index := 0#32
  ![6, v2029.toNat, 0]
def k0_off98 (v179 : BitVec 32) (v374 : BitVec 32) (v569 : BitVec 32) (v764 : BitVec 32) (v959 : BitVec 32) (v1154 : BitVec 32) (v1349 : BitVec 32) (v1544 : BitVec 32) (v1739 : BitVec 32) : Fin 3 → Nat :=
  let c7_1148 : Index := 7#32
  let c2_i32_1147 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c1_i32_1075 : BitVec 32 := 1#32
  let v1935 : BitVec 32 := Scalar.shrui v1933 c1_i32_1075
  let v2043 : BitVec 32 := Scalar.muli c2_i32_1147 v1935
  let v2044 : Index := Scalar.indexCast v2043
  let c0_1149 : Index := 0#32
  ![7, v2044.toNat, 0]
def k0_off99 (v179 : BitVec 32) (v374 : BitVec 32) (v569 : BitVec 32) (v764 : BitVec 32) (v959 : BitVec 32) (v1154 : BitVec 32) (v1349 : BitVec 32) (v1544 : BitVec 32) (v1739 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c0_i32_1162 : BitVec 32 := 0#32
  let v2067 : BitVec 1 := Scalar.cmpi .sgt v1933 c0_i32_1162
  let v2068 : BitVec 32 := Scalar.extui v2067
  let c0_i32_1163 : BitVec 32 := 0#32
  let v2069 : BitVec 1 := Scalar.cmpi .slt v1933 c0_i32_1163
  let v2070 : BitVec 32 := Scalar.extui v2069
  let v2071 : BitVec 32 := Scalar.subi v2068 v2070
  let c128_i32_1161 : BitVec 32 := 128#32
  let c0_i32_1164 : BitVec 32 := 0#32
  let v2072 : BitVec 1 := Scalar.cmpi .sgt c128_i32_1161 c0_i32_1164
  let v2073 : BitVec 32 := Scalar.extui v2072
  let c0_i32_1165 : BitVec 32 := 0#32
  let v2074 : BitVec 1 := Scalar.cmpi .slt c128_i32_1161 c0_i32_1165
  let v2075 : BitVec 32 := Scalar.extui v2074
  let v2076 : BitVec 32 := Scalar.subi v2073 v2075
  let v2077 : BitVec 1 := Scalar.cmpi .ne v2071 v2076
  let v2078 : BitVec 32 := Scalar.remsi v1933 c128_i32_1161
  let c0_i32_1166 : BitVec 32 := 0#32
  let v2079 : BitVec 1 := Scalar.cmpi .ne v2078 c0_i32_1166
  let v2080 : BitVec 1 := Scalar.andi v2077 v2079
  let v2066 : BitVec 32 := Scalar.divsi v1933 c128_i32_1161
  let c1_i32_1167 : BitVec 32 := 1#32
  let v2081 : BitVec 32 := Scalar.subi v2066 c1_i32_1167
  let v2082 : BitVec 32 := Scalar.select v2080 v2081 v2066
  let v2096 : Index := Scalar.indexCast v2082
  let c0_1172 : Index := 0#32
  ![v2096.toNat, 0]
def k0_off100 (v179 : BitVec 32) (v374 : BitVec 32) (v569 : BitVec 32) (v764 : BitVec 32) (v959 : BitVec 32) (v1154 : BitVec 32) (v1349 : BitVec 32) (v1544 : BitVec 32) (v1739 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let c0_i32_1162 : BitVec 32 := 0#32
  let v2067 : BitVec 1 := Scalar.cmpi .sgt v1933 c0_i32_1162
  let v2068 : BitVec 32 := Scalar.extui v2067
  let c0_i32_1163 : BitVec 32 := 0#32
  let v2069 : BitVec 1 := Scalar.cmpi .slt v1933 c0_i32_1163
  let v2070 : BitVec 32 := Scalar.extui v2069
  let v2071 : BitVec 32 := Scalar.subi v2068 v2070
  let c128_i32_1161 : BitVec 32 := 128#32
  let c0_i32_1164 : BitVec 32 := 0#32
  let v2072 : BitVec 1 := Scalar.cmpi .sgt c128_i32_1161 c0_i32_1164
  let v2073 : BitVec 32 := Scalar.extui v2072
  let c0_i32_1165 : BitVec 32 := 0#32
  let v2074 : BitVec 1 := Scalar.cmpi .slt c128_i32_1161 c0_i32_1165
  let v2075 : BitVec 32 := Scalar.extui v2074
  let v2076 : BitVec 32 := Scalar.subi v2073 v2075
  let v2077 : BitVec 1 := Scalar.cmpi .ne v2071 v2076
  let v2078 : BitVec 32 := Scalar.remsi v1933 c128_i32_1161
  let c0_i32_1166 : BitVec 32 := 0#32
  let v2079 : BitVec 1 := Scalar.cmpi .ne v2078 c0_i32_1166
  let v2080 : BitVec 1 := Scalar.andi v2077 v2079
  let v2066 : BitVec 32 := Scalar.divsi v1933 c128_i32_1161
  let c1_i32_1167 : BitVec 32 := 1#32
  let v2081 : BitVec 32 := Scalar.subi v2066 c1_i32_1167
  let v2082 : BitVec 32 := Scalar.select v2080 v2081 v2066
  let c1_i32_1171 : BitVec 32 := 1#32
  let v2095 : BitVec 32 := Scalar.addi v2082 c1_i32_1171
  let v2111 : Index := Scalar.indexCast v2095
  let c0_1177 : Index := 0#32
  ![v2111.toNat, 0]

def k0_chk9 (i : grid0.Coords) (v179 : BitVec 32) (v374 : BitVec 32) (v569 : BitVec 32) (v764 : BitVec 32) (v959 : BitVec 32) (v1154 : BitVec 32) (v1349 : BitVec 32) (v1544 : BitVec 32) (v1739 : BitVec 32) : Prop :=
  (∀ (k0_h1 : k0_cond1 i = 1#1), ∀ a, (k0_off91 v179 v374 v569 v764 v959 v1154 v1349 v1544 v1739) a + S1x128x128.size a ≤ S8x2304x128.size a) ∧
  (∀ (k0_h1 : k0_cond1 i = 1#1), ∀ (hinb : ∀ a, (k0_off91 v179 v374 v569 v764 v959 v1154 v1349 v1544 v1739) a + S1x128x128.size a ≤ S8x2304x128.size a), (Rect.unit (s := S8x2304x128) (k0_off91 v179 v374 v569 v764 v959 v1154 v1349 v1544 v1739) S1x128x128.size hinb).PackedRows (EltTy.packing .bf16)) ∧
  (∀ (k0_h1 : k0_cond1 i = 1#1), ∀ a, (k0_off92 v179 v374 v569 v764 v959 v1154 v1349 v1544 v1739) a + S1x128x128.size a ≤ S8x2304x128.size a) ∧
  (∀ (k0_h1 : k0_cond1 i = 1#1), ∀ (hinb : ∀ a, (k0_off92 v179 v374 v569 v764 v959 v1154 v1349 v1544 v1739) a + S1x128x128.size a ≤ S8x2304x128.size a), (Rect.unit (s := S8x2304x128) (k0_off92 v179 v374 v569 v764 v959 v1154 v1349 v1544 v1739) S1x128x128.size hinb).PackedRows (EltTy.packing .bf16)) ∧
  (∀ (k0_h1 : k0_cond1 i = 1#1), ∀ a, (k0_off93 v179 v374 v569 v764 v959 v1154 v1349 v1544 v1739) a + S1x128x128.size a ≤ S8x2304x128.size a) ∧
  (∀ (k0_h1 : k0_cond1 i = 1#1), ∀ (hinb : ∀ a, (k0_off93 v179 v374 v569 v764 v959 v1154 v1349 v1544 v1739) a + S1x128x128.size a ≤ S8x2304x128.size a), (Rect.unit (s := S8x2304x128) (k0_off93 v179 v374 v569 v764 v959 v1154 v1349 v1544 v1739) S1x128x128.size hinb).PackedRows (EltTy.packing .bf16)) ∧
  (∀ (k0_h1 : k0_cond1 i = 1#1), ∀ a, (k0_off94 v179 v374 v569 v764 v959 v1154 v1349 v1544 v1739) a + S1x128x128.size a ≤ S8x2304x128.size a) ∧
  (∀ (k0_h1 : k0_cond1 i = 1#1), ∀ (hinb : ∀ a, (k0_off94 v179 v374 v569 v764 v959 v1154 v1349 v1544 v1739) a + S1x128x128.size a ≤ S8x2304x128.size a), (Rect.unit (s := S8x2304x128) (k0_off94 v179 v374 v569 v764 v959 v1154 v1349 v1544 v1739) S1x128x128.size hinb).PackedRows (EltTy.packing .bf16)) ∧
  (∀ (k0_h1 : k0_cond1 i = 1#1), ∀ a, (k0_off95 v179 v374 v569 v764 v959 v1154 v1349 v1544 v1739) a + S1x128x128.size a ≤ S8x2304x128.size a) ∧
  (∀ (k0_h1 : k0_cond1 i = 1#1), ∀ (hinb : ∀ a, (k0_off95 v179 v374 v569 v764 v959 v1154 v1349 v1544 v1739) a + S1x128x128.size a ≤ S8x2304x128.size a), (Rect.unit (s := S8x2304x128) (k0_off95 v179 v374 v569 v764 v959 v1154 v1349 v1544 v1739) S1x128x128.size hinb).PackedRows (EltTy.packing .bf16)) ∧
  (∀ (k0_h1 : k0_cond1 i = 1#1), ∀ a, (k0_off96 v179 v374 v569 v764 v959 v1154 v1349 v1544 v1739) a + S1x128x128.size a ≤ S8x2304x128.size a) ∧
  (∀ (k0_h1 : k0_cond1 i = 1#1), ∀ (hinb : ∀ a, (k0_off96 v179 v374 v569 v764 v959 v1154 v1349 v1544 v1739) a + S1x128x128.size a ≤ S8x2304x128.size a), (Rect.unit (s := S8x2304x128) (k0_off96 v179 v374 v569 v764 v959 v1154 v1349 v1544 v1739) S1x128x128.size hinb).PackedRows (EltTy.packing .bf16)) ∧
  (∀ (k0_h1 : k0_cond1 i = 1#1), ∀ a, (k0_off97 v179 v374 v569 v764 v959 v1154 v1349 v1544 v1739) a + S1x128x128.size a ≤ S8x2304x128.size a) ∧
  (∀ (k0_h1 : k0_cond1 i = 1#1), ∀ (hinb : ∀ a, (k0_off97 v179 v374 v569 v764 v959 v1154 v1349 v1544 v1739) a + S1x128x128.size a ≤ S8x2304x128.size a), (Rect.unit (s := S8x2304x128) (k0_off97 v179 v374 v569 v764 v959 v1154 v1349 v1544 v1739) S1x128x128.size hinb).PackedRows (EltTy.packing .bf16)) ∧
  (∀ (k0_h1 : k0_cond1 i = 1#1), ∀ a, (k0_off98 v179 v374 v569 v764 v959 v1154 v1349 v1544 v1739) a + S1x128x128.size a ≤ S8x2304x128.size a) ∧
  (∀ (k0_h1 : k0_cond1 i = 1#1), ∀ (hinb : ∀ a, (k0_off98 v179 v374 v569 v764 v959 v1154 v1349 v1544 v1739) a + S1x128x128.size a ≤ S8x2304x128.size a), (Rect.unit (s := S8x2304x128) (k0_off98 v179 v374 v569 v764 v959 v1154 v1349 v1544 v1739) S1x128x128.size hinb).PackedRows (EltTy.packing .bf16)) ∧
  (∀ (k0_h1 : k0_cond1 i = 1#1), ∀ a, (k0_off99 v179 v374 v569 v764 v959 v1154 v1349 v1544 v1739) a + S1x128.size a ≤ S18x128.size a) ∧
  (∀ (k0_h1 : k0_cond1 i = 1#1), ∀ a, (k0_off100 v179 v374 v569 v764 v959 v1154 v1349 v1544 v1739) a + S1x128.size a ≤ S18x128.size a)
theorem k0_off91_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off91 v179 v374 v569 v764 v959 v1154 v1349 v1544 v1739) a + S1x128x128.size a ≤ S8x2304x128.size a := fun i v179 v374 v569 v764 v959 v1154 v1349 v1544 v1739 k0_hw9 k0_h1 => k0_hw9.1 k0_h1
theorem k0_off91_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off91 v179 v374 v569 v764 v959 v1154 v1349 v1544 v1739) S1x128x128.size (k0_off91_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.1 k0_h1 (k0_off91_inb i v179 v374 v569 v764 v959 v1154 v1349 v1544 v1739 k0_hw9 k0_h1)
theorem k0_off92_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off92 v179 v374 v569 v764 v959 v1154 v1349 v1544 v1739) a + S1x128x128.size a ≤ S8x2304x128.size a := fun i v179 v374 v569 v764 v959 v1154 v1349 v1544 v1739 k0_hw9 k0_h1 => k0_hw9.2.2.1 k0_h1
theorem k0_off92_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off92 v179 v374 v569 v764 v959 v1154 v1349 v1544 v1739) S1x128x128.size (k0_off92_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.2.2.1 k0_h1 (k0_off92_inb i v179 v374 v569 v764 v959 v1154 v1349 v1544 v1739 k0_hw9 k0_h1)
theorem k0_off93_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off93 v179 v374 v569 v764 v959 v1154 v1349 v1544 v1739) a + S1x128x128.size a ≤ S8x2304x128.size a := fun i v179 v374 v569 v764 v959 v1154 v1349 v1544 v1739 k0_hw9 k0_h1 => k0_hw9.2.2.2.2.1 k0_h1
theorem k0_off93_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off93 v179 v374 v569 v764 v959 v1154 v1349 v1544 v1739) S1x128x128.size (k0_off93_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.2.2.2.2.1 k0_h1 (k0_off93_inb i v179 v374 v569 v764 v959 v1154 v1349 v1544 v1739 k0_hw9 k0_h1)
theorem k0_off94_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off94 v179 v374 v569 v764 v959 v1154 v1349 v1544 v1739) a + S1x128x128.size a ≤ S8x2304x128.size a := fun i v179 v374 v569 v764 v959 v1154 v1349 v1544 v1739 k0_hw9 k0_h1 => k0_hw9.2.2.2.2.2.2.1 k0_h1
theorem k0_off94_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off94 v179 v374 v569 v764 v959 v1154 v1349 v1544 v1739) S1x128x128.size (k0_off94_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.2.2.2.2.2.2.1 k0_h1 (k0_off94_inb i v179 v374 v569 v764 v959 v1154 v1349 v1544 v1739 k0_hw9 k0_h1)
theorem k0_off95_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off95 v179 v374 v569 v764 v959 v1154 v1349 v1544 v1739) a + S1x128x128.size a ≤ S8x2304x128.size a := fun i v179 v374 v569 v764 v959 v1154 v1349 v1544 v1739 k0_hw9 k0_h1 => k0_hw9.2.2.2.2.2.2.2.2.1 k0_h1
theorem k0_off95_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off95 v179 v374 v569 v764 v959 v1154 v1349 v1544 v1739) S1x128x128.size (k0_off95_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.2.2.2.2.2.2.2.2.1 k0_h1 (k0_off95_inb i v179 v374 v569 v764 v959 v1154 v1349 v1544 v1739 k0_hw9 k0_h1)
theorem k0_off96_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off96 v179 v374 v569 v764 v959 v1154 v1349 v1544 v1739) a + S1x128x128.size a ≤ S8x2304x128.size a := fun i v179 v374 v569 v764 v959 v1154 v1349 v1544 v1739 k0_hw9 k0_h1 => k0_hw9.2.2.2.2.2.2.2.2.2.2.1 k0_h1
theorem k0_off96_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off96 v179 v374 v569 v764 v959 v1154 v1349 v1544 v1739) S1x128x128.size (k0_off96_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.2.2.2.2.2.2.2.2.2.2.1 k0_h1 (k0_off96_inb i v179 v374 v569 v764 v959 v1154 v1349 v1544 v1739 k0_hw9 k0_h1)
theorem k0_off97_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off97 v179 v374 v569 v764 v959 v1154 v1349 v1544 v1739) a + S1x128x128.size a ≤ S8x2304x128.size a := fun i v179 v374 v569 v764 v959 v1154 v1349 v1544 v1739 k0_hw9 k0_h1 => k0_hw9.2.2.2.2.2.2.2.2.2.2.2.2.1 k0_h1
theorem k0_off97_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off97 v179 v374 v569 v764 v959 v1154 v1349 v1544 v1739) S1x128x128.size (k0_off97_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.2.2.2.2.2.2.2.2.2.2.2.2.1 k0_h1 (k0_off97_inb i v179 v374 v569 v764 v959 v1154 v1349 v1544 v1739 k0_hw9 k0_h1)
theorem k0_off98_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off98 v179 v374 v569 v764 v959 v1154 v1349 v1544 v1739) a + S1x128x128.size a ≤ S8x2304x128.size a := fun i v179 v374 v569 v764 v959 v1154 v1349 v1544 v1739 k0_hw9 k0_h1 => k0_hw9.2.2.2.2.2.2.2.2.2.2.2.2.2.2.1 k0_h1
theorem k0_off98_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), (Rect.unit (s := S8x2304x128) (k0_off98 v179 v374 v569 v764 v959 v1154 v1349 v1544 v1739) S1x128x128.size (k0_off98_inb i v179 v374 v569 v764 v959 v1154 v1349 v1544 v1739 k0_hw9 k0_h1)).PackedRows (EltTy.packing .bf16) := fun i v179 v374 v569 v764 v959 v1154 v1349 v1544 v1739 k0_hw9 k0_h1 => k0_hw9.2.2.2.2.2.2.2.2.2.2.2.2.2.2.2.1 k0_h1 (k0_off98_inb i v179 v374 v569 v764 v959 v1154 v1349 v1544 v1739 k0_hw9 k0_h1)
theorem k0_off99_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off99 v179 v374 v569 v764 v959 v1154 v1349 v1544 v1739) a + S1x128.size a ≤ S18x128.size a := fun i v179 v374 v569 v764 v959 v1154 v1349 v1544 v1739 k0_hw9 k0_h1 => k0_hw9.2.2.2.2.2.2.2.2.2.2.2.2.2.2.2.2.1 k0_h1
theorem k0_off100_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (k0_hw9 : k0_chk9 i v179 v374 v569 v764 v959 v1154 v1349 v1544 v1739), ∀ (k0_h1 : k0_cond1 i = 1#1), ∀ a, (k0_off100 v179 v374 v569 v764 v959 v1154 v1349 v1544 v1739) a + S1x128.size a ≤ S18x128.size a := fun i v179 v374 v569 v764 v959 v1154 v1349 v1544 v1739 k0_hw9 k0_h1 => k0_hw9.2.2.2.2.2.2.2.2.2.2.2.2.2.2.2.2.2 k0_h1

def k0_off101 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c0_1187 : Index := 0#32
  let c2_i32_1186 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2133 : BitVec 32 := Scalar.muli c2_i32_1186 v2130
  let v2134 : Index := Scalar.indexCast v2133
  let c0_1188 : Index := 0#32
  ![0, v2134.toNat, 0]

def k0_off102 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c1_1197 : Index := 1#32
  let c2_i32_1196 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2148 : BitVec 32 := Scalar.muli c2_i32_1196 v2130
  let v2149 : Index := Scalar.indexCast v2148
  let c0_1198 : Index := 0#32
  ![1, v2149.toNat, 0]
def k0_off103 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c2_1207 : Index := 2#32
  let c2_i32_1206 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2163 : BitVec 32 := Scalar.muli c2_i32_1206 v2130
  let v2164 : Index := Scalar.indexCast v2163
  let c0_1208 : Index := 0#32
  ![2, v2164.toNat, 0]
def k0_off104 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c3_1217 : Index := 3#32
  let c2_i32_1216 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2178 : BitVec 32 := Scalar.muli c2_i32_1216 v2130
  let v2179 : Index := Scalar.indexCast v2178
  let c0_1218 : Index := 0#32
  ![3, v2179.toNat, 0]
def k0_off105 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c4_1227 : Index := 4#32
  let c2_i32_1226 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2193 : BitVec 32 := Scalar.muli c2_i32_1226 v2130
  let v2194 : Index := Scalar.indexCast v2193
  let c0_1228 : Index := 0#32
  ![4, v2194.toNat, 0]
def k0_off106 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c5_1237 : Index := 5#32
  let c2_i32_1236 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2208 : BitVec 32 := Scalar.muli c2_i32_1236 v2130
  let v2209 : Index := Scalar.indexCast v2208
  let c0_1238 : Index := 0#32
  ![5, v2209.toNat, 0]
def k0_off107 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c6_1247 : Index := 6#32
  let c2_i32_1246 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2223 : BitVec 32 := Scalar.muli c2_i32_1246 v2130
  let v2224 : Index := Scalar.indexCast v2223
  let c0_1248 : Index := 0#32
  ![6, v2224.toNat, 0]
def k0_off108 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 3 → Nat :=
  let c7_1257 : Index := 7#32
  let c2_i32_1256 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c1_i32_1184 : BitVec 32 := 1#32
  let v2130 : BitVec 32 := Scalar.shrui v2128 c1_i32_1184
  let v2238 : BitVec 32 := Scalar.muli c2_i32_1256 v2130
  let v2239 : Index := Scalar.indexCast v2238
  let c0_1258 : Index := 0#32
  ![7, v2239.toNat, 0]
def k0_off109 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c0_i32_1271 : BitVec 32 := 0#32
  let v2262 : BitVec 1 := Scalar.cmpi .sgt v2128 c0_i32_1271
  let v2263 : BitVec 32 := Scalar.extui v2262
  let c0_i32_1272 : BitVec 32 := 0#32
  let v2264 : BitVec 1 := Scalar.cmpi .slt v2128 c0_i32_1272
  let v2265 : BitVec 32 := Scalar.extui v2264
  let v2266 : BitVec 32 := Scalar.subi v2263 v2265
  let c128_i32_1270 : BitVec 32 := 128#32
  let c0_i32_1273 : BitVec 32 := 0#32
  let v2267 : BitVec 1 := Scalar.cmpi .sgt c128_i32_1270 c0_i32_1273
  let v2268 : BitVec 32 := Scalar.extui v2267
  let c0_i32_1274 : BitVec 32 := 0#32
  let v2269 : BitVec 1 := Scalar.cmpi .slt c128_i32_1270 c0_i32_1274
  let v2270 : BitVec 32 := Scalar.extui v2269
  let v2271 : BitVec 32 := Scalar.subi v2268 v2270
  let v2272 : BitVec 1 := Scalar.cmpi .ne v2266 v2271
  let v2273 : BitVec 32 := Scalar.remsi v2128 c128_i32_1270
  let c0_i32_1275 : BitVec 32 := 0#32
  let v2274 : BitVec 1 := Scalar.cmpi .ne v2273 c0_i32_1275
  let v2275 : BitVec 1 := Scalar.andi v2272 v2274
  let v2261 : BitVec 32 := Scalar.divsi v2128 c128_i32_1270
  let c1_i32_1276 : BitVec 32 := 1#32
  let v2276 : BitVec 32 := Scalar.subi v2261 c1_i32_1276
  let v2277 : BitVec 32 := Scalar.select v2275 v2276 v2261
  let v2291 : Index := Scalar.indexCast v2277
  let c0_1281 : Index := 0#32
  ![v2291.toNat, 0]
def k0_off110 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let c0_i32_1271 : BitVec 32 := 0#32
  let v2262 : BitVec 1 := Scalar.cmpi .sgt v2128 c0_i32_1271
  let v2263 : BitVec 32 := Scalar.extui v2262
  let c0_i32_1272 : BitVec 32 := 0#32
  let v2264 : BitVec 1 := Scalar.cmpi .slt v2128 c0_i32_1272
  let v2265 : BitVec 32 := Scalar.extui v2264
  let v2266 : BitVec 32 := Scalar.subi v2263 v2265
  let c128_i32_1270 : BitVec 32 := 128#32
  let c0_i32_1273 : BitVec 32 := 0#32
  let v2267 : BitVec 1 := Scalar.cmpi .sgt c128_i32_1270 c0_i32_1273
  let v2268 : BitVec 32 := Scalar.extui v2267
  let c0_i32_1274 : BitVec 32 := 0#32
  let v2269 : BitVec 1 := Scalar.cmpi .slt c128_i32_1270 c0_i32_1274
  let v2270 : BitVec 32 := Scalar.extui v2269
  let v2271 : BitVec 32 := Scalar.subi v2268 v2270
  let v2272 : BitVec 1 := Scalar.cmpi .ne v2266 v2271
  let v2273 : BitVec 32 := Scalar.remsi v2128 c128_i32_1270
  let c0_i32_1275 : BitVec 32 := 0#32
  let v2274 : BitVec 1 := Scalar.cmpi .ne v2273 c0_i32_1275
  let v2275 : BitVec 1 := Scalar.andi v2272 v2274
  let v2261 : BitVec 32 := Scalar.divsi v2128 c128_i32_1270
  let c1_i32_1276 : BitVec 32 := 1#32
  let v2276 : BitVec 32 := Scalar.subi v2261 c1_i32_1276
  let v2277 : BitVec 32 := Scalar.select v2275 v2276 v2261
  let c1_i32_1280 : BitVec 32 := 1#32
  let v2290 : BitVec 32 := Scalar.addi v2277 c1_i32_1280
  let v2306 : Index := Scalar.indexCast v2290
  let c0_1286 : Index := 0#32
  ![v2306.toNat, 0]

def k0_chk10 (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) : Prop :=
  (∀ (k0_h1 : k0_cond1 i = 1#1), ∀ a, (k0_off101 v179 v374 v569 v764 v959 v1154 v1349 v1544 v1739 v1934) a + S1x128x128.size a ≤ S8x2304x128.size a) ∧
  (∀ (k0_h1 : k0_cond1 i = 1#1), ∀ (hinb : ∀ a, (k0_off101 v179 v374 v569 v764 v959 v1154 v1349 v1544 v1739 v1934) a + S1x128x128.size a ≤ S8x2304x128.size a), (Rect.unit (s := S8x2304x128) (k0_off101 v179 v374 v569 v764 v959 v1154 v1349 v1544 v1739 v1934) S1x128x128.size hinb).PackedRows (EltTy.packing .bf16)) ∧
  (∀ (k0_h1 : k0_cond1 i = 1#1), ∀ a, (k0_off102 v179 v374 v569 v764 v959 v1154 v1349 v1544 v1739 v1934) a + S1x128x128.size a ≤ S8x2304x128.size a) ∧
  (∀ (k0_h1 : k0_cond1 i = 1#1), ∀ (hinb : ∀ a, (k0_off102 v179 v374 v569 v764 v959 v1154 v1349 v1544 v1739 v1934) a + S1x128x128.size a ≤ S8x2304x128.size a), (Rect.unit (s := S8x2304x128) (k0_off102 v179 v374 v569 v764 v959 v1154 v1349 v1544 v1739 v1934) S1x128x128.size hinb).PackedRows (EltTy.packing .bf16)) ∧
  (∀ (k0_h1 : k0_cond1 i = 1#1), ∀ a, (k0_off103 v179 v374 v569 v764 v959 v1154 v1349 v1544 v1739 v1934) a + S1x128x128.size a ≤ S8x2304x128.size a) ∧
  (∀ (k0_h1 : k0_cond1 i = 1#1), ∀ (hinb : ∀ a, (k0_off103 v179 v374 v569 v764 v959 v1154 v1349 v1544 v1739 v1934) a + S1x128x128.size a ≤ S8x2304x128.size a), (Rect.unit (s := S8x2304x128) (k0_off103 v179 v374 v569 v764 v959 v1154 v1349 v1544 v1739 v1934) S1x128x128.size hinb).PackedRows (EltTy.packing .bf16)) ∧
  (∀ (k0_h1 : k0_cond1 i = 1#1), ∀ a, (k0_off104 v179 v374 v569 v764 v959 v1154 v1349 v1544 v1739 v1934) a + S1x128x128.size a ≤ S8x2304x128.size a) ∧
  (∀ (k0_h1 : k0_cond1 i = 1#1), ∀ (hinb : ∀ a, (k0_off104 v179 v374 v569 v764 v959 v1154 v1349 v1544 v1739 v1934) a + S1x128x128.size a ≤ S8x2304x128.size a), (Rect.unit (s := S8x2304x128) (k0_off104 v179 v374 v569 v764 v959 v1154 v1349 v1544 v1739 v1934) S1x128x128.size hinb).PackedRows (EltTy.packing .bf16)) ∧
  (∀ (k0_h1 : k0_cond1 i = 1#1), ∀ a, (k0_off105 v179 v374 v569 v764 v959 v1154 v1349 v1544 v1739 v1934) a + S1x128x128.size a ≤ S8x2304x128.size a) ∧
  (∀ (k0_h1 : k0_cond1 i = 1#1), ∀ (hinb : ∀ a, (k0_off105 v179 v374 v569 v764 v959 v1154 v1349 v1544 v1739 v1934) a + S1x128x128.size a ≤ S8x2304x128.size a), (Rect.unit (s := S8x2304x128) (k0_off105 v179 v374 v569 v764 v959 v1154 v1349 v1544 v1739 v1934) S1x128x128.size hinb).PackedRows (EltTy.packing .bf16)) ∧
  (∀ (k0_h1 : k0_cond1 i = 1#1), ∀ a, (k0_off106 v179 v374 v569 v764 v959 v1154 v1349 v1544 v1739 v1934) a + S1x128x128.size a ≤ S8x2304x128.size a) ∧
  (∀ (k0_h1 : k0_cond1 i = 1#1), ∀ (hinb : ∀ a, (k0_off106 v179 v374 v569 v764 v959 v1154 v1349 v1544 v1739 v1934) a + S1x128x128.size a ≤ S8x2304x128.size a), (Rect.unit (s := S8x2304x128) (k0_off106 v179 v374 v569 v764 v959 v1154 v1349 v1544 v1739 v1934) S1x128x128.size hinb).PackedRows (EltTy.packing .bf16)) ∧
  (∀ (k0_h1 : k0_cond1 i = 1#1), ∀ a, (k0_off107 v179 v374 v569 v764 v959 v1154 v1349 v1544 v1739 v1934) a + S1x128x128.size a ≤ S8x2304x128.size a) ∧
  (∀ (k0_h1 : k0_cond1 i = 1#1), ∀ (hinb : ∀ a, (k0_off107 v179 v374 v569 v764 v959 v1154 v1349 v1544 v1739 v1934) a + S1x128x128.size a ≤ S8x2304x128.size a), (Rect.unit (s := S8x2304x128) (k0_off107 v179 v374 v569 v764 v959 v1154 v1349 v1544 v1739 v1934) S1x128x128.size hinb).PackedRows (EltTy.packing .bf16)) ∧
  (∀ (k0_h1 : k0_cond1 i = 1#1), ∀ a, (k0_off108 v179 v374 v569 v764 v959 v1154 v1349 v1544 v1739 v1934) a + S1x128x128.size a ≤ S8x2304x128.size a) ∧
  (∀ (k0_h1 : k0_cond1 i = 1#1), ∀ (hinb : ∀ a, (k0_off108 v179 v374 v569 v764 v959 v1154 v1349 v1544 v1739 v1934) a + S1x128x128.size a ≤ S8x2304x128.size a), (Rect.unit (s := S8x2304x128) (k0_off108 v179 v374 v569 v764 v959 v1154 v1349 v1544 v1739 v1934) S1x128x128.size hinb).PackedRows (EltTy.packing .bf16)) ∧
  (∀ (k0_h1 : k0_cond1 i = 1#1), ∀ a, (k0_off109 v179 v374 v569 v764 v959 v1154 v1349 v1544 v1739 v1934) a + S1x128.size a ≤ S18x128.size a) ∧
  (∀ (k0_h1 : k0_cond1 i = 1#1), ∀ a, (k0_off110 v179 v374 v569 v764 v959 v1154 v1349 v1544 v1739 v1934) a + S1x128.size a ≤ S18x128.size a)
theorem k0_off101_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off101 v179 v374 v569 v764 v959 v1154 v1349 v1544 v1739 v1934) a + S1x128x128.size a ≤ S8x2304x128.size a := fun i v179 v374 v569 v764 v959 v1154 v1349 v1544 v1739 v1934 k0_hw10 k0_h1 => k0_hw10.1 k0_h1
theorem k0_off101_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off101 v179 v374 v569 v764 v959 v1154 v1349 v1544 v1739 v1934) S1x128x128.size (k0_off101_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.1 k0_h1 (k0_off101_inb i v179 v374 v569 v764 v959 v1154 v1349 v1544 v1739 v1934 k0_hw10 k0_h1)
theorem k0_off102_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off102 v179 v374 v569 v764 v959 v1154 v1349 v1544 v1739 v1934) a + S1x128x128.size a ≤ S8x2304x128.size a := fun i v179 v374 v569 v764 v959 v1154 v1349 v1544 v1739 v1934 k0_hw10 k0_h1 => k0_hw10.2.2.1 k0_h1
theorem k0_off102_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off102 v179 v374 v569 v764 v959 v1154 v1349 v1544 v1739 v1934) S1x128x128.size (k0_off102_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.2.2.1 k0_h1 (k0_off102_inb i v179 v374 v569 v764 v959 v1154 v1349 v1544 v1739 v1934 k0_hw10 k0_h1)
theorem k0_off103_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off103 v179 v374 v569 v764 v959 v1154 v1349 v1544 v1739 v1934) a + S1x128x128.size a ≤ S8x2304x128.size a := fun i v179 v374 v569 v764 v959 v1154 v1349 v1544 v1739 v1934 k0_hw10 k0_h1 => k0_hw10.2.2.2.2.1 k0_h1
theorem k0_off103_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off103 v179 v374 v569 v764 v959 v1154 v1349 v1544 v1739 v1934) S1x128x128.size (k0_off103_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.2.2.2.2.1 k0_h1 (k0_off103_inb i v179 v374 v569 v764 v959 v1154 v1349 v1544 v1739 v1934 k0_hw10 k0_h1)
theorem k0_off104_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off104 v179 v374 v569 v764 v959 v1154 v1349 v1544 v1739 v1934) a + S1x128x128.size a ≤ S8x2304x128.size a := fun i v179 v374 v569 v764 v959 v1154 v1349 v1544 v1739 v1934 k0_hw10 k0_h1 => k0_hw10.2.2.2.2.2.2.1 k0_h1
theorem k0_off104_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off104 v179 v374 v569 v764 v959 v1154 v1349 v1544 v1739 v1934) S1x128x128.size (k0_off104_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.2.2.2.2.2.2.1 k0_h1 (k0_off104_inb i v179 v374 v569 v764 v959 v1154 v1349 v1544 v1739 v1934 k0_hw10 k0_h1)
theorem k0_off105_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off105 v179 v374 v569 v764 v959 v1154 v1349 v1544 v1739 v1934) a + S1x128x128.size a ≤ S8x2304x128.size a := fun i v179 v374 v569 v764 v959 v1154 v1349 v1544 v1739 v1934 k0_hw10 k0_h1 => k0_hw10.2.2.2.2.2.2.2.2.1 k0_h1
theorem k0_off105_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off105 v179 v374 v569 v764 v959 v1154 v1349 v1544 v1739 v1934) S1x128x128.size (k0_off105_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.2.2.2.2.2.2.2.2.1 k0_h1 (k0_off105_inb i v179 v374 v569 v764 v959 v1154 v1349 v1544 v1739 v1934 k0_hw10 k0_h1)
theorem k0_off106_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off106 v179 v374 v569 v764 v959 v1154 v1349 v1544 v1739 v1934) a + S1x128x128.size a ≤ S8x2304x128.size a := fun i v179 v374 v569 v764 v959 v1154 v1349 v1544 v1739 v1934 k0_hw10 k0_h1 => k0_hw10.2.2.2.2.2.2.2.2.2.2.1 k0_h1
theorem k0_off106_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off106 v179 v374 v569 v764 v959 v1154 v1349 v1544 v1739 v1934) S1x128x128.size (k0_off106_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.2.2.2.2.2.2.2.2.2.2.1 k0_h1 (k0_off106_inb i v179 v374 v569 v764 v959 v1154 v1349 v1544 v1739 v1934 k0_hw10 k0_h1)
theorem k0_off107_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off107 v179 v374 v569 v764 v959 v1154 v1349 v1544 v1739 v1934) a + S1x128x128.size a ≤ S8x2304x128.size a := fun i v179 v374 v569 v764 v959 v1154 v1349 v1544 v1739 v1934 k0_hw10 k0_h1 => k0_hw10.2.2.2.2.2.2.2.2.2.2.2.2.1 k0_h1
theorem k0_off107_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off107 v179 v374 v569 v764 v959 v1154 v1349 v1544 v1739 v1934) S1x128x128.size (k0_off107_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.2.2.2.2.2.2.2.2.2.2.2.2.1 k0_h1 (k0_off107_inb i v179 v374 v569 v764 v959 v1154 v1349 v1544 v1739 v1934 k0_hw10 k0_h1)
theorem k0_off108_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off108 v179 v374 v569 v764 v959 v1154 v1349 v1544 v1739 v1934) a + S1x128x128.size a ≤ S8x2304x128.size a := fun i v179 v374 v569 v764 v959 v1154 v1349 v1544 v1739 v1934 k0_hw10 k0_h1 => k0_hw10.2.2.2.2.2.2.2.2.2.2.2.2.2.2.1 k0_h1
theorem k0_off108_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), (Rect.unit (s := S8x2304x128) (k0_off108 v179 v374 v569 v764 v959 v1154 v1349 v1544 v1739 v1934) S1x128x128.size (k0_off108_inb i v179 v374 v569 v764 v959 v1154 v1349 v1544 v1739 v1934 k0_hw10 k0_h1)).PackedRows (EltTy.packing .bf16) := fun i v179 v374 v569 v764 v959 v1154 v1349 v1544 v1739 v1934 k0_hw10 k0_h1 => k0_hw10.2.2.2.2.2.2.2.2.2.2.2.2.2.2.2.1 k0_h1 (k0_off108_inb i v179 v374 v569 v764 v959 v1154 v1349 v1544 v1739 v1934 k0_hw10 k0_h1)
theorem k0_off109_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off109 v179 v374 v569 v764 v959 v1154 v1349 v1544 v1739 v1934) a + S1x128.size a ≤ S18x128.size a := fun i v179 v374 v569 v764 v959 v1154 v1349 v1544 v1739 v1934 k0_hw10 k0_h1 => k0_hw10.2.2.2.2.2.2.2.2.2.2.2.2.2.2.2.2.1 k0_h1
theorem k0_off110_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (k0_hw10 : k0_chk10 i v179 v374 v569 v764 v959 v1154 v1349 v1544 v1739 v1934), ∀ (k0_h1 : k0_cond1 i = 1#1), ∀ a, (k0_off110 v179 v374 v569 v764 v959 v1154 v1349 v1544 v1739 v1934) a + S1x128.size a ≤ S18x128.size a := fun i v179 v374 v569 v764 v959 v1154 v1349 v1544 v1739 v1934 k0_hw10 k0_h1 => k0_hw10.2.2.2.2.2.2.2.2.2.2.2.2.2.2.2.2.2 k0_h1

def k0_off111 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c0_1296 : Index := 0#32
  let c2_i32_1295 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2328 : BitVec 32 := Scalar.muli c2_i32_1295 v2325
  let v2329 : Index := Scalar.indexCast v2328
  let c0_1297 : Index := 0#32
  ![0, v2329.toNat, 0]

def k0_off112 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c1_1306 : Index := 1#32
  let c2_i32_1305 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2343 : BitVec 32 := Scalar.muli c2_i32_1305 v2325
  let v2344 : Index := Scalar.indexCast v2343
  let c0_1307 : Index := 0#32
  ![1, v2344.toNat, 0]
def k0_off113 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c2_1316 : Index := 2#32
  let c2_i32_1315 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2358 : BitVec 32 := Scalar.muli c2_i32_1315 v2325
  let v2359 : Index := Scalar.indexCast v2358
  let c0_1317 : Index := 0#32
  ![2, v2359.toNat, 0]
def k0_off114 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c3_1326 : Index := 3#32
  let c2_i32_1325 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2373 : BitVec 32 := Scalar.muli c2_i32_1325 v2325
  let v2374 : Index := Scalar.indexCast v2373
  let c0_1327 : Index := 0#32
  ![3, v2374.toNat, 0]
def k0_off115 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c4_1336 : Index := 4#32
  let c2_i32_1335 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2388 : BitVec 32 := Scalar.muli c2_i32_1335 v2325
  let v2389 : Index := Scalar.indexCast v2388
  let c0_1337 : Index := 0#32
  ![4, v2389.toNat, 0]
def k0_off116 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c5_1346 : Index := 5#32
  let c2_i32_1345 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2403 : BitVec 32 := Scalar.muli c2_i32_1345 v2325
  let v2404 : Index := Scalar.indexCast v2403
  let c0_1347 : Index := 0#32
  ![5, v2404.toNat, 0]
def k0_off117 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c6_1356 : Index := 6#32
  let c2_i32_1355 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2418 : BitVec 32 := Scalar.muli c2_i32_1355 v2325
  let v2419 : Index := Scalar.indexCast v2418
  let c0_1357 : Index := 0#32
  ![6, v2419.toNat, 0]
def k0_off118 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 3 → Nat :=
  let c7_1366 : Index := 7#32
  let c2_i32_1365 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c1_i32_1293 : BitVec 32 := 1#32
  let v2325 : BitVec 32 := Scalar.shrui v2323 c1_i32_1293
  let v2433 : BitVec 32 := Scalar.muli c2_i32_1365 v2325
  let v2434 : Index := Scalar.indexCast v2433
  let c0_1367 : Index := 0#32
  ![7, v2434.toNat, 0]
def k0_off119 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c0_i32_1380 : BitVec 32 := 0#32
  let v2457 : BitVec 1 := Scalar.cmpi .sgt v2323 c0_i32_1380
  let v2458 : BitVec 32 := Scalar.extui v2457
  let c0_i32_1381 : BitVec 32 := 0#32
  let v2459 : BitVec 1 := Scalar.cmpi .slt v2323 c0_i32_1381
  let v2460 : BitVec 32 := Scalar.extui v2459
  let v2461 : BitVec 32 := Scalar.subi v2458 v2460
  let c128_i32_1379 : BitVec 32 := 128#32
  let c0_i32_1382 : BitVec 32 := 0#32
  let v2462 : BitVec 1 := Scalar.cmpi .sgt c128_i32_1379 c0_i32_1382
  let v2463 : BitVec 32 := Scalar.extui v2462
  let c0_i32_1383 : BitVec 32 := 0#32
  let v2464 : BitVec 1 := Scalar.cmpi .slt c128_i32_1379 c0_i32_1383
  let v2465 : BitVec 32 := Scalar.extui v2464
  let v2466 : BitVec 32 := Scalar.subi v2463 v2465
  let v2467 : BitVec 1 := Scalar.cmpi .ne v2461 v2466
  let v2468 : BitVec 32 := Scalar.remsi v2323 c128_i32_1379
  let c0_i32_1384 : BitVec 32 := 0#32
  let v2469 : BitVec 1 := Scalar.cmpi .ne v2468 c0_i32_1384
  let v2470 : BitVec 1 := Scalar.andi v2467 v2469
  let v2456 : BitVec 32 := Scalar.divsi v2323 c128_i32_1379
  let c1_i32_1385 : BitVec 32 := 1#32
  let v2471 : BitVec 32 := Scalar.subi v2456 c1_i32_1385
  let v2472 : BitVec 32 := Scalar.select v2470 v2471 v2456
  let v2486 : Index := Scalar.indexCast v2472
  let c0_1390 : Index := 0#32
  ![v2486.toNat, 0]
def k0_off120 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let c0_i32_1380 : BitVec 32 := 0#32
  let v2457 : BitVec 1 := Scalar.cmpi .sgt v2323 c0_i32_1380
  let v2458 : BitVec 32 := Scalar.extui v2457
  let c0_i32_1381 : BitVec 32 := 0#32
  let v2459 : BitVec 1 := Scalar.cmpi .slt v2323 c0_i32_1381
  let v2460 : BitVec 32 := Scalar.extui v2459
  let v2461 : BitVec 32 := Scalar.subi v2458 v2460
  let c128_i32_1379 : BitVec 32 := 128#32
  let c0_i32_1382 : BitVec 32 := 0#32
  let v2462 : BitVec 1 := Scalar.cmpi .sgt c128_i32_1379 c0_i32_1382
  let v2463 : BitVec 32 := Scalar.extui v2462
  let c0_i32_1383 : BitVec 32 := 0#32
  let v2464 : BitVec 1 := Scalar.cmpi .slt c128_i32_1379 c0_i32_1383
  let v2465 : BitVec 32 := Scalar.extui v2464
  let v2466 : BitVec 32 := Scalar.subi v2463 v2465
  let v2467 : BitVec 1 := Scalar.cmpi .ne v2461 v2466
  let v2468 : BitVec 32 := Scalar.remsi v2323 c128_i32_1379
  let c0_i32_1384 : BitVec 32 := 0#32
  let v2469 : BitVec 1 := Scalar.cmpi .ne v2468 c0_i32_1384
  let v2470 : BitVec 1 := Scalar.andi v2467 v2469
  let v2456 : BitVec 32 := Scalar.divsi v2323 c128_i32_1379
  let c1_i32_1385 : BitVec 32 := 1#32
  let v2471 : BitVec 32 := Scalar.subi v2456 c1_i32_1385
  let v2472 : BitVec 32 := Scalar.select v2470 v2471 v2456
  let c1_i32_1389 : BitVec 32 := 1#32
  let v2485 : BitVec 32 := Scalar.addi v2472 c1_i32_1389
  let v2501 : Index := Scalar.indexCast v2485
  let c0_1395 : Index := 0#32
  ![v2501.toNat, 0]

def k0_chk11 (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) : Prop :=
  (∀ (k0_h1 : k0_cond1 i = 1#1), ∀ a, (k0_off111 v179 v374 v569 v764 v959 v1154 v1349 v1544 v1739 v1934 v2129) a + S1x128x128.size a ≤ S8x2304x128.size a) ∧
  (∀ (k0_h1 : k0_cond1 i = 1#1), ∀ (hinb : ∀ a, (k0_off111 v179 v374 v569 v764 v959 v1154 v1349 v1544 v1739 v1934 v2129) a + S1x128x128.size a ≤ S8x2304x128.size a), (Rect.unit (s := S8x2304x128) (k0_off111 v179 v374 v569 v764 v959 v1154 v1349 v1544 v1739 v1934 v2129) S1x128x128.size hinb).PackedRows (EltTy.packing .bf16)) ∧
  (∀ (k0_h1 : k0_cond1 i = 1#1), ∀ a, (k0_off112 v179 v374 v569 v764 v959 v1154 v1349 v1544 v1739 v1934 v2129) a + S1x128x128.size a ≤ S8x2304x128.size a) ∧
  (∀ (k0_h1 : k0_cond1 i = 1#1), ∀ (hinb : ∀ a, (k0_off112 v179 v374 v569 v764 v959 v1154 v1349 v1544 v1739 v1934 v2129) a + S1x128x128.size a ≤ S8x2304x128.size a), (Rect.unit (s := S8x2304x128) (k0_off112 v179 v374 v569 v764 v959 v1154 v1349 v1544 v1739 v1934 v2129) S1x128x128.size hinb).PackedRows (EltTy.packing .bf16)) ∧
  (∀ (k0_h1 : k0_cond1 i = 1#1), ∀ a, (k0_off113 v179 v374 v569 v764 v959 v1154 v1349 v1544 v1739 v1934 v2129) a + S1x128x128.size a ≤ S8x2304x128.size a) ∧
  (∀ (k0_h1 : k0_cond1 i = 1#1), ∀ (hinb : ∀ a, (k0_off113 v179 v374 v569 v764 v959 v1154 v1349 v1544 v1739 v1934 v2129) a + S1x128x128.size a ≤ S8x2304x128.size a), (Rect.unit (s := S8x2304x128) (k0_off113 v179 v374 v569 v764 v959 v1154 v1349 v1544 v1739 v1934 v2129) S1x128x128.size hinb).PackedRows (EltTy.packing .bf16)) ∧
  (∀ (k0_h1 : k0_cond1 i = 1#1), ∀ a, (k0_off114 v179 v374 v569 v764 v959 v1154 v1349 v1544 v1739 v1934 v2129) a + S1x128x128.size a ≤ S8x2304x128.size a) ∧
  (∀ (k0_h1 : k0_cond1 i = 1#1), ∀ (hinb : ∀ a, (k0_off114 v179 v374 v569 v764 v959 v1154 v1349 v1544 v1739 v1934 v2129) a + S1x128x128.size a ≤ S8x2304x128.size a), (Rect.unit (s := S8x2304x128) (k0_off114 v179 v374 v569 v764 v959 v1154 v1349 v1544 v1739 v1934 v2129) S1x128x128.size hinb).PackedRows (EltTy.packing .bf16)) ∧
  (∀ (k0_h1 : k0_cond1 i = 1#1), ∀ a, (k0_off115 v179 v374 v569 v764 v959 v1154 v1349 v1544 v1739 v1934 v2129) a + S1x128x128.size a ≤ S8x2304x128.size a) ∧
  (∀ (k0_h1 : k0_cond1 i = 1#1), ∀ (hinb : ∀ a, (k0_off115 v179 v374 v569 v764 v959 v1154 v1349 v1544 v1739 v1934 v2129) a + S1x128x128.size a ≤ S8x2304x128.size a), (Rect.unit (s := S8x2304x128) (k0_off115 v179 v374 v569 v764 v959 v1154 v1349 v1544 v1739 v1934 v2129) S1x128x128.size hinb).PackedRows (EltTy.packing .bf16)) ∧
  (∀ (k0_h1 : k0_cond1 i = 1#1), ∀ a, (k0_off116 v179 v374 v569 v764 v959 v1154 v1349 v1544 v1739 v1934 v2129) a + S1x128x128.size a ≤ S8x2304x128.size a) ∧
  (∀ (k0_h1 : k0_cond1 i = 1#1), ∀ (hinb : ∀ a, (k0_off116 v179 v374 v569 v764 v959 v1154 v1349 v1544 v1739 v1934 v2129) a + S1x128x128.size a ≤ S8x2304x128.size a), (Rect.unit (s := S8x2304x128) (k0_off116 v179 v374 v569 v764 v959 v1154 v1349 v1544 v1739 v1934 v2129) S1x128x128.size hinb).PackedRows (EltTy.packing .bf16)) ∧
  (∀ (k0_h1 : k0_cond1 i = 1#1), ∀ a, (k0_off117 v179 v374 v569 v764 v959 v1154 v1349 v1544 v1739 v1934 v2129) a + S1x128x128.size a ≤ S8x2304x128.size a) ∧
  (∀ (k0_h1 : k0_cond1 i = 1#1), ∀ (hinb : ∀ a, (k0_off117 v179 v374 v569 v764 v959 v1154 v1349 v1544 v1739 v1934 v2129) a + S1x128x128.size a ≤ S8x2304x128.size a), (Rect.unit (s := S8x2304x128) (k0_off117 v179 v374 v569 v764 v959 v1154 v1349 v1544 v1739 v1934 v2129) S1x128x128.size hinb).PackedRows (EltTy.packing .bf16)) ∧
  (∀ (k0_h1 : k0_cond1 i = 1#1), ∀ a, (k0_off118 v179 v374 v569 v764 v959 v1154 v1349 v1544 v1739 v1934 v2129) a + S1x128x128.size a ≤ S8x2304x128.size a) ∧
  (∀ (k0_h1 : k0_cond1 i = 1#1), ∀ (hinb : ∀ a, (k0_off118 v179 v374 v569 v764 v959 v1154 v1349 v1544 v1739 v1934 v2129) a + S1x128x128.size a ≤ S8x2304x128.size a), (Rect.unit (s := S8x2304x128) (k0_off118 v179 v374 v569 v764 v959 v1154 v1349 v1544 v1739 v1934 v2129) S1x128x128.size hinb).PackedRows (EltTy.packing .bf16)) ∧
  (∀ (k0_h1 : k0_cond1 i = 1#1), ∀ a, (k0_off119 v179 v374 v569 v764 v959 v1154 v1349 v1544 v1739 v1934 v2129) a + S1x128.size a ≤ S18x128.size a) ∧
  (∀ (k0_h1 : k0_cond1 i = 1#1), ∀ a, (k0_off120 v179 v374 v569 v764 v959 v1154 v1349 v1544 v1739 v1934 v2129) a + S1x128.size a ≤ S18x128.size a)
theorem k0_off111_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off111 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.1 k0_h1
theorem k0_off111_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off111 v179 v374 v569 v764 v959 v1154 v1349 v1544 v1739 v1934 v2129) S1x128x128.size (k0_off111_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.1 k0_h1 (k0_off111_inb i v179 v374 v569 v764 v959 v1154 v1349 v1544 v1739 v1934 v2129 k0_hw11 k0_h1)
theorem k0_off112_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off112 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.2.2.1 k0_h1
theorem k0_off112_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off112 v179 v374 v569 v764 v959 v1154 v1349 v1544 v1739 v1934 v2129) S1x128x128.size (k0_off112_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.2.2.1 k0_h1 (k0_off112_inb i v179 v374 v569 v764 v959 v1154 v1349 v1544 v1739 v1934 v2129 k0_hw11 k0_h1)
theorem k0_off113_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off113 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.2.2.2.2.1 k0_h1
theorem k0_off113_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off113 v179 v374 v569 v764 v959 v1154 v1349 v1544 v1739 v1934 v2129) S1x128x128.size (k0_off113_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.2.2.2.2.1 k0_h1 (k0_off113_inb i v179 v374 v569 v764 v959 v1154 v1349 v1544 v1739 v1934 v2129 k0_hw11 k0_h1)
theorem k0_off114_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off114 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.2.2.2.2.2.2.1 k0_h1
theorem k0_off114_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off114 v179 v374 v569 v764 v959 v1154 v1349 v1544 v1739 v1934 v2129) S1x128x128.size (k0_off114_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.2.2.2.2.2.2.1 k0_h1 (k0_off114_inb i v179 v374 v569 v764 v959 v1154 v1349 v1544 v1739 v1934 v2129 k0_hw11 k0_h1)
theorem k0_off115_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off115 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.2.2.2.2.2.2.2.2.1 k0_h1
theorem k0_off115_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off115 v179 v374 v569 v764 v959 v1154 v1349 v1544 v1739 v1934 v2129) S1x128x128.size (k0_off115_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.2.2.2.2.2.2.2.2.1 k0_h1 (k0_off115_inb i v179 v374 v569 v764 v959 v1154 v1349 v1544 v1739 v1934 v2129 k0_hw11 k0_h1)
theorem k0_off116_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off116 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.2.2.2.2.2.2.2.2.2.2.1 k0_h1
theorem k0_off116_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off116 v179 v374 v569 v764 v959 v1154 v1349 v1544 v1739 v1934 v2129) S1x128x128.size (k0_off116_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.2.2.2.2.2.2.2.2.2.2.1 k0_h1 (k0_off116_inb i v179 v374 v569 v764 v959 v1154 v1349 v1544 v1739 v1934 v2129 k0_hw11 k0_h1)
theorem k0_off117_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off117 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.2.2.2.2.2.2.2.2.2.2.2.2.1 k0_h1
theorem k0_off117_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off117 v179 v374 v569 v764 v959 v1154 v1349 v1544 v1739 v1934 v2129) S1x128x128.size (k0_off117_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.2.2.2.2.2.2.2.2.2.2.2.2.1 k0_h1 (k0_off117_inb i v179 v374 v569 v764 v959 v1154 v1349 v1544 v1739 v1934 v2129 k0_hw11 k0_h1)
theorem k0_off118_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off118 v179 v374 v569 v764 v959 v1154 v1349 v1544 v1739 v1934 v2129) a + S1x128x128.size a ≤ S8x2304x128.size a := fun i v179 v374 v569 v764 v959 v1154 v1349 v1544 v1739 v1934 v2129 k0_hw11 k0_h1 => k0_hw11.2.2.2.2.2.2.2.2.2.2.2.2.2.2.1 k0_h1
theorem k0_off118_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), (Rect.unit (s := S8x2304x128) (k0_off118 v179 v374 v569 v764 v959 v1154 v1349 v1544 v1739 v1934 v2129) S1x128x128.size (k0_off118_inb i v179 v374 v569 v764 v959 v1154 v1349 v1544 v1739 v1934 v2129 k0_hw11 k0_h1)).PackedRows (EltTy.packing .bf16) := fun i v179 v374 v569 v764 v959 v1154 v1349 v1544 v1739 v1934 v2129 k0_hw11 k0_h1 => k0_hw11.2.2.2.2.2.2.2.2.2.2.2.2.2.2.2.1 k0_h1 (k0_off118_inb i v179 v374 v569 v764 v959 v1154 v1349 v1544 v1739 v1934 v2129 k0_hw11 k0_h1)
theorem k0_off119_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off119 v179 v374 v569 v764 v959 v1154 v1349 v1544 v1739 v1934 v2129) a + S1x128.size a ≤ S18x128.size a := fun i v179 v374 v569 v764 v959 v1154 v1349 v1544 v1739 v1934 v2129 k0_hw11 k0_h1 => k0_hw11.2.2.2.2.2.2.2.2.2.2.2.2.2.2.2.2.1 k0_h1
theorem k0_off120_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (k0_hw11 : k0_chk11 i v179 v374 v569 v764 v959 v1154 v1349 v1544 v1739 v1934 v2129), ∀ (k0_h1 : k0_cond1 i = 1#1), ∀ a, (k0_off120 v179 v374 v569 v764 v959 v1154 v1349 v1544 v1739 v1934 v2129) a + S1x128.size a ≤ S18x128.size a := fun i v179 v374 v569 v764 v959 v1154 v1349 v1544 v1739 v1934 v2129 k0_hw11 k0_h1 => k0_hw11.2.2.2.2.2.2.2.2.2.2.2.2.2.2.2.2.2 k0_h1

def k0_off121 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c0_1405 : Index := 0#32
  let c2_i32_1404 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2523 : BitVec 32 := Scalar.muli c2_i32_1404 v2520
  let v2524 : Index := Scalar.indexCast v2523
  let c0_1406 : Index := 0#32
  ![0, v2524.toNat, 0]

def k0_off122 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c1_1415 : Index := 1#32
  let c2_i32_1414 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2538 : BitVec 32 := Scalar.muli c2_i32_1414 v2520
  let v2539 : Index := Scalar.indexCast v2538
  let c0_1416 : Index := 0#32
  ![1, v2539.toNat, 0]
def k0_off123 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c2_1425 : Index := 2#32
  let c2_i32_1424 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2553 : BitVec 32 := Scalar.muli c2_i32_1424 v2520
  let v2554 : Index := Scalar.indexCast v2553
  let c0_1426 : Index := 0#32
  ![2, v2554.toNat, 0]
def k0_off124 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c3_1435 : Index := 3#32
  let c2_i32_1434 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2568 : BitVec 32 := Scalar.muli c2_i32_1434 v2520
  let v2569 : Index := Scalar.indexCast v2568
  let c0_1436 : Index := 0#32
  ![3, v2569.toNat, 0]
def k0_off125 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c4_1445 : Index := 4#32
  let c2_i32_1444 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2583 : BitVec 32 := Scalar.muli c2_i32_1444 v2520
  let v2584 : Index := Scalar.indexCast v2583
  let c0_1446 : Index := 0#32
  ![4, v2584.toNat, 0]
def k0_off126 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c5_1455 : Index := 5#32
  let c2_i32_1454 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2598 : BitVec 32 := Scalar.muli c2_i32_1454 v2520
  let v2599 : Index := Scalar.indexCast v2598
  let c0_1456 : Index := 0#32
  ![5, v2599.toNat, 0]
def k0_off127 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c6_1465 : Index := 6#32
  let c2_i32_1464 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2613 : BitVec 32 := Scalar.muli c2_i32_1464 v2520
  let v2614 : Index := Scalar.indexCast v2613
  let c0_1466 : Index := 0#32
  ![6, v2614.toNat, 0]
def k0_off128 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 3 → Nat :=
  let c7_1475 : Index := 7#32
  let c2_i32_1474 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c1_i32_1402 : BitVec 32 := 1#32
  let v2520 : BitVec 32 := Scalar.shrui v2518 c1_i32_1402
  let v2628 : BitVec 32 := Scalar.muli c2_i32_1474 v2520
  let v2629 : Index := Scalar.indexCast v2628
  let c0_1476 : Index := 0#32
  ![7, v2629.toNat, 0]
def k0_off129 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c0_i32_1489 : BitVec 32 := 0#32
  let v2652 : BitVec 1 := Scalar.cmpi .sgt v2518 c0_i32_1489
  let v2653 : BitVec 32 := Scalar.extui v2652
  let c0_i32_1490 : BitVec 32 := 0#32
  let v2654 : BitVec 1 := Scalar.cmpi .slt v2518 c0_i32_1490
  let v2655 : BitVec 32 := Scalar.extui v2654
  let v2656 : BitVec 32 := Scalar.subi v2653 v2655
  let c128_i32_1488 : BitVec 32 := 128#32
  let c0_i32_1491 : BitVec 32 := 0#32
  let v2657 : BitVec 1 := Scalar.cmpi .sgt c128_i32_1488 c0_i32_1491
  let v2658 : BitVec 32 := Scalar.extui v2657
  let c0_i32_1492 : BitVec 32 := 0#32
  let v2659 : BitVec 1 := Scalar.cmpi .slt c128_i32_1488 c0_i32_1492
  let v2660 : BitVec 32 := Scalar.extui v2659
  let v2661 : BitVec 32 := Scalar.subi v2658 v2660
  let v2662 : BitVec 1 := Scalar.cmpi .ne v2656 v2661
  let v2663 : BitVec 32 := Scalar.remsi v2518 c128_i32_1488
  let c0_i32_1493 : BitVec 32 := 0#32
  let v2664 : BitVec 1 := Scalar.cmpi .ne v2663 c0_i32_1493
  let v2665 : BitVec 1 := Scalar.andi v2662 v2664
  let v2651 : BitVec 32 := Scalar.divsi v2518 c128_i32_1488
  let c1_i32_1494 : BitVec 32 := 1#32
  let v2666 : BitVec 32 := Scalar.subi v2651 c1_i32_1494
  let v2667 : BitVec 32 := Scalar.select v2665 v2666 v2651
  let v2681 : Index := Scalar.indexCast v2667
  let c0_1499 : Index := 0#32
  ![v2681.toNat, 0]
def k0_off130 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let c0_i32_1489 : BitVec 32 := 0#32
  let v2652 : BitVec 1 := Scalar.cmpi .sgt v2518 c0_i32_1489
  let v2653 : BitVec 32 := Scalar.extui v2652
  let c0_i32_1490 : BitVec 32 := 0#32
  let v2654 : BitVec 1 := Scalar.cmpi .slt v2518 c0_i32_1490
  let v2655 : BitVec 32 := Scalar.extui v2654
  let v2656 : BitVec 32 := Scalar.subi v2653 v2655
  let c128_i32_1488 : BitVec 32 := 128#32
  let c0_i32_1491 : BitVec 32 := 0#32
  let v2657 : BitVec 1 := Scalar.cmpi .sgt c128_i32_1488 c0_i32_1491
  let v2658 : BitVec 32 := Scalar.extui v2657
  let c0_i32_1492 : BitVec 32 := 0#32
  let v2659 : BitVec 1 := Scalar.cmpi .slt c128_i32_1488 c0_i32_1492
  let v2660 : BitVec 32 := Scalar.extui v2659
  let v2661 : BitVec 32 := Scalar.subi v2658 v2660
  let v2662 : BitVec 1 := Scalar.cmpi .ne v2656 v2661
  let v2663 : BitVec 32 := Scalar.remsi v2518 c128_i32_1488
  let c0_i32_1493 : BitVec 32 := 0#32
  let v2664 : BitVec 1 := Scalar.cmpi .ne v2663 c0_i32_1493
  let v2665 : BitVec 1 := Scalar.andi v2662 v2664
  let v2651 : BitVec 32 := Scalar.divsi v2518 c128_i32_1488
  let c1_i32_1494 : BitVec 32 := 1#32
  let v2666 : BitVec 32 := Scalar.subi v2651 c1_i32_1494
  let v2667 : BitVec 32 := Scalar.select v2665 v2666 v2651
  let c1_i32_1498 : BitVec 32 := 1#32
  let v2680 : BitVec 32 := Scalar.addi v2667 c1_i32_1498
  let v2696 : Index := Scalar.indexCast v2680
  let c0_1504 : Index := 0#32
  ![v2696.toNat, 0]

def k0_chk12 (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) : Prop :=
  (∀ (k0_h1 : k0_cond1 i = 1#1), ∀ a, (k0_off121 v179 v374 v569 v764 v959 v1154 v1349 v1544 v1739 v1934 v2129 v2324) a + S1x128x128.size a ≤ S8x2304x128.size a) ∧
  (∀ (k0_h1 : k0_cond1 i = 1#1), ∀ (hinb : ∀ a, (k0_off121 v179 v374 v569 v764 v959 v1154 v1349 v1544 v1739 v1934 v2129 v2324) a + S1x128x128.size a ≤ S8x2304x128.size a), (Rect.unit (s := S8x2304x128) (k0_off121 v179 v374 v569 v764 v959 v1154 v1349 v1544 v1739 v1934 v2129 v2324) S1x128x128.size hinb).PackedRows (EltTy.packing .bf16)) ∧
  (∀ (k0_h1 : k0_cond1 i = 1#1), ∀ a, (k0_off122 v179 v374 v569 v764 v959 v1154 v1349 v1544 v1739 v1934 v2129 v2324) a + S1x128x128.size a ≤ S8x2304x128.size a) ∧
  (∀ (k0_h1 : k0_cond1 i = 1#1), ∀ (hinb : ∀ a, (k0_off122 v179 v374 v569 v764 v959 v1154 v1349 v1544 v1739 v1934 v2129 v2324) a + S1x128x128.size a ≤ S8x2304x128.size a), (Rect.unit (s := S8x2304x128) (k0_off122 v179 v374 v569 v764 v959 v1154 v1349 v1544 v1739 v1934 v2129 v2324) S1x128x128.size hinb).PackedRows (EltTy.packing .bf16)) ∧
  (∀ (k0_h1 : k0_cond1 i = 1#1), ∀ a, (k0_off123 v179 v374 v569 v764 v959 v1154 v1349 v1544 v1739 v1934 v2129 v2324) a + S1x128x128.size a ≤ S8x2304x128.size a) ∧
  (∀ (k0_h1 : k0_cond1 i = 1#1), ∀ (hinb : ∀ a, (k0_off123 v179 v374 v569 v764 v959 v1154 v1349 v1544 v1739 v1934 v2129 v2324) a + S1x128x128.size a ≤ S8x2304x128.size a), (Rect.unit (s := S8x2304x128) (k0_off123 v179 v374 v569 v764 v959 v1154 v1349 v1544 v1739 v1934 v2129 v2324) S1x128x128.size hinb).PackedRows (EltTy.packing .bf16)) ∧
  (∀ (k0_h1 : k0_cond1 i = 1#1), ∀ a, (k0_off124 v179 v374 v569 v764 v959 v1154 v1349 v1544 v1739 v1934 v2129 v2324) a + S1x128x128.size a ≤ S8x2304x128.size a) ∧
  (∀ (k0_h1 : k0_cond1 i = 1#1), ∀ (hinb : ∀ a, (k0_off124 v179 v374 v569 v764 v959 v1154 v1349 v1544 v1739 v1934 v2129 v2324) a + S1x128x128.size a ≤ S8x2304x128.size a), (Rect.unit (s := S8x2304x128) (k0_off124 v179 v374 v569 v764 v959 v1154 v1349 v1544 v1739 v1934 v2129 v2324) S1x128x128.size hinb).PackedRows (EltTy.packing .bf16)) ∧
  (∀ (k0_h1 : k0_cond1 i = 1#1), ∀ a, (k0_off125 v179 v374 v569 v764 v959 v1154 v1349 v1544 v1739 v1934 v2129 v2324) a + S1x128x128.size a ≤ S8x2304x128.size a) ∧
  (∀ (k0_h1 : k0_cond1 i = 1#1), ∀ (hinb : ∀ a, (k0_off125 v179 v374 v569 v764 v959 v1154 v1349 v1544 v1739 v1934 v2129 v2324) a + S1x128x128.size a ≤ S8x2304x128.size a), (Rect.unit (s := S8x2304x128) (k0_off125 v179 v374 v569 v764 v959 v1154 v1349 v1544 v1739 v1934 v2129 v2324) S1x128x128.size hinb).PackedRows (EltTy.packing .bf16)) ∧
  (∀ (k0_h1 : k0_cond1 i = 1#1), ∀ a, (k0_off126 v179 v374 v569 v764 v959 v1154 v1349 v1544 v1739 v1934 v2129 v2324) a + S1x128x128.size a ≤ S8x2304x128.size a) ∧
  (∀ (k0_h1 : k0_cond1 i = 1#1), ∀ (hinb : ∀ a, (k0_off126 v179 v374 v569 v764 v959 v1154 v1349 v1544 v1739 v1934 v2129 v2324) a + S1x128x128.size a ≤ S8x2304x128.size a), (Rect.unit (s := S8x2304x128) (k0_off126 v179 v374 v569 v764 v959 v1154 v1349 v1544 v1739 v1934 v2129 v2324) S1x128x128.size hinb).PackedRows (EltTy.packing .bf16)) ∧
  (∀ (k0_h1 : k0_cond1 i = 1#1), ∀ a, (k0_off127 v179 v374 v569 v764 v959 v1154 v1349 v1544 v1739 v1934 v2129 v2324) a + S1x128x128.size a ≤ S8x2304x128.size a) ∧
  (∀ (k0_h1 : k0_cond1 i = 1#1), ∀ (hinb : ∀ a, (k0_off127 v179 v374 v569 v764 v959 v1154 v1349 v1544 v1739 v1934 v2129 v2324) a + S1x128x128.size a ≤ S8x2304x128.size a), (Rect.unit (s := S8x2304x128) (k0_off127 v179 v374 v569 v764 v959 v1154 v1349 v1544 v1739 v1934 v2129 v2324) S1x128x128.size hinb).PackedRows (EltTy.packing .bf16)) ∧
  (∀ (k0_h1 : k0_cond1 i = 1#1), ∀ a, (k0_off128 v179 v374 v569 v764 v959 v1154 v1349 v1544 v1739 v1934 v2129 v2324) a + S1x128x128.size a ≤ S8x2304x128.size a) ∧
  (∀ (k0_h1 : k0_cond1 i = 1#1), ∀ (hinb : ∀ a, (k0_off128 v179 v374 v569 v764 v959 v1154 v1349 v1544 v1739 v1934 v2129 v2324) a + S1x128x128.size a ≤ S8x2304x128.size a), (Rect.unit (s := S8x2304x128) (k0_off128 v179 v374 v569 v764 v959 v1154 v1349 v1544 v1739 v1934 v2129 v2324) S1x128x128.size hinb).PackedRows (EltTy.packing .bf16)) ∧
  (∀ (k0_h1 : k0_cond1 i = 1#1), ∀ a, (k0_off129 v179 v374 v569 v764 v959 v1154 v1349 v1544 v1739 v1934 v2129 v2324) a + S1x128.size a ≤ S18x128.size a) ∧
  (∀ (k0_h1 : k0_cond1 i = 1#1), ∀ a, (k0_off130 v179 v374 v569 v764 v959 v1154 v1349 v1544 v1739 v1934 v2129 v2324) a + S1x128.size a ≤ S18x128.size a)
theorem k0_off121_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off121 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.1 k0_h1
theorem k0_off121_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off121 v179 v374 v569 v764 v959 v1154 v1349 v1544 v1739 v1934 v2129 v2324) S1x128x128.size (k0_off121_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.1 k0_h1 (k0_off121_inb i v179 v374 v569 v764 v959 v1154 v1349 v1544 v1739 v1934 v2129 v2324 k0_hw12 k0_h1)
theorem k0_off122_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off122 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.2.2.1 k0_h1
theorem k0_off122_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off122 v179 v374 v569 v764 v959 v1154 v1349 v1544 v1739 v1934 v2129 v2324) S1x128x128.size (k0_off122_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.2.2.1 k0_h1 (k0_off122_inb i v179 v374 v569 v764 v959 v1154 v1349 v1544 v1739 v1934 v2129 v2324 k0_hw12 k0_h1)
theorem k0_off123_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off123 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.2.2.2.2.1 k0_h1
theorem k0_off123_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off123 v179 v374 v569 v764 v959 v1154 v1349 v1544 v1739 v1934 v2129 v2324) S1x128x128.size (k0_off123_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.2.2.2.2.1 k0_h1 (k0_off123_inb i v179 v374 v569 v764 v959 v1154 v1349 v1544 v1739 v1934 v2129 v2324 k0_hw12 k0_h1)
theorem k0_off124_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off124 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.2.2.2.2.2.2.1 k0_h1
theorem k0_off124_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off124 v179 v374 v569 v764 v959 v1154 v1349 v1544 v1739 v1934 v2129 v2324) S1x128x128.size (k0_off124_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.2.2.2.2.2.2.1 k0_h1 (k0_off124_inb i v179 v374 v569 v764 v959 v1154 v1349 v1544 v1739 v1934 v2129 v2324 k0_hw12 k0_h1)
theorem k0_off125_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off125 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.2.2.2.2.2.2.2.2.1 k0_h1
theorem k0_off125_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off125 v179 v374 v569 v764 v959 v1154 v1349 v1544 v1739 v1934 v2129 v2324) S1x128x128.size (k0_off125_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.2.2.2.2.2.2.2.2.1 k0_h1 (k0_off125_inb i v179 v374 v569 v764 v959 v1154 v1349 v1544 v1739 v1934 v2129 v2324 k0_hw12 k0_h1)
theorem k0_off126_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off126 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.2.2.2.2.2.2.2.2.2.2.1 k0_h1
theorem k0_off126_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off126 v179 v374 v569 v764 v959 v1154 v1349 v1544 v1739 v1934 v2129 v2324) S1x128x128.size (k0_off126_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.2.2.2.2.2.2.2.2.2.2.1 k0_h1 (k0_off126_inb i v179 v374 v569 v764 v959 v1154 v1349 v1544 v1739 v1934 v2129 v2324 k0_hw12 k0_h1)
theorem k0_off127_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off127 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.2.2.2.2.2.2.2.2.2.2.2.2.1 k0_h1
theorem k0_off127_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off127 v179 v374 v569 v764 v959 v1154 v1349 v1544 v1739 v1934 v2129 v2324) S1x128x128.size (k0_off127_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.2.2.2.2.2.2.2.2.2.2.2.2.1 k0_h1 (k0_off127_inb i v179 v374 v569 v764 v959 v1154 v1349 v1544 v1739 v1934 v2129 v2324 k0_hw12 k0_h1)
theorem k0_off128_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off128 v179 v374 v569 v764 v959 v1154 v1349 v1544 v1739 v1934 v2129 v2324) a + S1x128x128.size a ≤ S8x2304x128.size a := fun i v179 v374 v569 v764 v959 v1154 v1349 v1544 v1739 v1934 v2129 v2324 k0_hw12 k0_h1 => k0_hw12.2.2.2.2.2.2.2.2.2.2.2.2.2.2.1 k0_h1
theorem k0_off128_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), (Rect.unit (s := S8x2304x128) (k0_off128 v179 v374 v569 v764 v959 v1154 v1349 v1544 v1739 v1934 v2129 v2324) S1x128x128.size (k0_off128_inb i v179 v374 v569 v764 v959 v1154 v1349 v1544 v1739 v1934 v2129 v2324 k0_hw12 k0_h1)).PackedRows (EltTy.packing .bf16) := fun i v179 v374 v569 v764 v959 v1154 v1349 v1544 v1739 v1934 v2129 v2324 k0_hw12 k0_h1 => k0_hw12.2.2.2.2.2.2.2.2.2.2.2.2.2.2.2.1 k0_h1 (k0_off128_inb i v179 v374 v569 v764 v959 v1154 v1349 v1544 v1739 v1934 v2129 v2324 k0_hw12 k0_h1)
theorem k0_off129_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off129 v179 v374 v569 v764 v959 v1154 v1349 v1544 v1739 v1934 v2129 v2324) a + S1x128.size a ≤ S18x128.size a := fun i v179 v374 v569 v764 v959 v1154 v1349 v1544 v1739 v1934 v2129 v2324 k0_hw12 k0_h1 => k0_hw12.2.2.2.2.2.2.2.2.2.2.2.2.2.2.2.2.1 k0_h1
theorem k0_off130_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (k0_hw12 : k0_chk12 i v179 v374 v569 v764 v959 v1154 v1349 v1544 v1739 v1934 v2129 v2324), ∀ (k0_h1 : k0_cond1 i = 1#1), ∀ a, (k0_off130 v179 v374 v569 v764 v959 v1154 v1349 v1544 v1739 v1934 v2129 v2324) a + S1x128.size a ≤ S18x128.size a := fun i v179 v374 v569 v764 v959 v1154 v1349 v1544 v1739 v1934 v2129 v2324 k0_hw12 k0_h1 => k0_hw12.2.2.2.2.2.2.2.2.2.2.2.2.2.2.2.2.2 k0_h1

def k0_off131 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c0_1514 : Index := 0#32
  let c2_i32_1513 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2718 : BitVec 32 := Scalar.muli c2_i32_1513 v2715
  let v2719 : Index := Scalar.indexCast v2718
  let c0_1515 : Index := 0#32
  ![0, v2719.toNat, 0]

def k0_off132 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c1_1524 : Index := 1#32
  let c2_i32_1523 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2733 : BitVec 32 := Scalar.muli c2_i32_1523 v2715
  let v2734 : Index := Scalar.indexCast v2733
  let c0_1525 : Index := 0#32
  ![1, v2734.toNat, 0]
def k0_off133 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c2_1534 : Index := 2#32
  let c2_i32_1533 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2748 : BitVec 32 := Scalar.muli c2_i32_1533 v2715
  let v2749 : Index := Scalar.indexCast v2748
  let c0_1535 : Index := 0#32
  ![2, v2749.toNat, 0]
def k0_off134 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c3_1544 : Index := 3#32
  let c2_i32_1543 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2763 : BitVec 32 := Scalar.muli c2_i32_1543 v2715
  let v2764 : Index := Scalar.indexCast v2763
  let c0_1545 : Index := 0#32
  ![3, v2764.toNat, 0]
def k0_off135 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c4_1554 : Index := 4#32
  let c2_i32_1553 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2778 : BitVec 32 := Scalar.muli c2_i32_1553 v2715
  let v2779 : Index := Scalar.indexCast v2778
  let c0_1555 : Index := 0#32
  ![4, v2779.toNat, 0]
def k0_off136 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c5_1564 : Index := 5#32
  let c2_i32_1563 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2793 : BitVec 32 := Scalar.muli c2_i32_1563 v2715
  let v2794 : Index := Scalar.indexCast v2793
  let c0_1565 : Index := 0#32
  ![5, v2794.toNat, 0]
def k0_off137 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c6_1574 : Index := 6#32
  let c2_i32_1573 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2808 : BitVec 32 := Scalar.muli c2_i32_1573 v2715
  let v2809 : Index := Scalar.indexCast v2808
  let c0_1575 : Index := 0#32
  ![6, v2809.toNat, 0]
def k0_off138 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 3 → Nat :=
  let c7_1584 : Index := 7#32
  let c2_i32_1583 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c1_i32_1511 : BitVec 32 := 1#32
  let v2715 : BitVec 32 := Scalar.shrui v2713 c1_i32_1511
  let v2823 : BitVec 32 := Scalar.muli c2_i32_1583 v2715
  let v2824 : Index := Scalar.indexCast v2823
  let c0_1585 : Index := 0#32
  ![7, v2824.toNat, 0]
def k0_off139 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c0_i32_1598 : BitVec 32 := 0#32
  let v2847 : BitVec 1 := Scalar.cmpi .sgt v2713 c0_i32_1598
  let v2848 : BitVec 32 := Scalar.extui v2847
  let c0_i32_1599 : BitVec 32 := 0#32
  let v2849 : BitVec 1 := Scalar.cmpi .slt v2713 c0_i32_1599
  let v2850 : BitVec 32 := Scalar.extui v2849
  let v2851 : BitVec 32 := Scalar.subi v2848 v2850
  let c128_i32_1597 : BitVec 32 := 128#32
  let c0_i32_1600 : BitVec 32 := 0#32
  let v2852 : BitVec 1 := Scalar.cmpi .sgt c128_i32_1597 c0_i32_1600
  let v2853 : BitVec 32 := Scalar.extui v2852
  let c0_i32_1601 : BitVec 32 := 0#32
  let v2854 : BitVec 1 := Scalar.cmpi .slt c128_i32_1597 c0_i32_1601
  let v2855 : BitVec 32 := Scalar.extui v2854
  let v2856 : BitVec 32 := Scalar.subi v2853 v2855
  let v2857 : BitVec 1 := Scalar.cmpi .ne v2851 v2856
  let v2858 : BitVec 32 := Scalar.remsi v2713 c128_i32_1597
  let c0_i32_1602 : BitVec 32 := 0#32
  let v2859 : BitVec 1 := Scalar.cmpi .ne v2858 c0_i32_1602
  let v2860 : BitVec 1 := Scalar.andi v2857 v2859
  let v2846 : BitVec 32 := Scalar.divsi v2713 c128_i32_1597
  let c1_i32_1603 : BitVec 32 := 1#32
  let v2861 : BitVec 32 := Scalar.subi v2846 c1_i32_1603
  let v2862 : BitVec 32 := Scalar.select v2860 v2861 v2846
  let v2876 : Index := Scalar.indexCast v2862
  let c0_1608 : Index := 0#32
  ![v2876.toNat, 0]
def k0_off140 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let c0_i32_1598 : BitVec 32 := 0#32
  let v2847 : BitVec 1 := Scalar.cmpi .sgt v2713 c0_i32_1598
  let v2848 : BitVec 32 := Scalar.extui v2847
  let c0_i32_1599 : BitVec 32 := 0#32
  let v2849 : BitVec 1 := Scalar.cmpi .slt v2713 c0_i32_1599
  let v2850 : BitVec 32 := Scalar.extui v2849
  let v2851 : BitVec 32 := Scalar.subi v2848 v2850
  let c128_i32_1597 : BitVec 32 := 128#32
  let c0_i32_1600 : BitVec 32 := 0#32
  let v2852 : BitVec 1 := Scalar.cmpi .sgt c128_i32_1597 c0_i32_1600
  let v2853 : BitVec 32 := Scalar.extui v2852
  let c0_i32_1601 : BitVec 32 := 0#32
  let v2854 : BitVec 1 := Scalar.cmpi .slt c128_i32_1597 c0_i32_1601
  let v2855 : BitVec 32 := Scalar.extui v2854
  let v2856 : BitVec 32 := Scalar.subi v2853 v2855
  let v2857 : BitVec 1 := Scalar.cmpi .ne v2851 v2856
  let v2858 : BitVec 32 := Scalar.remsi v2713 c128_i32_1597
  let c0_i32_1602 : BitVec 32 := 0#32
  let v2859 : BitVec 1 := Scalar.cmpi .ne v2858 c0_i32_1602
  let v2860 : BitVec 1 := Scalar.andi v2857 v2859
  let v2846 : BitVec 32 := Scalar.divsi v2713 c128_i32_1597
  let c1_i32_1603 : BitVec 32 := 1#32
  let v2861 : BitVec 32 := Scalar.subi v2846 c1_i32_1603
  let v2862 : BitVec 32 := Scalar.select v2860 v2861 v2846
  let c1_i32_1607 : BitVec 32 := 1#32
  let v2875 : BitVec 32 := Scalar.addi v2862 c1_i32_1607
  let v2891 : Index := Scalar.indexCast v2875
  let c0_1613 : Index := 0#32
  ![v2891.toNat, 0]

def k0_chk13 (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) : Prop :=
  (∀ (k0_h1 : k0_cond1 i = 1#1), ∀ a, (k0_off131 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off131 v179 v374 v569 v764 v959 v1154 v1349 v1544 v1739 v1934 v2129 v2324 v2519) a + S1x128x128.size a ≤ S8x2304x128.size a), (Rect.unit (s := S8x2304x128) (k0_off131 v179 v374 v569 v764 v959 v1154 v1349 v1544 v1739 v1934 v2129 v2324 v2519) S1x128x128.size hinb).PackedRows (EltTy.packing .bf16)) ∧
  (∀ (k0_h1 : k0_cond1 i = 1#1), ∀ a, (k0_off132 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off132 v179 v374 v569 v764 v959 v1154 v1349 v1544 v1739 v1934 v2129 v2324 v2519) a + S1x128x128.size a ≤ S8x2304x128.size a), (Rect.unit (s := S8x2304x128) (k0_off132 v179 v374 v569 v764 v959 v1154 v1349 v1544 v1739 v1934 v2129 v2324 v2519) S1x128x128.size hinb).PackedRows (EltTy.packing .bf16)) ∧
  (∀ (k0_h1 : k0_cond1 i = 1#1), ∀ a, (k0_off133 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off133 v179 v374 v569 v764 v959 v1154 v1349 v1544 v1739 v1934 v2129 v2324 v2519) a + S1x128x128.size a ≤ S8x2304x128.size a), (Rect.unit (s := S8x2304x128) (k0_off133 v179 v374 v569 v764 v959 v1154 v1349 v1544 v1739 v1934 v2129 v2324 v2519) S1x128x128.size hinb).PackedRows (EltTy.packing .bf16)) ∧
  (∀ (k0_h1 : k0_cond1 i = 1#1), ∀ a, (k0_off134 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off134 v179 v374 v569 v764 v959 v1154 v1349 v1544 v1739 v1934 v2129 v2324 v2519) a + S1x128x128.size a ≤ S8x2304x128.size a), (Rect.unit (s := S8x2304x128) (k0_off134 v179 v374 v569 v764 v959 v1154 v1349 v1544 v1739 v1934 v2129 v2324 v2519) S1x128x128.size hinb).PackedRows (EltTy.packing .bf16)) ∧
  (∀ (k0_h1 : k0_cond1 i = 1#1), ∀ a, (k0_off135 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off135 v179 v374 v569 v764 v959 v1154 v1349 v1544 v1739 v1934 v2129 v2324 v2519) a + S1x128x128.size a ≤ S8x2304x128.size a), (Rect.unit (s := S8x2304x128) (k0_off135 v179 v374 v569 v764 v959 v1154 v1349 v1544 v1739 v1934 v2129 v2324 v2519) S1x128x128.size hinb).PackedRows (EltTy.packing .bf16)) ∧
  (∀ (k0_h1 : k0_cond1 i = 1#1), ∀ a, (k0_off136 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off136 v179 v374 v569 v764 v959 v1154 v1349 v1544 v1739 v1934 v2129 v2324 v2519) a + S1x128x128.size a ≤ S8x2304x128.size a), (Rect.unit (s := S8x2304x128) (k0_off136 v179 v374 v569 v764 v959 v1154 v1349 v1544 v1739 v1934 v2129 v2324 v2519) S1x128x128.size hinb).PackedRows (EltTy.packing .bf16)) ∧
  (∀ (k0_h1 : k0_cond1 i = 1#1), ∀ a, (k0_off137 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off137 v179 v374 v569 v764 v959 v1154 v1349 v1544 v1739 v1934 v2129 v2324 v2519) a + S1x128x128.size a ≤ S8x2304x128.size a), (Rect.unit (s := S8x2304x128) (k0_off137 v179 v374 v569 v764 v959 v1154 v1349 v1544 v1739 v1934 v2129 v2324 v2519) S1x128x128.size hinb).PackedRows (EltTy.packing .bf16)) ∧
  (∀ (k0_h1 : k0_cond1 i = 1#1), ∀ a, (k0_off138 v179 v374 v569 v764 v959 v1154 v1349 v1544 v1739 v1934 v2129 v2324 v2519) a + S1x128x128.size a ≤ S8x2304x128.size a) ∧
  (∀ (k0_h1 : k0_cond1 i = 1#1), ∀ (hinb : ∀ a, (k0_off138 v179 v374 v569 v764 v959 v1154 v1349 v1544 v1739 v1934 v2129 v2324 v2519) a + S1x128x128.size a ≤ S8x2304x128.size a), (Rect.unit (s := S8x2304x128) (k0_off138 v179 v374 v569 v764 v959 v1154 v1349 v1544 v1739 v1934 v2129 v2324 v2519) S1x128x128.size hinb).PackedRows (EltTy.packing .bf16)) ∧
  (∀ (k0_h1 : k0_cond1 i = 1#1), ∀ a, (k0_off139 v179 v374 v569 v764 v959 v1154 v1349 v1544 v1739 v1934 v2129 v2324 v2519) a + S1x128.size a ≤ S18x128.size a) ∧
  (∀ (k0_h1 : k0_cond1 i = 1#1), ∀ a, (k0_off140 v179 v374 v569 v764 v959 v1154 v1349 v1544 v1739 v1934 v2129 v2324 v2519) a + S1x128.size a ≤ S18x128.size a)
theorem k0_off131_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off131 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.1 k0_h1
theorem k0_off131_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off131 v179 v374 v569 v764 v959 v1154 v1349 v1544 v1739 v1934 v2129 v2324 v2519) S1x128x128.size (k0_off131_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.1 k0_h1 (k0_off131_inb i v179 v374 v569 v764 v959 v1154 v1349 v1544 v1739 v1934 v2129 v2324 v2519 k0_hw13 k0_h1)
theorem k0_off132_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off132 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.2.2.1 k0_h1
theorem k0_off132_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off132 v179 v374 v569 v764 v959 v1154 v1349 v1544 v1739 v1934 v2129 v2324 v2519) S1x128x128.size (k0_off132_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.2.2.1 k0_h1 (k0_off132_inb i v179 v374 v569 v764 v959 v1154 v1349 v1544 v1739 v1934 v2129 v2324 v2519 k0_hw13 k0_h1)
theorem k0_off133_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off133 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.2.2.2.2.1 k0_h1
theorem k0_off133_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off133 v179 v374 v569 v764 v959 v1154 v1349 v1544 v1739 v1934 v2129 v2324 v2519) S1x128x128.size (k0_off133_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.2.2.2.2.1 k0_h1 (k0_off133_inb i v179 v374 v569 v764 v959 v1154 v1349 v1544 v1739 v1934 v2129 v2324 v2519 k0_hw13 k0_h1)
theorem k0_off134_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off134 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.2.2.2.2.2.2.1 k0_h1
theorem k0_off134_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off134 v179 v374 v569 v764 v959 v1154 v1349 v1544 v1739 v1934 v2129 v2324 v2519) S1x128x128.size (k0_off134_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.2.2.2.2.2.2.1 k0_h1 (k0_off134_inb i v179 v374 v569 v764 v959 v1154 v1349 v1544 v1739 v1934 v2129 v2324 v2519 k0_hw13 k0_h1)
theorem k0_off135_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off135 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.2.2.2.2.2.2.2.2.1 k0_h1
theorem k0_off135_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off135 v179 v374 v569 v764 v959 v1154 v1349 v1544 v1739 v1934 v2129 v2324 v2519) S1x128x128.size (k0_off135_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.2.2.2.2.2.2.2.2.1 k0_h1 (k0_off135_inb i v179 v374 v569 v764 v959 v1154 v1349 v1544 v1739 v1934 v2129 v2324 v2519 k0_hw13 k0_h1)
theorem k0_off136_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off136 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.2.2.2.2.2.2.2.2.2.2.1 k0_h1
theorem k0_off136_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off136 v179 v374 v569 v764 v959 v1154 v1349 v1544 v1739 v1934 v2129 v2324 v2519) S1x128x128.size (k0_off136_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.2.2.2.2.2.2.2.2.2.2.1 k0_h1 (k0_off136_inb i v179 v374 v569 v764 v959 v1154 v1349 v1544 v1739 v1934 v2129 v2324 v2519 k0_hw13 k0_h1)
theorem k0_off137_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off137 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.2.2.2.2.2.2.2.2.2.2.2.2.1 k0_h1
theorem k0_off137_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off137 v179 v374 v569 v764 v959 v1154 v1349 v1544 v1739 v1934 v2129 v2324 v2519) S1x128x128.size (k0_off137_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.2.2.2.2.2.2.2.2.2.2.2.2.1 k0_h1 (k0_off137_inb i v179 v374 v569 v764 v959 v1154 v1349 v1544 v1739 v1934 v2129 v2324 v2519 k0_hw13 k0_h1)
theorem k0_off138_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off138 v179 v374 v569 v764 v959 v1154 v1349 v1544 v1739 v1934 v2129 v2324 v2519) a + S1x128x128.size a ≤ S8x2304x128.size a := fun i v179 v374 v569 v764 v959 v1154 v1349 v1544 v1739 v1934 v2129 v2324 v2519 k0_hw13 k0_h1 => k0_hw13.2.2.2.2.2.2.2.2.2.2.2.2.2.2.1 k0_h1
theorem k0_off138_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), (Rect.unit (s := S8x2304x128) (k0_off138 v179 v374 v569 v764 v959 v1154 v1349 v1544 v1739 v1934 v2129 v2324 v2519) S1x128x128.size (k0_off138_inb i v179 v374 v569 v764 v959 v1154 v1349 v1544 v1739 v1934 v2129 v2324 v2519 k0_hw13 k0_h1)).PackedRows (EltTy.packing .bf16) := fun i v179 v374 v569 v764 v959 v1154 v1349 v1544 v1739 v1934 v2129 v2324 v2519 k0_hw13 k0_h1 => k0_hw13.2.2.2.2.2.2.2.2.2.2.2.2.2.2.2.1 k0_h1 (k0_off138_inb i v179 v374 v569 v764 v959 v1154 v1349 v1544 v1739 v1934 v2129 v2324 v2519 k0_hw13 k0_h1)
theorem k0_off139_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off139 v179 v374 v569 v764 v959 v1154 v1349 v1544 v1739 v1934 v2129 v2324 v2519) a + S1x128.size a ≤ S18x128.size a := fun i v179 v374 v569 v764 v959 v1154 v1349 v1544 v1739 v1934 v2129 v2324 v2519 k0_hw13 k0_h1 => k0_hw13.2.2.2.2.2.2.2.2.2.2.2.2.2.2.2.2.1 k0_h1
theorem k0_off140_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (k0_hw13 : k0_chk13 i v179 v374 v569 v764 v959 v1154 v1349 v1544 v1739 v1934 v2129 v2324 v2519), ∀ (k0_h1 : k0_cond1 i = 1#1), ∀ a, (k0_off140 v179 v374 v569 v764 v959 v1154 v1349 v1544 v1739 v1934 v2129 v2324 v2519) a + S1x128.size a ≤ S18x128.size a := fun i v179 v374 v569 v764 v959 v1154 v1349 v1544 v1739 v1934 v2129 v2324 v2519 k0_hw13 k0_h1 => k0_hw13.2.2.2.2.2.2.2.2.2.2.2.2.2.2.2.2.2 k0_h1

def k0_off141 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c0_1623 : Index := 0#32
  let c2_i32_1622 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v2913 : BitVec 32 := Scalar.muli c2_i32_1622 v2910
  let v2914 : Index := Scalar.indexCast v2913
  let c0_1624 : Index := 0#32
  ![0, v2914.toNat, 0]

def k0_off142 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c1_1633 : Index := 1#32
  let c2_i32_1632 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v2928 : BitVec 32 := Scalar.muli c2_i32_1632 v2910
  let v2929 : Index := Scalar.indexCast v2928
  let c0_1634 : Index := 0#32
  ![1, v2929.toNat, 0]
def k0_off143 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c2_1643 : Index := 2#32
  let c2_i32_1642 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v2943 : BitVec 32 := Scalar.muli c2_i32_1642 v2910
  let v2944 : Index := Scalar.indexCast v2943
  let c0_1644 : Index := 0#32
  ![2, v2944.toNat, 0]
def k0_off144 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c3_1653 : Index := 3#32
  let c2_i32_1652 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v2958 : BitVec 32 := Scalar.muli c2_i32_1652 v2910
  let v2959 : Index := Scalar.indexCast v2958
  let c0_1654 : Index := 0#32
  ![3, v2959.toNat, 0]
def k0_off145 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c4_1663 : Index := 4#32
  let c2_i32_1662 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v2973 : BitVec 32 := Scalar.muli c2_i32_1662 v2910
  let v2974 : Index := Scalar.indexCast v2973
  let c0_1664 : Index := 0#32
  ![4, v2974.toNat, 0]
def k0_off146 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c5_1673 : Index := 5#32
  let c2_i32_1672 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v2988 : BitVec 32 := Scalar.muli c2_i32_1672 v2910
  let v2989 : Index := Scalar.indexCast v2988
  let c0_1674 : Index := 0#32
  ![5, v2989.toNat, 0]
def k0_off147 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c6_1683 : Index := 6#32
  let c2_i32_1682 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v3003 : BitVec 32 := Scalar.muli c2_i32_1682 v2910
  let v3004 : Index := Scalar.indexCast v3003
  let c0_1684 : Index := 0#32
  ![6, v3004.toNat, 0]
def k0_off148 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 3 → Nat :=
  let c7_1693 : Index := 7#32
  let c2_i32_1692 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c1_i32_1620 : BitVec 32 := 1#32
  let v2910 : BitVec 32 := Scalar.shrui v2908 c1_i32_1620
  let v3018 : BitVec 32 := Scalar.muli c2_i32_1692 v2910
  let v3019 : Index := Scalar.indexCast v3018
  let c0_1694 : Index := 0#32
  ![7, v3019.toNat, 0]
def k0_off149 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c0_i32_1707 : BitVec 32 := 0#32
  let v3042 : BitVec 1 := Scalar.cmpi .sgt v2908 c0_i32_1707
  let v3043 : BitVec 32 := Scalar.extui v3042
  let c0_i32_1708 : BitVec 32 := 0#32
  let v3044 : BitVec 1 := Scalar.cmpi .slt v2908 c0_i32_1708
  let v3045 : BitVec 32 := Scalar.extui v3044
  let v3046 : BitVec 32 := Scalar.subi v3043 v3045
  let c128_i32_1706 : BitVec 32 := 128#32
  let c0_i32_1709 : BitVec 32 := 0#32
  let v3047 : BitVec 1 := Scalar.cmpi .sgt c128_i32_1706 c0_i32_1709
  let v3048 : BitVec 32 := Scalar.extui v3047
  let c0_i32_1710 : BitVec 32 := 0#32
  let v3049 : BitVec 1 := Scalar.cmpi .slt c128_i32_1706 c0_i32_1710
  let v3050 : BitVec 32 := Scalar.extui v3049
  let v3051 : BitVec 32 := Scalar.subi v3048 v3050
  let v3052 : BitVec 1 := Scalar.cmpi .ne v3046 v3051
  let v3053 : BitVec 32 := Scalar.remsi v2908 c128_i32_1706
  let c0_i32_1711 : BitVec 32 := 0#32
  let v3054 : BitVec 1 := Scalar.cmpi .ne v3053 c0_i32_1711
  let v3055 : BitVec 1 := Scalar.andi v3052 v3054
  let v3041 : BitVec 32 := Scalar.divsi v2908 c128_i32_1706
  let c1_i32_1712 : BitVec 32 := 1#32
  let v3056 : BitVec 32 := Scalar.subi v3041 c1_i32_1712
  let v3057 : BitVec 32 := Scalar.select v3055 v3056 v3041
  let v3071 : Index := Scalar.indexCast v3057
  let c0_1717 : Index := 0#32
  ![v3071.toNat, 0]
def k0_off150 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let c0_i32_1707 : BitVec 32 := 0#32
  let v3042 : BitVec 1 := Scalar.cmpi .sgt v2908 c0_i32_1707
  let v3043 : BitVec 32 := Scalar.extui v3042
  let c0_i32_1708 : BitVec 32 := 0#32
  let v3044 : BitVec 1 := Scalar.cmpi .slt v2908 c0_i32_1708
  let v3045 : BitVec 32 := Scalar.extui v3044
  let v3046 : BitVec 32 := Scalar.subi v3043 v3045
  let c128_i32_1706 : BitVec 32 := 128#32
  let c0_i32_1709 : BitVec 32 := 0#32
  let v3047 : BitVec 1 := Scalar.cmpi .sgt c128_i32_1706 c0_i32_1709
  let v3048 : BitVec 32 := Scalar.extui v3047
  let c0_i32_1710 : BitVec 32 := 0#32
  let v3049 : BitVec 1 := Scalar.cmpi .slt c128_i32_1706 c0_i32_1710
  let v3050 : BitVec 32 := Scalar.extui v3049
  let v3051 : BitVec 32 := Scalar.subi v3048 v3050
  let v3052 : BitVec 1 := Scalar.cmpi .ne v3046 v3051
  let v3053 : BitVec 32 := Scalar.remsi v2908 c128_i32_1706
  let c0_i32_1711 : BitVec 32 := 0#32
  let v3054 : BitVec 1 := Scalar.cmpi .ne v3053 c0_i32_1711
  let v3055 : BitVec 1 := Scalar.andi v3052 v3054
  let v3041 : BitVec 32 := Scalar.divsi v2908 c128_i32_1706
  let c1_i32_1712 : BitVec 32 := 1#32
  let v3056 : BitVec 32 := Scalar.subi v3041 c1_i32_1712
  let v3057 : BitVec 32 := Scalar.select v3055 v3056 v3041
  let c1_i32_1716 : BitVec 32 := 1#32
  let v3070 : BitVec 32 := Scalar.addi v3057 c1_i32_1716
  let v3086 : Index := Scalar.indexCast v3070
  let c0_1722 : Index := 0#32
  ![v3086.toNat, 0]

def k0_chk14 (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) : Prop :=
  (∀ (k0_h1 : k0_cond1 i = 1#1), ∀ a, (k0_off141 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off141 v179 v374 v569 v764 v959 v1154 v1349 v1544 v1739 v1934 v2129 v2324 v2519 v2714) a + S1x128x128.size a ≤ S8x2304x128.size a), (Rect.unit (s := S8x2304x128) (k0_off141 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off142 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off142 v179 v374 v569 v764 v959 v1154 v1349 v1544 v1739 v1934 v2129 v2324 v2519 v2714) a + S1x128x128.size a ≤ S8x2304x128.size a), (Rect.unit (s := S8x2304x128) (k0_off142 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off143 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off143 v179 v374 v569 v764 v959 v1154 v1349 v1544 v1739 v1934 v2129 v2324 v2519 v2714) a + S1x128x128.size a ≤ S8x2304x128.size a), (Rect.unit (s := S8x2304x128) (k0_off143 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off144 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off144 v179 v374 v569 v764 v959 v1154 v1349 v1544 v1739 v1934 v2129 v2324 v2519 v2714) a + S1x128x128.size a ≤ S8x2304x128.size a), (Rect.unit (s := S8x2304x128) (k0_off144 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off145 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off145 v179 v374 v569 v764 v959 v1154 v1349 v1544 v1739 v1934 v2129 v2324 v2519 v2714) a + S1x128x128.size a ≤ S8x2304x128.size a), (Rect.unit (s := S8x2304x128) (k0_off145 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off146 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off146 v179 v374 v569 v764 v959 v1154 v1349 v1544 v1739 v1934 v2129 v2324 v2519 v2714) a + S1x128x128.size a ≤ S8x2304x128.size a), (Rect.unit (s := S8x2304x128) (k0_off146 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off147 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off147 v179 v374 v569 v764 v959 v1154 v1349 v1544 v1739 v1934 v2129 v2324 v2519 v2714) a + S1x128x128.size a ≤ S8x2304x128.size a), (Rect.unit (s := S8x2304x128) (k0_off147 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off148 v179 v374 v569 v764 v959 v1154 v1349 v1544 v1739 v1934 v2129 v2324 v2519 v2714) a + S1x128x128.size a ≤ S8x2304x128.size a) ∧
  (∀ (k0_h1 : k0_cond1 i = 1#1), ∀ (hinb : ∀ a, (k0_off148 v179 v374 v569 v764 v959 v1154 v1349 v1544 v1739 v1934 v2129 v2324 v2519 v2714) a + S1x128x128.size a ≤ S8x2304x128.size a), (Rect.unit (s := S8x2304x128) (k0_off148 v179 v374 v569 v764 v959 v1154 v1349 v1544 v1739 v1934 v2129 v2324 v2519 v2714) S1x128x128.size hinb).PackedRows (EltTy.packing .bf16)) ∧
  (∀ (k0_h1 : k0_cond1 i = 1#1), ∀ a, (k0_off149 v179 v374 v569 v764 v959 v1154 v1349 v1544 v1739 v1934 v2129 v2324 v2519 v2714) a + S1x128.size a ≤ S18x128.size a) ∧
  (∀ (k0_h1 : k0_cond1 i = 1#1), ∀ a, (k0_off150 v179 v374 v569 v764 v959 v1154 v1349 v1544 v1739 v1934 v2129 v2324 v2519 v2714) a + S1x128.size a ≤ S18x128.size a)
theorem k0_off141_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off141 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.1 k0_h1
theorem k0_off141_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off141 v179 v374 v569 v764 v959 v1154 v1349 v1544 v1739 v1934 v2129 v2324 v2519 v2714) S1x128x128.size (k0_off141_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.1 k0_h1 (k0_off141_inb i v179 v374 v569 v764 v959 v1154 v1349 v1544 v1739 v1934 v2129 v2324 v2519 v2714 k0_hw14 k0_h1)
theorem k0_off142_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off142 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.2.2.1 k0_h1
theorem k0_off142_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off142 v179 v374 v569 v764 v959 v1154 v1349 v1544 v1739 v1934 v2129 v2324 v2519 v2714) S1x128x128.size (k0_off142_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.2.2.1 k0_h1 (k0_off142_inb i v179 v374 v569 v764 v959 v1154 v1349 v1544 v1739 v1934 v2129 v2324 v2519 v2714 k0_hw14 k0_h1)
theorem k0_off143_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off143 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.2.2.2.2.1 k0_h1
theorem k0_off143_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off143 v179 v374 v569 v764 v959 v1154 v1349 v1544 v1739 v1934 v2129 v2324 v2519 v2714) S1x128x128.size (k0_off143_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.2.2.2.2.1 k0_h1 (k0_off143_inb i v179 v374 v569 v764 v959 v1154 v1349 v1544 v1739 v1934 v2129 v2324 v2519 v2714 k0_hw14 k0_h1)
theorem k0_off144_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off144 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.2.2.2.2.2.2.1 k0_h1
theorem k0_off144_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off144 v179 v374 v569 v764 v959 v1154 v1349 v1544 v1739 v1934 v2129 v2324 v2519 v2714) S1x128x128.size (k0_off144_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.2.2.2.2.2.2.1 k0_h1 (k0_off144_inb i v179 v374 v569 v764 v959 v1154 v1349 v1544 v1739 v1934 v2129 v2324 v2519 v2714 k0_hw14 k0_h1)
theorem k0_off145_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off145 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.2.2.2.2.2.2.2.2.1 k0_h1
theorem k0_off145_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off145 v179 v374 v569 v764 v959 v1154 v1349 v1544 v1739 v1934 v2129 v2324 v2519 v2714) S1x128x128.size (k0_off145_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.2.2.2.2.2.2.2.2.1 k0_h1 (k0_off145_inb i v179 v374 v569 v764 v959 v1154 v1349 v1544 v1739 v1934 v2129 v2324 v2519 v2714 k0_hw14 k0_h1)
theorem k0_off146_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off146 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.2.2.2.2.2.2.2.2.2.2.1 k0_h1
theorem k0_off146_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off146 v179 v374 v569 v764 v959 v1154 v1349 v1544 v1739 v1934 v2129 v2324 v2519 v2714) S1x128x128.size (k0_off146_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.2.2.2.2.2.2.2.2.2.2.1 k0_h1 (k0_off146_inb i v179 v374 v569 v764 v959 v1154 v1349 v1544 v1739 v1934 v2129 v2324 v2519 v2714 k0_hw14 k0_h1)
theorem k0_off147_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off147 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.2.2.2.2.2.2.2.2.2.2.2.2.1 k0_h1
theorem k0_off147_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off147 v179 v374 v569 v764 v959 v1154 v1349 v1544 v1739 v1934 v2129 v2324 v2519 v2714) S1x128x128.size (k0_off147_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.2.2.2.2.2.2.2.2.2.2.2.2.1 k0_h1 (k0_off147_inb i v179 v374 v569 v764 v959 v1154 v1349 v1544 v1739 v1934 v2129 v2324 v2519 v2714 k0_hw14 k0_h1)
theorem k0_off148_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off148 v179 v374 v569 v764 v959 v1154 v1349 v1544 v1739 v1934 v2129 v2324 v2519 v2714) a + S1x128x128.size a ≤ S8x2304x128.size a := fun i v179 v374 v569 v764 v959 v1154 v1349 v1544 v1739 v1934 v2129 v2324 v2519 v2714 k0_hw14 k0_h1 => k0_hw14.2.2.2.2.2.2.2.2.2.2.2.2.2.2.1 k0_h1
theorem k0_off148_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), (Rect.unit (s := S8x2304x128) (k0_off148 v179 v374 v569 v764 v959 v1154 v1349 v1544 v1739 v1934 v2129 v2324 v2519 v2714) S1x128x128.size (k0_off148_inb i v179 v374 v569 v764 v959 v1154 v1349 v1544 v1739 v1934 v2129 v2324 v2519 v2714 k0_hw14 k0_h1)).PackedRows (EltTy.packing .bf16) := fun i v179 v374 v569 v764 v959 v1154 v1349 v1544 v1739 v1934 v2129 v2324 v2519 v2714 k0_hw14 k0_h1 => k0_hw14.2.2.2.2.2.2.2.2.2.2.2.2.2.2.2.1 k0_h1 (k0_off148_inb i v179 v374 v569 v764 v959 v1154 v1349 v1544 v1739 v1934 v2129 v2324 v2519 v2714 k0_hw14 k0_h1)
theorem k0_off149_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off149 v179 v374 v569 v764 v959 v1154 v1349 v1544 v1739 v1934 v2129 v2324 v2519 v2714) a + S1x128.size a ≤ S18x128.size a := fun i v179 v374 v569 v764 v959 v1154 v1349 v1544 v1739 v1934 v2129 v2324 v2519 v2714 k0_hw14 k0_h1 => k0_hw14.2.2.2.2.2.2.2.2.2.2.2.2.2.2.2.2.1 k0_h1
theorem k0_off150_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (k0_hw14 : k0_chk14 i v179 v374 v569 v764 v959 v1154 v1349 v1544 v1739 v1934 v2129 v2324 v2519 v2714), ∀ (k0_h1 : k0_cond1 i = 1#1), ∀ a, (k0_off150 v179 v374 v569 v764 v959 v1154 v1349 v1544 v1739 v1934 v2129 v2324 v2519 v2714) a + S1x128.size a ≤ S18x128.size a := fun i v179 v374 v569 v764 v959 v1154 v1349 v1544 v1739 v1934 v2129 v2324 v2519 v2714 k0_hw14 k0_h1 => k0_hw14.2.2.2.2.2.2.2.2.2.2.2.2.2.2.2.2.2 k0_h1

def k0_off151 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c0_1732 : Index := 0#32
  let c2_i32_1731 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3108 : BitVec 32 := Scalar.muli c2_i32_1731 v3105
  let v3109 : Index := Scalar.indexCast v3108
  let c0_1733 : Index := 0#32
  ![0, v3109.toNat, 0]

def k0_off152 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c1_1742 : Index := 1#32
  let c2_i32_1741 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3123 : BitVec 32 := Scalar.muli c2_i32_1741 v3105
  let v3124 : Index := Scalar.indexCast v3123
  let c0_1743 : Index := 0#32
  ![1, v3124.toNat, 0]
def k0_off153 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c2_1752 : Index := 2#32
  let c2_i32_1751 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3138 : BitVec 32 := Scalar.muli c2_i32_1751 v3105
  let v3139 : Index := Scalar.indexCast v3138
  let c0_1753 : Index := 0#32
  ![2, v3139.toNat, 0]
def k0_off154 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c3_1762 : Index := 3#32
  let c2_i32_1761 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3153 : BitVec 32 := Scalar.muli c2_i32_1761 v3105
  let v3154 : Index := Scalar.indexCast v3153
  let c0_1763 : Index := 0#32
  ![3, v3154.toNat, 0]
def k0_off155 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c4_1772 : Index := 4#32
  let c2_i32_1771 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3168 : BitVec 32 := Scalar.muli c2_i32_1771 v3105
  let v3169 : Index := Scalar.indexCast v3168
  let c0_1773 : Index := 0#32
  ![4, v3169.toNat, 0]
def k0_off156 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c5_1782 : Index := 5#32
  let c2_i32_1781 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3183 : BitVec 32 := Scalar.muli c2_i32_1781 v3105
  let v3184 : Index := Scalar.indexCast v3183
  let c0_1783 : Index := 0#32
  ![5, v3184.toNat, 0]
def k0_off157 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c6_1792 : Index := 6#32
  let c2_i32_1791 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3198 : BitVec 32 := Scalar.muli c2_i32_1791 v3105
  let v3199 : Index := Scalar.indexCast v3198
  let c0_1793 : Index := 0#32
  ![6, v3199.toNat, 0]
def k0_off158 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 3 → Nat :=
  let c7_1802 : Index := 7#32
  let c2_i32_1801 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c1_i32_1729 : BitVec 32 := 1#32
  let v3105 : BitVec 32 := Scalar.shrui v3103 c1_i32_1729
  let v3213 : BitVec 32 := Scalar.muli c2_i32_1801 v3105
  let v3214 : Index := Scalar.indexCast v3213
  let c0_1803 : Index := 0#32
  ![7, v3214.toNat, 0]
def k0_off159 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c0_i32_1816 : BitVec 32 := 0#32
  let v3237 : BitVec 1 := Scalar.cmpi .sgt v3103 c0_i32_1816
  let v3238 : BitVec 32 := Scalar.extui v3237
  let c0_i32_1817 : BitVec 32 := 0#32
  let v3239 : BitVec 1 := Scalar.cmpi .slt v3103 c0_i32_1817
  let v3240 : BitVec 32 := Scalar.extui v3239
  let v3241 : BitVec 32 := Scalar.subi v3238 v3240
  let c128_i32_1815 : BitVec 32 := 128#32
  let c0_i32_1818 : BitVec 32 := 0#32
  let v3242 : BitVec 1 := Scalar.cmpi .sgt c128_i32_1815 c0_i32_1818
  let v3243 : BitVec 32 := Scalar.extui v3242
  let c0_i32_1819 : BitVec 32 := 0#32
  let v3244 : BitVec 1 := Scalar.cmpi .slt c128_i32_1815 c0_i32_1819
  let v3245 : BitVec 32 := Scalar.extui v3244
  let v3246 : BitVec 32 := Scalar.subi v3243 v3245
  let v3247 : BitVec 1 := Scalar.cmpi .ne v3241 v3246
  let v3248 : BitVec 32 := Scalar.remsi v3103 c128_i32_1815
  let c0_i32_1820 : BitVec 32 := 0#32
  let v3249 : BitVec 1 := Scalar.cmpi .ne v3248 c0_i32_1820
  let v3250 : BitVec 1 := Scalar.andi v3247 v3249
  let v3236 : BitVec 32 := Scalar.divsi v3103 c128_i32_1815
  let c1_i32_1821 : BitVec 32 := 1#32
  let v3251 : BitVec 32 := Scalar.subi v3236 c1_i32_1821
  let v3252 : BitVec 32 := Scalar.select v3250 v3251 v3236
  let v3266 : Index := Scalar.indexCast v3252
  let c0_1826 : Index := 0#32
  ![v3266.toNat, 0]
def k0_off160 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Fin 2 → Nat :=
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let c0_i32_1816 : BitVec 32 := 0#32
  let v3237 : BitVec 1 := Scalar.cmpi .sgt v3103 c0_i32_1816
  let v3238 : BitVec 32 := Scalar.extui v3237
  let c0_i32_1817 : BitVec 32 := 0#32
  let v3239 : BitVec 1 := Scalar.cmpi .slt v3103 c0_i32_1817
  let v3240 : BitVec 32 := Scalar.extui v3239
  let v3241 : BitVec 32 := Scalar.subi v3238 v3240
  let c128_i32_1815 : BitVec 32 := 128#32
  let c0_i32_1818 : BitVec 32 := 0#32
  let v3242 : BitVec 1 := Scalar.cmpi .sgt c128_i32_1815 c0_i32_1818
  let v3243 : BitVec 32 := Scalar.extui v3242
  let c0_i32_1819 : BitVec 32 := 0#32
  let v3244 : BitVec 1 := Scalar.cmpi .slt c128_i32_1815 c0_i32_1819
  let v3245 : BitVec 32 := Scalar.extui v3244
  let v3246 : BitVec 32 := Scalar.subi v3243 v3245
  let v3247 : BitVec 1 := Scalar.cmpi .ne v3241 v3246
  let v3248 : BitVec 32 := Scalar.remsi v3103 c128_i32_1815
  let c0_i32_1820 : BitVec 32 := 0#32
  let v3249 : BitVec 1 := Scalar.cmpi .ne v3248 c0_i32_1820
  let v3250 : BitVec 1 := Scalar.andi v3247 v3249
  let v3236 : BitVec 32 := Scalar.divsi v3103 c128_i32_1815
  let c1_i32_1821 : BitVec 32 := 1#32
  let v3251 : BitVec 32 := Scalar.subi v3236 c1_i32_1821
  let v3252 : BitVec 32 := Scalar.select v3250 v3251 v3236
  let c1_i32_1825 : BitVec 32 := 1#32
  let v3265 : BitVec 32 := Scalar.addi v3252 c1_i32_1825
  let v3281 : Index := Scalar.indexCast v3265
  let c0_1831 : Index := 0#32
  ![v3281.toNat, 0]

def k0_chk15 (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) : Prop :=
  (∀ (k0_h1 : k0_cond1 i = 1#1), ∀ a, (k0_off151 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off151 v179 v374 v569 v764 v959 v1154 v1349 v1544 v1739 v1934 v2129 v2324 v2519 v2714 v2909) a + S1x128x128.size a ≤ S8x2304x128.size a), (Rect.unit (s := S8x2304x128) (k0_off151 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off152 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off152 v179 v374 v569 v764 v959 v1154 v1349 v1544 v1739 v1934 v2129 v2324 v2519 v2714 v2909) a + S1x128x128.size a ≤ S8x2304x128.size a), (Rect.unit (s := S8x2304x128) (k0_off152 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off153 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off153 v179 v374 v569 v764 v959 v1154 v1349 v1544 v1739 v1934 v2129 v2324 v2519 v2714 v2909) a + S1x128x128.size a ≤ S8x2304x128.size a), (Rect.unit (s := S8x2304x128) (k0_off153 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off154 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off154 v179 v374 v569 v764 v959 v1154 v1349 v1544 v1739 v1934 v2129 v2324 v2519 v2714 v2909) a + S1x128x128.size a ≤ S8x2304x128.size a), (Rect.unit (s := S8x2304x128) (k0_off154 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off155 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off155 v179 v374 v569 v764 v959 v1154 v1349 v1544 v1739 v1934 v2129 v2324 v2519 v2714 v2909) a + S1x128x128.size a ≤ S8x2304x128.size a), (Rect.unit (s := S8x2304x128) (k0_off155 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off156 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off156 v179 v374 v569 v764 v959 v1154 v1349 v1544 v1739 v1934 v2129 v2324 v2519 v2714 v2909) a + S1x128x128.size a ≤ S8x2304x128.size a), (Rect.unit (s := S8x2304x128) (k0_off156 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off157 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off157 v179 v374 v569 v764 v959 v1154 v1349 v1544 v1739 v1934 v2129 v2324 v2519 v2714 v2909) a + S1x128x128.size a ≤ S8x2304x128.size a), (Rect.unit (s := S8x2304x128) (k0_off157 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off158 v179 v374 v569 v764 v959 v1154 v1349 v1544 v1739 v1934 v2129 v2324 v2519 v2714 v2909) a + S1x128x128.size a ≤ S8x2304x128.size a) ∧
  (∀ (k0_h1 : k0_cond1 i = 1#1), ∀ (hinb : ∀ a, (k0_off158 v179 v374 v569 v764 v959 v1154 v1349 v1544 v1739 v1934 v2129 v2324 v2519 v2714 v2909) a + S1x128x128.size a ≤ S8x2304x128.size a), (Rect.unit (s := S8x2304x128) (k0_off158 v179 v374 v569 v764 v959 v1154 v1349 v1544 v1739 v1934 v2129 v2324 v2519 v2714 v2909) S1x128x128.size hinb).PackedRows (EltTy.packing .bf16)) ∧
  (∀ (k0_h1 : k0_cond1 i = 1#1), ∀ a, (k0_off159 v179 v374 v569 v764 v959 v1154 v1349 v1544 v1739 v1934 v2129 v2324 v2519 v2714 v2909) a + S1x128.size a ≤ S18x128.size a) ∧
  (∀ (k0_h1 : k0_cond1 i = 1#1), ∀ a, (k0_off160 v179 v374 v569 v764 v959 v1154 v1349 v1544 v1739 v1934 v2129 v2324 v2519 v2714 v2909) a + S1x128.size a ≤ S18x128.size a)
theorem k0_off151_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off151 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.1 k0_h1
theorem k0_off151_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off151 v179 v374 v569 v764 v959 v1154 v1349 v1544 v1739 v1934 v2129 v2324 v2519 v2714 v2909) S1x128x128.size (k0_off151_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.1 k0_h1 (k0_off151_inb i v179 v374 v569 v764 v959 v1154 v1349 v1544 v1739 v1934 v2129 v2324 v2519 v2714 v2909 k0_hw15 k0_h1)
theorem k0_off152_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off152 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.2.2.1 k0_h1
theorem k0_off152_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off152 v179 v374 v569 v764 v959 v1154 v1349 v1544 v1739 v1934 v2129 v2324 v2519 v2714 v2909) S1x128x128.size (k0_off152_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.2.2.1 k0_h1 (k0_off152_inb i v179 v374 v569 v764 v959 v1154 v1349 v1544 v1739 v1934 v2129 v2324 v2519 v2714 v2909 k0_hw15 k0_h1)
theorem k0_off153_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off153 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.2.2.2.2.1 k0_h1
theorem k0_off153_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off153 v179 v374 v569 v764 v959 v1154 v1349 v1544 v1739 v1934 v2129 v2324 v2519 v2714 v2909) S1x128x128.size (k0_off153_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.2.2.2.2.1 k0_h1 (k0_off153_inb i v179 v374 v569 v764 v959 v1154 v1349 v1544 v1739 v1934 v2129 v2324 v2519 v2714 v2909 k0_hw15 k0_h1)
theorem k0_off154_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off154 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.2.2.2.2.2.2.1 k0_h1
theorem k0_off154_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off154 v179 v374 v569 v764 v959 v1154 v1349 v1544 v1739 v1934 v2129 v2324 v2519 v2714 v2909) S1x128x128.size (k0_off154_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.2.2.2.2.2.2.1 k0_h1 (k0_off154_inb i v179 v374 v569 v764 v959 v1154 v1349 v1544 v1739 v1934 v2129 v2324 v2519 v2714 v2909 k0_hw15 k0_h1)
theorem k0_off155_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off155 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.2.2.2.2.2.2.2.2.1 k0_h1
theorem k0_off155_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off155 v179 v374 v569 v764 v959 v1154 v1349 v1544 v1739 v1934 v2129 v2324 v2519 v2714 v2909) S1x128x128.size (k0_off155_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.2.2.2.2.2.2.2.2.1 k0_h1 (k0_off155_inb i v179 v374 v569 v764 v959 v1154 v1349 v1544 v1739 v1934 v2129 v2324 v2519 v2714 v2909 k0_hw15 k0_h1)
theorem k0_off156_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off156 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.2.2.2.2.2.2.2.2.2.2.1 k0_h1
theorem k0_off156_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off156 v179 v374 v569 v764 v959 v1154 v1349 v1544 v1739 v1934 v2129 v2324 v2519 v2714 v2909) S1x128x128.size (k0_off156_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.2.2.2.2.2.2.2.2.2.2.1 k0_h1 (k0_off156_inb i v179 v374 v569 v764 v959 v1154 v1349 v1544 v1739 v1934 v2129 v2324 v2519 v2714 v2909 k0_hw15 k0_h1)
theorem k0_off157_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off157 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.2.2.2.2.2.2.2.2.2.2.2.2.1 k0_h1
theorem k0_off157_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off157 v179 v374 v569 v764 v959 v1154 v1349 v1544 v1739 v1934 v2129 v2324 v2519 v2714 v2909) S1x128x128.size (k0_off157_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.2.2.2.2.2.2.2.2.2.2.2.2.1 k0_h1 (k0_off157_inb i v179 v374 v569 v764 v959 v1154 v1349 v1544 v1739 v1934 v2129 v2324 v2519 v2714 v2909 k0_hw15 k0_h1)
theorem k0_off158_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off158 v179 v374 v569 v764 v959 v1154 v1349 v1544 v1739 v1934 v2129 v2324 v2519 v2714 v2909) a + S1x128x128.size a ≤ S8x2304x128.size a := fun i v179 v374 v569 v764 v959 v1154 v1349 v1544 v1739 v1934 v2129 v2324 v2519 v2714 v2909 k0_hw15 k0_h1 => k0_hw15.2.2.2.2.2.2.2.2.2.2.2.2.2.2.1 k0_h1
theorem k0_off158_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), (Rect.unit (s := S8x2304x128) (k0_off158 v179 v374 v569 v764 v959 v1154 v1349 v1544 v1739 v1934 v2129 v2324 v2519 v2714 v2909) S1x128x128.size (k0_off158_inb i v179 v374 v569 v764 v959 v1154 v1349 v1544 v1739 v1934 v2129 v2324 v2519 v2714 v2909 k0_hw15 k0_h1)).PackedRows (EltTy.packing .bf16) := fun i v179 v374 v569 v764 v959 v1154 v1349 v1544 v1739 v1934 v2129 v2324 v2519 v2714 v2909 k0_hw15 k0_h1 => k0_hw15.2.2.2.2.2.2.2.2.2.2.2.2.2.2.2.1 k0_h1 (k0_off158_inb i v179 v374 v569 v764 v959 v1154 v1349 v1544 v1739 v1934 v2129 v2324 v2519 v2714 v2909 k0_hw15 k0_h1)
theorem k0_off159_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off159 v179 v374 v569 v764 v959 v1154 v1349 v1544 v1739 v1934 v2129 v2324 v2519 v2714 v2909) a + S1x128.size a ≤ S18x128.size a := fun i v179 v374 v569 v764 v959 v1154 v1349 v1544 v1739 v1934 v2129 v2324 v2519 v2714 v2909 k0_hw15 k0_h1 => k0_hw15.2.2.2.2.2.2.2.2.2.2.2.2.2.2.2.2.1 k0_h1
theorem k0_off160_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (k0_hw15 : k0_chk15 i v179 v374 v569 v764 v959 v1154 v1349 v1544 v1739 v1934 v2129 v2324 v2519 v2714 v2909), ∀ (k0_h1 : k0_cond1 i = 1#1), ∀ a, (k0_off160 v179 v374 v569 v764 v959 v1154 v1349 v1544 v1739 v1934 v2129 v2324 v2519 v2714 v2909) a + S1x128.size a ≤ S18x128.size a := fun i v179 v374 v569 v764 v959 v1154 v1349 v1544 v1739 v1934 v2129 v2324 v2519 v2714 v2909 k0_hw15 k0_h1 => k0_hw15.2.2.2.2.2.2.2.2.2.2.2.2.2.2.2.2.2 k0_h1

def k0_off161 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c0_1840 : Index := 0#32
  let c2_i32_1839 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3301 : BitVec 32 := Scalar.muli c2_i32_1839 v3299
  let v3302 : Index := Scalar.indexCast v3301
  let c0_1841 : Index := 0#32
  ![0, v3302.toNat, 0]

def k0_off162 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c1_1848 : Index := 1#32
  let c2_i32_1847 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3313 : BitVec 32 := Scalar.muli c2_i32_1847 v3299
  let v3314 : Index := Scalar.indexCast v3313
  let c0_1849 : Index := 0#32
  ![1, v3314.toNat, 0]
def k0_off163 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c2_1856 : Index := 2#32
  let c2_i32_1855 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3325 : BitVec 32 := Scalar.muli c2_i32_1855 v3299
  let v3326 : Index := Scalar.indexCast v3325
  let c0_1857 : Index := 0#32
  ![2, v3326.toNat, 0]
def k0_off164 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c3_1864 : Index := 3#32
  let c2_i32_1863 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3337 : BitVec 32 := Scalar.muli c2_i32_1863 v3299
  let v3338 : Index := Scalar.indexCast v3337
  let c0_1865 : Index := 0#32
  ![3, v3338.toNat, 0]
def k0_off165 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c4_1872 : Index := 4#32
  let c2_i32_1871 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3349 : BitVec 32 := Scalar.muli c2_i32_1871 v3299
  let v3350 : Index := Scalar.indexCast v3349
  let c0_1873 : Index := 0#32
  ![4, v3350.toNat, 0]
def k0_off166 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c5_1880 : Index := 5#32
  let c2_i32_1879 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3361 : BitVec 32 := Scalar.muli c2_i32_1879 v3299
  let v3362 : Index := Scalar.indexCast v3361
  let c0_1881 : Index := 0#32
  ![5, v3362.toNat, 0]
def k0_off167 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c6_1888 : Index := 6#32
  let c2_i32_1887 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3373 : BitVec 32 := Scalar.muli c2_i32_1887 v3299
  let v3374 : Index := Scalar.indexCast v3373
  let c0_1889 : Index := 0#32
  ![6, v3374.toNat, 0]
def k0_off168 (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Fin 3 → Nat :=
  let c7_1896 : Index := 7#32
  let c2_i32_1895 : BitVec 32 := 2#32
  let c0_i32_193 : BitVec 32 := 0#32
  let v371 : BitVec 32 := Scalar.addi c0_i32_193 v179
  let c1_i32_194 : BitVec 32 := 1#32
  let v372 : BitVec 32 := Scalar.andi v179 c1_i32_194
  let v373 : BitVec 32 := Scalar.addi v371 v372
  let v566 : BitVec 32 := Scalar.addi v373 v374
  let c1_i32_304 : BitVec 32 := 1#32
  let v567 : BitVec 32 := Scalar.andi v374 c1_i32_304
  let v568 : BitVec 32 := Scalar.addi v566 v567
  let v761 : BitVec 32 := Scalar.addi v568 v569
  let c1_i32_414 : BitVec 32 := 1#32
  let v762 : BitVec 32 := Scalar.andi v569 c1_i32_414
  let v763 : BitVec 32 := Scalar.addi v761 v762
  let v956 : BitVec 32 := Scalar.addi v763 v764
  let c1_i32_524 : BitVec 32 := 1#32
  let v957 : BitVec 32 := Scalar.andi v764 c1_i32_524
  let v958 : BitVec 32 := Scalar.addi v956 v957
  let v1151 : BitVec 32 := Scalar.addi v958 v959
  let c1_i32_634 : BitVec 32 := 1#32
  let v1152 : BitVec 32 := Scalar.andi v959 c1_i32_634
  let v1153 : BitVec 32 := Scalar.addi v1151 v1152
  let v1346 : BitVec 32 := Scalar.addi v1153 v1154
  let c1_i32_744 : BitVec 32 := 1#32
  let v1347 : BitVec 32 := Scalar.andi v1154 c1_i32_744
  let v1348 : BitVec 32 := Scalar.addi v1346 v1347
  let v1541 : BitVec 32 := Scalar.addi v1348 v1349
  let c1_i32_854 : BitVec 32 := 1#32
  let v1542 : BitVec 32 := Scalar.andi v1349 c1_i32_854
  let v1543 : BitVec 32 := Scalar.addi v1541 v1542
  let v1736 : BitVec 32 := Scalar.addi v1543 v1544
  let c1_i32_964 : BitVec 32 := 1#32
  let v1737 : BitVec 32 := Scalar.andi v1544 c1_i32_964
  let v1738 : BitVec 32 := Scalar.addi v1736 v1737
  let v1931 : BitVec 32 := Scalar.addi v1738 v1739
  let c1_i32_1073 : BitVec 32 := 1#32
  let v1932 : BitVec 32 := Scalar.andi v1739 c1_i32_1073
  let v1933 : BitVec 32 := Scalar.addi v1931 v1932
  let v2126 : BitVec 32 := Scalar.addi v1933 v1934
  let c1_i32_1182 : BitVec 32 := 1#32
  let v2127 : BitVec 32 := Scalar.andi v1934 c1_i32_1182
  let v2128 : BitVec 32 := Scalar.addi v2126 v2127
  let v2321 : BitVec 32 := Scalar.addi v2128 v2129
  let c1_i32_1291 : BitVec 32 := 1#32
  let v2322 : BitVec 32 := Scalar.andi v2129 c1_i32_1291
  let v2323 : BitVec 32 := Scalar.addi v2321 v2322
  let v2516 : BitVec 32 := Scalar.addi v2323 v2324
  let c1_i32_1400 : BitVec 32 := 1#32
  let v2517 : BitVec 32 := Scalar.andi v2324 c1_i32_1400
  let v2518 : BitVec 32 := Scalar.addi v2516 v2517
  let v2711 : BitVec 32 := Scalar.addi v2518 v2519
  let c1_i32_1509 : BitVec 32 := 1#32
  let v2712 : BitVec 32 := Scalar.andi v2519 c1_i32_1509
  let v2713 : BitVec 32 := Scalar.addi v2711 v2712
  let v2906 : BitVec 32 := Scalar.addi v2713 v2714
  let c1_i32_1618 : BitVec 32 := 1#32
  let v2907 : BitVec 32 := Scalar.andi v2714 c1_i32_1618
  let v2908 : BitVec 32 := Scalar.addi v2906 v2907
  let v3101 : BitVec 32 := Scalar.addi v2908 v2909
  let c1_i32_1727 : BitVec 32 := 1#32
  let v3102 : BitVec 32 := Scalar.andi v2909 c1_i32_1727
  let v3103 : BitVec 32 := Scalar.addi v3101 v3102
  let v3296 : BitVec 32 := Scalar.addi v3103 v3104
  let c1_i32_1836 : BitVec 32 := 1#32
  let v3297 : BitVec 32 := Scalar.andi v3104 c1_i32_1836
  let v3298 : BitVec 32 := Scalar.addi v3296 v3297
  let c1_i32_1837 : BitVec 32 := 1#32
  let v3299 : BitVec 32 := Scalar.shrui v3298 c1_i32_1837
  let v3385 : BitVec 32 := Scalar.muli c2_i32_1895 v3299
  let v3386 : Index := Scalar.indexCast v3385
  let c0_1897 : Index := 0#32
  ![7, v3386.toNat, 0]

def k0_chk16 (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) : Prop :=
  (∀ (k0_h1 : k0_cond1 i = 1#1), ∀ a, (k0_off161 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off161 v179 v374 v569 v764 v959 v1154 v1349 v1544 v1739 v1934 v2129 v2324 v2519 v2714 v2909 v3104) a + S1x256x128.size a ≤ S8x2304x128.size a), (Rect.unit (s := S8x2304x128) (k0_off161 v179 v374 v569 v764 v959 v1154 v1349 v1544 v1739 v1934 v2129 v2324 v2519 v2714 v2909 v3104) S1x256x128.size hinb).PackedRows (EltTy.packing .bf16)) ∧
  (∀ (k0_h1 : k0_cond1 i = 1#1), ∀ a, (k0_off162 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off162 v179 v374 v569 v764 v959 v1154 v1349 v1544 v1739 v1934 v2129 v2324 v2519 v2714 v2909 v3104) a + S1x256x128.size a ≤ S8x2304x128.size a), (Rect.unit (s := S8x2304x128) (k0_off162 v179 v374 v569 v764 v959 v1154 v1349 v1544 v1739 v1934 v2129 v2324 v2519 v2714 v2909 v3104) S1x256x128.size hinb).PackedRows (EltTy.packing .bf16)) ∧
  (∀ (k0_h1 : k0_cond1 i = 1#1), ∀ a, (k0_off163 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off163 v179 v374 v569 v764 v959 v1154 v1349 v1544 v1739 v1934 v2129 v2324 v2519 v2714 v2909 v3104) a + S1x256x128.size a ≤ S8x2304x128.size a), (Rect.unit (s := S8x2304x128) (k0_off163 v179 v374 v569 v764 v959 v1154 v1349 v1544 v1739 v1934 v2129 v2324 v2519 v2714 v2909 v3104) S1x256x128.size hinb).PackedRows (EltTy.packing .bf16)) ∧
  (∀ (k0_h1 : k0_cond1 i = 1#1), ∀ a, (k0_off164 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off164 v179 v374 v569 v764 v959 v1154 v1349 v1544 v1739 v1934 v2129 v2324 v2519 v2714 v2909 v3104) a + S1x256x128.size a ≤ S8x2304x128.size a), (Rect.unit (s := S8x2304x128) (k0_off164 v179 v374 v569 v764 v959 v1154 v1349 v1544 v1739 v1934 v2129 v2324 v2519 v2714 v2909 v3104) S1x256x128.size hinb).PackedRows (EltTy.packing .bf16)) ∧
  (∀ (k0_h1 : k0_cond1 i = 1#1), ∀ a, (k0_off165 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off165 v179 v374 v569 v764 v959 v1154 v1349 v1544 v1739 v1934 v2129 v2324 v2519 v2714 v2909 v3104) a + S1x256x128.size a ≤ S8x2304x128.size a), (Rect.unit (s := S8x2304x128) (k0_off165 v179 v374 v569 v764 v959 v1154 v1349 v1544 v1739 v1934 v2129 v2324 v2519 v2714 v2909 v3104) S1x256x128.size hinb).PackedRows (EltTy.packing .bf16)) ∧
  (∀ (k0_h1 : k0_cond1 i = 1#1), ∀ a, (k0_off166 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off166 v179 v374 v569 v764 v959 v1154 v1349 v1544 v1739 v1934 v2129 v2324 v2519 v2714 v2909 v3104) a + S1x256x128.size a ≤ S8x2304x128.size a), (Rect.unit (s := S8x2304x128) (k0_off166 v179 v374 v569 v764 v959 v1154 v1349 v1544 v1739 v1934 v2129 v2324 v2519 v2714 v2909 v3104) S1x256x128.size hinb).PackedRows (EltTy.packing .bf16)) ∧
  (∀ (k0_h1 : k0_cond1 i = 1#1), ∀ a, (k0_off167 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off167 v179 v374 v569 v764 v959 v1154 v1349 v1544 v1739 v1934 v2129 v2324 v2519 v2714 v2909 v3104) a + S1x256x128.size a ≤ S8x2304x128.size a), (Rect.unit (s := S8x2304x128) (k0_off167 v179 v374 v569 v764 v959 v1154 v1349 v1544 v1739 v1934 v2129 v2324 v2519 v2714 v2909 v3104) S1x256x128.size hinb).PackedRows (EltTy.packing .bf16)) ∧
  (∀ (k0_h1 : k0_cond1 i = 1#1), ∀ a, (k0_off168 v179 v374 v569 v764 v959 v1154 v1349 v1544 v1739 v1934 v2129 v2324 v2519 v2714 v2909 v3104) a + S1x256x128.size a ≤ S8x2304x128.size a) ∧
  (∀ (k0_h1 : k0_cond1 i = 1#1), ∀ (hinb : ∀ a, (k0_off168 v179 v374 v569 v764 v959 v1154 v1349 v1544 v1739 v1934 v2129 v2324 v2519 v2714 v2909 v3104) a + S1x256x128.size a ≤ S8x2304x128.size a), (Rect.unit (s := S8x2304x128) (k0_off168 v179 v374 v569 v764 v959 v1154 v1349 v1544 v1739 v1934 v2129 v2324 v2519 v2714 v2909 v3104) S1x256x128.size hinb).PackedRows (EltTy.packing .bf16))
theorem k0_off161_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off161 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.1 k0_h1
theorem k0_off161_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off161 v179 v374 v569 v764 v959 v1154 v1349 v1544 v1739 v1934 v2129 v2324 v2519 v2714 v2909 v3104) S1x256x128.size (k0_off161_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.1 k0_h1 (k0_off161_inb i v179 v374 v569 v764 v959 v1154 v1349 v1544 v1739 v1934 v2129 v2324 v2519 v2714 v2909 v3104 k0_hw16 k0_h1)
theorem k0_off162_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off162 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.2.2.1 k0_h1
theorem k0_off162_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off162 v179 v374 v569 v764 v959 v1154 v1349 v1544 v1739 v1934 v2129 v2324 v2519 v2714 v2909 v3104) S1x256x128.size (k0_off162_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.2.2.1 k0_h1 (k0_off162_inb i v179 v374 v569 v764 v959 v1154 v1349 v1544 v1739 v1934 v2129 v2324 v2519 v2714 v2909 v3104 k0_hw16 k0_h1)
theorem k0_off163_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off163 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.2.2.2.2.1 k0_h1
theorem k0_off163_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off163 v179 v374 v569 v764 v959 v1154 v1349 v1544 v1739 v1934 v2129 v2324 v2519 v2714 v2909 v3104) S1x256x128.size (k0_off163_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.2.2.2.2.1 k0_h1 (k0_off163_inb i v179 v374 v569 v764 v959 v1154 v1349 v1544 v1739 v1934 v2129 v2324 v2519 v2714 v2909 v3104 k0_hw16 k0_h1)
theorem k0_off164_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off164 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.2.2.2.2.2.2.1 k0_h1
theorem k0_off164_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off164 v179 v374 v569 v764 v959 v1154 v1349 v1544 v1739 v1934 v2129 v2324 v2519 v2714 v2909 v3104) S1x256x128.size (k0_off164_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.2.2.2.2.2.2.1 k0_h1 (k0_off164_inb i v179 v374 v569 v764 v959 v1154 v1349 v1544 v1739 v1934 v2129 v2324 v2519 v2714 v2909 v3104 k0_hw16 k0_h1)
theorem k0_off165_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off165 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.2.2.2.2.2.2.2.2.1 k0_h1
theorem k0_off165_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off165 v179 v374 v569 v764 v959 v1154 v1349 v1544 v1739 v1934 v2129 v2324 v2519 v2714 v2909 v3104) S1x256x128.size (k0_off165_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.2.2.2.2.2.2.2.2.1 k0_h1 (k0_off165_inb i v179 v374 v569 v764 v959 v1154 v1349 v1544 v1739 v1934 v2129 v2324 v2519 v2714 v2909 v3104 k0_hw16 k0_h1)
theorem k0_off166_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off166 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.2.2.2.2.2.2.2.2.2.2.1 k0_h1
theorem k0_off166_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off166 v179 v374 v569 v764 v959 v1154 v1349 v1544 v1739 v1934 v2129 v2324 v2519 v2714 v2909 v3104) S1x256x128.size (k0_off166_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.2.2.2.2.2.2.2.2.2.2.1 k0_h1 (k0_off166_inb i v179 v374 v569 v764 v959 v1154 v1349 v1544 v1739 v1934 v2129 v2324 v2519 v2714 v2909 v3104 k0_hw16 k0_h1)
theorem k0_off167_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off167 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.2.2.2.2.2.2.2.2.2.2.2.2.1 k0_h1
theorem k0_off167_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off167 v179 v374 v569 v764 v959 v1154 v1349 v1544 v1739 v1934 v2129 v2324 v2519 v2714 v2909 v3104) S1x256x128.size (k0_off167_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.2.2.2.2.2.2.2.2.2.2.2.2.1 k0_h1 (k0_off167_inb i v179 v374 v569 v764 v959 v1154 v1349 v1544 v1739 v1934 v2129 v2324 v2519 v2714 v2909 v3104 k0_hw16 k0_h1)
theorem k0_off168_inb : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), ∀ a, (k0_off168 v179 v374 v569 v764 v959 v1154 v1349 v1544 v1739 v1934 v2129 v2324 v2519 v2714 v2909 v3104) a + S1x256x128.size a ≤ S8x2304x128.size a := fun i v179 v374 v569 v764 v959 v1154 v1349 v1544 v1739 v1934 v2129 v2324 v2519 v2714 v2909 v3104 k0_hw16 k0_h1 => k0_hw16.2.2.2.2.2.2.2.2.2.2.2.2.2.2.1 k0_h1
theorem k0_off168_packedbf16 : ∀ (i : grid0.Coords) (v179 : BitVec 32) (v374 : BitVec 32) (v569 : BitVec 32) (v764 : BitVec 32) (v959 : BitVec 32) (v1154 : BitVec 32) (v1349 : BitVec 32) (v1544 : BitVec 32) (v1739 : BitVec 32) (v1934 : BitVec 32) (v2129 : BitVec 32) (v2324 : BitVec 32) (v2519 : BitVec 32) (v2714 : BitVec 32) (v2909 : BitVec 32) (v3104 : BitVec 32) (k0_hw16 : k0_chk16 i v179 v374 v569 v764 v959 v1154 v1349 v1544 v1739 v1934 v2129 v2324 v2519 v2714 v2909 v3104), ∀ (k0_h1 : k0_cond1 i = 1#1), (Rect.unit (s := S8x2304x128) (k0_off168 v179 v374 v569 v764 v959 v1154 v1349 v1544 v1739 v1934 v2129 v2324 v2519 v2714 v2909 v3104) S1x256x128.size (k0_off168_inb i v179 v374 v569 v764 v959 v1154 v1349 v1544 v1739 v1934 v2129 v2324 v2519 v2714 v2909 v3104 k0_hw16 k0_h1)).PackedRows (EltTy.packing .bf16) := fun i v179 v374 v569 v764 v959 v1154 v1349 v1544 v1739 v1934 v2129 v2324 v2519 v2714 v2909 v3104 k0_hw16 k0_h1 => k0_hw16.2.2.2.2.2.2.2.2.2.2.2.2.2.2.2 k0_h1 (k0_off168_inb i v179 v374 v569 v764 v959 v1154 v1349 v1544 v1739 v1934 v2129 v2324 v2519 v2714 v2909 v3104 k0_hw16 k0_h1)

@[reducible] def k0_t1_loop : Scf.Loop 32 :=
  let c0_i32_1911 : BitVec 32 := 0#32
  let c8_i32_1912 : BitVec 32 := 8#32
  let v3416 : BitVec 32 := Scalar.addi c0_i32_1911 c8_i32_1912
  let c1_i32_1913 : BitVec 32 := 1#32
  ⟨c0_i32_1911, v3416, c1_i32_1913⟩
def k0_mult1 (k0_t1 : Fin k0_t1_loop.trips) : BitVec 32 :=
  let c0_i32_1927 : BitVec 32 := 0#32
  let c0_i32_1911 : BitVec 32 := 0#32
  let c1_i32_1913 : BitVec 32 := 1#32
  let arg23 : BitVec 32 := Scf.iv c0_i32_1911 c1_i32_1913 k0_t1
  let c1_i32_1926 : BitVec 32 := 1#32
  let v3427 : BitVec 32 := Scalar.muli arg23 c1_i32_1926
  let v3428 : BitVec 32 := Scalar.addi c0_i32_1927 v3427
  let c128_i32_1928 : BitVec 32 := 128#32
  let v3429 : BitVec 32 := Scalar.muli v3428 c128_i32_1928
  v3429
def k0_off169 (k0_t1 : Fin k0_t1_loop.trips) : Fin 2 → Nat :=
  let c0_i32_1927 : BitVec 32 := 0#32
  let c0_i32_1911 : BitVec 32 := 0#32
  let c1_i32_1913 : BitVec 32 := 1#32
  let arg23 : BitVec 32 := Scf.iv c0_i32_1911 c1_i32_1913 k0_t1
  let c1_i32_1926 : BitVec 32 := 1#32
  let v3427 : BitVec 32 := Scalar.muli arg23 c1_i32_1926
  let v3428 : BitVec 32 := Scalar.addi c0_i32_1927 v3427
  let c128_i32_1928 : BitVec 32 := 128#32
  let v3429 : BitVec 32 := Scalar.muli v3428 c128_i32_1928
  let v3430 : BitVec 32 := v3429
  let v3431 : Index := Scalar.indexCast v3430
  let c0_1929 : Index := 0#32
  ![v3431.toNat, 0]
def k0_off170 (k0_t1 : Fin k0_t1_loop.trips) : Fin 3 → Nat :=
  let c0_1930 : Index := 0#32
  let c0_i32_1927 : BitVec 32 := 0#32
  let c0_i32_1911 : BitVec 32 := 0#32
  let c1_i32_1913 : BitVec 32 := 1#32
  let arg23 : BitVec 32 := Scf.iv c0_i32_1911 c1_i32_1913 k0_t1
  let c1_i32_1926 : BitVec 32 := 1#32
  let v3427 : BitVec 32 := Scalar.muli arg23 c1_i32_1926
  let v3428 : BitVec 32 := Scalar.addi c0_i32_1927 v3427
  let c128_i32_1928 : BitVec 32 := 128#32
  let v3429 : BitVec 32 := Scalar.muli v3428 c128_i32_1928
  let v3430 : BitVec 32 := v3429
  let v3440 : Index := Scalar.indexCast v3430
  let c0_1931 : Index := 0#32
  ![0, v3440.toNat, 0]
def k0_off171 (k0_t1 : Fin k0_t1_loop.trips) : Fin 3 → Nat :=
  let c1_1932 : Index := 1#32
  let c0_i32_1927 : BitVec 32 := 0#32
  let c0_i32_1911 : BitVec 32 := 0#32
  let c1_i32_1913 : BitVec 32 := 1#32
  let arg23 : BitVec 32 := Scf.iv c0_i32_1911 c1_i32_1913 k0_t1
  let c1_i32_1926 : BitVec 32 := 1#32
  let v3427 : BitVec 32 := Scalar.muli arg23 c1_i32_1926
  let v3428 : BitVec 32 := Scalar.addi c0_i32_1927 v3427
  let c128_i32_1928 : BitVec 32 := 128#32
  let v3429 : BitVec 32 := Scalar.muli v3428 c128_i32_1928
  let v3430 : BitVec 32 := v3429
  let v3444 : Index := Scalar.indexCast v3430
  let c0_1933 : Index := 0#32
  ![1, v3444.toNat, 0]
def k0_off172 (k0_t1 : Fin k0_t1_loop.trips) : Fin 3 → Nat :=
  let c2_1934 : Index := 2#32
  let c0_i32_1927 : BitVec 32 := 0#32
  let c0_i32_1911 : BitVec 32 := 0#32
  let c1_i32_1913 : BitVec 32 := 1#32
  let arg23 : BitVec 32 := Scf.iv c0_i32_1911 c1_i32_1913 k0_t1
  let c1_i32_1926 : BitVec 32 := 1#32
  let v3427 : BitVec 32 := Scalar.muli arg23 c1_i32_1926
  let v3428 : BitVec 32 := Scalar.addi c0_i32_1927 v3427
  let c128_i32_1928 : BitVec 32 := 128#32
  let v3429 : BitVec 32 := Scalar.muli v3428 c128_i32_1928
  let v3430 : BitVec 32 := v3429
  let v3448 : Index := Scalar.indexCast v3430
  let c0_1935 : Index := 0#32
  ![2, v3448.toNat, 0]
@[reducible] def k0_t2_loop (v3417 : BitVec 32) : Scf.Loop 32 :=
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1924 : BitVec 32 := 1#32
  ⟨c0_i32_1922, v3426, c1_i32_1924⟩

def k0_mult2 (v3417 : BitVec 32) (k0_t2 : Fin (k0_t2_loop v3417).trips) : BitVec 32 :=
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  v3429
def k0_off173 (v3417 : BitVec 32) (k0_t2 : Fin (k0_t2_loop v3417).trips) : Fin 3 → Nat :=
  let c0_1927 : Index := 0#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3431 : Index := Scalar.indexCast v3430
  let c0_1928 : Index := 0#32
  ![0, v3431.toNat, 0]
def k0_off174 (v3417 : BitVec 32) (k0_t2 : Fin (k0_t2_loop v3417).trips) : Fin 3 → Nat :=
  let c1_1929 : Index := 1#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3434 : Index := Scalar.indexCast v3430
  let c0_1930 : Index := 0#32
  ![1, v3434.toNat, 0]
def k0_off175 (v3417 : BitVec 32) (k0_t2 : Fin (k0_t2_loop v3417).trips) : Fin 3 → Nat :=
  let c2_1931 : Index := 2#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3437 : Index := Scalar.indexCast v3430
  let c0_1932 : Index := 0#32
  ![2, v3437.toNat, 0]
def k0_off176 (v3417 : BitVec 32) (k0_t2 : Fin (k0_t2_loop v3417).trips) : Fin 3 → Nat :=
  let c3_1933 : Index := 3#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3440 : Index := Scalar.indexCast v3430
  let c0_1934 : Index := 0#32
  ![3, v3440.toNat, 0]
def k0_off177 (v3417 : BitVec 32) (k0_t2 : Fin (k0_t2_loop v3417).trips) : Fin 3 → Nat :=
  let c4_1935 : Index := 4#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3443 : Index := Scalar.indexCast v3430
  let c0_1936 : Index := 0#32
  ![4, v3443.toNat, 0]
def k0_off178 (v3417 : BitVec 32) (k0_t2 : Fin (k0_t2_loop v3417).trips) : Fin 3 → Nat :=
  let c5_1937 : Index := 5#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3446 : Index := Scalar.indexCast v3430
  let c0_1938 : Index := 0#32
  ![5, v3446.toNat, 0]
def k0_off179 (v3417 : BitVec 32) (k0_t2 : Fin (k0_t2_loop v3417).trips) : Fin 3 → Nat :=
  let c6_1939 : Index := 6#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3449 : Index := Scalar.indexCast v3430
  let c0_1940 : Index := 0#32
  ![6, v3449.toNat, 0]
def k0_off180 (v3417 : BitVec 32) (k0_t2 : Fin (k0_t2_loop v3417).trips) : Fin 3 → Nat :=
  let c7_1941 : Index := 7#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3452 : Index := Scalar.indexCast v3430
  let c0_1942 : Index := 0#32
  ![7, v3452.toNat, 0]
def k0_off181 (v3417 : BitVec 32) (k0_t2 : Fin (k0_t2_loop v3417).trips) : Fin 4 → Nat :=
  let c0_1955 : Index := 0#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let v3474 : Index := Scalar.indexCast v3428
  let c0_1956 : Index := 0#32
  let c0_1957 : Index := 0#32
  ![0, v3474.toNat, 0, 0]
def k0_off182 (v3417 : BitVec 32) (k0_t2 : Fin (k0_t2_loop v3417).trips) : Fin 4 → Nat :=
  let c1_1958 : Index := 1#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let v3478 : Index := Scalar.indexCast v3428
  let c0_1959 : Index := 0#32
  let c0_1960 : Index := 0#32
  ![1, v3478.toNat, 0, 0]
def k0_off183 (v3417 : BitVec 32) (k0_t2 : Fin (k0_t2_loop v3417).trips) : Fin 4 → Nat :=
  let c2_1961 : Index := 2#32
  let c0_i32_1921 : BitVec 32 := 0#32
  let c0_i32_1922 : BitVec 32 := 0#32
  let c1_i32_1924 : BitVec 32 := 1#32
  let arg23 : BitVec 32 := Scf.iv c0_i32_1922 c1_i32_1924 k0_t2
  let c1_i32_1920 : BitVec 32 := 1#32
  let v3427 : BitVec 32 := Scalar.muli arg23 c1_i32_1920
  let v3428 : BitVec 32 := Scalar.addi c0_i32_1921 v3427
  let v3482 : Index := Scalar.indexCast v3428
  let c0_1962 : Index := 0#32
  let c0_1963 : Index := 0#32
  ![2, v3482.toNat, 0, 0]
@[reducible] def k0_t3_loop (v3417 : BitVec 32) : Scf.Loop 32 :=
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let v3423 : BitVec 32 := Scalar.addi c0_i32_1922 v3422
  let c1_i32_1925 : BitVec 32 := 1#32
  ⟨v3426, v3423, c1_i32_1925⟩
def k0_mult3 (v3417 : BitVec 32) (k0_t3 : Fin (k0_t3_loop v3417).trips) : BitVec 32 :=
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  v3429
def k0_off184 (v3417 : BitVec 32) (k0_t3 : Fin (k0_t3_loop v3417).trips) : Fin 3 → Nat :=
  let c0_1927 : Index := 0#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3431 : Index := Scalar.indexCast v3430
  let c0_1928 : Index := 0#32
  ![0, v3431.toNat, 0]
def k0_off185 (v3417 : BitVec 32) (k0_t3 : Fin (k0_t3_loop v3417).trips) : Fin 3 → Nat :=
  let c1_1929 : Index := 1#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3434 : Index := Scalar.indexCast v3430
  let c0_1930 : Index := 0#32
  ![1, v3434.toNat, 0]
def k0_off186 (v3417 : BitVec 32) (k0_t3 : Fin (k0_t3_loop v3417).trips) : Fin 3 → Nat :=
  let c2_1931 : Index := 2#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3437 : Index := Scalar.indexCast v3430
  let c0_1932 : Index := 0#32
  ![2, v3437.toNat, 0]
def k0_off187 (v3417 : BitVec 32) (k0_t3 : Fin (k0_t3_loop v3417).trips) : Fin 3 → Nat :=
  let c3_1933 : Index := 3#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3440 : Index := Scalar.indexCast v3430
  let c0_1934 : Index := 0#32
  ![3, v3440.toNat, 0]
def k0_off188 (v3417 : BitVec 32) (k0_t3 : Fin (k0_t3_loop v3417).trips) : Fin 3 → Nat :=
  let c4_1935 : Index := 4#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3443 : Index := Scalar.indexCast v3430
  let c0_1936 : Index := 0#32
  ![4, v3443.toNat, 0]
def k0_off189 (v3417 : BitVec 32) (k0_t3 : Fin (k0_t3_loop v3417).trips) : Fin 3 → Nat :=
  let c5_1937 : Index := 5#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3446 : Index := Scalar.indexCast v3430
  let c0_1938 : Index := 0#32
  ![5, v3446.toNat, 0]
def k0_off190 (v3417 : BitVec 32) (k0_t3 : Fin (k0_t3_loop v3417).trips) : Fin 3 → Nat :=
  let c6_1939 : Index := 6#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3449 : Index := Scalar.indexCast v3430
  let c0_1940 : Index := 0#32
  ![6, v3449.toNat, 0]
def k0_off191 (v3417 : BitVec 32) (k0_t3 : Fin (k0_t3_loop v3417).trips) : Fin 3 → Nat :=
  let c7_1941 : Index := 7#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let c256_i32_1926 : BitVec 32 := 256#32
  let v3429 : BitVec 32 := Scalar.muli v3428 c256_i32_1926
  let v3430 : BitVec 32 := v3429
  let v3452 : Index := Scalar.indexCast v3430
  let c0_1942 : Index := 0#32
  ![7, v3452.toNat, 0]
def k0_off192 (v3417 : BitVec 32) (k0_t3 : Fin (k0_t3_loop v3417).trips) : Fin 4 → Nat :=
  let c0_1955 : Index := 0#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let v3474 : Index := Scalar.indexCast v3428
  let c0_1956 : Index := 0#32
  let c0_1957 : Index := 0#32
  ![0, v3474.toNat, 0, 0]
def k0_off193 (v3417 : BitVec 32) (k0_t3 : Fin (k0_t3_loop v3417).trips) : Fin 4 → Nat :=
  let c1_1958 : Index := 1#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let v3478 : Index := Scalar.indexCast v3428
  let c0_1959 : Index := 0#32
  let c0_1960 : Index := 0#32
  ![1, v3478.toNat, 0, 0]
def k0_off194 (v3417 : BitVec 32) (k0_t3 : Fin (k0_t3_loop v3417).trips) : Fin 4 → Nat :=
  let c2_1961 : Index := 2#32
  let c0_i32_1921 : BitVec 32 := 0#32
  let c0_i32_1922 : BitVec 32 := 0#32
  let c0_i32_1916 : BitVec 32 := 0#32
  let v3418 : BitVec 32 := Scalar.subi v3417 c0_i32_1916
  let c1_i32_1917 : BitVec 32 := 1#32
  let c1_i32_1918 : BitVec 32 := 1#32
  let v3419 : BitVec 32 := Scalar.subi c1_i32_1917 c1_i32_1918
  let v3420 : BitVec 32 := Scalar.addi v3418 v3419
  let c1_i32_1919 : BitVec 32 := 1#32
  let v3421 : BitVec 32 := Scalar.divsi v3420 c1_i32_1919
  let v3422 : BitVec 32 := Scalar.subi v3421 c0_i32_1922
  let c1_i32_1923 : BitVec 32 := 1#32
  let v3424 : BitVec 32 := Scalar.divsi v3422 c1_i32_1923
  let v3425 : BitVec 32 := Scalar.muli v3424 c1_i32_1923
  let v3426 : BitVec 32 := Scalar.addi c0_i32_1922 v3425
  let c1_i32_1925 : BitVec 32 := 1#32
  let arg23 : BitVec 32 := Scf.iv v3426 c1_i32_1925 k0_t3
  let c1_i32_1920 : BitVec 32 := 1#32
  let v3427 : BitVec 32 := Scalar.muli arg23 c1_i32_1920
  let v3428 : BitVec 32 := Scalar.addi c0_i32_1921 v3427
  let v3482 : Index := Scalar.indexCast v3428
  let c0_1962 : Index := 0#32
  let c0_1963 : Index := 0#32
  ![2, v3482.toNat, 0, 0]

def k0_chk17 (i : grid0.Coords) (v3417 : BitVec 32) : Prop :=
  (∀ (k0_h1 : k0_cond1 i = 1#1), (k0_t2_loop v3417).OK) ∧
  (∀ k0_t2 : Fin (k0_t2_loop v3417).trips, ∀ (k0_h1 : k0_cond1 i = 1#1), 256 ∣ (k0_mult2 v3417 k0_t2).toNat) ∧
  (∀ k0_t2 : Fin (k0_t2_loop v3417).trips, ∀ (k0_h1 : k0_cond1 i = 1#1), ∀ a, (k0_off173 v3417 k0_t2) a + S1x256x128.size a ≤ S8x2304x128.size a) ∧
  (∀ k0_t2 : Fin (k0_t2_loop v3417).trips, ∀ (k0_h1 : k0_cond1 i = 1#1), ∀ a, (k0_off174 v3417 k0_t2) a + S1x256x128.size a ≤ S8x2304x128.size a) ∧
  (∀ k0_t2 : Fin (k0_t2_loop v3417).trips, ∀ (k0_h1 : k0_cond1 i = 1#1), ∀ a, (k0_off175 v3417 k0_t2) a + S1x256x128.size a ≤ S8x2304x128.size a) ∧
  (∀ k0_t2 : Fin (k0_t2_loop v3417).trips, ∀ (k0_h1 : k0_cond1 i = 1#1), ∀ a, (k0_off176 v3417 k0_t2) a + S1x256x128.size a ≤ S8x2304x128.size a) ∧
  (∀ k0_t2 : Fin (k0_t2_loop v3417).trips, ∀ (k0_h1 : k0_cond1 i = 1#1), ∀ a, (k0_off177 v3417 k0_t2) a + S1x256x128.size a ≤ S8x2304x128.size a) ∧
  (∀ k0_t2 : Fin (k0_t2_loop v3417).trips, ∀ (k0_h1 : k0_cond1 i = 1#1), ∀ a, (k0_off178 v3417 k0_t2) a + S1x256x128.size a ≤ S8x2304x128.size a) ∧
  (∀ k0_t2 : Fin (k0_t2_loop v3417).trips, ∀ (k0_h1 : k0_cond1 i = 1#1), ∀ a, (k0_off179 v3417 k0_t2) a + S1x256x128.size a ≤ S8x2304x128.size a) ∧
  (∀ k0_t2 : Fin (k0_t2_loop v3417).trips, ∀ (k0_h1 : k0_cond1 i = 1#1), ∀ a, (k0_off180 v3417 k0_t2) a + S1x256x128.size a ≤ S8x2304x128.size a) ∧
  (∀ k0_t2 : Fin (k0_t2_loop v3417).trips, ∀ (k0_h1 : k0_cond1 i = 1#1), ∀ a, (k0_off181 v3417 k0_t2) a + S1x1x256x1024.size a ≤ S3x8x256x1024.size a) ∧
  (∀ k0_t2 : Fin (k0_t2_loop v3417).trips, ∀ (k0_h1 : k0_cond1 i = 1#1), ∀ (hinb : ∀ a, (k0_off181 v3417 k0_t2) a + S1x1x256x1024.size a ≤ S3x8x256x1024.size a), (Rect.unit (s := S3x8x256x1024) (k0_off181 v3417 k0_t2) S1x1x256x1024.size hinb).PackedRows (EltTy.packing .bf16)) ∧
  (∀ k0_t2 : Fin (k0_t2_loop v3417).trips, ∀ (k0_h1 : k0_cond1 i = 1#1), ∀ a, (k0_off182 v3417 k0_t2) a + S1x1x256x1024.size a ≤ S3x8x256x1024.size a) ∧
  (∀ k0_t2 : Fin (k0_t2_loop v3417).trips, ∀ (k0_h1 : k0_cond1 i = 1#1), ∀ (hinb : ∀ a, (k0_off182 v3417 k0_t2) a + S1x1x256x1024.size a ≤ S3x8x256x1024.size a), (Rect.unit (s := S3x8x256x1024) (k0_off182 v3417 k0_t2) S1x1x256x1024.size hinb).PackedRows (EltTy.packing .bf16)) ∧
  (∀ k0_t2 : Fin (k0_t2_loop v3417).trips, ∀ (k0_h1 : k0_cond1 i = 1#1), ∀ a, (k0_off183 v3417 k0_t2) a + S1x1x256x1024.size a ≤ S3x8x256x1024.size a) ∧
  (∀ k0_t2 : Fin (k0_t2_loop v3417).trips, ∀ (k0_h1 : k0_cond1 i = 1#1), ∀ (hinb : ∀ a, (k0_off183 v3417 k0_t2) a + S1x1x256x1024.size a ≤ S3x8x256x1024.size a), (Rect.unit (s := S3x8x256x1024) (k0_off183 v3417 k0_t2) S1x1x256x1024.size hinb).PackedRows (EltTy.packing .bf16)) ∧
  (∀ (k0_h1 : k0_cond1 i = 1#1), (k0_t3_loop v3417).OK) ∧
  (∀ k0_t3 : Fin (k0_t3_loop v3417).trips, ∀ (k0_h1 : k0_cond1 i = 1#1), 256 ∣ (k0_mult3 v3417 k0_t3).toNat) ∧
  (∀ k0_t3 : Fin (k0_t3_loop v3417).trips, ∀ (k0_h1 : k0_cond1 i = 1#1), ∀ a, (k0_off184 v3417 k0_t3) a + S1x256x128.size a ≤ S8x2304x128.size a) ∧
  (∀ k0_t3 : Fin (k0_t3_loop v3417).trips, ∀ (k0_h1 : k0_cond1 i = 1#1), ∀ a, (k0_off185 v3417 k0_t3) a + S1x256x128.size a ≤ S8x2304x128.size a) ∧
  (∀ k0_t3 : Fin (k0_t3_loop v3417).trips, ∀ (k0_h1 : k0_cond1 i = 1#1), ∀ a, (k0_off186 v3417 k0_t3) a + S1x256x128.size a ≤ S8x2304x128.size a) ∧
  (∀ k0_t3 : Fin (k0_t3_loop v3417).trips, ∀ (k0_h1 : k0_cond1 i = 1#1), ∀ a, (k0_off187 v3417 k0_t3) a + S1x256x128.size a ≤ S8x2304x128.size a) ∧
  (∀ k0_t3 : Fin (k0_t3_loop v3417).trips, ∀ (k0_h1 : k0_cond1 i = 1#1), ∀ a, (k0_off188 v3417 k0_t3) a + S1x256x128.size a ≤ S8x2304x128.size a) ∧
  (∀ k0_t3 : Fin (k0_t3_loop v3417).trips, ∀ (k0_h1 : k0_cond1 i = 1#1), ∀ a, (k0_off189 v3417 k0_t3) a + S1x256x128.size a ≤ S8x2304x128.size a) ∧
  (∀ k0_t3 : Fin (k0_t3_loop v3417).trips, ∀ (k0_h1 : k0_cond1 i = 1#1), ∀ a, (k0_off190 v3417 k0_t3) a + S1x256x128.size a ≤ S8x2304x128.size a) ∧
  (∀ k0_t3 : Fin (k0_t3_loop v3417).trips, ∀ (k0_h1 : k0_cond1 i = 1#1), ∀ a, (k0_off191 v3417 k0_t3) a + S1x256x128.size a ≤ S8x2304x128.size a) ∧
  (∀ k0_t3 : Fin (k0_t3_loop v3417).trips, ∀ (k0_h1 : k0_cond1 i = 1#1), ∀ a, (k0_off192 v3417 k0_t3) a + S1x1x256x1024.size a ≤ S3x8x256x1024.size a) ∧
  (∀ k0_t3 : Fin (k0_t3_loop v3417).trips, ∀ (k0_h1 : k0_cond1 i = 1#1), ∀ (hinb : ∀ a, (k0_off192 v3417 k0_t3) a + S1x1x256x1024.size a ≤ S3x8x256x1024.size a), (Rect.unit (s := S3x8x256x1024) (k0_off192 v3417 k0_t3) S1x1x256x1024.size hinb).PackedRows (EltTy.packing .bf16)) ∧
  (∀ k0_t3 : Fin (k0_t3_loop v3417).trips, ∀ (k0_h1 : k0_cond1 i = 1#1), ∀ a, (k0_off193 v3417 k0_t3) a + S1x1x256x1024.size a ≤ S3x8x256x1024.size a) ∧
  (∀ k0_t3 : Fin (k0_t3_loop v3417).trips, ∀ (k0_h1 : k0_cond1 i = 1#1), ∀ (hinb : ∀ a, (k0_off193 v3417 k0_t3) a + S1x1x256x1024.size a ≤ S3x8x256x1024.size a), (Rect.unit (s := S3x8x256x1024) (k0_off193 v3417 k0_t3) S1x1x256x1024.size hinb).PackedRows (EltTy.packing .bf16)) ∧
  (∀ k0_t3 : Fin (k0_t3_loop v3417).trips, ∀ (k0_h1 : k0_cond1 i = 1#1), ∀ a, (k0_off194 v3417 k0_t3) a + S1x1x256x1024.size a ≤ S3x8x256x1024.size a) ∧
  (∀ k0_t3 : Fin (k0_t3_loop v3417).trips, ∀ (k0_h1 : k0_cond1 i = 1#1), ∀ (hinb : ∀ a, (k0_off194 v3417 k0_t3) a + S1x1x256x1024.size a ≤ S3x8x256x1024.size a), (Rect.unit (s := S3x8x256x1024) (k0_off194 v3417 k0_t3) S1x1x256x1024.size hinb).PackedRows (EltTy.packing .bf16))
theorem k0_t2_ok : ∀ (i : grid0.Coords) (v3417 : BitVec 32) (k0_hw17 : k0_chk17 i v3417), ∀ (k0_h1 : k0_cond1 i = 1#1), (k0_t2_loop v3417).OK := fun i v3417 k0_hw17 k0_h1 => k0_hw17.1 k0_h1
theorem k0_mult2_dvd : ∀ (i : grid0.Coords) (v3417 : BitVec 32) (k0_hw17 : k0_chk17 i v3417) (k0_t2 : Fin (k0_t2_loop v3417).trips), ∀ (k0_h1 : k0_cond1 i = 1#1), 256 ∣ (k0_mult2 v3417 k0_t2).toNat := fun i v3417 k0_hw17 k0_t2 k0_h1 => k0_hw17.2.1 k0_t2 k0_h1
theorem k0_off173_inb : ∀ (i : grid0.Coords) (v3417 : BitVec 32) (k0_hw17 : k0_chk17 i v3417) (k0_t2 : Fin (k0_t2_loop v3417).trips), ∀ (k0_h1 : k0_cond1 i = 1#1), ∀ a, (k0_off173 v3417 k0_t2) a + S1x256x128.size a ≤ S8x2304x128.size a := fun i v3417 k0_hw17 k0_t2 k0_h1 => k0_hw17.2.2.1 k0_t2 k0_h1
theorem k0_off174_inb : ∀ (i : grid0.Coords) (v3417 : BitVec 32) (k0_hw17 : k0_chk17 i v3417) (k0_t2 : Fin (k0_t2_loop v3417).trips), ∀ (k0_h1 : k0_cond1 i = 1#1), ∀ a, (k0_off174 v3417 k0_t2) a + S1x256x128.size a ≤ S8x2304x128.size a := fun i v3417 k0_hw17 k0_t2 k0_h1 => k0_hw17.2.2.2.1 k0_t2 k0_h1
theorem k0_off175_inb : ∀ (i : grid0.Coords) (v3417 : BitVec 32) (k0_hw17 : k0_chk17 i v3417) (k0_t2 : Fin (k0_t2_loop v3417).trips), ∀ (k0_h1 : k0_cond1 i = 1#1), ∀ a, (k0_off175 v3417 k0_t2) a + S1x256x128.size a ≤ S8x2304x128.size a := fun i v3417 k0_hw17 k0_t2 k0_h1 => k0_hw17.2.2.2.2.1 k0_t2 k0_h1
theorem k0_off176_inb : ∀ (i : grid0.Coords) (v3417 : BitVec 32) (k0_hw17 : k0_chk17 i v3417) (k0_t2 : Fin (k0_t2_loop v3417).trips), ∀ (k0_h1 : k0_cond1 i = 1#1), ∀ a, (k0_off176 v3417 k0_t2) a + S1x256x128.size a ≤ S8x2304x128.size a := fun i v3417 k0_hw17 k0_t2 k0_h1 => k0_hw17.2.2.2.2.2.1 k0_t2 k0_h1
theorem k0_off177_inb : ∀ (i : grid0.Coords) (v3417 : BitVec 32) (k0_hw17 : k0_chk17 i v3417) (k0_t2 : Fin (k0_t2_loop v3417).trips), ∀ (k0_h1 : k0_cond1 i = 1#1), ∀ a, (k0_off177 v3417 k0_t2) a + S1x256x128.size a ≤ S8x2304x128.size a := fun i v3417 k0_hw17 k0_t2 k0_h1 => k0_hw17.2.2.2.2.2.2.1 k0_t2 k0_h1
theorem k0_off178_inb : ∀ (i : grid0.Coords) (v3417 : BitVec 32) (k0_hw17 : k0_chk17 i v3417) (k0_t2 : Fin (k0_t2_loop v3417).trips), ∀ (k0_h1 : k0_cond1 i = 1#1), ∀ a, (k0_off178 v3417 k0_t2) a + S1x256x128.size a ≤ S8x2304x128.size a := fun i v3417 k0_hw17 k0_t2 k0_h1 => k0_hw17.2.2.2.2.2.2.2.1 k0_t2 k0_h1
theorem k0_off179_inb : ∀ (i : grid0.Coords) (v3417 : BitVec 32) (k0_hw17 : k0_chk17 i v3417) (k0_t2 : Fin (k0_t2_loop v3417).trips), ∀ (k0_h1 : k0_cond1 i = 1#1), ∀ a, (k0_off179 v3417 k0_t2) a + S1x256x128.size a ≤ S8x2304x128.size a := fun i v3417 k0_hw17 k0_t2 k0_h1 => k0_hw17.2.2.2.2.2.2.2.2.1 k0_t2 k0_h1
theorem k0_off180_inb : ∀ (i : grid0.Coords) (v3417 : BitVec 32) (k0_hw17 : k0_chk17 i v3417) (k0_t2 : Fin (k0_t2_loop v3417).trips), ∀ (k0_h1 : k0_cond1 i = 1#1), ∀ a, (k0_off180 v3417 k0_t2) a + S1x256x128.size a ≤ S8x2304x128.size a := fun i v3417 k0_hw17 k0_t2 k0_h1 => k0_hw17.2.2.2.2.2.2.2.2.2.1 k0_t2 k0_h1
theorem k0_off181_inb : ∀ (i : grid0.Coords) (v3417 : BitVec 32) (k0_hw17 : k0_chk17 i v3417) (k0_t2 : Fin (k0_t2_loop v3417).trips), ∀ (k0_h1 : k0_cond1 i = 1#1), ∀ a, (k0_off181 v3417 k0_t2) a + S1x1x256x1024.size a ≤ S3x8x256x1024.size a := fun i v3417 k0_hw17 k0_t2 k0_h1 => k0_hw17.2.2.2.2.2.2.2.2.2.2.1 k0_t2 k0_h1
theorem k0_off181_packedbf16 : ∀ (i : grid0.Coords) (v3417 : BitVec 32) (k0_hw17 : k0_chk17 i v3417) (k0_t2 : Fin (k0_t2_loop v3417).trips), ∀ (k0_h1 : k0_cond1 i = 1#1), (Rect.unit (s := S3x8x256x1024) (k0_off181 v3417 k0_t2) S1x1x256x1024.size (k0_off181_inb i v3417 k0_hw17 k0_t2 k0_h1)).PackedRows (EltTy.packing .bf16) := fun i v3417 k0_hw17 k0_t2 k0_h1 => k0_hw17.2.2.2.2.2.2.2.2.2.2.2.1 k0_t2 k0_h1 (k0_off181_inb i v3417 k0_hw17 k0_t2 k0_h1)
theorem k0_off182_inb : ∀ (i : grid0.Coords) (v3417 : BitVec 32) (k0_hw17 : k0_chk17 i v3417) (k0_t2 : Fin (k0_t2_loop v3417).trips), ∀ (k0_h1 : k0_cond1 i = 1#1), ∀ a, (k0_off182 v3417 k0_t2) a + S1x1x256x1024.size a ≤ S3x8x256x1024.size a := fun i v3417 k0_hw17 k0_t2 k0_h1 => k0_hw17.2.2.2.2.2.2.2.2.2.2.2.2.1 k0_t2 k0_h1
theorem k0_off182_packedbf16 : ∀ (i : grid0.Coords) (v3417 : BitVec 32) (k0_hw17 : k0_chk17 i v3417) (k0_t2 : Fin (k0_t2_loop v3417).trips), ∀ (k0_h1 : k0_cond1 i = 1#1), (Rect.unit (s := S3x8x256x1024) (k0_off182 v3417 k0_t2) S1x1x256x1024.size (k0_off182_inb i v3417 k0_hw17 k0_t2 k0_h1)).PackedRows (EltTy.packing .bf16) := fun i v3417 k0_hw17 k0_t2 k0_h1 => k0_hw17.2.2.2.2.2.2.2.2.2.2.2.2.2.1 k0_t2 k0_h1 (k0_off182_inb i v3417 k0_hw17 k0_t2 k0_h1)
theorem k0_off183_inb : ∀ (i : grid0.Coords) (v3417 : BitVec 32) (k0_hw17 : k0_chk17 i v3417) (k0_t2 : Fin (k0_t2_loop v3417).trips), ∀ (k0_h1 : k0_cond1 i = 1#1), ∀ a, (k0_off183 v3417 k0_t2) a + S1x1x256x1024.size a ≤ S3x8x256x1024.size a := fun i v3417 k0_hw17 k0_t2 k0_h1 => k0_hw17.2.2.2.2.2.2.2.2.2.2.2.2.2.2.1 k0_t2 k0_h1
theorem k0_off183_packedbf16 : ∀ (i : grid0.Coords) (v3417 : BitVec 32) (k0_hw17 : k0_chk17 i v3417) (k0_t2 : Fin (k0_t2_loop v3417).trips), ∀ (k0_h1 : k0_cond1 i = 1#1), (Rect.unit (s := S3x8x256x1024) (k0_off183 v3417 k0_t2) S1x1x256x1024.size (k0_off183_inb i v3417 k0_hw17 k0_t2 k0_h1)).PackedRows (EltTy.packing .bf16) := fun i v3417 k0_hw17 k0_t2 k0_h1 => k0_hw17.2.2.2.2.2.2.2.2.2.2.2.2.2.2.2.1 k0_t2 k0_h1 (k0_off183_inb i v3417 k0_hw17 k0_t2 k0_h1)
theorem k0_t3_ok : ∀ (i : grid0.Coords) (v3417 : BitVec 32) (k0_hw17 : k0_chk17 i v3417), ∀ (k0_h1 : k0_cond1 i = 1#1), (k0_t3_loop v3417).OK := fun i v3417 k0_hw17 k0_h1 => k0_hw17.2.2.2.2.2.2.2.2.2.2.2.2.2.2.2.2.1 k0_h1
theorem k0_mult3_dvd : ∀ (i : grid0.Coords) (v3417 : BitVec 32) (k0_hw17 : k0_chk17 i v3417) (k0_t3 : Fin (k0_t3_loop v3417).trips), ∀ (k0_h1 : k0_cond1 i = 1#1), 256 ∣ (k0_mult3 v3417 k0_t3).toNat := fun i v3417 k0_hw17 k0_t3 k0_h1 => k0_hw17.2.2.2.2.2.2.2.2.2.2.2.2.2.2.2.2.2.1 k0_t3 k0_h1
theorem k0_off184_inb : ∀ (i : grid0.Coords) (v3417 : BitVec 32) (k0_hw17 : k0_chk17 i v3417) (k0_t3 : Fin (k0_t3_loop v3417).trips), ∀ (k0_h1 : k0_cond1 i = 1#1), ∀ a, (k0_off184 v3417 k0_t3) a + S1x256x128.size a ≤ S8x2304x128.size a := fun i v3417 k0_hw17 k0_t3 k0_h1 => k0_hw17.2.2.2.2.2.2.2.2.2.2.2.2.2.2.2.2.2.2.1 k0_t3 k0_h1
theorem k0_off185_inb : ∀ (i : grid0.Coords) (v3417 : BitVec 32) (k0_hw17 : k0_chk17 i v3417) (k0_t3 : Fin (k0_t3_loop v3417).trips), ∀ (k0_h1 : k0_cond1 i = 1#1), ∀ a, (k0_off185 v3417 k0_t3) a + S1x256x128.size a ≤ S8x2304x128.size a := fun i v3417 k0_hw17 k0_t3 k0_h1 => k0_hw17.2.2.2.2.2.2.2.2.2.2.2.2.2.2.2.2.2.2.2.1 k0_t3 k0_h1
theorem k0_off186_inb : ∀ (i : grid0.Coords) (v3417 : BitVec 32) (k0_hw17 : k0_chk17 i v3417) (k0_t3 : Fin (k0_t3_loop v3417).trips), ∀ (k0_h1 : k0_cond1 i = 1#1), ∀ a, (k0_off186 v3417 k0_t3) a + S1x256x128.size a ≤ S8x2304x128.size a := fun i v3417 k0_hw17 k0_t3 k0_h1 => k0_hw17.2.2.2.2.2.2.2.2.2.2.2.2.2.2.2.2.2.2.2.2.1 k0_t3 k0_h1
theorem k0_off187_inb : ∀ (i : grid0.Coords) (v3417 : BitVec 32) (k0_hw17 : k0_chk17 i v3417) (k0_t3 : Fin (k0_t3_loop v3417).trips), ∀ (k0_h1 : k0_cond1 i = 1#1), ∀ a, (k0_off187 v3417 k0_t3) a + S1x256x128.size a ≤ S8x2304x128.size a := fun i v3417 k0_hw17 k0_t3 k0_h1 => k0_hw17.2.2.2.2.2.2.2.2.2.2.2.2.2.2.2.2.2.2.2.2.2.1 k0_t3 k0_h1
theorem k0_off188_inb : ∀ (i : grid0.Coords) (v3417 : BitVec 32) (k0_hw17 : k0_chk17 i v3417) (k0_t3 : Fin (k0_t3_loop v3417).trips), ∀ (k0_h1 : k0_cond1 i = 1#1), ∀ a, (k0_off188 v3417 k0_t3) a + S1x256x128.size a ≤ S8x2304x128.size a := fun i v3417 k0_hw17 k0_t3 k0_h1 => k0_hw17.2.2.2.2.2.2.2.2.2.2.2.2.2.2.2.2.2.2.2.2.2.2.1 k0_t3 k0_h1
theorem k0_off189_inb : ∀ (i : grid0.Coords) (v3417 : BitVec 32) (k0_hw17 : k0_chk17 i v3417) (k0_t3 : Fin (k0_t3_loop v3417).trips), ∀ (k0_h1 : k0_cond1 i = 1#1), ∀ a, (k0_off189 v3417 k0_t3) a + S1x256x128.size a ≤ S8x2304x128.size a := fun i v3417 k0_hw17 k0_t3 k0_h1 => k0_hw17.2.2.2.2.2.2.2.2.2.2.2.2.2.2.2.2.2.2.2.2.2.2.2.1 k0_t3 k0_h1
theorem k0_off190_inb : ∀ (i : grid0.Coords) (v3417 : BitVec 32) (k0_hw17 : k0_chk17 i v3417) (k0_t3 : Fin (k0_t3_loop v3417).trips), ∀ (k0_h1 : k0_cond1 i = 1#1), ∀ a, (k0_off190 v3417 k0_t3) a + S1x256x128.size a ≤ S8x2304x128.size a := fun i v3417 k0_hw17 k0_t3 k0_h1 => k0_hw17.2.2.2.2.2.2.2.2.2.2.2.2.2.2.2.2.2.2.2.2.2.2.2.2.1 k0_t3 k0_h1
theorem k0_off191_inb : ∀ (i : grid0.Coords) (v3417 : BitVec 32) (k0_hw17 : k0_chk17 i v3417) (k0_t3 : Fin (k0_t3_loop v3417).trips), ∀ (k0_h1 : k0_cond1 i = 1#1), ∀ a, (k0_off191 v3417 k0_t3) a + S1x256x128.size a ≤ S8x2304x128.size a := fun i v3417 k0_hw17 k0_t3 k0_h1 => k0_hw17.2.2.2.2.2.2.2.2.2.2.2.2.2.2.2.2.2.2.2.2.2.2.2.2.2.1 k0_t3 k0_h1
theorem k0_off192_inb : ∀ (i : grid0.Coords) (v3417 : BitVec 32) (k0_hw17 : k0_chk17 i v3417) (k0_t3 : Fin (k0_t3_loop v3417).trips), ∀ (k0_h1 : k0_cond1 i = 1#1), ∀ a, (k0_off192 v3417 k0_t3) a + S1x1x256x1024.size a ≤ S3x8x256x1024.size a := fun i v3417 k0_hw17 k0_t3 k0_h1 => k0_hw17.2.2.2.2.2.2.2.2.2.2.2.2.2.2.2.2.2.2.2.2.2.2.2.2.2.2.1 k0_t3 k0_h1
theorem k0_off192_packedbf16 : ∀ (i : grid0.Coords) (v3417 : BitVec 32) (k0_hw17 : k0_chk17 i v3417) (k0_t3 : Fin (k0_t3_loop v3417).trips), ∀ (k0_h1 : k0_cond1 i = 1#1), (Rect.unit (s := S3x8x256x1024) (k0_off192 v3417 k0_t3) S1x1x256x1024.size (k0_off192_inb i v3417 k0_hw17 k0_t3 k0_h1)).PackedRows (EltTy.packing .bf16) := fun i v3417 k0_hw17 k0_t3 k0_h1 => k0_hw17.2.2.2.2.2.2.2.2.2.2.2.2.2.2.2.2.2.2.2.2.2.2.2.2.2.2.2.1 k0_t3 k0_h1 (k0_off192_inb i v3417 k0_hw17 k0_t3 k0_h1)
theorem k0_off193_inb : ∀ (i : grid0.Coords) (v3417 : BitVec 32) (k0_hw17 : k0_chk17 i v3417) (k0_t3 : Fin (k0_t3_loop v3417).trips), ∀ (k0_h1 : k0_cond1 i = 1#1), ∀ a, (k0_off193 v3417 k0_t3) a + S1x1x256x1024.size a ≤ S3x8x256x1024.size a := fun i v3417 k0_hw17 k0_t3 k0_h1 => k0_hw17.2.2.2.2.2.2.2.2.2.2.2.2.2.2.2.2.2.2.2.2.2.2.2.2.2.2.2.2.1 k0_t3 k0_h1
theorem k0_off193_packedbf16 : ∀ (i : grid0.Coords) (v3417 : BitVec 32) (k0_hw17 : k0_chk17 i v3417) (k0_t3 : Fin (k0_t3_loop v3417).trips), ∀ (k0_h1 : k0_cond1 i = 1#1), (Rect.unit (s := S3x8x256x1024) (k0_off193 v3417 k0_t3) S1x1x256x1024.size (k0_off193_inb i v3417 k0_hw17 k0_t3 k0_h1)).PackedRows (EltTy.packing .bf16) := fun i v3417 k0_hw17 k0_t3 k0_h1 => k0_hw17.2.2.2.2.2.2.2.2.2.2.2.2.2.2.2.2.2.2.2.2.2.2.2.2.2.2.2.2.2.1 k0_t3 k0_h1 (k0_off193_inb i v3417 k0_hw17 k0_t3 k0_h1)
theorem k0_off194_inb : ∀ (i : grid0.Coords) (v3417 : BitVec 32) (k0_hw17 : k0_chk17 i v3417) (k0_t3 : Fin (k0_t3_loop v3417).trips), ∀ (k0_h1 : k0_cond1 i = 1#1), ∀ a, (k0_off194 v3417 k0_t3) a + S1x1x256x1024.size a ≤ S3x8x256x1024.size a := fun i v3417 k0_hw17 k0_t3 k0_h1 => k0_hw17.2.2.2.2.2.2.2.2.2.2.2.2.2.2.2.2.2.2.2.2.2.2.2.2.2.2.2.2.2.2.1 k0_t3 k0_h1
theorem k0_off194_packedbf16 : ∀ (i : grid0.Coords) (v3417 : BitVec 32) (k0_hw17 : k0_chk17 i v3417) (k0_t3 : Fin (k0_t3_loop v3417).trips), ∀ (k0_h1 : k0_cond1 i = 1#1), (Rect.unit (s := S3x8x256x1024) (k0_off194 v3417 k0_t3) S1x1x256x1024.size (k0_off194_inb i v3417 k0_hw17 k0_t3 k0_h1)).PackedRows (EltTy.packing .bf16) := fun i v3417 k0_hw17 k0_t3 k0_h1 => k0_hw17.2.2.2.2.2.2.2.2.2.2.2.2.2.2.2.2.2.2.2.2.2.2.2.2.2.2.2.2.2.2.2 k0_t3 k0_h1 (k0_off194_inb i v3417 k0_hw17 k0_t3 k0_h1)

@[reducible] def k0_t4_loop (v3 : BitVec 32) : Scf.Loop 32 :=
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_45 : BitVec 32 := 1#32
  ⟨c0_i32_43, v135, c1_i32_45⟩

def k0_mult4 (v3 : BitVec 32) (k0_t4 : Fin (k0_t4_loop v3).trips) : BitVec 32 :=
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  v173
def k0_off195 (v3 : BitVec 32) (k0_t4 : Fin (k0_t4_loop v3).trips) : Fin 3 → Nat :=
  let c0_79 : Index := 0#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v175 : Index := Scalar.indexCast v174
  let c0_80 : Index := 0#32
  ![0, v175.toNat, 0]
def k0_off196 (v3 : BitVec 32) (k0_t4 : Fin (k0_t4_loop v3).trips) : Fin 3 → Nat :=
  let c1_81 : Index := 1#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v178 : Index := Scalar.indexCast v174
  let c0_82 : Index := 0#32
  ![1, v178.toNat, 0]
def k0_off197 (v3 : BitVec 32) (k0_t4 : Fin (k0_t4_loop v3).trips) : Fin 3 → Nat :=
  let c2_83 : Index := 2#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v181 : Index := Scalar.indexCast v174
  let c0_84 : Index := 0#32
  ![2, v181.toNat, 0]
def k0_off198 (v3 : BitVec 32) (k0_t4 : Fin (k0_t4_loop v3).trips) : Fin 3 → Nat :=
  let c3_85 : Index := 3#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v184 : Index := Scalar.indexCast v174
  let c0_86 : Index := 0#32
  ![3, v184.toNat, 0]
def k0_off199 (v3 : BitVec 32) (k0_t4 : Fin (k0_t4_loop v3).trips) : Fin 3 → Nat :=
  let c4_87 : Index := 4#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v187 : Index := Scalar.indexCast v174
  let c0_88 : Index := 0#32
  ![4, v187.toNat, 0]
def k0_off200 (v3 : BitVec 32) (k0_t4 : Fin (k0_t4_loop v3).trips) : Fin 3 → Nat :=
  let c5_89 : Index := 5#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v190 : Index := Scalar.indexCast v174
  let c0_90 : Index := 0#32
  ![5, v190.toNat, 0]
def k0_off201 (v3 : BitVec 32) (k0_t4 : Fin (k0_t4_loop v3).trips) : Fin 3 → Nat :=
  let c6_91 : Index := 6#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v193 : Index := Scalar.indexCast v174
  let c0_92 : Index := 0#32
  ![6, v193.toNat, 0]
def k0_off202 (v3 : BitVec 32) (k0_t4 : Fin (k0_t4_loop v3).trips) : Fin 3 → Nat :=
  let c7_93 : Index := 7#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v196 : Index := Scalar.indexCast v174
  let c0_94 : Index := 0#32
  ![7, v196.toNat, 0]
def k0_mult5 (v3 : BitVec 32) (k0_t4 : Fin (k0_t4_loop v3).trips) : BitVec 32 :=
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let c256_i32_98 : BitVec 32 := 256#32
  let v202 : BitVec 32 := Scalar.muli v171 c256_i32_98
  v202
def k0_off203 (v3 : BitVec 32) (k0_t4 : Fin (k0_t4_loop v3).trips) : Fin 2 → Nat :=
  let c2_i32 : BitVec 32 := 2#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let v230 : BitVec 32 := Scalar.muli c2_i32 v171
  let v231 : Index := Scalar.indexCast v230
  let c0_116 : Index := 0#32
  ![v231.toNat, 0]
def k0_off204 (v3 : BitVec 32) (k0_t4 : Fin (k0_t4_loop v3).trips) : Fin 2 → Nat :=
  let c2_i32_117 : BitVec 32 := 2#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let v233 : BitVec 32 := Scalar.muli c2_i32_117 v171
  let c1_i32_118 : BitVec 32 := 1#32
  let v234 : BitVec 32 := Scalar.addi v233 c1_i32_118
  let v235 : Index := Scalar.indexCast v234
  let c0_119 : Index := 0#32
  ![v235.toNat, 0]
def k0_off205 (v3 : BitVec 32) (k0_t4 : Fin (k0_t4_loop v3).trips) : Fin 3 → Nat :=
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let v255 : Index := Scalar.indexCast v171
  let c0_127 : Index := 0#32
  let c0_128 : Index := 0#32
  ![v255.toNat, 0, 0]
def k0_off206 (v3 : BitVec 32) (k0_t4 : Fin (k0_t4_loop v3).trips) : Fin 4 → Nat :=
  let c0_137 : Index := 0#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let v274 : Index := Scalar.indexCast v171
  let c0_138 : Index := 0#32
  let c0_139 : Index := 0#32
  ![0, v274.toNat, 0, 0]
def k0_off207 (v3 : BitVec 32) (k0_t4 : Fin (k0_t4_loop v3).trips) : Fin 4 → Nat :=
  let c1_141 : Index := 1#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let v278 : Index := Scalar.indexCast v171
  let c0_142 : Index := 0#32
  let c0_143 : Index := 0#32
  ![1, v278.toNat, 0, 0]
def k0_off208 (v3 : BitVec 32) (k0_t4 : Fin (k0_t4_loop v3).trips) : Fin 4 → Nat :=
  let c2_145 : Index := 2#32
  let c0_i32_42 : BitVec 32 := 0#32
  let c0_i32_43 : BitVec 32 := 0#32
  let c1_i32_45 : BitVec 32 := 1#32
  let arg23 : BitVec 32 := Scf.iv c0_i32_43 c1_i32_45 k0_t4
  let c1_i32_41 : BitVec 32 := 1#32
  let v170 : BitVec 32 := Scalar.muli arg23 c1_i32_41
  let v171 : BitVec 32 := Scalar.addi c0_i32_42 v170
  let v283 : Index := Scalar.indexCast v171
  let c0_146 : Index := 0#32
  let c0_147 : Index := 0#32
  ![2, v283.toNat, 0, 0]
@[reducible] def k0_t5_loop (v3 : BitVec 32) : Scf.Loop 32 :=
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let v132 : BitVec 32 := Scalar.addi c0_i32_43 v131
  let c1_i32_46 : BitVec 32 := 1#32
  ⟨v135, v132, c1_i32_46⟩
def k0_mult6 (v3 : BitVec 32) (k0_t5 : Fin (k0_t5_loop v3).trips) : BitVec 32 :=
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  v173
def k0_off209 (v3 : BitVec 32) (k0_t5 : Fin (k0_t5_loop v3).trips) : Fin 3 → Nat :=
  let c0_79 : Index := 0#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v175 : Index := Scalar.indexCast v174
  let c0_80 : Index := 0#32
  ![0, v175.toNat, 0]
def k0_off210 (v3 : BitVec 32) (k0_t5 : Fin (k0_t5_loop v3).trips) : Fin 3 → Nat :=
  let c1_81 : Index := 1#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v178 : Index := Scalar.indexCast v174
  let c0_82 : Index := 0#32
  ![1, v178.toNat, 0]
def k0_off211 (v3 : BitVec 32) (k0_t5 : Fin (k0_t5_loop v3).trips) : Fin 3 → Nat :=
  let c2_83 : Index := 2#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v181 : Index := Scalar.indexCast v174
  let c0_84 : Index := 0#32
  ![2, v181.toNat, 0]
def k0_off212 (v3 : BitVec 32) (k0_t5 : Fin (k0_t5_loop v3).trips) : Fin 3 → Nat :=
  let c3_85 : Index := 3#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v184 : Index := Scalar.indexCast v174
  let c0_86 : Index := 0#32
  ![3, v184.toNat, 0]
def k0_off213 (v3 : BitVec 32) (k0_t5 : Fin (k0_t5_loop v3).trips) : Fin 3 → Nat :=
  let c4_87 : Index := 4#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v187 : Index := Scalar.indexCast v174
  let c0_88 : Index := 0#32
  ![4, v187.toNat, 0]
def k0_off214 (v3 : BitVec 32) (k0_t5 : Fin (k0_t5_loop v3).trips) : Fin 3 → Nat :=
  let c5_89 : Index := 5#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v190 : Index := Scalar.indexCast v174
  let c0_90 : Index := 0#32
  ![5, v190.toNat, 0]
def k0_off215 (v3 : BitVec 32) (k0_t5 : Fin (k0_t5_loop v3).trips) : Fin 3 → Nat :=
  let c6_91 : Index := 6#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v193 : Index := Scalar.indexCast v174
  let c0_92 : Index := 0#32
  ![6, v193.toNat, 0]
def k0_off216 (v3 : BitVec 32) (k0_t5 : Fin (k0_t5_loop v3).trips) : Fin 3 → Nat :=
  let c7_93 : Index := 7#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32 : BitVec 32 := 256#32
  let v173 : BitVec 32 := Scalar.muli v171 c256_i32
  let v174 : BitVec 32 := v173
  let v196 : Index := Scalar.indexCast v174
  let c0_94 : Index := 0#32
  ![7, v196.toNat, 0]
def k0_mult7 (v3 : BitVec 32) (k0_t5 : Fin (k0_t5_loop v3).trips) : BitVec 32 :=
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let c256_i32_98 : BitVec 32 := 256#32
  let v202 : BitVec 32 := Scalar.muli v171 c256_i32_98
  v202
def k0_off217 (v3 : BitVec 32) (k0_t5 : Fin (k0_t5_loop v3).trips) : Fin 2 → Nat :=
  let c2_i32 : BitVec 32 := 2#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let v230 : BitVec 32 := Scalar.muli c2_i32 v171
  let v231 : Index := Scalar.indexCast v230
  let c0_116 : Index := 0#32
  ![v231.toNat, 0]
def k0_off218 (v3 : BitVec 32) (k0_t5 : Fin (k0_t5_loop v3).trips) : Fin 2 → Nat :=
  let c2_i32_117 : BitVec 32 := 2#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let v233 : BitVec 32 := Scalar.muli c2_i32_117 v171
  let c1_i32_118 : BitVec 32 := 1#32
  let v234 : BitVec 32 := Scalar.addi v233 c1_i32_118
  let v235 : Index := Scalar.indexCast v234
  let c0_119 : Index := 0#32
  ![v235.toNat, 0]
def k0_off219 (v3 : BitVec 32) (k0_t5 : Fin (k0_t5_loop v3).trips) : Fin 3 → Nat :=
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let v255 : Index := Scalar.indexCast v171
  let c0_127 : Index := 0#32
  let c0_128 : Index := 0#32
  ![v255.toNat, 0, 0]
def k0_off220 (v3 : BitVec 32) (k0_t5 : Fin (k0_t5_loop v3).trips) : Fin 4 → Nat :=
  let c0_137 : Index := 0#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let v274 : Index := Scalar.indexCast v171
  let c0_138 : Index := 0#32
  let c0_139 : Index := 0#32
  ![0, v274.toNat, 0, 0]
def k0_off221 (v3 : BitVec 32) (k0_t5 : Fin (k0_t5_loop v3).trips) : Fin 4 → Nat :=
  let c1_141 : Index := 1#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let v278 : Index := Scalar.indexCast v171
  let c0_142 : Index := 0#32
  let c0_143 : Index := 0#32
  ![1, v278.toNat, 0, 0]
def k0_off222 (v3 : BitVec 32) (k0_t5 : Fin (k0_t5_loop v3).trips) : Fin 4 → Nat :=
  let c2_145 : Index := 2#32
  let c0_i32_42 : BitVec 32 := 0#32
  let c0_i32_43 : BitVec 32 := 0#32
  let c0_i32_38 : BitVec 32 := 0#32
  let v127 : BitVec 32 := Scalar.subi v3 c0_i32_38
  let c1_i32 : BitVec 32 := 1#32
  let c1_i32_39 : BitVec 32 := 1#32
  let v128 : BitVec 32 := Scalar.subi c1_i32 c1_i32_39
  let v129 : BitVec 32 := Scalar.addi v127 v128
  let c1_i32_40 : BitVec 32 := 1#32
  let v130 : BitVec 32 := Scalar.divsi v129 c1_i32_40
  let v131 : BitVec 32 := Scalar.subi v130 c0_i32_43
  let c1_i32_44 : BitVec 32 := 1#32
  let v133 : BitVec 32 := Scalar.divsi v131 c1_i32_44
  let v134 : BitVec 32 := Scalar.muli v133 c1_i32_44
  let v135 : BitVec 32 := Scalar.addi c0_i32_43 v134
  let c1_i32_46 : BitVec 32 := 1#32
  let arg23 : BitVec 32 := Scf.iv v135 c1_i32_46 k0_t5
  let c1_i32_41 : BitVec 32 := 1#32
  let v170 : BitVec 32 := Scalar.muli arg23 c1_i32_41
  let v171 : BitVec 32 := Scalar.addi c0_i32_42 v170
  let v283 : Index := Scalar.indexCast v171
  let c0_146 : Index := 0#32
  let c0_147 : Index := 0#32
  ![2, v283.toNat, 0, 0]
@[reducible] def k0_t6_loop (v3 : BitVec 32) : Scf.Loop 32 :=
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_61 : BitVec 32 := 1#32
  ⟨c0_i32_59, v151, c1_i32_61⟩
def k0_mult8 (v3 : BitVec 32) (k0_t6 : Fin (k0_t6_loop v3).trips) : BitVec 32 :=
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  v174
def k0_off223 (v3 : BitVec 32) (k0_t6 : Fin (k0_t6_loop v3).trips) : Fin 3 → Nat :=
  let c0_79 : Index := 0#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v176 : Index := Scalar.indexCast v175
  let c0_80 : Index := 0#32
  ![0, v176.toNat, 0]
def k0_off224 (v3 : BitVec 32) (k0_t6 : Fin (k0_t6_loop v3).trips) : Fin 3 → Nat :=
  let c1_81 : Index := 1#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v179 : Index := Scalar.indexCast v175
  let c0_82 : Index := 0#32
  ![1, v179.toNat, 0]
def k0_off225 (v3 : BitVec 32) (k0_t6 : Fin (k0_t6_loop v3).trips) : Fin 3 → Nat :=
  let c2_83 : Index := 2#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v182 : Index := Scalar.indexCast v175
  let c0_84 : Index := 0#32
  ![2, v182.toNat, 0]
def k0_off226 (v3 : BitVec 32) (k0_t6 : Fin (k0_t6_loop v3).trips) : Fin 3 → Nat :=
  let c3_85 : Index := 3#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v185 : Index := Scalar.indexCast v175
  let c0_86 : Index := 0#32
  ![3, v185.toNat, 0]
def k0_off227 (v3 : BitVec 32) (k0_t6 : Fin (k0_t6_loop v3).trips) : Fin 3 → Nat :=
  let c4_87 : Index := 4#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v188 : Index := Scalar.indexCast v175
  let c0_88 : Index := 0#32
  ![4, v188.toNat, 0]
def k0_off228 (v3 : BitVec 32) (k0_t6 : Fin (k0_t6_loop v3).trips) : Fin 3 → Nat :=
  let c5_89 : Index := 5#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v191 : Index := Scalar.indexCast v175
  let c0_90 : Index := 0#32
  ![5, v191.toNat, 0]
def k0_off229 (v3 : BitVec 32) (k0_t6 : Fin (k0_t6_loop v3).trips) : Fin 3 → Nat :=
  let c6_91 : Index := 6#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v194 : Index := Scalar.indexCast v175
  let c0_92 : Index := 0#32
  ![6, v194.toNat, 0]
def k0_off230 (v3 : BitVec 32) (k0_t6 : Fin (k0_t6_loop v3).trips) : Fin 3 → Nat :=
  let c7_93 : Index := 7#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v197 : Index := Scalar.indexCast v175
  let c0_94 : Index := 0#32
  ![7, v197.toNat, 0]
def k0_off231 (v3 : BitVec 32) (k0_t6 : Fin (k0_t6_loop v3).trips) : Fin 2 → Nat :=
  let c2_i32 : BitVec 32 := 2#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let v202 : BitVec 32 := Scalar.muli c2_i32 v171
  let v203 : Index := Scalar.indexCast v202
  let c0_96 : Index := 0#32
  ![v203.toNat, 0]
def k0_off232 (v3 : BitVec 32) (k0_t6 : Fin (k0_t6_loop v3).trips) : Fin 2 → Nat :=
  let c2_i32_97 : BitVec 32 := 2#32
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let v205 : BitVec 32 := Scalar.muli c2_i32_97 v171
  let c1_i32_98 : BitVec 32 := 1#32
  let v206 : BitVec 32 := Scalar.addi v205 c1_i32_98
  let v207 : Index := Scalar.indexCast v206
  let c0_99 : Index := 0#32
  ![v207.toNat, 0]
def k0_off233 (v3 : BitVec 32) (k0_t6 : Fin (k0_t6_loop v3).trips) : Fin 3 → Nat :=
  let c0_i32_58 : BitVec 32 := 0#32
  let c0_i32_59 : BitVec 32 := 0#32
  let c1_i32_61 : BitVec 32 := 1#32
  let arg23 : BitVec 32 := Scf.iv c0_i32_59 c1_i32_61 k0_t6
  let c1_i32_57 : BitVec 32 := 1#32
  let v170 : BitVec 32 := Scalar.muli arg23 c1_i32_57
  let v171 : BitVec 32 := Scalar.addi c0_i32_58 v170
  let v212 : Index := Scalar.indexCast v171
  let c0_101 : Index := 0#32
  let c0_102 : Index := 0#32
  ![v212.toNat, 0, 0]
@[reducible] def k0_t7_loop (v3 : BitVec 32) : Scf.Loop 32 :=
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let v148 : BitVec 32 := Scalar.addi c0_i32_59 v147
  let c1_i32_62 : BitVec 32 := 1#32
  ⟨v151, v148, c1_i32_62⟩
def k0_mult9 (v3 : BitVec 32) (k0_t7 : Fin (k0_t7_loop v3).trips) : BitVec 32 :=
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  v174
def k0_off234 (v3 : BitVec 32) (k0_t7 : Fin (k0_t7_loop v3).trips) : Fin 3 → Nat :=
  let c0_79 : Index := 0#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v176 : Index := Scalar.indexCast v175
  let c0_80 : Index := 0#32
  ![0, v176.toNat, 0]
def k0_off235 (v3 : BitVec 32) (k0_t7 : Fin (k0_t7_loop v3).trips) : Fin 3 → Nat :=
  let c1_81 : Index := 1#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v179 : Index := Scalar.indexCast v175
  let c0_82 : Index := 0#32
  ![1, v179.toNat, 0]
def k0_off236 (v3 : BitVec 32) (k0_t7 : Fin (k0_t7_loop v3).trips) : Fin 3 → Nat :=
  let c2_83 : Index := 2#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v182 : Index := Scalar.indexCast v175
  let c0_84 : Index := 0#32
  ![2, v182.toNat, 0]
def k0_off237 (v3 : BitVec 32) (k0_t7 : Fin (k0_t7_loop v3).trips) : Fin 3 → Nat :=
  let c3_85 : Index := 3#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v185 : Index := Scalar.indexCast v175
  let c0_86 : Index := 0#32
  ![3, v185.toNat, 0]
def k0_off238 (v3 : BitVec 32) (k0_t7 : Fin (k0_t7_loop v3).trips) : Fin 3 → Nat :=
  let c4_87 : Index := 4#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v188 : Index := Scalar.indexCast v175
  let c0_88 : Index := 0#32
  ![4, v188.toNat, 0]
def k0_off239 (v3 : BitVec 32) (k0_t7 : Fin (k0_t7_loop v3).trips) : Fin 3 → Nat :=
  let c5_89 : Index := 5#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v191 : Index := Scalar.indexCast v175
  let c0_90 : Index := 0#32
  ![5, v191.toNat, 0]
def k0_off240 (v3 : BitVec 32) (k0_t7 : Fin (k0_t7_loop v3).trips) : Fin 3 → Nat :=
  let c6_91 : Index := 6#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v194 : Index := Scalar.indexCast v175
  let c0_92 : Index := 0#32
  ![6, v194.toNat, 0]
def k0_off241 (v3 : BitVec 32) (k0_t7 : Fin (k0_t7_loop v3).trips) : Fin 3 → Nat :=
  let c7_93 : Index := 7#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let c256_i32 : BitVec 32 := 256#32
  let v174 : BitVec 32 := Scalar.muli v171 c256_i32
  let v175 : BitVec 32 := v174
  let v197 : Index := Scalar.indexCast v175
  let c0_94 : Index := 0#32
  ![7, v197.toNat, 0]
def k0_off242 (v3 : BitVec 32) (k0_t7 : Fin (k0_t7_loop v3).trips) : Fin 2 → Nat :=
  let c2_i32 : BitVec 32 := 2#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let v202 : BitVec 32 := Scalar.muli c2_i32 v171
  let v203 : Index := Scalar.indexCast v202
  let c0_96 : Index := 0#32
  ![v203.toNat, 0]
def k0_off243 (v3 : BitVec 32) (k0_t7 : Fin (k0_t7_loop v3).trips) : Fin 2 → Nat :=
  let c2_i32_97 : BitVec 32 := 2#32
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let v205 : BitVec 32 := Scalar.muli c2_i32_97 v171
  let c1_i32_98 : BitVec 32 := 1#32
  let v206 : BitVec 32 := Scalar.addi v205 c1_i32_98
  let v207 : Index := Scalar.indexCast v206
  let c0_99 : Index := 0#32
  ![v207.toNat, 0]
def k0_off244 (v3 : BitVec 32) (k0_t7 : Fin (k0_t7_loop v3).trips) : Fin 3 → Nat :=
  let c0_i32_58 : BitVec 32 := 0#32
  let c0_i32_59 : BitVec 32 := 0#32
  let c0_i32_53 : BitVec 32 := 0#32
  let v143 : BitVec 32 := Scalar.subi v3 c0_i32_53
  let c1_i32_54 : BitVec 32 := 1#32
  let c1_i32_55 : BitVec 32 := 1#32
  let v144 : BitVec 32 := Scalar.subi c1_i32_54 c1_i32_55
  let v145 : BitVec 32 := Scalar.addi v143 v144
  let c1_i32_56 : BitVec 32 := 1#32
  let v146 : BitVec 32 := Scalar.divsi v145 c1_i32_56
  let v147 : BitVec 32 := Scalar.subi v146 c0_i32_59
  let c1_i32_60 : BitVec 32 := 1#32
  let v149 : BitVec 32 := Scalar.divsi v147 c1_i32_60
  let v150 : BitVec 32 := Scalar.muli v149 c1_i32_60
  let v151 : BitVec 32 := Scalar.addi c0_i32_59 v150
  let c1_i32_62 : BitVec 32 := 1#32
  let arg23 : BitVec 32 := Scf.iv v151 c1_i32_62 k0_t7
  let c1_i32_57 : BitVec 32 := 1#32
  let v170 : BitVec 32 := Scalar.muli arg23 c1_i32_57
  let v171 : BitVec 32 := Scalar.addi c0_i32_58 v170
  let v212 : Index := Scalar.indexCast v171
  let c0_101 : Index := 0#32
  let c0_102 : Index := 0#32
  ![v212.toNat, 0, 0]

def k0_chk18_0 (v3 : BitVec 32) : Prop :=
  ((k0_t4_loop v3).OK) ∧
  (∀ k0_t4 : Fin (k0_t4_loop v3).trips, 256 ∣ (k0_mult4 v3 k0_t4).toNat) ∧
  (∀ k0_t4 : Fin (k0_t4_loop v3).trips, ∀ a, (k0_off195 v3 k0_t4) a + S1x256x128.size a ≤ S8x2304x128.size a) ∧
  (∀ k0_t4 : Fin (k0_t4_loop v3).trips, ∀ a, (k0_off196 v3 k0_t4) a + S1x256x128.size a ≤ S8x2304x128.size a) ∧
  (∀ k0_t4 : Fin (k0_t4_loop v3).trips, ∀ a, (k0_off197 v3 k0_t4) a + S1x256x128.size a ≤ S8x2304x128.size a) ∧
  (∀ k0_t4 : Fin (k0_t4_loop v3).trips, ∀ a, (k0_off198 v3 k0_t4) a + S1x256x128.size a ≤ S8x2304x128.size a) ∧
  (∀ k0_t4 : Fin (k0_t4_loop v3).trips, ∀ a, (k0_off199 v3 k0_t4) a + S1x256x128.size a ≤ S8x2304x128.size a) ∧
  (∀ k0_t4 : Fin (k0_t4_loop v3).trips, ∀ a, (k0_off200 v3 k0_t4) a + S1x256x128.size a ≤ S8x2304x128.size a) ∧
  (∀ k0_t4 : Fin (k0_t4_loop v3).trips, ∀ a, (k0_off201 v3 k0_t4) a + S1x256x128.size a ≤ S8x2304x128.size a) ∧
  (∀ k0_t4 : Fin (k0_t4_loop v3).trips, ∀ a, (k0_off202 v3 k0_t4) a + S1x256x128.size a ≤ S8x2304x128.size a) ∧
  (∀ k0_t4 : Fin (k0_t4_loop v3).trips, 256 ∣ (k0_mult5 v3 k0_t4).toNat) ∧
  (∀ k0_t4 : Fin (k0_t4_loop v3).trips, ∀ a, (k0_off203 v3 k0_t4) a + S1x128.size a ≤ S18x128.size a) ∧
  (∀ k0_t4 : Fin (k0_t4_loop v3).trips, ∀ a, (k0_off204 v3 k0_t4) a + S1x128.size a ≤ S18x128.size a) ∧
  (∀ k0_t4 : Fin (k0_t4_loop v3).trips, ∀ a, (k0_off205 v3 k0_t4) a + S1x512x256.size a ≤ S8x512x256.size a) ∧
  (∀ k0_t4 : Fin (k0_t4_loop v3).trips, ∀ a, (k0_off206 v3 k0_t4) a + S1x1x256x1024.size a ≤ S3x8x256x1024.size a) ∧
  (∀ k0_t4 : Fin (k0_t4_loop v3).trips, ∀ a, (k0_off207 v3 k0_t4) a + S1x1x256x1024.size a ≤ S3x8x256x1024.size a) ∧
  (∀ k0_t4 : Fin (k0_t4_loop v3).trips, ∀ a, (k0_off208 v3 k0_t4) a + S1x1x256x1024.size a ≤ S3x8x256x1024.size a) ∧
  ((k0_t5_loop v3).OK) ∧
  (∀ k0_t5 : Fin (k0_t5_loop v3).trips, 256 ∣ (k0_mult6 v3 k0_t5).toNat) ∧
  (∀ k0_t5 : Fin (k0_t5_loop v3).trips, ∀ a, (k0_off209 v3 k0_t5) a + S1x256x128.size a ≤ S8x2304x128.size a) ∧
  (∀ k0_t5 : Fin (k0_t5_loop v3).trips, ∀ a, (k0_off210 v3 k0_t5) a + S1x256x128.size a ≤ S8x2304x128.size a) ∧
  (∀ k0_t5 : Fin (k0_t5_loop v3).trips, ∀ a, (k0_off211 v3 k0_t5) a + S1x256x128.size a ≤ S8x2304x128.size a) ∧
  (∀ k0_t5 : Fin (k0_t5_loop v3).trips, ∀ a, (k0_off212 v3 k0_t5) a + S1x256x128.size a ≤ S8x2304x128.size a) ∧
  (∀ k0_t5 : Fin (k0_t5_loop v3).trips, ∀ a, (k0_off213 v3 k0_t5) a + S1x256x128.size a ≤ S8x2304x128.size a) ∧
  (∀ k0_t5 : Fin (k0_t5_loop v3).trips, ∀ a, (k0_off214 v3 k0_t5) a + S1x256x128.size a ≤ S8x2304x128.size a) ∧
  (∀ k0_t5 : Fin (k0_t5_loop v3).trips, ∀ a, (k0_off215 v3 k0_t5) a + S1x256x128.size a ≤ S8x2304x128.size a) ∧
  (∀ k0_t5 : Fin (k0_t5_loop v3).trips, ∀ a, (k0_off216 v3 k0_t5) a + S1x256x128.size a ≤ S8x2304x128.size a) ∧
  (∀ k0_t5 : Fin (k0_t5_loop v3).trips, 256 ∣ (k0_mult7 v3 k0_t5).toNat) ∧
  (∀ k0_t5 : Fin (k0_t5_loop v3).trips, ∀ a, (k0_off217 v3 k0_t5) a + S1x128.size a ≤ S18x128.size a) ∧
  (∀ k0_t5 : Fin (k0_t5_loop v3).trips, ∀ a, (k0_off218 v3 k0_t5) a + S1x128.size a ≤ S18x128.size a) ∧
  (∀ k0_t5 : Fin (k0_t5_loop v3).trips, ∀ a, (k0_off219 v3 k0_t5) a + S1x512x256.size a ≤ S8x512x256.size a) ∧
  (∀ k0_t5 : Fin (k0_t5_loop v3).trips, ∀ a, (k0_off220 v3 k0_t5) a + S1x1x256x1024.size a ≤ S3x8x256x1024.size a)
def k0_chk18_1 (v3 : BitVec 32) : Prop :=
  (∀ k0_t5 : Fin (k0_t5_loop v3).trips, ∀ a, (k0_off221 v3 k0_t5) a + S1x1x256x1024.size a ≤ S3x8x256x1024.size a) ∧
  (∀ k0_t5 : Fin (k0_t5_loop v3).trips, ∀ a, (k0_off222 v3 k0_t5) a + S1x1x256x1024.size a ≤ S3x8x256x1024.size a) ∧
  ((k0_t6_loop v3).OK) ∧
  (∀ k0_t6 : Fin (k0_t6_loop v3).trips, 256 ∣ (k0_mult8 v3 k0_t6).toNat) ∧
  (∀ k0_t6 : Fin (k0_t6_loop v3).trips, ∀ a, (k0_off223 v3 k0_t6) a + S1x256x128.size a ≤ S8x2304x128.size a) ∧
  (∀ k0_t6 : Fin (k0_t6_loop v3).trips, ∀ a, (k0_off224 v3 k0_t6) a + S1x256x128.size a ≤ S8x2304x128.size a) ∧
  (∀ k0_t6 : Fin (k0_t6_loop v3).trips, ∀ a, (k0_off225 v3 k0_t6) a + S1x256x128.size a ≤ S8x2304x128.size a) ∧
  (∀ k0_t6 : Fin (k0_t6_loop v3).trips, ∀ a, (k0_off226 v3 k0_t6) a + S1x256x128.size a ≤ S8x2304x128.size a) ∧
  (∀ k0_t6 : Fin (k0_t6_loop v3).trips, ∀ a, (k0_off227 v3 k0_t6) a + S1x256x128.size a ≤ S8x2304x128.size a) ∧
  (∀ k0_t6 : Fin (k0_t6_loop v3).trips, ∀ a, (k0_off228 v3 k0_t6) a + S1x256x128.size a ≤ S8x2304x128.size a) ∧
  (∀ k0_t6 : Fin (k0_t6_loop v3).trips, ∀ a, (k0_off229 v3 k0_t6) a + S1x256x128.size a ≤ S8x2304x128.size a) ∧
  (∀ k0_t6 : Fin (k0_t6_loop v3).trips, ∀ a, (k0_off230 v3 k0_t6) a + S1x256x128.size a ≤ S8x2304x128.size a) ∧
  (∀ k0_t6 : Fin (k0_t6_loop v3).trips, ∀ a, (k0_off231 v3 k0_t6) a + S1x128.size a ≤ S18x128.size a) ∧
  (∀ k0_t6 : Fin (k0_t6_loop v3).trips, ∀ a, (k0_off232 v3 k0_t6) a + S1x128.size a ≤ S18x128.size a) ∧
  (∀ k0_t6 : Fin (k0_t6_loop v3).trips, ∀ a, (k0_off233 v3 k0_t6) a + S1x512x256.size a ≤ S8x512x256.size a) ∧
  ((k0_t7_loop v3).OK) ∧
  (∀ k0_t7 : Fin (k0_t7_loop v3).trips, 256 ∣ (k0_mult9 v3 k0_t7).toNat) ∧
  (∀ k0_t7 : Fin (k0_t7_loop v3).trips, ∀ a, (k0_off234 v3 k0_t7) a + S1x256x128.size a ≤ S8x2304x128.size a) ∧
  (∀ k0_t7 : Fin (k0_t7_loop v3).trips, ∀ a, (k0_off235 v3 k0_t7) a + S1x256x128.size a ≤ S8x2304x128.size a) ∧
  (∀ k0_t7 : Fin (k0_t7_loop v3).trips, ∀ a, (k0_off236 v3 k0_t7) a + S1x256x128.size a ≤ S8x2304x128.size a) ∧
  (∀ k0_t7 : Fin (k0_t7_loop v3).trips, ∀ a, (k0_off237 v3 k0_t7) a + S1x256x128.size a ≤ S8x2304x128.size a) ∧
  (∀ k0_t7 : Fin (k0_t7_loop v3).trips, ∀ a, (k0_off238 v3 k0_t7) a + S1x256x128.size a ≤ S8x2304x128.size a) ∧
  (∀ k0_t7 : Fin (k0_t7_loop v3).trips, ∀ a, (k0_off239 v3 k0_t7) a + S1x256x128.size a ≤ S8x2304x128.size a) ∧
  (∀ k0_t7 : Fin (k0_t7_loop v3).trips, ∀ a, (k0_off240 v3 k0_t7) a + S1x256x128.size a ≤ S8x2304x128.size a) ∧
  (∀ k0_t7 : Fin (k0_t7_loop v3).trips, ∀ a, (k0_off241 v3 k0_t7) a + S1x256x128.size a ≤ S8x2304x128.size a) ∧
  (∀ k0_t7 : Fin (k0_t7_loop v3).trips, ∀ a, (k0_off242 v3 k0_t7) a + S1x128.size a ≤ S18x128.size a) ∧
  (∀ k0_t7 : Fin (k0_t7_loop v3).trips, ∀ a, (k0_off243 v3 k0_t7) a + S1x128.size a ≤ S18x128.size a) ∧
  (∀ k0_t7 : Fin (k0_t7_loop v3).trips, ∀ a, (k0_off244 v3 k0_t7) a + S1x512x256.size a ≤ S8x512x256.size a)
def k0_chk18 (v3 : BitVec 32) : Prop :=
  k0_chk18_0 v3 ∧
  k0_chk18_1 v3
theorem k0_t4_ok : ∀ (v3 : BitVec 32) (k0_hw18 : k0_chk18 v3), (k0_t4_loop v3).OK := fun v3 k0_hw18 => k0_hw18.1.1
theorem k0_mult4_dvd : ∀ (v3 : BitVec 32) (k0_hw18 : k0_chk18 v3) (k0_t4 : Fin (k0_t4_loop v3).trips), 256 ∣ (k0_mult4 v3 k0_t4).toNat := fun v3 k0_hw18 k0_t4 => k0_hw18.1.2.1 k0_t4
theorem k0_off195_inb : ∀ (v3 : BitVec 32) (k0_hw18 : k0_chk18 v3) (k0_t4 : Fin (k0_t4_loop v3).trips), ∀ a, (k0_off195 v3 k0_t4) a + S1x256x128.size a ≤ S8x2304x128.size a := fun v3 k0_hw18 k0_t4 => k0_hw18.1.2.2.1 k0_t4
theorem k0_off196_inb : ∀ (v3 : BitVec 32) (k0_hw18 : k0_chk18 v3) (k0_t4 : Fin (k0_t4_loop v3).trips), ∀ a, (k0_off196 v3 k0_t4) a + S1x256x128.size a ≤ S8x2304x128.size a := fun v3 k0_hw18 k0_t4 => k0_hw18.1.2.2.2.1 k0_t4
theorem k0_off197_inb : ∀ (v3 : BitVec 32) (k0_hw18 : k0_chk18 v3) (k0_t4 : Fin (k0_t4_loop v3).trips), ∀ a, (k0_off197 v3 k0_t4) a + S1x256x128.size a ≤ S8x2304x128.size a := fun v3 k0_hw18 k0_t4 => k0_hw18.1.2.2.2.2.1 k0_t4
theorem k0_off198_inb : ∀ (v3 : BitVec 32) (k0_hw18 : k0_chk18 v3) (k0_t4 : Fin (k0_t4_loop v3).trips), ∀ a, (k0_off198 v3 k0_t4) a + S1x256x128.size a ≤ S8x2304x128.size a := fun v3 k0_hw18 k0_t4 => k0_hw18.1.2.2.2.2.2.1 k0_t4
theorem k0_off199_inb : ∀ (v3 : BitVec 32) (k0_hw18 : k0_chk18 v3) (k0_t4 : Fin (k0_t4_loop v3).trips), ∀ a, (k0_off199 v3 k0_t4) a + S1x256x128.size a ≤ S8x2304x128.size a := fun v3 k0_hw18 k0_t4 => k0_hw18.1.2.2.2.2.2.2.1 k0_t4
theorem k0_off200_inb : ∀ (v3 : BitVec 32) (k0_hw18 : k0_chk18 v3) (k0_t4 : Fin (k0_t4_loop v3).trips), ∀ a, (k0_off200 v3 k0_t4) a + S1x256x128.size a ≤ S8x2304x128.size a := fun v3 k0_hw18 k0_t4 => k0_hw18.1.2.2.2.2.2.2.2.1 k0_t4
theorem k0_off201_inb : ∀ (v3 : BitVec 32) (k0_hw18 : k0_chk18 v3) (k0_t4 : Fin (k0_t4_loop v3).trips), ∀ a, (k0_off201 v3 k0_t4) a + S1x256x128.size a ≤ S8x2304x128.size a := fun v3 k0_hw18 k0_t4 => k0_hw18.1.2.2.2.2.2.2.2.2.1 k0_t4
theorem k0_off202_inb : ∀ (v3 : BitVec 32) (k0_hw18 : k0_chk18 v3) (k0_t4 : Fin (k0_t4_loop v3).trips), ∀ a, (k0_off202 v3 k0_t4) a + S1x256x128.size a ≤ S8x2304x128.size a := fun v3 k0_hw18 k0_t4 => k0_hw18.1.2.2.2.2.2.2.2.2.2.1 k0_t4
theorem k0_mult5_dvd : ∀ (v3 : BitVec 32) (k0_hw18 : k0_chk18 v3) (k0_t4 : Fin (k0_t4_loop v3).trips), 256 ∣ (k0_mult5 v3 k0_t4).toNat := fun v3 k0_hw18 k0_t4 => k0_hw18.1.2.2.2.2.2.2.2.2.2.2.1 k0_t4
theorem k0_off203_inb : ∀ (v3 : BitVec 32) (k0_hw18 : k0_chk18 v3) (k0_t4 : Fin (k0_t4_loop v3).trips), ∀ a, (k0_off203 v3 k0_t4) a + S1x128.size a ≤ S18x128.size a := fun v3 k0_hw18 k0_t4 => k0_hw18.1.2.2.2.2.2.2.2.2.2.2.2.1 k0_t4
theorem k0_off204_inb : ∀ (v3 : BitVec 32) (k0_hw18 : k0_chk18 v3) (k0_t4 : Fin (k0_t4_loop v3).trips), ∀ a, (k0_off204 v3 k0_t4) a + S1x128.size a ≤ S18x128.size a := fun v3 k0_hw18 k0_t4 => k0_hw18.1.2.2.2.2.2.2.2.2.2.2.2.2.1 k0_t4
theorem k0_off205_inb : ∀ (v3 : BitVec 32) (k0_hw18 : k0_chk18 v3) (k0_t4 : Fin (k0_t4_loop v3).trips), ∀ a, (k0_off205 v3 k0_t4) a + S1x512x256.size a ≤ S8x512x256.size a := fun v3 k0_hw18 k0_t4 => k0_hw18.1.2.2.2.2.2.2.2.2.2.2.2.2.2.1 k0_t4
theorem k0_off206_inb : ∀ (v3 : BitVec 32) (k0_hw18 : k0_chk18 v3) (k0_t4 : Fin (k0_t4_loop v3).trips), ∀ a, (k0_off206 v3 k0_t4) a + S1x1x256x1024.size a ≤ S3x8x256x1024.size a := fun v3 k0_hw18 k0_t4 => k0_hw18.1.2.2.2.2.2.2.2.2.2.2.2.2.2.2.1 k0_t4
theorem k0_off207_inb : ∀ (v3 : BitVec 32) (k0_hw18 : k0_chk18 v3) (k0_t4 : Fin (k0_t4_loop v3).trips), ∀ a, (k0_off207 v3 k0_t4) a + S1x1x256x1024.size a ≤ S3x8x256x1024.size a := fun v3 k0_hw18 k0_t4 => k0_hw18.1.2.2.2.2.2.2.2.2.2.2.2.2.2.2.2.1 k0_t4
theorem k0_off208_inb : ∀ (v3 : BitVec 32) (k0_hw18 : k0_chk18 v3) (k0_t4 : Fin (k0_t4_loop v3).trips), ∀ a, (k0_off208 v3 k0_t4) a + S1x1x256x1024.size a ≤ S3x8x256x1024.size a := fun v3 k0_hw18 k0_t4 => k0_hw18.1.2.2.2.2.2.2.2.2.2.2.2.2.2.2.2.2.1 k0_t4
theorem k0_t5_ok : ∀ (v3 : BitVec 32) (k0_hw18 : k0_chk18 v3), (k0_t5_loop v3).OK := fun v3 k0_hw18 => k0_hw18.1.2.2.2.2.2.2.2.2.2.2.2.2.2.2.2.2.2.1
theorem k0_mult6_dvd : ∀ (v3 : BitVec 32) (k0_hw18 : k0_chk18 v3) (k0_t5 : Fin (k0_t5_loop v3).trips), 256 ∣ (k0_mult6 v3 k0_t5).toNat := fun v3 k0_hw18 k0_t5 => k0_hw18.1.2.2.2.2.2.2.2.2.2.2.2.2.2.2.2.2.2.2.1 k0_t5
theorem k0_off209_inb : ∀ (v3 : BitVec 32) (k0_hw18 : k0_chk18 v3) (k0_t5 : Fin (k0_t5_loop v3).trips), ∀ a, (k0_off209 v3 k0_t5) a + S1x256x128.size a ≤ S8x2304x128.size a := fun v3 k0_hw18 k0_t5 => k0_hw18.1.2.2.2.2.2.2.2.2.2.2.2.2.2.2.2.2.2.2.2.1 k0_t5
theorem k0_off210_inb : ∀ (v3 : BitVec 32) (k0_hw18 : k0_chk18 v3) (k0_t5 : Fin (k0_t5_loop v3).trips), ∀ a, (k0_off210 v3 k0_t5) a + S1x256x128.size a ≤ S8x2304x128.size a := fun v3 k0_hw18 k0_t5 => k0_hw18.1.2.2.2.2.2.2.2.2.2.2.2.2.2.2.2.2.2.2.2.2.1 k0_t5
theorem k0_off211_inb : ∀ (v3 : BitVec 32) (k0_hw18 : k0_chk18 v3) (k0_t5 : Fin (k0_t5_loop v3).trips), ∀ a, (k0_off211 v3 k0_t5) a + S1x256x128.size a ≤ S8x2304x128.size a := fun v3 k0_hw18 k0_t5 => k0_hw18.1.2.2.2.2.2.2.2.2.2.2.2.2.2.2.2.2.2.2.2.2.2.1 k0_t5
theorem k0_off212_inb : ∀ (v3 : BitVec 32) (k0_hw18 : k0_chk18 v3) (k0_t5 : Fin (k0_t5_loop v3).trips), ∀ a, (k0_off212 v3 k0_t5) a + S1x256x128.size a ≤ S8x2304x128.size a := fun v3 k0_hw18 k0_t5 => k0_hw18.1.2.2.2.2.2.2.2.2.2.2.2.2.2.2.2.2.2.2.2.2.2.2.1 k0_t5
theorem k0_off213_inb : ∀ (v3 : BitVec 32) (k0_hw18 : k0_chk18 v3) (k0_t5 : Fin (k0_t5_loop v3).trips), ∀ a, (k0_off213 v3 k0_t5) a + S1x256x128.size a ≤ S8x2304x128.size a := fun v3 k0_hw18 k0_t5 => k0_hw18.1.2.2.2.2.2.2.2.2.2.2.2.2.2.2.2.2.2.2.2.2.2.2.2.1 k0_t5
theorem k0_off214_inb : ∀ (v3 : BitVec 32) (k0_hw18 : k0_chk18 v3) (k0_t5 : Fin (k0_t5_loop v3).trips), ∀ a, (k0_off214 v3 k0_t5) a + S1x256x128.size a ≤ S8x2304x128.size a := fun v3 k0_hw18 k0_t5 => k0_hw18.1.2.2.2.2.2.2.2.2.2.2.2.2.2.2.2.2.2.2.2.2.2.2.2.2.1 k0_t5
theorem k0_off215_inb : ∀ (v3 : BitVec 32) (k0_hw18 : k0_chk18 v3) (k0_t5 : Fin (k0_t5_loop v3).trips), ∀ a, (k0_off215 v3 k0_t5) a + S1x256x128.size a ≤ S8x2304x128.size a := fun v3 k0_hw18 k0_t5 => k0_hw18.1.2.2.2.2.2.2.2.2.2.2.2.2.2.2.2.2.2.2.2.2.2.2.2.2.2.1 k0_t5
theorem k0_off216_inb : ∀ (v3 : BitVec 32) (k0_hw18 : k0_chk18 v3) (k0_t5 : Fin (k0_t5_loop v3).trips), ∀ a, (k0_off216 v3 k0_t5) a + S1x256x128.size a ≤ S8x2304x128.size a := fun v3 k0_hw18 k0_t5 => k0_hw18.1.2.2.2.2.2.2.2.2.2.2.2.2.2.2.2.2.2.2.2.2.2.2.2.2.2.2.1 k0_t5
theorem k0_mult7_dvd : ∀ (v3 : BitVec 32) (k0_hw18 : k0_chk18 v3) (k0_t5 : Fin (k0_t5_loop v3).trips), 256 ∣ (k0_mult7 v3 k0_t5).toNat := fun v3 k0_hw18 k0_t5 => k0_hw18.1.2.2.2.2.2.2.2.2.2.2.2.2.2.2.2.2.2.2.2.2.2.2.2.2.2.2.2.1 k0_t5
theorem k0_off217_inb : ∀ (v3 : BitVec 32) (k0_hw18 : k0_chk18 v3) (k0_t5 : Fin (k0_t5_loop v3).trips), ∀ a, (k0_off217 v3 k0_t5) a + S1x128.size a ≤ S18x128.size a := fun v3 k0_hw18 k0_t5 => k0_hw18.1.2.2.2.2.2.2.2.2.2.2.2.2.2.2.2.2.2.2.2.2.2.2.2.2.2.2.2.2.1 k0_t5
theorem k0_off218_inb : ∀ (v3 : BitVec 32) (k0_hw18 : k0_chk18 v3) (k0_t5 : Fin (k0_t5_loop v3).trips), ∀ a, (k0_off218 v3 k0_t5) a + S1x128.size a ≤ S18x128.size a := fun v3 k0_hw18 k0_t5 => k0_hw18.1.2.2.2.2.2.2.2.2.2.2.2.2.2.2.2.2.2.2.2.2.2.2.2.2.2.2.2.2.2.1 k0_t5
theorem k0_off219_inb : ∀ (v3 : BitVec 32) (k0_hw18 : k0_chk18 v3) (k0_t5 : Fin (k0_t5_loop v3).trips), ∀ a, (k0_off219 v3 k0_t5) a + S1x512x256.size a ≤ S8x512x256.size a := fun v3 k0_hw18 k0_t5 => k0_hw18.1.2.2.2.2.2.2.2.2.2.2.2.2.2.2.2.2.2.2.2.2.2.2.2.2.2.2.2.2.2.2.1 k0_t5
theorem k0_off220_inb : ∀ (v3 : BitVec 32) (k0_hw18 : k0_chk18 v3) (k0_t5 : Fin (k0_t5_loop v3).trips), ∀ a, (k0_off220 v3 k0_t5) a + S1x1x256x1024.size a ≤ S3x8x256x1024.size a := fun v3 k0_hw18 k0_t5 => k0_hw18.1.2.2.2.2.2.2.2.2.2.2.2.2.2.2.2.2.2.2.2.2.2.2.2.2.2.2.2.2.2.2.2 k0_t5
theorem k0_off221_inb : ∀ (v3 : BitVec 32) (k0_hw18 : k0_chk18 v3) (k0_t5 : Fin (k0_t5_loop v3).trips), ∀ a, (k0_off221 v3 k0_t5) a + S1x1x256x1024.size a ≤ S3x8x256x1024.size a := fun v3 k0_hw18 k0_t5 => k0_hw18.2.1 k0_t5
theorem k0_off222_inb : ∀ (v3 : BitVec 32) (k0_hw18 : k0_chk18 v3) (k0_t5 : Fin (k0_t5_loop v3).trips), ∀ a, (k0_off222 v3 k0_t5) a + S1x1x256x1024.size a ≤ S3x8x256x1024.size a := fun v3 k0_hw18 k0_t5 => k0_hw18.2.2.1 k0_t5
theorem k0_t6_ok : ∀ (v3 : BitVec 32) (k0_hw18 : k0_chk18 v3), (k0_t6_loop v3).OK := fun v3 k0_hw18 => k0_hw18.2.2.2.1
theorem k0_mult8_dvd : ∀ (v3 : BitVec 32) (k0_hw18 : k0_chk18 v3) (k0_t6 : Fin (k0_t6_loop v3).trips), 256 ∣ (k0_mult8 v3 k0_t6).toNat := fun v3 k0_hw18 k0_t6 => k0_hw18.2.2.2.2.1 k0_t6
theorem k0_off223_inb : ∀ (v3 : BitVec 32) (k0_hw18 : k0_chk18 v3) (k0_t6 : Fin (k0_t6_loop v3).trips), ∀ a, (k0_off223 v3 k0_t6) a + S1x256x128.size a ≤ S8x2304x128.size a := fun v3 k0_hw18 k0_t6 => k0_hw18.2.2.2.2.2.1 k0_t6
theorem k0_off224_inb : ∀ (v3 : BitVec 32) (k0_hw18 : k0_chk18 v3) (k0_t6 : Fin (k0_t6_loop v3).trips), ∀ a, (k0_off224 v3 k0_t6) a + S1x256x128.size a ≤ S8x2304x128.size a := fun v3 k0_hw18 k0_t6 => k0_hw18.2.2.2.2.2.2.1 k0_t6
theorem k0_off225_inb : ∀ (v3 : BitVec 32) (k0_hw18 : k0_chk18 v3) (k0_t6 : Fin (k0_t6_loop v3).trips), ∀ a, (k0_off225 v3 k0_t6) a + S1x256x128.size a ≤ S8x2304x128.size a := fun v3 k0_hw18 k0_t6 => k0_hw18.2.2.2.2.2.2.2.1 k0_t6
theorem k0_off226_inb : ∀ (v3 : BitVec 32) (k0_hw18 : k0_chk18 v3) (k0_t6 : Fin (k0_t6_loop v3).trips), ∀ a, (k0_off226 v3 k0_t6) a + S1x256x128.size a ≤ S8x2304x128.size a := fun v3 k0_hw18 k0_t6 => k0_hw18.2.2.2.2.2.2.2.2.1 k0_t6
theorem k0_off227_inb : ∀ (v3 : BitVec 32) (k0_hw18 : k0_chk18 v3) (k0_t6 : Fin (k0_t6_loop v3).trips), ∀ a, (k0_off227 v3 k0_t6) a + S1x256x128.size a ≤ S8x2304x128.size a := fun v3 k0_hw18 k0_t6 => k0_hw18.2.2.2.2.2.2.2.2.2.1 k0_t6
theorem k0_off228_inb : ∀ (v3 : BitVec 32) (k0_hw18 : k0_chk18 v3) (k0_t6 : Fin (k0_t6_loop v3).trips), ∀ a, (k0_off228 v3 k0_t6) a + S1x256x128.size a ≤ S8x2304x128.size a := fun v3 k0_hw18 k0_t6 => k0_hw18.2.2.2.2.2.2.2.2.2.2.1 k0_t6
theorem k0_off229_inb : ∀ (v3 : BitVec 32) (k0_hw18 : k0_chk18 v3) (k0_t6 : Fin (k0_t6_loop v3).trips), ∀ a, (k0_off229 v3 k0_t6) a + S1x256x128.size a ≤ S8x2304x128.size a := fun v3 k0_hw18 k0_t6 => k0_hw18.2.2.2.2.2.2.2.2.2.2.2.1 k0_t6
theorem k0_off230_inb : ∀ (v3 : BitVec 32) (k0_hw18 : k0_chk18 v3) (k0_t6 : Fin (k0_t6_loop v3).trips), ∀ a, (k0_off230 v3 k0_t6) a + S1x256x128.size a ≤ S8x2304x128.size a := fun v3 k0_hw18 k0_t6 => k0_hw18.2.2.2.2.2.2.2.2.2.2.2.2.1 k0_t6
theorem k0_off231_inb : ∀ (v3 : BitVec 32) (k0_hw18 : k0_chk18 v3) (k0_t6 : Fin (k0_t6_loop v3).trips), ∀ a, (k0_off231 v3 k0_t6) a + S1x128.size a ≤ S18x128.size a := fun v3 k0_hw18 k0_t6 => k0_hw18.2.2.2.2.2.2.2.2.2.2.2.2.2.1 k0_t6
theorem k0_off232_inb : ∀ (v3 : BitVec 32) (k0_hw18 : k0_chk18 v3) (k0_t6 : Fin (k0_t6_loop v3).trips), ∀ a, (k0_off232 v3 k0_t6) a + S1x128.size a ≤ S18x128.size a := fun v3 k0_hw18 k0_t6 => k0_hw18.2.2.2.2.2.2.2.2.2.2.2.2.2.2.1 k0_t6
theorem k0_off233_inb : ∀ (v3 : BitVec 32) (k0_hw18 : k0_chk18 v3) (k0_t6 : Fin (k0_t6_loop v3).trips), ∀ a, (k0_off233 v3 k0_t6) a + S1x512x256.size a ≤ S8x512x256.size a := fun v3 k0_hw18 k0_t6 => k0_hw18.2.2.2.2.2.2.2.2.2.2.2.2.2.2.2.1 k0_t6
theorem k0_t7_ok : ∀ (v3 : BitVec 32) (k0_hw18 : k0_chk18 v3), (k0_t7_loop v3).OK := fun v3 k0_hw18 => k0_hw18.2.2.2.2.2.2.2.2.2.2.2.2.2.2.2.2.1
theorem k0_mult9_dvd : ∀ (v3 : BitVec 32) (k0_hw18 : k0_chk18 v3) (k0_t7 : Fin (k0_t7_loop v3).trips), 256 ∣ (k0_mult9 v3 k0_t7).toNat := fun v3 k0_hw18 k0_t7 => k0_hw18.2.2.2.2.2.2.2.2.2.2.2.2.2.2.2.2.2.1 k0_t7
theorem k0_off234_inb : ∀ (v3 : BitVec 32) (k0_hw18 : k0_chk18 v3) (k0_t7 : Fin (k0_t7_loop v3).trips), ∀ a, (k0_off234 v3 k0_t7) a + S1x256x128.size a ≤ S8x2304x128.size a := fun v3 k0_hw18 k0_t7 => k0_hw18.2.2.2.2.2.2.2.2.2.2.2.2.2.2.2.2.2.2.1 k0_t7
theorem k0_off235_inb : ∀ (v3 : BitVec 32) (k0_hw18 : k0_chk18 v3) (k0_t7 : Fin (k0_t7_loop v3).trips), ∀ a, (k0_off235 v3 k0_t7) a + S1x256x128.size a ≤ S8x2304x128.size a := fun v3 k0_hw18 k0_t7 => k0_hw18.2.2.2.2.2.2.2.2.2.2.2.2.2.2.2.2.2.2.2.1 k0_t7
theorem k0_off236_inb : ∀ (v3 : BitVec 32) (k0_hw18 : k0_chk18 v3) (k0_t7 : Fin (k0_t7_loop v3).trips), ∀ a, (k0_off236 v3 k0_t7) a + S1x256x128.size a ≤ S8x2304x128.size a := fun v3 k0_hw18 k0_t7 => k0_hw18.2.2.2.2.2.2.2.2.2.2.2.2.2.2.2.2.2.2.2.2.1 k0_t7
theorem k0_off237_inb : ∀ (v3 : BitVec 32) (k0_hw18 : k0_chk18 v3) (k0_t7 : Fin (k0_t7_loop v3).trips), ∀ a, (k0_off237 v3 k0_t7) a + S1x256x128.size a ≤ S8x2304x128.size a := fun v3 k0_hw18 k0_t7 => k0_hw18.2.2.2.2.2.2.2.2.2.2.2.2.2.2.2.2.2.2.2.2.2.1 k0_t7
theorem k0_off238_inb : ∀ (v3 : BitVec 32) (k0_hw18 : k0_chk18 v3) (k0_t7 : Fin (k0_t7_loop v3).trips), ∀ a, (k0_off238 v3 k0_t7) a + S1x256x128.size a ≤ S8x2304x128.size a := fun v3 k0_hw18 k0_t7 => k0_hw18.2.2.2.2.2.2.2.2.2.2.2.2.2.2.2.2.2.2.2.2.2.2.1 k0_t7
theorem k0_off239_inb : ∀ (v3 : BitVec 32) (k0_hw18 : k0_chk18 v3) (k0_t7 : Fin (k0_t7_loop v3).trips), ∀ a, (k0_off239 v3 k0_t7) a + S1x256x128.size a ≤ S8x2304x128.size a := fun v3 k0_hw18 k0_t7 => k0_hw18.2.2.2.2.2.2.2.2.2.2.2.2.2.2.2.2.2.2.2.2.2.2.2.1 k0_t7
theorem k0_off240_inb : ∀ (v3 : BitVec 32) (k0_hw18 : k0_chk18 v3) (k0_t7 : Fin (k0_t7_loop v3).trips), ∀ a, (k0_off240 v3 k0_t7) a + S1x256x128.size a ≤ S8x2304x128.size a := fun v3 k0_hw18 k0_t7 => k0_hw18.2.2.2.2.2.2.2.2.2.2.2.2.2.2.2.2.2.2.2.2.2.2.2.2.1 k0_t7
theorem k0_off241_inb : ∀ (v3 : BitVec 32) (k0_hw18 : k0_chk18 v3) (k0_t7 : Fin (k0_t7_loop v3).trips), ∀ a, (k0_off241 v3 k0_t7) a + S1x256x128.size a ≤ S8x2304x128.size a := fun v3 k0_hw18 k0_t7 => k0_hw18.2.2.2.2.2.2.2.2.2.2.2.2.2.2.2.2.2.2.2.2.2.2.2.2.2.1 k0_t7
theorem k0_off242_inb : ∀ (v3 : BitVec 32) (k0_hw18 : k0_chk18 v3) (k0_t7 : Fin (k0_t7_loop v3).trips), ∀ a, (k0_off242 v3 k0_t7) a + S1x128.size a ≤ S18x128.size a := fun v3 k0_hw18 k0_t7 => k0_hw18.2.2.2.2.2.2.2.2.2.2.2.2.2.2.2.2.2.2.2.2.2.2.2.2.2.2.1 k0_t7
theorem k0_off243_inb : ∀ (v3 : BitVec 32) (k0_hw18 : k0_chk18 v3) (k0_t7 : Fin (k0_t7_loop v3).trips), ∀ a, (k0_off243 v3 k0_t7) a + S1x128.size a ≤ S18x128.size a := fun v3 k0_hw18 k0_t7 => k0_hw18.2.2.2.2.2.2.2.2.2.2.2.2.2.2.2.2.2.2.2.2.2.2.2.2.2.2.2.1 k0_t7
theorem k0_off244_inb : ∀ (v3 : BitVec 32) (k0_hw18 : k0_chk18 v3) (k0_t7 : Fin (k0_t7_loop v3).trips), ∀ a, (k0_off244 v3 k0_t7) a + S1x512x256.size a ≤ S8x512x256.size a := fun v3 k0_hw18 k0_t7 => k0_hw18.2.2.2.2.2.2.2.2.2.2.2.2.2.2.2.2.2.2.2.2.2.2.2.2.2.2.2.2 k0_t7

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x128x1024 : Shape := ⟨3, ![16, 128, 1024]⟩
abbrev S16x128 : Shape := ⟨2, ![16, 128]⟩
abbrev S4096x1024 : Shape := ⟨2, ![4096, 1024]⟩
abbrev S4096x512 : Shape := ⟨2, ![4096, 512]⟩
abbrev S4096x8 : Shape := ⟨2, ![4096, 8]⟩
abbrev S1024x1024 : Shape := ⟨2, ![1024, 1024]⟩
abbrev S16 : Shape := ⟨1, ![16]⟩
abbrev S_ : Shape := ⟨0, ![]⟩
abbrev S1x1 : Shape := ⟨2, ![1, 1]⟩
abbrev S16x128x1 : Shape := ⟨3, ![16, 128, 1]⟩
abbrev S16x1x1 : Shape := ⟨3, ![16, 1, 1]⟩
abbrev S1x4096 : Shape := ⟨2, ![1, 4096]⟩
abbrev S2048x1024 : Shape := ⟨2, ![2048, 1024]⟩
abbrev S2048x4096 : Shape := ⟨2, ![2048, 4096]⟩
abbrev S16x128x4096 : Shape := ⟨3, ![16, 128, 4096]⟩
abbrev S4096x4 : Shape := ⟨2, ![4096, 4]⟩
abbrev S4096x4x1 : Shape := ⟨3, ![4096, 4, 1]⟩
abbrev S4096x4x128 : Shape := ⟨3, ![4096, 4, 128]⟩
abbrev S16x128x512 : Shape := ⟨3, ![16, 128, 512]⟩
abbrev S2048x512 : Shape := ⟨2, ![2048, 512]⟩
abbrev S4096 : Shape := ⟨1, ![4096]⟩
abbrev S1024x4096 : Shape := ⟨2, ![1024, 4096]⟩
abbrev S8x1x512 : Shape := ⟨3, ![8, 1, 512]⟩

abbrev nBuf : Space → Nat
  | .hbm => 20
  | .vmem => 13
  | .smem => 0
  | _ => 0

abbrev bufTy : (tb : Table) → Fin (tcTables nBuf tb) → BufTy
  | .hbm, ⟨0, _⟩ => ⟨S16x128x1024, .bf16⟩
  | .hbm, ⟨1, _⟩ => ⟨S16x128x1024, .i8⟩
  | .hbm, ⟨2, _⟩ => ⟨S16x128, .f32⟩
  | .hbm, ⟨3, _⟩ => ⟨S4096x1024, .bf16⟩
  | .hbm, ⟨4, _⟩ => ⟨S4096x512, .i8⟩
  | .hbm, ⟨5, _⟩ => ⟨S4096x8, .f32⟩
  | .hbm, ⟨6, _⟩ => ⟨S1024x1024, .f32⟩
  | .hbm, ⟨7, _⟩ => ⟨S16, .i32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S1x1, .f32⟩
  | .hbm, ⟨12, _⟩ => ⟨S16x128x1, .f32⟩
  | .hbm, ⟨13, _⟩ => ⟨S16x1x1, .i32⟩
  | .hbm, ⟨14, _⟩ => ⟨S4096x1024, .bf16⟩
  | .hbm, ⟨15, _⟩ => ⟨S1x4096, .f32⟩
  | .hbm, ⟨16, _⟩ => ⟨S1x4096, .f32⟩
  | .hbm, ⟨17, _⟩ => ⟨S4096x1024, .f32⟩
  | .hbm, ⟨18, _⟩ => ⟨S8x1x512, .f32⟩
  | .hbm, ⟨19, _⟩ => ⟨S8x1x512, .f32⟩
  | .local _ .vmem, ⟨0, _⟩ => ⟨S16x128x1024, .bf16⟩
  | .local _ .vmem, ⟨1, _⟩ => ⟨S16x128x1024, .i8⟩
  | .local _ .vmem, ⟨2, _⟩ => ⟨S16x128x1, .f32⟩
  | .local _ .vmem, ⟨3, _⟩ => ⟨S4096x1024, .bf16⟩
  | .local _ .vmem, ⟨4, _⟩ => ⟨S4096x512, .i8⟩
  | .local _ .vmem, ⟨5, _⟩ => ⟨S4096x8, .f32⟩
  | .local _ .vmem, ⟨6, _⟩ => ⟨S1024x1024, .f32⟩
  | .local _ .vmem, ⟨7, _⟩ => ⟨S16x1x1, .i32⟩
  | .local _ .vmem, ⟨8, _⟩ => ⟨S1x1, .f32⟩
  | .local _ .vmem, ⟨9, _⟩ => ⟨S4096x1024, .bf16⟩
  | .local _ .vmem, ⟨10, _⟩ => ⟨S1x4096, .f32⟩
  | .local _ .vmem, ⟨11, _⟩ => ⟨S1x4096, .f32⟩
  | .local _ .vmem, ⟨12, _⟩ => ⟨S4096x1024, .f32⟩
  | _, _ => ⟨S16x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S16x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x512 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Pre.lean ====
/-
  The precondition on the lengths, read: every length is at most 128.
-/
module

public import proofs.«01_k».proof.Proof.Gen.Pre_lens_ok
public import Idealize.ShloMosaic.Lib.ValueIdx

@[expose] public section

noncomputable section

namespace Cert.Proof.Lsq

open Idealize.ShloMosaic

/-- A word between 0 and 128 as a signed number is at most 128 as a natural one. -/
theorem word_le {x : BitVec 32} (h : IntOp.andi (IntOp.cmpi .sge x 0#32) (IntOp.cmpi .sle x 128#32) = 1#1) : x.toNat ≤ 128 := by
  unfold IntOp.andi IntOp.cmpi at h
  simp only at h
  have h1 : BitVec.sle 0#32 x = true ∧ BitVec.sle x 128#32 = true := by
    revert h
    cases BitVec.sle 0#32 x <;> cases BitVec.sle x 128#32 <;> decide
  obtain ⟨h0, h1⟩ := h1
  rw [BitVec.sle_iff_toInt_le] at h0 h1
  have e0 : (0#32 : BitVec 32).toInt = 0 := by decide
  have e1 : (128#32 : BitVec 32).toInt = 128 := by decide
  rw [e0] at h0; rw [e1] at h1
  rw [BitVec.toInt_eq_toNat_cond] at h0 h1
  split at h0 <;> omega

end Cert.Proof.Lsq

end
-- ==== Proof.Logic.lean ====
/-
  A small program logic over a family of buffers: the state is the logical contents of each buffer, and `T p s Q`
  says that the program `p`, run from the buffers at `s`, ends with a value and a state that satisfy `Q`. One rule per
  operation (load, store, assume, loop, sequence), each stated for every buffer of the family.
-/
module

public import Idealize.ShloMosaic.Lib.Tactic
public import Idealize.ShloMosaic.Lib.Pipeline.Kit

@[expose] public section

noncomputable section

namespace Cert.Proof.Lsq

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- `X` with the elements of the rectangle `r` replaced by `w`. -/
def wr {s : Shape} {α : Type} (X : s.Idx → α) (r : Rect s) (w : r.shape.Idx → α) : s.Idx → α := fun x =>
  match preimage? r.emb x with
  | some y => w y
  | none => X x

/-- An element of the rectangle reads the new value. -/
theorem wr_emb {s : Shape} {α : Type} (X : s.Idx → α) (r : Rect s) (w : r.shape.Idx → α) (y : r.shape.Idx) :
    wr X r w (r.emb y) = w y := by
  unfold wr; rw [preimage?_emb]

/-- An element off the rectangle reads the old value. -/
theorem wr_off {s : Shape} {α : Type} (X : s.Idx → α) (r : Rect s) (w : r.shape.Idx → α) (x : s.Idx) (h : ∀ y, r.emb y ≠ x) :
    wr X r w x = X x := by
  unfold wr; rw [preimage?_eq_none h]

variable {nD : Nat} {τ : Topo} {sig : RefSig} {Val : EltTy → Type} {Λ : Labels} {U : Type} [URA U]

local notation "𝕄" => MT nD τ sig Unit Val ℕ U ℕ

/-- Reading a memref after a store through one of its rectangles is the old reading with the rectangle replaced. -/
theorem read_write_access {cs : Space} {s : Shape} {e : EltTy} (m : Memref sig .tc cs s e) (r : Rect s)
    (f : m.view.ty.Contents Val) (w : r.shape.Idx → Val e) :
    m.view.read Val ((m.access r).write Val f w Finset.univ) = wr (m.view.read Val f) r w := by
  funext x
  by_cases h : ∃ y, r.emb y = x
  · obtain ⟨y, rfl⟩ := h
    rw [wr_emb]
    exact View.read_slice_write_emb (v := m.view) r f w (Finset.mem_univ y)
  · rw [wr_off _ _ _ _ fun y hy => h ⟨y, hy⟩]
    refine View.read_slice_write_of_not_mem (v := m.view) r f w Finset.univ fun hm => h ?_
    obtain ⟨y, -, hy⟩ := Finset.mem_map.mp hm
    exact ⟨y, hy⟩

variable {J : Type} [Fintype J] [DecidableEq J] {sp : J → CoreSpace} {sh : J → Shape} {el : J → EltTy}

/-- The logical contents of every buffer. -/
abbrev St (Val : EltTy → Type) (sh : J → Shape) (el : J → EltTy) : Type := (j : J) → (sh j).Idx → Val (el j)

variable (M : (j : J) → Memref sig .tc (sp j) (sh j) (el j)) (q : J → PosShare TreeShare) (c : Dev nD)
variable (defs : Defs nD τ sig Val Λ) (𝒱 : Variants) (bd : Option 𝒱.V)

/-- Every buffer held, at its share, with the contents the state gives it. -/
def Own (s : St Val sh el) : sProp 𝕄 := bigSep Finset.univ fun j => owns (c : Thread nD τ) (M j) (q j) (s j)

/-- The program `p` run from the state `s` ends with a value and a state that satisfy `Q`. -/
@[irreducible] def T {α : Type} (p : Prog (TpuEff nD τ sig Val Λ .tc) α) (s : St Val sh el) (Q : α → St Val sh el → Prop) : Prop :=
  (Own (U := U) M q c s : sProp 𝕄) ⊢ wp frame (wpE defs 𝒱 (c : Thread nD τ) bd) Set.univ p fun a => iprop(∃ s', ⌜Q a s'⌝ ∗ Own M q c s')

variable {M q c defs 𝒱 bd}

/-- One buffer taken out of the family, and the way back with new contents. -/
theorem Own_take (j : J) (s : St Val sh el) :
    (Own (U := U) M q c s : sProp 𝕄)
      ⊢ iprop(owns (c : Thread nD τ) (M j) (q j) (s j) ∗ ∀ X, owns (c : Thread nD τ) (M j) (q j) X -∗ Own M q c (Function.update s j X)) := by
  have h : ∀ X, (Own (U := U) M q c (Function.update s j X) : sProp 𝕄)
      = iprop(owns (c : Thread nD τ) (M j) (q j) X ∗ bigSep (Finset.univ.erase j) fun j => owns (c : Thread nD τ) (M j) (q j) (s j)) := fun X => by
    unfold Own
    rw [BI.bigSep_erase (Finset.mem_univ j), Function.update_self]
    congr 1
    refine BI.bigSep_congr fun x hx => ?_
    rw [Function.update_of_ne (Finset.ne_of_mem_erase hx)]
  have h0 := h (s j)
  rw [Function.update_eq_self] at h0
  rw [h0]
  iintro ⟨Ha, Hr⟩
  isplitl [Ha]; · iexact Ha
  iintro %X HX
  rw [h X]
  isplitl [HX] <;> iassumption

variable {α β : Type} {s : St Val sh el}

theorem T.ret {a : α} {Q : α → St Val sh el → Prop} (h : Q a s) : T (U := U) M q c defs 𝒱 bd (.ret a) s Q := by
  unfold T
  refine BIBase.Entails.trans ?_ (le_wp_ret _ _ _ _ _)
  iintro H
  iexists s
  isplitr; · ipureintro; exact h
  iexact H

theorem T.bind {p : Prog (TpuEff nD τ sig Val Λ .tc) α} {k : α → Prog (TpuEff nD τ sig Val Λ .tc) β} {R : α → St Val sh el → Prop}
    {Q : β → St Val sh el → Prop} (h : T (U := U) M q c defs 𝒱 bd p s R) (hk : ∀ a s', R a s' → T (U := U) M q c defs 𝒱 bd (k a) s' Q) :
    T (U := U) M q c defs 𝒱 bd (p >>= k) s Q := by
  unfold T at h ⊢
  rw [wp_bind]
  refine h.trans (Idealize.SL.Sem.wp_mono _ _ _ fun a => ?_)
  iintro ⟨%s', %hs, H⟩
  have hk' := hk a s' hs
  unfold T at hk'
  iapply hk'; iexact H

theorem T.mono {p : Prog (TpuEff nD τ sig Val Λ .tc) α} {R Q : α → St Val sh el → Prop}
    (h : T (U := U) M q c defs 𝒱 bd p s R) (hk : ∀ a s', R a s' → Q a s') : T (U := U) M q c defs 𝒱 bd p s Q := by
  unfold T at h ⊢
  refine h.trans (Idealize.SL.Sem.wp_mono _ _ _ fun a => ?_)
  iintro ⟨%s', %hs, H⟩
  iexists s'
  isplitr; · ipureintro; exact hk a s' hs
  iexact H

/-- A load reads the state. -/
theorem T.load (j : J) {r : LoadRect (sh j)} {hl : (M j).view.LoadsAt r} {k : (r.shape.Idx → Val (el j)) → Prog (TpuEff nD τ sig Val Λ .tc) α}
    {Q : α → St Val sh el → Prop} (h : T (U := U) M q c defs 𝒱 bd (k fun x => s j (r.idx x)) s Q) :
    T (U := U) M q c defs 𝒱 bd (.op (.load (M j) r hl) k) s Q := by
  unfold T at h ⊢
  refine (Own_take j s).trans ?_
  iintro ⟨Hj, Hr⟩
  unfold owns
  icases Hj with ⟨%f, %hf, Hf⟩
  iapply (wp_load (m := M j) 𝒱 (c : Thread nD τ) bd Set.univ (S := (M j).view.set) (View.setOn_subset_set _ _)) $$ Hf
  iintro Hf
  rw [show (M j).view.readAt Val r f = fun x => s j (r.idx x) from by rw [← hf]; rfl]
  iapply h
  ispecialize Hr $$ %(s j)
  rw [Function.update_eq_self]
  iapply Hr
  iexists f
  isplitr; · ipureintro; exact hf
  iexact Hf

/-- A store replaces the rectangle in the state. -/
theorem T.store (j : J) (hq : q j = fullShare) {r : Rect (sh j)} {w : r.shape.Idx → Val (el j)} {hx : ((M j).access r).Stores Finset.univ}
    {hm : Finset.univ = Finset.univ ∨ ∀ a, r.stride a = 1}
    {k : PUnit → Prog (TpuEff nD τ sig Val Λ .tc) α}
    {Q : α → St Val sh el → Prop} (h : T (U := U) M q c defs 𝒱 bd (k ⟨⟩) (Function.update s j (wr (s j) r w)) Q) :
    T (U := U) M q c defs 𝒱 bd (.op (.store (M j) r w Finset.univ hx hm) k) s Q := by
  unfold T at h ⊢
  refine (Own_take j s).trans ?_
  iintro ⟨Hj, Hr⟩
  unfold owns
  rw [hq]
  icases Hj with ⟨%f, %hf, Hf⟩
  iapply (wp_store (m := M j) (r := r) 𝒱 (c : Thread nD τ) bd Set.univ (S := (M j).view.set)
    (by rw [show ((M j).access r).setOn Finset.univ = ((M j).access r).set from rfl]; unfold Memref.access; rw [View.set_slice]; exact View.setOn_subset_set _ _)) $$ Hf
  iintro Hf
  iapply h
  iapply Hr
  iexists _
  isplitr
  swap; · iexact Hf
  ipureintro
  rw [← hf]
  exact read_write_access (M j) r f w

/-- An assumption that holds is passed. -/
theorem T.assume {P : Prop} {d : Decidable P} {k : PLift P → Prog (TpuEff nD τ sig Val Λ .tc) α} {Q : α → St Val sh el → Prop} (hP : P)
    (h : T (U := U) M q c defs 𝒱 bd (k ⟨hP⟩) s Q) : T (U := U) M q c defs 𝒱 bd (.op (.assume P d) k) s Q := by
  unfold T at h ⊢
  exact BIBase.Entails.trans h (wp_assume 𝒱 (c : Thread nD τ) bd Set.univ hP)

/-- A loop, by an invariant on the states between its trips. -/
theorem T.for {l : Scf.Loop 32} {hok : l.OK} {body : Fin l.trips → PUnit → Prog (TpuEff nD τ sig Val Λ .tc) PUnit} (I : ℕ → St Val sh el → Prop)
    (h0 : I 0 s) (hstep : ∀ (k : Fin l.trips) s, I k.val s → T (U := U) M q c defs 𝒱 bd (body k ⟨⟩) s fun _ s' => I (k.val + 1) s') :
    T (U := U) M q c defs 𝒱 bd (Scf.Loop.for l hok ⟨⟩ body) s fun _ s' => I l.trips s' := by
  unfold T at hstep ⊢
  refine BIBase.Entails.trans ?_ (Scf.wp_for frame (wpE defs 𝒱 (c : Thread nD τ) bd) Set.univ l.lb l.ub l.st hok ⟨⟩ body
    (fun k _ => iprop(∃ s', ⌜I k s'⌝ ∗ Own M q c s')) (fun k acc => ?_))
  · iintro H
    isplitl [H]
    · iexists s
      isplitr; · ipureintro; exact h0
      iexact H
    · iintro %acc H; iexact H
  · iintro ⟨%s', %hs, H⟩
    iapply (hstep k s' hs); iexact H

/-- `T` at a program equal to the one given. -/
theorem T.of_eq {p p' : Prog (TpuEff nD τ sig Val Λ .tc) α} {Q : α → St Val sh el → Prop} (e : p = p')
    (h : T (U := U) M q c defs 𝒱 bd p' s Q) : T (U := U) M q c defs 𝒱 bd p s Q := e ▸ h

end Cert.Proof.Lsq

end
-- ==== Proof.Body.lean ====
/-
  The printed kernel body restated with its repetitions folded: one column copy for all columns and batches, one
  batch step, one token tile load, one tile body per loop. The last theorem says the printed body is this one.
-/
module

public import proofs.«01_k».proof.Proof.Logic
public import proofs.«01_k».proof.Proof.Gen.KernelIdeal.Launch
public import Idealize.ShloMosaic.Lib.PairWhole

@[expose] public section

set_option maxRecDepth 16384

noncomputable section

namespace Cert.Proof.Lsq

open Cert.KernelIdeal Cert.KernelIdeal.Gen
open Idealize.ShloMosaic
open Idealize.ShloMosaic.TcCoe Idealize.ShloMosaic.Tactic
open Idealize.SL.Sem

variable {F : FTy → Type} [FloatOps F]

/-- The operands of the body, in order. -/
inductive A
  | a1 | a2 | a3 | a4 | a5 | a6 | a7 | a8 | a9 | a10 | a11 | a12 | a13 | a14 | a15 | a16 | a17 | a18 | a19 | a20 | a21 | a22
  deriving DecidableEq

instance : Fintype A :=
  ⟨⟨(([A.a1, .a2, .a3, .a4, .a5, .a6, .a7, .a8, .a9, .a10, .a11, .a12, .a13, .a14, .a15, .a16, .a17, .a18, .a19, .a20, .a21, .a22] : List A) : Multiset A), by decide⟩,
    fun x => by cases x <;> decide⟩

/-- The memory an operand lies in. -/
abbrev sp : A → CoreSpace
  | .a1 => .smem | .a22 => .smem | .a2 => .vmem | .a3 => .vmem | .a4 => .vmem | .a5 => .vmem | .a6 => .vmem | .a7 => .vmem
  | .a8 => .vmem | .a9 => .vmem | .a10 => .vmem | .a11 => .vmem | .a12 => .vmem | .a13 => .vmem | .a14 => .vmem
  | .a15 => .vmem | .a16 => .vmem | .a17 => .vmem | .a18 => .vmem | .a19 => .vmem | .a20 => .vmem | .a21 => .vmem

/-- The shape of an operand. -/
abbrev sh : A → Shape
  | .a1 => S16 | .a2 => S2048x1024 | .a3 => S2048x1024 | .a4 => S16x128 | .a5 => S1024x1024 | .a6 => S512x1024
  | .a7 => S512x512 | .a8 => S512x8 | .a9 => S512x1024 | .a10 => S1x1x512 | .a11 => S1x1x512 | .a12 => S512x1024
  | .a13 => S8x2304x128 | .a14 => S8x2304x128 | .a15 => S18x128 | .a16 => S18x128 | .a17 => S3x1024x1024
  | .a18 => S3x8x256x1024 | .a19 => S8x512x256 | .a20 => S512x1024 | .a21 => S2x512x128 | .a22 => S1

/-- The element type of an operand. -/
abbrev el : A → EltTy
  | .a1 => .i32 | .a2 => .bf16 | .a3 => .i8 | .a4 => .f32 | .a5 => .f32 | .a6 => .bf16 | .a7 => .i8 | .a8 => .f32
  | .a9 => .bf16 | .a10 => .f32 | .a11 => .f32 | .a12 => .f32 | .a13 => .bf16 | .a14 => .bf16 | .a15 => .f32
  | .a16 => .f32 | .a17 => .bf16 | .a18 => .bf16 | .a19 => .f32 | .a20 => .bf16 | .a21 => .f32 | .a22 => .i32

/-- A program of the kernel's machine. -/
abbrev P (F : FTy → Type) [FloatOps F] (α : Type) : Type 1 := Prog (TpuEff nD τ sig (Elt F) Λ₀ .tc) α

/-! ## Words -/

/-- The row of the packed buffers a batch starts at. -/
def rowX (off : BitVec 32) : Index := Scalar.indexCast (Scalar.muli 2#32 (Scalar.shrui off 1#32))
/-- The next batch's offset: this one's, plus its length rounded up to an even number. -/
def nxt (off n : BitVec 32) : BitVec 32 := Scalar.addi (Scalar.addi off n) (Scalar.andi n 1#32)
/-- The lane of the scale rows a batch starts at. -/
def shiftW (off : BitVec 32) : BitVec 32 :=
  let d : BitVec 32 := Scalar.select (Scalar.cmpi .eq 128#32 0#32) 1#32 128#32
  let r : BitVec 32 := Scalar.remsi off d
  Scalar.select (Scalar.andi (Scalar.xori (Scalar.cmpi .slt r 0#32) (Scalar.cmpi .slt d 0#32)) (Scalar.cmpi .ne r 0#32))
    (Scalar.addi r d) r
/-- Division rounding down. -/
def floorW (off d : BitVec 32) : BitVec 32 :=
  let q : BitVec 32 := Scalar.divsi off d
  let sgnO : BitVec 32 := Scalar.subi (Scalar.extui (Scalar.cmpi .sgt off 0#32)) (Scalar.extui (Scalar.cmpi .slt off 0#32))
  let sgnD : BitVec 32 := Scalar.subi (Scalar.extui (Scalar.cmpi .sgt d 0#32)) (Scalar.extui (Scalar.cmpi .slt d 0#32))
  Scalar.select (Scalar.andi (Scalar.cmpi .ne sgnO sgnD) (Scalar.cmpi .ne (Scalar.remsi off d) 0#32)) (Scalar.subi q 1#32) q
/-- The scale row a batch starts at, and the row after it. -/
def rowS (off : BitVec 32) : Index := Scalar.indexCast (floorW off 128#32)
def rowS1 (off : BitVec 32) : Index := Scalar.indexCast (Scalar.addi (floorW off 128#32) 1#32)
/-- The number of token tiles. -/
def tilesW (off : BitVec 32) : BitVec 32 := floorW (Scalar.subi (Scalar.addi off 256#32) 1#32) 256#32
/-- The token row, and the two scale rows, of a tile. -/
def rowT (w : BitVec 32) : Index := Scalar.indexCast (Scalar.muli w 256#32)
def rowV (w : BitVec 32) : Index := Scalar.indexCast (Scalar.muli 2#32 w)
def rowV1 (w : BitVec 32) : Index := Scalar.indexCast (Scalar.addi (Scalar.muli 2#32 w) 1#32)
/-- The tile word of a loop's trip. -/
def tw (lb : BitVec 32) {n : ℕ} (t : Fin n) : BitVec 32 := Scalar.addi 0#32 (Scalar.muli (Scf.iv lb 1#32 t) 1#32)

/-- What a batch's offset must satisfy for its stores to lie inside. -/
structure Good (off : BitVec 32) : Prop where
  x : (rowX off).toNat + 128 ≤ 2304
  s : (rowS off).toNat + 1 ≤ 18
  s1 : (rowS1 off).toNat + 1 ≤ 18
/-- What a tile word must satisfy for its accesses to lie inside. -/
abbrev GoodT (w : BitVec 32) : Prop := (Scalar.indexCast w : Index).toNat + 1 ≤ 8

theorem GoodT.lt {w : BitVec 32} (h : GoodT w) : w.toNat < 8 := Nat.lt_of_succ_le h

theorem rowX_even (off : BitVec 32) : 2 ∣ (rowX off).toNat := by
  have h : (rowX off).toNat = (2 * (Scalar.shrui off 1#32).toNat) % 2 ^ 32 := by
    show ((2#32 * Scalar.shrui off 1#32 : BitVec 32)).toNat = _
    rw [BitVec.toNat_mul]; rfl
  omega
theorem rowT_eq {w : BitVec 32} (h : GoodT w) : (rowT w).toNat = 256 * w.toNat := by
  have := h.lt
  show ((w * 256#32 : BitVec 32)).toNat = _
  rw [BitVec.toNat_mul, BitVec.toNat_ofNat]; omega
theorem rowV_eq {w : BitVec 32} (h : GoodT w) : (rowV w).toNat = 2 * w.toNat := by
  have := h.lt
  show ((2#32 * w : BitVec 32)).toNat = _
  rw [BitVec.toNat_mul, BitVec.toNat_ofNat]; omega
theorem rowV1_eq {w : BitVec 32} (h : GoodT w) : (rowV1 w).toNat = 2 * w.toNat + 1 := by
  have := h.lt
  show ((2#32 * w + 1#32 : BitVec 32)).toNat = _
  rw [BitVec.toNat_add, BitVec.toNat_mul, BitVec.toNat_ofNat, BitVec.toNat_ofNat]; omega

theorem inb3 {a b c d e f x y z : ℕ} (h1 : a + x ≤ d) (h2 : b + y ≤ e) (h3 : c + z ≤ f) :
    ∀ k, (![a, b, c] : Fin 3 → ℕ) k + (⟨3, ![x, y, z]⟩ : Shape).size k ≤ (⟨3, ![d, e, f]⟩ : Shape).size k := by
  intro k; fin_cases k <;> assumption
theorem inb2 {a b d e x y : ℕ} (h1 : a + x ≤ d) (h2 : b + y ≤ e) :
    ∀ k, (![a, b] : Fin 2 → ℕ) k + (⟨2, ![x, y]⟩ : Shape).size k ≤ (⟨2, ![d, e]⟩ : Shape).size k := by
  intro k; fin_cases k <;> assumption
theorem inb4 {a b c g d e f i x y z u : ℕ} (h1 : a + x ≤ d) (h2 : b + y ≤ e) (h3 : c + z ≤ f) (h4 : g + u ≤ i) :
    ∀ k, (![a, b, c, g] : Fin 4 → ℕ) k + (⟨4, ![x, y, z, u]⟩ : Shape).size k ≤ (⟨4, ![d, e, f, i]⟩ : Shape).size k := by
  intro k; fin_cases k <;> assumption

theorem packedX {c r n : ℕ} (hr : 2 ∣ r) (hn : 2 ∣ n) (inb) :
    (Rect.unit (s := S8x2304x128) ![c, r, 0] (⟨3, ![1, n, 128]⟩ : Shape).size inb).PackedRows (EltTy.packing .bf16) :=
  Rect.packedRows_of_rowAxis (s := S8x2304x128) _ 2 (show 2 ≤ 3 from Nat.le_of_ble_eq_true rfl) (show 2 ∣ r from hr) (show 2 ∣ n from hn) rfl
theorem packedP {p w : ℕ} (inb) :
    (Rect.unit (s := S3x8x256x1024) ![p, w, 0, 0] S1x1x256x1024.size inb).PackedRows (EltTy.packing .bf16) :=
  Rect.packedRows_of_rowAxis (s := S3x8x256x1024) _ 2 (show 2 ≤ 4 from Nat.le_of_ble_eq_true rfl) (show 2 ∣ 0 by decide) (show 2 ∣ 256 by decide) rfl
theorem packedW {g : ℕ} (inb) :
    (Rect.unit (s := S512x1024) ![0, g] S512x128.size inb).PackedRows (EltTy.packing .bf16) :=
  Rect.packedRows_of_rowAxis (s := S512x1024) _ 2 (show 2 ≤ 2 from Nat.le_of_ble_eq_true rfl) (show 2 ∣ 0 by decide) (show 2 ∣ 512 by decide) rfl

variable (M : (j : A) → Memref sig .tc (sp j) (sh j) (el j)) (hM : ∀ j, (M j).IsWhole)

variable {α : Type}

/-! ## Packing -/

/-- One column block of one batch copied into the packed buffers. -/
def packCol (b c : ℕ) (hb : b < 16) (hc : c < 8) (off : BitVec 32) (g : Good off) (K : P F α) : P F α :=
  .op (.load (M .a2) (Rect.unit (s := S2048x1024) ![128 * b, 128 * c] S128x128.size (inb2 (by omega) (by omega))).toLoadRect (View.loadsAt_vmem h_S128x128)) fun (x : Vec F S128x128 .bf16) =>
  .op (.load (M .a13) (Rect.unit (s := S8x2304x128) ![c, (rowX off).toNat, 0] S1x128x128.size (inb3 (by omega) g.x (by omega))).toLoadRect (View.loadsAt_vmem h_S1x128x128)) fun _ =>
  .op (.store (M .a13) (Rect.unit (s := S8x2304x128) ![c, (rowX off).toNat, 0] S1x128x128.size (inb3 (by omega) g.x (by omega)))
    (shapeCast S1x128x128 (shapeCast S128x128 x shapeCasts_S128x128_S128x128) shapeCasts_S128x128_S1x128x128) Finset.univ
    (View.stores_vmem h_S1x128x128 ((hM .a13).storeExact_slice rfl _ (packedX (rowX_even off) (by decide) _)) (fun _ => rfl)) (.inl rfl)) fun _ =>
  .op (.load (M .a3) (Rect.unit (s := S2048x1024) ![128 * b, 128 * c] S128x128.size (inb2 (by omega) (by omega))).toLoadRect (View.loadsAt_vmem h_S128x128)) fun (x : Vec F S128x128 .i8) =>
  .op (.load (M .a14) (Rect.unit (s := S8x2304x128) ![c, (rowX off).toNat, 0] S1x128x128.size (inb3 (by omega) g.x (by omega))).toLoadRect (View.loadsAt_vmem h_S1x128x128)) fun _ =>
  .op (.store (M .a14) (Rect.unit (s := S8x2304x128) ![c, (rowX off).toNat, 0] S1x128x128.size (inb3 (by omega) g.x (by omega)))
    (shapeCast S1x128x128 (sitofp (F := F) .bf16 (shapeCast S128x128 x shapeCasts_S128x128_S128x128) : FVec F S128x128 .bf16) shapeCasts_S128x128_S1x128x128) Finset.univ
    (View.stores_vmem h_S1x128x128 ((hM .a14).storeExact_slice rfl _ (packedX (rowX_even off) (by decide) _)) (fun _ => rfl)) (.inl rfl)) fun _ => K

/-- One of the two masked writes of a batch into a scale row and a mask row. -/
def packRow (mask : IVec S1x128 1) (v : FVec F S1x128 .f32) (r : Index) (h : r.toNat + 1 ≤ 18) (K : P F α) : P F α :=
  .op (.load (M .a15) (Rect.unit (s := S18x128) ![r.toNat, 0] S1x128.size (inb2 h (by omega))).toLoadRect (View.loadsAt_vmem h_S1x128)) fun (o : Vec F S1x128 .f32) =>
  .op (.load (M .a15) (Rect.unit (s := S18x128) ![r.toNat, 0] S1x128.size (inb2 h (by omega))).toLoadRect (View.loadsAt_vmem h_S1x128)) fun _ =>
  .op (.store (M .a15) (Rect.unit (s := S18x128) ![r.toNat, 0] S1x128.size (inb2 h (by omega)))
    (shapeCast S1x128 (select mask v o) shapeCasts_S1x128_S1x128) Finset.univ (View.stores_vmem_bits_univ h_S1x128 rfl) (.inl rfl)) fun _ =>
  .op (.load (M .a16) (Rect.unit (s := S18x128) ![r.toNat, 0] S1x128.size (inb2 h (by omega))).toLoadRect (View.loadsAt_vmem h_S1x128)) fun (o : Vec F S1x128 .f32) =>
  .op (.load (M .a16) (Rect.unit (s := S18x128) ![r.toNat, 0] S1x128.size (inb2 h (by omega))).toLoadRect (View.loadsAt_vmem h_S1x128)) fun _ =>
  .op (.store (M .a16) (Rect.unit (s := S18x128) ![r.toNat, 0] S1x128.size (inb2 h (by omega)))
    (shapeCast S1x128 (select mask (broadcast S1x128 (Scalar.ofBits (F := F) .f32 0x3F800000#32)) o) shapeCasts_S1x128_S1x128) Finset.univ (View.stores_vmem_bits_univ h_S1x128 rfl) (.inl rfl)) fun _ => K

/-- The lanes a batch takes in its scale row, and in the row after it. -/
def maskA (off n : BitVec 32) : IVec S1x128 1 :=
  andi (cmpi .sge (iota .tc S1x128 32 [1] iota_S1x128_d1_w32) (broadcast S1x128 (shiftW off)))
    (cmpi .slt (iota .tc S1x128 32 [1] iota_S1x128_d1_w32) (broadcast S1x128 (Scalar.addi (shiftW off) n)))
def maskB (off n : BitVec 32) : IVec S1x128 1 :=
  cmpi .slt (iota .tc S1x128 32 [1] iota_S1x128_d1_w32) (broadcast S1x128 (Scalar.subi (Scalar.addi (shiftW off) n) 128#32))

/-- The length of batch `b`, read. -/
def lenB (b : ℕ) (hb : b < 16) (K : BitVec 32 → P F α) : P F α :=
  (smemLoad (Val := Elt F) (M .a1) (Rect.unit (s := S16) ![b] S1.size (by intro k; fin_cases k; exact hb)) numel1_S1 rfl) >>= K

/-- One batch packed: its length, the check of the next batch's offset, its columns, its scales and its mask. -/
def packStep (b : ℕ) (hb : b < 16) (off : BitVec 32) (g : Good off) (chk : BitVec 32 → Prop) (dec : ∀ n, Decidable (chk n))
    (K : (n : BitVec 32) → chk n → P F α) : P F α :=
  lenB M b hb fun n =>
  .op (TpuEff.assume (chk n) (dec n)) fun hn =>
  packCol M hM b 0 hb (by omega) off g <| packCol M hM b 1 hb (by omega) off g <| packCol M hM b 2 hb (by omega) off g <|
  packCol M hM b 3 hb (by omega) off g <| packCol M hM b 4 hb (by omega) off g <| packCol M hM b 5 hb (by omega) off g <|
  packCol M hM b 6 hb (by omega) off g <| packCol M hM b 7 hb (by omega) off g <|
  .op (.load (M .a4) (Rect.unit (s := S16x128) ![b, 0] S1x128.size (inb2 hb (by omega))).toLoadRect (View.loadsAt_vmem h_S1x128)) fun (x : Vec F S1x128 .f32) =>
  packRow M (maskA off n) (dynamicRotate 1 (shiftW off) none x rotates_S1x128_d1) (rowS off) g.s <|
  packRow M (maskB off n) (dynamicRotate 1 (shiftW off) none x rotates_S1x128_d1) (rowS1 off) g.s1 <|
  K n hn.down

/-- One column block of the zero rows after the last batch. -/
def zeroCol (c : ℕ) (hc : c < 8) (off : BitVec 32) (g : (rowX off).toNat + 256 ≤ 2304) (K : P F α) : P F α :=
  .op (.load (M .a13) (Rect.unit (s := S8x2304x128) ![c, (rowX off).toNat, 0] S1x256x128.size (inb3 (by omega) g (by omega))).toLoadRect (View.loadsAt_vmem h_S1x256x128)) fun _ =>
  .op (.store (M .a13) (Rect.unit (s := S8x2304x128) ![c, (rowX off).toNat, 0] S1x256x128.size (inb3 (by omega) g (by omega)))
    (shapeCast S1x256x128 (broadcast S256x128 (Scalar.ofBits (F := F) .bf16 0x0000#16)) shapeCasts_S256x128_S1x256x128) Finset.univ
    (View.stores_vmem h_S1x256x128 ((hM .a13).storeExact_slice rfl _ (packedX (rowX_even off) (by decide) _)) (fun _ => rfl)) (.inl rfl)) fun _ =>
  .op (.load (M .a14) (Rect.unit (s := S8x2304x128) ![c, (rowX off).toNat, 0] S1x256x128.size (inb3 (by omega) g (by omega))).toLoadRect (View.loadsAt_vmem h_S1x256x128)) fun _ =>
  .op (.store (M .a14) (Rect.unit (s := S8x2304x128) ![c, (rowX off).toNat, 0] S1x256x128.size (inb3 (by omega) g (by omega)))
    (shapeCast S1x256x128 (broadcast S256x128 (Scalar.ofBits (F := F) .bf16 0x0000#16)) shapeCasts_S256x128_S1x256x128) Finset.univ
    (View.stores_vmem h_S1x256x128 ((hM .a14).storeExact_slice rfl _ (packedX (rowX_even off) (by decide) _)) (fun _ => rfl)) (.inl rfl)) fun _ => K

/-! ## Splitting a float into three bf16 pieces -/

section Split
variable {s : Shape}
def sp1 (x : FVec F s .f32) : FVec F s .bf16 := truncf .bf16 x bitsLt_bf16_f32
def rest1 (x : FVec F s .f32) : FVec F s .f32 := subf x (extf .f32 (sp1 x) bitsLt_bf16_f32)
def sp2 (x : FVec F s .f32) : FVec F s .bf16 := sp1 (rest1 x)
def sp3 (x : FVec F s .f32) : FVec F s .bf16 := sp1 (rest1 (rest1 x))
end Split

theorem off170_le (t : Fin k0_t1_loop.trips) : (128 * t.val) + 128 ≤ 1024 := by
  have h : t.val < 8 := lt_of_lt_of_eq t.isLt (by decide)
  omega

/-- One block of rows of the inverse Hessian split into its pieces. -/
def hBody (i : grid0.Coords) (h1 : k0_cond1 i = 1#1) (t : Fin k0_t1_loop.trips) : P F PUnit :=
  .op (.load (M .a5) (Rect.unit (s := S1024x1024) (k0_off169 t) S128x1024.size (k0_off169_inb i t h1)).toLoadRect (View.loadsAt_vmem h_S128x1024)) fun (x : Vec F S128x1024 .f32) =>
  .op (.load (M .a17) (Rect.unit (s := S3x1024x1024) (k0_off170 t) S1x128x1024.size (k0_off170_inb i t h1)).toLoadRect (View.loadsAt_vmem h_S1x128x1024)) fun _ =>
  .op (.store (M .a17) (Rect.unit (s := S3x1024x1024) (k0_off170 t) S1x128x1024.size (k0_off170_inb i t h1)) (shapeCast S1x128x1024 (sp1 x) shapeCasts_S128x1024_S1x128x1024) Finset.univ
    (View.stores_vmem h_S1x128x1024 ((hM .a17).storeExact_slice rfl _ (k0_off170_packedbf16 i t h1)) (fun _ => rfl)) (.inl rfl)) fun _ =>
  .op (.load (M .a17) (Rect.unit (s := S3x1024x1024) (k0_off171 t) S1x128x1024.size (k0_off171_inb i t h1)).toLoadRect (View.loadsAt_vmem h_S1x128x1024)) fun _ =>
  .op (.store (M .a17) (Rect.unit (s := S3x1024x1024) (k0_off171 t) S1x128x1024.size (k0_off171_inb i t h1)) (shapeCast S1x128x1024 (sp2 x) shapeCasts_S128x1024_S1x128x1024) Finset.univ
    (View.stores_vmem h_S1x128x1024 ((hM .a17).storeExact_slice rfl _ (k0_off171_packedbf16 i t h1)) (fun _ => rfl)) (.inl rfl)) fun _ =>
  .op (.load (M .a17) (Rect.unit (s := S3x1024x1024) (k0_off172 t) S1x128x1024.size (k0_off172_inb i t h1)).toLoadRect (View.loadsAt_vmem h_S1x128x1024)) fun _ =>
  .op (.store (M .a17) (Rect.unit (s := S3x1024x1024) (k0_off172 t) S1x128x1024.size (k0_off172_inb i t h1)) (shapeCast S1x128x1024 (sp3 x) shapeCasts_S128x1024_S1x128x1024) Finset.univ
    (View.stores_vmem h_S1x128x1024 ((hM .a17).storeExact_slice rfl _ (k0_off172_packedbf16 i t h1)) (fun _ => rfl)) (.inl rfl)) fun _ => .ret ⟨⟩

/-! ## Tiles -/

theorem GoodT.tok {w : BitVec 32} (h : GoodT w) : (rowT w).toNat + 256 ≤ 2304 := by rw [rowT_eq h]; have := h.lt; omega
theorem GoodT.v {w : BitVec 32} (h : GoodT w) : (rowV w).toNat + 1 ≤ 18 := by rw [rowV_eq h]; have := h.lt; omega
theorem GoodT.v1 {w : BitVec 32} (h : GoodT w) : (rowV1 w).toNat + 1 ≤ 18 := by rw [rowV1_eq h]; have := h.lt; omega

/-- One column block of a token tile. -/
def tokCol (m : Memref sig .tc .vmem S8x2304x128 .bf16) (w : BitVec 32) (g : GoodT w) (c : ℕ) (hc : c < 8) (K : FVec F S256x128 .bf16 → P F α) : P F α :=
  .op (.load m (Rect.unit (s := S8x2304x128) ![c, (rowT w).toNat, 0] S1x256x128.size (inb3 (by omega) g.tok (by omega))).toLoadRect (View.loadsAt_vmem h_S1x256x128)) fun (x : Vec F S1x256x128 .bf16) =>
  K (shapeCast S256x128 x shapeCasts_S1x256x128_S256x128)

/-- A token tile of a packed buffer, its column blocks side by side. -/
def toks (m : Memref sig .tc .vmem S8x2304x128 .bf16) (w : BitVec 32) (g : GoodT w) (K : FVec F S256x1024 .bf16 → P F α) : P F α :=
  tokCol m w g 0 (by omega) fun x0 => tokCol m w g 1 (by omega) fun x1 => tokCol m w g 2 (by omega) fun x2 =>
  tokCol m w g 3 (by omega) fun x3 => tokCol m w g 4 (by omega) fun x4 => tokCol m w g 5 (by omega) fun x5 =>
  tokCol m w g 6 (by omega) fun x6 => tokCol m w g 7 (by omega) fun x7 =>
  K (concatenate S256x1024 1 [⟨S256x128, x0⟩, ⟨S256x128, x1⟩, ⟨S256x128, x2⟩, ⟨S256x128, x3⟩, ⟨S256x128, x4⟩, ⟨S256x128, x5⟩, ⟨S256x128, x6⟩, ⟨S256x128, x7⟩]
    concatenates_S256x128_S256x128_S256x128_S256x128_S256x128_S256x128_S256x128_S256x128_S256x1024_d1)

/-- The two rows of a tile in a scale or mask buffer, side by side. -/
def pair (m : Memref sig .tc .vmem S18x128 .f32) (w : BitVec 32) (g : GoodT w) (K : FVec F S1x256 .f32 → P F α) : P F α :=
  .op (.load m (Rect.unit (s := S18x128) ![(rowV w).toNat, 0] S1x128.size (inb2 g.v (by omega))).toLoadRect (View.loadsAt_vmem h_S1x128)) fun (x : Vec F S1x128 .f32) =>
  .op (.load m (Rect.unit (s := S18x128) ![(rowV1 w).toNat, 0] S1x128.size (inb2 g.v1 (by omega))).toLoadRect (View.loadsAt_vmem h_S1x128)) fun (y : Vec F S1x128 .f32) =>
  K (concatenate S1x256 1 [⟨S1x128, x⟩, ⟨S1x128, y⟩] concatenates_S1x128_S1x128_S1x256_d1)

/-- One piece of the projected tokens stored. -/
def pStore (p : ℕ) (hp : p < 3) (w : BitVec 32) (g : GoodT w) (x : FVec F S256x1024 .bf16) (K : P F α) : P F α :=
  .op (.load (M .a18) (Rect.unit (s := S3x8x256x1024) ![p, (Scalar.indexCast w).toNat, 0, 0] S1x1x256x1024.size (inb4 (by omega) g (by omega) (by omega))).toLoadRect (View.loadsAt_vmem h_S1x1x256x1024)) fun _ =>
  .op (.store (M .a18) (Rect.unit (s := S3x8x256x1024) ![p, (Scalar.indexCast w).toNat, 0, 0] S1x1x256x1024.size (inb4 (by omega) g (by omega) (by omega)))
    (shapeCast S1x1x256x1024 x shapeCasts_S256x1024_S1x1x256x1024) Finset.univ
    (View.stores_vmem h_S1x1x256x1024 ((hM .a18).storeExact_slice rfl _ (packedP _)) (fun _ => rfl)) (.inl rfl)) fun _ => K

/-- The projection of a token tile: the sum of its products with the three pieces. -/
def projV (t : FVec F S256x1024 .bf16) (h0 h1 h2 : Vec F S1x1024x1024 .bf16) : FVec F S256x1024 .f32 :=
  addf (addf
    (matmul dot_S256x1024_S1024x1024_S256x1024_1_1_0_0_n_n none t (shapeCast S1024x1024 h0 shapeCasts_S1x1024x1024_S1024x1024) (constant S256x1024 .f32 0x00000000#32))
    (matmul dot_S256x1024_S1024x1024_S256x1024_1_1_0_0_n_n none t (shapeCast S1024x1024 h1 shapeCasts_S1x1024x1024_S1024x1024) (constant S256x1024 .f32 0x00000000#32)))
    (matmul dot_S256x1024_S1024x1024_S256x1024_1_1_0_0_n_n none t (shapeCast S1024x1024 h2 shapeCasts_S1x1024x1024_S1024x1024) (constant S256x1024 .f32 0x00000000#32))

/-- One tile of the projected tokens. -/
def projBody (w : BitVec 32) (g : GoodT w) : P F PUnit :=
  toks (M .a14) w g fun t =>
  .op (.load (M .a17) (Rect.unit (s := S3x1024x1024) ![0, 0, 0] S1x1024x1024.size inb_S3x1024x1024_S1x1024x1024_0_0_0).toLoadRect (View.loadsAt_vmem h_S1x1024x1024)) fun (h0 : Vec F S1x1024x1024 .bf16) =>
  .op (.load (M .a17) (Rect.unit (s := S3x1024x1024) ![1, 0, 0] S1x1024x1024.size inb_S3x1024x1024_S1x1024x1024_1_0_0).toLoadRect (View.loadsAt_vmem h_S1x1024x1024)) fun (h1 : Vec F S1x1024x1024 .bf16) =>
  .op (.load (M .a17) (Rect.unit (s := S3x1024x1024) ![2, 0, 0] S1x1024x1024.size inb_S3x1024x1024_S1x1024x1024_2_0_0).toLoadRect (View.loadsAt_vmem h_S1x1024x1024)) fun (h2 : Vec F S1x1024x1024 .bf16) =>
  pStore M hM 0 (by omega) w g (sp1 (projV t h0 h1 h2)) <|
  pStore M hM 1 (by omega) w g (sp2 (projV t h0 h1 h2)) <|
  pStore M hM 2 (by omega) w g (sp3 (projV t h0 h1 h2)) <| .ret ⟨⟩

/-! ## Dequantisation -/

/-- The signed value of a code word. -/
def codeV (c : IVec S512x512 32) : FVec F S512x512 .bf16 :=
  truncf .bf16 (sitofp (F := F) .f32 (select (cmpi .sge c (broadcast S512x512 8#32)) (subi c (broadcast S512x512 16#32)) c) : FVec F S512x512 .f32) bitsLt_bf16_f32
def codeLo (x : IVec S512x512 8) : FVec F S512x512 .bf16 := codeV (andi (extui 32 x natLt_8_32) (broadcast S512x512 15#32))
def codeHi (x : IVec S512x512 8) : FVec F S512x512 .bf16 := codeV (shrui (extui 32 x natLt_8_32) (broadcast S512x512 4#32))

/-- One group of columns of the dequantised weights. -/
def deqCol (g k : ℕ) (hg : g < 8) (hs : S512x512.Slices ![0, k] S512x128) (x : FVec F S512x512 .bf16) (K : P F α) : P F α :=
  .op (.load (M .a8) (Rect.unit (s := S512x8) ![0, g] S512x1.size (inb2 (by omega) (by omega))).toLoadRect (View.loadsAt_vmem h_S512x1)) fun (v : Vec F S512x1 .f32) =>
  .op (.load (M .a20) (Rect.unit (s := S512x1024) ![0, 128 * g] S512x128.size (inb2 (by omega) (by omega))).toLoadRect (View.loadsAt_vmem h_S512x128)) fun _ =>
  .op (.store (M .a20) (Rect.unit (s := S512x1024) ![0, 128 * g] S512x128.size (inb2 (by omega) (by omega)))
    (shapeCast S512x128 (mulf (extractStridedSlice S512x128 ![0, k] x hs) (broadcastTo S512x128 (truncf .bf16 v bitsLt_bf16_f32 : FVec F S512x1 .bf16) broadcasts_S512x1_S512x128)) shapeCasts_S512x128_S512x128) Finset.univ
    (View.stores_vmem h_S512x128 ((hM .a20).storeExact_slice rfl _ (packedW _)) (fun _ => rfl)) (.inl rfl)) fun _ => K

/-! ## The sweeps over the tiles -/

/-- The error of a tile: the exact product less the scaled code product, zero off the mask. -/
def resV (y d : FVec F S512x256 .f32) (sc mk : FVec F S1x256 .f32) : FVec F S512x256 .f32 :=
  select (broadcastTo S512x256 (shapeCast S1x256 (cmpf .ogt mk (broadcast S1x256 (Scalar.ofBits (F := F) .f32 0x00000000#32))) shapeCasts_S1x256_S1x256) broadcasts_S1x256_S512x256)
    (subf y (mulf d (broadcastTo S512x256 sc broadcasts_S1x256_S512x256))) (broadcast S512x256 (Scalar.ofBits (F := F) .f32 0x00000000#32))
/-- An accumulator with the squares of a tile's errors added. -/
def accV (o : FVec F S1x512x128 .f32) (r : FVec F S512x256 .f32) : FVec F S1x512x128 .f32 :=
  shapeCast S1x512x128 (addf (shapeCast S512x128 o shapeCasts_S1x512x128_S512x128)
    (addf (extractStridedSlice S512x128 ![0, 0] (mulf r r) slices_S512x256_o0_0_S512x128)
      (extractStridedSlice S512x128 ![0, 128] (mulf r r) slices_S512x256_o0_128_S512x128))) shapeCasts_S512x128_S1x512x128
/-- A product of weights and a token tile. -/
def mmV (w : FVec F S512x1024 .bf16) (t : FVec F S256x1024 .bf16) : FVec F S512x256 .f32 :=
  matmul dot_S512x1024_S256x1024_S512x256_1_1_0_0_n_n none w t (constant S512x256 .f32 0x00000000#32)
/-- The scaled errors of a tile. -/
def rsV (sc : FVec F S1x256 .f32) (r : FVec F S512x256 .f32) : FVec F S512x256 .bf16 :=
  truncf .bf16 (mulf (broadcastTo S512x256 sc broadcasts_S1x256_S512x256) r) bitsLt_bf16_f32
/-- A product of scaled errors and one piece of the projected tokens. -/
def mpV (r : FVec F S512x256 .bf16) (p : FVec F S1x1x256x1024 .bf16) : FVec F S512x1024 .f32 :=
  matmul dot_S512x256_S256x1024_S512x1024_1_0_0_1_n_n none r (shapeCast S256x1024 p shapeCasts_S1x1x256x1024_S256x1024) (constant S512x1024 .f32 0x00000000#32)

/-- One piece of the projected tokens loaded. -/
def pLoad (p : ℕ) (hp : p < 3) (w : BitVec 32) (g : GoodT w) (K : FVec F S1x1x256x1024 .bf16 → P F α) : P F α :=
  .op (.load (M .a18) (Rect.unit (s := S3x8x256x1024) ![p, (Scalar.indexCast w).toNat, 0, 0] S1x1x256x1024.size (inb4 (by omega) g (by omega) (by omega))).toLoadRect (View.loadsAt_vmem h_S1x1x256x1024)) fun (x : Vec F S1x1x256x1024 .bf16) => K x

/-- One tile of the first sweep: its exact products stored, its errors' squares and its correction accumulated. -/
def sweepA (w : BitVec 32) (g : GoodT w) : P F PUnit :=
  .op (.load (M .a6) (Rect.unit (s := S512x1024) ![0, 0] S512x1024.size inb_S512x1024_S512x1024_0_0).toLoadRect (View.loadsAt_vmem h_S512x1024)) fun (wf : Vec F S512x1024 .bf16) =>
  toks (M .a13) w g fun xt =>
  .op (.load (M .a20) (Rect.unit (s := S512x1024) ![0, 0] S512x1024.size inb_S512x1024_S512x1024_0_0).toLoadRect (View.loadsAt_vmem h_S512x1024)) fun (wq : Vec F S512x1024 .bf16) =>
  toks (M .a14) w g fun ct =>
  pair (M .a15) w g fun sc =>
  pair (M .a16) w g fun mk =>
  .op (.load (M .a19) (Rect.unit (s := S8x512x256) ![(Scalar.indexCast w).toNat, 0, 0] S1x512x256.size (inb3 g (by omega) (by omega))).toLoadRect (View.loadsAt_vmem h_S1x512x256)) fun _ =>
  .op (.store (M .a19) (Rect.unit (s := S8x512x256) ![(Scalar.indexCast w).toNat, 0, 0] S1x512x256.size (inb3 g (by omega) (by omega)))
    (shapeCast S1x512x256 (mmV wf xt) shapeCasts_S512x256_S1x512x256) Finset.univ (View.stores_vmem_bits_univ h_S1x512x256 rfl) (.inl rfl)) fun _ =>
  .op (.load (M .a21) (Rect.unit (s := S2x512x128) ![0, 0, 0] S1x512x128.size inb_S2x512x128_S1x512x128_0_0_0).toLoadRect (View.loadsAt_vmem h_S1x512x128)) fun (o : Vec F S1x512x128 .f32) =>
  .op (.load (M .a21) (Rect.unit (s := S2x512x128) ![0, 0, 0] S1x512x128.size inb_S2x512x128_S1x512x128_0_0_0).toLoadRect (View.loadsAt_vmem h_S1x512x128)) fun _ =>
  .op (.store (M .a21) (Rect.unit (s := S2x512x128) ![0, 0, 0] S1x512x128.size inb_S2x512x128_S1x512x128_0_0_0)
    (accV o (resV (mmV wf xt) (mmV wq ct) sc mk)) Finset.univ (View.stores_vmem_bits_univ h_S1x512x128 rfl) (.inl rfl)) fun _ =>
  .op (.load (M .a12) (Rect.unit (s := S512x1024) ![0, 0] S512x1024.size inb_S512x1024_S512x1024_0_0).toLoadRect (View.loadsAt_vmem h_S512x1024)) fun (dw : Vec F S512x1024 .f32) =>
  pLoad M 0 (by omega) w g fun p0 => pLoad M 1 (by omega) w g fun p1 => pLoad M 2 (by omega) w g fun p2 =>
  .op (.load (M .a12) (Rect.unit (s := S512x1024) ![0, 0] S512x1024.size inb_S512x1024_S512x1024_0_0).toLoadRect (View.loadsAt_vmem h_S512x1024)) fun _ =>
  .op (.store (M .a12) (Rect.unit (s := S512x1024) ![0, 0] S512x1024.size inb_S512x1024_S512x1024_0_0)
    (addf (shapeCast S512x1024 dw shapeCasts_S512x1024_S512x1024)
      (addf (addf (mpV (rsV sc (resV (mmV wf xt) (mmV wq ct) sc mk)) p0) (mpV (rsV sc (resV (mmV wf xt) (mmV wq ct) sc mk)) p1))
        (mpV (rsV sc (resV (mmV wf xt) (mmV wq ct) sc mk)) p2))) Finset.univ (View.stores_vmem_bits_univ h_S512x1024 rfl) (.inl rfl)) fun _ => .ret ⟨⟩

/-- One tile of the second sweep: the squares of the corrected weights' errors accumulated. -/
def sweepB (w : BitVec 32) (g : GoodT w) : P F PUnit :=
  .op (.load (M .a9) (Rect.unit (s := S512x1024) ![0, 0] S512x1024.size inb_S512x1024_S512x1024_0_0).toLoadRect (View.loadsAt_vmem h_S512x1024)) fun (wc : Vec F S512x1024 .bf16) =>
  toks (M .a14) w g fun ct =>
  pair (M .a16) w g fun mk =>
  .op (.load (M .a19) (Rect.unit (s := S8x512x256) ![(Scalar.indexCast w).toNat, 0, 0] S1x512x256.size (inb3 g (by omega) (by omega))).toLoadRect (View.loadsAt_vmem h_S1x512x256)) fun (y : Vec F S1x512x256 .f32) =>
  pair (M .a15) w g fun sc =>
  .op (.load (M .a21) (Rect.unit (s := S2x512x128) ![1, 0, 0] S1x512x128.size inb_S2x512x128_S1x512x128_1_0_0).toLoadRect (View.loadsAt_vmem h_S1x512x128)) fun (o : Vec F S1x512x128 .f32) =>
  .op (.load (M .a21) (Rect.unit (s := S2x512x128) ![1, 0, 0] S1x512x128.size inb_S2x512x128_S1x512x128_1_0_0).toLoadRect (View.loadsAt_vmem h_S1x512x128)) fun _ =>
  .op (.store (M .a21) (Rect.unit (s := S2x512x128) ![1, 0, 0] S1x512x128.size inb_S2x512x128_S1x512x128_1_0_0)
    (accV o (resV (shapeCast S512x256 y shapeCasts_S1x512x256_S512x256) (mmV (shapeCast S512x1024 wc shapeCasts_S512x1024_S512x1024) ct) sc mk)) Finset.univ (View.stores_vmem_bits_univ h_S1x512x128 rfl) (.inl rfl)) fun _ => .ret ⟨⟩

/-! ## The body -/

/-- A batch's offset: the lengths before it, each rounded up to an even number. -/
abbrev offL (l : List (BitVec 32)) : BitVec 32 := l.foldl nxt 0#32

theorem good0 : Good (offL []) := ⟨by decide, by decide, by decide⟩
theorem good1 {i : grid0.Coords} {n0 : BitVec 32} (h : k0_chk1 i n0) (h1 : k0_cond1 i = 1#1) : Good (offL [n0]) :=
  ⟨h.1 h1 1, h.2.2.2.2.2.2.2.2.2.2.2.2.2.2.2.2.1 h1 0, h.2.2.2.2.2.2.2.2.2.2.2.2.2.2.2.2.2 h1 0⟩
theorem good2 {i : grid0.Coords} {n0 n1 : BitVec 32} (h : k0_chk2 i n0 n1) (h1 : k0_cond1 i = 1#1) : Good (offL [n0, n1]) :=
  ⟨h.1 h1 1, h.2.2.2.2.2.2.2.2.2.2.2.2.2.2.2.2.1 h1 0, h.2.2.2.2.2.2.2.2.2.2.2.2.2.2.2.2.2 h1 0⟩
theorem good3 {i : grid0.Coords} {n0 n1 n2 : BitVec 32} (h : k0_chk3 i n0 n1 n2) (h1 : k0_cond1 i = 1#1) : Good (offL [n0, n1, n2]) :=
  ⟨h.1 h1 1, h.2.2.2.2.2.2.2.2.2.2.2.2.2.2.2.2.1 h1 0, h.2.2.2.2.2.2.2.2.2.2.2.2.2.2.2.2.2 h1 0⟩
theorem good4 {i : grid0.Coords} {n0 n1 n2 n3 : BitVec 32} (h : k0_chk4 i n0 n1 n2 n3) (h1 : k0_cond1 i = 1#1) : Good (offL [n0, n1, n2, n3]) :=
  ⟨h.1 h1 1, h.2.2.2.2.2.2.2.2.2.2.2.2.2.2.2.2.1 h1 0, h.2.2.2.2.2.2.2.2.2.2.2.2.2.2.2.2.2 h1 0⟩
theorem good5 {i : grid0.Coords} {n0 n1 n2 n3 n4 : BitVec 32} (h : k0_chk5 i n0 n1 n2 n3 n4) (h1 : k0_cond1 i = 1#1) : Good (offL [n0, n1, n2, n3, n4]) :=
  ⟨h.1 h1 1, h.2.2.2.2.2.2.2.2.2.2.2.2.2.2.2.2.1 h1 0, h.2.2.2.2.2.2.2.2.2.2.2.2.2.2.2.2.2 h1 0⟩
theorem good6 {i : grid0.Coords} {n0 n1 n2 n3 n4 n5 : BitVec 32} (h : k0_chk6 i n0 n1 n2 n3 n4 n5) (h1 : k0_cond1 i = 1#1) : Good (offL [n0, n1, n2, n3, n4, n5]) :=
  ⟨h.1 h1 1, h.2.2.2.2.2.2.2.2.2.2.2.2.2.2.2.2.1 h1 0, h.2.2.2.2.2.2.2.2.2.2.2.2.2.2.2.2.2 h1 0⟩
theorem good7 {i : grid0.Coords} {n0 n1 n2 n3 n4 n5 n6 : BitVec 32} (h : k0_chk7 i n0 n1 n2 n3 n4 n5 n6) (h1 : k0_cond1 i = 1#1) : Good (offL [n0, n1, n2, n3, n4, n5, n6]) :=
  ⟨h.1 h1 1, h.2.2.2.2.2.2.2.2.2.2.2.2.2.2.2.2.1 h1 0, h.2.2.2.2.2.2.2.2.2.2.2.2.2.2.2.2.2 h1 0⟩
theorem good8 {i : grid0.Coords} {n0 n1 n2 n3 n4 n5 n6 n7 : BitVec 32} (h : k0_chk8 i n0 n1 n2 n3 n4 n5 n6 n7) (h1 : k0_cond1 i = 1#1) : Good (offL [n0, n1, n2, n3, n4, n5, n6, n7]) :=
  ⟨h.1 h1 1, h.2.2.2.2.2.2.2.2.2.2.2.2.2.2.2.2.1 h1 0, h.2.2.2.2.2.2.2.2.2.2.2.2.2.2.2.2.2 h1 0⟩
theorem good9 {i : grid0.Coords} {n0 n1 n2 n3 n4 n5 n6 n7 n8 : BitVec 32} (h : k0_chk9 i n0 n1 n2 n3 n4 n5 n6 n7 n8) (h1 : k0_cond1 i = 1#1) : Good (offL [n0, n1, n2, n3, n4, n5, n6, n7, n8]) :=
  ⟨h.1 h1 1, h.2.2.2.2.2.2.2.2.2.2.2.2.2.2.2.2.1 h1 0, h.2.2.2.2.2.2.2.2.2.2.2.2.2.2.2.2.2 h1 0⟩
theorem good10 {i : grid0.Coords} {n0 n1 n2 n3 n4 n5 n6 n7 n8 n9 : BitVec 32} (h : k0_chk10 i n0 n1 n2 n3 n4 n5 n6 n7 n8 n9) (h1 : k0_cond1 i = 1#1) : Good (offL [n0, n1, n2, n3, n4, n5, n6, n7, n8, n9]) :=
  ⟨h.1 h1 1, h.2.2.2.2.2.2.2.2.2.2.2.2.2.2.2.2.1 h1 0, h.2.2.2.2.2.2.2.2.2.2.2.2.2.2.2.2.2 h1 0⟩
theorem good11 {i : grid0.Coords} {n0 n1 n2 n3 n4 n5 n6 n7 n8 n9 n10 : BitVec 32} (h : k0_chk11 i n0 n1 n2 n3 n4 n5 n6 n7 n8 n9 n10) (h1 : k0_cond1 i = 1#1) : Good (offL [n0, n1, n2, n3, n4, n5, n6, n7, n8, n9, n10]) :=
  ⟨h.1 h1 1, h.2.2.2.2.2.2.2.2.2.2.2.2.2.2.2.2.1 h1 0, h.2.2.2.2.2.2.2.2.2.2.2.2.2.2.2.2.2 h1 0⟩
theorem good12 {i : grid0.Coords} {n0 n1 n2 n3 n4 n5 n6 n7 n8 n9 n10 n11 : BitVec 32} (h : k0_chk12 i n0 n1 n2 n3 n4 n5 n6 n7 n8 n9 n10 n11) (h1 : k0_cond1 i = 1#1) : Good (offL [n0, n1, n2, n3, n4, n5, n6, n7, n8, n9, n10, n11]) :=
  ⟨h.1 h1 1, h.2.2.2.2.2.2.2.2.2.2.2.2.2.2.2.2.1 h1 0, h.2.2.2.2.2.2.2.2.2.2.2.2.2.2.2.2.2 h1 0⟩
theorem good13 {i : grid0.Coords} {n0 n1 n2 n3 n4 n5 n6 n7 n8 n9 n10 n11 n12 : BitVec 32} (h : k0_chk13 i n0 n1 n2 n3 n4 n5 n6 n7 n8 n9 n10 n11 n12) (h1 : k0_cond1 i = 1#1) : Good (offL [n0, n1, n2, n3, n4, n5, n6, n7, n8, n9, n10, n11, n12]) :=
  ⟨h.1 h1 1, h.2.2.2.2.2.2.2.2.2.2.2.2.2.2.2.2.1 h1 0, h.2.2.2.2.2.2.2.2.2.2.2.2.2.2.2.2.2 h1 0⟩
theorem good14 {i : grid0.Coords} {n0 n1 n2 n3 n4 n5 n6 n7 n8 n9 n10 n11 n12 n13 : BitVec 32} (h : k0_chk14 i n0 n1 n2 n3 n4 n5 n6 n7 n8 n9 n10 n11 n12 n13) (h1 : k0_cond1 i = 1#1) : Good (offL [n0, n1, n2, n3, n4, n5, n6, n7, n8, n9, n10, n11, n12, n13]) :=
  ⟨h.1 h1 1, h.2.2.2.2.2.2.2.2.2.2.2.2.2.2.2.2.1 h1 0, h.2.2.2.2.2.2.2.2.2.2.2.2.2.2.2.2.2 h1 0⟩
theorem good15 {i : grid0.Coords} {n0 n1 n2 n3 n4 n5 n6 n7 n8 n9 n10 n11 n12 n13 n14 : BitVec 32} (h : k0_chk15 i n0 n1 n2 n3 n4 n5 n6 n7 n8 n9 n10 n11 n12 n13 n14) (h1 : k0_cond1 i = 1#1) : Good (offL [n0, n1, n2, n3, n4, n5, n6, n7, n8, n9, n10, n11, n12, n13, n14]) :=
  ⟨h.1 h1 1, h.2.2.2.2.2.2.2.2.2.2.2.2.2.2.2.2.1 h1 0, h.2.2.2.2.2.2.2.2.2.2.2.2.2.2.2.2.2 h1 0⟩
theorem good16 {i : grid0.Coords} {n0 n1 n2 n3 n4 n5 n6 n7 n8 n9 n10 n11 n12 n13 n14 n15 : BitVec 32} (h : k0_chk16 i n0 n1 n2 n3 n4 n5 n6 n7 n8 n9 n10 n11 n12 n13 n14 n15) (h1 : k0_cond1 i = 1#1) : (rowX (offL [n0, n1, n2, n3, n4, n5, n6, n7, n8, n9, n10, n11, n12, n13, n14, n15])).toNat + 256 ≤ 2304 := h.1 h1 1

/-- The packing of every batch, then the zero rows; `K` takes the total offset. -/
def packAll (i : grid0.Coords) (h1 : k0_cond1 i = 1#1) (K : BitVec 32 → P F α) : P F α :=
  .op (.load (M .a15) (Rect.unit (s := S18x128) ![0, 0] S18x128.size inb_S18x128_S18x128_0_0).toLoadRect (View.loadsAt_vmem h_S18x128)) fun _ =>
  .op (.store (M .a15) (Rect.unit (s := S18x128) ![0, 0] S18x128.size inb_S18x128_S18x128_0_0) (shapeCast S18x128 (broadcast S18x128 (Scalar.ofBits (F := F) .f32 0x00000000#32)) shapeCasts_S18x128_S18x128) Finset.univ (View.stores_vmem_bits_univ h_S18x128 rfl) (.inl rfl)) fun _ =>
  .op (.load (M .a16) (Rect.unit (s := S18x128) ![0, 0] S18x128.size inb_S18x128_S18x128_0_0).toLoadRect (View.loadsAt_vmem h_S18x128)) fun _ =>
  .op (.store (M .a16) (Rect.unit (s := S18x128) ![0, 0] S18x128.size inb_S18x128_S18x128_0_0) (shapeCast S18x128 (broadcast S18x128 (Scalar.ofBits (F := F) .f32 0x00000000#32)) shapeCasts_S18x128_S18x128) Finset.univ (View.stores_vmem_bits_univ h_S18x128 rfl) (.inl rfl)) fun _ =>
  packStep M hM 0 (by omega) (offL []) good0 (k0_chk1 i ) (k0_chk1.dec i ) fun n0 c0 =>
  packStep M hM 1 (by omega) (offL [n0]) (good1 c0 h1) (k0_chk2 i n0) (k0_chk2.dec i n0) fun n1 c1 =>
  packStep M hM 2 (by omega) (offL [n0, n1]) (good2 c1 h1) (k0_chk3 i n0 n1) (k0_chk3.dec i n0 n1) fun n2 c2 =>
  packStep M hM 3 (by omega) (offL [n0, n1, n2]) (good3 c2 h1) (k0_chk4 i n0 n1 n2) (k0_chk4.dec i n0 n1 n2) fun n3 c3 =>
  packStep M hM 4 (by omega) (offL [n0, n1, n2, n3]) (good4 c3 h1) (k0_chk5 i n0 n1 n2 n3) (k0_chk5.dec i n0 n1 n2 n3) fun n4 c4 =>
  packStep M hM 5 (by omega) (offL [n0, n1, n2, n3, n4]) (good5 c4 h1) (k0_chk6 i n0 n1 n2 n3 n4) (k0_chk6.dec i n0 n1 n2 n3 n4) fun n5 c5 =>
  packStep M hM 6 (by omega) (offL [n0, n1, n2, n3, n4, n5]) (good6 c5 h1) (k0_chk7 i n0 n1 n2 n3 n4 n5) (k0_chk7.dec i n0 n1 n2 n3 n4 n5) fun n6 c6 =>
  packStep M hM 7 (by omega) (offL [n0, n1, n2, n3, n4, n5, n6]) (good7 c6 h1) (k0_chk8 i n0 n1 n2 n3 n4 n5 n6) (k0_chk8.dec i n0 n1 n2 n3 n4 n5 n6) fun n7 c7 =>
  packStep M hM 8 (by omega) (offL [n0, n1, n2, n3, n4, n5, n6, n7]) (good8 c7 h1) (k0_chk9 i n0 n1 n2 n3 n4 n5 n6 n7) (k0_chk9.dec i n0 n1 n2 n3 n4 n5 n6 n7) fun n8 c8 =>
  packStep M hM 9 (by omega) (offL [n0, n1, n2, n3, n4, n5, n6, n7, n8]) (good9 c8 h1) (k0_chk10 i n0 n1 n2 n3 n4 n5 n6 n7 n8) (k0_chk10.dec i n0 n1 n2 n3 n4 n5 n6 n7 n8) fun n9 c9 =>
  packStep M hM 10 (by omega) (offL [n0, n1, n2, n3, n4, n5, n6, n7, n8, n9]) (good10 c9 h1) (k0_chk11 i n0 n1 n2 n3 n4 n5 n6 n7 n8 n9) (k0_chk11.dec i n0 n1 n2 n3 n4 n5 n6 n7 n8 n9) fun n10 c10 =>
  packStep M hM 11 (by omega) (offL [n0, n1, n2, n3, n4, n5, n6, n7, n8, n9, n10]) (good11 c10 h1) (k0_chk12 i n0 n1 n2 n3 n4 n5 n6 n7 n8 n9 n10) (k0_chk12.dec i n0 n1 n2 n3 n4 n5 n6 n7 n8 n9 n10) fun n11 c11 =>
  packStep M hM 12 (by omega) (offL [n0, n1, n2, n3, n4, n5, n6, n7, n8, n9, n10, n11]) (good12 c11 h1) (k0_chk13 i n0 n1 n2 n3 n4 n5 n6 n7 n8 n9 n10 n11) (k0_chk13.dec i n0 n1 n2 n3 n4 n5 n6 n7 n8 n9 n10 n11) fun n12 c12 =>
  packStep M hM 13 (by omega) (offL [n0, n1, n2, n3, n4, n5, n6, n7, n8, n9, n10, n11, n12]) (good13 c12 h1) (k0_chk14 i n0 n1 n2 n3 n4 n5 n6 n7 n8 n9 n10 n11 n12) (k0_chk14.dec i n0 n1 n2 n3 n4 n5 n6 n7 n8 n9 n10 n11 n12) fun n13 c13 =>
  packStep M hM 14 (by omega) (offL [n0, n1, n2, n3, n4, n5, n6, n7, n8, n9, n10, n11, n12, n13]) (good14 c13 h1) (k0_chk15 i n0 n1 n2 n3 n4 n5 n6 n7 n8 n9 n10 n11 n12 n13) (k0_chk15.dec i n0 n1 n2 n3 n4 n5 n6 n7 n8 n9 n10 n11 n12 n13) fun n14 c14 =>
  packStep M hM 15 (by omega) (offL [n0, n1, n2, n3, n4, n5, n6, n7, n8, n9, n10, n11, n12, n13, n14]) (good15 c14 h1) (k0_chk16 i n0 n1 n2 n3 n4 n5 n6 n7 n8 n9 n10 n11 n12 n13 n14) (k0_chk16.dec i n0 n1 n2 n3 n4 n5 n6 n7 n8 n9 n10 n11 n12 n13 n14) fun n15 c15 =>
  zeroCol M hM 0 (by omega) (offL [n0, n1, n2, n3, n4, n5, n6, n7, n8, n9, n10, n11, n12, n13, n14, n15]) (good16 c15 h1) <|
  zeroCol M hM 1 (by omega) (offL [n0, n1, n2, n3, n4, n5, n6, n7, n8, n9, n10, n11, n12, n13, n14, n15]) (good16 c15 h1) <|
  zeroCol M hM 2 (by omega) (offL [n0, n1, n2, n3, n4, n5, n6, n7, n8, n9, n10, n11, n12, n13, n14, n15]) (good16 c15 h1) <|
  zeroCol M hM 3 (by omega) (offL [n0, n1, n2, n3, n4, n5, n6, n7, n8, n9, n10, n11, n12, n13, n14, n15]) (good16 c15 h1) <|
  zeroCol M hM 4 (by omega) (offL [n0, n1, n2, n3, n4, n5, n6, n7, n8, n9, n10, n11, n12, n13, n14, n15]) (good16 c15 h1) <|
  zeroCol M hM 5 (by omega) (offL [n0, n1, n2, n3, n4, n5, n6, n7, n8, n9, n10, n11, n12, n13, n14, n15]) (good16 c15 h1) <|
  zeroCol M hM 6 (by omega) (offL [n0, n1, n2, n3, n4, n5, n6, n7, n8, n9, n10, n11, n12, n13, n14, n15]) (good16 c15 h1) <|
  zeroCol M hM 7 (by omega) (offL [n0, n1, n2, n3, n4, n5, n6, n7, n8, n9, n10, n11, n12, n13, n14, n15]) (good16 c15 h1) <|
  K (offL [n0, n1, n2, n3, n4, n5, n6, n7, n8, n9, n10, n11, n12, n13, n14, n15])

/-- The first point's work: the batches packed, the inverse Hessian split, every tile projected. -/
def setup (i : grid0.Coords) (h1 : k0_cond1 i = 1#1) (K : P F α) : P F α :=
  packAll M hM i h1 fun off =>
  smemLoad (Val := Elt F) (M .a22) (Rect.unit (s := S1) ![0] S1.size inb_S1_S1_0) numel1_S1 rfl >>= fun _ =>
  .op (.store (M .a22) (Rect.unit (s := S1) ![0] S1.size inb_S1_S1_0) (fun _ => tilesW off) Finset.univ (View.stores_smem_one rfl numel1_S1) (.inl rfl)) fun _ =>
  ((Scf.Loop.for k0_t1_loop (k0_t1_ok i h1) ⟨⟩ fun t _ => hBody M hM i h1 t) >>= fun _ =>
    smemLoad (Val := Elt F) (M .a22) (Rect.unit (s := S1) ![0] S1.size inb_S1_S1_0) numel1_S1 rfl >>= fun v =>
    .op (TpuEff.assume (k0_chk17 i v) (k0_chk17.dec i v)) fun hw =>
    (.ret ⟨v, hw.down, Scalar.subi v 0#32, Scalar.subi 1#32 1#32⟩ : P F (Σ' (v : BitVec 32) (_ : k0_chk17 i v) (_ : BitVec 32), BitVec 32))) >>= fun r =>
  (Scf.Loop.for (k0_t2_loop r.1) (k0_t2_ok i r.1 r.2.1 h1) ⟨⟩ fun t _ => projBody M hM (tw 0#32 t) (k0_off181_inb i r.1 r.2.1 t h1 1)) >>= fun _ =>
  (Scf.Loop.for (k0_t3_loop r.1) (k0_t3_ok i r.1 r.2.1 h1) ⟨⟩ fun t _ => projBody M hM (tw (k0_t3_loop r.1).lb t) (k0_off192_inb i r.1 r.2.1 t h1 1)) >>= fun _ => K

/-- The sum of the lengths, read. -/
def lenSum (K : BitVec 32 → P F α) : P F α :=
  lenB M 0 (by omega) fun n0 =>
  lenB M 1 (by omega) fun n1 =>
  lenB M 2 (by omega) fun n2 =>
  lenB M 3 (by omega) fun n3 =>
  lenB M 4 (by omega) fun n4 =>
  lenB M 5 (by omega) fun n5 =>
  lenB M 6 (by omega) fun n6 =>
  lenB M 7 (by omega) fun n7 =>
  lenB M 8 (by omega) fun n8 =>
  lenB M 9 (by omega) fun n9 =>
  lenB M 10 (by omega) fun n10 =>
  lenB M 11 (by omega) fun n11 =>
  lenB M 12 (by omega) fun n12 =>
  lenB M 13 (by omega) fun n13 =>
  lenB M 14 (by omega) fun n14 =>
  lenB M 15 (by omega) fun n15 =>
  K (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi 0#32 n0) n1) n2) n3) n4) n5) n6) n7) n8) n9) n10) n11) n12) n13) n14) n15)

/-- The tile count and the number of tokens, read. -/
def counts : P F (Σ' (v3 : Elt F .i32) (k0_hw18 : k0_chk18 v3), F .f32) :=
  smemLoad (Val := Elt F) (M .a22) (Rect.unit (s := S1) ![0] S1.size inb_S1_S1_0) numel1_S1 rfl >>= fun v =>
  .op (TpuEff.assume (k0_chk18 v) (k0_chk18.dec v)) fun hw =>
  lenSum M fun n => .ret ⟨v, hw.down, Scalar.sitofp .f32 n⟩

/-- The start of every point: the setup at the first, then the tile count and the number of tokens. -/
def head (i : grid0.Coords) : P F (Σ' (v3 : Elt F .i32) (k0_hw18 : k0_chk18 v3), F .f32) :=
  if h1 : k0_cond1 i = 1#1 then setup M hM i h1 (counts M) else counts M

/-- The sum of an accumulator over its lanes, over the number of tokens. -/
def lossV (a : FVec F S1x512x128 .f32) (n : F .f32) : FVec F S1x1x512 .f32 :=
  shapeCast S1x1x512 (divf (shapeCast S1x512 (multiReduction .add [0] S512 (transpose S128x512 [1, 0] (shapeCast S512x128 a shapeCasts_S1x512x128_S512x128) transposes_S512x128_p1_0_S128x512) 0x00000000#32 reduces_S128x512_S512 (.inl rfl) rfl : FVec F S512 .f32) shapeCasts_S512_S1x512)
    (broadcast S1x512 n)) shapeCasts_S1x512_S1x1x512

/-- The dequantised weights of a block, then the accumulators cleared. -/
def deqAll (K : P F α) : P F α :=
  .op (.load (M .a7) (Rect.unit (s := S512x512) ![0, 0] S512x512.size inb_S512x512_S512x512_0_0).toLoadRect (View.loadsAt_vmem h_S512x512)) fun (x : Vec F S512x512 .i8) =>
  deqCol M hM 0 0 (by omega) slices_S512x512_o0_0_S512x128 (codeLo x) <|
  deqCol M hM 1 128 (by omega) slices_S512x512_o0_128_S512x128 (codeLo x) <|
  deqCol M hM 2 256 (by omega) slices_S512x512_o0_256_S512x128 (codeLo x) <|
  deqCol M hM 3 384 (by omega) slices_S512x512_o0_384_S512x128 (codeLo x) <|
  deqCol M hM 4 0 (by omega) slices_S512x512_o0_0_S512x128 (codeHi x) <|
  deqCol M hM 5 128 (by omega) slices_S512x512_o0_128_S512x128 (codeHi x) <|
  deqCol M hM 6 256 (by omega) slices_S512x512_o0_256_S512x128 (codeHi x) <|
  deqCol M hM 7 384 (by omega) slices_S512x512_o0_384_S512x128 (codeHi x) <|
  .op (.load (M .a12) (Rect.unit (s := S512x1024) ![0, 0] S512x1024.size inb_S512x1024_S512x1024_0_0).toLoadRect (View.loadsAt_vmem h_S512x1024)) fun _ =>
  .op (.store (M .a12) (Rect.unit (s := S512x1024) ![0, 0] S512x1024.size inb_S512x1024_S512x1024_0_0)
    (shapeCast S512x1024 (broadcast S512x1024 (Scalar.ofBits (F := F) .f32 0x00000000#32)) shapeCasts_S512x1024_S512x1024) Finset.univ (View.stores_vmem_bits_univ h_S512x1024 rfl) (.inl rfl)) fun _ =>
  .op (.load (M .a21) (Rect.unit (s := S2x512x128) ![0, 0, 0] S2x512x128.size inb_S2x512x128_S2x512x128_0_0_0).toLoadRect (View.loadsAt_vmem h_S2x512x128)) fun _ =>
  .op (.store (M .a21) (Rect.unit (s := S2x512x128) ![0, 0, 0] S2x512x128.size inb_S2x512x128_S2x512x128_0_0_0)
    (shapeCast S2x512x128 (broadcast S2x512x128 (Scalar.ofBits (F := F) .f32 0x00000000#32)) shapeCasts_S2x512x128_S2x512x128) Finset.univ (View.stores_vmem_bits_univ h_S2x512x128 rfl) (.inl rfl)) fun _ => K

/-- The corrected weights of a block. -/
def wcV (wq : FVec F S512x1024 .bf16) (dw : FVec F S512x1024 .f32) : FVec F S512x1024 .bf16 :=
  truncf .bf16 (addf (extf .f32 wq bitsLt_bf16_f32) (shapeCast S512x1024 dw shapeCasts_S512x1024_S512x1024)) bitsLt_bf16_f32

/-- The whole body of a point. -/
def body (i : grid0.Coords) : P F PUnit :=
  (head M hM i >>= fun r =>
    deqAll M hM ((Scf.Loop.for (k0_t4_loop r.1) (k0_t4_ok r.1 r.2.1) ⟨⟩ fun t _ => sweepA M (tw 0#32 t) (k0_off205_inb r.1 r.2.1 t 0)) >>= fun _ =>
      (Scf.Loop.for (k0_t5_loop r.1) (k0_t5_ok r.1 r.2.1) ⟨⟩ fun t _ => sweepA M (tw (k0_t5_loop r.1).lb t) (k0_off219_inb r.1 r.2.1 t 0)) >>= fun _ =>
      .op (.load (M .a20) (Rect.unit (s := S512x1024) ![0, 0] S512x1024.size inb_S512x1024_S512x1024_0_0).toLoadRect (View.loadsAt_vmem h_S512x1024)) fun (wq : Vec F S512x1024 .bf16) =>
      .op (.load (M .a12) (Rect.unit (s := S512x1024) ![0, 0] S512x1024.size inb_S512x1024_S512x1024_0_0).toLoadRect (View.loadsAt_vmem h_S512x1024)) fun (dw : Vec F S512x1024 .f32) =>
      .ret (wcV wq dw)) >>= fun wc =>
    .op (.load (M .a9) (Rect.unit (s := S512x1024) ![0, 0] S512x1024.size inb_S512x1024_S512x1024_0_0).toLoadRect (View.loadsAt_vmem h_S512x1024)) fun _ =>
    .op (.store (M .a9) (Rect.unit (s := S512x1024) ![0, 0] S512x1024.size inb_S512x1024_S512x1024_0_0) wc Finset.univ
      (View.stores_vmem h_S512x1024 ((hM .a9).storeExact_slice rfl _ packedbf16_S512x1024_S512x1024_0_0) (fun _ => rfl)) (.inl rfl)) fun _ =>
    (Scf.Loop.for (k0_t6_loop r.1) (k0_t6_ok r.1 r.2.1) ⟨⟩ fun t _ => sweepB M (tw 0#32 t) (k0_off233_inb r.1 r.2.1 t 0)) >>= fun _ =>
    (Scf.Loop.for (k0_t7_loop r.1) (k0_t7_ok r.1 r.2.1) ⟨⟩ fun t _ => sweepB M (tw (k0_t7_loop r.1).lb t) (k0_off244_inb r.1 r.2.1 t 0)) >>= fun _ =>
    .op (.load (M .a21) (Rect.unit (s := S2x512x128) ![0, 0, 0] S1x512x128.size inb_S2x512x128_S1x512x128_0_0_0).toLoadRect (View.loadsAt_vmem h_S1x512x128)) fun (a : Vec F S1x512x128 .f32) =>
    .op (.load (M .a10) (Rect.unit (s := S1x1x512) ![0, 0, 0] S1x1x512.size inb_S1x1x512_S1x1x512_0_0_0).toLoadRect (View.loadsAt_vmem h_S1x1x512)) fun _ =>
    .op (.store (M .a10) (Rect.unit (s := S1x1x512) ![0, 0, 0] S1x1x512.size inb_S1x1x512_S1x1x512_0_0_0) (lossV a r.2.2) Finset.univ (View.stores_vmem_bits_univ h_S1x1x512 rfl) (.inl rfl)) fun _ =>
    .op (.load (M .a21) (Rect.unit (s := S2x512x128) ![1, 0, 0] S1x512x128.size inb_S2x512x128_S1x512x128_1_0_0).toLoadRect (View.loadsAt_vmem h_S1x512x128)) fun (b : Vec F S1x512x128 .f32) =>
    .op (.load (M .a11) (Rect.unit (s := S1x1x512) ![0, 0, 0] S1x1x512.size inb_S1x1x512_S1x1x512_0_0_0).toLoadRect (View.loadsAt_vmem h_S1x1x512)) fun _ =>
    .ret (lossV b r.2.2)) >>= fun v =>
  .op (.store (M .a11) (Rect.unit (s := S1x1x512) ![0, 0, 0] S1x1x512.size inb_S1x1x512_S1x1x512_0_0_0) v Finset.univ (View.stores_vmem_bits_univ h_S1x1x512 rfl) (.inl rfl)) fun _ => .ret ⟨⟩

end Cert.Proof.Lsq
-- ==== Proof.Chk.lean ====
/-
  The words the kernel computes with, as numbers, and the side conditions its assumptions state: every one holds when each
  length is between 0 and 128.
-/
module

public import proofs.«01_k».proof.Proof.Body

@[expose] public section

set_option maxRecDepth 16384

noncomputable section

namespace Cert.Proof.Lsq

open Idealize.ShloMosaic Idealize.ShloMosaic.TcCoe Idealize.ShloMosaic.Tactic
open Cert.KernelIdeal Cert.KernelIdeal.Gen

/-! ## Words as numbers -/

theorem words : ∀ n, n < 2305 → ((floorW (BitVec.ofNat 32 n) 128#32).toNat = n / 128 ∧ (shiftW (BitVec.ofNat 32 n)).toNat = n % 128)
    ∧ (tilesW (BitVec.ofNat 32 n)).toNat = (n + 255) / 256 := by decide +kernel

theorem floor_eq {off : BitVec 32} (h : off.toNat ≤ 2048) : (floorW off 128#32).toNat = off.toNat / 128 := by
  have := (words off.toNat (by omega)).1.1
  rwa [BitVec.ofNat_toNat, BitVec.setWidth_eq] at this
/-- The lane of an offset is its remainder by the width of a scale row. -/
theorem shift_eq {off : BitVec 32} (h : off.toNat ≤ 2048) : (shiftW off).toNat = off.toNat % 128 := by
  have := (words off.toNat (by omega)).1.2
  rwa [BitVec.ofNat_toNat, BitVec.setWidth_eq] at this
/-- The number of tiles is the total offset over the tile height, rounded up. -/
theorem tiles_eq {off : BitVec 32} (h : off.toNat ≤ 2048) : (tilesW off).toNat = (off.toNat + 255) / 256 := by
  have := (words off.toNat (by omega)).2
  rwa [BitVec.ofNat_toNat, BitVec.setWidth_eq] at this
theorem rowS_eq {off : BitVec 32} (h : off.toNat ≤ 2048) : (rowS off).toNat = off.toNat / 128 := floor_eq h
theorem rowS1_eq {off : BitVec 32} (h : off.toNat ≤ 2048) : (rowS1 off).toNat = off.toNat / 128 + 1 := by
  show ((floorW off 128#32 + 1#32 : BitVec 32)).toNat = _
  rw [BitVec.toNat_add, floor_eq h, BitVec.toNat_ofNat]; omega
theorem rowX_eq {off : BitVec 32} (h : off.toNat ≤ 2048) (he : 2 ∣ off.toNat) : (rowX off).toNat = off.toNat := by
  show ((2#32 * (off >>> (1#32).toNat) : BitVec 32)).toNat = _
  rw [BitVec.toNat_mul, BitVec.toNat_ushiftRight, BitVec.toNat_ofNat, BitVec.toNat_ofNat, show 1 % 2 ^ 32 = 1 from rfl, Nat.shiftRight_eq_div_pow, Nat.pow_one]; omega
theorem rowX_le {off : BitVec 32} (h : off.toNat ≤ 2048) : (rowX off).toNat ≤ 2048 := by
  show ((2#32 * (off >>> (1#32).toNat) : BitVec 32)).toNat ≤ _
  rw [BitVec.toNat_mul, BitVec.toNat_ushiftRight, BitVec.toNat_ofNat, BitVec.toNat_ofNat, show 1 % 2 ^ 32 = 1 from rfl, Nat.shiftRight_eq_div_pow, Nat.pow_one]; omega
/-- The next batch's offset, as a number. -/
theorem nxt_eq {off n : BitVec 32} (h : off.toNat ≤ 2048) (hn : n.toNat ≤ 128) :
    (nxt off n).toNat = off.toNat + n.toNat + n.toNat % 2 := by
  show ((off + n + (n &&& 1#32) : BitVec 32)).toNat = _
  have ha : (n &&& 1#32).toNat = n.toNat % 2 := by
    rw [BitVec.toNat_and]; exact Nat.and_one_is_mod _
  rw [BitVec.toNat_add, BitVec.toNat_add, ha]; omega

/-- An offset of at most 2048 keeps every store of its batch inside. -/
theorem good_of_le {off : BitVec 32} (h : off.toNat ≤ 2048) : Good off :=
  ⟨by have := rowX_le h; omega, by rw [rowS_eq h]; omega, by rw [rowS1_eq h]; omega⟩

/-! ## The checks of the offsets -/

/-- The check of an offset's column block. -/
abbrev ColOK (i : grid0.Coords) (off : BitVec 32) (n c : ℕ) : Prop :=
  ∀ _ : k0_cond1 i = 1#1, ∀ a, (![c, (rowX off).toNat, 0] : Fin 3 → ℕ) a + (⟨3, ![1, n, 128]⟩ : Shape).size a ≤ S8x2304x128.size a
abbrev ColPk (i : grid0.Coords) (off : BitVec 32) (n c : ℕ) : Prop :=
  ∀ _ : k0_cond1 i = 1#1, ∀ hinb : ∀ a, (![c, (rowX off).toNat, 0] : Fin 3 → ℕ) a + (⟨3, ![1, n, 128]⟩ : Shape).size a ≤ S8x2304x128.size a,
    (Rect.unit (s := S8x2304x128) ![c, (rowX off).toNat, 0] (⟨3, ![1, n, 128]⟩ : Shape).size hinb).PackedRows (EltTy.packing .bf16)
/-- The check of an offset. -/
def Chk (i : grid0.Coords) (off : BitVec 32) : Prop :=
  ColOK i off 128 0 ∧ ColPk i off 128 0 ∧ ColOK i off 128 1 ∧ ColPk i off 128 1 ∧ ColOK i off 128 2 ∧ ColPk i off 128 2 ∧ ColOK i off 128 3 ∧ ColPk i off 128 3 ∧
  ColOK i off 128 4 ∧ ColPk i off 128 4 ∧ ColOK i off 128 5 ∧ ColPk i off 128 5 ∧ ColOK i off 128 6 ∧ ColPk i off 128 6 ∧ ColOK i off 128 7 ∧ ColPk i off 128 7 ∧
  (∀ _ : k0_cond1 i = 1#1, ∀ a, (![(rowS off).toNat, 0] : Fin 2 → ℕ) a + S1x128.size a ≤ S18x128.size a) ∧
  (∀ _ : k0_cond1 i = 1#1, ∀ a, (![(rowS1 off).toNat, 0] : Fin 2 → ℕ) a + S1x128.size a ≤ S18x128.size a)
/-- The check of the total offset. -/
def ChkZ (i : grid0.Coords) (off : BitVec 32) : Prop :=
  ColOK i off 256 0 ∧ ColPk i off 256 0 ∧ ColOK i off 256 1 ∧ ColPk i off 256 1 ∧ ColOK i off 256 2 ∧ ColPk i off 256 2 ∧ ColOK i off 256 3 ∧ ColPk i off 256 3 ∧
  ColOK i off 256 4 ∧ ColPk i off 256 4 ∧ ColOK i off 256 5 ∧ ColPk i off 256 5 ∧ ColOK i off 256 6 ∧ ColPk i off 256 6 ∧ ColOK i off 256 7 ∧ ColPk i off 256 7

theorem colOK {i : grid0.Coords} {off : BitVec 32} {n c : ℕ} (hc : c < 8) (h : (rowX off).toNat + n ≤ 2304) : ColOK i off n c :=
  fun _ => inb3 (by omega) h (by omega)
theorem colPk {i : grid0.Coords} {off : BitVec 32} {n c : ℕ} (hn : 2 ∣ n) : ColPk i off n c := fun _ hinb => packedX (rowX_even off) hn hinb
theorem chk_of {i : grid0.Coords} {off : BitVec 32} (h : off.toNat ≤ 2048) : Chk i off := by
  have g := good_of_le h
  have d : 2 ∣ 128 := by decide
  exact ⟨colOK (by decide) g.x, colPk d, colOK (by decide) g.x, colPk d, colOK (by decide) g.x, colPk d, colOK (by decide) g.x, colPk d,
    colOK (by decide) g.x, colPk d, colOK (by decide) g.x, colPk d, colOK (by decide) g.x, colPk d, colOK (by decide) g.x, colPk d,
    fun _ => inb2 g.s (by omega), fun _ => inb2 g.s1 (by omega)⟩
theorem chkZ_of {i : grid0.Coords} {off : BitVec 32} (h : off.toNat ≤ 2048) : ChkZ i off := by
  have g : (rowX off).toNat + 256 ≤ 2304 := by have := rowX_le h; omega
  have d : 2 ∣ 256 := by decide
  exact ⟨colOK (by decide) g, colPk d, colOK (by decide) g, colPk d, colOK (by decide) g, colPk d, colOK (by decide) g, colPk d,
    colOK (by decide) g, colPk d, colOK (by decide) g, colPk d, colOK (by decide) g, colPk d, colOK (by decide) g, colPk d⟩

variable {i : grid0.Coords} {n0 n1 n2 n3 n4 n5 n6 n7 n8 n9 n10 n11 n12 n13 n14 n15 : BitVec 32}
theorem chk1_eq : k0_chk1 i n0 = Chk i (offL [n0]) := by chain_rfl
theorem chk2_eq : k0_chk2 i n0 n1 = Chk i (offL [n0, n1]) := by chain_rfl
theorem chk3_eq : k0_chk3 i n0 n1 n2 = Chk i (offL [n0, n1, n2]) := by chain_rfl
theorem chk4_eq : k0_chk4 i n0 n1 n2 n3 = Chk i (offL [n0, n1, n2, n3]) := by chain_rfl
theorem chk5_eq : k0_chk5 i n0 n1 n2 n3 n4 = Chk i (offL [n0, n1, n2, n3, n4]) := by chain_rfl
theorem chk6_eq : k0_chk6 i n0 n1 n2 n3 n4 n5 = Chk i (offL [n0, n1, n2, n3, n4, n5]) := by chain_rfl
theorem chk7_eq : k0_chk7 i n0 n1 n2 n3 n4 n5 n6 = Chk i (offL [n0, n1, n2, n3, n4, n5, n6]) := by chain_rfl
theorem chk8_eq : k0_chk8 i n0 n1 n2 n3 n4 n5 n6 n7 = Chk i (offL [n0, n1, n2, n3, n4, n5, n6, n7]) := by chain_rfl
theorem chk9_eq : k0_chk9 i n0 n1 n2 n3 n4 n5 n6 n7 n8 = Chk i (offL [n0, n1, n2, n3, n4, n5, n6, n7, n8]) := by chain_rfl
theorem chk10_eq : k0_chk10 i n0 n1 n2 n3 n4 n5 n6 n7 n8 n9 = Chk i (offL [n0, n1, n2, n3, n4, n5, n6, n7, n8, n9]) := by chain_rfl
theorem chk11_eq : k0_chk11 i n0 n1 n2 n3 n4 n5 n6 n7 n8 n9 n10 = Chk i (offL [n0, n1, n2, n3, n4, n5, n6, n7, n8, n9, n10]) := by chain_rfl
theorem chk12_eq : k0_chk12 i n0 n1 n2 n3 n4 n5 n6 n7 n8 n9 n10 n11 = Chk i (offL [n0, n1, n2, n3, n4, n5, n6, n7, n8, n9, n10, n11]) := by chain_rfl
theorem chk13_eq : k0_chk13 i n0 n1 n2 n3 n4 n5 n6 n7 n8 n9 n10 n11 n12 = Chk i (offL [n0, n1, n2, n3, n4, n5, n6, n7, n8, n9, n10, n11, n12]) := by chain_rfl
theorem chk14_eq : k0_chk14 i n0 n1 n2 n3 n4 n5 n6 n7 n8 n9 n10 n11 n12 n13 = Chk i (offL [n0, n1, n2, n3, n4, n5, n6, n7, n8, n9, n10, n11, n12, n13]) := by chain_rfl
theorem chk15_eq : k0_chk15 i n0 n1 n2 n3 n4 n5 n6 n7 n8 n9 n10 n11 n12 n13 n14 = Chk i (offL [n0, n1, n2, n3, n4, n5, n6, n7, n8, n9, n10, n11, n12, n13, n14]) := by chain_rfl
theorem chk16_eq : k0_chk16 i n0 n1 n2 n3 n4 n5 n6 n7 n8 n9 n10 n11 n12 n13 n14 n15 = ChkZ i (offL [n0, n1, n2, n3, n4, n5, n6, n7, n8, n9, n10, n11, n12, n13, n14, n15]) := by chain_rfl

/-! ## The loops over the tiles -/

theorem loops : ∀ n, n < 9 → (k0_t2_loop (BitVec.ofNat 32 n) = ⟨0#32, BitVec.ofNat 32 n, 1#32⟩ ∧ k0_t3_loop (BitVec.ofNat 32 n) = ⟨BitVec.ofNat 32 n, BitVec.ofNat 32 n, 1#32⟩)
    ∧ (k0_t4_loop (BitVec.ofNat 32 n) = ⟨0#32, BitVec.ofNat 32 n, 1#32⟩ ∧ k0_t5_loop (BitVec.ofNat 32 n) = ⟨BitVec.ofNat 32 n, BitVec.ofNat 32 n, 1#32⟩)
    ∧ (k0_t6_loop (BitVec.ofNat 32 n) = ⟨0#32, BitVec.ofNat 32 n, 1#32⟩ ∧ k0_t7_loop (BitVec.ofNat 32 n) = ⟨BitVec.ofNat 32 n, BitVec.ofNat 32 n, 1#32⟩) := by
  intro n hn
  match n, hn with
  | 0, _ => exact ⟨⟨rfl, rfl⟩, ⟨rfl, rfl⟩, rfl, rfl⟩
  | 1, _ => exact ⟨⟨rfl, rfl⟩, ⟨rfl, rfl⟩, rfl, rfl⟩
  | 2, _ => exact ⟨⟨rfl, rfl⟩, ⟨rfl, rfl⟩, rfl, rfl⟩
  | 3, _ => exact ⟨⟨rfl, rfl⟩, ⟨rfl, rfl⟩, rfl, rfl⟩
  | 4, _ => exact ⟨⟨rfl, rfl⟩, ⟨rfl, rfl⟩, rfl, rfl⟩
  | 5, _ => exact ⟨⟨rfl, rfl⟩, ⟨rfl, rfl⟩, rfl, rfl⟩
  | 6, _ => exact ⟨⟨rfl, rfl⟩, ⟨rfl, rfl⟩, rfl, rfl⟩
  | 7, _ => exact ⟨⟨rfl, rfl⟩, ⟨rfl, rfl⟩, rfl, rfl⟩
  | 8, _ => exact ⟨⟨rfl, rfl⟩, ⟨rfl, rfl⟩, rfl, rfl⟩

theorem tripsA : ∀ n, n < 9 → Scf.trips 0#32 (BitVec.ofNat 32 n) 1#32 = n ∧ Scf.trips (BitVec.ofNat 32 n) (BitVec.ofNat 32 n) 1#32 = 0 ∧
    Scf.OK 0#32 (BitVec.ofNat 32 n) 1#32 ∧ Scf.OK (BitVec.ofNat 32 n) (BitVec.ofNat 32 n) 1#32 := by decide +kernel

/-- A loop from 0 to a tile count, and the empty loop after it. -/
structure Lp (w : BitVec 32) (l l' : Scf.Loop 32) : Prop where
  n : l.trips = w.toNat
  z : l'.trips = 0
  ok : l.OK
  ok' : l'.OK

theorem lp_of {w : BitVec 32} (h : w.toNat ≤ 8) {l l' : Scf.Loop 32} (e : l = ⟨0#32, w, 1#32⟩) (e' : l' = ⟨w, w, 1#32⟩) : Lp w l l' := by
  have t := tripsA w.toNat (by omega)
  rw [BitVec.ofNat_toNat, BitVec.setWidth_eq] at t
  subst e; subst e'
  exact ⟨t.1, t.2.1, t.2.2.1, t.2.2.2⟩
theorem lps {w : BitVec 32} (h : w.toNat ≤ 8) : Lp w (k0_t2_loop w) (k0_t3_loop w) ∧ Lp w (k0_t4_loop w) (k0_t5_loop w) ∧ Lp w (k0_t6_loop w) (k0_t7_loop w) := by
  have t := loops w.toNat (by omega)
  rw [BitVec.ofNat_toNat, BitVec.setWidth_eq] at t
  exact ⟨lp_of h t.1.1 t.1.2, lp_of h t.2.1.1 t.2.1.2, lp_of h t.2.2.1 t.2.2.2⟩

/-- The tile word of a trip is the trip's number. -/
theorem tw_eq {n : ℕ} (hn : n ≤ 8) (t : Fin n) : (tw 0#32 t).toNat = t.val := by
  have := t.isLt
  show ((0#32 + (0#32 + BitVec.ofNat 32 t.val * 1#32) * 1#32 : BitVec 32)).toNat = _
  simp only [BitVec.zero_add, BitVec.mul_one, BitVec.toNat_ofNat]; omega
theorem tw_good {n : ℕ} (hn : n ≤ 8) (t : Fin n) : GoodT (tw 0#32 t) := by
  show (tw 0#32 t).toNat + 1 ≤ 8
  rw [tw_eq hn]; have := t.isLt; omega
theorem mult_tile {w : BitVec 32} (g : GoodT w) : 256 ∣ (Scalar.muli w 256#32).toNat := by
  have := rowT_eq g
  exact ⟨w.toNat, this⟩

theorem tokOK {w : BitVec 32} (g : GoodT w) {c : ℕ} (hc : c < 8) : ∀ a, (![c, (rowT w).toNat, 0] : Fin 3 → ℕ) a + S1x256x128.size a ≤ S8x2304x128.size a :=
  inb3 (by omega) g.tok (by omega)
theorem pOK {w : BitVec 32} (g : GoodT w) {p : ℕ} (hp : p < 3) : ∀ a, (![p, (Scalar.indexCast w : Index).toNat, 0, 0] : Fin 4 → ℕ) a + S1x1x256x1024.size a ≤ S3x8x256x1024.size a :=
  inb4 (by omega) g (by omega) (by omega)

/-- The check of the tile count before the projection. -/
theorem chk17_of {w : BitVec 32} (h : w.toNat ≤ 8) : k0_chk17 i w := by
  have L := (lps h).1
  have g : ∀ t : Fin (k0_t2_loop w).trips, GoodT (tw 0#32 t) := fun t => tw_good (by have := L.n; omega) t
  have z : ∀ t : Fin (k0_t3_loop w).trips, False := fun t => absurd (lt_of_lt_of_eq t.isLt L.z) (Nat.not_lt_zero _)
  exact ⟨fun _ => L.ok, fun t _ => mult_tile (g t), fun t _ => tokOK (g t) (by decide), fun t _ => tokOK (g t) (by decide), fun t _ => tokOK (g t) (by decide),
    fun t _ => tokOK (g t) (by decide), fun t _ => tokOK (g t) (by decide), fun t _ => tokOK (g t) (by decide), fun t _ => tokOK (g t) (by decide),
    fun t _ => tokOK (g t) (by decide), fun t _ => pOK (g t) (by decide), fun t _ hi => packedP hi, fun t _ => pOK (g t) (by decide), fun t _ hi => packedP hi,
    fun t _ => pOK (g t) (by decide), fun t _ hi => packedP hi, fun _ => L.ok', fun t => (z t).elim, fun t => (z t).elim, fun t => (z t).elim, fun t => (z t).elim,
    fun t => (z t).elim, fun t => (z t).elim, fun t => (z t).elim, fun t => (z t).elim, fun t => (z t).elim, fun t => (z t).elim, fun t => (z t).elim,
    fun t => (z t).elim, fun t => (z t).elim, fun t => (z t).elim, fun t => (z t).elim⟩

/-- The check of the tile count before the sweeps. -/
theorem chk18_of {w : BitVec 32} (h : w.toNat ≤ 8) : k0_chk18 w := by
  have L := (lps h).2.1
  have L' := (lps h).2.2
  have g : ∀ t : Fin (k0_t4_loop w).trips, GoodT (tw 0#32 t) := fun t => tw_good (by have := L.n; omega) t
  have z : ∀ t : Fin (k0_t5_loop w).trips, False := fun t => absurd (lt_of_lt_of_eq t.isLt L.z) (Nat.not_lt_zero _)
  have g' : ∀ t : Fin (k0_t6_loop w).trips, GoodT (tw 0#32 t) := fun t => tw_good (by have := L'.n; omega) t
  have z' : ∀ t : Fin (k0_t7_loop w).trips, False := fun t => absurd (lt_of_lt_of_eq t.isLt L'.z) (Nat.not_lt_zero _)
  unfold k0_chk18 k0_chk18_0 k0_chk18_1
  refine ⟨⟨L.ok, fun t => mult_tile (g t), fun t => tokOK (g t) (by decide), fun t => tokOK (g t) (by decide), fun t => tokOK (g t) (by decide),
    fun t => tokOK (g t) (by decide), fun t => tokOK (g t) (by decide), fun t => tokOK (g t) (by decide), fun t => tokOK (g t) (by decide),
    fun t => tokOK (g t) (by decide), fun t => mult_tile (g t), fun t => inb2 (g t).v (by omega), fun t => inb2 (g t).v1 (by omega),
    fun t => inb3 (g t) (by omega) (by omega), fun t => pOK (g t) (by decide), fun t => pOK (g t) (by decide), fun t => pOK (g t) (by decide), L.ok', ?_⟩, ?_⟩
  · repeat' apply And.intro
    all_goals exact fun t => (z t).elim
  · refine ⟨fun t => (z t).elim, fun t => (z t).elim, L'.ok, fun t => mult_tile (g' t), fun t => tokOK (g' t) (by decide), fun t => tokOK (g' t) (by decide), fun t => tokOK (g' t) (by decide),
      fun t => tokOK (g' t) (by decide), fun t => tokOK (g' t) (by decide), fun t => tokOK (g' t) (by decide), fun t => tokOK (g' t) (by decide),
      fun t => tokOK (g' t) (by decide), fun t => inb2 (g' t).v (by omega), fun t => inb2 (g' t).v1 (by omega),
      fun t => inb3 (g' t) (by omega) (by omega), L'.ok', ?_⟩
    repeat' apply And.intro
    all_goals exact fun t => (z' t).elim

end Cert.Proof.Lsq
-- ==== Proof.Spec.lean ====
/-
  Where the packed rows lie, as functions: batch `b` starts at row `off L b`, and a row of the packed buffers, of the
  scale rows and of the mask rows is the token of the batch it falls in. The step theorems say that one batch's stores
  carry the description from the batches before to the batches up to it.
-/
module

public import proofs.«01_k».proof.Proof.Chk
public import Idealize.ShloMosaic.Lib.Pipeline.Value
public import Idealize.ShloMosaic.Lib.ValueIdxCore
public import Idealize.ShloMosaic.Lib.WordCmp
public import Idealize.ShloMosaic.Lib.KernelVsHost

@[expose] public section

set_option maxRecDepth 16384

noncomputable section

namespace Cert.Proof.Lsq

open Idealize.ShloMosaic Idealize.ShloMosaic.TcCoe Idealize.ShloMosaic.Tactic
open Idealize.ShloMosaic.ValueIdx (ix1 ix2 ix3 eq_ix2 eq_ix3)
open Idealize.ShloMosaic.WordCmp
open Cert.KernelIdeal Cert.KernelIdeal.Gen

/-! ## Rectangles of unit stride -/

theorem wr_unit_in {s : Shape} {α : Type} (X : s.Idx → α) {o size : Fin s.rank → ℕ} {inb} (w : (Rect.unit (s := s) o size inb).shape.Idx → α) (i : s.Idx)
    (h : ∀ a, o a ≤ (i a).val ∧ (i a).val < o a + size a) : wr X (Rect.unit o size inb) w i = w fun a => ⟨(i a).val - o a, by have := h a; show _ < size a; omega⟩ := by
  rw [← wr_emb X (Rect.unit o size inb) w]
  congr 1
  funext a
  apply Fin.ext
  have := h a
  show (i a).val = o a + 1 * ((i a).val - o a)
  omega
theorem wr_unit_out {s : Shape} {α : Type} (X : s.Idx → α) {o size : Fin s.rank → ℕ} {inb} (w : (Rect.unit (s := s) o size inb).shape.Idx → α) (i : s.Idx)
    (a : Fin s.rank) (h : (i a).val < o a ∨ o a + size a ≤ (i a).val) : wr X (Rect.unit o size inb) w i = X i := by
  refine wr_off _ _ _ _ fun y hy => ?_
  have e : (i a).val = o a + 1 * (y a).val := by rw [← hy]; rfl
  have hl : (y a).val < size a := (y a).isLt
  omega
/-- A store of the whole buffer. -/
theorem wr_unit_all {s : Shape} {α : Type} (X : s.Idx → α) {o : Fin s.rank → ℕ} {inb} (w : (Rect.unit (s := s) o s.size inb).shape.Idx → α) :
    wr X (Rect.unit o s.size inb) w = w := by
  funext i
  have ho : ∀ a, o a = 0 := fun a => by have := inb a; omega
  rw [wr_unit_in X w i fun a => by have := (i a).isLt; rw [ho a]; omega]
  congr 1
  funext a
  apply Fin.ext
  show (i a).val - o a = _
  rw [ho a]; rfl
/-- A load of the whole buffer. -/
theorem rd_unit_all {s : Shape} {α : Type} (X : s.Idx → α) {o : Fin s.rank → ℕ} {inb} :
    (fun x => X ((Rect.unit (s := s) o s.size inb).toLoadRect.idx x)) = X := by
  funext i
  have ho : ∀ a, o a = 0 := fun a => by have := inb a; omega
  congr 1
  funext a
  apply Fin.ext
  show o a + 1 * (i a).val = _
  rw [ho a]; omega

/-! ## Offsets -/

/-- The length of batch `b`. -/
def ln (L : S16.Idx → BitVec 32) (b : ℕ) : BitVec 32 := L (ix1 (Fin.ofNat 16 b))
/-- The packed row batch `b` starts at. -/
def off (L : S16.Idx → BitVec 32) : ℕ → BitVec 32
  | 0 => 0#32
  | b + 1 => nxt (off L b) (ln L b)
/-- Every length is at most 128. -/
def LensOK (L : S16.Idx → BitVec 32) : Prop := ∀ b, (ln L b).toNat ≤ 128

variable {L : S16.Idx → BitVec 32}

theorem off_le (hL : LensOK L) : ∀ b, b ≤ 16 → (off L b).toNat ≤ 128 * b ∧ 2 ∣ (off L b).toNat
  | 0, _ => ⟨Nat.le_refl 0, ⟨0, rfl⟩⟩
  | b + 1, h => by
    have ih := off_le hL b (by omega)
    have hn := hL b
    have e : (off L (b + 1)).toNat = _ := nxt_eq (off := off L b) (n := ln L b) (by omega) hn
    rw [e]; omega
theorem off_le' (hL : LensOK L) {b : ℕ} (hb : b ≤ 16) : (off L b).toNat ≤ 2048 := by have := (off_le hL b hb).1; omega
theorem off_succ (hL : LensOK L) {b : ℕ} (hb : b < 16) : (off L (b + 1)).toNat = (off L b).toNat + (ln L b).toNat + (ln L b).toNat % 2 :=
  nxt_eq (off := off L b) (n := ln L b) (off_le' hL (by omega)) (hL b)
theorem off_mono (hL : LensOK L) {a : ℕ} : ∀ {b : ℕ}, a ≤ b → b ≤ 16 → (off L a).toNat ≤ (off L b).toNat
  | 0, h, _ => by have : a = 0 := by omega
                  subst this; exact Nat.le_refl _
  | b + 1, h, hb => by
    rcases Nat.eq_or_lt_of_le h with rfl | h'
    · exact Nat.le_refl _
    · have := off_mono hL (a := a) (b := b) (by omega) (by omega)
      rw [off_succ hL (by omega)]; omega

/-- The last batch, up to `k`, that starts at or before row `t`. -/
def batN (L : S16.Idx → BitVec 32) (t : ℕ) : ℕ → ℕ
  | 0 => 0
  | k + 1 => if (off L (k + 1)).toNat ≤ t then k + 1 else batN L t k
def bat (L : S16.Idx → BitVec 32) (t : ℕ) : ℕ := batN L t 15

theorem batN_le (t : ℕ) : ∀ k, batN L t k ≤ k ∧ (off L (batN L t k)).toNat ≤ t
  | 0 => ⟨Nat.le_refl _, Nat.zero_le _⟩
  | k + 1 => by
    unfold batN
    split
    · exact ⟨Nat.le_refl _, by assumption⟩
    · have := batN_le t k; exact ⟨by omega, this.2⟩
theorem bat_le (t : ℕ) : bat L t ≤ 15 ∧ (off L (bat L t)).toNat ≤ t := batN_le t 15
theorem batN_eq (hL : LensOK L) {b t : ℕ} (h1 : (off L b).toNat ≤ t) (h2 : t < (off L (b + 1)).toNat) (hb : b < 16) :
    ∀ k, k ≤ 15 → batN L t k = min b k
  | 0, _ => by simp [batN]
  | k + 1, hk => by
    unfold batN
    split
    · rename_i h
      have : k + 1 ≤ b := by
        by_contra hc
        have := off_mono hL (a := b + 1) (b := k + 1) (by omega) (by omega)
        omega
      omega
    · rename_i h
      rw [batN_eq hL h1 h2 hb k (by omega)]
      have : ¬ k + 1 ≤ b := fun hc => h (Nat.le_trans (off_mono hL hc (by omega)) h1)
      omega
/-- The batch of a row. -/
theorem bat_eq (hL : LensOK L) {b t : ℕ} (hb : b < 16) (h1 : (off L b).toNat ≤ t) (h2 : t < (off L (b + 1)).toNat) : bat L t = b := by
  unfold bat; rw [batN_eq hL h1 h2 hb 15 (Nat.le_refl _)]; omega
theorem bat_last {t : ℕ} (h : (off L 15).toNat ≤ t) : bat L t = 15 := by
  unfold bat batN; rw [if_pos h]

/-! ## The packed rows -/

section Pack
variable {α : Type} (z : α) (u : S2048x1024.Idx → α)

/-- The packed buffer of an array: every row up to the total offset its batch's, the rows after it `z`. -/
def pk (L : S16.Idx → BitVec 32) : S8x2304x128.Idx → α := fun i =>
  if (i 1).val < (off L 16).toNat then
    u (ix2 (Fin.ofNat 2048 (128 * bat L (i 1).val + ((i 1).val - (off L (bat L (i 1).val)).toNat))) (Fin.ofNat 1024 (128 * (i 0).val + (i 2).val)))
  else z

/-- The buffer holds the packed rows of the batches before `b`, and of batch `b` in its first `c` column blocks. -/
def XI (L : S16.Idx → BitVec 32) (b c : ℕ) (X : S8x2304x128.Idx → α) : Prop :=
  ∀ i, ((i 1).val < (off L b).toNat ∨ ((i 1).val < (off L (b + 1)).toNat ∧ (i 0).val < c)) → X i = pk z u L i
/-- The buffer holds every packed row, and the rows after them in its first `c` column blocks. -/
def XZ (L : S16.Idx → BitVec 32) (c : ℕ) (X : S8x2304x128.Idx → α) : Prop :=
  ∀ i, ((i 1).val < (off L 16).toNat ∨ ((i 1).val < (off L 16).toNat + 256 ∧ (i 0).val < c)) → X i = pk z u L i

variable {z u}

theorem XI_next {b : ℕ} {X : S8x2304x128.Idx → α} (h : XI z u L b 8 X) : XI z u L (b + 1) 0 X := fun i hi => h i (.inr ⟨by
  rcases hi with h | h
  · exact h
  · exact absurd h.2 (Nat.not_lt_zero _), (i 0).isLt⟩)
theorem XI_last {X : S8x2304x128.Idx → α} (h : XI z u L 15 8 X) : XZ z u L 0 X := fun i hi => h i (.inr ⟨by
  rcases hi with h | h
  · exact h
  · exact absurd h.2 (Nat.not_lt_zero _), (i 0).isLt⟩)

/-- One column block of a batch stored. -/
theorem XI_step (hL : LensOK L) {b c : ℕ} (hb : b < 16) (hc : c < 8) {X : S8x2304x128.Idx → α} (hX : XI z u L b c X) {inb}
    {w : S1x128x128.Idx → α} (hw : ∀ (k l : Fin 128), w (ix3 0 k l) = u (ix2 (Fin.ofNat 2048 (128 * b + k.val)) (Fin.ofNat 1024 (128 * c + l.val)))) :
    XI z u L b (c + 1) (wr X (Rect.unit (s := S8x2304x128) ![c, (rowX (off L b)).toNat, 0] S1x128x128.size inb) w) := by
  intro i hi
  have hr := rowX_eq (off_le' hL (b := b) (by omega)) (off_le hL b (by omega)).2
  have hs := off_succ hL hb
  have hn := hL b
  have hm := off_mono hL (a := b + 1) (b := 16) (by omega) (by omega)
  have i2 : (i 2).val < 128 := (i 2).isLt
  by_cases hin : (i 0).val = c ∧ (off L b).toNat ≤ (i 1).val
  · have h1 : (i 1).val < (off L (b + 1)).toNat := by omega
    rw [wr_unit_in (o := ![c, (rowX (off L b)).toNat, 0]) (size := S1x128x128.size) (inb := inb) X w i fun a => match a with
      | ⟨0, _⟩ => ⟨by show c ≤ (i 0).val; omega, by show (i 0).val < c + 1; omega⟩
      | ⟨1, _⟩ => ⟨by show (rowX _).toNat ≤ (i 1).val; omega, by show (i 1).val < (rowX _).toNat + 128; omega⟩
      | ⟨2, _⟩ => ⟨Nat.zero_le _, by show (i 2).val < 0 + 128; omega⟩]
    have hk : (i 1).val - (rowX (off L b)).toNat < 128 := by omega
    refine Eq.trans (congrArg w ?_) ((hw ⟨(i 1).val - (rowX (off L b)).toNat, hk⟩ (i 2)).trans ?_)
    · rw [eq_ix3 (n0 := 1) (n1 := 128) (n2 := 128) (fun a => _)]
      congr 1
      exact Fin.ext (by show (i 0).val - c = 0; omega)
    · unfold pk
      rw [if_pos (by omega), bat_eq hL hb hin.2 h1, hin.1]
      show u (ix2 (Fin.ofNat 2048 (128 * b + ((i 1).val - (rowX (off L b)).toNat))) _) = _
      rw [hr]
  · rcases hi with h | ⟨h, h'⟩
    · rw [wr_unit_out (o := ![c, (rowX (off L b)).toNat, 0]) (size := S1x128x128.size) (inb := inb) X w i 1 (.inl (by show _ < (rowX _).toNat; omega))]
      exact hX i (.inl h)
    · by_cases h0 : (i 0).val = c
      · rw [wr_unit_out (o := ![c, (rowX (off L b)).toNat, 0]) (size := S1x128x128.size) (inb := inb) X w i 1 (.inl (by show _ < (rowX _).toNat; omega))]
        exact hX i (.inl (by omega))
      · rw [wr_unit_out (o := ![c, (rowX (off L b)).toNat, 0]) (size := S1x128x128.size) (inb := inb) X w i 0 (.inl (by show (i 0).val < c; omega))]
        exact hX i (.inr ⟨h, by omega⟩)

/-- One column block of the rows after the last batch stored. -/
theorem XZ_step (hL : LensOK L) {c : ℕ} {X : S8x2304x128.Idx → α} (hX : XZ z u L c X) {inb} {w : S1x256x128.Idx → α} (hw : ∀ x, w x = z) :
    XZ z u L (c + 1) (wr X (Rect.unit (s := S8x2304x128) ![c, (rowX (off L 16)).toNat, 0] S1x256x128.size inb) w) := by
  intro i hi
  have hr := rowX_eq (off_le' hL (b := 16) (by omega)) (off_le hL 16 (by omega)).2
  have i2 : (i 2).val < 128 := (i 2).isLt
  by_cases hin : (i 0).val = c ∧ (off L 16).toNat ≤ (i 1).val
  · rw [wr_unit_in (o := ![c, (rowX (off L 16)).toNat, 0]) (size := S1x256x128.size) (inb := inb) X w i fun a => match a with
      | ⟨0, _⟩ => ⟨by show c ≤ (i 0).val; omega, by show (i 0).val < c + 1; omega⟩
      | ⟨1, _⟩ => ⟨by show (rowX _).toNat ≤ (i 1).val; omega, by show (i 1).val < (rowX _).toNat + 256; omega⟩
      | ⟨2, _⟩ => ⟨Nat.zero_le _, by show (i 2).val < 0 + 128; omega⟩, hw]
    unfold pk
    rw [if_neg (by omega)]
  · rcases hi with h | ⟨h, h'⟩
    · rw [wr_unit_out (o := ![c, (rowX (off L 16)).toNat, 0]) (size := S1x256x128.size) (inb := inb) X w i 1 (.inl (by show _ < (rowX _).toNat; omega))]
      exact hX i (.inl h)
    · by_cases h0 : (i 0).val = c
      · rw [wr_unit_out (o := ![c, (rowX (off L 16)).toNat, 0]) (size := S1x256x128.size) (inb := inb) X w i 1 (.inl (by show _ < (rowX _).toNat; omega))]
        exact hX i (.inl (by omega))
      · rw [wr_unit_out (o := ![c, (rowX (off L 16)).toNat, 0]) (size := S1x256x128.size) (inb := inb) X w i 0 (.inl (by show (i 0).val < c; omega))]
        exact hX i (.inr ⟨h, by omega⟩)
end Pack

/-! ## The scale rows and the mask rows -/

theorem shiftn {off n : BitVec 32} (h : off.toNat ≤ 2048) (hn : n.toNat ≤ 128) :
    (Scalar.addi (shiftW off) n).toNat = off.toNat % 128 + n.toNat := by
  show (shiftW off + n : BitVec 32).toNat = _
  rw [BitVec.toNat_add, shift_eq h]; omega
theorem lane (j : S1x128.Idx) : iota .tc S1x128 32 [1] iota_S1x128_d1_w32 j = BitVec.ofNat 32 (j 1).val := iota_single_apply _ _ _ _ _ _

theorem maskA_iff {off n : BitVec 32} (h : off.toNat ≤ 2048) (hn : n.toNat ≤ 128) (j : S1x128.Idx) :
    maskA off n j = 1 ↔ (off.toNat % 128 ≤ (j 1).val ∧ (j 1).val < off.toNat % 128 + n.toNat) := by
  have hj : (j 1).val < 128 := (j 1).isLt
  have e1 : IntOp.cmpi .sge (BitVec.ofNat 32 (j 1).val) (shiftW off) = BitVec.ofBool (decide (off.toNat % 128 ≤ (j 1).val)) := by
    rw [cmpi_sge_of_lt (by rw [BitVec.toNat_ofNat]; omega) (by rw [shift_eq h]; omega), shift_eq h, BitVec.toNat_ofNat, Nat.mod_eq_of_lt (show (j 1).val < 2 ^ 32 by omega)]
  have e2 : IntOp.cmpi .slt (BitVec.ofNat 32 (j 1).val) (Scalar.addi (shiftW off) n) = BitVec.ofBool (decide ((j 1).val < off.toNat % 128 + n.toNat)) := by
    rw [cmpi_slt_of_lt (by rw [BitVec.toNat_ofNat]; omega) (by rw [shiftn h hn]; omega), shiftn h hn, BitVec.toNat_ofNat, Nat.mod_eq_of_lt (show (j 1).val < 2 ^ 32 by omega)]
  show IntOp.andi (IntOp.cmpi .sge (iota .tc S1x128 32 [1] iota_S1x128_d1_w32 j) (shiftW off)) (IntOp.cmpi .slt (iota .tc S1x128 32 [1] iota_S1x128_d1_w32 j) (Scalar.addi (shiftW off) n)) = 1 ↔ _
  rw [lane, e1, e2]
  by_cases a : off.toNat % 128 ≤ (j 1).val <;> by_cases b : (j 1).val < off.toNat % 128 + n.toNat <;> simp [a, b, IntOp.andi]
theorem maskB_iff {off n : BitVec 32} (h : off.toNat ≤ 2048) (hn : n.toNat ≤ 128) (j : S1x128.Idx) :
    maskB off n j = 1 ↔ (j 1).val + 128 < off.toNat % 128 + n.toNat := by
  have hj : (j 1).val < 128 := (j 1).isLt
  have e0 : (Scalar.subi (Scalar.addi (shiftW off) n) 128#32).toInt = (off.toNat % 128 + n.toNat : ℕ) - 128 := by
    have hs := shiftn h hn
    show (Scalar.addi (shiftW off) n - 128#32 : BitVec 32).toInt = _
    rw [BitVec.toInt_sub, BitVec.toInt_eq_toNat_cond, hs, if_pos (by omega), show (128#32).toInt = 128 from rfl, Int.bmod_def]
    omega
  have e2 : IntOp.cmpi .slt (BitVec.ofNat 32 (j 1).val) (Scalar.subi (Scalar.addi (shiftW off) n) 128#32) = BitVec.ofBool (decide ((j 1).val + 128 < off.toNat % 128 + n.toNat)) := by
    rw [cmpi_slt_eq, e0, BitVec.toInt_eq_toNat_cond, BitVec.toNat_ofNat, Nat.mod_eq_of_lt (show (j 1).val < 2 ^ 32 by omega), if_pos (by omega)]
    congr 1
    exact decide_eq_decide.mpr (by omega)
  show IntOp.cmpi .slt (iota .tc S1x128 32 [1] iota_S1x128_d1_w32 j) (Scalar.subi (Scalar.addi (shiftW off) n) 128#32) = 1 ↔ _
  rw [lane, e2]
  by_cases b : (j 1).val + 128 < off.toNat % 128 + n.toNat <;> simp [b]

section Rows
variable {α : Type} (z : α) (v : ℕ → ℕ → α)

/-- The scale or mask rows: at a token's place the token's value, elsewhere `z`. -/
def rw18 (L : S16.Idx → BitVec 32) : S18x128.Idx → α := fun i =>
  if 128 * (i 0).val + (i 1).val < (off L (bat L (128 * (i 0).val + (i 1).val))).toNat + (ln L (bat L (128 * (i 0).val + (i 1).val))).toNat then
    v (bat L (128 * (i 0).val + (i 1).val)) (128 * (i 0).val + (i 1).val - (off L (bat L (128 * (i 0).val + (i 1).val))).toNat)
  else z
/-- The rows hold the values of the batches before `b`, and `z` after them. -/
def QI (L : S16.Idx → BitVec 32) (b : ℕ) (X : S18x128.Idx → α) : Prop :=
  ∀ i, X i = if 128 * (i 0).val + (i 1).val < (off L b).toNat then rw18 z v L i else z

variable {z v}

theorem QI_zero {X : S18x128.Idx → α} (h : ∀ i, X i = z) : QI z v L 0 X := fun i => by
  rw [h i]
  exact (if_neg (Nat.not_lt_zero _)).symm
theorem QI_last (hL : LensOK L) {X : S18x128.Idx → α} (h : QI z v L 16 X) : X = rw18 z v L := by
  funext i
  rw [h i]
  split
  · rfl
  · rename_i hn
    unfold rw18
    have h15 := off_succ hL (b := 15) (by omega)
    have : (off L (15 + 1)).toNat = (off L 16).toNat := rfl
    rw [bat_last (by omega), if_neg (by omega)]

/-- A batch's two masked row stores. -/
theorem QI_step (hL : LensOK L) {b : ℕ} (hb : b < 16) {X : S18x128.Idx → α} (hX : QI z v L b X) {inb inb'}
    {w : S1x128.Idx → α} (hw : ∀ j, w j = v b (((j 1).val + 128 - (off L b).toNat % 128) % 128)) {w1 w2 : S1x128.Idx → α}
    (h1 : ∀ j, w1 j = if maskA (off L b) (ln L b) j = 1 then w j else X ((Rect.unit (s := S18x128) ![(rowS (off L b)).toNat, 0] S1x128.size inb).toLoadRect.idx j))
    (h2 : ∀ j, w2 j = if maskB (off L b) (ln L b) j = 1 then w j else
      wr X (Rect.unit (s := S18x128) ![(rowS (off L b)).toNat, 0] S1x128.size inb) w1 ((Rect.unit (s := S18x128) ![(rowS1 (off L b)).toNat, 0] S1x128.size inb').toLoadRect.idx j)) :
    QI z v L (b + 1) (wr (wr X (Rect.unit (s := S18x128) ![(rowS (off L b)).toNat, 0] S1x128.size inb) w1)
      (Rect.unit (s := S18x128) ![(rowS1 (off L b)).toNat, 0] S1x128.size inb') w2) := by
  intro i
  have ho := off_le' hL (b := b) (by omega)
  have hs := off_succ hL hb
  have hn := hL b
  have e0 := rowS_eq ho
  have e1 := rowS1_eq ho
  have i1 : (i 1).val < 128 := (i 1).isLt
  have inR : ∀ r : ℕ, (i 0).val = r → ∀ a, (![r, 0] : Fin 2 → ℕ) a ≤ (i a).val ∧ (i a).val < (![r, 0] : Fin 2 → ℕ) a + S1x128.size a := fun r hr a => match a with
    | ⟨0, _⟩ => ⟨by show r ≤ (i 0).val; omega, by show (i 0).val < r + 1; omega⟩
    | ⟨1, _⟩ => ⟨Nat.zero_le _, by show (i 1).val < 0 + 128; omega⟩
  have old : (128 * (i 0).val + (i 1).val < (off L b).toNat ∨ (off L b).toNat + (ln L b).toNat ≤ 128 * (i 0).val + (i 1).val) →
      X i = if 128 * (i 0).val + (i 1).val < (off L (b + 1)).toNat then rw18 z v L i else z := fun h => by
    rw [hX i]
    rcases h with h | h
    · rw [if_pos h, if_pos (by omega)]
    · rw [if_neg (by omega)]
      split
      · rename_i hlt
        unfold rw18
        rw [bat_eq hL hb (by omega) hlt, if_neg (by omega)]
      · rfl
  have new : (off L b).toNat ≤ 128 * (i 0).val + (i 1).val → 128 * (i 0).val + (i 1).val < (off L b).toNat + (ln L b).toNat →
      v b (((i 1).val - 0 + 128 - (off L b).toNat % 128) % 128) = if 128 * (i 0).val + (i 1).val < (off L (b + 1)).toNat then rw18 z v L i else z := fun h h' => by
    rw [if_pos (by omega)]
    unfold rw18
    rw [bat_eq hL hb h (by omega), if_pos h']
    congr 1
    omega
  by_cases c1 : (i 0).val = (rowS1 (off L b)).toNat
  · rw [wr_unit_in (s := S18x128) (o := ![(rowS1 (off L b)).toNat, 0]) (size := S1x128.size) (inb := inb') _ w2 i (inR _ c1), h2]
    split
    · rename_i hm
      rw [maskB_iff ho hn] at hm
      rw [hw]
      refine new ?_ ?_ <;> · change (i 1).val - 0 + 128 < _ at hm; omega
    · rename_i hm
      rw [maskB_iff ho hn] at hm
      rw [wr_unit_out (s := S18x128) (o := ![(rowS (off L b)).toNat, 0]) (size := S1x128.size) (inb := inb) X w1 _ 0 (.inr (by
        show (rowS (off L b)).toNat + 1 ≤ (rowS1 (off L b)).toNat + 1 * _
        omega))]
      refine Eq.trans (congrArg X ?_) (old ?_)
      · funext a
        apply Fin.ext
        exact match a with
        | ⟨0, _⟩ => by show (rowS1 (off L b)).toNat + 1 * ((i 0).val - _) = (i 0).val; show (rowS1 (off L b)).toNat + 1 * ((i 0).val - (rowS1 (off L b)).toNat) = (i 0).val; omega
        | ⟨1, _⟩ => by show 0 + 1 * ((i 1).val - 0) = (i 1).val; omega
      · change ¬ (i 1).val - 0 + 128 < _ at hm; omega
  · rw [wr_unit_out (s := S18x128) (o := ![(rowS1 (off L b)).toNat, 0]) (size := S1x128.size) (inb := inb') _ w2 i 0 (by
      show (i 0).val < (rowS1 (off L b)).toNat ∨ (rowS1 (off L b)).toNat + 1 ≤ (i 0).val
      omega)]
    by_cases c0 : (i 0).val = (rowS (off L b)).toNat
    · rw [wr_unit_in (s := S18x128) (o := ![(rowS (off L b)).toNat, 0]) (size := S1x128.size) (inb := inb) _ w1 i (inR _ c0), h1]
      split
      · rename_i hm
        rw [maskA_iff ho hn] at hm
        rw [hw]
        refine new ?_ ?_ <;> · change _ ≤ (i 1).val - 0 ∧ (i 1).val - 0 < _ at hm; omega
      · rename_i hm
        rw [maskA_iff ho hn] at hm
        refine Eq.trans (congrArg X ?_) (old ?_)
        · funext a
          apply Fin.ext
          exact match a with
          | ⟨0, _⟩ => by show (rowS (off L b)).toNat + 1 * ((i 0).val - (rowS (off L b)).toNat) = (i 0).val; omega
          | ⟨1, _⟩ => by show 0 + 1 * ((i 1).val - 0) = (i 1).val; omega
        · change ¬ (_ ≤ (i 1).val - 0 ∧ (i 1).val - 0 < _) at hm; omega
    · rw [wr_unit_out (s := S18x128) (o := ![(rowS (off L b)).toNat, 0]) (size := S1x128.size) (inb := inb) X w1 i 0 (by
        show (i 0).val < (rowS (off L b)).toNat ∨ (rowS (off L b)).toNat + 1 ≤ (i 0).val
        omega)]
      exact old (by omega)
end Rows

end Cert.Proof.Lsq
-- ==== Proof.PackSteps.lean ====
/-
  The packing, run: every batch's rows copied, its scales and its mask placed, the zero rows after the last batch.
-/
module

public import proofs.«01_k».proof.Proof.Spec

@[expose] public section

set_option maxRecDepth 16384

noncomputable section

namespace Cert.Proof.Lsq

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.KernelIdeal Cert.KernelIdeal.Gen

variable {F : FTy → Type} [FloatOps F]

/-- The contents of every operand. -/
abbrev S (F : FTy → Type) : Type := St (Elt F) sh el

/-- The operands the body only reads. -/
def isIn : A → Bool
  | .a1 => true | .a2 => true | .a3 => true | .a4 => true | .a5 => true | .a6 => true | .a7 => true | .a8 => true
  | _ => false
/-- The read operands hold what they held at `e`. -/
def Inp (e s : S F) : Prop := ∀ j, isIn j = true → s j = e j

omit [FloatOps F] in
theorem Inp.fr {e s s' : S F} (h : Inp e s) {j : A} (f : ∀ i, i ≠ j → s' i = s i) (hj : isIn j = false) : Inp e s' := fun k hk =>
  (f k fun e => by subst e; rw [hj] at hk; exact Bool.noConfusion hk).trans (h k hk)
omit [FloatOps F] in
theorem Inp.of {e s s' : S F} (h : Inp e s) (h' : ∀ j, isIn j = true → s' j = s j) : Inp e s' := fun k hk => (h' k hk).trans (h k hk)

/-- The float zeros and one the body writes. -/
def zb : F .bf16 := Scalar.ofBits (F := F) .bf16 0x0000#16
def zf : F .f32 := Scalar.ofBits (F := F) .f32 0x00000000#32
def of1 : F .f32 := Scalar.ofBits (F := F) .f32 0x3F800000#32
/-- The codes as floats, the scales by batch and token, and the mask. -/
def xcV (e : S F) : S2048x1024.Idx → F .bf16 := sitofp (F := F) (s := S2048x1024) .bf16 (e .a3)
def v15 (e : S F) : ℕ → ℕ → F .f32 := fun b k => e .a4 (ix2 (Fin.ofNat 16 b) (Fin.ofNat 128 k))
def v16 : ℕ → ℕ → F .f32 := fun _ _ => of1

/-- Between the batches: the batches before `b` packed, and the first `c` column blocks of batch `b`. -/
structure PkI (e : S F) (b c : ℕ) (s : S F) : Prop where
  inp : Inp e s
  x13 : XI zb (e .a2) (e .a1) b c (s .a13)
  x14 : XI zb (xcV e) (e .a1) b c (s .a14)
  q15 : QI zf (v15 e) (e .a1) b (s .a15)
  q16 : QI zf v16 (e .a1) b (s .a16)
/-- After the batches: every batch packed, and the zero rows of the first `c` column blocks. -/
structure PkZ (e : S F) (c : ℕ) (s : S F) : Prop where
  inp : Inp e s
  x13 : XZ zb (e .a2) (e .a1) c (s .a13)
  x14 : XZ zb (xcV e) (e .a1) c (s .a14)
  q15 : s .a15 = rw18 zf (v15 e) (e .a1)
  q16 : s .a16 = rw18 zf v16 (e .a1)

variable {U : Type} [URA U] {M : (j : A) → Memref sig .tc (sp j) (sh j) (el j)} {hM : ∀ j, (M j).IsWhole}
variable {q : A → PosShare TreeShare} {c : Dev nD} {defs : Defs nD τ sig (Elt F) Λ₀} {𝒱 : Variants} {bd : Option 𝒱.V} {α : Type}

/-- A store, the state after it named by what it keeps and what it replaces. -/
theorem T.store' (j : A) {s : S F} (hq : q j = fullShare) {r : Rect (sh j)} {w : r.shape.Idx → Elt F (el j)} {hx : ((M j).access r).Stores Finset.univ}
    {hm : Finset.univ = Finset.univ ∨ ∀ a, r.stride a = 1} {k : PUnit → P F α} {Q : α → S F → Prop}
    (h : ∀ s' : S F, (∀ i, i ≠ j → s' i = s i) → s' j = wr (s j) r w → T (U := U) M q c defs 𝒱 bd (k ⟨⟩) s' Q) :
    T (U := U) M q c defs 𝒱 bd (.op (.store (M j) r w Finset.univ hx hm) k) s Q :=
  T.store j hq (h _ (fun _ hi => Function.update_of_ne hi _ _) (Function.update_self _ _ _))

/-- The length of a batch read. -/
theorem lenB_T {L : S16.Idx → BitVec 32} {b : ℕ} {hb : b < 16} {K : BitVec 32 → P F α} {s : S F} {Q : α → S F → Prop} (h : s .a1 = L)
    (hK : T (U := U) M q c defs 𝒱 bd (K (ln L b)) s Q) : T (U := U) M q c defs 𝒱 bd (lenB M b hb K) s Q := by
  refine T.of_eq (p' := .op (.load (M .a1) (Rect.unit (s := S16) ![b] S1.size (by intro k; fin_cases k; exact hb)).toLoadRect (View.loadsAt_rect (View.loads_smem_one rfl numel1_S1)))
    fun f => K (f (Shape.Idx.first (numel1_S1.symm ▸ Nat.one_pos)))) rfl (T.load A.a1 ?_)
  have e : ∀ h0 : 0 < S1.numel, s .a1 ((Rect.unit (s := S16) ![b] S1.size (by intro k; fin_cases k; exact hb)).toLoadRect.idx (Shape.Idx.first h0)) = ln L b := fun h0 => by
    rw [h]
    unfold ln
    congr 1
    funext a
    apply Fin.ext
    exact match a with
    | ⟨0, _⟩ => by show b + 1 * 0 = b % 16; omega
  show T M q c defs 𝒱 bd (K (s .a1 _)) s Q
  rw [e]
  exact hK

/-- One column block. -/
theorem packCol_T {e s : S F} {b k : ℕ} {hb : b < 16} {hk : k < 8} {o : BitVec 32} {g : Good o} {K : P F α} {Q : α → S F → Prop}
    (hq : ∀ j, isIn j = false → q j = fullShare) (hL : LensOK (e .a1)) (ho : o = off (e .a1) b) (h : PkI e b k s)
    (hK : ∀ s', PkI e b (k + 1) s' → T (U := U) M q c defs 𝒱 bd K s' Q) :
    T (U := U) M q c defs 𝒱 bd (packCol M hM b k hb hk o g K) s Q := by
  subst ho
  unfold packCol
  refine T.load A.a2 (T.load A.a13 (T.store' A.a13 (hq _ rfl) fun s1 f1 e1 => T.load A.a3 (T.load A.a14 (T.store' A.a14 (hq _ rfl) fun s2 f2 e2 =>
    hK s2 ⟨(h.inp.fr f1 rfl).fr f2 rfl, ?_, ?_, ?_, ?_⟩))))
  · rw [f2 _ (by decide), e1]
    refine XI_step hL hb hk h.x13 fun i l => ?_
    rw [shapeCast_addUnit_apply, shapeCast_self, h.inp .a2 rfl]
    congr 1
    funext a
    apply Fin.ext
    exact match a with
    | ⟨0, _⟩ => by show 128 * b + 1 * i.val = (128 * b + i.val) % 2048; omega
    | ⟨1, _⟩ => by show 128 * k + 1 * l.val = (128 * k + l.val) % 1024; omega
  · rw [e2, f1 A.a14 (by decide), f1 A.a3 (by decide), h.inp .a3 rfl]
    refine XI_step hL hb hk h.x14 fun i l => ?_
    rw [shapeCast_addUnit_apply, shapeCast_self]
    show FloatOps.sitofp _ (e .a3 _) = FloatOps.sitofp _ (e .a3 _)
    congr 2
    funext a
    apply Fin.ext
    exact match a with
    | ⟨0, _⟩ => by show 128 * b + 1 * i.val = (128 * b + i.val) % 2048; omega
    | ⟨1, _⟩ => by show 128 * k + 1 * l.val = (128 * k + l.val) % 1024; omega
  · rw [f2 _ (by decide), f1 _ (by decide)]; exact h.q15
  · rw [f2 _ (by decide), f1 _ (by decide)]; exact h.q16

/-- A masked write of a scale row and a mask row. -/
theorem packRow_T {s : S F} {mask : IVec S1x128 1} {v : FVec F S1x128 .f32} {r : Index} {h : r.toNat + 1 ≤ 18} {K : P F α} {Q : α → S F → Prop}
    (hq : ∀ j, isIn j = false → q j = fullShare)
    (hK : ∀ s', (∀ j, j ≠ .a15 → j ≠ .a16 → s' j = s j) →
      s' .a15 = wr (s .a15) (Rect.unit (s := S18x128) ![r.toNat, 0] S1x128.size (inb2 h (by omega)))
        (select mask v fun j => s .a15 ((Rect.unit (s := S18x128) ![r.toNat, 0] S1x128.size (inb2 h (by omega))).toLoadRect.idx j)) →
      s' .a16 = wr (s .a16) (Rect.unit (s := S18x128) ![r.toNat, 0] S1x128.size (inb2 h (by omega)))
        (select mask (fun _ => of1) fun j => s .a16 ((Rect.unit (s := S18x128) ![r.toNat, 0] S1x128.size (inb2 h (by omega))).toLoadRect.idx j)) →
      T (U := U) M q c defs 𝒱 bd K s' Q) :
    T (U := U) M q c defs 𝒱 bd (packRow M mask v r h K) s Q := by
  unfold packRow
  refine T.load A.a15 (T.load A.a15 (T.store' A.a15 (hq _ rfl) fun s1 f1 e1 => T.load A.a16 (T.load A.a16 (T.store' A.a16 (hq _ rfl) fun s2 f2 e2 => hK s2 ?_ ?_ ?_))))
  · intro j h1 h2
    rw [f2 j h2, f1 j h1]
  · rw [f2 _ (by decide), e1, shapeCast_self]
  · rw [e2, f1 _ (by decide), shapeCast_self]
    rfl

/-- One batch. -/
theorem packStep_T {e s : S F} {b : ℕ} {hb : b < 16} {o : BitVec 32} {g : Good o} {chk : BitVec 32 → Prop} {dec : ∀ n, Decidable (chk n)}
    {K : (n : BitVec 32) → chk n → P F α} {Q : α → S F → Prop}
    (hq : ∀ j, isIn j = false → q j = fullShare) (hL : LensOK (e .a1)) (ho : o = off (e .a1) b) (h : PkI e b 0 s) (hc : chk (ln (e .a1) b))
    (hK : ∀ s', PkI e (b + 1) 0 s' → T (U := U) M q c defs 𝒱 bd (K (ln (e .a1) b) hc) s' Q) :
    T (U := U) M q c defs 𝒱 bd (packStep M hM b hb o g chk dec K) s Q := by
  unfold packStep
  refine lenB_T (h.inp .a1 rfl) (T.assume hc ?_)
  refine packCol_T hq hL ho h fun s h => packCol_T hq hL ho h fun s h => packCol_T hq hL ho h fun s h => packCol_T hq hL ho h fun s h => ?_
  refine packCol_T hq hL ho h fun s h => packCol_T hq hL ho h fun s h => packCol_T hq hL ho h fun s h => packCol_T hq hL ho h fun s h => ?_
  subst ho
  have hv : ∀ j : S1x128.Idx, dynamicRotate 1 (shiftW (off (e .a1) b)) none (fun x : S1x128.Idx => s .a4 ((Rect.unit (s := S16x128) ![b, 0] S1x128.size (inb2 hb (by omega))).toLoadRect.idx x)) rotates_S1x128_d1 j
      = v15 e b (((j 1).val + 128 - (off (e .a1) b).toNat % 128) % 128) := fun j => by
    have hs : (shiftW (off (e .a1) b)).toNat % S1x128.size 1 = (off (e .a1) b).toNat % 128 := by
      rw [shift_eq (off_le' hL (by omega))]; show _ % 128 % 128 = _; omega
    rw [dynamicRotate_apply 1 _ _ _ j (fun a => match a with | ⟨0, _⟩ => ⟨0, by show 0 < 1; omega⟩ | ⟨1, _⟩ => ⟨((j 1).val + 128 - (off (e .a1) b).toNat % 128) % 128, by show _ < 128; omega⟩)
      (fun a => match a with
        | ⟨0, _⟩ => by have : (j 0).val < 1 := (j 0).isLt
                       show 0 = if (⟨0, _⟩ : Fin 2) = 1 then _ else (j 0).val
                       rw [if_neg (fun e => absurd (congrArg Fin.val e) (show ¬ (0 = 1) by omega))]; omega
        | ⟨1, _⟩ => ((congrArg (fun x => ((j 1).val + 128 - x) % 128) hs).symm.trans (if_pos (Fin.ext rfl)).symm)), h.inp .a4 rfl]
    unfold v15
    congr 1
    funext a
    apply Fin.ext
    exact match a with
    | ⟨0, _⟩ => by show b + 1 * 0 = b % 16; omega
    | ⟨1, _⟩ => by show 0 + 1 * (((j 1).val + 128 - (off (e .a1) b).toNat % 128) % 128) = (((j 1).val + 128 - (off (e .a1) b).toNat % 128) % 128) % 128; omega
  refine T.load A.a4 (packRow_T hq fun s1 f1 a1 b1 => packRow_T hq fun s2 f2 a2 b2 => hK s2 ⟨h.inp.of fun j hj => ?_, ?_, ?_, ?_, ?_⟩)
  · have n1 : j ≠ .a15 := fun e => by subst e; exact Bool.noConfusion hj
    have n2 : j ≠ .a16 := fun e => by subst e; exact Bool.noConfusion hj
    rw [f2 j n1 n2, f1 j n1 n2]
  · rw [f2 _ (by decide) (by decide), f1 _ (by decide) (by decide)]; exact XI_next h.x13
  · rw [f2 _ (by decide) (by decide), f1 _ (by decide) (by decide)]; exact XI_next h.x14
  · rw [a2, a1]
    exact QI_step hL hb h.q15 (w := fun j => v15 e b (((j 1).val + 128 - (off (e .a1) b).toNat % 128) % 128)) (fun _ => rfl)
      (fun j => by rw [← hv j]; rfl) (fun j => by rw [← hv j]; rfl)
  · rw [b2, b1]
    exact QI_step hL hb h.q16 (w := fun _ => of1) (fun _ => rfl) (fun j => rfl) (fun j => rfl)

/-- One column block of the zero rows. -/
theorem zeroCol_T {e s : S F} {k : ℕ} {hk : k < 8} {o : BitVec 32} {g} {K : P F α} {Q : α → S F → Prop}
    (hq : ∀ j, isIn j = false → q j = fullShare) (hL : LensOK (e .a1)) (ho : o = off (e .a1) 16) (h : PkZ e k s)
    (hK : ∀ s', PkZ e (k + 1) s' → T (U := U) M q c defs 𝒱 bd K s' Q) :
    T (U := U) M q c defs 𝒱 bd (zeroCol M hM k hk o g K) s Q := by
  subst ho
  unfold zeroCol
  refine T.load A.a13 (T.store' A.a13 (hq _ rfl) fun s1 f1 e1 => T.load A.a14 (T.store' A.a14 (hq _ rfl) fun s2 f2 e2 =>
    hK s2 ⟨(h.inp.fr f1 rfl).fr f2 rfl, ?_, ?_, ?_, ?_⟩))
  · rw [f2 _ (by decide), e1]
    exact XZ_step hL h.x13 fun i => by rw [shapeCast_addUnit_apply]; rfl
  · rw [e2, f1 _ (by decide)]
    exact XZ_step hL h.x14 fun i => by rw [shapeCast_addUnit_apply]; rfl
  · rw [f2 _ (by decide), f1 _ (by decide)]; exact h.q15
  · rw [f2 _ (by decide), f1 _ (by decide)]; exact h.q16

/-- The whole packing. -/
theorem packAll_T {e s : S F} {i : grid0.Coords} {h1 : k0_cond1 i = 1#1} {K : BitVec 32 → P F α} {Q : α → S F → Prop}
    (hq : ∀ j, isIn j = false → q j = fullShare) (hL : LensOK (e .a1)) (h : Inp e s)
    (hK : ∀ s', PkZ e 8 s' → T (U := U) M q c defs 𝒱 bd (K (off (e .a1) 16)) s' Q) :
    T (U := U) M q c defs 𝒱 bd (packAll M hM i h1 K) s Q := by
  unfold packAll
  refine T.load A.a15 (T.store' A.a15 (hq _ rfl) fun s1 f1 e1 => T.load A.a16 (T.store' A.a16 (hq _ rfl) fun s2 f2 e2 => ?_))
  refine packStep_T (b := 0) hq hL rfl ⟨(h.fr f1 rfl).fr f2 rfl, fun i hi => ?_, fun i hi => ?_, QI_zero fun i => ?_, QI_zero fun i => ?_⟩ (cast chk1_eq.symm (chk_of (off_le' hL (b := 1) (by omega)))) fun s h => ?_
  · rcases hi with h | h
    · exact absurd h (Nat.not_lt_zero _)
    · exact absurd h.2 (Nat.not_lt_zero _)
  · rcases hi with h | h
    · exact absurd h (Nat.not_lt_zero _)
    · exact absurd h.2 (Nat.not_lt_zero _)
  · rw [f2 _ (by decide), e1, wr_unit_all (s := S18x128), shapeCast_self]; rfl
  · rw [e2, wr_unit_all (s := S18x128), shapeCast_self]; rfl
  refine packStep_T (b := 1) hq hL rfl h (cast chk2_eq.symm (chk_of (off_le' hL (b := 2) (by omega)))) fun s h => ?_
  refine packStep_T (b := 2) hq hL rfl h (cast chk3_eq.symm (chk_of (off_le' hL (b := 3) (by omega)))) fun s h => ?_
  refine packStep_T (b := 3) hq hL rfl h (cast chk4_eq.symm (chk_of (off_le' hL (b := 4) (by omega)))) fun s h => ?_
  refine packStep_T (b := 4) hq hL rfl h (cast chk5_eq.symm (chk_of (off_le' hL (b := 5) (by omega)))) fun s h => ?_
  refine packStep_T (b := 5) hq hL rfl h (cast chk6_eq.symm (chk_of (off_le' hL (b := 6) (by omega)))) fun s h => ?_
  refine packStep_T (b := 6) hq hL rfl h (cast chk7_eq.symm (chk_of (off_le' hL (b := 7) (by omega)))) fun s h => ?_
  refine packStep_T (b := 7) hq hL rfl h (cast chk8_eq.symm (chk_of (off_le' hL (b := 8) (by omega)))) fun s h => ?_
  refine packStep_T (b := 8) hq hL rfl h (cast chk9_eq.symm (chk_of (off_le' hL (b := 9) (by omega)))) fun s h => ?_
  refine packStep_T (b := 9) hq hL rfl h (cast chk10_eq.symm (chk_of (off_le' hL (b := 10) (by omega)))) fun s h => ?_
  refine packStep_T (b := 10) hq hL rfl h (cast chk11_eq.symm (chk_of (off_le' hL (b := 11) (by omega)))) fun s h => ?_
  refine packStep_T (b := 11) hq hL rfl h (cast chk12_eq.symm (chk_of (off_le' hL (b := 12) (by omega)))) fun s h => ?_
  refine packStep_T (b := 12) hq hL rfl h (cast chk13_eq.symm (chk_of (off_le' hL (b := 13) (by omega)))) fun s h => ?_
  refine packStep_T (b := 13) hq hL rfl h (cast chk14_eq.symm (chk_of (off_le' hL (b := 14) (by omega)))) fun s h => ?_
  refine packStep_T (b := 14) hq hL rfl h (cast chk15_eq.symm (chk_of (off_le' hL (b := 15) (by omega)))) fun s h => ?_
  refine packStep_T (b := 15) hq hL rfl h (cast chk16_eq.symm (chkZ_of (off_le' hL (b := 16) (by omega)))) fun s h => ?_
  have hz : PkZ e 0 s := ⟨h.inp, fun i hi => h.x13 i (.inl (by
      rcases hi with h | h
      · exact h
      · exact absurd h.2 (Nat.not_lt_zero _))), fun i hi => h.x14 i (.inl (by
      rcases hi with h | h
      · exact h
      · exact absurd h.2 (Nat.not_lt_zero _))), QI_last hL h.q15, QI_last hL h.q16⟩
  refine zeroCol_T hq hL rfl hz fun s h => zeroCol_T hq hL rfl h fun s h => zeroCol_T hq hL rfl h fun s h => zeroCol_T hq hL rfl h fun s h => ?_
  exact zeroCol_T hq hL rfl h fun s h => zeroCol_T hq hL rfl h fun s h => zeroCol_T hq hL rfl h fun s h => zeroCol_T hq hL rfl h fun s h => hK s h

end Cert.Proof.Lsq
-- ==== Proof.Vals.lean ====
/-
  What every buffer of the kernel comes to hold, as functions of the contents of the operands it reads: the token tiles,
  the projected tokens, the dequantised weights, the errors of each tile, the two accumulators and the correction.
-/
module

public import proofs.«01_k».proof.Proof.PackSteps

@[expose] public section

set_option maxRecDepth 16384

noncomputable section

namespace Cert.Proof.Lsq

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.KernelIdeal Cert.KernelIdeal.Gen

variable {F : FTy → Type} [FloatOps F]

section Tile
variable {α : Type}
/-- Tile `t` of a packed buffer: 256 token rows, all columns. -/
def tokF (X : S8x2304x128.Idx → α) (t : ℕ) : S256x1024.Idx → α := fun j =>
  X (ix3 (Fin.ofNat 8 ((j 1).val / 128)) (Fin.ofNat 2304 (256 * t + (j 0).val)) (Fin.ofNat 128 ((j 1).val % 128)))
/-- Tile `t` of a scale or mask buffer: the 256 values of its tokens. -/
def pairF (X : S18x128.Idx → α) (t : ℕ) : S1x256.Idx → α := fun j =>
  X (ix2 (Fin.ofNat 18 (2 * t + (j 1).val / 128)) (Fin.ofNat 128 ((j 1).val % 128)))

/-- A column block of a tile, as loaded. -/
def tokC (X : S8x2304x128.Idx → α) {w : BitVec 32} (g : GoodT w) (n : Fin 8) : S256x128.Idx → α :=
  shapeCast S256x128 (fun x : S1x256x128.Idx => X ((Rect.unit (s := S8x2304x128) ![n.val, (rowT w).toNat, 0] S1x256x128.size (inb3 (by omega) g.tok (by omega))).toLoadRect.idx x)) shapeCasts_S1x256x128_S256x128

/-- The eight column blocks of a tile side by side are the tile. -/
theorem toks_eq (X : S8x2304x128.Idx → α) {w : BitVec 32} (g : GoodT w) (h : Shape.Concatenates [S256x128, S256x128, S256x128, S256x128, S256x128, S256x128, S256x128, S256x128] S256x1024 1) :
    concatenate S256x1024 1 (List.ofFn fun n : Fin 8 => (⟨S256x128, tokC X g n⟩ : (s : Shape) × (s.Idx → α))) h = tokF X w.toNat := by
  funext j
  have hj : (j 1).val < 1024 := (j 1).isLt
  have hj0 : (j 0).val < 256 := (j 0).isLt
  have hw := g.lt
  rw [concatenate_ofFn_apply (s₁ := S256x128) (t := S256x1024) 1 (fun n : Fin 8 => tokC X g n) h rfl 128 rfl j ⟨(j 1).val / 128, by omega⟩ rfl (ix2 (j 0) ⟨(j 1).val % 128, by omega⟩) rfl
    (fun b hb => match b with
      | ⟨0, _⟩ => rfl
      | ⟨1, _⟩ => absurd (Fin.ext rfl) hb)]
  unfold tokC tokF
  rw [shapeCast_dropUnit_apply]
  congr 1
  funext a
  apply Fin.ext
  exact match a with
  | ⟨0, _⟩ => by show (j 1).val / 128 + 1 * 0 = ((j 1).val / 128) % 8; omega
  | ⟨1, _⟩ => by
    show (rowT w).toNat + 1 * (j 0).val = (256 * w.toNat + (j 0).val) % 2304
    rw [rowT_eq g]; omega
  | ⟨2, _⟩ => by show 0 + 1 * ((j 1).val % 128) = ((j 1).val % 128) % 128; omega

/-- The two rows of a tile side by side are the tile's values. -/
theorem pair_eq (X : S18x128.Idx → α) {w : BitVec 32} (g : GoodT w) (h : Shape.Concatenates [S1x128, S1x128] S1x256 1) :
    concatenate S1x256 1 [⟨S1x128, fun x : S1x128.Idx => X ((Rect.unit (s := S18x128) ![(rowV w).toNat, 0] S1x128.size (inb2 g.v (by omega))).toLoadRect.idx x)⟩,
      ⟨S1x128, fun x : S1x128.Idx => X ((Rect.unit (s := S18x128) ![(rowV1 w).toNat, 0] S1x128.size (inb2 g.v1 (by omega))).toLoadRect.idx x)⟩] h = pairF X w.toNat := by
  funext j
  have hj : (j 1).val < 256 := (j 1).isLt
  have hj0 : (j 0).val < 1 := (j 0).isLt
  have hw := g.lt
  have v0 := rowV_eq g
  have v1 := rowV1_eq g
  by_cases hc : (j 1).val < 128
  · rw [concatenate_pair_apply_left 1 _ _ h j rfl (ix2 (j 0) ⟨(j 1).val, hc⟩) (fun b => match b with | ⟨0, _⟩ => rfl | ⟨1, _⟩ => rfl)]
    unfold pairF
    congr 1
    funext a
    apply Fin.ext
    exact match a with
    | ⟨0, _⟩ => by show (rowV w).toNat + 1 * (j 0).val = (2 * w.toNat + (j 1).val / 128) % 18; omega
    | ⟨1, _⟩ => by show 0 + 1 * (j 1).val = ((j 1).val % 128) % 128; omega
  · rw [concatenate_pair_apply_right 1 _ _ h j rfl rfl (ix2 (j 0) ⟨(j 1).val - 128, by omega⟩) (fun b hb => match b with
      | ⟨0, _⟩ => rfl
      | ⟨1, _⟩ => absurd (Fin.ext rfl) hb) (by show (j 1).val - 128 + 128 = (j 1).val; omega)]
    unfold pairF
    congr 1
    funext a
    apply Fin.ext
    exact match a with
    | ⟨0, _⟩ => by show (rowV1 w).toNat + 1 * (j 0).val = (2 * w.toNat + (j 1).val / 128) % 18; omega
    | ⟨1, _⟩ => by show 0 + 1 * ((j 1).val - 128) = ((j 1).val % 128) % 128; omega

/-- A tile below the tile count lies in the rows the packing wrote. -/
theorem tok_XZ {z : α} {u : S2048x1024.Idx → α} {L : S16.Idx → BitVec 32} {X : S8x2304x128.Idx → α} (hL : LensOK L) (h : XZ z u L 8 X) {t : ℕ}
    (ht : t < (tilesW (off L 16)).toNat) : tokF X t = tokF (pk z u L) t := by
  funext j
  have hj0 : (j 0).val < 256 := (j 0).isLt
  have ho := off_le' hL (b := 16) (by omega)
  rw [tiles_eq ho] at ht
  refine h _ (.inr ⟨?_, Fin.isLt _⟩)
  show (256 * t + (j 0).val) % 2304 < _
  omega
end Tile

/-- The pieces of a float. -/
def spN {s : Shape} (p : ℕ) (x : FVec F s .f32) : FVec F s .bf16 := if p = 0 then sp1 x else if p = 1 then sp2 x else sp3 x
theorem spN_comp {s s' : Shape} (p : ℕ) (x : FVec F s .f32) (f : s'.Idx → s.Idx) (j : s'.Idx) : spN p (fun y => x (f y) : FVec F s' .f32) j = spN p x (f j) := by
  unfold spN
  split
  · rfl
  · split <;> rfl

section Values
variable (e : S F)

/-- The pieces of the inverse Hessian, and one of them as loaded. -/
def hpF : S3x1024x1024.Idx → F .bf16 := fun i => spN (s := S1024x1024) (i 0).val (e .a5) (ix2 (i 1) (i 2))
def hS (p : ℕ) : FVec F S1x1024x1024 .bf16 := fun x => hpF e (ix3 (Fin.ofNat 3 p) (x 1) (x 2))
/-- The packed tokens, exact and quantised. -/
def XS : S8x2304x128.Idx → F .bf16 := pk zb (e .a2) (e .a1)
def XC : S8x2304x128.Idx → F .bf16 := pk zb (xcV e) (e .a1)
/-- The projection of a tile, its pieces, and one of them as loaded. -/
def PJ (t : ℕ) : FVec F S256x1024 .f32 := projV (tokF (XC e) t) (hS e 0) (hS e 1) (hS e 2)
def pF : S3x8x256x1024.Idx → F .bf16 := fun i => spN (i 0).val (PJ e (i 1).val) (ix2 (i 2) (i 3))
def pS (p t : ℕ) : FVec F S1x1x256x1024 .bf16 := fun x => spN p (PJ e t) (ix2 (x 2) (x 3))
/-- The scales and the mask of a tile. -/
def SC (t : ℕ) : FVec F S1x256 .f32 := pairF (rw18 zf (v15 e) (e .a1)) t
def MK (t : ℕ) : FVec F S1x256 .f32 := pairF (rw18 zf v16 (e .a1)) t
/-- The codes of a block of weights, and the weights they stand for. -/
def code : S512x1024.Idx → F .bf16 := fun i =>
  if (i 1).val < 512 then codeLo (F := F) (e .a7) (ix2 (i 0) (Fin.ofNat 512 (i 1).val)) else codeHi (F := F) (e .a7) (ix2 (i 0) (Fin.ofNat 512 ((i 1).val - 512)))
def WQ : FVec F S512x1024 .bf16 := fun i =>
  FloatOps.mulf (code e i) (FloatOps.truncf .bf16 bitsLt_bf16_f32 (e .a8 (ix2 (i 0) (Fin.ofNat 8 ((i 1).val / 128)))))
/-- A tile's exact products and its errors. -/
def YV (t : ℕ) : FVec F S512x256 .f32 := mmV (e .a6) (tokF (XS e) t)
def RV (t : ℕ) : FVec F S512x256 .f32 := resV (YV e t) (mmV (WQ e) (tokF (XC e) t)) (SC e t) (MK e t)
/-- The squared errors before the correction, added over the first tiles. -/
def ACC0 : ℕ → FVec F S1x512x128 .f32
  | 0 => fun _ => zf
  | k + 1 => accV (ACC0 k) (RV e k)
/-- The correction, added over the first tiles. -/
def DW : ℕ → FVec F S512x1024 .f32
  | 0 => fun _ => zf
  | k + 1 => addf (DW k) (addf (addf (mpV (rsV (SC e k) (RV e k)) (pS e 0 k)) (mpV (rsV (SC e k) (RV e k)) (pS e 1 k))) (mpV (rsV (SC e k) (RV e k)) (pS e 2 k)))
/-- The number of tiles and of tokens. -/
def NT : ℕ := (tilesW (off (e .a1) 16)).toNat
def lenS (L : S16.Idx → BitVec 32) : BitVec 32 := (List.range 16).foldl (fun a b => Scalar.addi a (ln L b)) 0#32
def NK : F .f32 := Scalar.sitofp .f32 (lenS (e .a1))
/-- The corrected weights, and a tile's errors with them. -/
def WC : FVec F S512x1024 .bf16 := wcV (WQ e) (DW e (NT e))
def R1 (t : ℕ) : FVec F S512x256 .f32 := resV (YV e t) (mmV (WC e) (tokF (XC e) t)) (SC e t) (MK e t)
/-- The squared errors after the correction, added over the first tiles. -/
def ACC1 : ℕ → FVec F S1x512x128 .f32
  | 0 => fun _ => zf
  | k + 1 => accV (ACC1 k) (R1 e k)
end Values

/-! ## What the buffers hold between the parts of the body -/

/-- The buffers the packing fills, for every later point to read. -/
def isSc : A → Bool
  | .a13 => true | .a14 => true | .a15 => true | .a16 => true | .a22 => true | .a18 => true
  | _ => false

/-- The packed buffers hold the packed tokens, their scales and mask, the tile count and the projected tokens. -/
structure Sc (e s : S F) : Prop where
  x13 : XZ zb (e .a2) (e .a1) 8 (s .a13)
  x14 : XZ zb (xcV e) (e .a1) 8 (s .a14)
  q15 : s .a15 = rw18 zf (v15 e) (e .a1)
  q16 : s .a16 = rw18 zf v16 (e .a1)
  t22 : s .a22 = fun _ => tilesW (off (e .a1) 16)
  p18 : ∀ i, (i 1).val < NT e → s .a18 i = pF e i

theorem Sc.of {e s s' : S F} (h : Sc e s) (f : ∀ j, isSc j = true → s' j = s j) : Sc e s' :=
  ⟨by rw [f _ rfl]; exact h.x13, by rw [f _ rfl]; exact h.x14, by rw [f _ rfl]; exact h.q15, by rw [f _ rfl]; exact h.q16, by rw [f _ rfl]; exact h.t22,
    by rw [f _ rfl]; exact h.p18⟩
theorem Sc.fr {e s s' : S F} (h : Sc e s) {j : A} (f : ∀ i, i ≠ j → s' i = s i) (hj : isSc j = false) : Sc e s' :=
  h.of fun k hk => f k fun e => by subst e; rw [hj] at hk; exact Bool.noConfusion hk

/-- What a point leaves. -/
structure Post (e s : S F) : Prop where
  inp : Inp e s
  sc : Sc e s
  wc : s .a9 = WC e
  lb : s .a10 = lossV (ACC0 e (NT e)) (NK e)
  la : s .a11 = lossV (ACC1 e (NT e)) (NK e)
  dw : s .a12 = DW e (NT e)

end Cert.Proof.Lsq
-- ==== Proof.TileSteps.lean ====
/-
  The rest of the body, run: the inverse Hessian split, the tiles projected, the weights dequantised, the two sweeps over
  the tiles, and the results.
-/
module

public import proofs.«01_k».proof.Proof.Vals

@[expose] public section

set_option maxRecDepth 16384

noncomputable section

namespace Cert.Proof.Lsq

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.KernelIdeal Cert.KernelIdeal.Gen

variable {F : FTy → Type} [FloatOps F]

variable {U : Type} [URA U] {M : (j : A) → Memref sig .tc (sp j) (sh j) (el j)} {hM : ∀ j, (M j).IsWhole}
variable {q : A → PosShare TreeShare} {c : Dev nD} {defs : Defs nD τ sig (Elt F) Λ₀} {𝒱 : Variants} {bd : Option 𝒱.V} {α : Type}

/-! ## Loads -/

/-- A load, its value named. -/
theorem T.load' (j : A) {s : S F} {r : LoadRect (sh j)} {hl : (M j).view.LoadsAt r} {k : (r.shape.Idx → Elt F (el j)) → P F α}
    {Q : α → S F → Prop} (h : ∀ v, v = (fun x => s j (r.idx x)) → T (U := U) M q c defs 𝒱 bd (k v) s Q) :
    T (U := U) M q c defs 𝒱 bd (.op (.load (M j) r hl) k) s Q := T.load j (h _ rfl)

/-- A tile of the exact tokens, and of the quantised. -/
theorem toks13_T {s : S F} {w : BitVec 32} {g : GoodT w} {K : FVec F S256x1024 .bf16 → P F α} {Q : α → S F → Prop}
    (hK : T (U := U) M q c defs 𝒱 bd (K (tokF (s .a13) w.toNat)) s Q) : T (U := U) M q c defs 𝒱 bd (toks (M .a13) w g K) s Q := by
  unfold toks tokCol
  refine T.load A.a13 (T.load A.a13 (T.load A.a13 (T.load A.a13 (T.load A.a13 (T.load A.a13 (T.load A.a13 (T.load A.a13 ?_)))))))
  exact (congrArg (fun v => T (U := U) M q c defs 𝒱 bd (K v) s Q) (toks_eq (s .a13) g concatenates_S256x128_S256x128_S256x128_S256x128_S256x128_S256x128_S256x128_S256x128_S256x1024_d1)).mpr hK
theorem toks14_T {s : S F} {w : BitVec 32} {g : GoodT w} {K : FVec F S256x1024 .bf16 → P F α} {Q : α → S F → Prop}
    (hK : T (U := U) M q c defs 𝒱 bd (K (tokF (s .a14) w.toNat)) s Q) : T (U := U) M q c defs 𝒱 bd (toks (M .a14) w g K) s Q := by
  unfold toks tokCol
  refine T.load A.a14 (T.load A.a14 (T.load A.a14 (T.load A.a14 (T.load A.a14 (T.load A.a14 (T.load A.a14 (T.load A.a14 ?_)))))))
  exact (congrArg (fun v => T (U := U) M q c defs 𝒱 bd (K v) s Q) (toks_eq (s .a14) g concatenates_S256x128_S256x128_S256x128_S256x128_S256x128_S256x128_S256x128_S256x128_S256x1024_d1)).mpr hK
theorem pair15_T {s : S F} {w : BitVec 32} {g : GoodT w} {K : FVec F S1x256 .f32 → P F α} {Q : α → S F → Prop}
    (hK : T (U := U) M q c defs 𝒱 bd (K (pairF (s .a15) w.toNat)) s Q) : T (U := U) M q c defs 𝒱 bd (pair (M .a15) w g K) s Q := by
  unfold pair
  refine T.load A.a15 (T.load A.a15 ?_)
  exact (congrArg (fun v => T (U := U) M q c defs 𝒱 bd (K v) s Q) (pair_eq (s .a15) g concatenates_S1x128_S1x128_S1x256_d1)).mpr hK
theorem pair16_T {s : S F} {w : BitVec 32} {g : GoodT w} {K : FVec F S1x256 .f32 → P F α} {Q : α → S F → Prop}
    (hK : T (U := U) M q c defs 𝒱 bd (K (pairF (s .a16) w.toNat)) s Q) : T (U := U) M q c defs 𝒱 bd (pair (M .a16) w g K) s Q := by
  unfold pair
  refine T.load A.a16 (T.load A.a16 ?_)
  exact (congrArg (fun v => T (U := U) M q c defs 𝒱 bd (K v) s Q) (pair_eq (s .a16) g concatenates_S1x128_S1x128_S1x256_d1)).mpr hK

/-- A word of the tile count's buffer read. -/
theorem cnt_T {s : S F} {w : BitVec 32} (h : s .a22 = fun _ => w) {K : BitVec 32 → P F α} {Q : α → S F → Prop} (hK : T (U := U) M q c defs 𝒱 bd (K w) s Q) :
    T (U := U) M q c defs 𝒱 bd (smemLoad (Val := Elt F) (M .a22) (Rect.unit (s := S1) ![0] S1.size inb_S1_S1_0) numel1_S1 rfl >>= K) s Q := by
  refine T.of_eq (p' := .op (.load (M .a22) (Rect.unit (s := S1) ![0] S1.size inb_S1_S1_0).toLoadRect (View.loadsAt_rect (View.loads_smem_one rfl numel1_S1)))
    fun f => K (f (Shape.Idx.first (numel1_S1.symm ▸ Nat.one_pos)))) rfl (T.load A.a22 ?_)
  show T M q c defs 𝒱 bd (K (s .a22 _)) s Q
  rw [h]
  exact hK
theorem cntAny_T {s : S F} {K : BitVec 32 → P F α} {Q : α → S F → Prop} (hK : ∀ w, T (U := U) M q c defs 𝒱 bd (K w) s Q) :
    T (U := U) M q c defs 𝒱 bd (smemLoad (Val := Elt F) (M .a22) (Rect.unit (s := S1) ![0] S1.size inb_S1_S1_0) numel1_S1 rfl >>= K) s Q :=
  T.of_eq (p' := .op (.load (M .a22) (Rect.unit (s := S1) ![0] S1.size inb_S1_S1_0).toLoadRect (View.loadsAt_rect (View.loads_smem_one rfl numel1_S1)))
    fun f => K (f (Shape.Idx.first (numel1_S1.symm ▸ Nat.one_pos)))) rfl (T.load A.a22 (hK _))

/-- The number of tokens read. -/
theorem lenSum_T {s : S F} {L : S16.Idx → BitVec 32} (h : s .a1 = L) {K : BitVec 32 → P F α} {Q : α → S F → Prop} (hK : T (U := U) M q c defs 𝒱 bd (K (lenS L)) s Q) :
    T (U := U) M q c defs 𝒱 bd (lenSum M K) s Q := by
  unfold lenSum
  refine lenB_T h (lenB_T h (lenB_T h (lenB_T h (lenB_T h (lenB_T h (lenB_T h (lenB_T h ?_)))))))
  refine lenB_T h (lenB_T h (lenB_T h (lenB_T h (lenB_T h (lenB_T h (lenB_T h (lenB_T h ?_)))))))
  exact hK

/-! ## The pieces of the inverse Hessian -/

theorem t1_trips : k0_t1_loop.trips = 8 := by decide
theorem off169_eq : ∀ (t : Fin k0_t1_loop.trips) (a : Fin 2), k0_off169 t a = (![128 * t.val, 0] : Fin 2 → ℕ) a := by decide +kernel
theorem off170_eq : ∀ (t : Fin k0_t1_loop.trips) (a : Fin 3), k0_off170 t a = (![0, 128 * t.val, 0] : Fin 3 → ℕ) a := by decide +kernel
theorem off171_eq : ∀ (t : Fin k0_t1_loop.trips) (a : Fin 3), k0_off171 t a = (![1, 128 * t.val, 0] : Fin 3 → ℕ) a := by decide +kernel
theorem off172_eq : ∀ (t : Fin k0_t1_loop.trips) (a : Fin 3), k0_off172 t a = (![2, 128 * t.val, 0] : Fin 3 → ℕ) a := by decide +kernel

/-- The buffer holds the pieces' first `k` row blocks, and block `k` of the first `p` pieces. -/
def HI (e : S F) (k p : ℕ) (X : S3x1024x1024.Idx → F .bf16) : Prop :=
  ∀ i, ((i 1).val < 128 * k ∨ ((i 1).val < 128 * (k + 1) ∧ (i 0).val < p)) → X i = hpF e i

theorem HI_step {e : S F} {k p : ℕ} (hk : k < 8) (hp : p < 3) {X : S3x1024x1024.Idx → F .bf16} (hX : HI e k p X) {o : Fin 3 → ℕ} (ho : ∀ a, o a = (![p, 128 * k, 0] : Fin 3 → ℕ) a)
    {inb} {w : S1x128x1024.Idx → F .bf16} (hw : ∀ (r : Fin 128) (l : Fin 1024), w (ix3 0 r l) = hpF e (ix3 (Fin.ofNat 3 p) (Fin.ofNat 1024 (128 * k + r.val)) l)) :
    HI e k (p + 1) (wr X (Rect.unit (s := S3x1024x1024) o S1x128x1024.size inb) w) := by
  obtain rfl : o = ![p, 128 * k, 0] := funext ho
  intro i hi
  have i2 : (i 2).val < 1024 := (i 2).isLt
  have i0 : (i 0).val < 3 := (i 0).isLt
  by_cases hin : (i 0).val = p ∧ 128 * k ≤ (i 1).val
  · rw [wr_unit_in (s := S3x1024x1024) (o := ![p, 128 * k, 0]) (size := S1x128x1024.size) (inb := inb) X w i fun a => match a with
      | ⟨0, _⟩ => ⟨by show p ≤ (i 0).val; omega, by show (i 0).val < p + 1; omega⟩
      | ⟨1, _⟩ => ⟨by show 128 * k ≤ (i 1).val; omega, by show (i 1).val < 128 * k + 128; omega⟩
      | ⟨2, _⟩ => ⟨Nat.zero_le _, by show (i 2).val < 0 + 1024; omega⟩]
    have hk' : (i 1).val - 128 * k < 128 := by omega
    refine Eq.trans (congrArg w ?_) ((hw ⟨(i 1).val - 128 * k, hk'⟩ (i 2)).trans (congrArg (hpF e) ?_))
    · funext a
      apply Fin.ext
      exact match a with
      | ⟨0, _⟩ => by show (i 0).val - p = 0; omega
      | ⟨1, _⟩ => rfl
      | ⟨2, _⟩ => rfl
    · funext a
      apply Fin.ext
      exact match a with
      | ⟨0, _⟩ => by show p % 3 = (i 0).val; omega
      | ⟨1, _⟩ => by show (128 * k + ((i 1).val - 128 * k)) % 1024 = (i 1).val; omega
      | ⟨2, _⟩ => rfl
  · by_cases h0 : (i 0).val = p
    · rw [wr_unit_out (s := S3x1024x1024) (o := ![p, 128 * k, 0]) (size := S1x128x1024.size) (inb := inb) X w i 1 (.inl (by show (i 1).val < 128 * k; omega))]
      exact hX i (.inl (by omega))
    · rw [wr_unit_out (s := S3x1024x1024) (o := ![p, 128 * k, 0]) (size := S1x128x1024.size) (inb := inb) X w i 0 (by show (i 0).val < p ∨ p + 1 ≤ (i 0).val; omega)]
      exact hX i (by omega)
theorem HI_next {e : S F} {k : ℕ} {X : S3x1024x1024.Idx → F .bf16} (h : HI e k 3 X) : HI e (k + 1) 0 X := fun i hi => h i (.inr ⟨by omega, (i 0).isLt⟩)

/-- After the packing: what it left, the tile count, and the inverse Hessian's pieces up to row block `k`. -/
structure HpI (e : S F) (k : ℕ) (s : S F) : Prop where
  z : PkZ e 8 s
  t22 : s .a22 = fun _ => tilesW (off (e .a1) 16)
  h17 : HI e k 0 (s .a17)

theorem PkZ.fr {e s s' : S F} {k : ℕ} (h : PkZ e k s) {j : A} (f : ∀ i, i ≠ j → s' i = s i) (hj : isIn j = false)
    (hj' : j ≠ .a13 ∧ j ≠ .a14 ∧ j ≠ .a15 ∧ j ≠ .a16) : PkZ e k s' :=
  ⟨h.inp.fr f hj, by rw [f _ (Ne.symm hj'.1)]; exact h.x13, by rw [f _ (Ne.symm hj'.2.1)]; exact h.x14, by rw [f _ (Ne.symm hj'.2.2.1)]; exact h.q15,
    by rw [f _ (Ne.symm hj'.2.2.2)]; exact h.q16⟩

theorem succ3 (r : Fin 128) (l : Fin 1024) : (fun a : Fin 2 => ix3 (n0 := 1) (n1 := 128) (n2 := 1024) 0 r l a.succ) = ix2 r l := by
  funext a
  exact match a with
  | ⟨0, _⟩ => rfl
  | ⟨1, _⟩ => rfl

theorem hBody_T {e s : S F} {i : grid0.Coords} {h1 : k0_cond1 i = 1#1} {t : Fin k0_t1_loop.trips} (hq : ∀ j, isIn j = false → q j = fullShare)
    (h : HpI e t.val s) : T (U := U) M q c defs 𝒱 bd (hBody M hM i h1 t) s fun _ s' => HpI e (t.val + 1) s' := by
  have ht : t.val < 8 := lt_of_lt_of_eq t.isLt t1_trips
  have blk : ∀ (p : ℕ) (hp : p < 3) (r : Fin 128) (l : Fin 1024), spN (s := S128x1024) p (fun x : S128x1024.Idx => s .a5 ((Rect.unit (s := S1024x1024) (k0_off169 t) S128x1024.size (k0_off169_inb i t h1)).toLoadRect.idx x)) (ix2 r l)
      = hpF e (ix3 (Fin.ofNat 3 p) (Fin.ofNat 1024 (128 * t.val + r.val)) l) := fun p hp r l => by
    refine (spN_comp (s := S1024x1024) p (s .a5) (fun x => (Rect.unit (s := S1024x1024) (k0_off169 t) S128x1024.size (k0_off169_inb i t h1)).toLoadRect.idx x) (ix2 r l)).trans ?_
    rw [h.z.inp .a5 rfl]
    show _ = spN (s := S1024x1024) (p % 3) (e .a5) _
    rw [Nat.mod_eq_of_lt hp]
    refine congrArg (spN (s := S1024x1024) p (e .a5)) ?_
    funext a
    apply Fin.ext
    exact match a with
    | ⟨0, _⟩ => by
      show k0_off169 t 0 + 1 * r.val = (128 * t.val + r.val) % 1024
      rw [off169_eq]; show 128 * t.val + 1 * r.val = _; omega
    | ⟨1, _⟩ => by
      show k0_off169 t 1 + 1 * l.val = l.val
      rw [off169_eq]; show 0 + 1 * l.val = _; omega
  unfold hBody
  refine T.load A.a5 (T.load A.a17 (T.store' A.a17 (hq _ rfl) fun s1 f1 e1 => T.load A.a17 (T.store' A.a17 (hq _ rfl) fun s2 f2 e2 => T.load A.a17 (T.store' A.a17 (hq _ rfl) fun s3 f3 e3 => T.ret ?_))))
  refine ⟨((h.z.fr f1 rfl (by decide)).fr f2 rfl (by decide)).fr f3 rfl (by decide), by rw [f3 _ (by decide), f2 _ (by decide), f1 _ (by decide)]; exact h.t22, HI_next ?_⟩
  rw [e3, e2, e1]
  refine HI_step ht (by omega) (HI_step ht (by omega) (HI_step ht (by omega) h.h17 (off170_eq t) fun r l => ?_) (off171_eq t) fun r l => ?_) (off172_eq t) fun r l => ?_
  · rw [shapeCast_addUnit_apply]; exact (congrArg (sp1 _) (succ3 r l)).trans (blk 0 (by omega) r l)
  · rw [shapeCast_addUnit_apply]; exact (congrArg (sp2 _) (succ3 r l)).trans (blk 1 (by omega) r l)
  · rw [shapeCast_addUnit_apply]; exact (congrArg (sp3 _) (succ3 r l)).trans (blk 2 (by omega) r l)

/-! ## The projection -/

/-- The buffer holds the pieces of the first `k` tiles, and of tile `k` the first `p` pieces. -/
def PP (e : S F) (k p : ℕ) (X : S3x8x256x1024.Idx → F .bf16) : Prop :=
  ∀ i, ((i 1).val < k ∨ ((i 1).val = k ∧ (i 0).val < p)) → X i = pF e i

theorem cast4_apply {β : Type} (x : S256x1024.Idx → β) (j : S1x1x256x1024.Idx) :
    shapeCast S1x1x256x1024 x shapeCasts_S256x1024_S1x1x256x1024 j = x (ix2 (j 2) (j 3)) := by
  have h0 : (j 0).val < 1 := (j 0).isLt
  have h1 : (j 1).val < 1 := (j 1).isLt
  refine shapeCast_apply _ _ _ _ ((Shape.rowMajor_val_two (d := ![256, 1024]) (ix2 (j 2) (j 3))).trans (Eq.trans ?_ (Shape.rowMajor_val_four (d := ![1, 1, 256, 1024]) j).symm))
  show (j 2).val * 1024 + (j 3).val = (((j 0).val * 1 + (j 1).val) * 256 + (j 2).val) * 1024 + (j 3).val
  omega

theorem PP_step {e : S F} {w : BitVec 32} {p : ℕ} (hp : p < 3) {X : S3x8x256x1024.Idx → F .bf16} (hX : PP e w.toNat p X) {inb} {x : FVec F S256x1024 .bf16}
    (hx : x = spN p (PJ e w.toNat)) :
    PP e w.toNat (p + 1) (wr X (Rect.unit (s := S3x8x256x1024) ![p, (Scalar.indexCast w : Index).toNat, 0, 0] S1x1x256x1024.size inb) (shapeCast S1x1x256x1024 x shapeCasts_S256x1024_S1x1x256x1024)) := by
  subst hx
  intro i hi
  have i3 : (i 3).val < 1024 := (i 3).isLt
  have i2 : (i 2).val < 256 := (i 2).isLt
  have ew : (Scalar.indexCast w : Index).toNat = w.toNat := rfl
  by_cases hin : (i 0).val = p ∧ (i 1).val = w.toNat
  · rw [wr_unit_in (s := S3x8x256x1024) (o := ![p, (Scalar.indexCast w : Index).toNat, 0, 0]) (size := S1x1x256x1024.size) (inb := inb) X _ i fun a => match a with
      | ⟨0, _⟩ => ⟨by show p ≤ (i 0).val; omega, by show (i 0).val < p + 1; omega⟩
      | ⟨1, _⟩ => ⟨by show w.toNat ≤ (i 1).val; omega, by show (i 1).val < w.toNat + 1; omega⟩
      | ⟨2, _⟩ => ⟨Nat.zero_le _, by show (i 2).val < 0 + 256; omega⟩
      | ⟨3, _⟩ => ⟨Nat.zero_le _, by show (i 3).val < 0 + 1024; omega⟩]
    refine (cast4_apply _ _).trans ?_
    unfold pF
    exact (congrArg₂ (fun a b => spN a (PJ e b) (ix2 (i 2) (i 3))) hin.1 hin.2).symm
  · rcases hi with h | ⟨h, h'⟩
    · rw [wr_unit_out (s := S3x8x256x1024) (o := ![p, (Scalar.indexCast w : Index).toNat, 0, 0]) (size := S1x1x256x1024.size) (inb := inb) X _ i 1 (.inl (by show (i 1).val < w.toNat; omega))]
      exact hX i (.inl h)
    · rw [wr_unit_out (s := S3x8x256x1024) (o := ![p, (Scalar.indexCast w : Index).toNat, 0, 0]) (size := S1x1x256x1024.size) (inb := inb) X _ i 0 (.inl (by show (i 0).val < p; omega))]
      exact hX i (.inr ⟨h, by omega⟩)

/-- Between the tiles of the projection. -/
structure PrI (e : S F) (k : ℕ) (s : S F) : Prop where
  z : PkZ e 8 s
  t22 : s .a22 = fun _ => tilesW (off (e .a1) 16)
  h17 : s .a17 = hpF e
  p18 : PP e k 0 (s .a18)

theorem pStore_T {s : S F} {p : ℕ} {hp : p < 3} {w : BitVec 32} {g : GoodT w} {x : FVec F S256x1024 .bf16} {K : P F α} {Q : α → S F → Prop} (hq : ∀ j, isIn j = false → q j = fullShare)
    (hK : ∀ s', (∀ i, i ≠ .a18 → s' i = s i) → s' .a18 = wr (s .a18) (Rect.unit (s := S3x8x256x1024) ![p, (Scalar.indexCast w : Index).toNat, 0, 0] S1x1x256x1024.size (inb4 (by omega) g (by omega) (by omega)))
      (shapeCast S1x1x256x1024 x shapeCasts_S256x1024_S1x1x256x1024) → T (U := U) M q c defs 𝒱 bd K s' Q) :
    T (U := U) M q c defs 𝒱 bd (pStore M hM p hp w g x K) s Q :=
  T.load A.a18 (T.store' A.a18 (hq _ rfl) fun s1 f1 e1 => hK s1 f1 e1)

/-- A piece of the inverse Hessian as loaded. -/
theorem hS_eq (e : S F) {p : ℕ} (hp : p < 3) (inb) : (fun x : S1x1024x1024.Idx => hpF e ((Rect.unit (s := S3x1024x1024) ![p, 0, 0] S1x1024x1024.size inb).toLoadRect.idx x)) = hS e p := by
  funext x
  unfold hS
  congr 1
  funext a
  apply Fin.ext
  have h0 : (x 0).val < 1 := (x 0).isLt
  exact match a with
  | ⟨0, _⟩ => by show p + 1 * (x 0).val = p % 3; omega
  | ⟨1, _⟩ => by show 0 + 1 * (x 1).val = (x 1).val; omega
  | ⟨2, _⟩ => by show 0 + 1 * (x 2).val = (x 2).val; omega

theorem projBody_T {e s : S F} {w : BitVec 32} {g : GoodT w} (hq : ∀ j, isIn j = false → q j = fullShare) (hL : LensOK (e .a1)) (hw : w.toNat < NT e)
    (h : PrI e w.toNat s) : T (U := U) M q c defs 𝒱 bd (projBody M hM w g) s fun _ s' => PrI e (w.toNat + 1) s' := by
  unfold projBody
  refine toks14_T ?_
  rw [tok_XZ hL h.z.x14 hw]
  refine T.load' A.a17 fun v0 hv0 => T.load' A.a17 fun v1 hv1 => T.load' A.a17 fun v2 hv2 => ?_
  rw [h.h17] at hv0 hv1 hv2
  have g0 : v0 = hS e 0 := hv0.trans (hS_eq e (by omega) _)
  have g1 : v1 = hS e 1 := hv1.trans (hS_eq e (by omega) _)
  have g2 : v2 = hS e 2 := hv2.trans (hS_eq e (by omega) _)
  subst g0 g1 g2
  refine pStore_T hq fun s1 f1 e1 => pStore_T hq fun s2 f2 e2 => pStore_T hq fun s3 f3 e3 => T.ret ?_
  refine ⟨((h.z.fr f1 rfl (by decide)).fr f2 rfl (by decide)).fr f3 rfl (by decide), by rw [f3 _ (by decide), f2 _ (by decide), f1 _ (by decide)]; exact h.t22,
    by rw [f3 _ (by decide), f2 _ (by decide), f1 _ (by decide)]; exact h.h17, ?_⟩
  rw [e3, e2, e1]
  have := PP_step (by omega) (PP_step (by omega) (PP_step (by omega) h.p18 (inb := inb4 (by omega) g (by omega) (by omega)) (x := sp1 (PJ e w.toNat)) rfl)
    (inb := inb4 (by omega) g (by omega) (by omega)) (x := sp2 (PJ e w.toNat)) rfl) (inb := inb4 (by omega) g (by omega) (by omega)) (x := sp3 (PJ e w.toNat)) rfl
  exact fun i hi => this i (by have : (i 0).val < 3 := (i 0).isLt; omega)

end Cert.Proof.Lsq
-- ==== Proof.SweepSteps.lean ====
/-
  The sweeps over the tiles and the whole body, run: the weights dequantised, the two sweeps, the corrected weights and
  the losses.
-/
module

public import proofs.«01_k».proof.Proof.TileSteps

@[expose] public section

set_option maxRecDepth 16384

noncomputable section

namespace Cert.Proof.Lsq

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.KernelIdeal Cert.KernelIdeal.Gen

variable {F : FTy → Type} [FloatOps F]

variable {U : Type} [URA U] {M : (j : A) → Memref sig .tc (sp j) (sh j) (el j)} {hM : ∀ j, (M j).IsWhole}
variable {q : A → PosShare TreeShare} {c : Dev nD} {defs : Defs nD τ sig (Elt F) Λ₀} {𝒱 : Variants} {bd : Option 𝒱.V} {α : Type}

/-! ## Loads -/

/-! ## The dequantised weights -/

/-- The buffer holds the first `c` column groups of the dequantised weights. -/
def DQ (e : S F) (c : ℕ) (X : S512x1024.Idx → F .bf16) : Prop := ∀ i, (i 1).val < 128 * c → X i = WQ e i

theorem DQ_step {e : S F} {g : ℕ} (hg : g < 8) {X : S512x1024.Idx → F .bf16} (hX : DQ e g X) {inb} {w : S512x128.Idx → F .bf16}
    (hw : ∀ (r : Fin 512) (l : Fin 128), w (ix2 r l) = WQ e (ix2 r (Fin.ofNat 1024 (128 * g + l.val)))) :
    DQ e (g + 1) (wr X (Rect.unit (s := S512x1024) ![0, 128 * g] S512x128.size inb) w) := by
  intro i hi
  have i0 : (i 0).val < 512 := (i 0).isLt
  by_cases hin : 128 * g ≤ (i 1).val
  · rw [wr_unit_in (s := S512x1024) (o := ![0, 128 * g]) (size := S512x128.size) (inb := inb) X w i fun a => match a with
      | ⟨0, _⟩ => ⟨Nat.zero_le _, by show (i 0).val < 0 + 512; omega⟩
      | ⟨1, _⟩ => ⟨hin, by show (i 1).val < 128 * g + 128; omega⟩]
    have hk' : (i 1).val - 128 * g < 128 := by omega
    refine Eq.trans (congrArg w ?_) ((hw (i 0) ⟨(i 1).val - 128 * g, hk'⟩).trans (congrArg (WQ e) ?_))
    · funext a
      exact match a with
      | ⟨0, _⟩ => rfl
      | ⟨1, _⟩ => rfl
    · funext a
      apply Fin.ext
      exact match a with
      | ⟨0, _⟩ => rfl
      | ⟨1, _⟩ => by show (128 * g + ((i 1).val - 128 * g)) % 1024 = (i 1).val; omega
  · rw [wr_unit_out (s := S512x1024) (o := ![0, 128 * g]) (size := S512x128.size) (inb := inb) X w i 1 (.inl (by show (i 1).val < 128 * g; omega))]
    exact hX i (by omega)

theorem code_lo (e : S F) {g : ℕ} (hg : g < 4) (r : Fin 512) (l : Fin 128) :
    codeLo (F := F) (e .a7) (ix2 r (Fin.ofNat 512 (128 * g + l.val))) = code e (ix2 r (Fin.ofNat 1024 (128 * g + l.val))) := by
  have h : (128 * g + l.val) % 1024 < 512 := by omega
  refine Eq.symm ((if_pos h).trans (congrArg (codeLo (F := F) (e .a7)) ?_))
  funext a
  apply Fin.ext
  exact match a with
  | ⟨0, _⟩ => rfl
  | ⟨1, _⟩ => by show (128 * g + l.val) % 1024 % 512 = (128 * g + l.val) % 512; omega
theorem code_hi (e : S F) {g : ℕ} (hg : g < 4) (r : Fin 512) (l : Fin 128) :
    codeHi (F := F) (e .a7) (ix2 r (Fin.ofNat 512 (128 * g + l.val))) = code e (ix2 r (Fin.ofNat 1024 (128 * (g + 4) + l.val))) := by
  have h : ¬ (128 * (g + 4) + l.val) % 1024 < 512 := by omega
  refine Eq.symm ((if_neg h).trans (congrArg (codeHi (F := F) (e .a7)) ?_))
  funext a
  apply Fin.ext
  exact match a with
  | ⟨0, _⟩ => rfl
  | ⟨1, _⟩ => by show ((128 * (g + 4) + l.val) % 1024 - 512) % 512 = (128 * g + l.val) % 512; omega

/-- Between the column groups. -/
structure DqI (e : S F) (k : ℕ) (s : S F) : Prop where
  inp : Inp e s
  sc : Sc e s
  dq : DQ e k (s .a20)

theorem deqCol_T {e s : S F} {g k : ℕ} {hg : g < 8} {hs : S512x512.Slices ![0, k] S512x128} {x : FVec F S512x512 .bf16} {K : P F α} {Q : α → S F → Prop}
    (hq : ∀ j, isIn j = false → q j = fullShare) (h : DqI e g s) (hk : k + 128 ≤ 512)
    (hx : ∀ (r : Fin 512) (l : Fin 128), x (ix2 r (Fin.ofNat 512 (k + l.val))) = code e (ix2 r (Fin.ofNat 1024 (128 * g + l.val))))
    (hK : ∀ s', DqI e (g + 1) s' → T (U := U) M q c defs 𝒱 bd K s' Q) : T (U := U) M q c defs 𝒱 bd (deqCol M hM g k hg hs x K) s Q := by
  unfold deqCol
  refine T.load A.a8 (T.load A.a20 (T.store' A.a20 (hq _ rfl) fun s1 f1 e1 => hK s1 ⟨h.inp.fr f1 rfl, h.sc.fr f1 rfl, ?_⟩))
  rw [e1]
  refine DQ_step hg h.dq fun r l => ?_
  refine (congrFun (shapeCast_self _ _) _).trans ?_
  refine congrArg₂ FloatOps.mulf ?_ ?_
  · refine (extractStridedSlice_apply _ _ _ _ (ix2 r (Fin.ofNat 512 (k + l.val))) fun a => match a with
      | ⟨0, _⟩ => by show r.val = 0 + r.val; omega
      | ⟨1, _⟩ => by show (k + l.val) % 512 = k + l.val; omega).trans (hx r l)
  · refine (broadcastTo_apply _ _ _ (ix2 r 0) fun a => match a with
      | ⟨0, _⟩ => rfl
      | ⟨1, _⟩ => rfl).trans ?_
    refine congrArg (FloatOps.truncf .bf16 bitsLt_bf16_f32) ?_
    rw [h.inp .a8 rfl]
    refine congrArg (e .a8) ?_
    funext a
    apply Fin.ext
    exact match a with
    | ⟨0, _⟩ => by show 0 + 1 * r.val = r.val; omega
    | ⟨1, _⟩ => by show g + 1 * 0 = (128 * g + l.val) % 1024 / 128 % 8; omega

theorem deqAll_T {e s : S F} {K : P F α} {Q : α → S F → Prop} (hq : ∀ j, isIn j = false → q j = fullShare) (hi : Inp e s) (hc : Sc e s)
    (hK : ∀ s', Inp e s' → Sc e s' → s' .a20 = WQ e → s' .a12 = (fun _ => zf) → s' .a21 = (fun _ => zf) → T (U := U) M q c defs 𝒱 bd K s' Q) :
    T (U := U) M q c defs 𝒱 bd (deqAll M hM K) s Q := by
  unfold deqAll
  refine T.load' A.a7 fun x hx => ?_
  rw [rd_unit_all (s := S512x512) (s .a7), hi .a7 rfl] at hx
  subst hx
  have h0 : DqI e 0 s := ⟨hi, hc, fun i hi => absurd hi (by omega)⟩
  refine deqCol_T hq h0 (by omega) (code_lo e (g := 0) (by omega)) fun s1 h1 => ?_
  refine deqCol_T hq h1 (by omega) (code_lo e (g := 1) (by omega)) fun s2 h2 => ?_
  refine deqCol_T hq h2 (by omega) (code_lo e (g := 2) (by omega)) fun s3 h3 => ?_
  refine deqCol_T hq h3 (by omega) (code_lo e (g := 3) (by omega)) fun s4 h4 => ?_
  refine deqCol_T hq h4 (by omega) (code_hi e (g := 0) (by omega)) fun s5 h5 => ?_
  refine deqCol_T hq h5 (by omega) (code_hi e (g := 1) (by omega)) fun s6 h6 => ?_
  refine deqCol_T hq h6 (by omega) (code_hi e (g := 2) (by omega)) fun s7 h7 => ?_
  refine deqCol_T hq h7 (by omega) (code_hi e (g := 3) (by omega)) fun s8 h8 => ?_
  refine T.load A.a12 (T.store' A.a12 (hq _ rfl) fun s9 f9 e9 => T.load A.a21 (T.store' A.a21 (hq _ rfl) fun s10 f10 e10 => ?_))
  refine hK s10 ((h8.inp.fr f9 rfl).fr f10 rfl) ((h8.sc.fr f9 rfl).fr f10 rfl) ?_ ?_ ?_
  · rw [f10 _ (by decide), f9 _ (by decide)]
    exact funext fun i => h8.dq i (i 1).isLt
  · rw [f10 _ (by decide), e9]
    exact (wr_unit_all (s := S512x1024) _ _).trans rfl
  · rw [e10]
    exact (wr_unit_all (s := S2x512x128) _ _).trans rfl

/-! ## The two accumulators, the exact products and the projected tokens -/

/-- One of the two accumulators. -/
def sl {β : Type} (p : ℕ) (X : S2x512x128.Idx → β) : S1x512x128.Idx → β := fun x => X (ix3 (Fin.ofNat 2 p) (x 1) (x 2))
theorem sl_ix {p : ℕ} (hp : p < 2) (inb) (x : S1x512x128.Idx) : (Rect.unit (s := S2x512x128) ![p, 0, 0] S1x512x128.size inb).emb x = ix3 (Fin.ofNat 2 p) (x 1) (x 2) := by
  have h0 : (x 0).val < 1 := (x 0).isLt
  funext a
  apply Fin.ext
  exact match a with
  | ⟨0, _⟩ => by show p + 1 * (x 0).val = p % 2; omega
  | ⟨1, _⟩ => by show 0 + 1 * (x 1).val = (x 1).val; omega
  | ⟨2, _⟩ => by show 0 + 1 * (x 2).val = (x 2).val; omega
theorem sl_rd {β : Type} {p : ℕ} (hp : p < 2) (X : S2x512x128.Idx → β) (inb) :
    (fun x => X ((Rect.unit (s := S2x512x128) ![p, 0, 0] S1x512x128.size inb).toLoadRect.idx x)) = sl p X := funext fun x => congrArg X (sl_ix hp inb x)
theorem sl_wr {β : Type} {p : ℕ} (hp : p < 2) (X : S2x512x128.Idx → β) (inb) (w : S1x512x128.Idx → β) :
    sl p (wr X (Rect.unit (s := S2x512x128) ![p, 0, 0] S1x512x128.size inb) w) = w := funext fun x => by
  have h0 : (x 0).val < 1 := (x 0).isLt
  have h1 : (x 1).val < 512 := (x 1).isLt
  have h2 : (x 2).val < 128 := (x 2).isLt
  unfold sl
  refine (wr_unit_in (s := S2x512x128) (o := ![p, 0, 0]) (size := S1x512x128.size) (inb := inb) X w (ix3 (Fin.ofNat 2 p) (x 1) (x 2)) fun a => match a with
    | ⟨0, _⟩ => ⟨by show p ≤ p % 2; omega, by show p % 2 < p + 1; omega⟩
    | ⟨1, _⟩ => ⟨Nat.zero_le _, by show (x 1).val < 0 + 512; omega⟩
    | ⟨2, _⟩ => ⟨Nat.zero_le _, by show (x 2).val < 0 + 128; omega⟩).trans (congrArg w ?_)
  funext a
  apply Fin.ext
  exact match a with
  | ⟨0, _⟩ => by show p % 2 - p = (x 0).val; omega
  | ⟨1, _⟩ => rfl
  | ⟨2, _⟩ => rfl
theorem sl_wr' {β : Type} {p p' : ℕ} (hp : p < 2) (hp' : p' < 2) (hn : p ≠ p') (X : S2x512x128.Idx → β) (inb) (w : S1x512x128.Idx → β) :
    sl p' (wr X (Rect.unit (s := S2x512x128) ![p, 0, 0] S1x512x128.size inb) w) = sl p' X := funext fun x => by
  unfold sl
  exact wr_unit_out (s := S2x512x128) (o := ![p, 0, 0]) (size := S1x512x128.size) (inb := inb) X w _ 0 (by show p' % 2 < p ∨ p + 1 ≤ p' % 2; omega)

/-- The buffer holds the exact products of the first `k` tiles. -/
def YI (e : S F) (k : ℕ) (X : S8x512x256.Idx → F .f32) : Prop := ∀ i, (i 0).val < k → X i = YV e (i 0).val (ix2 (i 1) (i 2))
theorem YI_step {e : S F} {w : BitVec 32} {X : S8x512x256.Idx → F .f32} (hX : YI e w.toNat X) (inb) {v : FVec F S512x256 .f32} (hv : v = YV e w.toNat) :
    YI e (w.toNat + 1) (wr X (Rect.unit (s := S8x512x256) ![(Scalar.indexCast w : Index).toNat, 0, 0] S1x512x256.size inb) (shapeCast S1x512x256 v shapeCasts_S512x256_S1x512x256)) := by
  subst hv
  intro i hi
  have i1 : (i 1).val < 512 := (i 1).isLt
  have i2 : (i 2).val < 256 := (i 2).isLt
  by_cases hin : (i 0).val = w.toNat
  · rw [wr_unit_in (s := S8x512x256) (o := ![(Scalar.indexCast w : Index).toNat, 0, 0]) (size := S1x512x256.size) (inb := inb) X _ i fun a => match a with
      | ⟨0, _⟩ => ⟨by show w.toNat ≤ (i 0).val; omega, by show (i 0).val < w.toNat + 1; omega⟩
      | ⟨1, _⟩ => ⟨Nat.zero_le _, by show (i 1).val < 0 + 512; omega⟩
      | ⟨2, _⟩ => ⟨Nat.zero_le _, by show (i 2).val < 0 + 256; omega⟩]
    refine (shapeCast_addUnit_apply _ _ _ _).trans ?_
    refine Eq.trans (congrArg (YV e w.toNat) ?_) (congrArg (fun t => YV e t (ix2 (i 1) (i 2))) hin).symm
    funext a
    exact match a with
    | ⟨0, _⟩ => rfl
    | ⟨1, _⟩ => rfl
  · rw [wr_unit_out (s := S8x512x256) (o := ![(Scalar.indexCast w : Index).toNat, 0, 0]) (size := S1x512x256.size) (inb := inb) X _ i 0 (.inl (by show (i 0).val < w.toNat; omega))]
    exact hX i (by omega)
theorem YI_rd {e : S F} {k : ℕ} {w : BitVec 32} {X : S8x512x256.Idx → F .f32} (hX : YI e k X) (hw : w.toNat < k) (inb) :
    shapeCast S512x256 (fun x : S1x512x256.Idx => X ((Rect.unit (s := S8x512x256) ![(Scalar.indexCast w : Index).toNat, 0, 0] S1x512x256.size inb).toLoadRect.idx x)) shapeCasts_S1x512x256_S512x256
      = YV e w.toNat := by
  funext j
  have e0 : ((Rect.unit (s := S8x512x256) ![(Scalar.indexCast w : Index).toNat, 0, 0] S1x512x256.size inb).toLoadRect.idx (Fin.cons ⟨0, Nat.one_pos⟩ j : S1x512x256.Idx) 0).val = w.toNat := by
    show w.toNat + 1 * 0 = _; omega
  refine (shapeCast_dropUnit_apply _ _ _ _).trans ((hX _ (lt_of_eq_of_lt e0 hw)).trans ?_)
  refine (congrArg (fun t => YV e t _) e0).trans (congrArg (YV e w.toNat) ?_)
  funext a
  apply Fin.ext
  exact match a with
  | ⟨0, _⟩ => by show 0 + 1 * (j 0).val = (j 0).val; omega
  | ⟨1, _⟩ => by show 0 + 1 * (j 1).val = (j 1).val; omega

theorem pLoad_T {e s : S F} {p : ℕ} {hp : p < 3} {w : BitVec 32} {g : GoodT w} {K : FVec F S1x1x256x1024 .bf16 → P F α} {Q : α → S F → Prop}
    (h : ∀ i, (i 1).val < NT e → s .a18 i = pF e i) (hw : w.toNat < NT e) (hK : T (U := U) M q c defs 𝒱 bd (K (pS e p w.toNat)) s Q) :
    T (U := U) M q c defs 𝒱 bd (pLoad M p hp w g K) s Q := by
  unfold pLoad
  refine T.load' A.a18 fun v hv => ?_
  have : v = pS e p w.toNat := by
    rw [hv]
    funext x
    have h0 : (x 0).val < 1 := (x 0).isLt
    have h1 : (x 1).val < 1 := (x 1).isLt
    have e0 : ((Rect.unit (s := S3x8x256x1024) ![p, (Scalar.indexCast w : Index).toNat, 0, 0] S1x1x256x1024.size (inb4 (by omega) g (by omega) (by omega))).toLoadRect.idx x 0).val = p := by
      show p + 1 * (x 0).val = p; omega
    have e1 : ((Rect.unit (s := S3x8x256x1024) ![p, (Scalar.indexCast w : Index).toNat, 0, 0] S1x1x256x1024.size (inb4 (by omega) g (by omega) (by omega))).toLoadRect.idx x 1).val = w.toNat := by
      show w.toNat + 1 * (x 1).val = _; omega
    refine (h _ (lt_of_eq_of_lt e1 hw)).trans ?_
    unfold pF pS
    refine (congrArg₂ (fun a b => spN a (PJ e b) _) e0 e1).trans (congrArg (spN p (PJ e w.toNat)) ?_)
    funext a
    apply Fin.ext
    exact match a with
    | ⟨0, _⟩ => by show 0 + 1 * (x 2).val = (x 2).val; omega
    | ⟨1, _⟩ => by show 0 + 1 * (x 3).val = (x 3).val; omega
  subst this
  exact hK

/-! ## The first sweep -/

/-- Between the tiles of the first sweep. -/
structure SA (e : S F) (k : ℕ) (s : S F) : Prop where
  inp : Inp e s
  sc : Sc e s
  wq : s .a20 = WQ e
  y : YI e k (s .a19)
  acc0 : sl 0 (s .a21) = ACC0 e k
  acc1 : sl 1 (s .a21) = ACC1 e 0
  dw : s .a12 = DW e k

theorem sweepA_T {e s : S F} {w : BitVec 32} {g : GoodT w} (hq : ∀ j, isIn j = false → q j = fullShare) (hL : LensOK (e .a1)) (hw : w.toNat < NT e)
    (h : SA e w.toNat s) : T (U := U) M q c defs 𝒱 bd (sweepA M w g) s fun _ s' => SA e (w.toNat + 1) s' := by
  unfold sweepA
  refine T.load' A.a6 fun wf hwf => ?_
  rw [rd_unit_all (s := S512x1024) (s .a6), h.inp .a6 rfl] at hwf
  subst hwf
  refine toks13_T ?_
  rw [tok_XZ hL h.sc.x13 hw]
  refine T.load' A.a20 fun wq hwq => ?_
  rw [rd_unit_all (s := S512x1024) (s .a20), h.wq] at hwq
  subst hwq
  refine toks14_T ?_
  rw [tok_XZ hL h.sc.x14 hw]
  refine pair15_T ?_
  rw [h.sc.q15]
  refine pair16_T ?_
  rw [h.sc.q16]
  refine T.load A.a19 (T.store' A.a19 (hq _ rfl) fun s1 f1 e1 => T.load' A.a21 fun o ho => ?_)
  rw [sl_rd (p := 0) (by omega) (s1 .a21), f1 _ (by decide), h.acc0] at ho
  subst ho
  refine T.load A.a21 (T.store' A.a21 (hq _ rfl) fun s2 f2 e2 => T.load' A.a12 fun dw hdw => ?_)
  rw [rd_unit_all (s := S512x1024) (s2 .a12), f2 _ (by decide), f1 _ (by decide), h.dw] at hdw
  subst hdw
  have c2 : Sc e s2 := (h.sc.fr f1 rfl).fr f2 rfl
  refine pLoad_T c2.p18 hw (pLoad_T c2.p18 hw (pLoad_T c2.p18 hw (T.load A.a12 (T.store' A.a12 (hq _ rfl) fun s3 f3 e3 => T.ret ?_))))
  refine ⟨((h.inp.fr f1 rfl).fr f2 rfl).fr f3 rfl, c2.fr f3 rfl, ?_, ?_, ?_, ?_, ?_⟩
  · rw [f3 _ (by decide), f2 _ (by decide), f1 _ (by decide)]; exact h.wq
  · rw [f3 _ (by decide), f2 _ (by decide), e1]; exact YI_step h.y _ rfl
  · rw [f3 _ (by decide), e2]; exact sl_wr (by omega) _ _ _
  · rw [f3 _ (by decide), e2, f1 _ (by decide)]
    exact (sl_wr' (by omega) (by omega) (by omega) _ _ _).trans h.acc1
  · rw [e3]
    exact (wr_unit_all (s := S512x1024) _ _).trans (congrArg (fun d => addf d _) (shapeCast_self _ _))

/-! ## The second sweep -/

/-- Between the tiles of the second sweep. -/
structure SB (e : S F) (k : ℕ) (s : S F) : Prop where
  inp : Inp e s
  sc : Sc e s
  wc : s .a9 = WC e
  y : YI e (NT e) (s .a19)
  acc0 : sl 0 (s .a21) = ACC0 e (NT e)
  acc1 : sl 1 (s .a21) = ACC1 e k
  dw : s .a12 = DW e (NT e)

theorem sweepB_T {e s : S F} {w : BitVec 32} {g : GoodT w} (hq : ∀ j, isIn j = false → q j = fullShare) (hL : LensOK (e .a1)) (hw : w.toNat < NT e)
    (h : SB e w.toNat s) : T (U := U) M q c defs 𝒱 bd (sweepB M w g) s fun _ s' => SB e (w.toNat + 1) s' := by
  unfold sweepB
  refine T.load' A.a9 fun wc hwc => ?_
  rw [rd_unit_all (s := S512x1024) (s .a9), h.wc] at hwc
  subst hwc
  refine toks14_T ?_
  rw [tok_XZ hL h.sc.x14 hw]
  refine pair16_T ?_
  rw [h.sc.q16]
  refine T.load' A.a19 fun y hy => ?_
  have hy' : shapeCast S512x256 y shapeCasts_S1x512x256_S512x256 = YV e w.toNat := hy ▸ YI_rd h.y hw _
  rw [hy']
  refine pair15_T ?_
  rw [h.sc.q15]
  refine T.load' A.a21 fun o ho => ?_
  rw [sl_rd (p := 1) (by omega) (s .a21), h.acc1] at ho
  subst ho
  refine T.load A.a21 (T.store' A.a21 (hq _ rfl) fun s2 f2 e2 => T.ret ?_)
  refine ⟨h.inp.fr f2 rfl, h.sc.fr f2 rfl, by rw [f2 _ (by decide)]; exact h.wc, by rw [f2 _ (by decide)]; exact h.y, ?_, ?_, by rw [f2 _ (by decide)]; exact h.dw⟩
  · rw [e2]; exact (sl_wr' (by omega) (by omega) (by omega) _ _ _).trans h.acc0
  · rw [e2]; exact (sl_wr (by omega) _ _ _).trans (by rw [shapeCast_self]; rfl)

/-! ## The start of a point -/

theorem NT_le {e : S F} (hL : LensOK (e .a1)) : (tilesW (off (e .a1) 16)).toNat ≤ 8 := by
  have ho := off_le' hL (b := 16) (by omega)
  rw [tiles_eq ho]; omega

theorem setup_T {e s : S F} {i : grid0.Coords} {h1 : k0_cond1 i = 1#1} {K : P F α} {Q : α → S F → Prop} (hq : ∀ j, isIn j = false → q j = fullShare)
    (hL : LensOK (e .a1)) (h : Inp e s) (hK : ∀ s', Inp e s' → Sc e s' → T (U := U) M q c defs 𝒱 bd K s' Q) :
    T (U := U) M q c defs 𝒱 bd (setup M hM i h1 K) s Q := by
  have hN := NT_le hL
  unfold setup
  refine packAll_T hq hL h fun s1 z1 => cntAny_T fun _ => T.store' A.a22 (hq _ rfl) fun s2 f2 e2 => ?_
  have z2 := z1.fr f2 rfl (by decide)
  have t2 : s2 .a22 = fun _ => tilesW (off (e .a1) 16) := by rw [e2]; exact wr_unit_all (s := S1) _ _
  refine T.bind (R := fun r s' => r.1 = tilesW (off (e .a1) 16) ∧ PrI e 0 s')
    (T.bind (T.for (fun k s => HpI e k s) ⟨z2, t2, fun i hi => absurd hi (by omega)⟩ fun t s hs => hBody_T hq hs) fun _ s3 h3 =>
      cnt_T h3.t22 (T.assume (chk17_of hN) (T.ret ⟨rfl, h3.z, h3.t22, ?_, fun i hi => absurd hi (by omega)⟩))) fun r s4 h4 => ?_
  · exact funext fun i => h3.h17 i (.inl (lt_of_lt_of_eq (i 1).isLt (show (1024 : ℕ) = _ by rw [t1_trips])))
  · obtain ⟨hr, h4⟩ := h4
    have L := (lps (w := r.1) (by rw [hr]; exact hN)).1
    have hn : (k0_t2_loop r.1).trips = NT e := L.n.trans (by rw [hr]; rfl)
    have hN' : NT e ≤ 8 := hN
    refine T.bind (T.for (fun k s => PrI e k s) h4 fun t s hs => ?_) fun _ s5 h5 => ?_
    · have ht := tw_eq (n := (k0_t2_loop r.1).trips) (by omega) t
      have := projBody_T (U := U) (M := M) (hM := hM) (c := c) (defs := defs) (𝒱 := 𝒱) (bd := bd) (w := tw 0#32 t) (g := k0_off181_inb i r.1 r.2.1 t h1 1) hq hL (by rw [ht]; exact lt_of_lt_of_eq t.isLt hn) (by rw [ht]; exact hs)
      rw [ht] at this
      exact this
    · rw [hn] at h5
      refine T.bind (T.for (fun _ s => PrI e (NT e) s) h5 fun t => absurd (lt_of_lt_of_eq t.isLt L.z) (Nat.not_lt_zero _)) fun _ s6 h6 => ?_
      exact hK s6 h6.z.inp ⟨h6.z.x13 , h6.z.x14, h6.z.q15, h6.z.q16, h6.t22, fun i hi => h6.p18 i (.inl hi)⟩

/-- What the start of a point returns and leaves. -/
structure HdI (e : S F) (r : Σ' (v3 : Elt F .i32) (_ : k0_chk18 v3), F .f32) (s : S F) : Prop where
  r1 : r.1 = tilesW (off (e .a1) 16)
  r2 : r.2.2 = NK e
  inp : Inp e s
  sc : Sc e s

theorem counts_T {e s : S F} (hL : LensOK (e .a1)) (h : Inp e s) (hc : Sc e s) : T (U := U) M q c defs 𝒱 bd (counts M) s fun r s' => HdI e r s' := by
  unfold counts
  exact cnt_T hc.t22 (T.assume (chk18_of (NT_le hL)) (lenSum_T (h .a1 rfl) (T.ret ⟨rfl, rfl, h, hc⟩)))

theorem head_T {e s : S F} {i : grid0.Coords} (hq : ∀ j, isIn j = false → q j = fullShare) (hL : LensOK (e .a1)) (h : Inp e s) (hc : k0_cond1 i = 1#1 ∨ Sc e s) :
    T (U := U) M q c defs 𝒱 bd (head M hM i) s fun r s' => HdI e r s' := by
  unfold head
  split
  · exact setup_T hq hL h fun s' h' hc' => counts_T hL h' hc'
  · exact counts_T hL h (hc.resolve_left (by assumption))

/-! ## The body -/

/-- The body run from the operands leaves the results of the point. -/
theorem body_T {e s : S F} {i : grid0.Coords} (hq : ∀ j, isIn j = false → q j = fullShare) (hL : LensOK (e .a1)) (h : Inp e s) (hc : k0_cond1 i = 1#1 ∨ Sc e s) :
    T (U := U) M q c defs 𝒱 bd (body M hM i) s fun _ s' => Post e s' := by
  have hN := NT_le hL
  have hN' : NT e ≤ 8 := hN
  unfold body
  refine T.bind (R := fun v s' => v = lossV (ACC1 e (NT e)) (NK e) ∧ SB e (NT e) s' ∧ s' .a10 = lossV (ACC0 e (NT e)) (NK e))
    (T.bind (head_T hq hL h hc) fun r s1 h1 => ?_) fun v s2 h2 => ?_
  · have LA := (lps (w := r.1) (by rw [h1.r1]; exact hN)).2.1
    have LB := (lps (w := r.1) (by rw [h1.r1]; exact hN)).2.2
    have hA : (k0_t4_loop r.1).trips = NT e := LA.n.trans (by rw [h1.r1]; rfl)
    have hB : (k0_t6_loop r.1).trips = NT e := LB.n.trans (by rw [h1.r1]; rfl)
    refine T.bind (R := fun wc s' => wc = WC e ∧ SA e (NT e) s') (deqAll_T hq h1.inp h1.sc fun s3 i3 c3 w3 d3 a3 => ?_) fun wc s4 h4 => ?_
    · refine T.bind (T.for (fun k s => SA e k s) ⟨i3, c3, w3, fun i hi => absurd hi (by omega), ?_, ?_, d3⟩ fun t s hs => ?_) fun _ s5 h5 => ?_
      · rw [a3]; rfl
      · rw [a3]; rfl
      · have ht := tw_eq (n := (k0_t4_loop r.1).trips) (by omega) t
        have := sweepA_T (U := U) (M := M) (c := c) (defs := defs) (𝒱 := 𝒱) (bd := bd) (w := tw 0#32 t) (g := k0_off205_inb r.1 r.2.1 t 0) hq hL (by rw [ht]; exact lt_of_lt_of_eq t.isLt hA) (by rw [ht]; exact hs)
        rw [ht] at this
        exact this
      · rw [hA] at h5
        refine T.bind (T.for (fun _ s => SA e (NT e) s) h5 fun t => absurd (lt_of_lt_of_eq t.isLt LA.z) (Nat.not_lt_zero _)) fun _ s6 h6 => ?_
        refine T.load' A.a20 fun wq hwq => T.load' A.a12 fun dw hdw => T.ret ⟨?_, h6⟩
        rw [rd_unit_all (s := S512x1024) (s6 .a20), h6.wq] at hwq
        rw [rd_unit_all (s := S512x1024) (s6 .a12), h6.dw] at hdw
        subst hwq hdw
        rfl
    · obtain ⟨rfl, h4⟩ := h4
      refine T.load A.a9 (T.store' A.a9 (hq _ rfl) fun s5 f5 e5 => ?_)
      have b5 : SB e 0 s5 := ⟨h4.inp.fr f5 rfl, h4.sc.fr f5 rfl, by rw [e5]; exact wr_unit_all (s := S512x1024) _ _, by rw [f5 _ (by decide)]; exact h4.y, by rw [f5 _ (by decide)]; exact h4.acc0,
        by rw [f5 _ (by decide)]; exact h4.acc1, by rw [f5 _ (by decide)]; exact h4.dw⟩
      refine T.bind (T.for (fun k s => SB e k s) b5 fun t s hs => ?_) fun _ s6 h6 => ?_
      · have ht := tw_eq (n := (k0_t6_loop r.1).trips) (by omega) t
        have := sweepB_T (U := U) (M := M) (c := c) (defs := defs) (𝒱 := 𝒱) (bd := bd) (w := tw 0#32 t) (g := k0_off233_inb r.1 r.2.1 t 0) hq hL (by rw [ht]; exact lt_of_lt_of_eq t.isLt hB) (by rw [ht]; exact hs)
        rw [ht] at this
        exact this
      · rw [hB] at h6
        refine T.bind (T.for (fun _ s => SB e (NT e) s) h6 fun t => absurd (lt_of_lt_of_eq t.isLt LB.z) (Nat.not_lt_zero _)) fun _ s7 h7 => ?_
        refine T.load' A.a21 fun a ha => ?_
        rw [sl_rd (p := 0) (by omega) (s7 .a21), h7.acc0] at ha
        subst ha
        refine T.load A.a10 (T.store' A.a10 (hq _ rfl) fun s8 f8 e8 => T.load' A.a21 fun b hb => ?_)
        rw [sl_rd (p := 1) (by omega) (s8 .a21), f8 _ (by decide), h7.acc1] at hb
        subst hb
        refine T.load A.a11 (T.ret ⟨by rw [h1.r2], ⟨h7.inp.fr f8 rfl, h7.sc.fr f8 rfl, by rw [f8 _ (by decide)]; exact h7.wc, by rw [f8 _ (by decide)]; exact h7.y, by rw [f8 _ (by decide)]; exact h7.acc0,
          by rw [f8 _ (by decide)]; exact h7.acc1, by rw [f8 _ (by decide)]; exact h7.dw⟩, ?_⟩)
        rw [e8, h1.r2]; exact wr_unit_all (s := S1x1x512) _ _
  · obtain ⟨rfl, b2, l2⟩ := h2
    refine T.store' A.a11 (hq _ rfl) fun s3 f3 e3 => T.ret ⟨b2.inp.fr f3 rfl, b2.sc.fr f3 rfl, by rw [f3 _ (by decide)]; exact b2.wc, by rw [f3 _ (by decide)]; exact l2, by rw [e3]; exact wr_unit_all (s := S1x1x512) _ _,
      by rw [f3 _ (by decide)]; exact b2.dw⟩

end Cert.Proof.Lsq
-- ==== Proof.BodyEq.lean ====
/-
  The printed kernel body is the folded one.
-/
module

public import proofs.«01_k».proof.Proof.Body

@[expose] public section

set_option maxRecDepth 16384

noncomputable section

namespace Cert.Proof.Lsq

open Cert.KernelIdeal Cert.KernelIdeal.Gen
open Idealize.ShloMosaic
open Idealize.ShloMosaic.TcCoe Idealize.ShloMosaic.Tactic
open Idealize.SL.Sem

variable {F : FTy → Type} [FloatOps F]
variable (M : (j : A) → Memref sig .tc (sp j) (sh j) (el j)) (hM : ∀ j, (M j).IsWhole)

/-- The printed body, run on a family of operands, is the folded body. -/
theorem body_eq (i : grid0.Coords) :
    (cc0_lsq_correct i (M .a1) (hM .a1) (M .a2) (hM .a2) (M .a3) (hM .a3) (M .a4) (hM .a4) (M .a5) (hM .a5) (M .a6) (hM .a6)
      (M .a7) (hM .a7) (M .a8) (hM .a8) (M .a9) (hM .a9) (M .a10) (hM .a10) (M .a11) (hM .a11) (M .a12) (hM .a12)
      (M .a13) (hM .a13) (M .a14) (hM .a14) (M .a15) (hM .a15) (M .a16) (hM .a16) (M .a17) (hM .a17) (M .a18) (hM .a18)
      (M .a19) (hM .a19) (M .a20) (hM .a20) (M .a21) (hM .a21) (M .a22) (hM .a22) : P F PUnit) = body M hM i := by
  chain_rfl

end Cert.Proof.Lsq
-- ==== Proof.Launch.lean ====
/-
  The kernel's launch: the two reshapes before the call, the eight points of the call by the body's run, and the
  memory that is left.
-/
module

public import proofs.«01_k».proof.Proof.SweepSteps
public import proofs.«01_k».proof.Proof.BodyEq
public import proofs.«01_k».proof.Proof.Gen.KernelIdeal.Launch
public import Idealize.ShloMosaic.Lib.Pipeline.Regions

@[expose] public section

set_option maxRecDepth 16384

noncomputable section

namespace Cert.Proof.Lsq

open Idealize.ShloMosaic
open Idealize.ShloMosaic.TcCoe
open Idealize.ShloMosaic.ValueIdx (ix1 ix2 ix3 ix4 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The algebra of the proof: the pipeline library's, beside counters nothing uses. -/
abbrev UU (nD : Nat) (τ : Topo) : Type := UR sig nD τ × Counters

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## Before the call -/

/-- Core `c`'s buffers at launch, and when the call is entered. -/
abbrev V₀ (c : Dev nD) : Valuation τ sig (Elt F) := fun b => (s₀ m ρ).mem ((c : Dev nD), b)
abbrev V (c : Dev nD) (b : Ref sig .tc) : Buf (Elt F) ((c : Thread nD τ).loc b) := StableHlo.after hostOps0 (V₀ m ρ c) b

/-- The reshapes write their own results only. -/
theorem not_written (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape, StableHlo.unary_writes, Finset.mem_singleton] <;>
    exact StableHlo.devRef_ne_of_ne ‹_›

/-- A buffer the reshapes do not write is as launched. -/
theorem V_kept (c : Dev nD) (b : Ref sig .tc) (hb : b ≠ main_v0 ∧ b ≠ main_v1) : V m ρ c b = m ((c : Thread nD τ).loc b) :=
  StableHlo.after_of_forall_not_mem (b := Proc.devRef .tc b) hostOps0 (V₀ m ρ c) (not_written b hb)

/-- The TensorCore's unscoped references, as device buffers. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- An operation on TensorCore references touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The pipeline's proof data -/

/-- The table of lengths, as launched. -/
abbrev adm : (p : Fin 1) → (pcfgs (F := F) p).Adm := fun _ => ⟨fun k => V m ρ (0 : Fin 1) (pre0.ref k), trivial⟩
abbrev cfgA : Cfg sig Λ₀ := Pipeline.pin (pcfgs (F := F)) (adm m ρ) 0

/-- A window's block at a point, read off its array. -/
def iblk (c : Dev nD) (w : Fin 11) (t : Fin grid0.N) : (spec0 w).block.Idx → Elt F (spec0 w).elt :=
  (((cfgA m ρ).win w).blk t).view.read (Elt F) (V m ρ c (Pipeline.arrRef spec0 w))

/-- The operands at a point: the table, the blocks of the inputs. -/
def eAt (c : Dev nD) (t : Fin grid0.N) : S F
  | .a1 => V m ρ (0 : Fin 1) main_arg7
  | .a2 => iblk m ρ c 0 t | .a3 => iblk m ρ c 1 t | .a4 => iblk m ρ c 2 t | .a5 => iblk m ρ c 3 t
  | .a6 => iblk m ρ c 4 t | .a7 => iblk m ρ c 5 t | .a8 => iblk m ρ c 6 t
  | .a9 => fun _ => zb | .a10 => fun _ => zf | .a11 => fun _ => zf | .a12 => fun _ => zf | .a13 => fun _ => zb | .a14 => fun _ => zb
  | .a15 => fun _ => zf | .a16 => fun _ => zf | .a17 => fun _ => zb | .a18 => fun _ => zb | .a19 => fun _ => zf
  | .a20 => fun _ => zb | .a21 => fun _ => zf | .a22 => fun _ => 0#32

/-- The operands' memrefs, by the staging buffers in use. -/
abbrev Mt (s : (w : Fin 11) → Fin (spec0 w).nbuf) : (j : A) → Memref sig .tc (sp j) (sh j) (el j)
  | .a1 => Memref.whole main_arg7
  | .a2 => spec0_0.stage (s 0) | .a3 => spec0_1.stage (s 1) | .a4 => spec0_2.stage (s 2) | .a5 => spec0_3.stage (s 3)
  | .a6 => spec0_4.stage (s 4) | .a7 => spec0_5.stage (s 5) | .a8 => spec0_6.stage (s 6) | .a9 => spec0_7.stage (s 7)
  | .a10 => spec0_8.stage (s 8) | .a11 => spec0_9.stage (s 9) | .a12 => spec0_10.stage (s 10)
  | .a13 => Memref.whole cc0_scratch0 | .a14 => Memref.whole cc0_scratch1 | .a15 => Memref.whole cc0_scratch2
  | .a16 => Memref.whole cc0_scratch3 | .a17 => Memref.whole cc0_scratch4 | .a18 => Memref.whole cc0_scratch5
  | .a19 => Memref.whole cc0_scratch6 | .a20 => Memref.whole cc0_scratch7 | .a21 => Memref.whole cc0_scratch8
  | .a22 => Memref.whole cc0_scratch9

theorem hMt (s : (w : Fin 11) → Fin (spec0 w).nbuf) : (j : A) → (Mt s j).IsWhole
  | .a1 => Memref.isWhole_whole _
  | .a2 => hstage0_0 ((s 0).cast nbuf0_0) | .a3 => hstage0_1 ((s 1).cast nbuf0_1) | .a4 => hstage0_2 ((s 2).cast nbuf0_2)
  | .a5 => hstage0_3 ((s 3).cast nbuf0_3) | .a6 => hstage0_4 ((s 4).cast nbuf0_4) | .a7 => hstage0_5 ((s 5).cast nbuf0_5)
  | .a8 => hstage0_6 ((s 6).cast nbuf0_6) | .a9 => hstage0_7 ((s 7).cast nbuf0_7) | .a10 => hstage0_8 ((s 8).cast nbuf0_8)
  | .a11 => hstage0_9 ((s 9).cast nbuf0_9) | .a12 => hstage0_10 ((s 10).cast nbuf0_10)
  | .a13 => Memref.isWhole_whole _ | .a14 => Memref.isWhole_whole _ | .a15 => Memref.isWhole_whole _
  | .a16 => Memref.isWhole_whole _ | .a17 => Memref.isWhole_whole _ | .a18 => Memref.isWhole_whole _
  | .a19 => Memref.isWhole_whole _ | .a20 => Memref.isWhole_whole _ | .a21 => Memref.isWhole_whole _
  | .a22 => Memref.isWhole_whole _

/-- The operands held, one by one. -/
theorem own_eq (M : (j : A) → Memref sig .tc (sp j) (sh j) (el j)) (c : Dev nD) (s : S F) :
    (Own (U := UU nD τ) M (fun _ => fullShare) c s : sProp 𝕄)
      = iprop(owns (c : Thread nD τ) (M .a1) fullShare (s .a1) ∗ owns (c : Thread nD τ) (M .a2) fullShare (s .a2) ∗ owns (c : Thread nD τ) (M .a3) fullShare (s .a3) ∗ owns (c : Thread nD τ) (M .a4) fullShare (s .a4) ∗ owns (c : Thread nD τ) (M .a5) fullShare (s .a5) ∗ owns (c : Thread nD τ) (M .a6) fullShare (s .a6) ∗ owns (c : Thread nD τ) (M .a7) fullShare (s .a7) ∗ owns (c : Thread nD τ) (M .a8) fullShare (s .a8) ∗ owns (c : Thread nD τ) (M .a9) fullShare (s .a9) ∗ owns (c : Thread nD τ) (M .a10) fullShare (s .a10) ∗ owns (c : Thread nD τ) (M .a11) fullShare (s .a11) ∗ owns (c : Thread nD τ) (M .a12) fullShare (s .a12) ∗ owns (c : Thread nD τ) (M .a13) fullShare (s .a13) ∗ owns (c : Thread nD τ) (M .a14) fullShare (s .a14) ∗ owns (c : Thread nD τ) (M .a15) fullShare (s .a15) ∗ owns (c : Thread nD τ) (M .a16) fullShare (s .a16) ∗ owns (c : Thread nD τ) (M .a17) fullShare (s .a17) ∗ owns (c : Thread nD τ) (M .a18) fullShare (s .a18) ∗ owns (c : Thread nD τ) (M .a19) fullShare (s .a19) ∗ owns (c : Thread nD τ) (M .a20) fullShare (s .a20) ∗ owns (c : Thread nD τ) (M .a21) fullShare (s .a21) ∗ owns (c : Thread nD τ) (M .a22) fullShare (s .a22)) := by
  unfold Own
  exact bigSep_univ_eq_bigSepL [A.a1, .a2, .a3, .a4, .a5, .a6, .a7, .a8, .a9, .a10, .a11, .a12, .a13, .a14, .a15, .a16, .a17, .a18, .a19, .a20, .a21, .a22] (by decide) (by decide) _

/-- Between the points: the table as launched, and the scratches, packed after the first point. -/
def PhiN (c : Dev nD) (n : ℕ) : sProp 𝕄 :=
  iprop(∃ s : S F, ⌜s .a1 = V m ρ (0 : Fin 1) main_arg7 ∧ (n = 0 ∨ Sc (eAt m ρ c t0_0) s)⌝
    ∗ owns (c : Thread nD τ) (Memref.whole main_arg7) fullShare (s .a1)
    ∗ owns (c : Thread nD τ) (Memref.whole cc0_scratch0) fullShare (s .a13)
    ∗ owns (c : Thread nD τ) (Memref.whole cc0_scratch1) fullShare (s .a14)
    ∗ owns (c : Thread nD τ) (Memref.whole cc0_scratch2) fullShare (s .a15)
    ∗ owns (c : Thread nD τ) (Memref.whole cc0_scratch3) fullShare (s .a16)
    ∗ owns (c : Thread nD τ) (Memref.whole cc0_scratch4) fullShare (s .a17)
    ∗ owns (c : Thread nD τ) (Memref.whole cc0_scratch5) fullShare (s .a18)
    ∗ owns (c : Thread nD τ) (Memref.whole cc0_scratch6) fullShare (s .a19)
    ∗ owns (c : Thread nD τ) (Memref.whole cc0_scratch7) fullShare (s .a20)
    ∗ owns (c : Thread nD τ) (Memref.whole cc0_scratch8) fullShare (s .a21)
    ∗ owns (c : Thread nD τ) (Memref.whole cc0_scratch9) fullShare (s .a22))

/-- What a point leaves in each window's buffer. -/
def aft (c : Dev nD) (t : Fin grid0.N) : (w : Fin 11) → (spec0 w).block.Idx → Elt F (spec0 w).elt
  | 7 => WC (eAt m ρ c t)
  | 8 => lossV (ACC0 (eAt m ρ c t) (NT (eAt m ρ c t))) (NK (eAt m ρ c t))
  | 9 => lossV (ACC1 (eAt m ρ c t) (NT (eAt m ρ c t))) (NK (eAt m ρ c t))
  | 10 => DW (eAt m ρ c t) (NT (eAt m ρ c t))
  | 0 => iblk m ρ c 0 t | 1 => iblk m ρ c 1 t | 2 => iblk m ρ c 2 t | 3 => iblk m ρ c 3 t
  | 4 => iblk m ρ c 4 t | 5 => iblk m ρ c 5 t | 6 => iblk m ρ c 6 t
  | ⟨_ + 11, h⟩ => absurd h (Nat.not_lt.2 (Nat.le_add_left _ _))

/-- The proof data on core `c`. -/
def dats (p : Fin 1) (c : Dev nD) : Dat τ (Elt F) Unit ℕ (UU nD τ) ℕ (Pipeline.pin (pcfgs (F := F)) (adm m ρ) p) c where
  A w := V m ρ c (Pipeline.arrRef spec0 w)
  after w t := aft m ρ c t w
  Φ t := PhiN m ρ c t.val
  q _ := fullShare
  owed _ := 0

theorem A_eq (c : Dev nD) (w : Fin 11) : (dats m ρ 0 c).A w = V m ρ c (Pipeline.arrRef spec0 w) := by
  dsimp only [dats]
theorem after_eq (c : Dev nD) (w : Fin 11) (t : Fin grid0.N) : (dats m ρ 0 c).after w t = aft m ρ c t w := by
  dsimp only [dats]

abbrev 𝒱₀ : Variants := Variants.none

theorem before_0 (c : Dev nD) (t : Fin grid0.N) (d) : (dats m ρ 0 c).before 0 t d = iblk m ρ c 0 t :=
  ((dats m ρ 0 c).before_in_eq_fetched 0 rfl (fun _ => rfl) (fun _ _ _ => rfl) (fun t => by rw [after_eq]; unfold Dat.blockOf; rw [A_eq]; rfl) t d).trans
    (by unfold Dat.fetched Dat.blockOf iblk; rw [A_eq]; rfl)
theorem before_1 (c : Dev nD) (t : Fin grid0.N) (d) : (dats m ρ 0 c).before 1 t d = iblk m ρ c 1 t :=
  ((dats m ρ 0 c).before_in_eq_fetched 1 rfl (fun _ => rfl) (fun _ _ _ => rfl) (fun t => by rw [after_eq]; unfold Dat.blockOf; rw [A_eq]; rfl) t d).trans
    (by unfold Dat.fetched Dat.blockOf iblk; rw [A_eq]; rfl)
theorem before_2 (c : Dev nD) (t : Fin grid0.N) (d) : (dats m ρ 0 c).before 2 t d = iblk m ρ c 2 t :=
  ((dats m ρ 0 c).before_in_eq_fetched 2 rfl (fun _ => rfl) (fun _ _ _ => rfl) (fun t => by rw [after_eq]; unfold Dat.blockOf; rw [A_eq]; rfl) t d).trans
    (by unfold Dat.fetched Dat.blockOf iblk; rw [A_eq]; rfl)
theorem before_3 (c : Dev nD) (t : Fin grid0.N) (d) : (dats m ρ 0 c).before 3 t d = iblk m ρ c 3 t :=
  ((dats m ρ 0 c).before_in_eq_fetched 3 rfl (fun _ => rfl) (fun _ _ _ => rfl) (fun t => by rw [after_eq]; unfold Dat.blockOf; rw [A_eq]; rfl) t d).trans
    (by unfold Dat.fetched Dat.blockOf iblk; rw [A_eq]; rfl)
theorem before_4 (c : Dev nD) (t : Fin grid0.N) (d) : (dats m ρ 0 c).before 4 t d = iblk m ρ c 4 t :=
  ((dats m ρ 0 c).before_in_eq_fetched 4 rfl (fun _ => rfl) (fun _ _ _ => rfl) (fun t => by rw [after_eq]; unfold Dat.blockOf; rw [A_eq]; rfl) t d).trans
    (by unfold Dat.fetched Dat.blockOf iblk; rw [A_eq]; rfl)
theorem before_5 (c : Dev nD) (t : Fin grid0.N) (d) : (dats m ρ 0 c).before 5 t d = iblk m ρ c 5 t :=
  ((dats m ρ 0 c).before_in_eq_fetched 5 rfl (fun _ => rfl) (fun _ _ _ => rfl) (fun t => by rw [after_eq]; unfold Dat.blockOf; rw [A_eq]; rfl) t d).trans
    (by unfold Dat.fetched Dat.blockOf iblk; rw [A_eq]; rfl)
theorem before_6 (c : Dev nD) (t : Fin grid0.N) (d) : (dats m ρ 0 c).before 6 t d = iblk m ρ c 6 t :=
  ((dats m ρ 0 c).before_in_eq_fetched 6 rfl (fun _ => rfl) (fun _ _ _ => rfl) (fun t => by rw [after_eq]; unfold Dat.blockOf; rw [A_eq]; rfl) t d).trans
    (by unfold Dat.fetched Dat.blockOf iblk; rw [A_eq]; rfl)

/-- The window that does not move is its whole array. -/
theorem iblk_0 (c : Dev nD) (t : Fin grid0.N) : iblk m ρ c 0 t = V m ρ c main_v0 := by
  funext j
  show V m ρ c main_v0 _ = V m ρ c main_v0 j
  refine congrArg (V m ρ c main_v0) (funext fun a => Fin.ext ?_)
  match a with
  | 0 => show 0 * _ + 1 * (j 0).val = (j 0).val; omega
  | 1 => show 0 * _ + 1 * (j 1).val = (j 1).val; omega
theorem iblk_1 (c : Dev nD) (t : Fin grid0.N) : iblk m ρ c 1 t = V m ρ c main_v1 := by
  funext j
  show V m ρ c main_v1 _ = V m ρ c main_v1 j
  refine congrArg (V m ρ c main_v1) (funext fun a => Fin.ext ?_)
  match a with
  | 0 => show 0 * _ + 1 * (j 0).val = (j 0).val; omega
  | 1 => show 0 * _ + 1 * (j 1).val = (j 1).val; omega
theorem iblk_2 (c : Dev nD) (t : Fin grid0.N) : iblk m ρ c 2 t = V m ρ c main_arg2 := by
  funext j
  show V m ρ c main_arg2 _ = V m ρ c main_arg2 j
  refine congrArg (V m ρ c main_arg2) (funext fun a => Fin.ext ?_)
  match a with
  | 0 => show 0 * _ + 1 * (j 0).val = (j 0).val; omega
  | 1 => show 0 * _ + 1 * (j 1).val = (j 1).val; omega
theorem iblk_3 (c : Dev nD) (t : Fin grid0.N) : iblk m ρ c 3 t = V m ρ c main_arg6 := by
  funext j
  show V m ρ c main_arg6 _ = V m ρ c main_arg6 j
  refine congrArg (V m ρ c main_arg6) (funext fun a => Fin.ext ?_)
  match a with
  | 0 => show 0 * _ + 1 * (j 0).val = (j 0).val; omega
  | 1 => show 0 * _ + 1 * (j 1).val = (j 1).val; omega

/-- The packed scratches are the same for every point. -/
theorem Sc_pt {c : Dev nD} {t t' : Fin grid0.N} {s : S F} (h : Sc (eAt m ρ c t) s) : Sc (eAt m ρ c t') s := by
  have e2 : eAt m ρ c t .a2 = eAt m ρ c t' .a2 := (iblk_0 m ρ c t).trans (iblk_0 m ρ c t').symm
  have e3 : eAt m ρ c t .a3 = eAt m ρ c t' .a3 := (iblk_1 m ρ c t).trans (iblk_1 m ρ c t').symm
  have e4 : eAt m ρ c t .a4 = eAt m ρ c t' .a4 := (iblk_2 m ρ c t).trans (iblk_2 m ρ c t').symm
  have e5 : eAt m ρ c t .a5 = eAt m ρ c t' .a5 := (iblk_3 m ρ c t).trans (iblk_3 m ρ c t').symm
  have e1 : eAt m ρ c t .a1 = eAt m ρ c t' .a1 := rfl
  have ex : xcV (eAt m ρ c t) = xcV (eAt m ρ c t') := by unfold xcV; rw [e3]
  have ev : v15 (eAt m ρ c t) = v15 (eAt m ρ c t') := by unfold v15; rw [e4]
  have en : NT (eAt m ρ c t) = NT (eAt m ρ c t') := by unfold NT; rw [e1]
  have eX : XC (eAt m ρ c t) = XC (eAt m ρ c t') := by unfold XC; rw [ex, e1]
  have eh : hS (eAt m ρ c t) = hS (eAt m ρ c t') := by unfold hS hpF; rw [e5]
  have eP : PJ (eAt m ρ c t) = PJ (eAt m ρ c t') := by unfold PJ; rw [eX, eh]
  have ep : pF (eAt m ρ c t) = pF (eAt m ρ c t') := by unfold pF; rw [eP]
  exact ⟨by rw [← e2, ← e1]; exact h.x13, by rw [← ex, ← e1]; exact h.x14, by rw [← ev, ← e1]; exact h.q15, h.q16, h.t22,
    fun i hi => by rw [← ep]; exact h.p18 i (by rw [en]; exact hi)⟩

set_option maxHeartbeats 1600000 in
/-- The body's run at a point is what the pipeline asks of it. -/
theorem body_obligation (hL : LensOK (V m ρ (0 : Fin 1) main_arg7)) (c : Dev nD) :
    BodyObligation (dats m ρ 0 c) (defs₀ (F := F)) 𝒱₀ () Set.univ := fun t => by
  have hprog : (defs₀ (F := F)) .tc (cfgA m ρ).body ((cfgA m ρ).bodyArgs t ((cfgA m ρ).slots t))
      = body (Mt ((cfgA m ρ).slots t)) (hMt _) (grid0.coords t) := body_eq (M := Mt ((cfgA m ρ).slots t)) (hM := hMt _) (grid0.coords t)
  have hidle : ∀ w i, (cfgA m ρ).idle w i = false := fun _ _ => rfl
  rw [hprog, bigSep_W0, bigSep_W0]
  simp only [hidle]
  rw [show (dats m ρ 0 c).Φ t.castSucc = PhiN m ρ c t.val from rfl, show (dats m ρ 0 c).Φ t.succ = PhiN m ρ c (t.val + 1) from rfl]
  unfold PhiN Dat.owesAt Pipeline.owesWithin
  rw [show (dats m ρ 0 c).owed t.castSucc = 0 from rfl, show (dats m ρ 0 c).owed t.succ = 0 from rfl]
  iintro ⟨⟨%s, %hs, H1, H13, H14, H15, H16, H17, H18, H19, H20, H21, H22⟩, ⟨%W, %hW, HO⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩
  let s1 : S F := fun
    | .a1 => s .a1
    | .a2 => (dats m ρ 0 c).before 0 t d0 | .a3 => (dats m ρ 0 c).before 1 t d1 | .a4 => (dats m ρ 0 c).before 2 t d2
    | .a5 => (dats m ρ 0 c).before 3 t d3 | .a6 => (dats m ρ 0 c).before 4 t d4 | .a7 => (dats m ρ 0 c).before 5 t d5
    | .a8 => (dats m ρ 0 c).before 6 t d6 | .a9 => (dats m ρ 0 c).before 7 t d7 | .a10 => (dats m ρ 0 c).before 8 t d8
    | .a11 => (dats m ρ 0 c).before 9 t d9 | .a12 => (dats m ρ 0 c).before 10 t d10 | .a13 => s .a13 | .a14 => s .a14
    | .a15 => s .a15 | .a16 => s .a16 | .a17 => s .a17 | .a18 => s .a18 | .a19 => s .a19
    | .a20 => s .a20 | .a21 => s .a21 | .a22 => s .a22
  have hi : Inp (eAt m ρ c t) s1 := by
    intro j hj
    match j with
    | .a1 => exact hs.1
    | .a2 => exact before_0 m ρ c t d0
    | .a3 => exact before_1 m ρ c t d1
    | .a4 => exact before_2 m ρ c t d2
    | .a5 => exact before_3 m ρ c t d3
    | .a6 => exact before_4 m ρ c t d4
    | .a7 => exact before_5 m ρ c t d5
    | .a8 => exact before_6 m ρ c t d6
  have hc : k0_cond1 (grid0.coords t) = 1#1 ∨ Sc (eAt m ρ c t) s1 := by
    rcases hs.2 with h0 | h
    · left
      have : t = t0_0 := Fin.ext h0
      subst this
      decide
    · right
      exact (Sc_pt m ρ h).of fun j hj => by cases j <;> first | rfl | exact absurd hj (by decide)
  have hT := body_T (U := UU nD τ) (M := Mt ((cfgA m ρ).slots t)) (hM := hMt _) (q := fun _ => fullShare) (c := c) (defs := defs₀ (F := F)) (𝒱 := 𝒱₀) (bd := none)
    (i := grid0.coords t) (s := s1) (fun _ _ => rfl) (show LensOK (eAt m ρ c t .a1) from hL) hi hc
  unfold Lsq.T at hT
  rw [own_eq] at hT
  simp only [own_eq] at hT
  iapply (wp_wand_r Idealize.ShloMosaic.frame (wpE (defs₀ (F := F)) 𝒱₀ (c : Thread nD τ) none) Set.univ)
  isplitr [HO]
  · iapply hT
    isplitl [H1]; · iexact H1
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro %_ ⟨%s', %hP, H1, W0, W1, W2, W3, W4, W5, W6, W7, W8, W9, W10, H13, H14, H15, H16, H17, H18, H19, H20, H21, H22⟩
    isplitl [H1 H13 H14 H15 H16 H17 H18 H19 H20 H21 H22]
    · iexists s'
      isplitr
      · ipureintro
        exact ⟨hP.inp .a1 rfl, .inr (Sc_pt m ρ hP.sc)⟩
      isplitl [H1]; · iexact H1
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    isplitl [HO]
    · iexists W; isplitr; · ipureintro; exact fun _ _ => Or.inl trivial
      iexact HO
    rw [show s' .a2 = (dats m ρ 0 c).after 0 t from hP.inp .a2 rfl]
    rw [show s' .a3 = (dats m ρ 0 c).after 1 t from hP.inp .a3 rfl]
    rw [show s' .a4 = (dats m ρ 0 c).after 2 t from hP.inp .a4 rfl]
    rw [show s' .a5 = (dats m ρ 0 c).after 3 t from hP.inp .a5 rfl]
    rw [show s' .a6 = (dats m ρ 0 c).after 4 t from hP.inp .a6 rfl]
    rw [show s' .a7 = (dats m ρ 0 c).after 5 t from hP.inp .a7 rfl]
    rw [show s' .a8 = (dats m ρ 0 c).after 6 t from hP.inp .a8 rfl]
    rw [show s' .a9 = (dats m ρ 0 c).after 7 t from hP.wc]
    rw [show s' .a10 = (dats m ρ 0 c).after 8 t from hP.lb]
    rw [show s' .a11 = (dats m ρ 0 c).after 9 t from hP.la]
    rw [show s' .a12 = (dats m ρ 0 c).after 10 t from hP.dw]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    iexact W10

/-! ## The launch -/

/-- The kernel has no semaphore of its own. -/
abbrev osem : Fin 0 → SemLoc sig := fun k => k.elim0
theorem ownSemFacts : Pipeline.OwnSemFacts spec0 osem := by decide

/-- The launch element. -/
def u₀ : UU nD τ := (initOf (Pipeline.cells (Pipeline.pin (pcfgs (F := F)) (adm m ρ)) (cellOf_inj (adm m ρ))) (Pipeline.launchToks (Pipeline.pin (pcfgs (F := F)) (adm m ρ)) (cellOf_inj (adm m ρ))), 1)

/-- An array's contents after the run. -/
def finalA (c : Dev nD) (w : Fin 11) : Buf (Elt F) ((c : Thread nD τ).loc (Pipeline.arrRef spec0 w)) := (dats m ρ 0 c).arrAt w grid0.N

/-- What the run leaves: the windows' arrays, and the buffers no window is on as launched. -/
def QC : PUnit × MemSt nD τ sig (Elt F) → Prop := fun r =>
  ∀ c : Dev nD, (∀ w : Fin 11, r.2.mem ((c : Thread nD τ).loc (Pipeline.arrRef spec0 w)) = finalA m ρ c w)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg7) = m ((c : Thread nD τ).loc main_arg7)

/-- No core owes another anything: no level is assigned. -/
abbrev L : GSem nD τ sig → Finset Unit := fun _ => ∅
abbrev lv : GSem nD τ sig → Unit → ℕ := fun _ _ => 0

/-- What rides beside the buffers through the host operations. -/
abbrev R (c : Dev nD) : sProp 𝕄 := iprop(∃ W, owes (c : Thread nD τ) (0 : CellTallies nD τ sig Unit) W)

/-- The reshapes over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The table of lengths, held. -/
abbrev tbl (c : Dev nD) : sProp 𝕄 := ((c : Thread nD τ).loc main_arg7) ↦{fullShare} V m ρ c main_arg7

/-- What the call leaves for the end. -/
abbrev Tₙ (c : Dev nD) : sProp 𝕄 :=
  iprop((dats m ρ 0 c).arrays ((dats m ρ 0 c).arrAt · grid0.N) ∗ (((c : Thread nD τ).loc main_arg0) ↦{fullShare} V m ρ c main_arg0)
    ∗ (((c : Thread nD τ).loc main_arg1) ↦{fullShare} V m ρ c main_arg1) ∗ tbl m ρ c)

theorem dev0 (c : Dev nD) : c = (0 : Fin 1) := Subsingleton.elim (α := Fin 1) c 0

omit [FloatOps F] in
/-- The table held, as the pipeline hands it. -/
theorem prefHeld_one (c : Dev nD) (q : Fin 1 → PosShare TreeShare) (v : pre0.Contents (Elt F)) :
    (Pipeline.prefHeld pre0 c q v : sProp 𝕄) = (((c : Thread nD τ).loc main_arg7) ↦{q 0} (show Buf (Elt F) ((c : Thread nD τ).loc main_arg7) from v 0)) := by
  unfold Pipeline.prefHeld
  rw [show (Finset.univ : Finset (Fin 1)) = {0} from rfl, bigSep_singleton]
  rfl

-- entailments over a configuration pinned at the table unify by unfolding plain definitions in a metavariable's type
set_option backward.isDefEq.respectTransparency.types false in
/-- The call: entered from what the reshapes left, left with the arrays at their final contents. -/
def reg0 (hL : LensOK (V m ρ (0 : Fin 1) main_arg7)) : Pipeline.RegionSeg (pcfgs (F := F)) (adm m ρ) (dats m ρ) () defs₀ 𝒱₀ L lv 0 where
  win := winFacts0.to₀
  block_pos := block_pos0
  stage_whole := stage_whole0
  K := Fin 0
  osem := osem
  ho := ownSemFacts
  hbody c := (body_obligation m ρ hL c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ c ∗ R c)
  X c := iprop(emp)
  Y c := tbl m ρ c
  Z c := iprop((((c : Thread nD τ).loc main_arg0) ↦{fullShare} V m ρ c main_arg0) ∗ (((c : Thread nD τ).loc main_arg1) ↦{fullShare} V m ρ c main_arg1))
  hentry c := by
    rw [show StableHlo.held (c : Thread nD τ) ucRefs (StableHlo.after hostOps0 (V₀ m ρ c)) = unscopedBufs c (V m ρ c) from (unscopedBufs_held c _).symm]
    have hsplit := ((Pipeline.arrays_of_unscopedBufs (pcfgs (F := F)) (adm m ρ) (dats m ρ) winFacts0 arr_whole0 c
      ((dats m ρ 0 c).share_full fun _ => rfl) (V m ρ c) (A_eq m ρ c)).trans (sep_mono .rfl (Entails.of_eq (Pipeline.unscopedRest_split preFacts0 c (V m ρ c))))).trans
        (sep_mono .rfl (sep_mono .rfl (Entails.of_eq (unscopedRestP0_eq c (V m ρ c)))))
    iintro ⟨⟨Hub, HO⟩, -, -⟩
    ihave H := hsplit $$ Hub
    icases H with ⟨Ha, Ht, Hz⟩
    imodintro
    isplitl [Ha]; · iexact Ha
    isplitl [Ht]
    · obtain rfl := dev0 c
      iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m ρ 0 c).Φ 0 = PhiN m ρ c 0 from rfl]; unfold PhiN
    rw [show (Pipeline.scopedRest (Ix := Unit) (Name := ℕ) (U := UU nD τ) (Lvl := ℕ) (Val := Elt F) (pcfgs (F := F) 0).spec c : sProp 𝕄) = _ from scopedRest0_eq c]
    rw [show (Pipeline.prefHeld (pcfgs (F := F) 0).pre c (fun _ => fullShare) (adm m ρ 0).1 : sProp 𝕄) = _ from prefHeld_one c _ _]
    simp only [owns_whole_eq]
    iintro ⟨-, Ht, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩
    iexists (fun | .a1 => V m ρ (0 : Fin 1) main_arg7 | .a13 => f13 | .a14 => f14 | .a15 => f15 | .a16 => f16 | .a17 => f17 | .a18 => f18 | .a19 => f19 | .a20 => f20 | .a21 => f21 | .a22 => f22 | j => eAt m ρ c t0_0 j : S F)
    isplitr; · ipureintro; exact ⟨rfl, .inl trivial⟩
    isplitl [Ht]
    · iexists _; isplitr; swap; (· iexact Ht); ipureintro; rfl
    isplitl [H13]; · iexists _; isplitr; swap; (· iexact H13); ipureintro; rfl
    isplitl [H14]; · iexists _; isplitr; swap; (· iexact H14); ipureintro; rfl
    isplitl [H15]; · iexists _; isplitr; swap; (· iexact H15); ipureintro; rfl
    isplitl [H16]; · iexists _; isplitr; swap; (· iexact H16); ipureintro; rfl
    isplitl [H17]; · iexists _; isplitr; swap; (· iexact H17); ipureintro; rfl
    isplitl [H18]; · iexists _; isplitr; swap; (· iexact H18); ipureintro; rfl
    isplitl [H19]; · iexists _; isplitr; swap; (· iexact H19); ipureintro; rfl
    isplitl [H20]; · iexists _; isplitr; swap; (· iexact H20); ipureintro; rfl
    isplitl [H21]; · iexists _; isplitr; swap; (· iexact H21); ipureintro; rfl
    iexists _; isplitr; swap; (· iexact H22); ipureintro; rfl
  hout c := by
    rw [show (dats m ρ 0 c).Φ (Fin.last _) = PhiN m ρ c 8 from rfl]; unfold PhiN
    rw [show (Pipeline.scopedRest (Ix := Unit) (Name := ℕ) (U := UU nD τ) (Lvl := ℕ) (Val := Elt F) (pcfgs (F := F) 0).spec c : sProp 𝕄) = _ from scopedRest0_eq c]
    simp only [owns_whole_eq]
    iintro ⟨%s, %hs, ⟨%g1, %h1, Ht⟩, ⟨%g13, %h13, H13⟩, ⟨%g14, %h14, H14⟩, ⟨%g15, %h15, H15⟩, ⟨%g16, %h16, H16⟩, ⟨%g17, %h17, H17⟩, ⟨%g18, %h18, H18⟩, ⟨%g19, %h19, H19⟩, ⟨%g20, %h20, H20⟩, ⟨%g21, %h21, H21⟩, ⟨%g22, %h22, H22⟩⟩
    isplitl [Ht]
    · rw [h1, hs.1]
      obtain rfl := dev0 c
      iexact Ht
    isplitr
    · unfold Pipeline.ownSems0; rw [show (Finset.univ : Finset (Fin 0)) = ∅ from rfl, BI.bigSep_empty]; iempintro
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  hexit c := by
    iintro ⟨Ha, HO, HY, ⟨H0, H1⟩⟩
    imodintro
    isplitr [HO]
    · isplitl [Ha]; · iexact Ha
      isplitl [H0]; · iexact H0
      isplitl [H1]; · iexact H1
      iexact HY
    · unfold Pipeline.Dat.owesAt Pipeline.owesWithin
      icases HO with ⟨%W, -, HO⟩; iexists W; iexact HO

/-- The program as its two segments. -/
abbrev segs (hL : LensOK (V m ρ (0 : Fin 1) main_arg7)) : List (Pipeline.Seg (pcfgs (F := F)) (adm m ρ) (dats m ρ) () defs₀ 𝒱₀ L lv) :=
  [.host (seg0 m ρ), .region (reg0 m ρ hL)]

set_option backward.isDefEq.respectTransparency.types false in
/-- Every execution terminates without a fault, leaves the windows' arrays at what the pipeline computes, the other
    arguments as launched, and every semaphore counter at zero. -/
theorem run_main (hL : LensOK (V m ρ (0 : Fin 1) main_arg7)) :
    θ_run defs (onTc (τ := τ) (main (F := F))) (s₀ m ρ) (fun r => QC m ρ r ∧ r.2.sem = fun _ => 0) :=
  Pipeline.θ_run_regions_kit_sems (pcfgs (F := F)) (adm m ρ) (dats m ρ) () (cellOf_inj (adm m ρ)) EP defs₀ 𝒱₀ L lv m ρ main (segs m ρ hL)
    (fun c Q => by rw [main_segs (adm m ρ) (dats m ρ) () 𝒱₀ L lv (seg0 m ρ) (reg0 m ρ hL) rfl c])
    (by simp only [Pipeline.Seg.pipes_host, Pipeline.Seg.pipes_region, Pipeline.Seg.pipes_nil]; decide) (O₀ := 0) (hL := fun _ _ => rfl) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => (∀ w : Fin 11, s.mem ((c : Thread nD τ).loc (Pipeline.arrRef spec0 w)) = finalA m ρ c w)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg7) = m ((c : Thread nD τ).loc main_arg7))
    (hfin := fun c s' => by
      dsimp only [Tₙ, tbl]; rw [V_kept m ρ c main_arg0 (by decide), V_kept m ρ c main_arg1 (by decide), V_kept m ρ c main_arg7 (by decide)]
      iintro ⟨⟨Ha, H0, H1, H7⟩, HSI⟩
      icombine HSI H0 gives %h0
      icombine HSI H1 gives %h1
      icombine HSI H7 gives %h7
      ihave Hr := (Pipeline.arrays_read (pcfgs (F := F)) (adm m ρ) (dats m ρ) arr_whole0 c ((dats m ρ 0 c).share_full fun _ => rfl) _ s') $$ [Ha HSI]
      · isplitl [Ha] <;> iassumption
      icases Hr with ⟨%ha, HSI⟩
      imodintro
      isplitr; · ipureintro; exact ⟨ha, Buf.eq_of_forall_mem_univ h0, Buf.eq_of_forall_mem_univ h1, Buf.eq_of_forall_mem_univ h7⟩
      iexact HSI)
    (hQ := fun _ h hz => ⟨h, funext fun g => hz g (.inr (by revert g; decide))⟩)

/-- An input window's array ends as it was at the call. -/
theorem finalA_in (c : Dev nD) (w : Fin 11) (hw : (spec0 w).isOut = false) : finalA m ρ c w = V m ρ c (Pipeline.arrRef spec0 w) :=
  ((dats m ρ 0 c).arrAt_in w hw _).trans (A_eq m ρ c w)

/-- Every argument ends as launched. -/
theorem frame_of (r : PUnit × MemSt nD τ sig (Elt F)) (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  obtain ⟨ha, h0, h1, h7⟩ := h c
  exact ⟨h0, h1,
    ((ha 2).trans (finalA_in m ρ c 2 rfl)).trans (V_kept m ρ c main_arg2 (by decide)),
    ((ha 4).trans (finalA_in m ρ c 4 rfl)).trans (V_kept m ρ c main_arg3 (by decide)),
    ((ha 5).trans (finalA_in m ρ c 5 rfl)).trans (V_kept m ρ c main_arg4 (by decide)),
    ((ha 6).trans (finalA_in m ρ c 6 rfl)).trans (V_kept m ρ c main_arg5 (by decide)),
    ((ha 3).trans (finalA_in m ρ c 3 rfl)).trans (V_kept m ρ c main_arg6 (by decide)), h7⟩

end Cert.Proof.Lsq

end
-- ==== Proof.Bits.Body.lean ====
/-
  The printed kernel body restated with its repetitions folded: one column copy for all columns and batches, one
  batch step, one token tile load, one tile body per loop. The last theorem says the printed body is this one.
-/
module

public import proofs.«01_k».proof.Proof.Logic
public import proofs.«01_k».proof.Proof.Gen.Kernel.Launch
public import Idealize.ShloMosaic.Lib.PairWhole

@[expose] public section

set_option maxRecDepth 16384

noncomputable section

namespace Cert.Proof.LsqK

open Cert.Proof.Lsq Cert.Kernel Cert.Kernel.Gen
open Idealize.ShloMosaic
open Idealize.ShloMosaic.TcCoe Idealize.ShloMosaic.Tactic
open Idealize.SL.Sem

variable {F : FTy → Type} [FloatOps F]

/-- The operands of the body, in order. -/
inductive A
  | a1 | a2 | a3 | a4 | a5 | a6 | a7 | a8 | a9 | a10 | a11 | a12 | a13 | a14 | a15 | a16 | a17 | a18 | a19 | a20 | a21 | a22
  deriving DecidableEq

instance : Fintype A :=
  ⟨⟨(([A.a1, .a2, .a3, .a4, .a5, .a6, .a7, .a8, .a9, .a10, .a11, .a12, .a13, .a14, .a15, .a16, .a17, .a18, .a19, .a20, .a21, .a22] : List A) : Multiset A), by decide⟩,
    fun x => by cases x <;> decide⟩

/-- The memory an operand lies in. -/
abbrev sp : A → CoreSpace
  | .a1 => .smem | .a22 => .smem | .a2 => .vmem | .a3 => .vmem | .a4 => .vmem | .a5 => .vmem | .a6 => .vmem | .a7 => .vmem
  | .a8 => .vmem | .a9 => .vmem | .a10 => .vmem | .a11 => .vmem | .a12 => .vmem | .a13 => .vmem | .a14 => .vmem
  | .a15 => .vmem | .a16 => .vmem | .a17 => .vmem | .a18 => .vmem | .a19 => .vmem | .a20 => .vmem | .a21 => .vmem

/-- The shape of an operand. -/
abbrev sh : A → Shape
  | .a1 => S16 | .a2 => S2048x1024 | .a3 => S2048x1024 | .a4 => S16x128 | .a5 => S1024x1024 | .a6 => S512x1024
  | .a7 => S512x512 | .a8 => S512x8 | .a9 => S512x1024 | .a10 => S1x1x512 | .a11 => S1x1x512 | .a12 => S512x1024
  | .a13 => S8x2304x128 | .a14 => S8x2304x128 | .a15 => S18x128 | .a16 => S18x128 | .a17 => S3x1024x1024
  | .a18 => S3x8x256x1024 | .a19 => S8x512x256 | .a20 => S512x1024 | .a21 => S2x512x128 | .a22 => S1

/-- The element type of an operand. -/
abbrev el : A → EltTy
  | .a1 => .i32 | .a2 => .bf16 | .a3 => .i8 | .a4 => .f32 | .a5 => .f32 | .a6 => .bf16 | .a7 => .i8 | .a8 => .f32
  | .a9 => .bf16 | .a10 => .f32 | .a11 => .f32 | .a12 => .f32 | .a13 => .bf16 | .a14 => .bf16 | .a15 => .f32
  | .a16 => .f32 | .a17 => .bf16 | .a18 => .bf16 | .a19 => .f32 | .a20 => .bf16 | .a21 => .f32 | .a22 => .i32

/-- A program of the kernel's machine. -/
abbrev P (F : FTy → Type) [FloatOps F] (α : Type) : Type 1 := Prog (TpuEff nD τ sig (Elt F) Λ₀ .tc) α

/-! ## Words -/

/-- The row of the packed buffers a batch starts at. -/
def rowX (off : BitVec 32) : Index := Scalar.indexCast (Scalar.muli 2#32 (Scalar.shrui off 1#32))
/-- The next batch's offset: this one's, plus its length rounded up to an even number. -/
def nxt (off n : BitVec 32) : BitVec 32 := Scalar.addi (Scalar.addi off n) (Scalar.andi n 1#32)
/-- The lane of the scale rows a batch starts at. -/
def shiftW (off : BitVec 32) : BitVec 32 :=
  let d : BitVec 32 := Scalar.select (Scalar.cmpi .eq 128#32 0#32) 1#32 128#32
  let r : BitVec 32 := Scalar.remsi off d
  Scalar.select (Scalar.andi (Scalar.xori (Scalar.cmpi .slt r 0#32) (Scalar.cmpi .slt d 0#32)) (Scalar.cmpi .ne r 0#32))
    (Scalar.addi r d) r
/-- Division rounding down. -/
def floorW (off d : BitVec 32) : BitVec 32 :=
  let q : BitVec 32 := Scalar.divsi off d
  let sgnO : BitVec 32 := Scalar.subi (Scalar.extui (Scalar.cmpi .sgt off 0#32)) (Scalar.extui (Scalar.cmpi .slt off 0#32))
  let sgnD : BitVec 32 := Scalar.subi (Scalar.extui (Scalar.cmpi .sgt d 0#32)) (Scalar.extui (Scalar.cmpi .slt d 0#32))
  Scalar.select (Scalar.andi (Scalar.cmpi .ne sgnO sgnD) (Scalar.cmpi .ne (Scalar.remsi off d) 0#32)) (Scalar.subi q 1#32) q
/-- The scale row a batch starts at, and the row after it. -/
def rowS (off : BitVec 32) : Index := Scalar.indexCast (floorW off 128#32)
def rowS1 (off : BitVec 32) : Index := Scalar.indexCast (Scalar.addi (floorW off 128#32) 1#32)
/-- The number of token tiles. -/
def tilesW (off : BitVec 32) : BitVec 32 := floorW (Scalar.subi (Scalar.addi off 256#32) 1#32) 256#32
/-- The token row, and the two scale rows, of a tile. -/
def rowT (w : BitVec 32) : Index := Scalar.indexCast (Scalar.muli w 256#32)
def rowV (w : BitVec 32) : Index := Scalar.indexCast (Scalar.muli 2#32 w)
def rowV1 (w : BitVec 32) : Index := Scalar.indexCast (Scalar.addi (Scalar.muli 2#32 w) 1#32)
/-- The tile word of a loop's trip. -/
def tw (lb : BitVec 32) {n : ℕ} (t : Fin n) : BitVec 32 := Scalar.addi 0#32 (Scalar.muli (Scf.iv lb 1#32 t) 1#32)

/-- What a batch's offset must satisfy for its stores to lie inside. -/
structure Good (off : BitVec 32) : Prop where
  x : (rowX off).toNat + 128 ≤ 2304
  s : (rowS off).toNat + 1 ≤ 18
  s1 : (rowS1 off).toNat + 1 ≤ 18
/-- What a tile word must satisfy for its accesses to lie inside. -/
abbrev GoodT (w : BitVec 32) : Prop := (Scalar.indexCast w : Index).toNat + 1 ≤ 8

theorem GoodT.lt {w : BitVec 32} (h : GoodT w) : w.toNat < 8 := Nat.lt_of_succ_le h

theorem rowX_even (off : BitVec 32) : 2 ∣ (rowX off).toNat := by
  have h : (rowX off).toNat = (2 * (Scalar.shrui off 1#32).toNat) % 2 ^ 32 := by
    show ((2#32 * Scalar.shrui off 1#32 : BitVec 32)).toNat = _
    rw [BitVec.toNat_mul]; rfl
  omega
theorem rowT_eq {w : BitVec 32} (h : GoodT w) : (rowT w).toNat = 256 * w.toNat := by
  have := h.lt
  show ((w * 256#32 : BitVec 32)).toNat = _
  rw [BitVec.toNat_mul, BitVec.toNat_ofNat]; omega
theorem rowV_eq {w : BitVec 32} (h : GoodT w) : (rowV w).toNat = 2 * w.toNat := by
  have := h.lt
  show ((2#32 * w : BitVec 32)).toNat = _
  rw [BitVec.toNat_mul, BitVec.toNat_ofNat]; omega
theorem rowV1_eq {w : BitVec 32} (h : GoodT w) : (rowV1 w).toNat = 2 * w.toNat + 1 := by
  have := h.lt
  show ((2#32 * w + 1#32 : BitVec 32)).toNat = _
  rw [BitVec.toNat_add, BitVec.toNat_mul, BitVec.toNat_ofNat, BitVec.toNat_ofNat]; omega

theorem inb3 {a b c d e f x y z : ℕ} (h1 : a + x ≤ d) (h2 : b + y ≤ e) (h3 : c + z ≤ f) :
    ∀ k, (![a, b, c] : Fin 3 → ℕ) k + (⟨3, ![x, y, z]⟩ : Shape).size k ≤ (⟨3, ![d, e, f]⟩ : Shape).size k := by
  intro k; fin_cases k <;> assumption
theorem inb2 {a b d e x y : ℕ} (h1 : a + x ≤ d) (h2 : b + y ≤ e) :
    ∀ k, (![a, b] : Fin 2 → ℕ) k + (⟨2, ![x, y]⟩ : Shape).size k ≤ (⟨2, ![d, e]⟩ : Shape).size k := by
  intro k; fin_cases k <;> assumption
theorem inb4 {a b c g d e f i x y z u : ℕ} (h1 : a + x ≤ d) (h2 : b + y ≤ e) (h3 : c + z ≤ f) (h4 : g + u ≤ i) :
    ∀ k, (![a, b, c, g] : Fin 4 → ℕ) k + (⟨4, ![x, y, z, u]⟩ : Shape).size k ≤ (⟨4, ![d, e, f, i]⟩ : Shape).size k := by
  intro k; fin_cases k <;> assumption

theorem packedX {c r n : ℕ} (hr : 2 ∣ r) (hn : 2 ∣ n) (inb) :
    (Rect.unit (s := S8x2304x128) ![c, r, 0] (⟨3, ![1, n, 128]⟩ : Shape).size inb).PackedRows (EltTy.packing .bf16) :=
  Rect.packedRows_of_rowAxis (s := S8x2304x128) _ 2 (show 2 ≤ 3 from Nat.le_of_ble_eq_true rfl) (show 2 ∣ r from hr) (show 2 ∣ n from hn) rfl
theorem packedP {p w : ℕ} (inb) :
    (Rect.unit (s := S3x8x256x1024) ![p, w, 0, 0] S1x1x256x1024.size inb).PackedRows (EltTy.packing .bf16) :=
  Rect.packedRows_of_rowAxis (s := S3x8x256x1024) _ 2 (show 2 ≤ 4 from Nat.le_of_ble_eq_true rfl) (show 2 ∣ 0 by decide) (show 2 ∣ 256 by decide) rfl
theorem packedW {g : ℕ} (inb) :
    (Rect.unit (s := S512x1024) ![0, g] S512x128.size inb).PackedRows (EltTy.packing .bf16) :=
  Rect.packedRows_of_rowAxis (s := S512x1024) _ 2 (show 2 ≤ 2 from Nat.le_of_ble_eq_true rfl) (show 2 ∣ 0 by decide) (show 2 ∣ 512 by decide) rfl

variable (M : (j : A) → Memref sig .tc (sp j) (sh j) (el j)) (hM : ∀ j, (M j).IsWhole)

variable {α : Type}

/-! ## Packing -/

/-- One column block of one batch copied into the packed buffers. -/
def packCol (b c : ℕ) (hb : b < 16) (hc : c < 8) (off : BitVec 32) (g : Good off) (K : P F α) : P F α :=
  .op (.load (M .a2) (Rect.unit (s := S2048x1024) ![128 * b, 128 * c] S128x128.size (inb2 (by omega) (by omega))).toLoadRect (View.loadsAt_vmem h_S128x128)) fun (x : Vec F S128x128 .bf16) =>
  .op (.load (M .a13) (Rect.unit (s := S8x2304x128) ![c, (rowX off).toNat, 0] S1x128x128.size (inb3 (by omega) g.x (by omega))).toLoadRect (View.loadsAt_vmem h_S1x128x128)) fun _ =>
  .op (.store (M .a13) (Rect.unit (s := S8x2304x128) ![c, (rowX off).toNat, 0] S1x128x128.size (inb3 (by omega) g.x (by omega)))
    (shapeCast S1x128x128 (shapeCast S128x128 x shapeCasts_S128x128_S128x128) shapeCasts_S128x128_S1x128x128) Finset.univ
    (View.stores_vmem h_S1x128x128 ((hM .a13).storeExact_slice rfl _ (packedX (rowX_even off) (by decide) _)) (fun _ => rfl)) (.inl rfl)) fun _ =>
  .op (.load (M .a3) (Rect.unit (s := S2048x1024) ![128 * b, 128 * c] S128x128.size (inb2 (by omega) (by omega))).toLoadRect (View.loadsAt_vmem h_S128x128)) fun (x : Vec F S128x128 .i8) =>
  .op (.load (M .a14) (Rect.unit (s := S8x2304x128) ![c, (rowX off).toNat, 0] S1x128x128.size (inb3 (by omega) g.x (by omega))).toLoadRect (View.loadsAt_vmem h_S1x128x128)) fun _ =>
  .op (.store (M .a14) (Rect.unit (s := S8x2304x128) ![c, (rowX off).toNat, 0] S1x128x128.size (inb3 (by omega) g.x (by omega)))
    (shapeCast S1x128x128 (sitofp (F := F) .bf16 (shapeCast S128x128 x shapeCasts_S128x128_S128x128) : FVec F S128x128 .bf16) shapeCasts_S128x128_S1x128x128) Finset.univ
    (View.stores_vmem h_S1x128x128 ((hM .a14).storeExact_slice rfl _ (packedX (rowX_even off) (by decide) _)) (fun _ => rfl)) (.inl rfl)) fun _ => K

/-- One of the two masked writes of a batch into a scale row and a mask row. -/
def packRow (mask : IVec S1x128 1) (v : FVec F S1x128 .f32) (r : Index) (h : r.toNat + 1 ≤ 18) (K : P F α) : P F α :=
  .op (.load (M .a15) (Rect.unit (s := S18x128) ![r.toNat, 0] S1x128.size (inb2 h (by omega))).toLoadRect (View.loadsAt_vmem h_S1x128)) fun (o : Vec F S1x128 .f32) =>
  .op (.load (M .a15) (Rect.unit (s := S18x128) ![r.toNat, 0] S1x128.size (inb2 h (by omega))).toLoadRect (View.loadsAt_vmem h_S1x128)) fun _ =>
  .op (.store (M .a15) (Rect.unit (s := S18x128) ![r.toNat, 0] S1x128.size (inb2 h (by omega)))
    (shapeCast S1x128 (select mask v o) shapeCasts_S1x128_S1x128) Finset.univ (View.stores_vmem_bits_univ h_S1x128 rfl) (.inl rfl)) fun _ =>
  .op (.load (M .a16) (Rect.unit (s := S18x128) ![r.toNat, 0] S1x128.size (inb2 h (by omega))).toLoadRect (View.loadsAt_vmem h_S1x128)) fun (o : Vec F S1x128 .f32) =>
  .op (.load (M .a16) (Rect.unit (s := S18x128) ![r.toNat, 0] S1x128.size (inb2 h (by omega))).toLoadRect (View.loadsAt_vmem h_S1x128)) fun _ =>
  .op (.store (M .a16) (Rect.unit (s := S18x128) ![r.toNat, 0] S1x128.size (inb2 h (by omega)))
    (shapeCast S1x128 (select mask (broadcast S1x128 (Scalar.ofBits (F := F) .f32 0x3F800000#32)) o) shapeCasts_S1x128_S1x128) Finset.univ (View.stores_vmem_bits_univ h_S1x128 rfl) (.inl rfl)) fun _ => K

/-- The lanes a batch takes in its scale row, and in the row after it. -/
def maskA (off n : BitVec 32) : IVec S1x128 1 :=
  andi (cmpi .sge (iota .tc S1x128 32 [1] iota_S1x128_d1_w32) (broadcast S1x128 (shiftW off)))
    (cmpi .slt (iota .tc S1x128 32 [1] iota_S1x128_d1_w32) (broadcast S1x128 (Scalar.addi (shiftW off) n)))
def maskB (off n : BitVec 32) : IVec S1x128 1 :=
  cmpi .slt (iota .tc S1x128 32 [1] iota_S1x128_d1_w32) (broadcast S1x128 (Scalar.subi (Scalar.addi (shiftW off) n) 128#32))

/-- The length of batch `b`, read. -/
def lenB (b : ℕ) (hb : b < 16) (K : BitVec 32 → P F α) : P F α :=
  (smemLoad (Val := Elt F) (M .a1) (Rect.unit (s := S16) ![b] S1.size (by intro k; fin_cases k; exact hb)) numel1_S1 rfl) >>= K

/-- One batch packed: its length, the check of the next batch's offset, its columns, its scales and its mask. -/
def packStep (b : ℕ) (hb : b < 16) (off : BitVec 32) (g : Good off) (chk : BitVec 32 → Prop) (dec : ∀ n, Decidable (chk n))
    (K : (n : BitVec 32) → chk n → P F α) : P F α :=
  lenB M b hb fun n =>
  .op (TpuEff.assume (chk n) (dec n)) fun hn =>
  packCol M hM b 0 hb (by omega) off g <| packCol M hM b 1 hb (by omega) off g <| packCol M hM b 2 hb (by omega) off g <|
  packCol M hM b 3 hb (by omega) off g <| packCol M hM b 4 hb (by omega) off g <| packCol M hM b 5 hb (by omega) off g <|
  packCol M hM b 6 hb (by omega) off g <| packCol M hM b 7 hb (by omega) off g <|
  .op (.load (M .a4) (Rect.unit (s := S16x128) ![b, 0] S1x128.size (inb2 hb (by omega))).toLoadRect (View.loadsAt_vmem h_S1x128)) fun (x : Vec F S1x128 .f32) =>
  packRow M (maskA off n) (dynamicRotate 1 (shiftW off) none x rotates_S1x128_d1) (rowS off) g.s <|
  packRow M (maskB off n) (dynamicRotate 1 (shiftW off) none x rotates_S1x128_d1) (rowS1 off) g.s1 <|
  K n hn.down

/-- One column block of the zero rows after the last batch. -/
def zeroCol (c : ℕ) (hc : c < 8) (off : BitVec 32) (g : (rowX off).toNat + 256 ≤ 2304) (K : P F α) : P F α :=
  .op (.load (M .a13) (Rect.unit (s := S8x2304x128) ![c, (rowX off).toNat, 0] S1x256x128.size (inb3 (by omega) g (by omega))).toLoadRect (View.loadsAt_vmem h_S1x256x128)) fun _ =>
  .op (.store (M .a13) (Rect.unit (s := S8x2304x128) ![c, (rowX off).toNat, 0] S1x256x128.size (inb3 (by omega) g (by omega)))
    (shapeCast S1x256x128 (broadcast S256x128 (Scalar.ofBits (F := F) .bf16 0x0000#16)) shapeCasts_S256x128_S1x256x128) Finset.univ
    (View.stores_vmem h_S1x256x128 ((hM .a13).storeExact_slice rfl _ (packedX (rowX_even off) (by decide) _)) (fun _ => rfl)) (.inl rfl)) fun _ =>
  .op (.load (M .a14) (Rect.unit (s := S8x2304x128) ![c, (rowX off).toNat, 0] S1x256x128.size (inb3 (by omega) g (by omega))).toLoadRect (View.loadsAt_vmem h_S1x256x128)) fun _ =>
  .op (.store (M .a14) (Rect.unit (s := S8x2304x128) ![c, (rowX off).toNat, 0] S1x256x128.size (inb3 (by omega) g (by omega)))
    (shapeCast S1x256x128 (broadcast S256x128 (Scalar.ofBits (F := F) .bf16 0x0000#16)) shapeCasts_S256x128_S1x256x128) Finset.univ
    (View.stores_vmem h_S1x256x128 ((hM .a14).storeExact_slice rfl _ (packedX (rowX_even off) (by decide) _)) (fun _ => rfl)) (.inl rfl)) fun _ => K

/-! ## Splitting a float into three bf16 pieces -/

section Split
variable {s : Shape}
def sp1 (x : FVec F s .f32) : FVec F s .bf16 := truncf .bf16 x bitsLt_bf16_f32
def rest1 (x : FVec F s .f32) : FVec F s .f32 := subf x (extf .f32 (sp1 x) bitsLt_bf16_f32)
def sp2 (x : FVec F s .f32) : FVec F s .bf16 := sp1 (rest1 x)
def sp3 (x : FVec F s .f32) : FVec F s .bf16 := sp1 (rest1 (rest1 x))
end Split

theorem off170_le (t : Fin k0_t1_loop.trips) : (128 * t.val) + 128 ≤ 1024 := by
  have h : t.val < 8 := lt_of_lt_of_eq t.isLt (by decide)
  omega

/-- One block of rows of the inverse Hessian split into its pieces. -/
def hBody (i : grid0.Coords) (h1 : k0_cond1 i = 1#1) (t : Fin k0_t1_loop.trips) : P F PUnit :=
  .op (.load (M .a5) (Rect.unit (s := S1024x1024) (k0_off169 t) S128x1024.size (k0_off169_inb i t h1)).toLoadRect (View.loadsAt_vmem h_S128x1024)) fun (x : Vec F S128x1024 .f32) =>
  .op (.load (M .a17) (Rect.unit (s := S3x1024x1024) (k0_off170 t) S1x128x1024.size (k0_off170_inb i t h1)).toLoadRect (View.loadsAt_vmem h_S1x128x1024)) fun _ =>
  .op (.store (M .a17) (Rect.unit (s := S3x1024x1024) (k0_off170 t) S1x128x1024.size (k0_off170_inb i t h1)) (shapeCast S1x128x1024 (sp1 x) shapeCasts_S128x1024_S1x128x1024) Finset.univ
    (View.stores_vmem h_S1x128x1024 ((hM .a17).storeExact_slice rfl _ (k0_off170_packedbf16 i t h1)) (fun _ => rfl)) (.inl rfl)) fun _ =>
  .op (.load (M .a17) (Rect.unit (s := S3x1024x1024) (k0_off171 t) S1x128x1024.size (k0_off171_inb i t h1)).toLoadRect (View.loadsAt_vmem h_S1x128x1024)) fun _ =>
  .op (.store (M .a17) (Rect.unit (s := S3x1024x1024) (k0_off171 t) S1x128x1024.size (k0_off171_inb i t h1)) (shapeCast S1x128x1024 (sp2 x) shapeCasts_S128x1024_S1x128x1024) Finset.univ
    (View.stores_vmem h_S1x128x1024 ((hM .a17).storeExact_slice rfl _ (k0_off171_packedbf16 i t h1)) (fun _ => rfl)) (.inl rfl)) fun _ =>
  .op (.load (M .a17) (Rect.unit (s := S3x1024x1024) (k0_off172 t) S1x128x1024.size (k0_off172_inb i t h1)).toLoadRect (View.loadsAt_vmem h_S1x128x1024)) fun _ =>
  .op (.store (M .a17) (Rect.unit (s := S3x1024x1024) (k0_off172 t) S1x128x1024.size (k0_off172_inb i t h1)) (shapeCast S1x128x1024 (sp3 x) shapeCasts_S128x1024_S1x128x1024) Finset.univ
    (View.stores_vmem h_S1x128x1024 ((hM .a17).storeExact_slice rfl _ (k0_off172_packedbf16 i t h1)) (fun _ => rfl)) (.inl rfl)) fun _ => .ret ⟨⟩

/-! ## Tiles -/

theorem GoodT.tok {w : BitVec 32} (h : GoodT w) : (rowT w).toNat + 256 ≤ 2304 := by rw [rowT_eq h]; have := h.lt; omega
theorem GoodT.v {w : BitVec 32} (h : GoodT w) : (rowV w).toNat + 1 ≤ 18 := by rw [rowV_eq h]; have := h.lt; omega
theorem GoodT.v1 {w : BitVec 32} (h : GoodT w) : (rowV1 w).toNat + 1 ≤ 18 := by rw [rowV1_eq h]; have := h.lt; omega

/-- One column block of a token tile. -/
def tokCol (m : Memref sig .tc .vmem S8x2304x128 .bf16) (w : BitVec 32) (g : GoodT w) (c : ℕ) (hc : c < 8) (K : FVec F S256x128 .bf16 → P F α) : P F α :=
  .op (.load m (Rect.unit (s := S8x2304x128) ![c, (rowT w).toNat, 0] S1x256x128.size (inb3 (by omega) g.tok (by omega))).toLoadRect (View.loadsAt_vmem h_S1x256x128)) fun (x : Vec F S1x256x128 .bf16) =>
  K (shapeCast S256x128 x shapeCasts_S1x256x128_S256x128)

/-- A token tile of a packed buffer, its column blocks side by side. -/
def toks (m : Memref sig .tc .vmem S8x2304x128 .bf16) (w : BitVec 32) (g : GoodT w) (K : FVec F S256x1024 .bf16 → P F α) : P F α :=
  tokCol m w g 0 (by omega) fun x0 => tokCol m w g 1 (by omega) fun x1 => tokCol m w g 2 (by omega) fun x2 =>
  tokCol m w g 3 (by omega) fun x3 => tokCol m w g 4 (by omega) fun x4 => tokCol m w g 5 (by omega) fun x5 =>
  tokCol m w g 6 (by omega) fun x6 => tokCol m w g 7 (by omega) fun x7 =>
  K (concatenate S256x1024 1 [⟨S256x128, x0⟩, ⟨S256x128, x1⟩, ⟨S256x128, x2⟩, ⟨S256x128, x3⟩, ⟨S256x128, x4⟩, ⟨S256x128, x5⟩, ⟨S256x128, x6⟩, ⟨S256x128, x7⟩]
    concatenates_S256x128_S256x128_S256x128_S256x128_S256x128_S256x128_S256x128_S256x128_S256x1024_d1)

/-- The two rows of a tile in a scale or mask buffer, side by side. -/
def pair (m : Memref sig .tc .vmem S18x128 .f32) (w : BitVec 32) (g : GoodT w) (K : FVec F S1x256 .f32 → P F α) : P F α :=
  .op (.load m (Rect.unit (s := S18x128) ![(rowV w).toNat, 0] S1x128.size (inb2 g.v (by omega))).toLoadRect (View.loadsAt_vmem h_S1x128)) fun (x : Vec F S1x128 .f32) =>
  .op (.load m (Rect.unit (s := S18x128) ![(rowV1 w).toNat, 0] S1x128.size (inb2 g.v1 (by omega))).toLoadRect (View.loadsAt_vmem h_S1x128)) fun (y : Vec F S1x128 .f32) =>
  K (concatenate S1x256 1 [⟨S1x128, x⟩, ⟨S1x128, y⟩] concatenates_S1x128_S1x128_S1x256_d1)

/-- One piece of the projected tokens stored. -/
def pStore (p : ℕ) (hp : p < 3) (w : BitVec 32) (g : GoodT w) (x : FVec F S256x1024 .bf16) (K : P F α) : P F α :=
  .op (.load (M .a18) (Rect.unit (s := S3x8x256x1024) ![p, (Scalar.indexCast w).toNat, 0, 0] S1x1x256x1024.size (inb4 (by omega) g (by omega) (by omega))).toLoadRect (View.loadsAt_vmem h_S1x1x256x1024)) fun _ =>
  .op (.store (M .a18) (Rect.unit (s := S3x8x256x1024) ![p, (Scalar.indexCast w).toNat, 0, 0] S1x1x256x1024.size (inb4 (by omega) g (by omega) (by omega)))
    (shapeCast S1x1x256x1024 x shapeCasts_S256x1024_S1x1x256x1024) Finset.univ
    (View.stores_vmem h_S1x1x256x1024 ((hM .a18).storeExact_slice rfl _ (packedP _)) (fun _ => rfl)) (.inl rfl)) fun _ => K

/-- The projection of a token tile: the sum of its products with the three pieces. -/
def projV (t : FVec F S256x1024 .bf16) (h0 h1 h2 : Vec F S1x1024x1024 .bf16) : FVec F S256x1024 .f32 :=
  addf (addf
    (matmul dot_S256x1024_S1024x1024_S256x1024_1_1_0_0_n_n none t (shapeCast S1024x1024 h0 shapeCasts_S1x1024x1024_S1024x1024) (constant S256x1024 .f32 0x00000000#32))
    (matmul dot_S256x1024_S1024x1024_S256x1024_1_1_0_0_n_n none t (shapeCast S1024x1024 h1 shapeCasts_S1x1024x1024_S1024x1024) (constant S256x1024 .f32 0x00000000#32)))
    (matmul dot_S256x1024_S1024x1024_S256x1024_1_1_0_0_n_n none t (shapeCast S1024x1024 h2 shapeCasts_S1x1024x1024_S1024x1024) (constant S256x1024 .f32 0x00000000#32))

/-- One tile of the projected tokens. -/
def projBody (w : BitVec 32) (g : GoodT w) : P F PUnit :=
  toks (M .a14) w g fun t =>
  .op (.load (M .a17) (Rect.unit (s := S3x1024x1024) ![0, 0, 0] S1x1024x1024.size inb_S3x1024x1024_S1x1024x1024_0_0_0).toLoadRect (View.loadsAt_vmem h_S1x1024x1024)) fun (h0 : Vec F S1x1024x1024 .bf16) =>
  .op (.load (M .a17) (Rect.unit (s := S3x1024x1024) ![1, 0, 0] S1x1024x1024.size inb_S3x1024x1024_S1x1024x1024_1_0_0).toLoadRect (View.loadsAt_vmem h_S1x1024x1024)) fun (h1 : Vec F S1x1024x1024 .bf16) =>
  .op (.load (M .a17) (Rect.unit (s := S3x1024x1024) ![2, 0, 0] S1x1024x1024.size inb_S3x1024x1024_S1x1024x1024_2_0_0).toLoadRect (View.loadsAt_vmem h_S1x1024x1024)) fun (h2 : Vec F S1x1024x1024 .bf16) =>
  pStore M hM 0 (by omega) w g (sp1 (projV t h0 h1 h2)) <|
  pStore M hM 1 (by omega) w g (sp2 (projV t h0 h1 h2)) <|
  pStore M hM 2 (by omega) w g (sp3 (projV t h0 h1 h2)) <| .ret ⟨⟩

/-! ## Dequantisation -/

/-- The signed value of a code word. -/
def codeV (c : IVec S512x512 32) : FVec F S512x512 .bf16 :=
  truncf .bf16 (sitofp (F := F) .f32 (select (cmpi .sge c (broadcast S512x512 8#32)) (subi c (broadcast S512x512 16#32)) c) : FVec F S512x512 .f32) bitsLt_bf16_f32
def codeLo (x : IVec S512x512 8) : FVec F S512x512 .bf16 := codeV (andi (extui 32 x natLt_8_32) (broadcast S512x512 15#32))
def codeHi (x : IVec S512x512 8) : FVec F S512x512 .bf16 := codeV (shrui (extui 32 x natLt_8_32) (broadcast S512x512 4#32))

/-- One group of columns of the dequantised weights. -/
def deqCol (g k : ℕ) (hg : g < 8) (hs : S512x512.Slices ![0, k] S512x128) (x : FVec F S512x512 .bf16) (K : P F α) : P F α :=
  .op (.load (M .a8) (Rect.unit (s := S512x8) ![0, g] S512x1.size (inb2 (by omega) (by omega))).toLoadRect (View.loadsAt_vmem h_S512x1)) fun (v : Vec F S512x1 .f32) =>
  .op (.load (M .a20) (Rect.unit (s := S512x1024) ![0, 128 * g] S512x128.size (inb2 (by omega) (by omega))).toLoadRect (View.loadsAt_vmem h_S512x128)) fun _ =>
  .op (.store (M .a20) (Rect.unit (s := S512x1024) ![0, 128 * g] S512x128.size (inb2 (by omega) (by omega)))
    (shapeCast S512x128 (mulf (extractStridedSlice S512x128 ![0, k] x hs) (broadcastTo S512x128 (truncf .bf16 v bitsLt_bf16_f32 : FVec F S512x1 .bf16) broadcasts_S512x1_S512x128)) shapeCasts_S512x128_S512x128) Finset.univ
    (View.stores_vmem h_S512x128 ((hM .a20).storeExact_slice rfl _ (packedW _)) (fun _ => rfl)) (.inl rfl)) fun _ => K

/-! ## The sweeps over the tiles -/

/-- The error of a tile: the exact product less the scaled code product, zero off the mask. -/
def resV (y d : FVec F S512x256 .f32) (sc mk : FVec F S1x256 .f32) : FVec F S512x256 .f32 :=
  select (broadcastTo S512x256 (shapeCast S1x256 (cmpf .ogt mk (broadcast S1x256 (Scalar.ofBits (F := F) .f32 0x00000000#32))) shapeCasts_S1x256_S1x256) broadcasts_S1x256_S512x256)
    (subf y (mulf d (broadcastTo S512x256 sc broadcasts_S1x256_S512x256))) (broadcast S512x256 (Scalar.ofBits (F := F) .f32 0x00000000#32))
/-- An accumulator with the squares of a tile's errors added. -/
def accV (o : FVec F S1x512x128 .f32) (r : FVec F S512x256 .f32) : FVec F S1x512x128 .f32 :=
  shapeCast S1x512x128 (addf (shapeCast S512x128 o shapeCasts_S1x512x128_S512x128)
    (addf (extractStridedSlice S512x128 ![0, 0] (mulf r r) slices_S512x256_o0_0_S512x128)
      (extractStridedSlice S512x128 ![0, 128] (mulf r r) slices_S512x256_o0_128_S512x128))) shapeCasts_S512x128_S1x512x128
/-- A product of weights and a token tile. -/
def mmV (w : FVec F S512x1024 .bf16) (t : FVec F S256x1024 .bf16) : FVec F S512x256 .f32 :=
  matmul dot_S512x1024_S256x1024_S512x256_1_1_0_0_n_n none w t (constant S512x256 .f32 0x00000000#32)
/-- The scaled errors of a tile. -/
def rsV (sc : FVec F S1x256 .f32) (r : FVec F S512x256 .f32) : FVec F S512x256 .bf16 :=
  truncf .bf16 (mulf (broadcastTo S512x256 sc broadcasts_S1x256_S512x256) r) bitsLt_bf16_f32
/-- A product of scaled errors and one piece of the projected tokens. -/
def mpV (r : FVec F S512x256 .bf16) (p : FVec F S1x1x256x1024 .bf16) : FVec F S512x1024 .f32 :=
  matmul dot_S512x256_S256x1024_S512x1024_1_0_0_1_n_n none r (shapeCast S256x1024 p shapeCasts_S1x1x256x1024_S256x1024) (constant S512x1024 .f32 0x00000000#32)

/-- One piece of the projected tokens loaded. -/
def pLoad (p : ℕ) (hp : p < 3) (w : BitVec 32) (g : GoodT w) (K : FVec F S1x1x256x1024 .bf16 → P F α) : P F α :=
  .op (.load (M .a18) (Rect.unit (s := S3x8x256x1024) ![p, (Scalar.indexCast w).toNat, 0, 0] S1x1x256x1024.size (inb4 (by omega) g (by omega) (by omega))).toLoadRect (View.loadsAt_vmem h_S1x1x256x1024)) fun (x : Vec F S1x1x256x1024 .bf16) => K x

/-- One tile of the first sweep: its exact products stored, its errors' squares and its correction accumulated. -/
def sweepA (w : BitVec 32) (g : GoodT w) : P F PUnit :=
  .op (.load (M .a6) (Rect.unit (s := S512x1024) ![0, 0] S512x1024.size inb_S512x1024_S512x1024_0_0).toLoadRect (View.loadsAt_vmem h_S512x1024)) fun (wf : Vec F S512x1024 .bf16) =>
  toks (M .a13) w g fun xt =>
  .op (.load (M .a20) (Rect.unit (s := S512x1024) ![0, 0] S512x1024.size inb_S512x1024_S512x1024_0_0).toLoadRect (View.loadsAt_vmem h_S512x1024)) fun (wq : Vec F S512x1024 .bf16) =>
  toks (M .a14) w g fun ct =>
  pair (M .a15) w g fun sc =>
  pair (M .a16) w g fun mk =>
  .op (.load (M .a19) (Rect.unit (s := S8x512x256) ![(Scalar.indexCast w).toNat, 0, 0] S1x512x256.size (inb3 g (by omega) (by omega))).toLoadRect (View.loadsAt_vmem h_S1x512x256)) fun _ =>
  .op (.store (M .a19) (Rect.unit (s := S8x512x256) ![(Scalar.indexCast w).toNat, 0, 0] S1x512x256.size (inb3 g (by omega) (by omega)))
    (shapeCast S1x512x256 (mmV wf xt) shapeCasts_S512x256_S1x512x256) Finset.univ (View.stores_vmem_bits_univ h_S1x512x256 rfl) (.inl rfl)) fun _ =>
  .op (.load (M .a21) (Rect.unit (s := S2x512x128) ![0, 0, 0] S1x512x128.size inb_S2x512x128_S1x512x128_0_0_0).toLoadRect (View.loadsAt_vmem h_S1x512x128)) fun (o : Vec F S1x512x128 .f32) =>
  .op (.load (M .a21) (Rect.unit (s := S2x512x128) ![0, 0, 0] S1x512x128.size inb_S2x512x128_S1x512x128_0_0_0).toLoadRect (View.loadsAt_vmem h_S1x512x128)) fun _ =>
  .op (.store (M .a21) (Rect.unit (s := S2x512x128) ![0, 0, 0] S1x512x128.size inb_S2x512x128_S1x512x128_0_0_0)
    (accV o (resV (mmV wf xt) (mmV wq ct) sc mk)) Finset.univ (View.stores_vmem_bits_univ h_S1x512x128 rfl) (.inl rfl)) fun _ =>
  .op (.load (M .a12) (Rect.unit (s := S512x1024) ![0, 0] S512x1024.size inb_S512x1024_S512x1024_0_0).toLoadRect (View.loadsAt_vmem h_S512x1024)) fun (dw : Vec F S512x1024 .f32) =>
  pLoad M 0 (by omega) w g fun p0 => pLoad M 1 (by omega) w g fun p1 => pLoad M 2 (by omega) w g fun p2 =>
  .op (.load (M .a12) (Rect.unit (s := S512x1024) ![0, 0] S512x1024.size inb_S512x1024_S512x1024_0_0).toLoadRect (View.loadsAt_vmem h_S512x1024)) fun _ =>
  .op (.store (M .a12) (Rect.unit (s := S512x1024) ![0, 0] S512x1024.size inb_S512x1024_S512x1024_0_0)
    (addf (shapeCast S512x1024 dw shapeCasts_S512x1024_S512x1024)
      (addf (addf (mpV (rsV sc (resV (mmV wf xt) (mmV wq ct) sc mk)) p0) (mpV (rsV sc (resV (mmV wf xt) (mmV wq ct) sc mk)) p1))
        (mpV (rsV sc (resV (mmV wf xt) (mmV wq ct) sc mk)) p2))) Finset.univ (View.stores_vmem_bits_univ h_S512x1024 rfl) (.inl rfl)) fun _ => .ret ⟨⟩

/-- One tile of the second sweep: the squares of the corrected weights' errors accumulated. -/
def sweepB (w : BitVec 32) (g : GoodT w) : P F PUnit :=
  .op (.load (M .a9) (Rect.unit (s := S512x1024) ![0, 0] S512x1024.size inb_S512x1024_S512x1024_0_0).toLoadRect (View.loadsAt_vmem h_S512x1024)) fun (wc : Vec F S512x1024 .bf16) =>
  toks (M .a14) w g fun ct =>
  pair (M .a16) w g fun mk =>
  .op (.load (M .a19) (Rect.unit (s := S8x512x256) ![(Scalar.indexCast w).toNat, 0, 0] S1x512x256.size (inb3 g (by omega) (by omega))).toLoadRect (View.loadsAt_vmem h_S1x512x256)) fun (y : Vec F S1x512x256 .f32) =>
  pair (M .a15) w g fun sc =>
  .op (.load (M .a21) (Rect.unit (s := S2x512x128) ![1, 0, 0] S1x512x128.size inb_S2x512x128_S1x512x128_1_0_0).toLoadRect (View.loadsAt_vmem h_S1x512x128)) fun (o : Vec F S1x512x128 .f32) =>
  .op (.load (M .a21) (Rect.unit (s := S2x512x128) ![1, 0, 0] S1x512x128.size inb_S2x512x128_S1x512x128_1_0_0).toLoadRect (View.loadsAt_vmem h_S1x512x128)) fun _ =>
  .op (.store (M .a21) (Rect.unit (s := S2x512x128) ![1, 0, 0] S1x512x128.size inb_S2x512x128_S1x512x128_1_0_0)
    (accV o (resV (shapeCast S512x256 y shapeCasts_S1x512x256_S512x256) (mmV (shapeCast S512x1024 wc shapeCasts_S512x1024_S512x1024) ct) sc mk)) Finset.univ (View.stores_vmem_bits_univ h_S1x512x128 rfl) (.inl rfl)) fun _ => .ret ⟨⟩

/-! ## The body -/

/-- A batch's offset: the lengths before it, each rounded up to an even number. -/
abbrev offL (l : List (BitVec 32)) : BitVec 32 := l.foldl nxt 0#32

theorem good0 : Good (offL []) := ⟨by decide, by decide, by decide⟩
theorem good1 {i : grid0.Coords} {n0 : BitVec 32} (h : k0_chk1 i n0) (h1 : k0_cond1 i = 1#1) : Good (offL [n0]) :=
  ⟨h.1 h1 1, h.2.2.2.2.2.2.2.2.2.2.2.2.2.2.2.2.1 h1 0, h.2.2.2.2.2.2.2.2.2.2.2.2.2.2.2.2.2 h1 0⟩
theorem good2 {i : grid0.Coords} {n0 n1 : BitVec 32} (h : k0_chk2 i n0 n1) (h1 : k0_cond1 i = 1#1) : Good (offL [n0, n1]) :=
  ⟨h.1 h1 1, h.2.2.2.2.2.2.2.2.2.2.2.2.2.2.2.2.1 h1 0, h.2.2.2.2.2.2.2.2.2.2.2.2.2.2.2.2.2 h1 0⟩
theorem good3 {i : grid0.Coords} {n0 n1 n2 : BitVec 32} (h : k0_chk3 i n0 n1 n2) (h1 : k0_cond1 i = 1#1) : Good (offL [n0, n1, n2]) :=
  ⟨h.1 h1 1, h.2.2.2.2.2.2.2.2.2.2.2.2.2.2.2.2.1 h1 0, h.2.2.2.2.2.2.2.2.2.2.2.2.2.2.2.2.2 h1 0⟩
theorem good4 {i : grid0.Coords} {n0 n1 n2 n3 : BitVec 32} (h : k0_chk4 i n0 n1 n2 n3) (h1 : k0_cond1 i = 1#1) : Good (offL [n0, n1, n2, n3]) :=
  ⟨h.1 h1 1, h.2.2.2.2.2.2.2.2.2.2.2.2.2.2.2.2.1 h1 0, h.2.2.2.2.2.2.2.2.2.2.2.2.2.2.2.2.2 h1 0⟩
theorem good5 {i : grid0.Coords} {n0 n1 n2 n3 n4 : BitVec 32} (h : k0_chk5 i n0 n1 n2 n3 n4) (h1 : k0_cond1 i = 1#1) : Good (offL [n0, n1, n2, n3, n4]) :=
  ⟨h.1 h1 1, h.2.2.2.2.2.2.2.2.2.2.2.2.2.2.2.2.1 h1 0, h.2.2.2.2.2.2.2.2.2.2.2.2.2.2.2.2.2 h1 0⟩
theorem good6 {i : grid0.Coords} {n0 n1 n2 n3 n4 n5 : BitVec 32} (h : k0_chk6 i n0 n1 n2 n3 n4 n5) (h1 : k0_cond1 i = 1#1) : Good (offL [n0, n1, n2, n3, n4, n5]) :=
  ⟨h.1 h1 1, h.2.2.2.2.2.2.2.2.2.2.2.2.2.2.2.2.1 h1 0, h.2.2.2.2.2.2.2.2.2.2.2.2.2.2.2.2.2 h1 0⟩
theorem good7 {i : grid0.Coords} {n0 n1 n2 n3 n4 n5 n6 : BitVec 32} (h : k0_chk7 i n0 n1 n2 n3 n4 n5 n6) (h1 : k0_cond1 i = 1#1) : Good (offL [n0, n1, n2, n3, n4, n5, n6]) :=
  ⟨h.1 h1 1, h.2.2.2.2.2.2.2.2.2.2.2.2.2.2.2.2.1 h1 0, h.2.2.2.2.2.2.2.2.2.2.2.2.2.2.2.2.2 h1 0⟩
theorem good8 {i : grid0.Coords} {n0 n1 n2 n3 n4 n5 n6 n7 : BitVec 32} (h : k0_chk8 i n0 n1 n2 n3 n4 n5 n6 n7) (h1 : k0_cond1 i = 1#1) : Good (offL [n0, n1, n2, n3, n4, n5, n6, n7]) :=
  ⟨h.1 h1 1, h.2.2.2.2.2.2.2.2.2.2.2.2.2.2.2.2.1 h1 0, h.2.2.2.2.2.2.2.2.2.2.2.2.2.2.2.2.2 h1 0⟩
theorem good9 {i : grid0.Coords} {n0 n1 n2 n3 n4 n5 n6 n7 n8 : BitVec 32} (h : k0_chk9 i n0 n1 n2 n3 n4 n5 n6 n7 n8) (h1 : k0_cond1 i = 1#1) : Good (offL [n0, n1, n2, n3, n4, n5, n6, n7, n8]) :=
  ⟨h.1 h1 1, h.2.2.2.2.2.2.2.2.2.2.2.2.2.2.2.2.1 h1 0, h.2.2.2.2.2.2.2.2.2.2.2.2.2.2.2.2.2 h1 0⟩
theorem good10 {i : grid0.Coords} {n0 n1 n2 n3 n4 n5 n6 n7 n8 n9 : BitVec 32} (h : k0_chk10 i n0 n1 n2 n3 n4 n5 n6 n7 n8 n9) (h1 : k0_cond1 i = 1#1) : Good (offL [n0, n1, n2, n3, n4, n5, n6, n7, n8, n9]) :=
  ⟨h.1 h1 1, h.2.2.2.2.2.2.2.2.2.2.2.2.2.2.2.2.1 h1 0, h.2.2.2.2.2.2.2.2.2.2.2.2.2.2.2.2.2 h1 0⟩
theorem good11 {i : grid0.Coords} {n0 n1 n2 n3 n4 n5 n6 n7 n8 n9 n10 : BitVec 32} (h : k0_chk11 i n0 n1 n2 n3 n4 n5 n6 n7 n8 n9 n10) (h1 : k0_cond1 i = 1#1) : Good (offL [n0, n1, n2, n3, n4, n5, n6, n7, n8, n9, n10]) :=
  ⟨h.1 h1 1, h.2.2.2.2.2.2.2.2.2.2.2.2.2.2.2.2.1 h1 0, h.2.2.2.2.2.2.2.2.2.2.2.2.2.2.2.2.2 h1 0⟩
theorem good12 {i : grid0.Coords} {n0 n1 n2 n3 n4 n5 n6 n7 n8 n9 n10 n11 : BitVec 32} (h : k0_chk12 i n0 n1 n2 n3 n4 n5 n6 n7 n8 n9 n10 n11) (h1 : k0_cond1 i = 1#1) : Good (offL [n0, n1, n2, n3, n4, n5, n6, n7, n8, n9, n10, n11]) :=
  ⟨h.1 h1 1, h.2.2.2.2.2.2.2.2.2.2.2.2.2.2.2.2.1 h1 0, h.2.2.2.2.2.2.2.2.2.2.2.2.2.2.2.2.2 h1 0⟩
theorem good13 {i : grid0.Coords} {n0 n1 n2 n3 n4 n5 n6 n7 n8 n9 n10 n11 n12 : BitVec 32} (h : k0_chk13 i n0 n1 n2 n3 n4 n5 n6 n7 n8 n9 n10 n11 n12) (h1 : k0_cond1 i = 1#1) : Good (offL [n0, n1, n2, n3, n4, n5, n6, n7, n8, n9, n10, n11, n12]) :=
  ⟨h.1 h1 1, h.2.2.2.2.2.2.2.2.2.2.2.2.2.2.2.2.1 h1 0, h.2.2.2.2.2.2.2.2.2.2.2.2.2.2.2.2.2 h1 0⟩
theorem good14 {i : grid0.Coords} {n0 n1 n2 n3 n4 n5 n6 n7 n8 n9 n10 n11 n12 n13 : BitVec 32} (h : k0_chk14 i n0 n1 n2 n3 n4 n5 n6 n7 n8 n9 n10 n11 n12 n13) (h1 : k0_cond1 i = 1#1) : Good (offL [n0, n1, n2, n3, n4, n5, n6, n7, n8, n9, n10, n11, n12, n13]) :=
  ⟨h.1 h1 1, h.2.2.2.2.2.2.2.2.2.2.2.2.2.2.2.2.1 h1 0, h.2.2.2.2.2.2.2.2.2.2.2.2.2.2.2.2.2 h1 0⟩
theorem good15 {i : grid0.Coords} {n0 n1 n2 n3 n4 n5 n6 n7 n8 n9 n10 n11 n12 n13 n14 : BitVec 32} (h : k0_chk15 i n0 n1 n2 n3 n4 n5 n6 n7 n8 n9 n10 n11 n12 n13 n14) (h1 : k0_cond1 i = 1#1) : Good (offL [n0, n1, n2, n3, n4, n5, n6, n7, n8, n9, n10, n11, n12, n13, n14]) :=
  ⟨h.1 h1 1, h.2.2.2.2.2.2.2.2.2.2.2.2.2.2.2.2.1 h1 0, h.2.2.2.2.2.2.2.2.2.2.2.2.2.2.2.2.2 h1 0⟩
theorem good16 {i : grid0.Coords} {n0 n1 n2 n3 n4 n5 n6 n7 n8 n9 n10 n11 n12 n13 n14 n15 : BitVec 32} (h : k0_chk16 i n0 n1 n2 n3 n4 n5 n6 n7 n8 n9 n10 n11 n12 n13 n14 n15) (h1 : k0_cond1 i = 1#1) : (rowX (offL [n0, n1, n2, n3, n4, n5, n6, n7, n8, n9, n10, n11, n12, n13, n14, n15])).toNat + 256 ≤ 2304 := h.1 h1 1

/-- The packing of every batch, then the zero rows; `K` takes the total offset. -/
def packAll (i : grid0.Coords) (h1 : k0_cond1 i = 1#1) (K : BitVec 32 → P F α) : P F α :=
  .op (.load (M .a15) (Rect.unit (s := S18x128) ![0, 0] S18x128.size inb_S18x128_S18x128_0_0).toLoadRect (View.loadsAt_vmem h_S18x128)) fun _ =>
  .op (.store (M .a15) (Rect.unit (s := S18x128) ![0, 0] S18x128.size inb_S18x128_S18x128_0_0) (shapeCast S18x128 (broadcast S18x128 (Scalar.ofBits (F := F) .f32 0x00000000#32)) shapeCasts_S18x128_S18x128) Finset.univ (View.stores_vmem_bits_univ h_S18x128 rfl) (.inl rfl)) fun _ =>
  .op (.load (M .a16) (Rect.unit (s := S18x128) ![0, 0] S18x128.size inb_S18x128_S18x128_0_0).toLoadRect (View.loadsAt_vmem h_S18x128)) fun _ =>
  .op (.store (M .a16) (Rect.unit (s := S18x128) ![0, 0] S18x128.size inb_S18x128_S18x128_0_0) (shapeCast S18x128 (broadcast S18x128 (Scalar.ofBits (F := F) .f32 0x00000000#32)) shapeCasts_S18x128_S18x128) Finset.univ (View.stores_vmem_bits_univ h_S18x128 rfl) (.inl rfl)) fun _ =>
  packStep M hM 0 (by omega) (offL []) good0 (k0_chk1 i ) (k0_chk1.dec i ) fun n0 c0 =>
  packStep M hM 1 (by omega) (offL [n0]) (good1 c0 h1) (k0_chk2 i n0) (k0_chk2.dec i n0) fun n1 c1 =>
  packStep M hM 2 (by omega) (offL [n0, n1]) (good2 c1 h1) (k0_chk3 i n0 n1) (k0_chk3.dec i n0 n1) fun n2 c2 =>
  packStep M hM 3 (by omega) (offL [n0, n1, n2]) (good3 c2 h1) (k0_chk4 i n0 n1 n2) (k0_chk4.dec i n0 n1 n2) fun n3 c3 =>
  packStep M hM 4 (by omega) (offL [n0, n1, n2, n3]) (good4 c3 h1) (k0_chk5 i n0 n1 n2 n3) (k0_chk5.dec i n0 n1 n2 n3) fun n4 c4 =>
  packStep M hM 5 (by omega) (offL [n0, n1, n2, n3, n4]) (good5 c4 h1) (k0_chk6 i n0 n1 n2 n3 n4) (k0_chk6.dec i n0 n1 n2 n3 n4) fun n5 c5 =>
  packStep M hM 6 (by omega) (offL [n0, n1, n2, n3, n4, n5]) (good6 c5 h1) (k0_chk7 i n0 n1 n2 n3 n4 n5) (k0_chk7.dec i n0 n1 n2 n3 n4 n5) fun n6 c6 =>
  packStep M hM 7 (by omega) (offL [n0, n1, n2, n3, n4, n5, n6]) (good7 c6 h1) (k0_chk8 i n0 n1 n2 n3 n4 n5 n6) (k0_chk8.dec i n0 n1 n2 n3 n4 n5 n6) fun n7 c7 =>
  packStep M hM 8 (by omega) (offL [n0, n1, n2, n3, n4, n5, n6, n7]) (good8 c7 h1) (k0_chk9 i n0 n1 n2 n3 n4 n5 n6 n7) (k0_chk9.dec i n0 n1 n2 n3 n4 n5 n6 n7) fun n8 c8 =>
  packStep M hM 9 (by omega) (offL [n0, n1, n2, n3, n4, n5, n6, n7, n8]) (good9 c8 h1) (k0_chk10 i n0 n1 n2 n3 n4 n5 n6 n7 n8) (k0_chk10.dec i n0 n1 n2 n3 n4 n5 n6 n7 n8) fun n9 c9 =>
  packStep M hM 10 (by omega) (offL [n0, n1, n2, n3, n4, n5, n6, n7, n8, n9]) (good10 c9 h1) (k0_chk11 i n0 n1 n2 n3 n4 n5 n6 n7 n8 n9) (k0_chk11.dec i n0 n1 n2 n3 n4 n5 n6 n7 n8 n9) fun n10 c10 =>
  packStep M hM 11 (by omega) (offL [n0, n1, n2, n3, n4, n5, n6, n7, n8, n9, n10]) (good11 c10 h1) (k0_chk12 i n0 n1 n2 n3 n4 n5 n6 n7 n8 n9 n10) (k0_chk12.dec i n0 n1 n2 n3 n4 n5 n6 n7 n8 n9 n10) fun n11 c11 =>
  packStep M hM 12 (by omega) (offL [n0, n1, n2, n3, n4, n5, n6, n7, n8, n9, n10, n11]) (good12 c11 h1) (k0_chk13 i n0 n1 n2 n3 n4 n5 n6 n7 n8 n9 n10 n11) (k0_chk13.dec i n0 n1 n2 n3 n4 n5 n6 n7 n8 n9 n10 n11) fun n12 c12 =>
  packStep M hM 13 (by omega) (offL [n0, n1, n2, n3, n4, n5, n6, n7, n8, n9, n10, n11, n12]) (good13 c12 h1) (k0_chk14 i n0 n1 n2 n3 n4 n5 n6 n7 n8 n9 n10 n11 n12) (k0_chk14.dec i n0 n1 n2 n3 n4 n5 n6 n7 n8 n9 n10 n11 n12) fun n13 c13 =>
  packStep M hM 14 (by omega) (offL [n0, n1, n2, n3, n4, n5, n6, n7, n8, n9, n10, n11, n12, n13]) (good14 c13 h1) (k0_chk15 i n0 n1 n2 n3 n4 n5 n6 n7 n8 n9 n10 n11 n12 n13) (k0_chk15.dec i n0 n1 n2 n3 n4 n5 n6 n7 n8 n9 n10 n11 n12 n13) fun n14 c14 =>
  packStep M hM 15 (by omega) (offL [n0, n1, n2, n3, n4, n5, n6, n7, n8, n9, n10, n11, n12, n13, n14]) (good15 c14 h1) (k0_chk16 i n0 n1 n2 n3 n4 n5 n6 n7 n8 n9 n10 n11 n12 n13 n14) (k0_chk16.dec i n0 n1 n2 n3 n4 n5 n6 n7 n8 n9 n10 n11 n12 n13 n14) fun n15 c15 =>
  zeroCol M hM 0 (by omega) (offL [n0, n1, n2, n3, n4, n5, n6, n7, n8, n9, n10, n11, n12, n13, n14, n15]) (good16 c15 h1) <|
  zeroCol M hM 1 (by omega) (offL [n0, n1, n2, n3, n4, n5, n6, n7, n8, n9, n10, n11, n12, n13, n14, n15]) (good16 c15 h1) <|
  zeroCol M hM 2 (by omega) (offL [n0, n1, n2, n3, n4, n5, n6, n7, n8, n9, n10, n11, n12, n13, n14, n15]) (good16 c15 h1) <|
  zeroCol M hM 3 (by omega) (offL [n0, n1, n2, n3, n4, n5, n6, n7, n8, n9, n10, n11, n12, n13, n14, n15]) (good16 c15 h1) <|
  zeroCol M hM 4 (by omega) (offL [n0, n1, n2, n3, n4, n5, n6, n7, n8, n9, n10, n11, n12, n13, n14, n15]) (good16 c15 h1) <|
  zeroCol M hM 5 (by omega) (offL [n0, n1, n2, n3, n4, n5, n6, n7, n8, n9, n10, n11, n12, n13, n14, n15]) (good16 c15 h1) <|
  zeroCol M hM 6 (by omega) (offL [n0, n1, n2, n3, n4, n5, n6, n7, n8, n9, n10, n11, n12, n13, n14, n15]) (good16 c15 h1) <|
  zeroCol M hM 7 (by omega) (offL [n0, n1, n2, n3, n4, n5, n6, n7, n8, n9, n10, n11, n12, n13, n14, n15]) (good16 c15 h1) <|
  K (offL [n0, n1, n2, n3, n4, n5, n6, n7, n8, n9, n10, n11, n12, n13, n14, n15])

/-- The first point's work: the batches packed, the inverse Hessian split, every tile projected. -/
def setup (i : grid0.Coords) (h1 : k0_cond1 i = 1#1) (K : P F α) : P F α :=
  packAll M hM i h1 fun off =>
  smemLoad (Val := Elt F) (M .a22) (Rect.unit (s := S1) ![0] S1.size inb_S1_S1_0) numel1_S1 rfl >>= fun _ =>
  .op (.store (M .a22) (Rect.unit (s := S1) ![0] S1.size inb_S1_S1_0) (fun _ => tilesW off) Finset.univ (View.stores_smem_one rfl numel1_S1) (.inl rfl)) fun _ =>
  ((Scf.Loop.for k0_t1_loop (k0_t1_ok i h1) ⟨⟩ fun t _ => hBody M hM i h1 t) >>= fun _ =>
    smemLoad (Val := Elt F) (M .a22) (Rect.unit (s := S1) ![0] S1.size inb_S1_S1_0) numel1_S1 rfl >>= fun v =>
    .op (TpuEff.assume (k0_chk17 i v) (k0_chk17.dec i v)) fun hw =>
    (.ret ⟨v, hw.down, Scalar.subi v 0#32, Scalar.subi 1#32 1#32⟩ : P F (Σ' (v : BitVec 32) (_ : k0_chk17 i v) (_ : BitVec 32), BitVec 32))) >>= fun r =>
  (Scf.Loop.for (k0_t2_loop r.1) (k0_t2_ok i r.1 r.2.1 h1) ⟨⟩ fun t _ => projBody M hM (tw 0#32 t) (k0_off181_inb i r.1 r.2.1 t h1 1)) >>= fun _ =>
  (Scf.Loop.for (k0_t3_loop r.1) (k0_t3_ok i r.1 r.2.1 h1) ⟨⟩ fun t _ => projBody M hM (tw (k0_t3_loop r.1).lb t) (k0_off192_inb i r.1 r.2.1 t h1 1)) >>= fun _ => K

/-- The sum of the lengths, read. -/
def lenSum (K : BitVec 32 → P F α) : P F α :=
  lenB M 0 (by omega) fun n0 =>
  lenB M 1 (by omega) fun n1 =>
  lenB M 2 (by omega) fun n2 =>
  lenB M 3 (by omega) fun n3 =>
  lenB M 4 (by omega) fun n4 =>
  lenB M 5 (by omega) fun n5 =>
  lenB M 6 (by omega) fun n6 =>
  lenB M 7 (by omega) fun n7 =>
  lenB M 8 (by omega) fun n8 =>
  lenB M 9 (by omega) fun n9 =>
  lenB M 10 (by omega) fun n10 =>
  lenB M 11 (by omega) fun n11 =>
  lenB M 12 (by omega) fun n12 =>
  lenB M 13 (by omega) fun n13 =>
  lenB M 14 (by omega) fun n14 =>
  lenB M 15 (by omega) fun n15 =>
  K (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi 0#32 n0) n1) n2) n3) n4) n5) n6) n7) n8) n9) n10) n11) n12) n13) n14) n15)

/-- The tile count and the number of tokens, read. -/
def counts : P F (Σ' (v3 : Elt F .i32) (k0_hw18 : k0_chk18 v3), F .f32) :=
  smemLoad (Val := Elt F) (M .a22) (Rect.unit (s := S1) ![0] S1.size inb_S1_S1_0) numel1_S1 rfl >>= fun v =>
  .op (TpuEff.assume (k0_chk18 v) (k0_chk18.dec v)) fun hw =>
  lenSum M fun n => .ret ⟨v, hw.down, Scalar.sitofp .f32 n⟩

/-- The start of every point: the setup at the first, then the tile count and the number of tokens. -/
def head (i : grid0.Coords) : P F (Σ' (v3 : Elt F .i32) (k0_hw18 : k0_chk18 v3), F .f32) :=
  if h1 : k0_cond1 i = 1#1 then setup M hM i h1 (counts M) else counts M

/-- The sum of an accumulator over its lanes, over the number of tokens. -/
def lossV (a : FVec F S1x512x128 .f32) (n : F .f32) : FVec F S1x1x512 .f32 :=
  shapeCast S1x1x512 (divf (shapeCast S1x512 (multiReduction .add [0] S512 (transpose S128x512 [1, 0] (shapeCast S512x128 a shapeCasts_S1x512x128_S512x128) transposes_S512x128_p1_0_S128x512) 0x00000000#32 reduces_S128x512_S512 (.inl rfl) rfl : FVec F S512 .f32) shapeCasts_S512_S1x512)
    (broadcast S1x512 n)) shapeCasts_S1x512_S1x1x512

/-- The dequantised weights of a block, then the accumulators cleared. -/
def deqAll (K : P F α) : P F α :=
  .op (.load (M .a7) (Rect.unit (s := S512x512) ![0, 0] S512x512.size inb_S512x512_S512x512_0_0).toLoadRect (View.loadsAt_vmem h_S512x512)) fun (x : Vec F S512x512 .i8) =>
  deqCol M hM 0 0 (by omega) slices_S512x512_o0_0_S512x128 (codeLo x) <|
  deqCol M hM 1 128 (by omega) slices_S512x512_o0_128_S512x128 (codeLo x) <|
  deqCol M hM 2 256 (by omega) slices_S512x512_o0_256_S512x128 (codeLo x) <|
  deqCol M hM 3 384 (by omega) slices_S512x512_o0_384_S512x128 (codeLo x) <|
  deqCol M hM 4 0 (by omega) slices_S512x512_o0_0_S512x128 (codeHi x) <|
  deqCol M hM 5 128 (by omega) slices_S512x512_o0_128_S512x128 (codeHi x) <|
  deqCol M hM 6 256 (by omega) slices_S512x512_o0_256_S512x128 (codeHi x) <|
  deqCol M hM 7 384 (by omega) slices_S512x512_o0_384_S512x128 (codeHi x) <|
  .op (.load (M .a12) (Rect.unit (s := S512x1024) ![0, 0] S512x1024.size inb_S512x1024_S512x1024_0_0).toLoadRect (View.loadsAt_vmem h_S512x1024)) fun _ =>
  .op (.store (M .a12) (Rect.unit (s := S512x1024) ![0, 0] S512x1024.size inb_S512x1024_S512x1024_0_0)
    (shapeCast S512x1024 (broadcast S512x1024 (Scalar.ofBits (F := F) .f32 0x00000000#32)) shapeCasts_S512x1024_S512x1024) Finset.univ (View.stores_vmem_bits_univ h_S512x1024 rfl) (.inl rfl)) fun _ =>
  .op (.load (M .a21) (Rect.unit (s := S2x512x128) ![0, 0, 0] S2x512x128.size inb_S2x512x128_S2x512x128_0_0_0).toLoadRect (View.loadsAt_vmem h_S2x512x128)) fun _ =>
  .op (.store (M .a21) (Rect.unit (s := S2x512x128) ![0, 0, 0] S2x512x128.size inb_S2x512x128_S2x512x128_0_0_0)
    (shapeCast S2x512x128 (broadcast S2x512x128 (Scalar.ofBits (F := F) .f32 0x00000000#32)) shapeCasts_S2x512x128_S2x512x128) Finset.univ (View.stores_vmem_bits_univ h_S2x512x128 rfl) (.inl rfl)) fun _ => K

/-- The corrected weights of a block. -/
def wcV (wq : FVec F S512x1024 .bf16) (dw : FVec F S512x1024 .f32) : FVec F S512x1024 .bf16 :=
  truncf .bf16 (addf (extf .f32 wq bitsLt_bf16_f32) (shapeCast S512x1024 dw shapeCasts_S512x1024_S512x1024)) bitsLt_bf16_f32

/-- The whole body of a point. -/
def body (i : grid0.Coords) : P F PUnit :=
  (head M hM i >>= fun r =>
    deqAll M hM ((Scf.Loop.for (k0_t4_loop r.1) (k0_t4_ok r.1 r.2.1) ⟨⟩ fun t _ => sweepA M (tw 0#32 t) (k0_off205_inb r.1 r.2.1 t 0)) >>= fun _ =>
      (Scf.Loop.for (k0_t5_loop r.1) (k0_t5_ok r.1 r.2.1) ⟨⟩ fun t _ => sweepA M (tw (k0_t5_loop r.1).lb t) (k0_off219_inb r.1 r.2.1 t 0)) >>= fun _ =>
      .op (.load (M .a20) (Rect.unit (s := S512x1024) ![0, 0] S512x1024.size inb_S512x1024_S512x1024_0_0).toLoadRect (View.loadsAt_vmem h_S512x1024)) fun (wq : Vec F S512x1024 .bf16) =>
      .op (.load (M .a12) (Rect.unit (s := S512x1024) ![0, 0] S512x1024.size inb_S512x1024_S512x1024_0_0).toLoadRect (View.loadsAt_vmem h_S512x1024)) fun (dw : Vec F S512x1024 .f32) =>
      .ret (wcV wq dw)) >>= fun wc =>
    .op (.load (M .a9) (Rect.unit (s := S512x1024) ![0, 0] S512x1024.size inb_S512x1024_S512x1024_0_0).toLoadRect (View.loadsAt_vmem h_S512x1024)) fun _ =>
    .op (.store (M .a9) (Rect.unit (s := S512x1024) ![0, 0] S512x1024.size inb_S512x1024_S512x1024_0_0) wc Finset.univ
      (View.stores_vmem h_S512x1024 ((hM .a9).storeExact_slice rfl _ packedbf16_S512x1024_S512x1024_0_0) (fun _ => rfl)) (.inl rfl)) fun _ =>
    (Scf.Loop.for (k0_t6_loop r.1) (k0_t6_ok r.1 r.2.1) ⟨⟩ fun t _ => sweepB M (tw 0#32 t) (k0_off233_inb r.1 r.2.1 t 0)) >>= fun _ =>
    (Scf.Loop.for (k0_t7_loop r.1) (k0_t7_ok r.1 r.2.1) ⟨⟩ fun t _ => sweepB M (tw (k0_t7_loop r.1).lb t) (k0_off244_inb r.1 r.2.1 t 0)) >>= fun _ =>
    .op (.load (M .a21) (Rect.unit (s := S2x512x128) ![0, 0, 0] S1x512x128.size inb_S2x512x128_S1x512x128_0_0_0).toLoadRect (View.loadsAt_vmem h_S1x512x128)) fun (a : Vec F S1x512x128 .f32) =>
    .op (.load (M .a10) (Rect.unit (s := S1x1x512) ![0, 0, 0] S1x1x512.size inb_S1x1x512_S1x1x512_0_0_0).toLoadRect (View.loadsAt_vmem h_S1x1x512)) fun _ =>
    .op (.store (M .a10) (Rect.unit (s := S1x1x512) ![0, 0, 0] S1x1x512.size inb_S1x1x512_S1x1x512_0_0_0) (lossV a r.2.2) Finset.univ (View.stores_vmem_bits_univ h_S1x1x512 rfl) (.inl rfl)) fun _ =>
    .op (.load (M .a21) (Rect.unit (s := S2x512x128) ![1, 0, 0] S1x512x128.size inb_S2x512x128_S1x512x128_1_0_0).toLoadRect (View.loadsAt_vmem h_S1x512x128)) fun (b : Vec F S1x512x128 .f32) =>
    .op (.load (M .a11) (Rect.unit (s := S1x1x512) ![0, 0, 0] S1x1x512.size inb_S1x1x512_S1x1x512_0_0_0).toLoadRect (View.loadsAt_vmem h_S1x1x512)) fun _ =>
    .ret (lossV b r.2.2)) >>= fun v =>
  .op (.store (M .a11) (Rect.unit (s := S1x1x512) ![0, 0, 0] S1x1x512.size inb_S1x1x512_S1x1x512_0_0_0) v Finset.univ (View.stores_vmem_bits_univ h_S1x1x512 rfl) (.inl rfl)) fun _ => .ret ⟨⟩

end Cert.Proof.LsqK
-- ==== Proof.Bits.Chk.lean ====
/-
  The words the kernel computes with, as numbers, and the side conditions its assumptions state: every one holds when each
  length is between 0 and 128.
-/
module

public import proofs.«01_k».proof.Proof.Bits.Body

@[expose] public section

set_option maxRecDepth 16384

noncomputable section

namespace Cert.Proof.LsqK

open Idealize.ShloMosaic Idealize.ShloMosaic.TcCoe Idealize.ShloMosaic.Tactic
open Cert.Proof.Lsq Cert.Kernel Cert.Kernel.Gen

/-! ## Words as numbers -/

theorem words : ∀ n, n < 2305 → ((floorW (BitVec.ofNat 32 n) 128#32).toNat = n / 128 ∧ (shiftW (BitVec.ofNat 32 n)).toNat = n % 128)
    ∧ (tilesW (BitVec.ofNat 32 n)).toNat = (n + 255) / 256 := by decide +kernel

theorem floor_eq {off : BitVec 32} (h : off.toNat ≤ 2048) : (floorW off 128#32).toNat = off.toNat / 128 := by
  have := (words off.toNat (by omega)).1.1
  rwa [BitVec.ofNat_toNat, BitVec.setWidth_eq] at this
/-- The lane of an offset is its remainder by the width of a scale row. -/
theorem shift_eq {off : BitVec 32} (h : off.toNat ≤ 2048) : (shiftW off).toNat = off.toNat % 128 := by
  have := (words off.toNat (by omega)).1.2
  rwa [BitVec.ofNat_toNat, BitVec.setWidth_eq] at this
/-- The number of tiles is the total offset over the tile height, rounded up. -/
theorem tiles_eq {off : BitVec 32} (h : off.toNat ≤ 2048) : (tilesW off).toNat = (off.toNat + 255) / 256 := by
  have := (words off.toNat (by omega)).2
  rwa [BitVec.ofNat_toNat, BitVec.setWidth_eq] at this
theorem rowS_eq {off : BitVec 32} (h : off.toNat ≤ 2048) : (rowS off).toNat = off.toNat / 128 := floor_eq h
theorem rowS1_eq {off : BitVec 32} (h : off.toNat ≤ 2048) : (rowS1 off).toNat = off.toNat / 128 + 1 := by
  show ((floorW off 128#32 + 1#32 : BitVec 32)).toNat = _
  rw [BitVec.toNat_add, floor_eq h, BitVec.toNat_ofNat]; omega
theorem rowX_eq {off : BitVec 32} (h : off.toNat ≤ 2048) (he : 2 ∣ off.toNat) : (rowX off).toNat = off.toNat := by
  show ((2#32 * (off >>> (1#32).toNat) : BitVec 32)).toNat = _
  rw [BitVec.toNat_mul, BitVec.toNat_ushiftRight, BitVec.toNat_ofNat, BitVec.toNat_ofNat, show 1 % 2 ^ 32 = 1 from rfl, Nat.shiftRight_eq_div_pow, Nat.pow_one]; omega
theorem rowX_le {off : BitVec 32} (h : off.toNat ≤ 2048) : (rowX off).toNat ≤ 2048 := by
  show ((2#32 * (off >>> (1#32).toNat) : BitVec 32)).toNat ≤ _
  rw [BitVec.toNat_mul, BitVec.toNat_ushiftRight, BitVec.toNat_ofNat, BitVec.toNat_ofNat, show 1 % 2 ^ 32 = 1 from rfl, Nat.shiftRight_eq_div_pow, Nat.pow_one]; omega
/-- The next batch's offset, as a number. -/
theorem nxt_eq {off n : BitVec 32} (h : off.toNat ≤ 2048) (hn : n.toNat ≤ 128) :
    (nxt off n).toNat = off.toNat + n.toNat + n.toNat % 2 := by
  show ((off + n + (n &&& 1#32) : BitVec 32)).toNat = _
  have ha : (n &&& 1#32).toNat = n.toNat % 2 := by
    rw [BitVec.toNat_and]; exact Nat.and_one_is_mod _
  rw [BitVec.toNat_add, BitVec.toNat_add, ha]; omega

/-- An offset of at most 2048 keeps every store of its batch inside. -/
theorem good_of_le {off : BitVec 32} (h : off.toNat ≤ 2048) : Good off :=
  ⟨by have := rowX_le h; omega, by rw [rowS_eq h]; omega, by rw [rowS1_eq h]; omega⟩

/-! ## The checks of the offsets -/

/-- The check of an offset's column block. -/
abbrev ColOK (i : grid0.Coords) (off : BitVec 32) (n c : ℕ) : Prop :=
  ∀ _ : k0_cond1 i = 1#1, ∀ a, (![c, (rowX off).toNat, 0] : Fin 3 → ℕ) a + (⟨3, ![1, n, 128]⟩ : Shape).size a ≤ S8x2304x128.size a
abbrev ColPk (i : grid0.Coords) (off : BitVec 32) (n c : ℕ) : Prop :=
  ∀ _ : k0_cond1 i = 1#1, ∀ hinb : ∀ a, (![c, (rowX off).toNat, 0] : Fin 3 → ℕ) a + (⟨3, ![1, n, 128]⟩ : Shape).size a ≤ S8x2304x128.size a,
    (Rect.unit (s := S8x2304x128) ![c, (rowX off).toNat, 0] (⟨3, ![1, n, 128]⟩ : Shape).size hinb).PackedRows (EltTy.packing .bf16)
/-- The check of an offset. -/
def Chk (i : grid0.Coords) (off : BitVec 32) : Prop :=
  ColOK i off 128 0 ∧ ColPk i off 128 0 ∧ ColOK i off 128 1 ∧ ColPk i off 128 1 ∧ ColOK i off 128 2 ∧ ColPk i off 128 2 ∧ ColOK i off 128 3 ∧ ColPk i off 128 3 ∧
  ColOK i off 128 4 ∧ ColPk i off 128 4 ∧ ColOK i off 128 5 ∧ ColPk i off 128 5 ∧ ColOK i off 128 6 ∧ ColPk i off 128 6 ∧ ColOK i off 128 7 ∧ ColPk i off 128 7 ∧
  (∀ _ : k0_cond1 i = 1#1, ∀ a, (![(rowS off).toNat, 0] : Fin 2 → ℕ) a + S1x128.size a ≤ S18x128.size a) ∧
  (∀ _ : k0_cond1 i = 1#1, ∀ a, (![(rowS1 off).toNat, 0] : Fin 2 → ℕ) a + S1x128.size a ≤ S18x128.size a)
/-- The check of the total offset. -/
def ChkZ (i : grid0.Coords) (off : BitVec 32) : Prop :=
  ColOK i off 256 0 ∧ ColPk i off 256 0 ∧ ColOK i off 256 1 ∧ ColPk i off 256 1 ∧ ColOK i off 256 2 ∧ ColPk i off 256 2 ∧ ColOK i off 256 3 ∧ ColPk i off 256 3 ∧
  ColOK i off 256 4 ∧ ColPk i off 256 4 ∧ ColOK i off 256 5 ∧ ColPk i off 256 5 ∧ ColOK i off 256 6 ∧ ColPk i off 256 6 ∧ ColOK i off 256 7 ∧ ColPk i off 256 7

theorem colOK {i : grid0.Coords} {off : BitVec 32} {n c : ℕ} (hc : c < 8) (h : (rowX off).toNat + n ≤ 2304) : ColOK i off n c :=
  fun _ => inb3 (by omega) h (by omega)
theorem colPk {i : grid0.Coords} {off : BitVec 32} {n c : ℕ} (hn : 2 ∣ n) : ColPk i off n c := fun _ hinb => packedX (rowX_even off) hn hinb
theorem chk_of {i : grid0.Coords} {off : BitVec 32} (h : off.toNat ≤ 2048) : Chk i off := by
  have g := good_of_le h
  have d : 2 ∣ 128 := by decide
  exact ⟨colOK (by decide) g.x, colPk d, colOK (by decide) g.x, colPk d, colOK (by decide) g.x, colPk d, colOK (by decide) g.x, colPk d,
    colOK (by decide) g.x, colPk d, colOK (by decide) g.x, colPk d, colOK (by decide) g.x, colPk d, colOK (by decide) g.x, colPk d,
    fun _ => inb2 g.s (by omega), fun _ => inb2 g.s1 (by omega)⟩
theorem chkZ_of {i : grid0.Coords} {off : BitVec 32} (h : off.toNat ≤ 2048) : ChkZ i off := by
  have g : (rowX off).toNat + 256 ≤ 2304 := by have := rowX_le h; omega
  have d : 2 ∣ 256 := by decide
  exact ⟨colOK (by decide) g, colPk d, colOK (by decide) g, colPk d, colOK (by decide) g, colPk d, colOK (by decide) g, colPk d,
    colOK (by decide) g, colPk d, colOK (by decide) g, colPk d, colOK (by decide) g, colPk d, colOK (by decide) g, colPk d⟩

variable {i : grid0.Coords} {n0 n1 n2 n3 n4 n5 n6 n7 n8 n9 n10 n11 n12 n13 n14 n15 : BitVec 32}
theorem chk1_eq : k0_chk1 i n0 = Chk i (offL [n0]) := by chain_rfl
theorem chk2_eq : k0_chk2 i n0 n1 = Chk i (offL [n0, n1]) := by chain_rfl
theorem chk3_eq : k0_chk3 i n0 n1 n2 = Chk i (offL [n0, n1, n2]) := by chain_rfl
theorem chk4_eq : k0_chk4 i n0 n1 n2 n3 = Chk i (offL [n0, n1, n2, n3]) := by chain_rfl
theorem chk5_eq : k0_chk5 i n0 n1 n2 n3 n4 = Chk i (offL [n0, n1, n2, n3, n4]) := by chain_rfl
theorem chk6_eq : k0_chk6 i n0 n1 n2 n3 n4 n5 = Chk i (offL [n0, n1, n2, n3, n4, n5]) := by chain_rfl
theorem chk7_eq : k0_chk7 i n0 n1 n2 n3 n4 n5 n6 = Chk i (offL [n0, n1, n2, n3, n4, n5, n6]) := by chain_rfl
theorem chk8_eq : k0_chk8 i n0 n1 n2 n3 n4 n5 n6 n7 = Chk i (offL [n0, n1, n2, n3, n4, n5, n6, n7]) := by chain_rfl
theorem chk9_eq : k0_chk9 i n0 n1 n2 n3 n4 n5 n6 n7 n8 = Chk i (offL [n0, n1, n2, n3, n4, n5, n6, n7, n8]) := by chain_rfl
theorem chk10_eq : k0_chk10 i n0 n1 n2 n3 n4 n5 n6 n7 n8 n9 = Chk i (offL [n0, n1, n2, n3, n4, n5, n6, n7, n8, n9]) := by chain_rfl
theorem chk11_eq : k0_chk11 i n0 n1 n2 n3 n4 n5 n6 n7 n8 n9 n10 = Chk i (offL [n0, n1, n2, n3, n4, n5, n6, n7, n8, n9, n10]) := by chain_rfl
theorem chk12_eq : k0_chk12 i n0 n1 n2 n3 n4 n5 n6 n7 n8 n9 n10 n11 = Chk i (offL [n0, n1, n2, n3, n4, n5, n6, n7, n8, n9, n10, n11]) := by chain_rfl
theorem chk13_eq : k0_chk13 i n0 n1 n2 n3 n4 n5 n6 n7 n8 n9 n10 n11 n12 = Chk i (offL [n0, n1, n2, n3, n4, n5, n6, n7, n8, n9, n10, n11, n12]) := by chain_rfl
theorem chk14_eq : k0_chk14 i n0 n1 n2 n3 n4 n5 n6 n7 n8 n9 n10 n11 n12 n13 = Chk i (offL [n0, n1, n2, n3, n4, n5, n6, n7, n8, n9, n10, n11, n12, n13]) := by chain_rfl
theorem chk15_eq : k0_chk15 i n0 n1 n2 n3 n4 n5 n6 n7 n8 n9 n10 n11 n12 n13 n14 = Chk i (offL [n0, n1, n2, n3, n4, n5, n6, n7, n8, n9, n10, n11, n12, n13, n14]) := by chain_rfl
theorem chk16_eq : k0_chk16 i n0 n1 n2 n3 n4 n5 n6 n7 n8 n9 n10 n11 n12 n13 n14 n15 = ChkZ i (offL [n0, n1, n2, n3, n4, n5, n6, n7, n8, n9, n10, n11, n12, n13, n14, n15]) := by chain_rfl

/-! ## The loops over the tiles -/

theorem loops : ∀ n, n < 9 → (k0_t2_loop (BitVec.ofNat 32 n) = ⟨0#32, BitVec.ofNat 32 n, 1#32⟩ ∧ k0_t3_loop (BitVec.ofNat 32 n) = ⟨BitVec.ofNat 32 n, BitVec.ofNat 32 n, 1#32⟩)
    ∧ (k0_t4_loop (BitVec.ofNat 32 n) = ⟨0#32, BitVec.ofNat 32 n, 1#32⟩ ∧ k0_t5_loop (BitVec.ofNat 32 n) = ⟨BitVec.ofNat 32 n, BitVec.ofNat 32 n, 1#32⟩)
    ∧ (k0_t6_loop (BitVec.ofNat 32 n) = ⟨0#32, BitVec.ofNat 32 n, 1#32⟩ ∧ k0_t7_loop (BitVec.ofNat 32 n) = ⟨BitVec.ofNat 32 n, BitVec.ofNat 32 n, 1#32⟩) := by
  intro n hn
  match n, hn with
  | 0, _ => exact ⟨⟨rfl, rfl⟩, ⟨rfl, rfl⟩, rfl, rfl⟩
  | 1, _ => exact ⟨⟨rfl, rfl⟩, ⟨rfl, rfl⟩, rfl, rfl⟩
  | 2, _ => exact ⟨⟨rfl, rfl⟩, ⟨rfl, rfl⟩, rfl, rfl⟩
  | 3, _ => exact ⟨⟨rfl, rfl⟩, ⟨rfl, rfl⟩, rfl, rfl⟩
  | 4, _ => exact ⟨⟨rfl, rfl⟩, ⟨rfl, rfl⟩, rfl, rfl⟩
  | 5, _ => exact ⟨⟨rfl, rfl⟩, ⟨rfl, rfl⟩, rfl, rfl⟩
  | 6, _ => exact ⟨⟨rfl, rfl⟩, ⟨rfl, rfl⟩, rfl, rfl⟩
  | 7, _ => exact ⟨⟨rfl, rfl⟩, ⟨rfl, rfl⟩, rfl, rfl⟩
  | 8, _ => exact ⟨⟨rfl, rfl⟩, ⟨rfl, rfl⟩, rfl, rfl⟩

theorem tripsA : ∀ n, n < 9 → Scf.trips 0#32 (BitVec.ofNat 32 n) 1#32 = n ∧ Scf.trips (BitVec.ofNat 32 n) (BitVec.ofNat 32 n) 1#32 = 0 ∧
    Scf.OK 0#32 (BitVec.ofNat 32 n) 1#32 ∧ Scf.OK (BitVec.ofNat 32 n) (BitVec.ofNat 32 n) 1#32 := by decide +kernel

/-- A loop from 0 to a tile count, and the empty loop after it. -/
structure Lp (w : BitVec 32) (l l' : Scf.Loop 32) : Prop where
  n : l.trips = w.toNat
  z : l'.trips = 0
  ok : l.OK
  ok' : l'.OK

theorem lp_of {w : BitVec 32} (h : w.toNat ≤ 8) {l l' : Scf.Loop 32} (e : l = ⟨0#32, w, 1#32⟩) (e' : l' = ⟨w, w, 1#32⟩) : Lp w l l' := by
  have t := tripsA w.toNat (by omega)
  rw [BitVec.ofNat_toNat, BitVec.setWidth_eq] at t
  subst e; subst e'
  exact ⟨t.1, t.2.1, t.2.2.1, t.2.2.2⟩
theorem lps {w : BitVec 32} (h : w.toNat ≤ 8) : Lp w (k0_t2_loop w) (k0_t3_loop w) ∧ Lp w (k0_t4_loop w) (k0_t5_loop w) ∧ Lp w (k0_t6_loop w) (k0_t7_loop w) := by
  have t := loops w.toNat (by omega)
  rw [BitVec.ofNat_toNat, BitVec.setWidth_eq] at t
  exact ⟨lp_of h t.1.1 t.1.2, lp_of h t.2.1.1 t.2.1.2, lp_of h t.2.2.1 t.2.2.2⟩

/-- The tile word of a trip is the trip's number. -/
theorem tw_eq {n : ℕ} (hn : n ≤ 8) (t : Fin n) : (tw 0#32 t).toNat = t.val := by
  have := t.isLt
  show ((0#32 + (0#32 + BitVec.ofNat 32 t.val * 1#32) * 1#32 : BitVec 32)).toNat = _
  simp only [BitVec.zero_add, BitVec.mul_one, BitVec.toNat_ofNat]; omega
theorem tw_good {n : ℕ} (hn : n ≤ 8) (t : Fin n) : GoodT (tw 0#32 t) := by
  show (tw 0#32 t).toNat + 1 ≤ 8
  rw [tw_eq hn]; have := t.isLt; omega
theorem mult_tile {w : BitVec 32} (g : GoodT w) : 256 ∣ (Scalar.muli w 256#32).toNat := by
  have := rowT_eq g
  exact ⟨w.toNat, this⟩

theorem tokOK {w : BitVec 32} (g : GoodT w) {c : ℕ} (hc : c < 8) : ∀ a, (![c, (rowT w).toNat, 0] : Fin 3 → ℕ) a + S1x256x128.size a ≤ S8x2304x128.size a :=
  inb3 (by omega) g.tok (by omega)
theorem pOK {w : BitVec 32} (g : GoodT w) {p : ℕ} (hp : p < 3) : ∀ a, (![p, (Scalar.indexCast w : Index).toNat, 0, 0] : Fin 4 → ℕ) a + S1x1x256x1024.size a ≤ S3x8x256x1024.size a :=
  inb4 (by omega) g (by omega) (by omega)

/-- The check of the tile count before the projection. -/
theorem chk17_of {w : BitVec 32} (h : w.toNat ≤ 8) : k0_chk17 i w := by
  have L := (lps h).1
  have g : ∀ t : Fin (k0_t2_loop w).trips, GoodT (tw 0#32 t) := fun t => tw_good (by have := L.n; omega) t
  have z : ∀ t : Fin (k0_t3_loop w).trips, False := fun t => absurd (lt_of_lt_of_eq t.isLt L.z) (Nat.not_lt_zero _)
  exact ⟨fun _ => L.ok, fun t _ => mult_tile (g t), fun t _ => tokOK (g t) (by decide), fun t _ => tokOK (g t) (by decide), fun t _ => tokOK (g t) (by decide),
    fun t _ => tokOK (g t) (by decide), fun t _ => tokOK (g t) (by decide), fun t _ => tokOK (g t) (by decide), fun t _ => tokOK (g t) (by decide),
    fun t _ => tokOK (g t) (by decide), fun t _ => pOK (g t) (by decide), fun t _ hi => packedP hi, fun t _ => pOK (g t) (by decide), fun t _ hi => packedP hi,
    fun t _ => pOK (g t) (by decide), fun t _ hi => packedP hi, fun _ => L.ok', fun t => (z t).elim, fun t => (z t).elim, fun t => (z t).elim, fun t => (z t).elim,
    fun t => (z t).elim, fun t => (z t).elim, fun t => (z t).elim, fun t => (z t).elim, fun t => (z t).elim, fun t => (z t).elim, fun t => (z t).elim,
    fun t => (z t).elim, fun t => (z t).elim, fun t => (z t).elim, fun t => (z t).elim⟩

/-- The check of the tile count before the sweeps. -/
theorem chk18_of {w : BitVec 32} (h : w.toNat ≤ 8) : k0_chk18 w := by
  have L := (lps h).2.1
  have L' := (lps h).2.2
  have g : ∀ t : Fin (k0_t4_loop w).trips, GoodT (tw 0#32 t) := fun t => tw_good (by have := L.n; omega) t
  have z : ∀ t : Fin (k0_t5_loop w).trips, False := fun t => absurd (lt_of_lt_of_eq t.isLt L.z) (Nat.not_lt_zero _)
  have g' : ∀ t : Fin (k0_t6_loop w).trips, GoodT (tw 0#32 t) := fun t => tw_good (by have := L'.n; omega) t
  have z' : ∀ t : Fin (k0_t7_loop w).trips, False := fun t => absurd (lt_of_lt_of_eq t.isLt L'.z) (Nat.not_lt_zero _)
  unfold k0_chk18 k0_chk18_0 k0_chk18_1
  refine ⟨⟨L.ok, fun t => mult_tile (g t), fun t => tokOK (g t) (by decide), fun t => tokOK (g t) (by decide), fun t => tokOK (g t) (by decide),
    fun t => tokOK (g t) (by decide), fun t => tokOK (g t) (by decide), fun t => tokOK (g t) (by decide), fun t => tokOK (g t) (by decide),
    fun t => tokOK (g t) (by decide), fun t => mult_tile (g t), fun t => inb2 (g t).v (by omega), fun t => inb2 (g t).v1 (by omega),
    fun t => inb3 (g t) (by omega) (by omega), fun t => pOK (g t) (by decide), fun t => pOK (g t) (by decide), fun t => pOK (g t) (by decide), L.ok', ?_⟩, ?_⟩
  · repeat' apply And.intro
    all_goals exact fun t => (z t).elim
  · refine ⟨fun t => (z t).elim, fun t => (z t).elim, L'.ok, fun t => mult_tile (g' t), fun t => tokOK (g' t) (by decide), fun t => tokOK (g' t) (by decide), fun t => tokOK (g' t) (by decide),
      fun t => tokOK (g' t) (by decide), fun t => tokOK (g' t) (by decide), fun t => tokOK (g' t) (by decide), fun t => tokOK (g' t) (by decide),
      fun t => tokOK (g' t) (by decide), fun t => inb2 (g' t).v (by omega), fun t => inb2 (g' t).v1 (by omega),
      fun t => inb3 (g' t) (by omega) (by omega), L'.ok', ?_⟩
    repeat' apply And.intro
    all_goals exact fun t => (z' t).elim

end Cert.Proof.LsqK
-- ==== Proof.Bits.Spec.lean ====
/-
  Where the packed rows lie, as functions: batch `b` starts at row `off L b`, and a row of the packed buffers, of the
  scale rows and of the mask rows is the token of the batch it falls in. The step theorems say that one batch's stores
  carry the description from the batches before to the batches up to it.
-/
module

public import proofs.«01_k».proof.Proof.Bits.Chk
public import Idealize.ShloMosaic.Lib.Pipeline.Value
public import Idealize.ShloMosaic.Lib.ValueIdxCore
public import Idealize.ShloMosaic.Lib.WordCmp
public import Idealize.ShloMosaic.Lib.KernelVsHost

@[expose] public section

set_option maxRecDepth 16384

noncomputable section

namespace Cert.Proof.LsqK

open Idealize.ShloMosaic Idealize.ShloMosaic.TcCoe Idealize.ShloMosaic.Tactic
open Idealize.ShloMosaic.ValueIdx (ix1 ix2 ix3 eq_ix2 eq_ix3)
open Idealize.ShloMosaic.WordCmp
open Cert.Proof.Lsq Cert.Kernel Cert.Kernel.Gen

/-! ## Rectangles of unit stride -/

theorem wr_unit_in {s : Shape} {α : Type} (X : s.Idx → α) {o size : Fin s.rank → ℕ} {inb} (w : (Rect.unit (s := s) o size inb).shape.Idx → α) (i : s.Idx)
    (h : ∀ a, o a ≤ (i a).val ∧ (i a).val < o a + size a) : wr X (Rect.unit o size inb) w i = w fun a => ⟨(i a).val - o a, by have := h a; show _ < size a; omega⟩ := by
  rw [← wr_emb X (Rect.unit o size inb) w]
  congr 1
  funext a
  apply Fin.ext
  have := h a
  show (i a).val = o a + 1 * ((i a).val - o a)
  omega
theorem wr_unit_out {s : Shape} {α : Type} (X : s.Idx → α) {o size : Fin s.rank → ℕ} {inb} (w : (Rect.unit (s := s) o size inb).shape.Idx → α) (i : s.Idx)
    (a : Fin s.rank) (h : (i a).val < o a ∨ o a + size a ≤ (i a).val) : wr X (Rect.unit o size inb) w i = X i := by
  refine wr_off _ _ _ _ fun y hy => ?_
  have e : (i a).val = o a + 1 * (y a).val := by rw [← hy]; rfl
  have hl : (y a).val < size a := (y a).isLt
  omega
/-- A store of the whole buffer. -/
theorem wr_unit_all {s : Shape} {α : Type} (X : s.Idx → α) {o : Fin s.rank → ℕ} {inb} (w : (Rect.unit (s := s) o s.size inb).shape.Idx → α) :
    wr X (Rect.unit o s.size inb) w = w := by
  funext i
  have ho : ∀ a, o a = 0 := fun a => by have := inb a; omega
  rw [wr_unit_in X w i fun a => by have := (i a).isLt; rw [ho a]; omega]
  congr 1
  funext a
  apply Fin.ext
  show (i a).val - o a = _
  rw [ho a]; rfl
/-- A load of the whole buffer. -/
theorem rd_unit_all {s : Shape} {α : Type} (X : s.Idx → α) {o : Fin s.rank → ℕ} {inb} :
    (fun x => X ((Rect.unit (s := s) o s.size inb).toLoadRect.idx x)) = X := by
  funext i
  have ho : ∀ a, o a = 0 := fun a => by have := inb a; omega
  congr 1
  funext a
  apply Fin.ext
  show o a + 1 * (i a).val = _
  rw [ho a]; omega

/-! ## Offsets -/

/-- The length of batch `b`. -/
def ln (L : S16.Idx → BitVec 32) (b : ℕ) : BitVec 32 := L (ix1 (Fin.ofNat 16 b))
/-- The packed row batch `b` starts at. -/
def off (L : S16.Idx → BitVec 32) : ℕ → BitVec 32
  | 0 => 0#32
  | b + 1 => nxt (off L b) (ln L b)
/-- Every length is at most 128. -/
def LensOK (L : S16.Idx → BitVec 32) : Prop := ∀ b, (ln L b).toNat ≤ 128

variable {L : S16.Idx → BitVec 32}

theorem off_le (hL : LensOK L) : ∀ b, b ≤ 16 → (off L b).toNat ≤ 128 * b ∧ 2 ∣ (off L b).toNat
  | 0, _ => ⟨Nat.le_refl 0, ⟨0, rfl⟩⟩
  | b + 1, h => by
    have ih := off_le hL b (by omega)
    have hn := hL b
    have e : (off L (b + 1)).toNat = _ := nxt_eq (off := off L b) (n := ln L b) (by omega) hn
    rw [e]; omega
theorem off_le' (hL : LensOK L) {b : ℕ} (hb : b ≤ 16) : (off L b).toNat ≤ 2048 := by have := (off_le hL b hb).1; omega
theorem off_succ (hL : LensOK L) {b : ℕ} (hb : b < 16) : (off L (b + 1)).toNat = (off L b).toNat + (ln L b).toNat + (ln L b).toNat % 2 :=
  nxt_eq (off := off L b) (n := ln L b) (off_le' hL (by omega)) (hL b)
theorem off_mono (hL : LensOK L) {a : ℕ} : ∀ {b : ℕ}, a ≤ b → b ≤ 16 → (off L a).toNat ≤ (off L b).toNat
  | 0, h, _ => by have : a = 0 := by omega
                  subst this; exact Nat.le_refl _
  | b + 1, h, hb => by
    rcases Nat.eq_or_lt_of_le h with rfl | h'
    · exact Nat.le_refl _
    · have := off_mono hL (a := a) (b := b) (by omega) (by omega)
      rw [off_succ hL (by omega)]; omega

/-- The last batch, up to `k`, that starts at or before row `t`. -/
def batN (L : S16.Idx → BitVec 32) (t : ℕ) : ℕ → ℕ
  | 0 => 0
  | k + 1 => if (off L (k + 1)).toNat ≤ t then k + 1 else batN L t k
def bat (L : S16.Idx → BitVec 32) (t : ℕ) : ℕ := batN L t 15

theorem batN_le (t : ℕ) : ∀ k, batN L t k ≤ k ∧ (off L (batN L t k)).toNat ≤ t
  | 0 => ⟨Nat.le_refl _, Nat.zero_le _⟩
  | k + 1 => by
    unfold batN
    split
    · exact ⟨Nat.le_refl _, by assumption⟩
    · have := batN_le t k; exact ⟨by omega, this.2⟩
theorem bat_le (t : ℕ) : bat L t ≤ 15 ∧ (off L (bat L t)).toNat ≤ t := batN_le t 15
theorem batN_eq (hL : LensOK L) {b t : ℕ} (h1 : (off L b).toNat ≤ t) (h2 : t < (off L (b + 1)).toNat) (hb : b < 16) :
    ∀ k, k ≤ 15 → batN L t k = min b k
  | 0, _ => by simp [batN]
  | k + 1, hk => by
    unfold batN
    split
    · rename_i h
      have : k + 1 ≤ b := by
        by_contra hc
        have := off_mono hL (a := b + 1) (b := k + 1) (by omega) (by omega)
        omega
      omega
    · rename_i h
      rw [batN_eq hL h1 h2 hb k (by omega)]
      have : ¬ k + 1 ≤ b := fun hc => h (Nat.le_trans (off_mono hL hc (by omega)) h1)
      omega
/-- The batch of a row. -/
theorem bat_eq (hL : LensOK L) {b t : ℕ} (hb : b < 16) (h1 : (off L b).toNat ≤ t) (h2 : t < (off L (b + 1)).toNat) : bat L t = b := by
  unfold bat; rw [batN_eq hL h1 h2 hb 15 (Nat.le_refl _)]; omega
theorem bat_last {t : ℕ} (h : (off L 15).toNat ≤ t) : bat L t = 15 := by
  unfold bat batN; rw [if_pos h]

/-! ## The packed rows -/

section Pack
variable {α : Type} (z : α) (u : S2048x1024.Idx → α)

/-- The packed buffer of an array: every row up to the total offset its batch's, the rows after it `z`. -/
def pk (L : S16.Idx → BitVec 32) : S8x2304x128.Idx → α := fun i =>
  if (i 1).val < (off L 16).toNat then
    u (ix2 (Fin.ofNat 2048 (128 * bat L (i 1).val + ((i 1).val - (off L (bat L (i 1).val)).toNat))) (Fin.ofNat 1024 (128 * (i 0).val + (i 2).val)))
  else z

/-- The buffer holds the packed rows of the batches before `b`, and of batch `b` in its first `c` column blocks. -/
def XI (L : S16.Idx → BitVec 32) (b c : ℕ) (X : S8x2304x128.Idx → α) : Prop :=
  ∀ i, ((i 1).val < (off L b).toNat ∨ ((i 1).val < (off L (b + 1)).toNat ∧ (i 0).val < c)) → X i = pk z u L i
/-- The buffer holds every packed row, and the rows after them in its first `c` column blocks. -/
def XZ (L : S16.Idx → BitVec 32) (c : ℕ) (X : S8x2304x128.Idx → α) : Prop :=
  ∀ i, ((i 1).val < (off L 16).toNat ∨ ((i 1).val < (off L 16).toNat + 256 ∧ (i 0).val < c)) → X i = pk z u L i

variable {z u}

theorem XI_next {b : ℕ} {X : S8x2304x128.Idx → α} (h : XI z u L b 8 X) : XI z u L (b + 1) 0 X := fun i hi => h i (.inr ⟨by
  rcases hi with h | h
  · exact h
  · exact absurd h.2 (Nat.not_lt_zero _), (i 0).isLt⟩)
theorem XI_last {X : S8x2304x128.Idx → α} (h : XI z u L 15 8 X) : XZ z u L 0 X := fun i hi => h i (.inr ⟨by
  rcases hi with h | h
  · exact h
  · exact absurd h.2 (Nat.not_lt_zero _), (i 0).isLt⟩)

/-- One column block of a batch stored. -/
theorem XI_step (hL : LensOK L) {b c : ℕ} (hb : b < 16) (hc : c < 8) {X : S8x2304x128.Idx → α} (hX : XI z u L b c X) {inb}
    {w : S1x128x128.Idx → α} (hw : ∀ (k l : Fin 128), w (ix3 0 k l) = u (ix2 (Fin.ofNat 2048 (128 * b + k.val)) (Fin.ofNat 1024 (128 * c + l.val)))) :
    XI z u L b (c + 1) (wr X (Rect.unit (s := S8x2304x128) ![c, (rowX (off L b)).toNat, 0] S1x128x128.size inb) w) := by
  intro i hi
  have hr := rowX_eq (off_le' hL (b := b) (by omega)) (off_le hL b (by omega)).2
  have hs := off_succ hL hb
  have hn := hL b
  have hm := off_mono hL (a := b + 1) (b := 16) (by omega) (by omega)
  have i2 : (i 2).val < 128 := (i 2).isLt
  by_cases hin : (i 0).val = c ∧ (off L b).toNat ≤ (i 1).val
  · have h1 : (i 1).val < (off L (b + 1)).toNat := by omega
    rw [wr_unit_in (o := ![c, (rowX (off L b)).toNat, 0]) (size := S1x128x128.size) (inb := inb) X w i fun a => match a with
      | ⟨0, _⟩ => ⟨by show c ≤ (i 0).val; omega, by show (i 0).val < c + 1; omega⟩
      | ⟨1, _⟩ => ⟨by show (rowX _).toNat ≤ (i 1).val; omega, by show (i 1).val < (rowX _).toNat + 128; omega⟩
      | ⟨2, _⟩ => ⟨Nat.zero_le _, by show (i 2).val < 0 + 128; omega⟩]
    have hk : (i 1).val - (rowX (off L b)).toNat < 128 := by omega
    refine Eq.trans (congrArg w ?_) ((hw ⟨(i 1).val - (rowX (off L b)).toNat, hk⟩ (i 2)).trans ?_)
    · rw [eq_ix3 (n0 := 1) (n1 := 128) (n2 := 128) (fun a => _)]
      congr 1
      exact Fin.ext (by show (i 0).val - c = 0; omega)
    · unfold pk
      rw [if_pos (by omega), bat_eq hL hb hin.2 h1, hin.1]
      show u (ix2 (Fin.ofNat 2048 (128 * b + ((i 1).val - (rowX (off L b)).toNat))) _) = _
      rw [hr]
  · rcases hi with h | ⟨h, h'⟩
    · rw [wr_unit_out (o := ![c, (rowX (off L b)).toNat, 0]) (size := S1x128x128.size) (inb := inb) X w i 1 (.inl (by show _ < (rowX _).toNat; omega))]
      exact hX i (.inl h)
    · by_cases h0 : (i 0).val = c
      · rw [wr_unit_out (o := ![c, (rowX (off L b)).toNat, 0]) (size := S1x128x128.size) (inb := inb) X w i 1 (.inl (by show _ < (rowX _).toNat; omega))]
        exact hX i (.inl (by omega))
      · rw [wr_unit_out (o := ![c, (rowX (off L b)).toNat, 0]) (size := S1x128x128.size) (inb := inb) X w i 0 (.inl (by show (i 0).val < c; omega))]
        exact hX i (.inr ⟨h, by omega⟩)

/-- One column block of the rows after the last batch stored. -/
theorem XZ_step (hL : LensOK L) {c : ℕ} {X : S8x2304x128.Idx → α} (hX : XZ z u L c X) {inb} {w : S1x256x128.Idx → α} (hw : ∀ x, w x = z) :
    XZ z u L (c + 1) (wr X (Rect.unit (s := S8x2304x128) ![c, (rowX (off L 16)).toNat, 0] S1x256x128.size inb) w) := by
  intro i hi
  have hr := rowX_eq (off_le' hL (b := 16) (by omega)) (off_le hL 16 (by omega)).2
  have i2 : (i 2).val < 128 := (i 2).isLt
  by_cases hin : (i 0).val = c ∧ (off L 16).toNat ≤ (i 1).val
  · rw [wr_unit_in (o := ![c, (rowX (off L 16)).toNat, 0]) (size := S1x256x128.size) (inb := inb) X w i fun a => match a with
      | ⟨0, _⟩ => ⟨by show c ≤ (i 0).val; omega, by show (i 0).val < c + 1; omega⟩
      | ⟨1, _⟩ => ⟨by show (rowX _).toNat ≤ (i 1).val; omega, by show (i 1).val < (rowX _).toNat + 256; omega⟩
      | ⟨2, _⟩ => ⟨Nat.zero_le _, by show (i 2).val < 0 + 128; omega⟩, hw]
    unfold pk
    rw [if_neg (by omega)]
  · rcases hi with h | ⟨h, h'⟩
    · rw [wr_unit_out (o := ![c, (rowX (off L 16)).toNat, 0]) (size := S1x256x128.size) (inb := inb) X w i 1 (.inl (by show _ < (rowX _).toNat; omega))]
      exact hX i (.inl h)
    · by_cases h0 : (i 0).val = c
      · rw [wr_unit_out (o := ![c, (rowX (off L 16)).toNat, 0]) (size := S1x256x128.size) (inb := inb) X w i 1 (.inl (by show _ < (rowX _).toNat; omega))]
        exact hX i (.inl (by omega))
      · rw [wr_unit_out (o := ![c, (rowX (off L 16)).toNat, 0]) (size := S1x256x128.size) (inb := inb) X w i 0 (.inl (by show (i 0).val < c; omega))]
        exact hX i (.inr ⟨h, by omega⟩)
end Pack

/-! ## The scale rows and the mask rows -/

theorem shiftn {off n : BitVec 32} (h : off.toNat ≤ 2048) (hn : n.toNat ≤ 128) :
    (Scalar.addi (shiftW off) n).toNat = off.toNat % 128 + n.toNat := by
  show (shiftW off + n : BitVec 32).toNat = _
  rw [BitVec.toNat_add, shift_eq h]; omega
theorem lane (j : S1x128.Idx) : iota .tc S1x128 32 [1] iota_S1x128_d1_w32 j = BitVec.ofNat 32 (j 1).val := iota_single_apply _ _ _ _ _ _

theorem maskA_iff {off n : BitVec 32} (h : off.toNat ≤ 2048) (hn : n.toNat ≤ 128) (j : S1x128.Idx) :
    maskA off n j = 1 ↔ (off.toNat % 128 ≤ (j 1).val ∧ (j 1).val < off.toNat % 128 + n.toNat) := by
  have hj : (j 1).val < 128 := (j 1).isLt
  have e1 : IntOp.cmpi .sge (BitVec.ofNat 32 (j 1).val) (shiftW off) = BitVec.ofBool (decide (off.toNat % 128 ≤ (j 1).val)) := by
    rw [cmpi_sge_of_lt (by rw [BitVec.toNat_ofNat]; omega) (by rw [shift_eq h]; omega), shift_eq h, BitVec.toNat_ofNat, Nat.mod_eq_of_lt (show (j 1).val < 2 ^ 32 by omega)]
  have e2 : IntOp.cmpi .slt (BitVec.ofNat 32 (j 1).val) (Scalar.addi (shiftW off) n) = BitVec.ofBool (decide ((j 1).val < off.toNat % 128 + n.toNat)) := by
    rw [cmpi_slt_of_lt (by rw [BitVec.toNat_ofNat]; omega) (by rw [shiftn h hn]; omega), shiftn h hn, BitVec.toNat_ofNat, Nat.mod_eq_of_lt (show (j 1).val < 2 ^ 32 by omega)]
  show IntOp.andi (IntOp.cmpi .sge (iota .tc S1x128 32 [1] iota_S1x128_d1_w32 j) (shiftW off)) (IntOp.cmpi .slt (iota .tc S1x128 32 [1] iota_S1x128_d1_w32 j) (Scalar.addi (shiftW off) n)) = 1 ↔ _
  rw [lane, e1, e2]
  by_cases a : off.toNat % 128 ≤ (j 1).val <;> by_cases b : (j 1).val < off.toNat % 128 + n.toNat <;> simp [a, b, IntOp.andi]
theorem maskB_iff {off n : BitVec 32} (h : off.toNat ≤ 2048) (hn : n.toNat ≤ 128) (j : S1x128.Idx) :
    maskB off n j = 1 ↔ (j 1).val + 128 < off.toNat % 128 + n.toNat := by
  have hj : (j 1).val < 128 := (j 1).isLt
  have e0 : (Scalar.subi (Scalar.addi (shiftW off) n) 128#32).toInt = (off.toNat % 128 + n.toNat : ℕ) - 128 := by
    have hs := shiftn h hn
    show (Scalar.addi (shiftW off) n - 128#32 : BitVec 32).toInt = _
    rw [BitVec.toInt_sub, BitVec.toInt_eq_toNat_cond, hs, if_pos (by omega), show (128#32).toInt = 128 from rfl, Int.bmod_def]
    omega
  have e2 : IntOp.cmpi .slt (BitVec.ofNat 32 (j 1).val) (Scalar.subi (Scalar.addi (shiftW off) n) 128#32) = BitVec.ofBool (decide ((j 1).val + 128 < off.toNat % 128 + n.toNat)) := by
    rw [cmpi_slt_eq, e0, BitVec.toInt_eq_toNat_cond, BitVec.toNat_ofNat, Nat.mod_eq_of_lt (show (j 1).val < 2 ^ 32 by omega), if_pos (by omega)]
    congr 1
    exact decide_eq_decide.mpr (by omega)
  show IntOp.cmpi .slt (iota .tc S1x128 32 [1] iota_S1x128_d1_w32 j) (Scalar.subi (Scalar.addi (shiftW off) n) 128#32) = 1 ↔ _
  rw [lane, e2]
  by_cases b : (j 1).val + 128 < off.toNat % 128 + n.toNat <;> simp [b]

section Rows
variable {α : Type} (z : α) (v : ℕ → ℕ → α)

/-- The scale or mask rows: at a token's place the token's value, elsewhere `z`. -/
def rw18 (L : S16.Idx → BitVec 32) : S18x128.Idx → α := fun i =>
  if 128 * (i 0).val + (i 1).val < (off L (bat L (128 * (i 0).val + (i 1).val))).toNat + (ln L (bat L (128 * (i 0).val + (i 1).val))).toNat then
    v (bat L (128 * (i 0).val + (i 1).val)) (128 * (i 0).val + (i 1).val - (off L (bat L (128 * (i 0).val + (i 1).val))).toNat)
  else z
/-- The rows hold the values of the batches before `b`, and `z` after them. -/
def QI (L : S16.Idx → BitVec 32) (b : ℕ) (X : S18x128.Idx → α) : Prop :=
  ∀ i, X i = if 128 * (i 0).val + (i 1).val < (off L b).toNat then rw18 z v L i else z

variable {z v}

theorem QI_zero {X : S18x128.Idx → α} (h : ∀ i, X i = z) : QI z v L 0 X := fun i => by
  rw [h i]
  exact (if_neg (Nat.not_lt_zero _)).symm
theorem QI_last (hL : LensOK L) {X : S18x128.Idx → α} (h : QI z v L 16 X) : X = rw18 z v L := by
  funext i
  rw [h i]
  split
  · rfl
  · rename_i hn
    unfold rw18
    have h15 := off_succ hL (b := 15) (by omega)
    have : (off L (15 + 1)).toNat = (off L 16).toNat := rfl
    rw [bat_last (by omega), if_neg (by omega)]

/-- A batch's two masked row stores. -/
theorem QI_step (hL : LensOK L) {b : ℕ} (hb : b < 16) {X : S18x128.Idx → α} (hX : QI z v L b X) {inb inb'}
    {w : S1x128.Idx → α} (hw : ∀ j, w j = v b (((j 1).val + 128 - (off L b).toNat % 128) % 128)) {w1 w2 : S1x128.Idx → α}
    (h1 : ∀ j, w1 j = if maskA (off L b) (ln L b) j = 1 then w j else X ((Rect.unit (s := S18x128) ![(rowS (off L b)).toNat, 0] S1x128.size inb).toLoadRect.idx j))
    (h2 : ∀ j, w2 j = if maskB (off L b) (ln L b) j = 1 then w j else
      wr X (Rect.unit (s := S18x128) ![(rowS (off L b)).toNat, 0] S1x128.size inb) w1 ((Rect.unit (s := S18x128) ![(rowS1 (off L b)).toNat, 0] S1x128.size inb').toLoadRect.idx j)) :
    QI z v L (b + 1) (wr (wr X (Rect.unit (s := S18x128) ![(rowS (off L b)).toNat, 0] S1x128.size inb) w1)
      (Rect.unit (s := S18x128) ![(rowS1 (off L b)).toNat, 0] S1x128.size inb') w2) := by
  intro i
  have ho := off_le' hL (b := b) (by omega)
  have hs := off_succ hL hb
  have hn := hL b
  have e0 := rowS_eq ho
  have e1 := rowS1_eq ho
  have i1 : (i 1).val < 128 := (i 1).isLt
  have inR : ∀ r : ℕ, (i 0).val = r → ∀ a, (![r, 0] : Fin 2 → ℕ) a ≤ (i a).val ∧ (i a).val < (![r, 0] : Fin 2 → ℕ) a + S1x128.size a := fun r hr a => match a with
    | ⟨0, _⟩ => ⟨by show r ≤ (i 0).val; omega, by show (i 0).val < r + 1; omega⟩
    | ⟨1, _⟩ => ⟨Nat.zero_le _, by show (i 1).val < 0 + 128; omega⟩
  have old : (128 * (i 0).val + (i 1).val < (off L b).toNat ∨ (off L b).toNat + (ln L b).toNat ≤ 128 * (i 0).val + (i 1).val) →
      X i = if 128 * (i 0).val + (i 1).val < (off L (b + 1)).toNat then rw18 z v L i else z := fun h => by
    rw [hX i]
    rcases h with h | h
    · rw [if_pos h, if_pos (by omega)]
    · rw [if_neg (by omega)]
      split
      · rename_i hlt
        unfold rw18
        rw [bat_eq hL hb (by omega) hlt, if_neg (by omega)]
      · rfl
  have new : (off L b).toNat ≤ 128 * (i 0).val + (i 1).val → 128 * (i 0).val + (i 1).val < (off L b).toNat + (ln L b).toNat →
      v b (((i 1).val - 0 + 128 - (off L b).toNat % 128) % 128) = if 128 * (i 0).val + (i 1).val < (off L (b + 1)).toNat then rw18 z v L i else z := fun h h' => by
    rw [if_pos (by omega)]
    unfold rw18
    rw [bat_eq hL hb h (by omega), if_pos h']
    congr 1
    omega
  by_cases c1 : (i 0).val = (rowS1 (off L b)).toNat
  · rw [wr_unit_in (s := S18x128) (o := ![(rowS1 (off L b)).toNat, 0]) (size := S1x128.size) (inb := inb') _ w2 i (inR _ c1), h2]
    split
    · rename_i hm
      rw [maskB_iff ho hn] at hm
      rw [hw]
      refine new ?_ ?_ <;> · change (i 1).val - 0 + 128 < _ at hm; omega
    · rename_i hm
      rw [maskB_iff ho hn] at hm
      rw [wr_unit_out (s := S18x128) (o := ![(rowS (off L b)).toNat, 0]) (size := S1x128.size) (inb := inb) X w1 _ 0 (.inr (by
        show (rowS (off L b)).toNat + 1 ≤ (rowS1 (off L b)).toNat + 1 * _
        omega))]
      refine Eq.trans (congrArg X ?_) (old ?_)
      · funext a
        apply Fin.ext
        exact match a with
        | ⟨0, _⟩ => by show (rowS1 (off L b)).toNat + 1 * ((i 0).val - _) = (i 0).val; show (rowS1 (off L b)).toNat + 1 * ((i 0).val - (rowS1 (off L b)).toNat) = (i 0).val; omega
        | ⟨1, _⟩ => by show 0 + 1 * ((i 1).val - 0) = (i 1).val; omega
      · change ¬ (i 1).val - 0 + 128 < _ at hm; omega
  · rw [wr_unit_out (s := S18x128) (o := ![(rowS1 (off L b)).toNat, 0]) (size := S1x128.size) (inb := inb') _ w2 i 0 (by
      show (i 0).val < (rowS1 (off L b)).toNat ∨ (rowS1 (off L b)).toNat + 1 ≤ (i 0).val
      omega)]
    by_cases c0 : (i 0).val = (rowS (off L b)).toNat
    · rw [wr_unit_in (s := S18x128) (o := ![(rowS (off L b)).toNat, 0]) (size := S1x128.size) (inb := inb) _ w1 i (inR _ c0), h1]
      split
      · rename_i hm
        rw [maskA_iff ho hn] at hm
        rw [hw]
        refine new ?_ ?_ <;> · change _ ≤ (i 1).val - 0 ∧ (i 1).val - 0 < _ at hm; omega
      · rename_i hm
        rw [maskA_iff ho hn] at hm
        refine Eq.trans (congrArg X ?_) (old ?_)
        · funext a
          apply Fin.ext
          exact match a with
          | ⟨0, _⟩ => by show (rowS (off L b)).toNat + 1 * ((i 0).val - (rowS (off L b)).toNat) = (i 0).val; omega
          | ⟨1, _⟩ => by show 0 + 1 * ((i 1).val - 0) = (i 1).val; omega
        · change ¬ (_ ≤ (i 1).val - 0 ∧ (i 1).val - 0 < _) at hm; omega
    · rw [wr_unit_out (s := S18x128) (o := ![(rowS (off L b)).toNat, 0]) (size := S1x128.size) (inb := inb) X w1 i 0 (by
        show (i 0).val < (rowS (off L b)).toNat ∨ (rowS (off L b)).toNat + 1 ≤ (i 0).val
        omega)]
      exact old (by omega)
end Rows

end Cert.Proof.LsqK
-- ==== Proof.Bits.PackSteps.lean ====
/-
  The packing, run: every batch's rows copied, its scales and its mask placed, the zero rows after the last batch.
-/
module

public import proofs.«01_k».proof.Proof.Bits.Spec

@[expose] public section

set_option maxRecDepth 16384

noncomputable section

namespace Cert.Proof.LsqK

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.Proof.Lsq Cert.Kernel Cert.Kernel.Gen

variable {F : FTy → Type} [FloatOps F]

/-- The contents of every operand. -/
abbrev S (F : FTy → Type) : Type := St (Elt F) sh el

/-- The operands the body only reads. -/
def isIn : A → Bool
  | .a1 => true | .a2 => true | .a3 => true | .a4 => true | .a5 => true | .a6 => true | .a7 => true | .a8 => true
  | _ => false
/-- The read operands hold what they held at `e`. -/
def Inp (e s : S F) : Prop := ∀ j, isIn j = true → s j = e j

omit [FloatOps F] in
theorem Inp.fr {e s s' : S F} (h : Inp e s) {j : A} (f : ∀ i, i ≠ j → s' i = s i) (hj : isIn j = false) : Inp e s' := fun k hk =>
  (f k fun e => by subst e; rw [hj] at hk; exact Bool.noConfusion hk).trans (h k hk)
omit [FloatOps F] in
theorem Inp.of {e s s' : S F} (h : Inp e s) (h' : ∀ j, isIn j = true → s' j = s j) : Inp e s' := fun k hk => (h' k hk).trans (h k hk)

/-- The float zeros and one the body writes. -/
def zb : F .bf16 := Scalar.ofBits (F := F) .bf16 0x0000#16
def zf : F .f32 := Scalar.ofBits (F := F) .f32 0x00000000#32
def of1 : F .f32 := Scalar.ofBits (F := F) .f32 0x3F800000#32
/-- The codes as floats, the scales by batch and token, and the mask. -/
def xcV (e : S F) : S2048x1024.Idx → F .bf16 := sitofp (F := F) (s := S2048x1024) .bf16 (e .a3)
def v15 (e : S F) : ℕ → ℕ → F .f32 := fun b k => e .a4 (ix2 (Fin.ofNat 16 b) (Fin.ofNat 128 k))
def v16 : ℕ → ℕ → F .f32 := fun _ _ => of1

/-- Between the batches: the batches before `b` packed, and the first `c` column blocks of batch `b`. -/
structure PkI (e : S F) (b c : ℕ) (s : S F) : Prop where
  inp : Inp e s
  x13 : XI zb (e .a2) (e .a1) b c (s .a13)
  x14 : XI zb (xcV e) (e .a1) b c (s .a14)
  q15 : QI zf (v15 e) (e .a1) b (s .a15)
  q16 : QI zf v16 (e .a1) b (s .a16)
/-- After the batches: every batch packed, and the zero rows of the first `c` column blocks. -/
structure PkZ (e : S F) (c : ℕ) (s : S F) : Prop where
  inp : Inp e s
  x13 : XZ zb (e .a2) (e .a1) c (s .a13)
  x14 : XZ zb (xcV e) (e .a1) c (s .a14)
  q15 : s .a15 = rw18 zf (v15 e) (e .a1)
  q16 : s .a16 = rw18 zf v16 (e .a1)

variable {U : Type} [URA U] {M : (j : A) → Memref sig .tc (sp j) (sh j) (el j)} {hM : ∀ j, (M j).IsWhole}
variable {q : A → PosShare TreeShare} {c : Dev nD} {defs : Defs nD τ sig (Elt F) Λ₀} {𝒱 : Variants} {bd : Option 𝒱.V} {α : Type}

/-- A store, the state after it named by what it keeps and what it replaces. -/
theorem T.store' (j : A) {s : S F} (hq : q j = fullShare) {r : Rect (sh j)} {w : r.shape.Idx → Elt F (el j)} {hx : ((M j).access r).Stores Finset.univ}
    {hm : Finset.univ = Finset.univ ∨ ∀ a, r.stride a = 1} {k : PUnit → P F α} {Q : α → S F → Prop}
    (h : ∀ s' : S F, (∀ i, i ≠ j → s' i = s i) → s' j = wr (s j) r w → T (U := U) M q c defs 𝒱 bd (k ⟨⟩) s' Q) :
    T (U := U) M q c defs 𝒱 bd (.op (.store (M j) r w Finset.univ hx hm) k) s Q :=
  T.store j hq (h _ (fun _ hi => Function.update_of_ne hi _ _) (Function.update_self _ _ _))

/-- The length of a batch read. -/
theorem lenB_T {L : S16.Idx → BitVec 32} {b : ℕ} {hb : b < 16} {K : BitVec 32 → P F α} {s : S F} {Q : α → S F → Prop} (h : s .a1 = L)
    (hK : T (U := U) M q c defs 𝒱 bd (K (ln L b)) s Q) : T (U := U) M q c defs 𝒱 bd (lenB M b hb K) s Q := by
  refine T.of_eq (p' := .op (.load (M .a1) (Rect.unit (s := S16) ![b] S1.size (by intro k; fin_cases k; exact hb)).toLoadRect (View.loadsAt_rect (View.loads_smem_one rfl numel1_S1)))
    fun f => K (f (Shape.Idx.first (numel1_S1.symm ▸ Nat.one_pos)))) rfl (T.load A.a1 ?_)
  have e : ∀ h0 : 0 < S1.numel, s .a1 ((Rect.unit (s := S16) ![b] S1.size (by intro k; fin_cases k; exact hb)).toLoadRect.idx (Shape.Idx.first h0)) = ln L b := fun h0 => by
    rw [h]
    unfold ln
    congr 1
    funext a
    apply Fin.ext
    exact match a with
    | ⟨0, _⟩ => by show b + 1 * 0 = b % 16; omega
  show T M q c defs 𝒱 bd (K (s .a1 _)) s Q
  rw [e]
  exact hK

/-- One column block. -/
theorem packCol_T {e s : S F} {b k : ℕ} {hb : b < 16} {hk : k < 8} {o : BitVec 32} {g : Good o} {K : P F α} {Q : α → S F → Prop}
    (hq : ∀ j, isIn j = false → q j = fullShare) (hL : LensOK (e .a1)) (ho : o = off (e .a1) b) (h : PkI e b k s)
    (hK : ∀ s', PkI e b (k + 1) s' → T (U := U) M q c defs 𝒱 bd K s' Q) :
    T (U := U) M q c defs 𝒱 bd (packCol M hM b k hb hk o g K) s Q := by
  subst ho
  unfold packCol
  refine T.load A.a2 (T.load A.a13 (T.store' A.a13 (hq _ rfl) fun s1 f1 e1 => T.load A.a3 (T.load A.a14 (T.store' A.a14 (hq _ rfl) fun s2 f2 e2 =>
    hK s2 ⟨(h.inp.fr f1 rfl).fr f2 rfl, ?_, ?_, ?_, ?_⟩))))
  · rw [f2 _ (by decide), e1]
    refine XI_step hL hb hk h.x13 fun i l => ?_
    rw [shapeCast_addUnit_apply, shapeCast_self, h.inp .a2 rfl]
    congr 1
    funext a
    apply Fin.ext
    exact match a with
    | ⟨0, _⟩ => by show 128 * b + 1 * i.val = (128 * b + i.val) % 2048; omega
    | ⟨1, _⟩ => by show 128 * k + 1 * l.val = (128 * k + l.val) % 1024; omega
  · rw [e2, f1 A.a14 (by decide), f1 A.a3 (by decide), h.inp .a3 rfl]
    refine XI_step hL hb hk h.x14 fun i l => ?_
    rw [shapeCast_addUnit_apply, shapeCast_self]
    show FloatOps.sitofp _ (e .a3 _) = FloatOps.sitofp _ (e .a3 _)
    congr 2
    funext a
    apply Fin.ext
    exact match a with
    | ⟨0, _⟩ => by show 128 * b + 1 * i.val = (128 * b + i.val) % 2048; omega
    | ⟨1, _⟩ => by show 128 * k + 1 * l.val = (128 * k + l.val) % 1024; omega
  · rw [f2 _ (by decide), f1 _ (by decide)]; exact h.q15
  · rw [f2 _ (by decide), f1 _ (by decide)]; exact h.q16

/-- A masked write of a scale row and a mask row. -/
theorem packRow_T {s : S F} {mask : IVec S1x128 1} {v : FVec F S1x128 .f32} {r : Index} {h : r.toNat + 1 ≤ 18} {K : P F α} {Q : α → S F → Prop}
    (hq : ∀ j, isIn j = false → q j = fullShare)
    (hK : ∀ s', (∀ j, j ≠ .a15 → j ≠ .a16 → s' j = s j) →
      s' .a15 = wr (s .a15) (Rect.unit (s := S18x128) ![r.toNat, 0] S1x128.size (inb2 h (by omega)))
        (select mask v fun j => s .a15 ((Rect.unit (s := S18x128) ![r.toNat, 0] S1x128.size (inb2 h (by omega))).toLoadRect.idx j)) →
      s' .a16 = wr (s .a16) (Rect.unit (s := S18x128) ![r.toNat, 0] S1x128.size (inb2 h (by omega)))
        (select mask (fun _ => of1) fun j => s .a16 ((Rect.unit (s := S18x128) ![r.toNat, 0] S1x128.size (inb2 h (by omega))).toLoadRect.idx j)) →
      T (U := U) M q c defs 𝒱 bd K s' Q) :
    T (U := U) M q c defs 𝒱 bd (packRow M mask v r h K) s Q := by
  unfold packRow
  refine T.load A.a15 (T.load A.a15 (T.store' A.a15 (hq _ rfl) fun s1 f1 e1 => T.load A.a16 (T.load A.a16 (T.store' A.a16 (hq _ rfl) fun s2 f2 e2 => hK s2 ?_ ?_ ?_))))
  · intro j h1 h2
    rw [f2 j h2, f1 j h1]
  · rw [f2 _ (by decide), e1, shapeCast_self]
  · rw [e2, f1 _ (by decide), shapeCast_self]
    rfl

/-- One batch. -/
theorem packStep_T {e s : S F} {b : ℕ} {hb : b < 16} {o : BitVec 32} {g : Good o} {chk : BitVec 32 → Prop} {dec : ∀ n, Decidable (chk n)}
    {K : (n : BitVec 32) → chk n → P F α} {Q : α → S F → Prop}
    (hq : ∀ j, isIn j = false → q j = fullShare) (hL : LensOK (e .a1)) (ho : o = off (e .a1) b) (h : PkI e b 0 s) (hc : chk (ln (e .a1) b))
    (hK : ∀ s', PkI e (b + 1) 0 s' → T (U := U) M q c defs 𝒱 bd (K (ln (e .a1) b) hc) s' Q) :
    T (U := U) M q c defs 𝒱 bd (packStep M hM b hb o g chk dec K) s Q := by
  unfold packStep
  refine lenB_T (h.inp .a1 rfl) (T.assume hc ?_)
  refine packCol_T hq hL ho h fun s h => packCol_T hq hL ho h fun s h => packCol_T hq hL ho h fun s h => packCol_T hq hL ho h fun s h => ?_
  refine packCol_T hq hL ho h fun s h => packCol_T hq hL ho h fun s h => packCol_T hq hL ho h fun s h => packCol_T hq hL ho h fun s h => ?_
  subst ho
  have hv : ∀ j : S1x128.Idx, dynamicRotate 1 (shiftW (off (e .a1) b)) none (fun x : S1x128.Idx => s .a4 ((Rect.unit (s := S16x128) ![b, 0] S1x128.size (inb2 hb (by omega))).toLoadRect.idx x)) rotates_S1x128_d1 j
      = v15 e b (((j 1).val + 128 - (off (e .a1) b).toNat % 128) % 128) := fun j => by
    have hs : (shiftW (off (e .a1) b)).toNat % S1x128.size 1 = (off (e .a1) b).toNat % 128 := by
      rw [shift_eq (off_le' hL (by omega))]; show _ % 128 % 128 = _; omega
    rw [dynamicRotate_apply 1 _ _ _ j (fun a => match a with | ⟨0, _⟩ => ⟨0, by show 0 < 1; omega⟩ | ⟨1, _⟩ => ⟨((j 1).val + 128 - (off (e .a1) b).toNat % 128) % 128, by show _ < 128; omega⟩)
      (fun a => match a with
        | ⟨0, _⟩ => by have : (j 0).val < 1 := (j 0).isLt
                       show 0 = if (⟨0, _⟩ : Fin 2) = 1 then _ else (j 0).val
                       rw [if_neg (fun e => absurd (congrArg Fin.val e) (show ¬ (0 = 1) by omega))]; omega
        | ⟨1, _⟩ => ((congrArg (fun x => ((j 1).val + 128 - x) % 128) hs).symm.trans (if_pos (Fin.ext rfl)).symm)), h.inp .a4 rfl]
    unfold v15
    congr 1
    funext a
    apply Fin.ext
    exact match a with
    | ⟨0, _⟩ => by show b + 1 * 0 = b % 16; omega
    | ⟨1, _⟩ => by show 0 + 1 * (((j 1).val + 128 - (off (e .a1) b).toNat % 128) % 128) = (((j 1).val + 128 - (off (e .a1) b).toNat % 128) % 128) % 128; omega
  refine T.load A.a4 (packRow_T hq fun s1 f1 a1 b1 => packRow_T hq fun s2 f2 a2 b2 => hK s2 ⟨h.inp.of fun j hj => ?_, ?_, ?_, ?_, ?_⟩)
  · have n1 : j ≠ .a15 := fun e => by subst e; exact Bool.noConfusion hj
    have n2 : j ≠ .a16 := fun e => by subst e; exact Bool.noConfusion hj
    rw [f2 j n1 n2, f1 j n1 n2]
  · rw [f2 _ (by decide) (by decide), f1 _ (by decide) (by decide)]; exact XI_next h.x13
  · rw [f2 _ (by decide) (by decide), f1 _ (by decide) (by decide)]; exact XI_next h.x14
  · rw [a2, a1]
    exact QI_step hL hb h.q15 (w := fun j => v15 e b (((j 1).val + 128 - (off (e .a1) b).toNat % 128) % 128)) (fun _ => rfl)
      (fun j => by rw [← hv j]; rfl) (fun j => by rw [← hv j]; rfl)
  · rw [b2, b1]
    exact QI_step hL hb h.q16 (w := fun _ => of1) (fun _ => rfl) (fun j => rfl) (fun j => rfl)

/-- One column block of the zero rows. -/
theorem zeroCol_T {e s : S F} {k : ℕ} {hk : k < 8} {o : BitVec 32} {g} {K : P F α} {Q : α → S F → Prop}
    (hq : ∀ j, isIn j = false → q j = fullShare) (hL : LensOK (e .a1)) (ho : o = off (e .a1) 16) (h : PkZ e k s)
    (hK : ∀ s', PkZ e (k + 1) s' → T (U := U) M q c defs 𝒱 bd K s' Q) :
    T (U := U) M q c defs 𝒱 bd (zeroCol M hM k hk o g K) s Q := by
  subst ho
  unfold zeroCol
  refine T.load A.a13 (T.store' A.a13 (hq _ rfl) fun s1 f1 e1 => T.load A.a14 (T.store' A.a14 (hq _ rfl) fun s2 f2 e2 =>
    hK s2 ⟨(h.inp.fr f1 rfl).fr f2 rfl, ?_, ?_, ?_, ?_⟩))
  · rw [f2 _ (by decide), e1]
    exact XZ_step hL h.x13 fun i => by rw [shapeCast_addUnit_apply]; rfl
  · rw [e2, f1 _ (by decide)]
    exact XZ_step hL h.x14 fun i => by rw [shapeCast_addUnit_apply]; rfl
  · rw [f2 _ (by decide), f1 _ (by decide)]; exact h.q15
  · rw [f2 _ (by decide), f1 _ (by decide)]; exact h.q16

/-- The whole packing. -/
theorem packAll_T {e s : S F} {i : grid0.Coords} {h1 : k0_cond1 i = 1#1} {K : BitVec 32 → P F α} {Q : α → S F → Prop}
    (hq : ∀ j, isIn j = false → q j = fullShare) (hL : LensOK (e .a1)) (h : Inp e s)
    (hK : ∀ s', PkZ e 8 s' → T (U := U) M q c defs 𝒱 bd (K (off (e .a1) 16)) s' Q) :
    T (U := U) M q c defs 𝒱 bd (packAll M hM i h1 K) s Q := by
  unfold packAll
  refine T.load A.a15 (T.store' A.a15 (hq _ rfl) fun s1 f1 e1 => T.load A.a16 (T.store' A.a16 (hq _ rfl) fun s2 f2 e2 => ?_))
  refine packStep_T (b := 0) hq hL rfl ⟨(h.fr f1 rfl).fr f2 rfl, fun i hi => ?_, fun i hi => ?_, QI_zero fun i => ?_, QI_zero fun i => ?_⟩ (cast chk1_eq.symm (chk_of (off_le' hL (b := 1) (by omega)))) fun s h => ?_
  · rcases hi with h | h
    · exact absurd h (Nat.not_lt_zero _)
    · exact absurd h.2 (Nat.not_lt_zero _)
  · rcases hi with h | h
    · exact absurd h (Nat.not_lt_zero _)
    · exact absurd h.2 (Nat.not_lt_zero _)
  · rw [f2 _ (by decide), e1, wr_unit_all (s := S18x128), shapeCast_self]; rfl
  · rw [e2, wr_unit_all (s := S18x128), shapeCast_self]; rfl
  refine packStep_T (b := 1) hq hL rfl h (cast chk2_eq.symm (chk_of (off_le' hL (b := 2) (by omega)))) fun s h => ?_
  refine packStep_T (b := 2) hq hL rfl h (cast chk3_eq.symm (chk_of (off_le' hL (b := 3) (by omega)))) fun s h => ?_
  refine packStep_T (b := 3) hq hL rfl h (cast chk4_eq.symm (chk_of (off_le' hL (b := 4) (by omega)))) fun s h => ?_
  refine packStep_T (b := 4) hq hL rfl h (cast chk5_eq.symm (chk_of (off_le' hL (b := 5) (by omega)))) fun s h => ?_
  refine packStep_T (b := 5) hq hL rfl h (cast chk6_eq.symm (chk_of (off_le' hL (b := 6) (by omega)))) fun s h => ?_
  refine packStep_T (b := 6) hq hL rfl h (cast chk7_eq.symm (chk_of (off_le' hL (b := 7) (by omega)))) fun s h => ?_
  refine packStep_T (b := 7) hq hL rfl h (cast chk8_eq.symm (chk_of (off_le' hL (b := 8) (by omega)))) fun s h => ?_
  refine packStep_T (b := 8) hq hL rfl h (cast chk9_eq.symm (chk_of (off_le' hL (b := 9) (by omega)))) fun s h => ?_
  refine packStep_T (b := 9) hq hL rfl h (cast chk10_eq.symm (chk_of (off_le' hL (b := 10) (by omega)))) fun s h => ?_
  refine packStep_T (b := 10) hq hL rfl h (cast chk11_eq.symm (chk_of (off_le' hL (b := 11) (by omega)))) fun s h => ?_
  refine packStep_T (b := 11) hq hL rfl h (cast chk12_eq.symm (chk_of (off_le' hL (b := 12) (by omega)))) fun s h => ?_
  refine packStep_T (b := 12) hq hL rfl h (cast chk13_eq.symm (chk_of (off_le' hL (b := 13) (by omega)))) fun s h => ?_
  refine packStep_T (b := 13) hq hL rfl h (cast chk14_eq.symm (chk_of (off_le' hL (b := 14) (by omega)))) fun s h => ?_
  refine packStep_T (b := 14) hq hL rfl h (cast chk15_eq.symm (chk_of (off_le' hL (b := 15) (by omega)))) fun s h => ?_
  refine packStep_T (b := 15) hq hL rfl h (cast chk16_eq.symm (chkZ_of (off_le' hL (b := 16) (by omega)))) fun s h => ?_
  have hz : PkZ e 0 s := ⟨h.inp, fun i hi => h.x13 i (.inl (by
      rcases hi with h | h
      · exact h
      · exact absurd h.2 (Nat.not_lt_zero _))), fun i hi => h.x14 i (.inl (by
      rcases hi with h | h
      · exact h
      · exact absurd h.2 (Nat.not_lt_zero _))), QI_last hL h.q15, QI_last hL h.q16⟩
  refine zeroCol_T hq hL rfl hz fun s h => zeroCol_T hq hL rfl h fun s h => zeroCol_T hq hL rfl h fun s h => zeroCol_T hq hL rfl h fun s h => ?_
  exact zeroCol_T hq hL rfl h fun s h => zeroCol_T hq hL rfl h fun s h => zeroCol_T hq hL rfl h fun s h => zeroCol_T hq hL rfl h fun s h => hK s h

end Cert.Proof.LsqK
-- ==== Proof.Bits.Vals.lean ====
/-
  What every buffer of the kernel comes to hold, as functions of the contents of the operands it reads: the token tiles,
  the projected tokens, the dequantised weights, the errors of each tile, the two accumulators and the correction.
-/
module

public import proofs.«01_k».proof.Proof.Bits.PackSteps

@[expose] public section

set_option maxRecDepth 16384

noncomputable section

namespace Cert.Proof.LsqK

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.Proof.Lsq Cert.Kernel Cert.Kernel.Gen

variable {F : FTy → Type} [FloatOps F]

section Tile
variable {α : Type}
/-- Tile `t` of a packed buffer: 256 token rows, all columns. -/
def tokF (X : S8x2304x128.Idx → α) (t : ℕ) : S256x1024.Idx → α := fun j =>
  X (ix3 (Fin.ofNat 8 ((j 1).val / 128)) (Fin.ofNat 2304 (256 * t + (j 0).val)) (Fin.ofNat 128 ((j 1).val % 128)))
/-- Tile `t` of a scale or mask buffer: the 256 values of its tokens. -/
def pairF (X : S18x128.Idx → α) (t : ℕ) : S1x256.Idx → α := fun j =>
  X (ix2 (Fin.ofNat 18 (2 * t + (j 1).val / 128)) (Fin.ofNat 128 ((j 1).val % 128)))

/-- A column block of a tile, as loaded. -/
def tokC (X : S8x2304x128.Idx → α) {w : BitVec 32} (g : GoodT w) (n : Fin 8) : S256x128.Idx → α :=
  shapeCast S256x128 (fun x : S1x256x128.Idx => X ((Rect.unit (s := S8x2304x128) ![n.val, (rowT w).toNat, 0] S1x256x128.size (inb3 (by omega) g.tok (by omega))).toLoadRect.idx x)) shapeCasts_S1x256x128_S256x128

/-- The eight column blocks of a tile side by side are the tile. -/
theorem toks_eq (X : S8x2304x128.Idx → α) {w : BitVec 32} (g : GoodT w) (h : Shape.Concatenates [S256x128, S256x128, S256x128, S256x128, S256x128, S256x128, S256x128, S256x128] S256x1024 1) :
    concatenate S256x1024 1 (List.ofFn fun n : Fin 8 => (⟨S256x128, tokC X g n⟩ : (s : Shape) × (s.Idx → α))) h = tokF X w.toNat := by
  funext j
  have hj : (j 1).val < 1024 := (j 1).isLt
  have hj0 : (j 0).val < 256 := (j 0).isLt
  have hw := g.lt
  rw [concatenate_ofFn_apply (s₁ := S256x128) (t := S256x1024) 1 (fun n : Fin 8 => tokC X g n) h rfl 128 rfl j ⟨(j 1).val / 128, by omega⟩ rfl (ix2 (j 0) ⟨(j 1).val % 128, by omega⟩) rfl
    (fun b hb => match b with
      | ⟨0, _⟩ => rfl
      | ⟨1, _⟩ => absurd (Fin.ext rfl) hb)]
  unfold tokC tokF
  rw [shapeCast_dropUnit_apply]
  congr 1
  funext a
  apply Fin.ext
  exact match a with
  | ⟨0, _⟩ => by show (j 1).val / 128 + 1 * 0 = ((j 1).val / 128) % 8; omega
  | ⟨1, _⟩ => by
    show (rowT w).toNat + 1 * (j 0).val = (256 * w.toNat + (j 0).val) % 2304
    rw [rowT_eq g]; omega
  | ⟨2, _⟩ => by show 0 + 1 * ((j 1).val % 128) = ((j 1).val % 128) % 128; omega

/-- The two rows of a tile side by side are the tile's values. -/
theorem pair_eq (X : S18x128.Idx → α) {w : BitVec 32} (g : GoodT w) (h : Shape.Concatenates [S1x128, S1x128] S1x256 1) :
    concatenate S1x256 1 [⟨S1x128, fun x : S1x128.Idx => X ((Rect.unit (s := S18x128) ![(rowV w).toNat, 0] S1x128.size (inb2 g.v (by omega))).toLoadRect.idx x)⟩,
      ⟨S1x128, fun x : S1x128.Idx => X ((Rect.unit (s := S18x128) ![(rowV1 w).toNat, 0] S1x128.size (inb2 g.v1 (by omega))).toLoadRect.idx x)⟩] h = pairF X w.toNat := by
  funext j
  have hj : (j 1).val < 256 := (j 1).isLt
  have hj0 : (j 0).val < 1 := (j 0).isLt
  have hw := g.lt
  have v0 := rowV_eq g
  have v1 := rowV1_eq g
  by_cases hc : (j 1).val < 128
  · rw [concatenate_pair_apply_left 1 _ _ h j rfl (ix2 (j 0) ⟨(j 1).val, hc⟩) (fun b => match b with | ⟨0, _⟩ => rfl | ⟨1, _⟩ => rfl)]
    unfold pairF
    congr 1
    funext a
    apply Fin.ext
    exact match a with
    | ⟨0, _⟩ => by show (rowV w).toNat + 1 * (j 0).val = (2 * w.toNat + (j 1).val / 128) % 18; omega
    | ⟨1, _⟩ => by show 0 + 1 * (j 1).val = ((j 1).val % 128) % 128; omega
  · rw [concatenate_pair_apply_right 1 _ _ h j rfl rfl (ix2 (j 0) ⟨(j 1).val - 128, by omega⟩) (fun b hb => match b with
      | ⟨0, _⟩ => rfl
      | ⟨1, _⟩ => absurd (Fin.ext rfl) hb) (by show (j 1).val - 128 + 128 = (j 1).val; omega)]
    unfold pairF
    congr 1
    funext a
    apply Fin.ext
    exact match a with
    | ⟨0, _⟩ => by show (rowV1 w).toNat + 1 * (j 0).val = (2 * w.toNat + (j 1).val / 128) % 18; omega
    | ⟨1, _⟩ => by show 0 + 1 * ((j 1).val - 128) = ((j 1).val % 128) % 128; omega

/-- A tile below the tile count lies in the rows the packing wrote. -/
theorem tok_XZ {z : α} {u : S2048x1024.Idx → α} {L : S16.Idx → BitVec 32} {X : S8x2304x128.Idx → α} (hL : LensOK L) (h : XZ z u L 8 X) {t : ℕ}
    (ht : t < (tilesW (off L 16)).toNat) : tokF X t = tokF (pk z u L) t := by
  funext j
  have hj0 : (j 0).val < 256 := (j 0).isLt
  have ho := off_le' hL (b := 16) (by omega)
  rw [tiles_eq ho] at ht
  refine h _ (.inr ⟨?_, Fin.isLt _⟩)
  show (256 * t + (j 0).val) % 2304 < _
  omega
end Tile

/-- The pieces of a float. -/
def spN {s : Shape} (p : ℕ) (x : FVec F s .f32) : FVec F s .bf16 := if p = 0 then sp1 x else if p = 1 then sp2 x else sp3 x
theorem spN_comp {s s' : Shape} (p : ℕ) (x : FVec F s .f32) (f : s'.Idx → s.Idx) (j : s'.Idx) : spN p (fun y => x (f y) : FVec F s' .f32) j = spN p x (f j) := by
  unfold spN
  split
  · rfl
  · split <;> rfl

section Values
variable (e : S F)

/-- The pieces of the inverse Hessian, and one of them as loaded. -/
def hpF : S3x1024x1024.Idx → F .bf16 := fun i => spN (s := S1024x1024) (i 0).val (e .a5) (ix2 (i 1) (i 2))
def hS (p : ℕ) : FVec F S1x1024x1024 .bf16 := fun x => hpF e (ix3 (Fin.ofNat 3 p) (x 1) (x 2))
/-- The packed tokens, exact and quantised. -/
def XS : S8x2304x128.Idx → F .bf16 := pk zb (e .a2) (e .a1)
def XC : S8x2304x128.Idx → F .bf16 := pk zb (xcV e) (e .a1)
/-- The projection of a tile, its pieces, and one of them as loaded. -/
def PJ (t : ℕ) : FVec F S256x1024 .f32 := projV (tokF (XC e) t) (hS e 0) (hS e 1) (hS e 2)
def pF : S3x8x256x1024.Idx → F .bf16 := fun i => spN (i 0).val (PJ e (i 1).val) (ix2 (i 2) (i 3))
def pS (p t : ℕ) : FVec F S1x1x256x1024 .bf16 := fun x => spN p (PJ e t) (ix2 (x 2) (x 3))
/-- The scales and the mask of a tile. -/
def SC (t : ℕ) : FVec F S1x256 .f32 := pairF (rw18 zf (v15 e) (e .a1)) t
def MK (t : ℕ) : FVec F S1x256 .f32 := pairF (rw18 zf v16 (e .a1)) t
/-- The codes of a block of weights, and the weights they stand for. -/
def code : S512x1024.Idx → F .bf16 := fun i =>
  if (i 1).val < 512 then codeLo (F := F) (e .a7) (ix2 (i 0) (Fin.ofNat 512 (i 1).val)) else codeHi (F := F) (e .a7) (ix2 (i 0) (Fin.ofNat 512 ((i 1).val - 512)))
def WQ : FVec F S512x1024 .bf16 := fun i =>
  FloatOps.mulf (code e i) (FloatOps.truncf .bf16 bitsLt_bf16_f32 (e .a8 (ix2 (i 0) (Fin.ofNat 8 ((i 1).val / 128)))))
/-- A tile's exact products and its errors. -/
def YV (t : ℕ) : FVec F S512x256 .f32 := mmV (e .a6) (tokF (XS e) t)
def RV (t : ℕ) : FVec F S512x256 .f32 := resV (YV e t) (mmV (WQ e) (tokF (XC e) t)) (SC e t) (MK e t)
/-- The squared errors before the correction, added over the first tiles. -/
def ACC0 : ℕ → FVec F S1x512x128 .f32
  | 0 => fun _ => zf
  | k + 1 => accV (ACC0 k) (RV e k)
/-- The correction, added over the first tiles. -/
def DW : ℕ → FVec F S512x1024 .f32
  | 0 => fun _ => zf
  | k + 1 => addf (DW k) (addf (addf (mpV (rsV (SC e k) (RV e k)) (pS e 0 k)) (mpV (rsV (SC e k) (RV e k)) (pS e 1 k))) (mpV (rsV (SC e k) (RV e k)) (pS e 2 k)))
/-- The number of tiles and of tokens. -/
def NT : ℕ := (tilesW (off (e .a1) 16)).toNat
def lenS (L : S16.Idx → BitVec 32) : BitVec 32 := (List.range 16).foldl (fun a b => Scalar.addi a (ln L b)) 0#32
def NK : F .f32 := Scalar.sitofp .f32 (lenS (e .a1))
/-- The corrected weights, and a tile's errors with them. -/
def WC : FVec F S512x1024 .bf16 := wcV (WQ e) (DW e (NT e))
def R1 (t : ℕ) : FVec F S512x256 .f32 := resV (YV e t) (mmV (WC e) (tokF (XC e) t)) (SC e t) (MK e t)
/-- The squared errors after the correction, added over the first tiles. -/
def ACC1 : ℕ → FVec F S1x512x128 .f32
  | 0 => fun _ => zf
  | k + 1 => accV (ACC1 k) (R1 e k)
end Values

/-! ## What the buffers hold between the parts of the body -/

/-- The buffers the packing fills, for every later point to read. -/
def isSc : A → Bool
  | .a13 => true | .a14 => true | .a15 => true | .a16 => true | .a22 => true | .a18 => true
  | _ => false

/-- The packed buffers hold the packed tokens, their scales and mask, the tile count and the projected tokens. -/
structure Sc (e s : S F) : Prop where
  x13 : XZ zb (e .a2) (e .a1) 8 (s .a13)
  x14 : XZ zb (xcV e) (e .a1) 8 (s .a14)
  q15 : s .a15 = rw18 zf (v15 e) (e .a1)
  q16 : s .a16 = rw18 zf v16 (e .a1)
  t22 : s .a22 = fun _ => tilesW (off (e .a1) 16)
  p18 : ∀ i, (i 1).val < NT e → s .a18 i = pF e i

theorem Sc.of {e s s' : S F} (h : Sc e s) (f : ∀ j, isSc j = true → s' j = s j) : Sc e s' :=
  ⟨by rw [f _ rfl]; exact h.x13, by rw [f _ rfl]; exact h.x14, by rw [f _ rfl]; exact h.q15, by rw [f _ rfl]; exact h.q16, by rw [f _ rfl]; exact h.t22,
    by rw [f _ rfl]; exact h.p18⟩
theorem Sc.fr {e s s' : S F} (h : Sc e s) {j : A} (f : ∀ i, i ≠ j → s' i = s i) (hj : isSc j = false) : Sc e s' :=
  h.of fun k hk => f k fun e => by subst e; rw [hj] at hk; exact Bool.noConfusion hk

/-- What a point leaves. -/
structure Post (e s : S F) : Prop where
  inp : Inp e s
  sc : Sc e s
  wc : s .a9 = WC e
  lb : s .a10 = lossV (ACC0 e (NT e)) (NK e)
  la : s .a11 = lossV (ACC1 e (NT e)) (NK e)
  dw : s .a12 = DW e (NT e)

end Cert.Proof.LsqK
-- ==== Proof.Bits.TileSteps.lean ====
/-
  The rest of the body, run: the inverse Hessian split, the tiles projected, the weights dequantised, the two sweeps over
  the tiles, and the results.
-/
module

public import proofs.«01_k».proof.Proof.Bits.Vals

@[expose] public section

set_option maxRecDepth 16384

noncomputable section

namespace Cert.Proof.LsqK

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.Proof.Lsq Cert.Kernel Cert.Kernel.Gen

variable {F : FTy → Type} [FloatOps F]

variable {U : Type} [URA U] {M : (j : A) → Memref sig .tc (sp j) (sh j) (el j)} {hM : ∀ j, (M j).IsWhole}
variable {q : A → PosShare TreeShare} {c : Dev nD} {defs : Defs nD τ sig (Elt F) Λ₀} {𝒱 : Variants} {bd : Option 𝒱.V} {α : Type}

/-! ## Loads -/

/-- A load, its value named. -/
theorem T.load' (j : A) {s : S F} {r : LoadRect (sh j)} {hl : (M j).view.LoadsAt r} {k : (r.shape.Idx → Elt F (el j)) → P F α}
    {Q : α → S F → Prop} (h : ∀ v, v = (fun x => s j (r.idx x)) → T (U := U) M q c defs 𝒱 bd (k v) s Q) :
    T (U := U) M q c defs 𝒱 bd (.op (.load (M j) r hl) k) s Q := T.load j (h _ rfl)

/-- A tile of the exact tokens, and of the quantised. -/
theorem toks13_T {s : S F} {w : BitVec 32} {g : GoodT w} {K : FVec F S256x1024 .bf16 → P F α} {Q : α → S F → Prop}
    (hK : T (U := U) M q c defs 𝒱 bd (K (tokF (s .a13) w.toNat)) s Q) : T (U := U) M q c defs 𝒱 bd (toks (M .a13) w g K) s Q := by
  unfold toks tokCol
  refine T.load A.a13 (T.load A.a13 (T.load A.a13 (T.load A.a13 (T.load A.a13 (T.load A.a13 (T.load A.a13 (T.load A.a13 ?_)))))))
  exact (congrArg (fun v => T (U := U) M q c defs 𝒱 bd (K v) s Q) (toks_eq (s .a13) g concatenates_S256x128_S256x128_S256x128_S256x128_S256x128_S256x128_S256x128_S256x128_S256x1024_d1)).mpr hK
theorem toks14_T {s : S F} {w : BitVec 32} {g : GoodT w} {K : FVec F S256x1024 .bf16 → P F α} {Q : α → S F → Prop}
    (hK : T (U := U) M q c defs 𝒱 bd (K (tokF (s .a14) w.toNat)) s Q) : T (U := U) M q c defs 𝒱 bd (toks (M .a14) w g K) s Q := by
  unfold toks tokCol
  refine T.load A.a14 (T.load A.a14 (T.load A.a14 (T.load A.a14 (T.load A.a14 (T.load A.a14 (T.load A.a14 (T.load A.a14 ?_)))))))
  exact (congrArg (fun v => T (U := U) M q c defs 𝒱 bd (K v) s Q) (toks_eq (s .a14) g concatenates_S256x128_S256x128_S256x128_S256x128_S256x128_S256x128_S256x128_S256x128_S256x1024_d1)).mpr hK
theorem pair15_T {s : S F} {w : BitVec 32} {g : GoodT w} {K : FVec F S1x256 .f32 → P F α} {Q : α → S F → Prop}
    (hK : T (U := U) M q c defs 𝒱 bd (K (pairF (s .a15) w.toNat)) s Q) : T (U := U) M q c defs 𝒱 bd (pair (M .a15) w g K) s Q := by
  unfold pair
  refine T.load A.a15 (T.load A.a15 ?_)
  exact (congrArg (fun v => T (U := U) M q c defs 𝒱 bd (K v) s Q) (pair_eq (s .a15) g concatenates_S1x128_S1x128_S1x256_d1)).mpr hK
theorem pair16_T {s : S F} {w : BitVec 32} {g : GoodT w} {K : FVec F S1x256 .f32 → P F α} {Q : α → S F → Prop}
    (hK : T (U := U) M q c defs 𝒱 bd (K (pairF (s .a16) w.toNat)) s Q) : T (U := U) M q c defs 𝒱 bd (pair (M .a16) w g K) s Q := by
  unfold pair
  refine T.load A.a16 (T.load A.a16 ?_)
  exact (congrArg (fun v => T (U := U) M q c defs 𝒱 bd (K v) s Q) (pair_eq (s .a16) g concatenates_S1x128_S1x128_S1x256_d1)).mpr hK

/-- A word of the tile count's buffer read. -/
theorem cnt_T {s : S F} {w : BitVec 32} (h : s .a22 = fun _ => w) {K : BitVec 32 → P F α} {Q : α → S F → Prop} (hK : T (U := U) M q c defs 𝒱 bd (K w) s Q) :
    T (U := U) M q c defs 𝒱 bd (smemLoad (Val := Elt F) (M .a22) (Rect.unit (s := S1) ![0] S1.size inb_S1_S1_0) numel1_S1 rfl >>= K) s Q := by
  refine T.of_eq (p' := .op (.load (M .a22) (Rect.unit (s := S1) ![0] S1.size inb_S1_S1_0).toLoadRect (View.loadsAt_rect (View.loads_smem_one rfl numel1_S1)))
    fun f => K (f (Shape.Idx.first (numel1_S1.symm ▸ Nat.one_pos)))) rfl (T.load A.a22 ?_)
  show T M q c defs 𝒱 bd (K (s .a22 _)) s Q
  rw [h]
  exact hK
theorem cntAny_T {s : S F} {K : BitVec 32 → P F α} {Q : α → S F → Prop} (hK : ∀ w, T (U := U) M q c defs 𝒱 bd (K w) s Q) :
    T (U := U) M q c defs 𝒱 bd (smemLoad (Val := Elt F) (M .a22) (Rect.unit (s := S1) ![0] S1.size inb_S1_S1_0) numel1_S1 rfl >>= K) s Q :=
  T.of_eq (p' := .op (.load (M .a22) (Rect.unit (s := S1) ![0] S1.size inb_S1_S1_0).toLoadRect (View.loadsAt_rect (View.loads_smem_one rfl numel1_S1)))
    fun f => K (f (Shape.Idx.first (numel1_S1.symm ▸ Nat.one_pos)))) rfl (T.load A.a22 (hK _))

/-- The number of tokens read. -/
theorem lenSum_T {s : S F} {L : S16.Idx → BitVec 32} (h : s .a1 = L) {K : BitVec 32 → P F α} {Q : α → S F → Prop} (hK : T (U := U) M q c defs 𝒱 bd (K (lenS L)) s Q) :
    T (U := U) M q c defs 𝒱 bd (lenSum M K) s Q := by
  unfold lenSum
  refine lenB_T h (lenB_T h (lenB_T h (lenB_T h (lenB_T h (lenB_T h (lenB_T h (lenB_T h ?_)))))))
  refine lenB_T h (lenB_T h (lenB_T h (lenB_T h (lenB_T h (lenB_T h (lenB_T h (lenB_T h ?_)))))))
  exact hK

/-! ## The pieces of the inverse Hessian -/

theorem t1_trips : k0_t1_loop.trips = 8 := by decide
theorem off169_eq : ∀ (t : Fin k0_t1_loop.trips) (a : Fin 2), k0_off169 t a = (![128 * t.val, 0] : Fin 2 → ℕ) a := by decide +kernel
theorem off170_eq : ∀ (t : Fin k0_t1_loop.trips) (a : Fin 3), k0_off170 t a = (![0, 128 * t.val, 0] : Fin 3 → ℕ) a := by decide +kernel
theorem off171_eq : ∀ (t : Fin k0_t1_loop.trips) (a : Fin 3), k0_off171 t a = (![1, 128 * t.val, 0] : Fin 3 → ℕ) a := by decide +kernel
theorem off172_eq : ∀ (t : Fin k0_t1_loop.trips) (a : Fin 3), k0_off172 t a = (![2, 128 * t.val, 0] : Fin 3 → ℕ) a := by decide +kernel

/-- The buffer holds the pieces' first `k` row blocks, and block `k` of the first `p` pieces. -/
def HI (e : S F) (k p : ℕ) (X : S3x1024x1024.Idx → F .bf16) : Prop :=
  ∀ i, ((i 1).val < 128 * k ∨ ((i 1).val < 128 * (k + 1) ∧ (i 0).val < p)) → X i = hpF e i

theorem HI_step {e : S F} {k p : ℕ} (hk : k < 8) (hp : p < 3) {X : S3x1024x1024.Idx → F .bf16} (hX : HI e k p X) {o : Fin 3 → ℕ} (ho : ∀ a, o a = (![p, 128 * k, 0] : Fin 3 → ℕ) a)
    {inb} {w : S1x128x1024.Idx → F .bf16} (hw : ∀ (r : Fin 128) (l : Fin 1024), w (ix3 0 r l) = hpF e (ix3 (Fin.ofNat 3 p) (Fin.ofNat 1024 (128 * k + r.val)) l)) :
    HI e k (p + 1) (wr X (Rect.unit (s := S3x1024x1024) o S1x128x1024.size inb) w) := by
  obtain rfl : o = ![p, 128 * k, 0] := funext ho
  intro i hi
  have i2 : (i 2).val < 1024 := (i 2).isLt
  have i0 : (i 0).val < 3 := (i 0).isLt
  by_cases hin : (i 0).val = p ∧ 128 * k ≤ (i 1).val
  · rw [wr_unit_in (s := S3x1024x1024) (o := ![p, 128 * k, 0]) (size := S1x128x1024.size) (inb := inb) X w i fun a => match a with
      | ⟨0, _⟩ => ⟨by show p ≤ (i 0).val; omega, by show (i 0).val < p + 1; omega⟩
      | ⟨1, _⟩ => ⟨by show 128 * k ≤ (i 1).val; omega, by show (i 1).val < 128 * k + 128; omega⟩
      | ⟨2, _⟩ => ⟨Nat.zero_le _, by show (i 2).val < 0 + 1024; omega⟩]
    have hk' : (i 1).val - 128 * k < 128 := by omega
    refine Eq.trans (congrArg w ?_) ((hw ⟨(i 1).val - 128 * k, hk'⟩ (i 2)).trans (congrArg (hpF e) ?_))
    · funext a
      apply Fin.ext
      exact match a with
      | ⟨0, _⟩ => by show (i 0).val - p = 0; omega
      | ⟨1, _⟩ => rfl
      | ⟨2, _⟩ => rfl
    · funext a
      apply Fin.ext
      exact match a with
      | ⟨0, _⟩ => by show p % 3 = (i 0).val; omega
      | ⟨1, _⟩ => by show (128 * k + ((i 1).val - 128 * k)) % 1024 = (i 1).val; omega
      | ⟨2, _⟩ => rfl
  · by_cases h0 : (i 0).val = p
    · rw [wr_unit_out (s := S3x1024x1024) (o := ![p, 128 * k, 0]) (size := S1x128x1024.size) (inb := inb) X w i 1 (.inl (by show (i 1).val < 128 * k; omega))]
      exact hX i (.inl (by omega))
    · rw [wr_unit_out (s := S3x1024x1024) (o := ![p, 128 * k, 0]) (size := S1x128x1024.size) (inb := inb) X w i 0 (by show (i 0).val < p ∨ p + 1 ≤ (i 0).val; omega)]
      exact hX i (by omega)
theorem HI_next {e : S F} {k : ℕ} {X : S3x1024x1024.Idx → F .bf16} (h : HI e k 3 X) : HI e (k + 1) 0 X := fun i hi => h i (.inr ⟨by omega, (i 0).isLt⟩)

/-- After the packing: what it left, the tile count, and the inverse Hessian's pieces up to row block `k`. -/
structure HpI (e : S F) (k : ℕ) (s : S F) : Prop where
  z : PkZ e 8 s
  t22 : s .a22 = fun _ => tilesW (off (e .a1) 16)
  h17 : HI e k 0 (s .a17)

theorem PkZ.fr {e s s' : S F} {k : ℕ} (h : PkZ e k s) {j : A} (f : ∀ i, i ≠ j → s' i = s i) (hj : isIn j = false)
    (hj' : j ≠ .a13 ∧ j ≠ .a14 ∧ j ≠ .a15 ∧ j ≠ .a16) : PkZ e k s' :=
  ⟨h.inp.fr f hj, by rw [f _ (Ne.symm hj'.1)]; exact h.x13, by rw [f _ (Ne.symm hj'.2.1)]; exact h.x14, by rw [f _ (Ne.symm hj'.2.2.1)]; exact h.q15,
    by rw [f _ (Ne.symm hj'.2.2.2)]; exact h.q16⟩

theorem succ3 (r : Fin 128) (l : Fin 1024) : (fun a : Fin 2 => ix3 (n0 := 1) (n1 := 128) (n2 := 1024) 0 r l a.succ) = ix2 r l := by
  funext a
  exact match a with
  | ⟨0, _⟩ => rfl
  | ⟨1, _⟩ => rfl

theorem hBody_T {e s : S F} {i : grid0.Coords} {h1 : k0_cond1 i = 1#1} {t : Fin k0_t1_loop.trips} (hq : ∀ j, isIn j = false → q j = fullShare)
    (h : HpI e t.val s) : T (U := U) M q c defs 𝒱 bd (hBody M hM i h1 t) s fun _ s' => HpI e (t.val + 1) s' := by
  have ht : t.val < 8 := lt_of_lt_of_eq t.isLt t1_trips
  have blk : ∀ (p : ℕ) (hp : p < 3) (r : Fin 128) (l : Fin 1024), spN (s := S128x1024) p (fun x : S128x1024.Idx => s .a5 ((Rect.unit (s := S1024x1024) (k0_off169 t) S128x1024.size (k0_off169_inb i t h1)).toLoadRect.idx x)) (ix2 r l)
      = hpF e (ix3 (Fin.ofNat 3 p) (Fin.ofNat 1024 (128 * t.val + r.val)) l) := fun p hp r l => by
    refine (spN_comp (s := S1024x1024) p (s .a5) (fun x => (Rect.unit (s := S1024x1024) (k0_off169 t) S128x1024.size (k0_off169_inb i t h1)).toLoadRect.idx x) (ix2 r l)).trans ?_
    rw [h.z.inp .a5 rfl]
    show _ = spN (s := S1024x1024) (p % 3) (e .a5) _
    rw [Nat.mod_eq_of_lt hp]
    refine congrArg (spN (s := S1024x1024) p (e .a5)) ?_
    funext a
    apply Fin.ext
    exact match a with
    | ⟨0, _⟩ => by
      show k0_off169 t 0 + 1 * r.val = (128 * t.val + r.val) % 1024
      rw [off169_eq]; show 128 * t.val + 1 * r.val = _; omega
    | ⟨1, _⟩ => by
      show k0_off169 t 1 + 1 * l.val = l.val
      rw [off169_eq]; show 0 + 1 * l.val = _; omega
  unfold hBody
  refine T.load A.a5 (T.load A.a17 (T.store' A.a17 (hq _ rfl) fun s1 f1 e1 => T.load A.a17 (T.store' A.a17 (hq _ rfl) fun s2 f2 e2 => T.load A.a17 (T.store' A.a17 (hq _ rfl) fun s3 f3 e3 => T.ret ?_))))
  refine ⟨((h.z.fr f1 rfl (by decide)).fr f2 rfl (by decide)).fr f3 rfl (by decide), by rw [f3 _ (by decide), f2 _ (by decide), f1 _ (by decide)]; exact h.t22, HI_next ?_⟩
  rw [e3, e2, e1]
  refine HI_step ht (by omega) (HI_step ht (by omega) (HI_step ht (by omega) h.h17 (off170_eq t) fun r l => ?_) (off171_eq t) fun r l => ?_) (off172_eq t) fun r l => ?_
  · rw [shapeCast_addUnit_apply]; exact (congrArg (sp1 _) (succ3 r l)).trans (blk 0 (by omega) r l)
  · rw [shapeCast_addUnit_apply]; exact (congrArg (sp2 _) (succ3 r l)).trans (blk 1 (by omega) r l)
  · rw [shapeCast_addUnit_apply]; exact (congrArg (sp3 _) (succ3 r l)).trans (blk 2 (by omega) r l)

/-! ## The projection -/

/-- The buffer holds the pieces of the first `k` tiles, and of tile `k` the first `p` pieces. -/
def PP (e : S F) (k p : ℕ) (X : S3x8x256x1024.Idx → F .bf16) : Prop :=
  ∀ i, ((i 1).val < k ∨ ((i 1).val = k ∧ (i 0).val < p)) → X i = pF e i

theorem cast4_apply {β : Type} (x : S256x1024.Idx → β) (j : S1x1x256x1024.Idx) :
    shapeCast S1x1x256x1024 x shapeCasts_S256x1024_S1x1x256x1024 j = x (ix2 (j 2) (j 3)) := by
  have h0 : (j 0).val < 1 := (j 0).isLt
  have h1 : (j 1).val < 1 := (j 1).isLt
  refine shapeCast_apply _ _ _ _ ((Shape.rowMajor_val_two (d := ![256, 1024]) (ix2 (j 2) (j 3))).trans (Eq.trans ?_ (Shape.rowMajor_val_four (d := ![1, 1, 256, 1024]) j).symm))
  show (j 2).val * 1024 + (j 3).val = (((j 0).val * 1 + (j 1).val) * 256 + (j 2).val) * 1024 + (j 3).val
  omega

theorem PP_step {e : S F} {w : BitVec 32} {p : ℕ} (hp : p < 3) {X : S3x8x256x1024.Idx → F .bf16} (hX : PP e w.toNat p X) {inb} {x : FVec F S256x1024 .bf16}
    (hx : x = spN p (PJ e w.toNat)) :
    PP e w.toNat (p + 1) (wr X (Rect.unit (s := S3x8x256x1024) ![p, (Scalar.indexCast w : Index).toNat, 0, 0] S1x1x256x1024.size inb) (shapeCast S1x1x256x1024 x shapeCasts_S256x1024_S1x1x256x1024)) := by
  subst hx
  intro i hi
  have i3 : (i 3).val < 1024 := (i 3).isLt
  have i2 : (i 2).val < 256 := (i 2).isLt
  have ew : (Scalar.indexCast w : Index).toNat = w.toNat := rfl
  by_cases hin : (i 0).val = p ∧ (i 1).val = w.toNat
  · rw [wr_unit_in (s := S3x8x256x1024) (o := ![p, (Scalar.indexCast w : Index).toNat, 0, 0]) (size := S1x1x256x1024.size) (inb := inb) X _ i fun a => match a with
      | ⟨0, _⟩ => ⟨by show p ≤ (i 0).val; omega, by show (i 0).val < p + 1; omega⟩
      | ⟨1, _⟩ => ⟨by show w.toNat ≤ (i 1).val; omega, by show (i 1).val < w.toNat + 1; omega⟩
      | ⟨2, _⟩ => ⟨Nat.zero_le _, by show (i 2).val < 0 + 256; omega⟩
      | ⟨3, _⟩ => ⟨Nat.zero_le _, by show (i 3).val < 0 + 1024; omega⟩]
    refine (cast4_apply _ _).trans ?_
    unfold pF
    exact (congrArg₂ (fun a b => spN a (PJ e b) (ix2 (i 2) (i 3))) hin.1 hin.2).symm
  · rcases hi with h | ⟨h, h'⟩
    · rw [wr_unit_out (s := S3x8x256x1024) (o := ![p, (Scalar.indexCast w : Index).toNat, 0, 0]) (size := S1x1x256x1024.size) (inb := inb) X _ i 1 (.inl (by show (i 1).val < w.toNat; omega))]
      exact hX i (.inl h)
    · rw [wr_unit_out (s := S3x8x256x1024) (o := ![p, (Scalar.indexCast w : Index).toNat, 0, 0]) (size := S1x1x256x1024.size) (inb := inb) X _ i 0 (.inl (by show (i 0).val < p; omega))]
      exact hX i (.inr ⟨h, by omega⟩)

/-- Between the tiles of the projection. -/
structure PrI (e : S F) (k : ℕ) (s : S F) : Prop where
  z : PkZ e 8 s
  t22 : s .a22 = fun _ => tilesW (off (e .a1) 16)
  h17 : s .a17 = hpF e
  p18 : PP e k 0 (s .a18)

theorem pStore_T {s : S F} {p : ℕ} {hp : p < 3} {w : BitVec 32} {g : GoodT w} {x : FVec F S256x1024 .bf16} {K : P F α} {Q : α → S F → Prop} (hq : ∀ j, isIn j = false → q j = fullShare)
    (hK : ∀ s', (∀ i, i ≠ .a18 → s' i = s i) → s' .a18 = wr (s .a18) (Rect.unit (s := S3x8x256x1024) ![p, (Scalar.indexCast w : Index).toNat, 0, 0] S1x1x256x1024.size (inb4 (by omega) g (by omega) (by omega)))
      (shapeCast S1x1x256x1024 x shapeCasts_S256x1024_S1x1x256x1024) → T (U := U) M q c defs 𝒱 bd K s' Q) :
    T (U := U) M q c defs 𝒱 bd (pStore M hM p hp w g x K) s Q :=
  T.load A.a18 (T.store' A.a18 (hq _ rfl) fun s1 f1 e1 => hK s1 f1 e1)

/-- A piece of the inverse Hessian as loaded. -/
theorem hS_eq (e : S F) {p : ℕ} (hp : p < 3) (inb) : (fun x : S1x1024x1024.Idx => hpF e ((Rect.unit (s := S3x1024x1024) ![p, 0, 0] S1x1024x1024.size inb).toLoadRect.idx x)) = hS e p := by
  funext x
  unfold hS
  congr 1
  funext a
  apply Fin.ext
  have h0 : (x 0).val < 1 := (x 0).isLt
  exact match a with
  | ⟨0, _⟩ => by show p + 1 * (x 0).val = p % 3; omega
  | ⟨1, _⟩ => by show 0 + 1 * (x 1).val = (x 1).val; omega
  | ⟨2, _⟩ => by show 0 + 1 * (x 2).val = (x 2).val; omega

theorem projBody_T {e s : S F} {w : BitVec 32} {g : GoodT w} (hq : ∀ j, isIn j = false → q j = fullShare) (hL : LensOK (e .a1)) (hw : w.toNat < NT e)
    (h : PrI e w.toNat s) : T (U := U) M q c defs 𝒱 bd (projBody M hM w g) s fun _ s' => PrI e (w.toNat + 1) s' := by
  unfold projBody
  refine toks14_T ?_
  rw [tok_XZ hL h.z.x14 hw]
  refine T.load' A.a17 fun v0 hv0 => T.load' A.a17 fun v1 hv1 => T.load' A.a17 fun v2 hv2 => ?_
  rw [h.h17] at hv0 hv1 hv2
  have g0 : v0 = hS e 0 := hv0.trans (hS_eq e (by omega) _)
  have g1 : v1 = hS e 1 := hv1.trans (hS_eq e (by omega) _)
  have g2 : v2 = hS e 2 := hv2.trans (hS_eq e (by omega) _)
  subst g0 g1 g2
  refine pStore_T hq fun s1 f1 e1 => pStore_T hq fun s2 f2 e2 => pStore_T hq fun s3 f3 e3 => T.ret ?_
  refine ⟨((h.z.fr f1 rfl (by decide)).fr f2 rfl (by decide)).fr f3 rfl (by decide), by rw [f3 _ (by decide), f2 _ (by decide), f1 _ (by decide)]; exact h.t22,
    by rw [f3 _ (by decide), f2 _ (by decide), f1 _ (by decide)]; exact h.h17, ?_⟩
  rw [e3, e2, e1]
  have := PP_step (by omega) (PP_step (by omega) (PP_step (by omega) h.p18 (inb := inb4 (by omega) g (by omega) (by omega)) (x := sp1 (PJ e w.toNat)) rfl)
    (inb := inb4 (by omega) g (by omega) (by omega)) (x := sp2 (PJ e w.toNat)) rfl) (inb := inb4 (by omega) g (by omega) (by omega)) (x := sp3 (PJ e w.toNat)) rfl
  exact fun i hi => this i (by have : (i 0).val < 3 := (i 0).isLt; omega)

end Cert.Proof.LsqK
-- ==== Proof.Bits.SweepSteps.lean ====
/-
  The sweeps over the tiles and the whole body, run: the weights dequantised, the two sweeps, the corrected weights and
  the losses.
-/
module

public import proofs.«01_k».proof.Proof.Bits.TileSteps

@[expose] public section

set_option maxRecDepth 16384

noncomputable section

namespace Cert.Proof.LsqK

open Idealize.ShloMosaic Idealize.ShloMosaic.TcCoe Idealize.ShloMosaic.Tactic
open Idealize.ShloMosaic.ValueIdx (ix1 ix2 ix3 ix4 eq_ix2 eq_ix3)
open Idealize.SL Idealize.SL.RA Idealize.SL.Sem
open Cert.Proof.Lsq Cert.Kernel Cert.Kernel.Gen

variable {F : FTy → Type} [FloatOps F]

variable {U : Type} [URA U] {M : (j : A) → Memref sig .tc (sp j) (sh j) (el j)} {hM : ∀ j, (M j).IsWhole}
variable {q : A → PosShare TreeShare} {c : Dev nD} {defs : Defs nD τ sig (Elt F) Λ₀} {𝒱 : Variants} {bd : Option 𝒱.V} {α : Type}

/-! ## Loads -/

/-! ## The dequantised weights -/

/-- The buffer holds the first `c` column groups of the dequantised weights. -/
def DQ (e : S F) (c : ℕ) (X : S512x1024.Idx → F .bf16) : Prop := ∀ i, (i 1).val < 128 * c → X i = WQ e i

theorem DQ_step {e : S F} {g : ℕ} (hg : g < 8) {X : S512x1024.Idx → F .bf16} (hX : DQ e g X) {inb} {w : S512x128.Idx → F .bf16}
    (hw : ∀ (r : Fin 512) (l : Fin 128), w (ix2 r l) = WQ e (ix2 r (Fin.ofNat 1024 (128 * g + l.val)))) :
    DQ e (g + 1) (wr X (Rect.unit (s := S512x1024) ![0, 128 * g] S512x128.size inb) w) := by
  intro i hi
  have i0 : (i 0).val < 512 := (i 0).isLt
  by_cases hin : 128 * g ≤ (i 1).val
  · rw [wr_unit_in (s := S512x1024) (o := ![0, 128 * g]) (size := S512x128.size) (inb := inb) X w i fun a => match a with
      | ⟨0, _⟩ => ⟨Nat.zero_le _, by show (i 0).val < 0 + 512; omega⟩
      | ⟨1, _⟩ => ⟨hin, by show (i 1).val < 128 * g + 128; omega⟩]
    have hk' : (i 1).val - 128 * g < 128 := by omega
    refine Eq.trans (congrArg w ?_) ((hw (i 0) ⟨(i 1).val - 128 * g, hk'⟩).trans (congrArg (WQ e) ?_))
    · funext a
      exact match a with
      | ⟨0, _⟩ => rfl
      | ⟨1, _⟩ => rfl
    · funext a
      apply Fin.ext
      exact match a with
      | ⟨0, _⟩ => rfl
      | ⟨1, _⟩ => by show (128 * g + ((i 1).val - 128 * g)) % 1024 = (i 1).val; omega
  · rw [wr_unit_out (s := S512x1024) (o := ![0, 128 * g]) (size := S512x128.size) (inb := inb) X w i 1 (.inl (by show (i 1).val < 128 * g; omega))]
    exact hX i (by omega)

theorem code_lo (e : S F) {g : ℕ} (hg : g < 4) (r : Fin 512) (l : Fin 128) :
    codeLo (F := F) (e .a7) (ix2 r (Fin.ofNat 512 (128 * g + l.val))) = code e (ix2 r (Fin.ofNat 1024 (128 * g + l.val))) := by
  have h : (128 * g + l.val) % 1024 < 512 := by omega
  refine Eq.symm ((if_pos h).trans (congrArg (codeLo (F := F) (e .a7)) ?_))
  funext a
  apply Fin.ext
  exact match a with
  | ⟨0, _⟩ => rfl
  | ⟨1, _⟩ => by show (128 * g + l.val) % 1024 % 512 = (128 * g + l.val) % 512; omega
theorem code_hi (e : S F) {g : ℕ} (hg : g < 4) (r : Fin 512) (l : Fin 128) :
    codeHi (F := F) (e .a7) (ix2 r (Fin.ofNat 512 (128 * g + l.val))) = code e (ix2 r (Fin.ofNat 1024 (128 * (g + 4) + l.val))) := by
  have h : ¬ (128 * (g + 4) + l.val) % 1024 < 512 := by omega
  refine Eq.symm ((if_neg h).trans (congrArg (codeHi (F := F) (e .a7)) ?_))
  funext a
  apply Fin.ext
  exact match a with
  | ⟨0, _⟩ => rfl
  | ⟨1, _⟩ => by show ((128 * (g + 4) + l.val) % 1024 - 512) % 512 = (128 * g + l.val) % 512; omega

/-- Between the column groups. -/
structure DqI (e : S F) (k : ℕ) (s : S F) : Prop where
  inp : Inp e s
  sc : Sc e s
  dq : DQ e k (s .a20)

theorem deqCol_T {e s : S F} {g k : ℕ} {hg : g < 8} {hs : S512x512.Slices ![0, k] S512x128} {x : FVec F S512x512 .bf16} {K : P F α} {Q : α → S F → Prop}
    (hq : ∀ j, isIn j = false → q j = fullShare) (h : DqI e g s) (hk : k + 128 ≤ 512)
    (hx : ∀ (r : Fin 512) (l : Fin 128), x (ix2 r (Fin.ofNat 512 (k + l.val))) = code e (ix2 r (Fin.ofNat 1024 (128 * g + l.val))))
    (hK : ∀ s', DqI e (g + 1) s' → T (U := U) M q c defs 𝒱 bd K s' Q) : T (U := U) M q c defs 𝒱 bd (deqCol M hM g k hg hs x K) s Q := by
  unfold deqCol
  refine T.load A.a8 (T.load A.a20 (T.store' A.a20 (hq _ rfl) fun s1 f1 e1 => hK s1 ⟨h.inp.fr f1 rfl, h.sc.fr f1 rfl, ?_⟩))
  rw [e1]
  refine DQ_step hg h.dq fun r l => ?_
  refine (congrFun (shapeCast_self _ _) _).trans ?_
  refine congrArg₂ FloatOps.mulf ?_ ?_
  · refine (extractStridedSlice_apply _ _ _ _ (ix2 r (Fin.ofNat 512 (k + l.val))) fun a => match a with
      | ⟨0, _⟩ => by show r.val = 0 + r.val; omega
      | ⟨1, _⟩ => by show (k + l.val) % 512 = k + l.val; omega).trans (hx r l)
  · refine (broadcastTo_apply _ _ _ (ix2 r 0) fun a => match a with
      | ⟨0, _⟩ => rfl
      | ⟨1, _⟩ => rfl).trans ?_
    refine congrArg (FloatOps.truncf .bf16 bitsLt_bf16_f32) ?_
    rw [h.inp .a8 rfl]
    refine congrArg (e .a8) ?_
    funext a
    apply Fin.ext
    exact match a with
    | ⟨0, _⟩ => by show 0 + 1 * r.val = r.val; omega
    | ⟨1, _⟩ => by show g + 1 * 0 = (128 * g + l.val) % 1024 / 128 % 8; omega

theorem deqAll_T {e s : S F} {K : P F α} {Q : α → S F → Prop} (hq : ∀ j, isIn j = false → q j = fullShare) (hi : Inp e s) (hc : Sc e s)
    (hK : ∀ s', Inp e s' → Sc e s' → s' .a20 = WQ e → s' .a12 = (fun _ => zf) → s' .a21 = (fun _ => zf) → T (U := U) M q c defs 𝒱 bd K s' Q) :
    T (U := U) M q c defs 𝒱 bd (deqAll M hM K) s Q := by
  unfold deqAll
  refine T.load' A.a7 fun x hx => ?_
  rw [rd_unit_all (s := S512x512) (s .a7), hi .a7 rfl] at hx
  subst hx
  have h0 : DqI e 0 s := ⟨hi, hc, fun i hi => absurd hi (by omega)⟩
  refine deqCol_T hq h0 (by omega) (code_lo e (g := 0) (by omega)) fun s1 h1 => ?_
  refine deqCol_T hq h1 (by omega) (code_lo e (g := 1) (by omega)) fun s2 h2 => ?_
  refine deqCol_T hq h2 (by omega) (code_lo e (g := 2) (by omega)) fun s3 h3 => ?_
  refine deqCol_T hq h3 (by omega) (code_lo e (g := 3) (by omega)) fun s4 h4 => ?_
  refine deqCol_T hq h4 (by omega) (code_hi e (g := 0) (by omega)) fun s5 h5 => ?_
  refine deqCol_T hq h5 (by omega) (code_hi e (g := 1) (by omega)) fun s6 h6 => ?_
  refine deqCol_T hq h6 (by omega) (code_hi e (g := 2) (by omega)) fun s7 h7 => ?_
  refine deqCol_T hq h7 (by omega) (code_hi e (g := 3) (by omega)) fun s8 h8 => ?_
  refine T.load A.a12 (T.store' A.a12 (hq _ rfl) fun s9 f9 e9 => T.load A.a21 (T.store' A.a21 (hq _ rfl) fun s10 f10 e10 => ?_))
  refine hK s10 ((h8.inp.fr f9 rfl).fr f10 rfl) ((h8.sc.fr f9 rfl).fr f10 rfl) ?_ ?_ ?_
  · rw [f10 _ (by decide), f9 _ (by decide)]
    exact funext fun i => h8.dq i (i 1).isLt
  · rw [f10 _ (by decide), e9]
    exact (wr_unit_all (s := S512x1024) _ _).trans rfl
  · rw [e10]
    exact (wr_unit_all (s := S2x512x128) _ _).trans rfl

/-! ## The two accumulators, the exact products and the projected tokens -/

/-- One of the two accumulators. -/
def sl {β : Type} (p : ℕ) (X : S2x512x128.Idx → β) : S1x512x128.Idx → β := fun x => X (ix3 (Fin.ofNat 2 p) (x 1) (x 2))
theorem sl_ix {p : ℕ} (hp : p < 2) (inb) (x : S1x512x128.Idx) : (Rect.unit (s := S2x512x128) ![p, 0, 0] S1x512x128.size inb).emb x = ix3 (Fin.ofNat 2 p) (x 1) (x 2) := by
  have h0 : (x 0).val < 1 := (x 0).isLt
  funext a
  apply Fin.ext
  exact match a with
  | ⟨0, _⟩ => by show p + 1 * (x 0).val = p % 2; omega
  | ⟨1, _⟩ => by show 0 + 1 * (x 1).val = (x 1).val; omega
  | ⟨2, _⟩ => by show 0 + 1 * (x 2).val = (x 2).val; omega
theorem sl_rd {β : Type} {p : ℕ} (hp : p < 2) (X : S2x512x128.Idx → β) (inb) :
    (fun x => X ((Rect.unit (s := S2x512x128) ![p, 0, 0] S1x512x128.size inb).toLoadRect.idx x)) = sl p X := funext fun x => congrArg X (sl_ix hp inb x)
theorem sl_wr {β : Type} {p : ℕ} (hp : p < 2) (X : S2x512x128.Idx → β) (inb) (w : S1x512x128.Idx → β) :
    sl p (wr X (Rect.unit (s := S2x512x128) ![p, 0, 0] S1x512x128.size inb) w) = w := funext fun x => by
  have h0 : (x 0).val < 1 := (x 0).isLt
  have h1 : (x 1).val < 512 := (x 1).isLt
  have h2 : (x 2).val < 128 := (x 2).isLt
  unfold sl
  refine (wr_unit_in (s := S2x512x128) (o := ![p, 0, 0]) (size := S1x512x128.size) (inb := inb) X w (ix3 (Fin.ofNat 2 p) (x 1) (x 2)) fun a => match a with
    | ⟨0, _⟩ => ⟨by show p ≤ p % 2; omega, by show p % 2 < p + 1; omega⟩
    | ⟨1, _⟩ => ⟨Nat.zero_le _, by show (x 1).val < 0 + 512; omega⟩
    | ⟨2, _⟩ => ⟨Nat.zero_le _, by show (x 2).val < 0 + 128; omega⟩).trans (congrArg w ?_)
  funext a
  apply Fin.ext
  exact match a with
  | ⟨0, _⟩ => by show p % 2 - p = (x 0).val; omega
  | ⟨1, _⟩ => rfl
  | ⟨2, _⟩ => rfl
theorem sl_wr' {β : Type} {p p' : ℕ} (hp : p < 2) (hp' : p' < 2) (hn : p ≠ p') (X : S2x512x128.Idx → β) (inb) (w : S1x512x128.Idx → β) :
    sl p' (wr X (Rect.unit (s := S2x512x128) ![p, 0, 0] S1x512x128.size inb) w) = sl p' X := funext fun x => by
  unfold sl
  exact wr_unit_out (s := S2x512x128) (o := ![p, 0, 0]) (size := S1x512x128.size) (inb := inb) X w _ 0 (by show p' % 2 < p ∨ p + 1 ≤ p' % 2; omega)

/-- The buffer holds the exact products of the first `k` tiles. -/
def YI (e : S F) (k : ℕ) (X : S8x512x256.Idx → F .f32) : Prop := ∀ i, (i 0).val < k → X i = YV e (i 0).val (ix2 (i 1) (i 2))
theorem YI_step {e : S F} {w : BitVec 32} {X : S8x512x256.Idx → F .f32} (hX : YI e w.toNat X) (inb) {v : FVec F S512x256 .f32} (hv : v = YV e w.toNat) :
    YI e (w.toNat + 1) (wr X (Rect.unit (s := S8x512x256) ![(Scalar.indexCast w : Index).toNat, 0, 0] S1x512x256.size inb) (shapeCast S1x512x256 v shapeCasts_S512x256_S1x512x256)) := by
  subst hv
  intro i hi
  have i1 : (i 1).val < 512 := (i 1).isLt
  have i2 : (i 2).val < 256 := (i 2).isLt
  by_cases hin : (i 0).val = w.toNat
  · rw [wr_unit_in (s := S8x512x256) (o := ![(Scalar.indexCast w : Index).toNat, 0, 0]) (size := S1x512x256.size) (inb := inb) X _ i fun a => match a with
      | ⟨0, _⟩ => ⟨by show w.toNat ≤ (i 0).val; omega, by show (i 0).val < w.toNat + 1; omega⟩
      | ⟨1, _⟩ => ⟨Nat.zero_le _, by show (i 1).val < 0 + 512; omega⟩
      | ⟨2, _⟩ => ⟨Nat.zero_le _, by show (i 2).val < 0 + 256; omega⟩]
    refine (shapeCast_addUnit_apply _ _ _ _).trans ?_
    refine Eq.trans (congrArg (YV e w.toNat) ?_) (congrArg (fun t => YV e t (ix2 (i 1) (i 2))) hin).symm
    funext a
    exact match a with
    | ⟨0, _⟩ => rfl
    | ⟨1, _⟩ => rfl
  · rw [wr_unit_out (s := S8x512x256) (o := ![(Scalar.indexCast w : Index).toNat, 0, 0]) (size := S1x512x256.size) (inb := inb) X _ i 0 (.inl (by show (i 0).val < w.toNat; omega))]
    exact hX i (by omega)
theorem YI_rd {e : S F} {k : ℕ} {w : BitVec 32} {X : S8x512x256.Idx → F .f32} (hX : YI e k X) (hw : w.toNat < k) (inb) :
    shapeCast S512x256 (fun x : S1x512x256.Idx => X ((Rect.unit (s := S8x512x256) ![(Scalar.indexCast w : Index).toNat, 0, 0] S1x512x256.size inb).toLoadRect.idx x)) shapeCasts_S1x512x256_S512x256
      = YV e w.toNat := by
  funext j
  have e0 : ((Rect.unit (s := S8x512x256) ![(Scalar.indexCast w : Index).toNat, 0, 0] S1x512x256.size inb).toLoadRect.idx (Fin.cons ⟨0, Nat.one_pos⟩ j : S1x512x256.Idx) 0).val = w.toNat := by
    show w.toNat + 1 * 0 = _; omega
  refine (shapeCast_dropUnit_apply _ _ _ _).trans ((hX _ (lt_of_eq_of_lt e0 hw)).trans ?_)
  refine (congrArg (fun t => YV e t _) e0).trans (congrArg (YV e w.toNat) ?_)
  funext a
  apply Fin.ext
  exact match a with
  | ⟨0, _⟩ => by show 0 + 1 * (j 0).val = (j 0).val; omega
  | ⟨1, _⟩ => by show 0 + 1 * (j 1).val = (j 1).val; omega

theorem pLoad_T {e s : S F} {p : ℕ} {hp : p < 3} {w : BitVec 32} {g : GoodT w} {K : FVec F S1x1x256x1024 .bf16 → P F α} {Q : α → S F → Prop}
    (h : ∀ i, (i 1).val < NT e → s .a18 i = pF e i) (hw : w.toNat < NT e) (hK : T (U := U) M q c defs 𝒱 bd (K (pS e p w.toNat)) s Q) :
    T (U := U) M q c defs 𝒱 bd (pLoad M p hp w g K) s Q := by
  unfold pLoad
  refine T.load' A.a18 fun v hv => ?_
  have : v = pS e p w.toNat := by
    rw [hv]
    funext x
    have h0 : (x 0).val < 1 := (x 0).isLt
    have h1 : (x 1).val < 1 := (x 1).isLt
    have e0 : ((Rect.unit (s := S3x8x256x1024) ![p, (Scalar.indexCast w : Index).toNat, 0, 0] S1x1x256x1024.size (inb4 (by omega) g (by omega) (by omega))).toLoadRect.idx x 0).val = p := by
      show p + 1 * (x 0).val = p; omega
    have e1 : ((Rect.unit (s := S3x8x256x1024) ![p, (Scalar.indexCast w : Index).toNat, 0, 0] S1x1x256x1024.size (inb4 (by omega) g (by omega) (by omega))).toLoadRect.idx x 1).val = w.toNat := by
      show w.toNat + 1 * (x 1).val = _; omega
    refine (h _ (lt_of_eq_of_lt e1 hw)).trans ?_
    unfold pF pS
    refine (congrArg₂ (fun a b => spN a (PJ e b) _) e0 e1).trans (congrArg (spN p (PJ e w.toNat)) ?_)
    funext a
    apply Fin.ext
    exact match a with
    | ⟨0, _⟩ => by show 0 + 1 * (x 2).val = (x 2).val; omega
    | ⟨1, _⟩ => by show 0 + 1 * (x 3).val = (x 3).val; omega
  subst this
  exact hK

/-! ## The first sweep -/

/-- Between the tiles of the first sweep. -/
structure SA (e : S F) (k : ℕ) (s : S F) : Prop where
  inp : Inp e s
  sc : Sc e s
  wq : s .a20 = WQ e
  y : YI e k (s .a19)
  acc0 : sl 0 (s .a21) = ACC0 e k
  acc1 : sl 1 (s .a21) = ACC1 e 0
  dw : s .a12 = DW e k

theorem sweepA_T {e s : S F} {w : BitVec 32} {g : GoodT w} (hq : ∀ j, isIn j = false → q j = fullShare) (hL : LensOK (e .a1)) (hw : w.toNat < NT e)
    (h : SA e w.toNat s) : T (U := U) M q c defs 𝒱 bd (sweepA M w g) s fun _ s' => SA e (w.toNat + 1) s' := by
  unfold sweepA
  refine T.load' A.a6 fun wf hwf => ?_
  rw [rd_unit_all (s := S512x1024) (s .a6), h.inp .a6 rfl] at hwf
  subst hwf
  refine toks13_T ?_
  rw [tok_XZ hL h.sc.x13 hw]
  refine T.load' A.a20 fun wq hwq => ?_
  rw [rd_unit_all (s := S512x1024) (s .a20), h.wq] at hwq
  subst hwq
  refine toks14_T ?_
  rw [tok_XZ hL h.sc.x14 hw]
  refine pair15_T ?_
  rw [h.sc.q15]
  refine pair16_T ?_
  rw [h.sc.q16]
  refine T.load A.a19 (T.store' A.a19 (hq _ rfl) fun s1 f1 e1 => T.load' A.a21 fun o ho => ?_)
  rw [sl_rd (p := 0) (by omega) (s1 .a21), f1 _ (by decide), h.acc0] at ho
  subst ho
  refine T.load A.a21 (T.store' A.a21 (hq _ rfl) fun s2 f2 e2 => T.load' A.a12 fun dw hdw => ?_)
  rw [rd_unit_all (s := S512x1024) (s2 .a12), f2 _ (by decide), f1 _ (by decide), h.dw] at hdw
  subst hdw
  have c2 : Sc e s2 := (h.sc.fr f1 rfl).fr f2 rfl
  refine pLoad_T c2.p18 hw (pLoad_T c2.p18 hw (pLoad_T c2.p18 hw (T.load A.a12 (T.store' A.a12 (hq _ rfl) fun s3 f3 e3 => T.ret ?_))))
  refine ⟨((h.inp.fr f1 rfl).fr f2 rfl).fr f3 rfl, c2.fr f3 rfl, ?_, ?_, ?_, ?_, ?_⟩
  · rw [f3 _ (by decide), f2 _ (by decide), f1 _ (by decide)]; exact h.wq
  · rw [f3 _ (by decide), f2 _ (by decide), e1]; exact YI_step h.y _ rfl
  · rw [f3 _ (by decide), e2]; exact sl_wr (by omega) _ _ _
  · rw [f3 _ (by decide), e2, f1 _ (by decide)]
    exact (sl_wr' (by omega) (by omega) (by omega) _ _ _).trans h.acc1
  · rw [e3]
    exact (wr_unit_all (s := S512x1024) _ _).trans (congrArg (fun d => addf d _) (shapeCast_self _ _))

/-! ## The second sweep -/

/-- Between the tiles of the second sweep. -/
structure SB (e : S F) (k : ℕ) (s : S F) : Prop where
  inp : Inp e s
  sc : Sc e s
  wc : s .a9 = WC e
  y : YI e (NT e) (s .a19)
  acc0 : sl 0 (s .a21) = ACC0 e (NT e)
  acc1 : sl 1 (s .a21) = ACC1 e k
  dw : s .a12 = DW e (NT e)

theorem sweepB_T {e s : S F} {w : BitVec 32} {g : GoodT w} (hq : ∀ j, isIn j = false → q j = fullShare) (hL : LensOK (e .a1)) (hw : w.toNat < NT e)
    (h : SB e w.toNat s) : T (U := U) M q c defs 𝒱 bd (sweepB M w g) s fun _ s' => SB e (w.toNat + 1) s' := by
  unfold sweepB
  refine T.load' A.a9 fun wc hwc => ?_
  rw [rd_unit_all (s := S512x1024) (s .a9), h.wc] at hwc
  subst hwc
  refine toks14_T ?_
  rw [tok_XZ hL h.sc.x14 hw]
  refine pair16_T ?_
  rw [h.sc.q16]
  refine T.load' A.a19 fun y hy => ?_
  have hy' : shapeCast S512x256 y shapeCasts_S1x512x256_S512x256 = YV e w.toNat := hy ▸ YI_rd h.y hw _
  rw [hy']
  refine pair15_T ?_
  rw [h.sc.q15]
  refine T.load' A.a21 fun o ho => ?_
  rw [sl_rd (p := 1) (by omega) (s .a21), h.acc1] at ho
  subst ho
  refine T.load A.a21 (T.store' A.a21 (hq _ rfl) fun s2 f2 e2 => T.ret ?_)
  refine ⟨h.inp.fr f2 rfl, h.sc.fr f2 rfl, by rw [f2 _ (by decide)]; exact h.wc, by rw [f2 _ (by decide)]; exact h.y, ?_, ?_, by rw [f2 _ (by decide)]; exact h.dw⟩
  · rw [e2]; exact (sl_wr' (by omega) (by omega) (by omega) _ _ _).trans h.acc0
  · rw [e2]; exact (sl_wr (by omega) _ _ _).trans (by rw [shapeCast_self]; rfl)

/-! ## The start of a point -/

theorem NT_le {e : S F} (hL : LensOK (e .a1)) : (tilesW (off (e .a1) 16)).toNat ≤ 8 := by
  have ho := off_le' hL (b := 16) (by omega)
  rw [tiles_eq ho]; omega

theorem setup_T {e s : S F} {i : grid0.Coords} {h1 : k0_cond1 i = 1#1} {K : P F α} {Q : α → S F → Prop} (hq : ∀ j, isIn j = false → q j = fullShare)
    (hL : LensOK (e .a1)) (h : Inp e s) (hK : ∀ s', Inp e s' → Sc e s' → T (U := U) M q c defs 𝒱 bd K s' Q) :
    T (U := U) M q c defs 𝒱 bd (setup M hM i h1 K) s Q := by
  have hN := NT_le hL
  unfold setup
  refine packAll_T hq hL h fun s1 z1 => cntAny_T fun _ => T.store' A.a22 (hq _ rfl) fun s2 f2 e2 => ?_
  have z2 := z1.fr f2 rfl (by decide)
  have t2 : s2 .a22 = fun _ => tilesW (off (e .a1) 16) := by rw [e2]; exact wr_unit_all (s := S1) _ _
  refine T.bind (R := fun r s' => r.1 = tilesW (off (e .a1) 16) ∧ PrI e 0 s')
    (T.bind (T.for (fun k s => HpI e k s) ⟨z2, t2, fun i hi => absurd hi (by omega)⟩ fun t s hs => hBody_T hq hs) fun _ s3 h3 =>
      cnt_T h3.t22 (T.assume (chk17_of hN) (T.ret ⟨rfl, h3.z, h3.t22, ?_, fun i hi => absurd hi (by omega)⟩))) fun r s4 h4 => ?_
  · exact funext fun i => h3.h17 i (.inl (lt_of_lt_of_eq (i 1).isLt (show (1024 : ℕ) = _ by rw [t1_trips])))
  · obtain ⟨hr, h4⟩ := h4
    have L := (lps (w := r.1) (by rw [hr]; exact hN)).1
    have hn : (k0_t2_loop r.1).trips = NT e := L.n.trans (by rw [hr]; rfl)
    have hN' : NT e ≤ 8 := hN
    refine T.bind (T.for (fun k s => PrI e k s) h4 fun t s hs => ?_) fun _ s5 h5 => ?_
    · have ht := tw_eq (n := (k0_t2_loop r.1).trips) (by omega) t
      have := projBody_T (U := U) (M := M) (hM := hM) (c := c) (defs := defs) (𝒱 := 𝒱) (bd := bd) (w := tw 0#32 t) (g := k0_off181_inb i r.1 r.2.1 t h1 1) hq hL (by rw [ht]; exact lt_of_lt_of_eq t.isLt hn) (by rw [ht]; exact hs)
      rw [ht] at this
      exact this
    · rw [hn] at h5
      refine T.bind (T.for (fun _ s => PrI e (NT e) s) h5 fun t => absurd (lt_of_lt_of_eq t.isLt L.z) (Nat.not_lt_zero _)) fun _ s6 h6 => ?_
      exact hK s6 h6.z.inp ⟨h6.z.x13 , h6.z.x14, h6.z.q15, h6.z.q16, h6.t22, fun i hi => h6.p18 i (.inl hi)⟩

/-- What the start of a point returns and leaves. -/
structure HdI (e : S F) (r : Σ' (v3 : Elt F .i32) (_ : k0_chk18 v3), F .f32) (s : S F) : Prop where
  r1 : r.1 = tilesW (off (e .a1) 16)
  r2 : r.2.2 = NK e
  inp : Inp e s
  sc : Sc e s

theorem counts_T {e s : S F} (hL : LensOK (e .a1)) (h : Inp e s) (hc : Sc e s) : T (U := U) M q c defs 𝒱 bd (counts M) s fun r s' => HdI e r s' := by
  unfold counts
  exact cnt_T hc.t22 (T.assume (chk18_of (NT_le hL)) (lenSum_T (h .a1 rfl) (T.ret ⟨rfl, rfl, h, hc⟩)))

theorem head_T {e s : S F} {i : grid0.Coords} (hq : ∀ j, isIn j = false → q j = fullShare) (hL : LensOK (e .a1)) (h : Inp e s) (hc : k0_cond1 i = 1#1 ∨ Sc e s) :
    T (U := U) M q c defs 𝒱 bd (head M hM i) s fun r s' => HdI e r s' := by
  unfold head
  split
  · exact setup_T hq hL h fun s' h' hc' => counts_T hL h' hc'
  · exact counts_T hL h (hc.resolve_left (by assumption))

/-! ## The body -/

/-- The body run from the operands leaves the results of the point. -/
theorem body_T {e s : S F} {i : grid0.Coords} (hq : ∀ j, isIn j = false → q j = fullShare) (hL : LensOK (e .a1)) (h : Inp e s) (hc : k0_cond1 i = 1#1 ∨ Sc e s) :
    T (U := U) M q c defs 𝒱 bd (body M hM i) s fun _ s' => Post e s' := by
  have hN := NT_le hL
  have hN' : NT e ≤ 8 := hN
  unfold body
  refine T.bind (R := fun v s' => v = lossV (ACC1 e (NT e)) (NK e) ∧ SB e (NT e) s' ∧ s' .a10 = lossV (ACC0 e (NT e)) (NK e))
    (T.bind (head_T hq hL h hc) fun r s1 h1 => ?_) fun v s2 h2 => ?_
  · have LA := (lps (w := r.1) (by rw [h1.r1]; exact hN)).2.1
    have LB := (lps (w := r.1) (by rw [h1.r1]; exact hN)).2.2
    have hA : (k0_t4_loop r.1).trips = NT e := LA.n.trans (by rw [h1.r1]; rfl)
    have hB : (k0_t6_loop r.1).trips = NT e := LB.n.trans (by rw [h1.r1]; rfl)
    refine T.bind (R := fun wc s' => wc = WC e ∧ SA e (NT e) s') (deqAll_T hq h1.inp h1.sc fun s3 i3 c3 w3 d3 a3 => ?_) fun wc s4 h4 => ?_
    · refine T.bind (T.for (fun k s => SA e k s) ⟨i3, c3, w3, fun i hi => absurd hi (by omega), ?_, ?_, d3⟩ fun t s hs => ?_) fun _ s5 h5 => ?_
      · rw [a3]; rfl
      · rw [a3]; rfl
      · have ht := tw_eq (n := (k0_t4_loop r.1).trips) (by omega) t
        have := sweepA_T (U := U) (M := M) (c := c) (defs := defs) (𝒱 := 𝒱) (bd := bd) (w := tw 0#32 t) (g := k0_off205_inb r.1 r.2.1 t 0) hq hL (by rw [ht]; exact lt_of_lt_of_eq t.isLt hA) (by rw [ht]; exact hs)
        rw [ht] at this
        exact this
      · rw [hA] at h5
        refine T.bind (T.for (fun _ s => SA e (NT e) s) h5 fun t => absurd (lt_of_lt_of_eq t.isLt LA.z) (Nat.not_lt_zero _)) fun _ s6 h6 => ?_
        refine T.load' A.a20 fun wq hwq => T.load' A.a12 fun dw hdw => T.ret ⟨?_, h6⟩
        rw [rd_unit_all (s := S512x1024) (s6 .a20), h6.wq] at hwq
        rw [rd_unit_all (s := S512x1024) (s6 .a12), h6.dw] at hdw
        subst hwq hdw
        rfl
    · obtain ⟨rfl, h4⟩ := h4
      refine T.load A.a9 (T.store' A.a9 (hq _ rfl) fun s5 f5 e5 => ?_)
      have b5 : SB e 0 s5 := ⟨h4.inp.fr f5 rfl, h4.sc.fr f5 rfl, by rw [e5]; exact wr_unit_all (s := S512x1024) _ _, by rw [f5 _ (by decide)]; exact h4.y, by rw [f5 _ (by decide)]; exact h4.acc0,
        by rw [f5 _ (by decide)]; exact h4.acc1, by rw [f5 _ (by decide)]; exact h4.dw⟩
      refine T.bind (T.for (fun k s => SB e k s) b5 fun t s hs => ?_) fun _ s6 h6 => ?_
      · have ht := tw_eq (n := (k0_t6_loop r.1).trips) (by omega) t
        have := sweepB_T (U := U) (M := M) (c := c) (defs := defs) (𝒱 := 𝒱) (bd := bd) (w := tw 0#32 t) (g := k0_off233_inb r.1 r.2.1 t 0) hq hL (by rw [ht]; exact lt_of_lt_of_eq t.isLt hB) (by rw [ht]; exact hs)
        rw [ht] at this
        exact this
      · rw [hB] at h6
        refine T.bind (T.for (fun _ s => SB e (NT e) s) h6 fun t => absurd (lt_of_lt_of_eq t.isLt LB.z) (Nat.not_lt_zero _)) fun _ s7 h7 => ?_
        refine T.load' A.a21 fun a ha => ?_
        rw [sl_rd (p := 0) (by omega) (s7 .a21), h7.acc0] at ha
        subst ha
        refine T.load A.a10 (T.store' A.a10 (hq _ rfl) fun s8 f8 e8 => T.load' A.a21 fun b hb => ?_)
        rw [sl_rd (p := 1) (by omega) (s8 .a21), f8 _ (by decide), h7.acc1] at hb
        subst hb
        refine T.load A.a11 (T.ret ⟨by rw [h1.r2], ⟨h7.inp.fr f8 rfl, h7.sc.fr f8 rfl, by rw [f8 _ (by decide)]; exact h7.wc, by rw [f8 _ (by decide)]; exact h7.y, by rw [f8 _ (by decide)]; exact h7.acc0,
          by rw [f8 _ (by decide)]; exact h7.acc1, by rw [f8 _ (by decide)]; exact h7.dw⟩, ?_⟩)
        rw [e8, h1.r2]; exact wr_unit_all (s := S1x1x512) _ _
  · obtain ⟨rfl, b2, l2⟩ := h2
    refine T.store' A.a11 (hq _ rfl) fun s3 f3 e3 => T.ret ⟨b2.inp.fr f3 rfl, b2.sc.fr f3 rfl, by rw [f3 _ (by decide)]; exact b2.wc, by rw [f3 _ (by decide)]; exact l2, by rw [e3]; exact wr_unit_all (s := S1x1x512) _ _,
      by rw [f3 _ (by decide)]; exact b2.dw⟩

end Cert.Proof.LsqK
-- ==== Proof.Bits.BodyEq.lean ====
/-
  The printed kernel body is the folded one.
-/
module

public import proofs.«01_k».proof.Proof.Bits.Body

@[expose] public section

set_option maxRecDepth 16384

noncomputable section

namespace Cert.Proof.LsqK

open Cert.Proof.Lsq Cert.Kernel Cert.Kernel.Gen
open Idealize.ShloMosaic
open Idealize.ShloMosaic.TcCoe Idealize.ShloMosaic.Tactic
open Idealize.SL.Sem

variable {F : FTy → Type} [FloatOps F]
variable (M : (j : A) → Memref sig .tc (sp j) (sh j) (el j)) (hM : ∀ j, (M j).IsWhole)

/-- The printed body, run on a family of operands, is the folded body. -/
theorem body_eq (i : grid0.Coords) :
    (cc0_lsq_correct i (M .a1) (hM .a1) (M .a2) (hM .a2) (M .a3) (hM .a3) (M .a4) (hM .a4) (M .a5) (hM .a5) (M .a6) (hM .a6)
      (M .a7) (hM .a7) (M .a8) (hM .a8) (M .a9) (hM .a9) (M .a10) (hM .a10) (M .a11) (hM .a11) (M .a12) (hM .a12)
      (M .a13) (hM .a13) (M .a14) (hM .a14) (M .a15) (hM .a15) (M .a16) (hM .a16) (M .a17) (hM .a17) (M .a18) (hM .a18)
      (M .a19) (hM .a19) (M .a20) (hM .a20) (M .a21) (hM .a21) (M .a22) (hM .a22) : P F PUnit) = body M hM i := by
  chain_rfl

end Cert.Proof.LsqK
-- ==== Proof.Bits.Launch.lean ====
/-
  The kernel's launch: the two reshapes before the call, the eight points of the call by the body's run, and the
  memory that is left.
-/
module

public import proofs.«01_k».proof.Proof.Bits.SweepSteps
public import proofs.«01_k».proof.Proof.Bits.BodyEq
public import proofs.«01_k».proof.Proof.Gen.Kernel.Launch
public import Idealize.ShloMosaic.Lib.Pipeline.Regions

@[expose] public section

set_option maxRecDepth 16384

noncomputable section

namespace Cert.Proof.LsqK

open Idealize.ShloMosaic
open Idealize.ShloMosaic.TcCoe
open Idealize.ShloMosaic.ValueIdx (ix1 ix2 ix3 ix4 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Lsq Cert.Kernel Cert.Kernel.Gen

variable {F : FTy → Type} [FloatOps F]

/-- The algebra of the proof: the pipeline library's, beside counters nothing uses. -/
abbrev UU (nD : Nat) (τ : Topo) : Type := UR sig nD τ × Counters

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## Before the call -/

/-- Core `c`'s buffers at launch, and when the call is entered. -/
abbrev V₀ (c : Dev nD) : Valuation τ sig (Elt F) := fun b => (s₀ m ρ).mem ((c : Dev nD), b)
abbrev V (c : Dev nD) (b : Ref sig .tc) : Buf (Elt F) ((c : Thread nD τ).loc b) := StableHlo.after hostOps0 (V₀ m ρ c) b

/-- The reshapes write their own results only. -/
theorem not_written (b : Ref sig .tc) (hb : b ≠ main_v0 ∧ b ≠ main_v1) :
    ∀ op ∈ (hostOps0 (F := F)), Proc.devRef .tc b ∉ op.writes := by
  obtain ⟨h0, h1⟩ := hb
  intro op hop
  simp only [List.mem_cons, List.mem_nil_iff, or_false] at hop
  rcases hop with rfl | rfl <;>
    simp only [StableHlo.reshape, StableHlo.unary_writes, Finset.mem_singleton] <;>
    exact StableHlo.devRef_ne_of_ne ‹_›

/-- A buffer the reshapes do not write is as launched. -/
theorem V_kept (c : Dev nD) (b : Ref sig .tc) (hb : b ≠ main_v0 ∧ b ≠ main_v1) : V m ρ c b = m ((c : Thread nD τ).loc b) :=
  StableHlo.after_of_forall_not_mem (b := Proc.devRef .tc b) hostOps0 (V₀ m ρ c) (not_written b hb)

/-- The TensorCore's unscoped references, as device buffers. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- An operation on TensorCore references touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The pipeline's proof data -/

/-- The table of lengths, as launched. -/
abbrev adm : (p : Fin 1) → (pcfgs (F := F) p).Adm := fun _ => ⟨fun k => V m ρ (0 : Fin 1) (pre0.ref k), trivial⟩
abbrev cfgA : Cfg sig Λ₀ := Pipeline.pin (pcfgs (F := F)) (adm m ρ) 0

/-- A window's block at a point, read off its array. -/
def iblk (c : Dev nD) (w : Fin 11) (t : Fin grid0.N) : (spec0 w).block.Idx → Elt F (spec0 w).elt :=
  (((cfgA m ρ).win w).blk t).view.read (Elt F) (V m ρ c (Pipeline.arrRef spec0 w))

/-- The operands at a point: the table, the blocks of the inputs. -/
def eAt (c : Dev nD) (t : Fin grid0.N) : S F
  | .a1 => V m ρ (0 : Fin 1) main_arg7
  | .a2 => iblk m ρ c 0 t | .a3 => iblk m ρ c 1 t | .a4 => iblk m ρ c 2 t | .a5 => iblk m ρ c 3 t
  | .a6 => iblk m ρ c 4 t | .a7 => iblk m ρ c 5 t | .a8 => iblk m ρ c 6 t
  | .a9 => fun _ => zb | .a10 => fun _ => zf | .a11 => fun _ => zf | .a12 => fun _ => zf | .a13 => fun _ => zb | .a14 => fun _ => zb
  | .a15 => fun _ => zf | .a16 => fun _ => zf | .a17 => fun _ => zb | .a18 => fun _ => zb | .a19 => fun _ => zf
  | .a20 => fun _ => zb | .a21 => fun _ => zf | .a22 => fun _ => 0#32

/-- The operands' memrefs, by the staging buffers in use. -/
abbrev Mt (s : (w : Fin 11) → Fin (spec0 w).nbuf) : (j : A) → Memref sig .tc (sp j) (sh j) (el j)
  | .a1 => Memref.whole main_arg7
  | .a2 => spec0_0.stage (s 0) | .a3 => spec0_1.stage (s 1) | .a4 => spec0_2.stage (s 2) | .a5 => spec0_3.stage (s 3)
  | .a6 => spec0_4.stage (s 4) | .a7 => spec0_5.stage (s 5) | .a8 => spec0_6.stage (s 6) | .a9 => spec0_7.stage (s 7)
  | .a10 => spec0_8.stage (s 8) | .a11 => spec0_9.stage (s 9) | .a12 => spec0_10.stage (s 10)
  | .a13 => Memref.whole cc0_scratch0 | .a14 => Memref.whole cc0_scratch1 | .a15 => Memref.whole cc0_scratch2
  | .a16 => Memref.whole cc0_scratch3 | .a17 => Memref.whole cc0_scratch4 | .a18 => Memref.whole cc0_scratch5
  | .a19 => Memref.whole cc0_scratch6 | .a20 => Memref.whole cc0_scratch7 | .a21 => Memref.whole cc0_scratch8
  | .a22 => Memref.whole cc0_scratch9

theorem hMt (s : (w : Fin 11) → Fin (spec0 w).nbuf) : (j : A) → (Mt s j).IsWhole
  | .a1 => Memref.isWhole_whole _
  | .a2 => hstage0_0 ((s 0).cast nbuf0_0) | .a3 => hstage0_1 ((s 1).cast nbuf0_1) | .a4 => hstage0_2 ((s 2).cast nbuf0_2)
  | .a5 => hstage0_3 ((s 3).cast nbuf0_3) | .a6 => hstage0_4 ((s 4).cast nbuf0_4) | .a7 => hstage0_5 ((s 5).cast nbuf0_5)
  | .a8 => hstage0_6 ((s 6).cast nbuf0_6) | .a9 => hstage0_7 ((s 7).cast nbuf0_7) | .a10 => hstage0_8 ((s 8).cast nbuf0_8)
  | .a11 => hstage0_9 ((s 9).cast nbuf0_9) | .a12 => hstage0_10 ((s 10).cast nbuf0_10)
  | .a13 => Memref.isWhole_whole _ | .a14 => Memref.isWhole_whole _ | .a15 => Memref.isWhole_whole _
  | .a16 => Memref.isWhole_whole _ | .a17 => Memref.isWhole_whole _ | .a18 => Memref.isWhole_whole _
  | .a19 => Memref.isWhole_whole _ | .a20 => Memref.isWhole_whole _ | .a21 => Memref.isWhole_whole _
  | .a22 => Memref.isWhole_whole _

/-- The operands held, one by one. -/
theorem own_eq (M : (j : A) → Memref sig .tc (sp j) (sh j) (el j)) (c : Dev nD) (s : S F) :
    (Own (U := UU nD τ) M (fun _ => fullShare) c s : sProp 𝕄)
      = iprop(owns (c : Thread nD τ) (M .a1) fullShare (s .a1) ∗ owns (c : Thread nD τ) (M .a2) fullShare (s .a2) ∗ owns (c : Thread nD τ) (M .a3) fullShare (s .a3) ∗ owns (c : Thread nD τ) (M .a4) fullShare (s .a4) ∗ owns (c : Thread nD τ) (M .a5) fullShare (s .a5) ∗ owns (c : Thread nD τ) (M .a6) fullShare (s .a6) ∗ owns (c : Thread nD τ) (M .a7) fullShare (s .a7) ∗ owns (c : Thread nD τ) (M .a8) fullShare (s .a8) ∗ owns (c : Thread nD τ) (M .a9) fullShare (s .a9) ∗ owns (c : Thread nD τ) (M .a10) fullShare (s .a10) ∗ owns (c : Thread nD τ) (M .a11) fullShare (s .a11) ∗ owns (c : Thread nD τ) (M .a12) fullShare (s .a12) ∗ owns (c : Thread nD τ) (M .a13) fullShare (s .a13) ∗ owns (c : Thread nD τ) (M .a14) fullShare (s .a14) ∗ owns (c : Thread nD τ) (M .a15) fullShare (s .a15) ∗ owns (c : Thread nD τ) (M .a16) fullShare (s .a16) ∗ owns (c : Thread nD τ) (M .a17) fullShare (s .a17) ∗ owns (c : Thread nD τ) (M .a18) fullShare (s .a18) ∗ owns (c : Thread nD τ) (M .a19) fullShare (s .a19) ∗ owns (c : Thread nD τ) (M .a20) fullShare (s .a20) ∗ owns (c : Thread nD τ) (M .a21) fullShare (s .a21) ∗ owns (c : Thread nD τ) (M .a22) fullShare (s .a22)) := by
  unfold Own
  exact bigSep_univ_eq_bigSepL [A.a1, .a2, .a3, .a4, .a5, .a6, .a7, .a8, .a9, .a10, .a11, .a12, .a13, .a14, .a15, .a16, .a17, .a18, .a19, .a20, .a21, .a22] (by decide) (by decide) _

/-- Between the points: the table as launched, and the scratches, packed after the first point. -/
def PhiN (c : Dev nD) (n : ℕ) : sProp 𝕄 :=
  iprop(∃ s : S F, ⌜s .a1 = V m ρ (0 : Fin 1) main_arg7 ∧ (n = 0 ∨ Sc (eAt m ρ c t0_0) s)⌝
    ∗ owns (c : Thread nD τ) (Memref.whole main_arg7) fullShare (s .a1)
    ∗ owns (c : Thread nD τ) (Memref.whole cc0_scratch0) fullShare (s .a13)
    ∗ owns (c : Thread nD τ) (Memref.whole cc0_scratch1) fullShare (s .a14)
    ∗ owns (c : Thread nD τ) (Memref.whole cc0_scratch2) fullShare (s .a15)
    ∗ owns (c : Thread nD τ) (Memref.whole cc0_scratch3) fullShare (s .a16)
    ∗ owns (c : Thread nD τ) (Memref.whole cc0_scratch4) fullShare (s .a17)
    ∗ owns (c : Thread nD τ) (Memref.whole cc0_scratch5) fullShare (s .a18)
    ∗ owns (c : Thread nD τ) (Memref.whole cc0_scratch6) fullShare (s .a19)
    ∗ owns (c : Thread nD τ) (Memref.whole cc0_scratch7) fullShare (s .a20)
    ∗ owns (c : Thread nD τ) (Memref.whole cc0_scratch8) fullShare (s .a21)
    ∗ owns (c : Thread nD τ) (Memref.whole cc0_scratch9) fullShare (s .a22))

/-- What a point leaves in each window's buffer. -/
def aft (c : Dev nD) (t : Fin grid0.N) : (w : Fin 11) → (spec0 w).block.Idx → Elt F (spec0 w).elt
  | 7 => WC (eAt m ρ c t)
  | 8 => lossV (ACC0 (eAt m ρ c t) (NT (eAt m ρ c t))) (NK (eAt m ρ c t))
  | 9 => lossV (ACC1 (eAt m ρ c t) (NT (eAt m ρ c t))) (NK (eAt m ρ c t))
  | 10 => DW (eAt m ρ c t) (NT (eAt m ρ c t))
  | 0 => iblk m ρ c 0 t | 1 => iblk m ρ c 1 t | 2 => iblk m ρ c 2 t | 3 => iblk m ρ c 3 t
  | 4 => iblk m ρ c 4 t | 5 => iblk m ρ c 5 t | 6 => iblk m ρ c 6 t
  | ⟨_ + 11, h⟩ => absurd h (Nat.not_lt.2 (Nat.le_add_left _ _))

/-- The proof data on core `c`. -/
def dats (p : Fin 1) (c : Dev nD) : Dat τ (Elt F) Unit ℕ (UU nD τ) ℕ (Pipeline.pin (pcfgs (F := F)) (adm m ρ) p) c where
  A w := V m ρ c (Pipeline.arrRef spec0 w)
  after w t := aft m ρ c t w
  Φ t := PhiN m ρ c t.val
  q _ := fullShare
  owed _ := 0

theorem A_eq (c : Dev nD) (w : Fin 11) : (dats m ρ 0 c).A w = V m ρ c (Pipeline.arrRef spec0 w) := by
  dsimp only [dats]
theorem after_eq (c : Dev nD) (w : Fin 11) (t : Fin grid0.N) : (dats m ρ 0 c).after w t = aft m ρ c t w := by
  dsimp only [dats]

abbrev 𝒱₀ : Variants := Variants.none

theorem before_0 (c : Dev nD) (t : Fin grid0.N) (d) : (dats m ρ 0 c).before 0 t d = iblk m ρ c 0 t :=
  ((dats m ρ 0 c).before_in_eq_fetched 0 rfl (fun _ => rfl) (fun _ _ _ => rfl) (fun t => by rw [after_eq]; unfold Dat.blockOf; rw [A_eq]; rfl) t d).trans
    (by unfold Dat.fetched Dat.blockOf iblk; rw [A_eq]; rfl)
theorem before_1 (c : Dev nD) (t : Fin grid0.N) (d) : (dats m ρ 0 c).before 1 t d = iblk m ρ c 1 t :=
  ((dats m ρ 0 c).before_in_eq_fetched 1 rfl (fun _ => rfl) (fun _ _ _ => rfl) (fun t => by rw [after_eq]; unfold Dat.blockOf; rw [A_eq]; rfl) t d).trans
    (by unfold Dat.fetched Dat.blockOf iblk; rw [A_eq]; rfl)
theorem before_2 (c : Dev nD) (t : Fin grid0.N) (d) : (dats m ρ 0 c).before 2 t d = iblk m ρ c 2 t :=
  ((dats m ρ 0 c).before_in_eq_fetched 2 rfl (fun _ => rfl) (fun _ _ _ => rfl) (fun t => by rw [after_eq]; unfold Dat.blockOf; rw [A_eq]; rfl) t d).trans
    (by unfold Dat.fetched Dat.blockOf iblk; rw [A_eq]; rfl)
theorem before_3 (c : Dev nD) (t : Fin grid0.N) (d) : (dats m ρ 0 c).before 3 t d = iblk m ρ c 3 t :=
  ((dats m ρ 0 c).before_in_eq_fetched 3 rfl (fun _ => rfl) (fun _ _ _ => rfl) (fun t => by rw [after_eq]; unfold Dat.blockOf; rw [A_eq]; rfl) t d).trans
    (by unfold Dat.fetched Dat.blockOf iblk; rw [A_eq]; rfl)
theorem before_4 (c : Dev nD) (t : Fin grid0.N) (d) : (dats m ρ 0 c).before 4 t d = iblk m ρ c 4 t :=
  ((dats m ρ 0 c).before_in_eq_fetched 4 rfl (fun _ => rfl) (fun _ _ _ => rfl) (fun t => by rw [after_eq]; unfold Dat.blockOf; rw [A_eq]; rfl) t d).trans
    (by unfold Dat.fetched Dat.blockOf iblk; rw [A_eq]; rfl)
theorem before_5 (c : Dev nD) (t : Fin grid0.N) (d) : (dats m ρ 0 c).before 5 t d = iblk m ρ c 5 t :=
  ((dats m ρ 0 c).before_in_eq_fetched 5 rfl (fun _ => rfl) (fun _ _ _ => rfl) (fun t => by rw [after_eq]; unfold Dat.blockOf; rw [A_eq]; rfl) t d).trans
    (by unfold Dat.fetched Dat.blockOf iblk; rw [A_eq]; rfl)
theorem before_6 (c : Dev nD) (t : Fin grid0.N) (d) : (dats m ρ 0 c).before 6 t d = iblk m ρ c 6 t :=
  ((dats m ρ 0 c).before_in_eq_fetched 6 rfl (fun _ => rfl) (fun _ _ _ => rfl) (fun t => by rw [after_eq]; unfold Dat.blockOf; rw [A_eq]; rfl) t d).trans
    (by unfold Dat.fetched Dat.blockOf iblk; rw [A_eq]; rfl)

/-- The window that does not move is its whole array. -/
theorem iblk_0 (c : Dev nD) (t : Fin grid0.N) : iblk m ρ c 0 t = V m ρ c main_v0 := by
  funext j
  show V m ρ c main_v0 _ = V m ρ c main_v0 j
  refine congrArg (V m ρ c main_v0) (funext fun a => Fin.ext ?_)
  match a with
  | 0 => show 0 * _ + 1 * (j 0).val = (j 0).val; omega
  | 1 => show 0 * _ + 1 * (j 1).val = (j 1).val; omega
theorem iblk_1 (c : Dev nD) (t : Fin grid0.N) : iblk m ρ c 1 t = V m ρ c main_v1 := by
  funext j
  show V m ρ c main_v1 _ = V m ρ c main_v1 j
  refine congrArg (V m ρ c main_v1) (funext fun a => Fin.ext ?_)
  match a with
  | 0 => show 0 * _ + 1 * (j 0).val = (j 0).val; omega
  | 1 => show 0 * _ + 1 * (j 1).val = (j 1).val; omega
theorem iblk_2 (c : Dev nD) (t : Fin grid0.N) : iblk m ρ c 2 t = V m ρ c main_arg2 := by
  funext j
  show V m ρ c main_arg2 _ = V m ρ c main_arg2 j
  refine congrArg (V m ρ c main_arg2) (funext fun a => Fin.ext ?_)
  match a with
  | 0 => show 0 * _ + 1 * (j 0).val = (j 0).val; omega
  | 1 => show 0 * _ + 1 * (j 1).val = (j 1).val; omega
theorem iblk_3 (c : Dev nD) (t : Fin grid0.N) : iblk m ρ c 3 t = V m ρ c main_arg6 := by
  funext j
  show V m ρ c main_arg6 _ = V m ρ c main_arg6 j
  refine congrArg (V m ρ c main_arg6) (funext fun a => Fin.ext ?_)
  match a with
  | 0 => show 0 * _ + 1 * (j 0).val = (j 0).val; omega
  | 1 => show 0 * _ + 1 * (j 1).val = (j 1).val; omega

/-- The packed scratches are the same for every point. -/
theorem Sc_pt {c : Dev nD} {t t' : Fin grid0.N} {s : S F} (h : Sc (eAt m ρ c t) s) : Sc (eAt m ρ c t') s := by
  have e2 : eAt m ρ c t .a2 = eAt m ρ c t' .a2 := (iblk_0 m ρ c t).trans (iblk_0 m ρ c t').symm
  have e3 : eAt m ρ c t .a3 = eAt m ρ c t' .a3 := (iblk_1 m ρ c t).trans (iblk_1 m ρ c t').symm
  have e4 : eAt m ρ c t .a4 = eAt m ρ c t' .a4 := (iblk_2 m ρ c t).trans (iblk_2 m ρ c t').symm
  have e5 : eAt m ρ c t .a5 = eAt m ρ c t' .a5 := (iblk_3 m ρ c t).trans (iblk_3 m ρ c t').symm
  have e1 : eAt m ρ c t .a1 = eAt m ρ c t' .a1 := rfl
  have ex : xcV (eAt m ρ c t) = xcV (eAt m ρ c t') := by unfold xcV; rw [e3]
  have ev : v15 (eAt m ρ c t) = v15 (eAt m ρ c t') := by unfold v15; rw [e4]
  have en : NT (eAt m ρ c t) = NT (eAt m ρ c t') := by unfold NT; rw [e1]
  have eX : XC (eAt m ρ c t) = XC (eAt m ρ c t') := by unfold XC; rw [ex, e1]
  have eh : hS (eAt m ρ c t) = hS (eAt m ρ c t') := by unfold hS hpF; rw [e5]
  have eP : PJ (eAt m ρ c t) = PJ (eAt m ρ c t') := by unfold PJ; rw [eX, eh]
  have ep : pF (eAt m ρ c t) = pF (eAt m ρ c t') := by unfold pF; rw [eP]
  exact ⟨by rw [← e2, ← e1]; exact h.x13, by rw [← ex, ← e1]; exact h.x14, by rw [← ev, ← e1]; exact h.q15, h.q16, h.t22,
    fun i hi => by rw [← ep]; exact h.p18 i (by rw [en]; exact hi)⟩

set_option maxHeartbeats 1600000 in
/-- The body's run at a point is what the pipeline asks of it. -/
theorem body_obligation (hL : LensOK (V m ρ (0 : Fin 1) main_arg7)) (c : Dev nD) :
    BodyObligation (dats m ρ 0 c) (defs₀ (F := F)) 𝒱₀ () Set.univ := fun t => by
  have hprog : (defs₀ (F := F)) .tc (cfgA m ρ).body ((cfgA m ρ).bodyArgs t ((cfgA m ρ).slots t))
      = body (Mt ((cfgA m ρ).slots t)) (hMt _) (grid0.coords t) := body_eq (M := Mt ((cfgA m ρ).slots t)) (hM := hMt _) (grid0.coords t)
  have hidle : ∀ w i, (cfgA m ρ).idle w i = false := fun _ _ => rfl
  rw [hprog, bigSep_W0, bigSep_W0]
  simp only [hidle]
  rw [show (dats m ρ 0 c).Φ t.castSucc = PhiN m ρ c t.val from rfl, show (dats m ρ 0 c).Φ t.succ = PhiN m ρ c (t.val + 1) from rfl]
  unfold PhiN Dat.owesAt Pipeline.owesWithin
  rw [show (dats m ρ 0 c).owed t.castSucc = 0 from rfl, show (dats m ρ 0 c).owed t.succ = 0 from rfl]
  iintro ⟨⟨%s, %hs, H1, H13, H14, H15, H16, H17, H18, H19, H20, H21, H22⟩, ⟨%W, %hW, HO⟩, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩⟩
  let s1 : S F := fun
    | .a1 => s .a1
    | .a2 => (dats m ρ 0 c).before 0 t d0 | .a3 => (dats m ρ 0 c).before 1 t d1 | .a4 => (dats m ρ 0 c).before 2 t d2
    | .a5 => (dats m ρ 0 c).before 3 t d3 | .a6 => (dats m ρ 0 c).before 4 t d4 | .a7 => (dats m ρ 0 c).before 5 t d5
    | .a8 => (dats m ρ 0 c).before 6 t d6 | .a9 => (dats m ρ 0 c).before 7 t d7 | .a10 => (dats m ρ 0 c).before 8 t d8
    | .a11 => (dats m ρ 0 c).before 9 t d9 | .a12 => (dats m ρ 0 c).before 10 t d10 | .a13 => s .a13 | .a14 => s .a14
    | .a15 => s .a15 | .a16 => s .a16 | .a17 => s .a17 | .a18 => s .a18 | .a19 => s .a19
    | .a20 => s .a20 | .a21 => s .a21 | .a22 => s .a22
  have hi : Inp (eAt m ρ c t) s1 := by
    intro j hj
    match j with
    | .a1 => exact hs.1
    | .a2 => exact before_0 m ρ c t d0
    | .a3 => exact before_1 m ρ c t d1
    | .a4 => exact before_2 m ρ c t d2
    | .a5 => exact before_3 m ρ c t d3
    | .a6 => exact before_4 m ρ c t d4
    | .a7 => exact before_5 m ρ c t d5
    | .a8 => exact before_6 m ρ c t d6
  have hc : k0_cond1 (grid0.coords t) = 1#1 ∨ Sc (eAt m ρ c t) s1 := by
    rcases hs.2 with h0 | h
    · left
      have : t = t0_0 := Fin.ext h0
      subst this
      decide
    · right
      exact (Sc_pt m ρ h).of fun j hj => by cases j <;> first | rfl | exact absurd hj (by decide)
  have hT := body_T (U := UU nD τ) (M := Mt ((cfgA m ρ).slots t)) (hM := hMt _) (q := fun _ => fullShare) (c := c) (defs := defs₀ (F := F)) (𝒱 := 𝒱₀) (bd := none)
    (i := grid0.coords t) (s := s1) (fun _ _ => rfl) (show LensOK (eAt m ρ c t .a1) from hL) hi hc
  unfold Lsq.T at hT
  rw [own_eq] at hT
  simp only [own_eq] at hT
  iapply (wp_wand_r Idealize.ShloMosaic.frame (wpE (defs₀ (F := F)) 𝒱₀ (c : Thread nD τ) none) Set.univ)
  isplitr [HO]
  · iapply hT
    isplitl [H1]; · iexact H1
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro %_ ⟨%s', %hP, H1, W0, W1, W2, W3, W4, W5, W6, W7, W8, W9, W10, H13, H14, H15, H16, H17, H18, H19, H20, H21, H22⟩
    isplitl [H1 H13 H14 H15 H16 H17 H18 H19 H20 H21 H22]
    · iexists s'
      isplitr
      · ipureintro
        exact ⟨hP.inp .a1 rfl, .inr (Sc_pt m ρ hP.sc)⟩
      isplitl [H1]; · iexact H1
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      iexact H22
    isplitl [HO]
    · iexists W; isplitr; · ipureintro; exact fun _ _ => Or.inl trivial
      iexact HO
    rw [show s' .a2 = (dats m ρ 0 c).after 0 t from hP.inp .a2 rfl]
    rw [show s' .a3 = (dats m ρ 0 c).after 1 t from hP.inp .a3 rfl]
    rw [show s' .a4 = (dats m ρ 0 c).after 2 t from hP.inp .a4 rfl]
    rw [show s' .a5 = (dats m ρ 0 c).after 3 t from hP.inp .a5 rfl]
    rw [show s' .a6 = (dats m ρ 0 c).after 4 t from hP.inp .a6 rfl]
    rw [show s' .a7 = (dats m ρ 0 c).after 5 t from hP.inp .a7 rfl]
    rw [show s' .a8 = (dats m ρ 0 c).after 6 t from hP.inp .a8 rfl]
    rw [show s' .a9 = (dats m ρ 0 c).after 7 t from hP.wc]
    rw [show s' .a10 = (dats m ρ 0 c).after 8 t from hP.lb]
    rw [show s' .a11 = (dats m ρ 0 c).after 9 t from hP.la]
    rw [show s' .a12 = (dats m ρ 0 c).after 10 t from hP.dw]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    iexact W10

/-! ## The launch -/

/-- The kernel has no semaphore of its own. -/
abbrev osem : Fin 0 → SemLoc sig := fun k => k.elim0
theorem ownSemFacts : Pipeline.OwnSemFacts spec0 osem := by decide

/-- The launch element. -/
def u₀ : UU nD τ := (initOf (Pipeline.cells (Pipeline.pin (pcfgs (F := F)) (adm m ρ)) (cellOf_inj (adm m ρ))) (Pipeline.launchToks (Pipeline.pin (pcfgs (F := F)) (adm m ρ)) (cellOf_inj (adm m ρ))), 1)

/-- An array's contents after the run. -/
def finalA (c : Dev nD) (w : Fin 11) : Buf (Elt F) ((c : Thread nD τ).loc (Pipeline.arrRef spec0 w)) := (dats m ρ 0 c).arrAt w grid0.N

/-- What the run leaves: the windows' arrays, and the buffers no window is on as launched. -/
def QC : PUnit × MemSt nD τ sig (Elt F) → Prop := fun r =>
  ∀ c : Dev nD, (∀ w : Fin 11, r.2.mem ((c : Thread nD τ).loc (Pipeline.arrRef spec0 w)) = finalA m ρ c w)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg7) = m ((c : Thread nD τ).loc main_arg7)

/-- No core owes another anything: no level is assigned. -/
abbrev L : GSem nD τ sig → Finset Unit := fun _ => ∅
abbrev lv : GSem nD τ sig → Unit → ℕ := fun _ _ => 0

/-- What rides beside the buffers through the host operations. -/
abbrev R (c : Dev nD) : sProp 𝕄 := iprop(∃ W, owes (c : Thread nD τ) (0 : CellTallies nD τ sig Unit) W)

/-- The reshapes over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m ρ) R

/-- The table of lengths, held. -/
abbrev tbl (c : Dev nD) : sProp 𝕄 := ((c : Thread nD τ).loc main_arg7) ↦{fullShare} V m ρ c main_arg7

/-- What the call leaves for the end. -/
abbrev Tₙ (c : Dev nD) : sProp 𝕄 :=
  iprop((dats m ρ 0 c).arrays ((dats m ρ 0 c).arrAt · grid0.N) ∗ (((c : Thread nD τ).loc main_arg0) ↦{fullShare} V m ρ c main_arg0)
    ∗ (((c : Thread nD τ).loc main_arg1) ↦{fullShare} V m ρ c main_arg1) ∗ tbl m ρ c)

theorem dev0 (c : Dev nD) : c = (0 : Fin 1) := Subsingleton.elim (α := Fin 1) c 0

omit [FloatOps F] in
/-- The table held, as the pipeline hands it. -/
theorem prefHeld_one (c : Dev nD) (q : Fin 1 → PosShare TreeShare) (v : pre0.Contents (Elt F)) :
    (Pipeline.prefHeld pre0 c q v : sProp 𝕄) = (((c : Thread nD τ).loc main_arg7) ↦{q 0} (show Buf (Elt F) ((c : Thread nD τ).loc main_arg7) from v 0)) := by
  unfold Pipeline.prefHeld
  rw [show (Finset.univ : Finset (Fin 1)) = {0} from rfl, bigSep_singleton]
  rfl

-- entailments over a configuration pinned at the table unify by unfolding plain definitions in a metavariable's type
set_option backward.isDefEq.respectTransparency.types false in
/-- The call: entered from what the reshapes left, left with the arrays at their final contents. -/
def reg0 (hL : LensOK (V m ρ (0 : Fin 1) main_arg7)) : Pipeline.RegionSeg (pcfgs (F := F)) (adm m ρ) (dats m ρ) () defs₀ 𝒱₀ L lv 0 where
  win := winFacts0.to₀
  block_pos := block_pos0
  stage_whole := stage_whole0
  K := Fin 0
  osem := osem
  ho := ownSemFacts
  hbody c := (body_obligation m ρ hL c).loose
  hwaits := Pipeline.hwaits_of_owed_zero _ _ _ _ L lv 0 fun _ _ => rfl
  pre c := iprop(StableHlo.held (c : Thread nD τ) ucRefs (StableHlo.after hostOps0 (V₀ m ρ c)) ∗ R c)
  post c := iprop(Tₙ m ρ c ∗ R c)
  X c := iprop(emp)
  Y c := tbl m ρ c
  Z c := iprop((((c : Thread nD τ).loc main_arg0) ↦{fullShare} V m ρ c main_arg0) ∗ (((c : Thread nD τ).loc main_arg1) ↦{fullShare} V m ρ c main_arg1))
  hentry c := by
    rw [show StableHlo.held (c : Thread nD τ) ucRefs (StableHlo.after hostOps0 (V₀ m ρ c)) = unscopedBufs c (V m ρ c) from (unscopedBufs_held c _).symm]
    have hsplit := ((Pipeline.arrays_of_unscopedBufs (pcfgs (F := F)) (adm m ρ) (dats m ρ) winFacts0 arr_whole0 c
      ((dats m ρ 0 c).share_full fun _ => rfl) (V m ρ c) (A_eq m ρ c)).trans (sep_mono .rfl (Entails.of_eq (Pipeline.unscopedRest_split preFacts0 c (V m ρ c))))).trans
        (sep_mono .rfl (sep_mono .rfl (Entails.of_eq (unscopedRestP0_eq c (V m ρ c)))))
    iintro ⟨⟨Hub, HO⟩, -, -⟩
    ihave H := hsplit $$ Hub
    icases H with ⟨Ha, Ht, Hz⟩
    imodintro
    isplitl [Ha]; · iexact Ha
    isplitl [Ht]
    · obtain rfl := dev0 c
      iexact Ht
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m ρ 0 c).Φ 0 = PhiN m ρ c 0 from rfl]; unfold PhiN
    rw [show (Pipeline.scopedRest (Ix := Unit) (Name := ℕ) (U := UU nD τ) (Lvl := ℕ) (Val := Elt F) (pcfgs (F := F) 0).spec c : sProp 𝕄) = _ from scopedRest0_eq c]
    rw [show (Pipeline.prefHeld (pcfgs (F := F) 0).pre c (fun _ => fullShare) (adm m ρ 0).1 : sProp 𝕄) = _ from prefHeld_one c _ _]
    simp only [owns_whole_eq]
    iintro ⟨-, Ht, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩⟩
    iexists (fun | .a1 => V m ρ (0 : Fin 1) main_arg7 | .a13 => f13 | .a14 => f14 | .a15 => f15 | .a16 => f16 | .a17 => f17 | .a18 => f18 | .a19 => f19 | .a20 => f20 | .a21 => f21 | .a22 => f22 | j => eAt m ρ c t0_0 j : S F)
    isplitr; · ipureintro; exact ⟨rfl, .inl trivial⟩
    isplitl [Ht]
    · iexists _; isplitr; swap; (· iexact Ht); ipureintro; rfl
    isplitl [H13]; · iexists _; isplitr; swap; (· iexact H13); ipureintro; rfl
    isplitl [H14]; · iexists _; isplitr; swap; (· iexact H14); ipureintro; rfl
    isplitl [H15]; · iexists _; isplitr; swap; (· iexact H15); ipureintro; rfl
    isplitl [H16]; · iexists _; isplitr; swap; (· iexact H16); ipureintro; rfl
    isplitl [H17]; · iexists _; isplitr; swap; (· iexact H17); ipureintro; rfl
    isplitl [H18]; · iexists _; isplitr; swap; (· iexact H18); ipureintro; rfl
    isplitl [H19]; · iexists _; isplitr; swap; (· iexact H19); ipureintro; rfl
    isplitl [H20]; · iexists _; isplitr; swap; (· iexact H20); ipureintro; rfl
    isplitl [H21]; · iexists _; isplitr; swap; (· iexact H21); ipureintro; rfl
    iexists _; isplitr; swap; (· iexact H22); ipureintro; rfl
  hout c := by
    rw [show (dats m ρ 0 c).Φ (Fin.last _) = PhiN m ρ c 8 from rfl]; unfold PhiN
    rw [show (Pipeline.scopedRest (Ix := Unit) (Name := ℕ) (U := UU nD τ) (Lvl := ℕ) (Val := Elt F) (pcfgs (F := F) 0).spec c : sProp 𝕄) = _ from scopedRest0_eq c]
    simp only [owns_whole_eq]
    iintro ⟨%s, %hs, ⟨%g1, %h1, Ht⟩, ⟨%g13, %h13, H13⟩, ⟨%g14, %h14, H14⟩, ⟨%g15, %h15, H15⟩, ⟨%g16, %h16, H16⟩, ⟨%g17, %h17, H17⟩, ⟨%g18, %h18, H18⟩, ⟨%g19, %h19, H19⟩, ⟨%g20, %h20, H20⟩, ⟨%g21, %h21, H21⟩, ⟨%g22, %h22, H22⟩⟩
    isplitl [Ht]
    · rw [h1, hs.1]
      obtain rfl := dev0 c
      iexact Ht
    isplitr
    · unfold Pipeline.ownSems0; rw [show (Finset.univ : Finset (Fin 0)) = ∅ from rfl, BI.bigSep_empty]; iempintro
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  hexit c := by
    iintro ⟨Ha, HO, HY, ⟨H0, H1⟩⟩
    imodintro
    isplitr [HO]
    · isplitl [Ha]; · iexact Ha
      isplitl [H0]; · iexact H0
      isplitl [H1]; · iexact H1
      iexact HY
    · unfold Pipeline.Dat.owesAt Pipeline.owesWithin
      icases HO with ⟨%W, -, HO⟩; iexists W; iexact HO

/-- The program as its two segments. -/
abbrev segs (hL : LensOK (V m ρ (0 : Fin 1) main_arg7)) : List (Pipeline.Seg (pcfgs (F := F)) (adm m ρ) (dats m ρ) () defs₀ 𝒱₀ L lv) :=
  [.host (seg0 m ρ), .region (reg0 m ρ hL)]

set_option backward.isDefEq.respectTransparency.types false in
/-- Every execution terminates without a fault, leaves the windows' arrays at what the pipeline computes, the other
    arguments as launched, and every semaphore counter at zero. -/
theorem run_main (hL : LensOK (V m ρ (0 : Fin 1) main_arg7)) :
    θ_run defs (onTc (τ := τ) (main (F := F))) (s₀ m ρ) (fun r => QC m ρ r ∧ r.2.sem = fun _ => 0) :=
  Pipeline.θ_run_regions_kit_sems (pcfgs (F := F)) (adm m ρ) (dats m ρ) () (cellOf_inj (adm m ρ)) EP defs₀ 𝒱₀ L lv m ρ main (segs m ρ hL)
    (fun c Q => by rw [main_segs (adm m ρ) (dats m ρ) () 𝒱₀ L lv (seg0 m ρ) (reg0 m ρ hL) rfl c])
    (by simp only [Pipeline.Seg.pipes_host, Pipeline.Seg.pipes_region, Pipeline.Seg.pipes_nil]; decide) (O₀ := 0) (hL := fun _ _ => rfl) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m ρ c) from unscopedBufs_held c (V₀ m ρ c)]
      iintro ⟨⟨Hh, -, HO, -, -, -⟩, -⟩
      imodintro
      isplitl [Hh]; · iexact Hh
      iexists ∅; iexact HO)
    (QY := fun c s => (∀ w : Fin 11, s.mem ((c : Thread nD τ).loc (Pipeline.arrRef spec0 w)) = finalA m ρ c w)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg7) = m ((c : Thread nD τ).loc main_arg7))
    (hfin := fun c s' => by
      dsimp only [Tₙ, tbl]; rw [V_kept m ρ c main_arg0 (by decide), V_kept m ρ c main_arg1 (by decide), V_kept m ρ c main_arg7 (by decide)]
      iintro ⟨⟨Ha, H0, H1, H7⟩, HSI⟩
      icombine HSI H0 gives %h0
      icombine HSI H1 gives %h1
      icombine HSI H7 gives %h7
      ihave Hr := (Pipeline.arrays_read (pcfgs (F := F)) (adm m ρ) (dats m ρ) arr_whole0 c ((dats m ρ 0 c).share_full fun _ => rfl) _ s') $$ [Ha HSI]
      · isplitl [Ha] <;> iassumption
      icases Hr with ⟨%ha, HSI⟩
      imodintro
      isplitr; · ipureintro; exact ⟨ha, Buf.eq_of_forall_mem_univ h0, Buf.eq_of_forall_mem_univ h1, Buf.eq_of_forall_mem_univ h7⟩
      iexact HSI)
    (hQ := fun _ h hz => ⟨h, funext fun g => hz g (.inr (by revert g; decide))⟩)

/-- An input window's array ends as it was at the call. -/
theorem finalA_in (c : Dev nD) (w : Fin 11) (hw : (spec0 w).isOut = false) : finalA m ρ c w = V m ρ c (Pipeline.arrRef spec0 w) :=
  ((dats m ρ 0 c).arrAt_in w hw _).trans (A_eq m ρ c w)

/-- Every argument ends as launched. -/
theorem frame_of (r : PUnit × MemSt nD τ sig (Elt F)) (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  obtain ⟨ha, h0, h1, h7⟩ := h c
  exact ⟨h0, h1,
    ((ha 2).trans (finalA_in m ρ c 2 rfl)).trans (V_kept m ρ c main_arg2 (by decide)),
    ((ha 4).trans (finalA_in m ρ c 4 rfl)).trans (V_kept m ρ c main_arg3 (by decide)),
    ((ha 5).trans (finalA_in m ρ c 5 rfl)).trans (V_kept m ρ c main_arg4 (by decide)),
    ((ha 6).trans (finalA_in m ρ c 6 rfl)).trans (V_kept m ρ c main_arg5 (by decide)),
    ((ha 3).trans (finalA_in m ρ c 3 rfl)).trans (V_kept m ρ c main_arg6 (by decide)), h7⟩

end Cert.Proof.LsqK

end
-- ==== Proof.IdealMath.lean ====
/-
  Sums over the packed rows are sums over the valid tokens.
-/
module

public import proofs.«01_k».proof.Proof.Spec
public import Mathlib.Data.EReal.Operations
public import Mathlib.Algebra.BigOperators.Intervals

@[expose] public section

noncomputable section

namespace Cert.Proof.Lsq

open Idealize.ShloMosaic
open Cert.KernelIdeal Cert.KernelIdeal.Gen

variable {L : S16.Idx → BitVec 32}

/-- The length of a batch, the start of a batch, the place of a row in its batch, and whether the row is a token. -/
def lnN (L : S16.Idx → BitVec 32) (b : ℕ) : ℕ := (ln L b).toNat
def offN (L : S16.Idx → BitVec 32) (b : ℕ) : ℕ := (off L b).toNat
def posN (L : S16.Idx → BitVec 32) (p : ℕ) : ℕ := p - offN L (bat L p)
def val (L : S16.Idx → BitVec 32) (p : ℕ) : Prop := p < offN L (bat L p) + lnN L (bat L p)
instance (p : ℕ) : Decidable (val L p) := by unfold val; infer_instance

theorem batN_max {b t : ℕ} (h : (off L b).toNat ≤ t) : ∀ k, b ≤ k → b ≤ batN L t k
  | 0, hb => by omega
  | k + 1, hb => by
    unfold batN
    split
    · exact hb
    · rename_i hc
      rcases Nat.eq_or_lt_of_le hb with rfl | h'
      · exact absurd h hc
      · exact batN_max h k (by omega)
/-- No later batch starts at or before a row. -/
theorem bat_max {b t : ℕ} (hb : b ≤ 15) (h : (off L b).toNat ≤ t) : b ≤ bat L t := batN_max h 15 hb

/-- A token row lies before the total offset. -/
theorem val_lt (hL : LensOK L) {p : ℕ} (h : val L p) : p < offN L 16 := by
  have hb := (bat_le (L := L) p).1
  have hs := off_succ hL (b := bat L p) (by omega)
  have hm := off_mono hL (a := bat L p + 1) (b := 16) (by omega) (by omega)
  unfold val offN lnN at h
  unfold offN
  omega

/-- The row of a token: its batch and its place. -/
theorem bat_off (hL : LensOK L) {b t : ℕ} (hb : b < 16) (ht : t < lnN L b) : bat L (offN L b + t) = b := by
  have hs := off_succ hL hb
  unfold lnN at ht
  exact bat_eq hL hb (by unfold offN; omega) (by unfold offN; omega)

/-- A sum over the packed rows that are tokens is the sum over the tokens of the batches. -/
theorem sum_rows {M : Type} [AddCommMonoid M] (hL : LensOK L) (f : ℕ → ℕ → M) {R : ℕ} (hR : offN L 16 ≤ R) :
    (∑ p ∈ Finset.range R, if val L p then f (bat L p) (posN L p) else 0)
      = ∑ b ∈ Finset.range 16, ∑ t ∈ Finset.range 128, if t < lnN L b then f b t else 0 := by
  rw [← Finset.sum_product', ← Finset.sum_filter, ← Finset.sum_filter]
  refine Finset.sum_nbij' (fun p => (bat L p, posN L p)) (fun x => offN L x.1 + x.2) ?_ ?_ ?_ ?_ ?_
  · intro p hp
    simp only [Finset.mem_filter, Finset.mem_product, Finset.mem_range] at hp ⊢
    have hb := bat_le (L := L) p
    have hn := hL (bat L p)
    have hv := hp.2
    unfold val at hv
    unfold posN
    change _ ∧ (offN L (bat L p)) ≤ p at hb
    change lnN L (bat L p) ≤ 128 at hn
    omega
  · rintro ⟨b, t⟩ hx
    simp only [Finset.mem_filter, Finset.mem_product, Finset.mem_range] at hx ⊢
    have hv : val L (offN L b + t) := by unfold val; rw [bat_off hL hx.1.1 hx.2]; omega
    exact ⟨lt_of_lt_of_le (val_lt hL hv) hR, hv⟩
  · intro p hp
    have hb := (bat_le (L := L) p).2
    change offN L (bat L p) ≤ p at hb
    show offN L (bat L p) + (p - offN L (bat L p)) = p
    omega
  · rintro ⟨b, t⟩ hx
    simp only [Finset.mem_filter, Finset.mem_product, Finset.mem_range] at hx
    have e := bat_off hL hx.1.1 hx.2
    show (bat L (offN L b + t), posN L (offN L b + t)) = (b, t)
    unfold posN
    rw [e]
    simp
  · intro p _; rfl

/-- The rows of the tiles reach past the total offset. -/
theorem rows_le (hL : LensOK L) : offN L 16 ≤ 256 * (tilesW (off L 16)).toNat := by
  rw [tiles_eq (off_le' hL (by omega))]; unfold offN; omega
theorem tiles_le8 (hL : LensOK L) : (tilesW (off L 16)).toNat ≤ 8 := by
  have := off_le' hL (b := 16) (by omega)
  rw [tiles_eq this]; omega

/-- A sum over the rows of the first tiles, tile by tile. -/
theorem sum_tile {M : Type} [AddCommMonoid M] (g : ℕ → M) (k : ℕ) :
    (∑ p ∈ Finset.range (256 * (k + 1)), g p) = (∑ p ∈ Finset.range (256 * k), g p) + ∑ i ∈ Finset.range 256, g (256 * k + i) := by
  rw [show 256 * (k + 1) = 256 * k + 256 by omega, Finset.sum_range_add]

/-- A sum over the token rows, batch by batch. -/
theorem sum_flat {M : Type} [AddCommMonoid M] (g : ℕ → M) : ∀ B : ℕ,
    (∑ r ∈ Finset.range (128 * B), g r) = ∑ b ∈ Finset.range B, ∑ t ∈ Finset.range 128, g (128 * b + t)
  | 0 => rfl
  | B + 1 => by rw [show 128 * (B + 1) = 128 * B + 128 by omega, Finset.sum_range_add, sum_flat g B]; exact (Finset.sum_range_succ (fun b => ∑ t ∈ Finset.range 128, g (128 * b + t)) B).symm

/-! ## The signed codes -/

/-- The low and the high half of a byte as a signed number of four bits. -/
def cLo (x : BitVec 8) : ℤ := (Scalar.select (IntOp.cmpi .sge (IntOp.andi (BitVec.setWidth 32 x) 15#32) 8#32) (IntOp.subi (IntOp.andi (BitVec.setWidth 32 x) 15#32) 16#32) (IntOp.andi (BitVec.setWidth 32 x) 15#32)).toInt
def cHi (x : BitVec 8) : ℤ := (Scalar.select (IntOp.cmpi .sge (IntOp.shrui .vector (BitVec.setWidth 32 x) 4#32) 8#32) (IntOp.subi (IntOp.shrui .vector (BitVec.setWidth 32 x) 4#32) 16#32) (IntOp.shrui .vector (BitVec.setWidth 32 x) 4#32)).toInt
/-- The same in eight bits. -/
theorem cLo8 : ∀ x : BitVec 8, (Scalar.select (IntOp.cmpi .sge (IntOp.andi x 15#8) 8#8) (IntOp.subi (IntOp.andi x 15#8) 16#8) (IntOp.andi x 15#8)).toInt = cLo x := by
  decide +kernel
theorem cHi8 : ∀ x : BitVec 8, (Scalar.select (IntOp.cmpi .sge (BitVec.setWidth 8 (IntOp.shrsi .vector (BitVec.setWidth 32 x) 4#32)) 8#8)
    (IntOp.subi (BitVec.setWidth 8 (IntOp.shrsi .vector (BitVec.setWidth 32 x) 4#32)) 16#8) (BitVec.setWidth 8 (IntOp.shrsi .vector (BitVec.setWidth 32 x) 4#32))).toInt = cHi x := by
  decide +kernel
/-- The dequantised weight: a code's number by its group's scale. -/
def qW (cd : ℕ → ℕ → BitVec 8) (ws : ℕ → ℕ → ℝ) (n k : ℕ) : ℝ :=
  (if k < 512 then (cLo (cd n k) : ℝ) else (cHi (cd n (k - 512)) : ℝ)) * ws n (k / 128)

/-- A place below a length of at most 128, compared as words. -/
theorem sel_lt {α : Type} {t : ℕ} (ht : t < 128) {l : BitVec 32} (hl : l.toNat ≤ 128) (u v : α) :
    Scalar.select (IntOp.cmpi .slt (BitVec.ofNat 32 t) l) u v = if t < l.toNat then u else v := by
  have e : BitVec.slt (BitVec.ofNat 32 t) l = decide (t < l.toNat) := by
    unfold BitVec.slt
    rw [BitVec.toInt_eq_toNat_of_lt (by rw [BitVec.toNat_ofNat]; omega), BitVec.toInt_eq_toNat_of_lt (by omega), BitVec.toNat_ofNat, Nat.mod_eq_of_lt (by omega)]
    exact decide_eq_decide.mpr Int.ofNat_lt
  unfold Scalar.select IntOp.cmpi
  simp only [e]
  by_cases h : t < l.toNat <;> simp [h]

/-- A sum of real numbers as a sum of extended reals. -/
theorem coe_sum {ι : Type} (s : Finset ι) (f : ι → ℝ) : ((∑ i ∈ s, f i : ℝ) : EReal) = ∑ i ∈ s, (f i : EReal) :=
  map_sum (⟨⟨Real.toEReal, rfl⟩, fun _ _ => rfl⟩ : ℝ →+ EReal) f s
/-- A sum of products of finite values. -/
theorem sum_mul_coe (n : ℕ) (f g : ℕ → ℝ) (F G : Fin n → EReal) (hF : ∀ k, F k = (f k.val : ℝ)) (hG : ∀ k, G k = (g k.val : ℝ)) :
    ∑ k, F k * G k = ((∑ k ∈ Finset.range n, f k * g k : ℝ) : EReal) := by
  rw [coe_sum, Finset.sum_range]
  exact Finset.sum_congr rfl fun k _ => by rw [hF, hG, EReal.coe_mul]
theorem coe_sum2 (A B : ℕ) (f : ℕ → ℕ → ℝ) : ((∑ a ∈ Finset.range A, ∑ b ∈ Finset.range B, f a b : ℝ) : EReal) = ∑ a ∈ Finset.range A, ∑ b ∈ Finset.range B, (f a b : EReal) := by
  rw [coe_sum]; exact Finset.sum_congr rfl fun a _ => coe_sum _ _
theorem sum_coe (n : ℕ) (f : ℕ → ℝ) (F : Fin n → EReal) (hF : ∀ k, F k = (f k.val : ℝ)) :
    ∑ k, F k = ((∑ k ∈ Finset.range n, f k : ℝ) : EReal) := by
  rw [coe_sum, Finset.sum_range]
  exact Finset.sum_congr rfl fun k _ => hF k

/-! ## The results as real numbers -/

/-- The error of a token at a row of the weights `W`. -/
def rT (x c s w W : ℕ → ℕ → ℝ) (n b t : ℕ) : ℝ :=
  (∑ k ∈ Finset.range 1024, w n k * x (128 * b + t) k) - (∑ k ∈ Finset.range 1024, W n k * c (128 * b + t) k) * s b t
/-- The error of a packed row: that of its token, and zero where there is none. -/
def rP (L : S16.Idx → BitVec 32) (x c s w W : ℕ → ℕ → ℝ) (n p : ℕ) : ℝ :=
  if val L p then rT x c s w W n (bat L p) (posN L p) else 0
/-- The error of a token, zero past its batch's length. -/
def rM (L : S16.Idx → BitVec 32) (x c s w W : ℕ → ℕ → ℝ) (n b t : ℕ) : ℝ := if t < lnN L b then rT x c s w W n b t else 0
/-- The correction, the corrected weights and the sum of the squared errors. -/
def dwS (L : S16.Idx → BitVec 32) (x c s h w q : ℕ → ℕ → ℝ) (n j : ℕ) : ℝ :=
  ∑ k ∈ Finset.range 1024, (∑ r ∈ Finset.range 2048, c r k * (s (r / 128) (r % 128) * rM L x c s w q n (r / 128) (r % 128))) * h j k
def wcS (L : S16.Idx → BitVec 32) (x c s h w q : ℕ → ℕ → ℝ) (n j : ℕ) : ℝ := q n j + dwS L x c s h w q n j
def lossS (L : S16.Idx → BitVec 32) (x c s w W : ℕ → ℕ → ℝ) (n : ℕ) : ℝ :=
  ∑ b ∈ Finset.range 16, ∑ t ∈ Finset.range 128, rM L x c s w W n b t * rM L x c s w W n b t

/-- The correction summed over the packed rows. -/
theorem dw_rows (hL : LensOK L) (x c s h w q : ℕ → ℕ → ℝ) (n j : ℕ) {R : ℕ} (hR : offN L 16 ≤ R) :
    (∑ p ∈ Finset.range R, if val L p then
      (s (bat L p) (posN L p) * rT x c s w q n (bat L p) (posN L p)) * (∑ k ∈ Finset.range 1024, c (128 * bat L p + posN L p) k * h j k) else 0)
      = dwS L x c s h w q n j := by
  rw [sum_rows hL (fun b t => (s b t * rT x c s w q n b t) * (∑ k ∈ Finset.range 1024, c (128 * b + t) k * h j k)) hR]
  unfold dwS
  symm
  simp only [Finset.sum_mul]
  rw [Finset.sum_comm, show (2048 : ℕ) = 128 * 16 from rfl, sum_flat]
  refine Finset.sum_congr rfl fun b _ => Finset.sum_congr rfl fun t ht => ?_
  have h1 : (128 * b + t) / 128 = b := by have := Finset.mem_range.mp ht; omega
  have h2 : (128 * b + t) % 128 = t := by have := Finset.mem_range.mp ht; omega
  rw [h1, h2]
  unfold rM
  split
  · rw [Finset.mul_sum]; exact Finset.sum_congr rfl fun k _ => by ring
  · simp
/-- The squared errors summed over the packed rows. -/
theorem loss_rows (hL : LensOK L) (x c s w W : ℕ → ℕ → ℝ) (n : ℕ) {R : ℕ} (hR : offN L 16 ≤ R) :
    (∑ p ∈ Finset.range R, rP L x c s w W n p * rP L x c s w W n p) = lossS L x c s w W n := by
  have e : ∀ p, rP L x c s w W n p * rP L x c s w W n p = if val L p then rT x c s w W n (bat L p) (posN L p) * rT x c s w W n (bat L p) (posN L p) else 0 := fun p => by
    unfold rP; split <;> simp
  rw [Finset.sum_congr rfl fun p _ => e p, sum_rows hL (fun b t => rT x c s w W n b t * rT x c s w W n b t) hR]
  unfold lossS
  refine Finset.sum_congr rfl fun b _ => Finset.sum_congr rfl fun t _ => ?_
  unfold rM; split <;> simp

end Cert.Proof.Lsq

end
-- ==== Proof.Inputs.lean ====
/-
  The precondition of the value claim, read: the lengths are at most 128 and the float inputs are real numbers.
-/
module

public import proofs.«01_k».proof.Pre_inputs_ok
public import proofs.«01_k».proof.Proof.Pre
public import proofs.«01_k».proof.Proof.IdealMath
public import proofs.«01_k».proof.Proof.Vals
public import Idealize.ShloMosaic.PureOps.Ideal.Laws
public import Idealize.ShloMosaic.Lib.Pointwise
public import Idealize.ShloMosaic.Lib.ReduceAll

@[expose] public section

set_option maxRecDepth 16384

noncomputable section

namespace Cert.Proof.Inp

open Idealize.ShloMosaic Idealize.ShloMosaic.Tactic
open Cert.Pre_inputs_ok

/-- The shape relations the precondition takes. -/
instance facts : Cert.Pre_inputs_ok.Facts where
  bcast_S_S16 := by decide
  bitsLt_bf16_f32 := by decide
  bcast_S_S16x128x1024 := by decide
  reducesTo_S16x128x1024_S_d0_1_2 := by decide
  h_S_ := by decide
  bcast_S_S16x128 := by decide
  reducesTo_S16x128_S_d0_1 := by decide
  bcast_S_S4096x1024 := by decide
  reducesTo_S4096x1024_S_d0_1 := by decide
  bcast_S_S4096x8 := by decide
  reducesTo_S4096x8_S_d0_1 := by decide
  bcast_S_S1024x1024 := by decide
  reducesTo_S1024x1024_S_d0_1 := by decide

/-- The pattern of the positive infinity is the greatest of the extended reals. -/
theorem inf_top : (FloatOps.ofBits .f32 0x7F800000#32 : Ideal .f32) = (⊤ : EReal) := by
  simp [Ideal.ofBits, Ideal.ieee]

/-- A number whose absolute value is below the infinity is a real one. -/
theorem fin_of (a : Ideal .f32) (h : FloatOps.cmpf .olt (FloatOps.hostAbsf a) (FloatOps.ofBits .f32 0x7F800000#32 : Ideal .f32) = 1#1) : (a : EReal) = ((EReal.toReal a : ℝ) : EReal) := by
  rw [inf_top] at h
  have h1 : max (a : EReal) (-a) < ⊤ := by
    by_contra hc
    have : (FloatOps.cmpf .olt (FloatOps.hostAbsf a) (⊤ : EReal) : BitVec 1) = 0#1 := by
      show Ideal.cmp .olt (max (a : EReal) (-a)) ⊤ = 0#1
      unfold Ideal.cmp; simp [hc]
    rw [this] at h; exact absurd h (by decide)
  refine (EReal.coe_toReal (fun e => ?_) (fun e => ?_)).symm
  · rw [e] at h1; simp at h1
  · rw [e] at h1; simp at h1

theorem and_one {a b : BitVec 1} (h : IntOp.andi a b = 1#1) : a = 1#1 ∧ b = 1#1 := by
  revert h; unfold IntOp.andi; revert a b; decide

/-- The reading of the inputs: lengths, real numbers, codes. -/
structure Inputs (A0 : Vec Ideal S16x128x1024 .bf16) (A1 : Vec Ideal S16x128x1024 .i8) (A2 : Vec Ideal S16x128 .f32) (A3 : Vec Ideal S4096x1024 .bf16) (A4 : Vec Ideal S4096x512 .i8)
    (A5 : Vec Ideal S4096x8 .f32) (A6 : Vec Ideal S1024x1024 .f32) (A7 : Vec Ideal S16 .i32) (x c s h w ws : ℕ → ℕ → ℝ) (cd : ℕ → ℕ → BitVec 8) : Prop where
  ok : Cert.Proof.Lsq.LensOK A7
  a0 : ∀ (b : Fin 16) (t : Fin 128) (k : Fin 1024), A0 (ix3 b t k) = (x (128 * b.val + t.val) k.val : EReal)
  a1 : ∀ (b : Fin 16) (t : Fin 128) (k : Fin 1024), (FloatOps.sitofp (F := Ideal) .bf16 (A1 (ix3 b t k)) : EReal) = (c (128 * b.val + t.val) k.val : EReal)
  a2 : ∀ (b : Fin 16) (t : Fin 128), A2 (ix2 b t) = (s b.val t.val : EReal)
  a3 : ∀ (n : Fin 4096) (k : Fin 1024), A3 (ix2 n k) = (w n.val k.val : EReal)
  a4 : ∀ (n : Fin 4096) (k : Fin 512), A4 (ix2 n k) = cd n.val k.val
  a5 : ∀ (n : Fin 4096) (g : Fin 8), A5 (ix2 n g) = (ws n.val g.val : EReal)
  a6 : ∀ (j k : Fin 1024), A6 (ix2 j k) = (h j.val k.val : EReal)

/-- An array of two axes at a pair of numbers, `d` outside of it. -/
def at2 {α : Type} {a b : ℕ} (d : α) (f : Fin a → Fin b → α) (i j : ℕ) : α := if h : i < a ∧ j < b then f ⟨i, h.1⟩ ⟨j, h.2⟩ else d

theorem at2_val {α : Type} {a b : ℕ} (d : α) (f : Fin a → Fin b → α) (i : Fin a) (j : Fin b) : at2 d f i.val j.val = f i j := by
  unfold at2; rw [dif_pos ⟨i.isLt, j.isLt⟩]

/-- The row number of a batch entry's token, taken apart. -/
theorem row_apart {α : Type} {k : ℕ} (d : α) (f : Fin 16 → Fin 128 → Fin k → α) (b : Fin 16) (t : Fin 128) (j : Fin k) :
    at2 d (fun (r : Fin 2048) => f ⟨r.val / 128, by omega⟩ ⟨r.val % 128, by omega⟩) (128 * b.val + t.val) j.val = f b t j := by
  refine (at2_val d (fun (r : Fin 2048) => f ⟨r.val / 128, by omega⟩ ⟨r.val % 128, by omega⟩) ⟨128 * b.val + t.val, by omega⟩ j).trans ?_
  have h1 : (⟨(128 * b.val + t.val) / 128, by omega⟩ : Fin 16) = b := Fin.ext (by simp only []; omega)
  have h2 : (⟨(128 * b.val + t.val) % 128, by omega⟩ : Fin 128) = t := Fin.ext (by simp only []; omega)
  show f ⟨(128 * b.val + t.val) / 128, _⟩ ⟨(128 * b.val + t.val) % 128, _⟩ j = _
  rw [h1, h2]

instance : Subsingleton S_.Idx := ⟨fun a b => funext fun i => i.elim0⟩

theorem inputs_of (A0 : Vec Ideal S16x128x1024 .bf16) (A1 : Vec Ideal S16x128x1024 .i8) (A2 : Vec Ideal S16x128 .f32) (A3 : Vec Ideal S4096x1024 .bf16) (A4 : Vec Ideal S4096x512 .i8)
    (A5 : Vec Ideal S4096x8 .f32) (A6 : Vec Ideal S1024x1024 .f32) (A7 : Vec Ideal S16 .i32) (hp : Cert.Pre_inputs_ok.fn (F := Ideal) A0 A1 A2 A3 A4 A5 A6 A7 = fun _ => 1#1) :
    ∃ (x c s h w ws : ℕ → ℕ → ℝ) (cd : ℕ → ℕ → BitVec 8), Inputs A0 A1 A2 A3 A4 A5 A6 A7 x c s h w ws cd := by
  have key : ∀ b : Fin 16, _ := fun b => congrFun hp (ix1 b)
  unfold fn fn_part1 fn_part2 at key
  have e5 := fun b => (and_one (key b)).2
  have k4 := fun b => (and_one (key b)).1
  have e4 := fun b => (and_one (k4 b)).2
  have k3 := fun b => (and_one (k4 b)).1
  have e3 := fun b => (and_one (k3 b)).2
  have k2 := fun b => (and_one (k3 b)).1
  have e2 := fun b => (and_one (k2 b)).2
  have k1 := fun b => (and_one (k2 b)).1
  have e1 := fun b => (and_one (k1 b)).2
  have k0 := fun b => (and_one (k1 b)).1
  have f0 : ∀ i, (A0 i : EReal) = ((EReal.toReal (A0 i) : ℝ) : EReal) := fun i => fin_of (A0 i) (Host.reduce_andi_all _ _ _ _ _ (e1 0) i)
  have f2 : ∀ i, (A2 i : EReal) = ((EReal.toReal (A2 i) : ℝ) : EReal) := fun i => fin_of (A2 i) (Host.reduce_andi_all _ _ _ _ _ (e2 0) i)
  have f3 : ∀ i, (A3 i : EReal) = ((EReal.toReal (A3 i) : ℝ) : EReal) := fun i => fin_of (A3 i) (Host.reduce_andi_all _ _ _ _ _ (e3 0) i)
  have f5 : ∀ i, (A5 i : EReal) = ((EReal.toReal (A5 i) : ℝ) : EReal) := fun i => fin_of (A5 i) (Host.reduce_andi_all _ _ _ _ _ (e4 0) i)
  have f6 : ∀ i, (A6 i : EReal) = ((EReal.toReal (A6 i) : ℝ) : EReal) := fun i => fin_of (A6 i) (Host.reduce_andi_all _ _ _ _ _ (e5 0) i)
  refine ⟨at2 0 fun (r : Fin 2048) (k : Fin 1024) => (fun b t k => EReal.toReal (A0 (ix3 b t k))) ⟨r.val / 128, by omega⟩ ⟨r.val % 128, by omega⟩ k,
    at2 0 fun (r : Fin 2048) (k : Fin 1024) => (fun b t k => (((A1 (ix3 b t k) : BitVec 8).toInt : ℤ) : ℝ)) ⟨r.val / 128, by omega⟩ ⟨r.val % 128, by omega⟩ k,
    at2 0 fun (b : Fin 16) (t : Fin 128) => EReal.toReal (A2 (ix2 b t)),
    at2 0 fun (j : Fin 1024) (k : Fin 1024) => EReal.toReal (A6 (ix2 j k)),
    at2 0 fun (n : Fin 4096) (k : Fin 1024) => EReal.toReal (A3 (ix2 n k)),
    at2 0 fun (n : Fin 4096) (g : Fin 8) => EReal.toReal (A5 (ix2 n g)),
    at2 0 fun (n : Fin 4096) (k : Fin 512) => (A4 (ix2 n k) : BitVec 8), ⟨?_, ?_, ?_, ?_, ?_, ?_, ?_, ?_⟩⟩
  · exact fun b => Cert.Proof.Lsq.word_le (k0 _)
  · intro b t k
    rw [row_apart (0 : ℝ) (fun b t k => EReal.toReal (A0 (ix3 b t k)))]; exact f0 _
  · intro b t k
    rw [row_apart (0 : ℝ) (fun b t k => (((A1 (ix3 b t k) : BitVec 8).toInt : ℤ) : ℝ))]; rfl
  · intro b t; rw [at2_val]; exact f2 _
  · intro n k; rw [at2_val]; exact f3 _
  · intro n k; rw [at2_val]
  · intro n k; rw [at2_val]; exact f5 _
  · intro n k; rw [at2_val]; exact f6 _

/-! ## The results -/

open Cert.Proof.Lsq (dwS wcS lossS lenS)

/-- The corrected weights, the correction and the losses, as arrays. -/
def vWC (L : S16.Idx → BitVec 32) (x c s h w q : ℕ → ℕ → ℝ) : S4096x1024.Idx → EReal := fun i => (wcS L x c s h w q (i 0).val (i 1).val : EReal)
def vDW (L : S16.Idx → BitVec 32) (x c s h w q : ℕ → ℕ → ℝ) : S4096x1024.Idx → EReal := fun i => (dwS L x c s h w q (i 0).val (i 1).val : EReal)
def vL (L : S16.Idx → BitVec 32) (x c s w W : ℕ → ℕ → ℝ) : (⟨3, ![8, 1, 512]⟩ : Shape).Idx → EReal := fun i =>
  Ideal.div (lossS L x c s w W (512 * (i 0).val + (i 2).val) : EReal) (Scalar.sitofp (F := Ideal) .f32 (lenS L))

end Cert.Proof.Inp

end
-- ==== Proof.IdealKer.lean ====
/-
  The values of a block at the extended reals, where every operand is finite: each is a real number, and a format change
  changes nothing.
-/
module

public import proofs.«01_k».proof.Proof.Vals
public import proofs.«01_k».proof.Proof.IdealMath
public import Idealize.ShloMosaic.PureOps.Ideal.Laws
public import Idealize.ShloMosaic.Lib.Pointwise

@[expose] public section

set_option maxRecDepth 16384

noncomputable section

namespace Cert.Proof.Lsq

open Idealize.ShloMosaic Idealize.ShloMosaic.TcCoe Idealize.ShloMosaic.Tactic
open Cert.KernelIdeal Cert.KernelIdeal.Gen

theorem mmV_at (w : FVec Ideal S512x1024 .bf16) (t : FVec Ideal S256x1024 .bf16) (n : Fin 512) (i : Fin 256) :
    mmV w t (ix2 n i) = ∑ k : Fin 1024, w (ix2 n k) * t (ix2 i k) := by
  pointwise [mmV]

theorem resV_at (y d : FVec Ideal S512x256 .f32) (sc mk : FVec Ideal S1x256 .f32) (n : Fin 512) (i : Fin 256) :
    resV y d sc mk (ix2 n i) = if 0 < mk (ix2 0 i) then y (ix2 n i) - d (ix2 n i) * sc (ix2 0 i) else 0 := by
  pointwise [resV]

theorem accV_at (o : FVec Ideal S1x512x128 .f32) (r : FVec Ideal S512x256 .f32) (n : Fin 512) (l : Fin 128) :
    accV o r (ix3 0 n l) = o (ix3 0 n l) + (r (ix2 n ⟨l.val, by omega⟩) * r (ix2 n ⟨l.val, by omega⟩) + r (ix2 n ⟨128 + l.val, by omega⟩) * r (ix2 n ⟨128 + l.val, by omega⟩)) := by
  pointwise [accV]

theorem lossV_at (a : FVec Ideal S1x512x128 .f32) (c : Ideal .f32) (n : Fin 512) :
    lossV a c (ix3 0 0 n) = FloatOps.divf (∑ l : Fin 128, a (ix3 0 n l)) c := by
  pointwise [lossV]

theorem projV_at (t : FVec Ideal S256x1024 .bf16) (h0 h1 h2 : Vec Ideal S1x1024x1024 .bf16) (i : Fin 256) (j : Fin 1024) :
    projV t h0 h1 h2 (ix2 i j) = (∑ k : Fin 1024, t (ix2 i k) * h0 (ix3 0 j k)) + (∑ k : Fin 1024, t (ix2 i k) * h1 (ix3 0 j k)) + ∑ k : Fin 1024, t (ix2 i k) * h2 (ix3 0 j k) := by
  pointwise [projV]

theorem mpV_at (r : FVec Ideal S512x256 .bf16) (p : FVec Ideal S1x1x256x1024 .bf16) (n : Fin 512) (j : Fin 1024) :
    mpV r p (ix2 n j) = ∑ i : Fin 256, r (ix2 n i) * p (ix4 0 0 i j) := by
  pointwise [mpV]

theorem rsV_at (sc : FVec Ideal S1x256 .f32) (r : FVec Ideal S512x256 .f32) (n : Fin 512) (i : Fin 256) :
    rsV sc r (ix2 n i) = sc (ix2 0 i) * r (ix2 n i) := by
  pointwise [rsV]

theorem wcV_at (wq : FVec Ideal S512x1024 .bf16) (dw : FVec Ideal S512x1024 .f32) (n : Fin 512) (j : Fin 1024) :
    wcV wq dw (ix2 n j) = wq (ix2 n j) + dw (ix2 n j) := by
  pointwise [wcV]

theorem zb_eq : (zb : Ideal .bf16) = 0 := IdealRules.sign_bit.ideal_zero .bf16
theorem zf_eq : (zf : Ideal .f32) = 0 := IdealRules.sign_bit.ideal_zero .f32
theorem of1_eq : (of1 : Ideal .f32) = 1 := IdealRules.sign_bit.ideal_onePat .f32

/-- The operands of a block are the real arrays named here: the tokens, exact and quantised, the scales, the inverse
    Hessian, the block's weights and its dequantised weights. -/
structure RealOps (e : S Ideal) (L : S16.Idx → BitVec 32) (x c s h w q : ℕ → ℕ → ℝ) : Prop where
  a1 : e .a1 = L
  ok : LensOK L
  a2 : ∀ (i : Fin 2048) (k : Fin 1024), (e .a2 : FVec Ideal S2048x1024 .bf16) (ix2 i k) = (x i.val k.val : EReal)
  a3 : ∀ (i : Fin 2048) (k : Fin 1024), xcV e (ix2 i k) = (c i.val k.val : EReal)
  a4 : ∀ (b : Fin 16) (t : Fin 128), (e .a4 : FVec Ideal S16x128 .f32) (ix2 b t) = (s b.val t.val : EReal)
  a5 : ∀ (j k : Fin 1024), (e .a5 : FVec Ideal S1024x1024 .f32) (ix2 j k) = (h j.val k.val : EReal)
  a6 : ∀ (n : Fin 512) (k : Fin 1024), (e .a6 : FVec Ideal S512x1024 .bf16) (ix2 n k) = (w n.val k.val : EReal)
  wq : ∀ (n : Fin 512) (k : Fin 1024), WQ e (ix2 n k) = (q n.val k.val : EReal)

/-- A packed row: the token's row, and zero past the last batch. -/
def pkR (L : S16.Idx → BitVec 32) (x : ℕ → ℕ → ℝ) (p k : ℕ) : ℝ := if p < offN L 16 then x (128 * bat L p + posN L p) k else 0

theorem tok_at (L : S16.Idx → BitVec 32) (hL : LensOK L) (u : S2048x1024.Idx → EReal) (x : ℕ → ℕ → ℝ)
    (hu : ∀ (i : Fin 2048) (k : Fin 1024), u (ix2 i k) = (x i.val k.val : EReal)) {t : ℕ} (ht : t < 8) (i : Fin 256) (k : Fin 1024) :
    tokF (pk (0 : EReal) u L) t (ix2 i k) = (pkR L x (256 * t + i.val) k.val : EReal) := by
  have hp : (256 * t + i.val) % 2304 = 256 * t + i.val := Nat.mod_eq_of_lt (by omega)
  show (if (256 * t + i.val) % 2304 < (off L 16).toNat then
      u (ix2 (Fin.ofNat 2048 (128 * bat L ((256 * t + i.val) % 2304) + ((256 * t + i.val) % 2304 - (off L (bat L ((256 * t + i.val) % 2304))).toNat)))
        (Fin.ofNat 1024 (128 * (k.val / 128 % 8) + k.val % 128 % 128))) else 0) = _
  rw [hp]
  unfold pkR
  by_cases h : 256 * t + i.val < offN L 16
  · rw [if_pos h, if_pos (show 256 * t + i.val < (off L 16).toNat from h), hu]
    have hb := bat_le (L := L) (256 * t + i.val)
    have hpos : posN L (256 * t + i.val) < 128 := by
      by_cases hc : bat L (256 * t + i.val) = 15
      · have h15 : (off L 16).toNat = _ := off_succ hL (b := 15) (by omega)
        have hn := hL 15
        have hd := (off_le hL 15 (by omega))
        unfold posN offN at *
        rw [hc] at *
        rcases Nat.lt_or_ge (256 * t + i.val - (off L 15).toNat) 128 with h' | h'
        · exact h'
        · exfalso; omega
      · unfold posN
        by_contra hge
        have hs := off_succ hL (b := bat L (256 * t + i.val)) (by omega)
        have hn := hL (bat L (256 * t + i.val))
        have hd := off_le hL (bat L (256 * t + i.val)) (by omega)
        have hx : (off L (bat L (256 * t + i.val) + 1)).toNat ≤ 256 * t + i.val := by unfold offN at hge; omega
        have := bat_max (L := L) (b := bat L (256 * t + i.val) + 1) (by omega) hx
        omega
    have e1 : (Fin.ofNat 2048 (128 * bat L (256 * t + i.val) + (256 * t + i.val - (off L (bat L (256 * t + i.val))).toNat))).val = 128 * bat L (256 * t + i.val) + posN L (256 * t + i.val) := by
      show (128 * bat L (256 * t + i.val) + posN L (256 * t + i.val)) % 2048 = _
      omega
    have e2 : (Fin.ofNat 1024 (128 * (k.val / 128 % 8) + k.val % 128 % 128)).val = k.val := by
      show (128 * (k.val / 128 % 8) + k.val % 128 % 128) % 1024 = _
      omega
    rw [e1, e2]
  · rw [if_neg h, if_neg (show ¬ 256 * t + i.val < (off L 16).toNat from h)]; rfl

/-- A row of the scales or of the mask. -/
theorem pair_at (L : S16.Idx → BitVec 32) (v : ℕ → ℕ → EReal) {t : ℕ} (ht : t < 8) (i : Fin 256) :
    pairF (rw18 (0 : EReal) v L) t (ix2 0 i) = if val L (256 * t + i.val) then v (bat L (256 * t + i.val)) (posN L (256 * t + i.val)) else 0 := by
  have hp : 128 * ((2 * t + i.val / 128) % 18) + i.val % 128 % 128 = 256 * t + i.val := by omega
  show (if 128 * ((2 * t + i.val / 128) % 18) + i.val % 128 % 128 < (off L (bat L (128 * ((2 * t + i.val / 128) % 18) + i.val % 128 % 128))).toNat
      + (ln L (bat L (128 * ((2 * t + i.val / 128) % 18) + i.val % 128 % 128))).toNat
    then v (bat L (128 * ((2 * t + i.val / 128) % 18) + i.val % 128 % 128)) (128 * ((2 * t + i.val / 128) % 18) + i.val % 128 % 128 - (off L (bat L (128 * ((2 * t + i.val / 128) % 18) + i.val % 128 % 128))).toNat)
    else 0) = _
  rw [hp]; rfl

section
variable {e : S Ideal} {L : S16.Idx → BitVec 32} {x c s h w q : ℕ → ℕ → ℝ} (H : RealOps e L x c s h w q)
include H

theorem XS_at {t : ℕ} (ht : t < 8) (i : Fin 256) (k : Fin 1024) : tokF (XS e) t (ix2 i k) = (pkR L x (256 * t + i.val) k.val : EReal) := by
  unfold XS; rw [zb_eq, H.a1]; exact tok_at L H.ok _ x H.a2 ht i k
theorem XC_at {t : ℕ} (ht : t < 8) (i : Fin 256) (k : Fin 1024) : tokF (XC e) t (ix2 i k) = (pkR L c (256 * t + i.val) k.val : EReal) := by
  unfold XC; rw [zb_eq, H.a1]; exact tok_at L H.ok _ c H.a3 ht i k
theorem SC_at {t : ℕ} (ht : t < 8) (i : Fin 256) :
    SC e t (ix2 0 i) = ((if val L (256 * t + i.val) then s (bat L (256 * t + i.val)) (posN L (256 * t + i.val)) else 0 : ℝ) : EReal) := by
  unfold SC; rw [zf_eq, H.a1]
  refine (pair_at L (v15 e) ht i).trans ?_
  split
  · rename_i hv
    have hb := (bat_le (L := L) (256 * t + i.val)).1
    have hn : lnN L (bat L (256 * t + i.val)) ≤ 128 := H.ok _
    have hp : posN L (256 * t + i.val) < 128 := by
      have h2 := (bat_le (L := L) (256 * t + i.val)).2
      change offN L _ ≤ _ at h2
      unfold val at hv; unfold posN; omega
    refine (H.a4 _ _).trans ?_
    show ((s (bat L (256 * t + i.val) % 16) (posN L (256 * t + i.val) % 128) : ℝ) : EReal) = _
    rw [Nat.mod_eq_of_lt (by omega), Nat.mod_eq_of_lt hp]
  · rfl
theorem MK_at {t : ℕ} (ht : t < 8) (i : Fin 256) : MK e t (ix2 0 i) = if val L (256 * t + i.val) then 1 else 0 := by
  unfold MK; rw [zf_eq, H.a1]
  refine (pair_at L (v16 (F := Ideal)) ht i).trans ?_
  show (if _ then (of1 : Ideal .f32) else 0) = _
  rw [of1_eq]

/-- The residual of a tile against weights that are real. -/
theorem res_at {V : FVec Ideal S512x1024 .bf16} {W : ℕ → ℕ → ℝ} (hV : ∀ (n : Fin 512) (k : Fin 1024), V (ix2 n k) = (W n.val k.val : EReal))
    {t : ℕ} (ht : t < 8) (n : Fin 512) (i : Fin 256) :
    resV (YV e t) (mmV V (tokF (XC e) t)) (SC e t) (MK e t) (ix2 n i) = (rP L x c s w W n.val (256 * t + i.val) : EReal) := by
  rw [resV_at, MK_at H ht, SC_at H ht]
  unfold rP
  by_cases hv : val L (256 * t + i.val)
  · rw [if_pos hv, if_pos hv, if_pos hv, if_pos (by norm_num)]
    have hlt := val_lt H.ok hv
    have ey : YV e t (ix2 n i) = ((∑ k ∈ Finset.range 1024, w n.val k * x (128 * bat L (256 * t + i.val) + posN L (256 * t + i.val)) k : ℝ) : EReal) := by
      unfold YV; rw [mmV_at]
      exact sum_mul_coe 1024 _ _ _ _ (fun k => H.a6 n k) (fun k => (XS_at H ht i k).trans (by unfold pkR; rw [if_pos hlt]))
    have ed : mmV V (tokF (XC e) t) (ix2 n i) = ((∑ k ∈ Finset.range 1024, W n.val k * c (128 * bat L (256 * t + i.val) + posN L (256 * t + i.val)) k : ℝ) : EReal) := by
      rw [mmV_at]
      exact sum_mul_coe 1024 _ _ _ _ (fun k => hV n k) (fun k => (XC_at H ht i k).trans (by unfold pkR; rw [if_pos hlt]))
    rw [ey, ed]
    unfold rT
    rw [EReal.coe_sub, EReal.coe_mul]
  · rw [if_neg hv, if_neg hv, if_neg hv, if_neg (by simp)]; rfl

theorem RV_at {t : ℕ} (ht : t < 8) (n : Fin 512) (i : Fin 256) : RV e t (ix2 n i) = (rP L x c s w q n.val (256 * t + i.val) : EReal) :=
  res_at H H.wq ht n i
end

/-! ## The pieces of a finite value -/

theorem sp1_id {s : Shape} (v : FVec Ideal s .f32) : (sp1 v : s.Idx → EReal) = v := rfl
theorem rest1_zero {s : Shape} (v : FVec Ideal s .f32) (i : s.Idx) (r : ℝ) (h : v i = (r : EReal)) : rest1 v i = (0 : EReal) := by
  show (v i - v i : EReal) = 0
  rw [h, ← EReal.coe_sub, sub_self]; rfl
/-- The first piece of a finite value is the value, the others zero. -/
theorem spN_at {s : Shape} (p : ℕ) (v : FVec Ideal s .f32) (i : s.Idx) (r : ℝ) (h : v i = (r : EReal)) :
    spN p v i = if p = 0 then (r : EReal) else 0 := by
  unfold spN
  split
  · exact h
  · split
    · exact rest1_zero v i r h
    · exact rest1_zero (rest1 v) i 0 (rest1_zero v i r h)

section
variable {e : S Ideal} {L : S16.Idx → BitVec 32} {x c s h w q : ℕ → ℕ → ℝ} (H : RealOps e L x c s h w q)
include H

theorem hS_at {p : ℕ} (hp : p < 3) (j k : Fin 1024) : hS e p (ix3 0 j k) = if p = 0 then (h j.val k.val : EReal) else 0 := by
  have hm : p % 3 = p := Nat.mod_eq_of_lt hp
  show spN (F := Ideal) (s := S1024x1024) (p % 3) (e .a5) (ix2 j k) = _
  rw [hm]
  exact spN_at p _ _ _ (H.a5 j k)

theorem PJ_at {t : ℕ} (ht : t < 8) (i : Fin 256) (j : Fin 1024) :
    PJ e t (ix2 i j) = ((∑ k ∈ Finset.range 1024, pkR L c (256 * t + i.val) k * h j.val k : ℝ) : EReal) := by
  unfold PJ
  rw [projV_at]
  have z : ∀ p, p < 3 → p ≠ 0 → (∑ k : Fin 1024, tokF (XC e) t (ix2 i k) * hS e p (ix3 0 j k)) = (0 : EReal) := fun p h3 h0 =>
    Finset.sum_eq_zero fun k _ => by rw [hS_at H h3, if_neg h0, mul_zero]
  rw [z 1 (by omega) (by omega), z 2 (by omega) (by omega), add_zero, add_zero]
  exact sum_mul_coe 1024 _ _ _ _ (fun k => XC_at H ht i k) (fun k => by rw [hS_at H (by omega), if_pos rfl])

theorem pS_at {p t : ℕ} (ht : t < 8) (i : Fin 256) (j : Fin 1024) :
    pS e p t (ix4 0 0 i j) = if p = 0 then ((∑ k ∈ Finset.range 1024, pkR L c (256 * t + i.val) k * h j.val k : ℝ) : EReal) else 0 :=
  spN_at p (PJ e t) (ix2 i j) _ (PJ_at H ht i j)

/-- What a packed row adds to the correction. -/
theorem DW_at (n : Fin 512) (j : Fin 1024) : ∀ k, k ≤ 8 →
    DW e k (ix2 n j) = ((∑ p ∈ Finset.range (256 * k), if val L p then
      (s (bat L p) (posN L p) * rT x c s w q n.val (bat L p) (posN L p)) * (∑ k ∈ Finset.range 1024, c (128 * bat L p + posN L p) k * h j.val k) else 0 : ℝ) : EReal)
  | 0, _ => zf_eq
  | k + 1, hk => by
    have z : ∀ p, p ≠ 0 → mpV (rsV (SC e k) (RV e k)) (pS e p k) (ix2 n j) = (0 : EReal) := fun p hp => by
      rw [mpV_at]
      exact Finset.sum_eq_zero fun i _ => by rw [pS_at H (by omega), if_neg hp, mul_zero]
    show (DW e k (ix2 n j) + ((mpV (rsV (SC e k) (RV e k)) (pS e 0 k) (ix2 n j) + mpV (rsV (SC e k) (RV e k)) (pS e 1 k) (ix2 n j))
      + mpV (rsV (SC e k) (RV e k)) (pS e 2 k) (ix2 n j)) : EReal) = _
    rw [z 1 (by omega), z 2 (by omega), add_zero, add_zero, DW_at n j k (by omega), sum_tile, EReal.coe_add, mpV_at]
    congr 1
    refine sum_coe 256 _ _ fun i => ?_
    rw [rsV_at, SC_at H (by omega), RV_at H (by omega), pS_at H (by omega), if_pos rfl]
    unfold rP
    by_cases hv : val L (256 * k + i.val)
    · rw [if_pos hv, if_pos hv, if_pos hv, ← EReal.coe_mul, ← EReal.coe_mul]
      have hlt := val_lt H.ok hv
      congr 2
      exact Finset.sum_congr rfl fun k _ => by unfold pkR; rw [if_pos hlt]
    · rw [if_neg hv, if_neg hv, if_neg hv, ← EReal.coe_mul, ← EReal.coe_mul]; norm_num

/-- A loss: the squared errors of every row, added, over the count. -/
theorem loss_at {A : ℕ → FVec Ideal S1x512x128 .f32} {R : ℕ → FVec Ideal S512x256 .f32} (h0 : A 0 = fun _ => zf) (hA : ∀ k, A (k + 1) = accV (A k) (R k))
    {W : ℕ → ℕ → ℝ} (hR : ∀ t, t < 8 → ∀ (n : Fin 512) (i : Fin 256), R t (ix2 n i) = (rP L x c s w W n.val (256 * t + i.val) : EReal)) (n : Fin 512) : ∀ k, k ≤ 8 →
    (∑ l : Fin 128, A k (ix3 0 n l)) = ((∑ p ∈ Finset.range (256 * k), rP L x c s w W n.val p * rP L x c s w W n.val p : ℝ) : EReal)
  | 0, _ => by rw [h0]; exact Finset.sum_eq_zero fun _ _ => zf_eq
  | k + 1, hk => by
    rw [hA, sum_tile, EReal.coe_add, ← loss_at h0 hA hR n k (by omega)]
    have e1 : ∀ l : Fin 128, accV (A k) (R k) (ix3 0 n l) = _ := fun l => accV_at (A k) (R k) n l
    rw [Finset.sum_congr rfl fun l _ => e1 l, Finset.sum_add_distrib]
    congr 1
    rw [show (∑ i ∈ Finset.range 256, rP L x c s w W n.val (256 * k + i) * rP L x c s w W n.val (256 * k + i)) = _ from
      Finset.sum_range_add (fun i => rP L x c s w W n.val (256 * k + i) * rP L x c s w W n.val (256 * k + i)) 128 128, EReal.coe_add, Finset.sum_add_distrib]
    congr 1
    · refine sum_coe 128 (fun i => rP L x c s w W n.val (256 * k + i) * rP L x c s w W n.val (256 * k + i)) _ fun l => ?_
      rw [hR k (by omega), ← EReal.coe_mul]
    · refine sum_coe 128 (fun i => rP L x c s w W n.val (256 * k + (128 + i)) * rP L x c s w W n.val (256 * k + (128 + i))) _ fun l => ?_
      rw [hR k (by omega), ← EReal.coe_mul]
end

theorem codeLo_at (x : IVec S512x512 8) (n k : Fin 512) : codeLo (F := Ideal) x (ix2 n k) = ((cLo (x (ix2 n k)) : ℝ) : EReal) := by
  pointwise [codeLo, codeV]
  rfl
theorem codeHi_at (x : IVec S512x512 8) (n k : Fin 512) : codeHi (F := Ideal) x (ix2 n k) = ((cHi (x (ix2 n k)) : ℝ) : EReal) := by
  pointwise [codeHi, codeV]
  rfl
/-- The dequantised weights of a block. -/
theorem WQ_at (e : S Ideal) (cd : ℕ → ℕ → BitVec 8) (ws : ℕ → ℕ → ℝ) (hc : ∀ n k : Fin 512, (e .a7 : IVec S512x512 8) (ix2 n k) = cd n.val k.val)
    (hw : ∀ (n : Fin 512) (g : Fin 8), (e .a8 : FVec Ideal S512x8 .f32) (ix2 n g) = (ws n.val g.val : EReal)) (n : Fin 512) (k : Fin 1024) :
    WQ e (ix2 n k) = (qW cd ws n.val k.val : EReal) := by
  show (if k.val < 512 then codeLo (F := Ideal) (e .a7) (ix2 n (Fin.ofNat 512 k.val)) else codeHi (F := Ideal) (e .a7) (ix2 n (Fin.ofNat 512 (k.val - 512)))
    : EReal) * (e .a8 : FVec Ideal S512x8 .f32) (ix2 n (Fin.ofNat 8 (k.val / 128))) = _
  rw [hw, codeLo_at, codeHi_at, hc, hc]
  have h8 : (Fin.ofNat 8 (k.val / 128)).val = k.val / 128 := Nat.mod_eq_of_lt (by omega)
  rw [h8]
  unfold qW
  rw [EReal.coe_mul]
  by_cases h : k.val < 512
  · rw [if_pos h, if_pos h, show (Fin.ofNat 512 k.val).val = k.val from Nat.mod_eq_of_lt h]
  · rw [if_neg h, if_neg h, show (Fin.ofNat 512 (k.val - 512)).val = k.val - 512 from Nat.mod_eq_of_lt (by omega)]

section
variable {e : S Ideal} {L : S16.Idx → BitVec 32} {x c s h w q : ℕ → ℕ → ℝ} (H : RealOps e L x c s h w q)
include H

theorem NT_le_eight : NT e ≤ 8 := by unfold NT; rw [H.a1]; exact tiles_le8 H.ok
theorem NT_rows : offN L 16 ≤ 256 * NT e := by unfold NT; rw [H.a1]; exact rows_le H.ok

/-- The correction of a block. -/
theorem DW_val (n : Fin 512) (j : Fin 1024) : DW e (NT e) (ix2 n j) = (dwS L x c s h w q n.val j.val : EReal) := by
  rw [DW_at H n j _ (NT_le_eight H), dw_rows H.ok _ _ _ _ _ _ _ _ (NT_rows H)]
/-- The corrected weights of a block. -/
theorem WC_val (n : Fin 512) (j : Fin 1024) : WC e (ix2 n j) = (wcS L x c s h w q n.val j.val : EReal) := by
  unfold WC
  rw [wcV_at, H.wq, DW_val H, ← EReal.coe_add]; rfl
/-- The losses of a block. -/
theorem LB_val (n : Fin 512) : lossV (ACC0 e (NT e)) (NK e) (ix3 0 0 n) = Ideal.div (lossS L x c s w q n.val : EReal) (NK e) := by
  rw [lossV_at, loss_at H (A := ACC0 e) (R := RV e) rfl (fun _ => rfl) (fun t ht n i => RV_at H ht n i) n _ (NT_le_eight H), loss_rows H.ok _ _ _ _ _ _ (NT_rows H)]
  rfl
theorem LA_val (n : Fin 512) : lossV (ACC1 e (NT e)) (NK e) (ix3 0 0 n) = Ideal.div (lossS L x c s w (wcS L x c s h w q) n.val : EReal) (NK e) := by
  rw [lossV_at, loss_at H (A := ACC1 e) (R := R1 e) rfl (fun _ => rfl) (fun t ht n i => res_at H (WC_val H) ht n i) n _ (NT_le_eight H), loss_rows H.ok _ _ _ _ _ _ (NT_rows H)]
  rfl
end

end Cert.Proof.Lsq

end
-- ==== Proof.KerRun.lean ====
/-
  The kernel's run: what its four results hold, as the real numbers of the inputs.
-/
module

public import proofs.«01_k».proof.Proof.Launch
public import proofs.«01_k».proof.Proof.IdealKer
public import proofs.«01_k».proof.Proof.Inputs
public import Idealize.ShloMosaic.Lib.Claim

@[expose] public section

set_option maxRecDepth 16384

noncomputable section

namespace Cert.Proof.Lsq

open Idealize.ShloMosaic Idealize.ShloMosaic.TcCoe Idealize.ShloMosaic.Tactic
open Idealize.ShloMosaic.Pipeline (Dat)
open Cert.KernelIdeal Cert.KernelIdeal.Gen
open Cert.Proof.Inp (Inputs vWC vDW vL)

variable (m : (ℓ : Loc nD τ sig) → Buf (Elt Ideal) ℓ) (ρ : Dev nD → PrngReg) (c : Dev nD)

theorem V_v0 : V m ρ c main_v0 = shapeCast S2048x1024 (m ((c : Thread nD τ).loc main_arg0)) shapeCasts_S16x128x1024_S2048x1024 := by
  show StableHlo.after hostOps0 (V₀ m ρ c) _ = _
  simp only [hostOps0]
  after_results
  rfl
theorem V_v1 : V m ρ c main_v1 = shapeCast S2048x1024 (m ((c : Thread nD τ).loc main_arg1)) shapeCasts_S16x128x1024_S2048x1024 := by
  show StableHlo.after hostOps0 (V₀ m ρ c) _ = _
  simp only [hostOps0]
  after_results
  rfl

theorem rows_at {e : EltTy} (v : Vec Ideal S16x128x1024 e) (r : Fin 2048) (k : Fin 1024) :
    shapeCast S2048x1024 v shapeCasts_S16x128x1024_S2048x1024 (ix2 r k) = v (ix3 ⟨r.val / 128, by omega⟩ ⟨r.val % 128, by omega⟩ k) := by pointwise

theorem tr_4 : ∀ t : Fin grid0.N, cc0_transform_4 (grid0.coords t) 0 = t.val := by decide +kernel
theorem tr_5 : ∀ t : Fin grid0.N, cc0_transform_5 (grid0.coords t) 0 = t.val := by decide +kernel
theorem tr_6 : ∀ t : Fin grid0.N, cc0_transform_6 (grid0.coords t) 0 = t.val := by decide +kernel
theorem tr_7 : ∀ t : Fin grid0.N, cc0_transform_7 (grid0.coords t) 0 = t.val := by decide +kernel
theorem tr_8 : ∀ t : Fin grid0.N, cc0_transform_8 (grid0.coords t) 0 = t.val := by decide +kernel
theorem tr_9 : ∀ t : Fin grid0.N, cc0_transform_9 (grid0.coords t) 0 = t.val := by decide +kernel
theorem tr_10 : ∀ t : Fin grid0.N, cc0_transform_10 (grid0.coords t) 0 = t.val := by decide +kernel
theorem lt8 (t : Fin grid0.N) : t.val < 8 := t.isLt

theorem iblk_4 (t : Fin grid0.N) (n : Fin 512) (k : Fin 1024) :
    iblk m ρ c 4 t (ix2 n k) = m ((c : Thread nD τ).loc main_arg3) (ix2 ⟨512 * t.val + n.val, by have := lt8 t; omega⟩ k) := by
  show V m ρ c main_arg3 _ = _
  rw [V_kept m ρ c main_arg3 (by decide)]
  refine congrArg (m ((c : Thread nD τ).loc main_arg3)) (funext fun a => Fin.ext ?_)
  match a with
  | 0 =>
    show cc0_transform_4 (grid0.coords t) 0 * 512 + 1 * n.val = 512 * t.val + n.val
    rw [tr_4]; omega
  | 1 => show 0 * _ + 1 * k.val = k.val; omega
theorem iblk_5 (t : Fin grid0.N) (n : Fin 512) (k : Fin 512) :
    iblk m ρ c 5 t (ix2 n k) = m ((c : Thread nD τ).loc main_arg4) (ix2 ⟨512 * t.val + n.val, by have := lt8 t; omega⟩ k) := by
  show V m ρ c main_arg4 _ = _
  rw [V_kept m ρ c main_arg4 (by decide)]
  refine congrArg (m ((c : Thread nD τ).loc main_arg4)) (funext fun a => Fin.ext ?_)
  match a with
  | 0 =>
    show cc0_transform_5 (grid0.coords t) 0 * 512 + 1 * n.val = 512 * t.val + n.val
    rw [tr_5]; omega
  | 1 => show 0 * _ + 1 * k.val = k.val; omega
theorem iblk_6 (t : Fin grid0.N) (n : Fin 512) (k : Fin 8) :
    iblk m ρ c 6 t (ix2 n k) = m ((c : Thread nD τ).loc main_arg5) (ix2 ⟨512 * t.val + n.val, by have := lt8 t; omega⟩ k) := by
  show V m ρ c main_arg5 _ = _
  rw [V_kept m ρ c main_arg5 (by decide)]
  refine congrArg (m ((c : Thread nD τ).loc main_arg5)) (funext fun a => Fin.ext ?_)
  match a with
  | 0 =>
    show cc0_transform_6 (grid0.coords t) 0 * 512 + 1 * n.val = 512 * t.val + n.val
    rw [tr_6]; omega
  | 1 => show 0 * _ + 1 * k.val = k.val; omega

theorem flush_7 (t : Fin grid0.N) : ((cfgA m ρ).win 7).flush t = true := by
  show Pipeline.Window.flushOf grid0 true cc0_transform_7 t = true
  revert t; decide +kernel
theorem flush_8 (t : Fin grid0.N) : ((cfgA m ρ).win 8).flush t = true := by
  show Pipeline.Window.flushOf grid0 true cc0_transform_8 t = true
  revert t; decide +kernel
theorem flush_9 (t : Fin grid0.N) : ((cfgA m ρ).win 9).flush t = true := by
  show Pipeline.Window.flushOf grid0 true cc0_transform_9 t = true
  revert t; decide +kernel
theorem flush_10 (t : Fin grid0.N) : ((cfgA m ρ).win 10).flush t = true := by
  show Pipeline.Window.flushOf grid0 true cc0_transform_10 t = true
  revert t; decide +kernel

theorem cover_7 (i : S4096x1024.Idx) : ∃ t : Fin grid0.N, ((cfgA m ρ).win 7).flush t = true ∧ i ∈ (((cfgA m ρ).win 7).blk t).view.set := by
  have i0 : (i 0).val < 4096 := (i 0).isLt
  have hN : (i 0).val / 512 < grid0.N := by show _ < 8; omega
  refine ⟨⟨(i 0).val / 512, hN⟩, flush_7 m ρ _, ?_⟩
  have e : (((cfgA m ρ).win 7).blk ⟨(i 0).val / 512, hN⟩).view.emb (ix2 (⟨(i 0).val % 512, by omega⟩ : Fin 512) (⟨(i 1).val, (i 1).isLt⟩ : Fin 1024)) = i := by
    refine (funext fun a : Fin 2 => Fin.ext ?_)
    match a with
    | 0 =>
      show cc0_transform_7 (grid0.coords ⟨(i 0).val / 512, hN⟩) 0 * 512 + 1 * ((i 0).val % 512) = (i 0).val
      have ht : cc0_transform_7 (grid0.coords ⟨(i 0).val / 512, hN⟩) 0 = (i 0).val / 512 := tr_7 _
      rw [ht]; omega
    | 1 => show 0 * _ + 1 * (i 1).val = (i 1).val; omega
  have hm := View.emb_mem_set (((cfgA m ρ).win 7).blk ⟨(i 0).val / 512, hN⟩).view (ix2 (⟨(i 0).val % 512, by omega⟩ : Fin 512) (⟨(i 1).val, (i 1).isLt⟩ : Fin 1024))
  rw [e] at hm
  exact hm

theorem cover_10 (i : S4096x1024.Idx) : ∃ t : Fin grid0.N, ((cfgA m ρ).win 10).flush t = true ∧ i ∈ (((cfgA m ρ).win 10).blk t).view.set := by
  have i0 : (i 0).val < 4096 := (i 0).isLt
  have hN : (i 0).val / 512 < grid0.N := by show _ < 8; omega
  refine ⟨⟨(i 0).val / 512, hN⟩, flush_10 m ρ _, ?_⟩
  have e : (((cfgA m ρ).win 10).blk ⟨(i 0).val / 512, hN⟩).view.emb (ix2 (⟨(i 0).val % 512, by omega⟩ : Fin 512) (⟨(i 1).val, (i 1).isLt⟩ : Fin 1024)) = i := by
    refine (funext fun a : Fin 2 => Fin.ext ?_)
    match a with
    | 0 =>
      show cc0_transform_10 (grid0.coords ⟨(i 0).val / 512, hN⟩) 0 * 512 + 1 * ((i 0).val % 512) = (i 0).val
      have ht : cc0_transform_10 (grid0.coords ⟨(i 0).val / 512, hN⟩) 0 = (i 0).val / 512 := tr_10 _
      rw [ht]; omega
    | 1 => show 0 * _ + 1 * (i 1).val = (i 1).val; omega
  have hm := View.emb_mem_set (((cfgA m ρ).win 10).blk ⟨(i 0).val / 512, hN⟩).view (ix2 (⟨(i 0).val % 512, by omega⟩ : Fin 512) (⟨(i 1).val, (i 1).isLt⟩ : Fin 1024))
  rw [e] at hm
  exact hm

theorem cover_8 (i : S8x1x512.Idx) : ∃ t : Fin grid0.N, ((cfgA m ρ).win 8).flush t = true ∧ i ∈ (((cfgA m ρ).win 8).blk t).view.set := by
  have hN : (i 0).val < grid0.N := (i 0).isLt
  refine ⟨⟨(i 0).val, hN⟩, flush_8 m ρ _, ?_⟩
  have e : (((cfgA m ρ).win 8).blk ⟨(i 0).val, hN⟩).view.emb (ix3 (0 : Fin 1) (0 : Fin 1) (⟨(i 2).val, (i 2).isLt⟩ : Fin 512)) = i := by
    refine (funext fun a : Fin 3 => Fin.ext ?_)
    match a with
    | 0 =>
      show cc0_transform_8 (grid0.coords ⟨(i 0).val, hN⟩) 0 * 1 + 1 * 0 = (i 0).val
      have ht : cc0_transform_8 (grid0.coords ⟨(i 0).val, hN⟩) 0 = (i 0).val := tr_8 _
      rw [ht]; omega
    | 1 =>
      have i1 : (i 1).val < 1 := (i 1).isLt
      show 0 * 1 + 1 * 0 = (i 1).val; omega
    | 2 => show 0 * 512 + 1 * (i 2).val = (i 2).val; omega
  have hm := View.emb_mem_set (((cfgA m ρ).win 8).blk ⟨(i 0).val, hN⟩).view (ix3 (0 : Fin 1) (0 : Fin 1) (⟨(i 2).val, (i 2).isLt⟩ : Fin 512))
  rw [e] at hm
  exact hm

theorem cover_9 (i : S8x1x512.Idx) : ∃ t : Fin grid0.N, ((cfgA m ρ).win 9).flush t = true ∧ i ∈ (((cfgA m ρ).win 9).blk t).view.set := by
  have hN : (i 0).val < grid0.N := (i 0).isLt
  refine ⟨⟨(i 0).val, hN⟩, flush_9 m ρ _, ?_⟩
  have e : (((cfgA m ρ).win 9).blk ⟨(i 0).val, hN⟩).view.emb (ix3 (0 : Fin 1) (0 : Fin 1) (⟨(i 2).val, (i 2).isLt⟩ : Fin 512)) = i := by
    refine (funext fun a : Fin 3 => Fin.ext ?_)
    match a with
    | 0 =>
      show cc0_transform_9 (grid0.coords ⟨(i 0).val, hN⟩) 0 * 1 + 1 * 0 = (i 0).val
      have ht : cc0_transform_9 (grid0.coords ⟨(i 0).val, hN⟩) 0 = (i 0).val := tr_9 _
      rw [ht]; omega
    | 1 =>
      have i1 : (i 1).val < 1 := (i 1).isLt
      show 0 * 1 + 1 * 0 = (i 1).val; omega
    | 2 => show 0 * 512 + 1 * (i 2).val = (i 2).val; omega
  have hm := View.emb_mem_set (((cfgA m ρ).win 9).blk ⟨(i 0).val, hN⟩).view (ix3 (0 : Fin 1) (0 : Fin 1) (⟨(i 2).val, (i 2).isLt⟩ : Fin 512))
  rw [e] at hm
  exact hm

section
variable {x cc s h w ws : ℕ → ℕ → ℝ} {cd : ℕ → ℕ → BitVec 8}
    (I : Inputs (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) x cc s h w ws cd)
include I

/-- The operands of the block at a grid point are the real inputs, the weights' rows from the block's first. -/
theorem real_at (t : Fin grid0.N) : RealOps (eAt m ρ c t) (m ((c : Thread nD τ).loc main_arg7)) x cc s h
    (fun n k => w (512 * t.val + n) k) (fun n k => qW cd ws (512 * t.val + n) k) where
  a1 := by
    show V m ρ (0 : Fin 1) main_arg7 = _
    rw [← dev0 c, V_kept m ρ c main_arg7 (by decide)]
  ok := I.ok
  a2 := fun i k => by
    show iblk m ρ c 0 t (ix2 i k) = _
    rw [iblk_0, V_v0, rows_at]
    refine (I.a0 _ _ _).trans ?_
    simp only [Nat.div_add_mod]
  a3 := fun i k => by
    show FloatOps.sitofp (F := Ideal) .bf16 (iblk m ρ c 1 t (ix2 i k)) = _
    rw [iblk_1, V_v1, rows_at]
    refine (I.a1 _ _ _).trans ?_
    simp only [Nat.div_add_mod]
  a4 := fun b u => by
    show iblk m ρ c 2 t (ix2 b u) = _
    rw [iblk_2, V_kept m ρ c main_arg2 (by decide)]
    exact I.a2 b u
  a5 := fun j k => by
    show iblk m ρ c 3 t (ix2 j k) = _
    rw [iblk_3, V_kept m ρ c main_arg6 (by decide)]
    exact I.a6 j k
  a6 := fun n k => by
    show iblk m ρ c 4 t (ix2 n k) = _
    rw [iblk_4]
    exact I.a3 _ k
  wq := fun n k => WQ_at (eAt m ρ c t) (fun n k => cd (512 * t.val + n) k) (fun n g => ws (512 * t.val + n) g)
    (fun n k => (iblk_5 m ρ c t n k).trans (I.a4 _ k)) (fun n g => (iblk_6 m ρ c t n g).trans (I.a5 _ g)) n k

theorem fin_7 : finalA m ρ c 7 = vWC (m ((c : Thread nD τ).loc main_arg7)) x cc s h w (qW cd ws) := by
  refine (dats m ρ 0 c).arrAt_eq_of_cover 7 _ (fun t _ => ?_) (cover_7 m ρ)
  · show ((cfgA m ρ).win 7).cut _ ((dats m ρ 0 c).after 7 t) = _
    rw [after_eq]
    refine (funext fun y : S512x1024.Idx => ?_)
    obtain ⟨n, j, rfl⟩ : ∃ (n : Fin 512) (j : Fin 1024), y = ix2 n j := ⟨y 0, y 1, by funext a; match a with | 0 => rfl | 1 => rfl⟩
    refine (show _ = _ from WC_val (real_at m ρ c I t) n j).trans ?_
    have h0 : 512 * t.val + n.val = cc0_transform_7 (grid0.coords t) 0 * 512 + 1 * n.val := by rw [tr_7]; omega
    have h1 : j.val = 0 * 1024 + 1 * j.val := by omega
    exact congrArg₂ (fun a b : ℕ => ((wcS (m ((c : Thread nD τ).loc main_arg7)) x cc s h w (qW cd ws) a b : ℝ) : EReal)) h0 h1

theorem fin_10 : finalA m ρ c 10 = vDW (m ((c : Thread nD τ).loc main_arg7)) x cc s h w (qW cd ws) := by
  refine (dats m ρ 0 c).arrAt_eq_of_cover 10 _ (fun t _ => ?_) (cover_10 m ρ)
  · show ((cfgA m ρ).win 10).cut _ ((dats m ρ 0 c).after 10 t) = _
    rw [after_eq]
    refine (funext fun y : S512x1024.Idx => ?_)
    obtain ⟨n, j, rfl⟩ : ∃ (n : Fin 512) (j : Fin 1024), y = ix2 n j := ⟨y 0, y 1, by funext a; match a with | 0 => rfl | 1 => rfl⟩
    refine (show _ = _ from DW_val (real_at m ρ c I t) n j).trans ?_
    have h0 : 512 * t.val + n.val = cc0_transform_10 (grid0.coords t) 0 * 512 + 1 * n.val := by rw [tr_10]; omega
    have h1 : j.val = 0 * 1024 + 1 * j.val := by omega
    exact congrArg₂ (fun a b : ℕ => ((dwS (m ((c : Thread nD τ).loc main_arg7)) x cc s h w (qW cd ws) a b : ℝ) : EReal)) h0 h1

theorem fin_8 : finalA m ρ c 8 = vL (m ((c : Thread nD τ).loc main_arg7)) x cc s w (qW cd ws) := by
  refine (dats m ρ 0 c).arrAt_eq_of_cover 8 _ (fun t _ => ?_) (cover_8 m ρ)
  · show ((cfgA m ρ).win 8).cut _ ((dats m ρ 0 c).after 8 t) = _
    rw [after_eq]
    refine (funext fun y : S1x1x512.Idx => ?_)
    obtain ⟨n, rfl⟩ : ∃ (n : Fin 512), y = ix3 0 0 n := ⟨y 2, by funext a; match a with | 0 => exact Subsingleton.elim (α := Fin 1) _ _ | 1 => exact Subsingleton.elim (α := Fin 1) _ _ | 2 => rfl⟩
    refine (show _ = _ from LB_val (real_at m ρ c I t) n).trans ?_
    have hk : NK (eAt m ρ c t) = Scalar.sitofp (F := Ideal) .f32 (lenS (m ((c : Thread nD τ).loc main_arg7))) := by
      show Scalar.sitofp (F := Ideal) .f32 (lenS ((eAt m ρ c t) .a1)) = _
      rw [(real_at m ρ c I t).a1]
    rw [hk]
    have h0 : 512 * t.val + n.val = 512 * (cc0_transform_8 (grid0.coords t) 0 * 1 + 1 * 0) + (0 * 512 + 1 * n.val) := by rw [tr_8]; omega
    exact congrArg (fun a : ℕ => Ideal.div ((lossS (m ((c : Thread nD τ).loc main_arg7)) x cc s w (qW cd ws) a : ℝ) : EReal) (Scalar.sitofp (F := Ideal) .f32 (lenS (m ((c : Thread nD τ).loc main_arg7))))) h0

theorem fin_9 : finalA m ρ c 9 = vL (m ((c : Thread nD τ).loc main_arg7)) x cc s w (wcS (m ((c : Thread nD τ).loc main_arg7)) x cc s h w (qW cd ws)) := by
  refine (dats m ρ 0 c).arrAt_eq_of_cover 9 _ (fun t _ => ?_) (cover_9 m ρ)
  · show ((cfgA m ρ).win 9).cut _ ((dats m ρ 0 c).after 9 t) = _
    rw [after_eq]
    refine (funext fun y : S1x1x512.Idx => ?_)
    obtain ⟨n, rfl⟩ : ∃ (n : Fin 512), y = ix3 0 0 n := ⟨y 2, by funext a; match a with | 0 => exact Subsingleton.elim (α := Fin 1) _ _ | 1 => exact Subsingleton.elim (α := Fin 1) _ _ | 2 => rfl⟩
    refine (show _ = _ from LA_val (real_at m ρ c I t) n).trans ?_
    have hk : NK (eAt m ρ c t) = Scalar.sitofp (F := Ideal) .f32 (lenS (m ((c : Thread nD τ).loc main_arg7))) := by
      show Scalar.sitofp (F := Ideal) .f32 (lenS ((eAt m ρ c t) .a1)) = _
      rw [(real_at m ρ c I t).a1]
    rw [hk]
    have h0 : 512 * t.val + n.val = 512 * (cc0_transform_9 (grid0.coords t) 0 * 1 + 1 * 0) + (0 * 512 + 1 * n.val) := by rw [tr_9]; omega
    exact congrArg (fun a : ℕ => Ideal.div ((lossS (m ((c : Thread nD τ).loc main_arg7)) x cc s w (wcS (m ((c : Thread nD τ).loc main_arg7)) x cc s h w (qW cd ws)) a : ℝ) : EReal) (Scalar.sitofp (F := Ideal) .f32 (lenS (m ((c : Thread nD τ).loc main_arg7))))) h0

end

end Cert.Proof.Lsq

end
-- ==== Proof.IdealRef.lean ====
/-
  The reference's values at the extended reals, read at an index: the same real numbers as the kernel's.
-/
module

public import proofs.«01_k».proof.Proof.Gen.ReferenceIdeal.Frame
public import proofs.«01_k».proof.Proof.IdealMath
public import Idealize.ShloMosaic.PureOps.Ideal.Laws
public import Idealize.ShloMosaic.Lib.Pointwise

@[expose] public section

set_option maxRecDepth 16384

noncomputable section

namespace Cert.Proof.Ref

open Idealize.ShloMosaic Idealize.ShloMosaic.TcCoe Idealize.ShloMosaic.Tactic
open Cert.ReferenceIdeal Cert.ReferenceIdeal.Gen
open Cert.Proof.Lsq (lnN rT rM dwS wcS lossS qW cLo cHi cLo8 cHi8 coe_sum coe_sum2 sum_mul_coe sum_coe sel_lt sum_flat)

/-- The sum over the two token axes. -/
theorem red_at (X : S16x128x4096.Idx → EReal) (n : Fin 4096) (g : ℕ → ℕ → ℝ) (hg : ∀ (b : Fin 16) (t : Fin 128), X (ix3 b t n) = (g b.val t.val : EReal)) :
    Ideal.reduceAdd reduces_S16x128x4096_S4096 X (ix1 n) = ((∑ b ∈ Finset.range 16, ∑ t ∈ Finset.range 128, g b t : ℝ) : EReal) := by
  unfold Ideal.reduceAdd
  rw [coe_sum2, Finset.sum_range]
  simp only [Finset.sum_range]
  rw [← Fintype.sum_prod_type' (fun (b : Fin 16) (t : Fin 128) => ((g b.val t.val : ℝ) : EReal))]
  refine Finset.sum_bij' (fun i _ => ((i 0 : Fin 16), (i 1 : Fin 128))) (fun p _ => ix3 p.1 p.2 n) ?_ ?_ ?_ ?_ ?_
  · intro i _; exact Finset.mem_univ _
  · intro p _
    rw [Finset.mem_filter]
    refine ⟨Finset.mem_univ _, funext fun a => ?_⟩
    match a with
    | ⟨0, _⟩ => rfl
  · intro i hi
    have h2 : i 2 = n := by
      have := congrFun (Finset.mem_filter.mp hi).2 (0 : Fin 1)
      exact this
    subst h2
    funext a
    match a with
    | ⟨0, _⟩ => rfl
    | ⟨1, _⟩ => rfl
    | ⟨2, _⟩ => rfl
  · intro p _; rfl
  · intro i hi
    have h2 : i 2 = n := by
      have := congrFun (Finset.mem_filter.mp hi).2 (0 : Fin 1)
      exact this
    subst h2
    rw [← hg (i 0) (i 1)]
    congr 1
    funext a
    match a with
    | ⟨0, _⟩ => rfl
    | ⟨1, _⟩ => rfl
    | ⟨2, _⟩ => rfl

variable {L : Cert.KernelIdeal.S16.Idx → BitVec 32} {x c s h w : ℕ → ℕ → ℝ} {ws : ℕ → ℕ → ℝ} {cd : ℕ → ℕ → BitVec 8}

theorem pay3_at (v0 : Vec Ideal S16x128x1024 .bf16) (v1 : Vec Ideal S4096x1024 .bf16)
    (h0 : ∀ (b : Fin 16) (t : Fin 128) (k : Fin 1024), v0 (ix3 b t k) = (x (128 * b.val + t.val) k.val : EReal))
    (h1 : ∀ (n : Fin 4096) (k : Fin 1024), v1 (ix2 n k) = (w n.val k.val : EReal)) (b : Fin 16) (t : Fin 128) (n : Fin 4096) :
    k0_pay3 v0 v1 (ix3 b t n) = ((∑ k ∈ Finset.range 1024, w n.val k * x (128 * b.val + t.val) k : ℝ) : EReal) := by
  have e : k0_pay3 v0 v1 (ix3 b t n) = ∑ k : Fin 1024, v0 (ix3 b t k) * v1 (ix2 n k) := by pointwise [k0_pay3]
  rw [e, sum_mul_coe 1024 (fun k => x (128 * b.val + t.val) k) (fun k => w n.val k) _ _ (fun k => h0 b t k) (fun k => h1 n k)]
  exact congrArg _ (Finset.sum_congr rfl fun k _ => mul_comm _ _)

theorem pay4_at (v5 : Vec Ideal S4096x512 .i8) (v24 : Vec Ideal S4096x4 .f32) (hc : ∀ (n : Fin 4096) (k : Fin 512), v5 (ix2 n k) = cd n.val k.val)
    (hw : ∀ (n : Fin 4096) (g : Fin 4), v24 (ix2 n g) = (ws n.val g.val : EReal)) (n : Fin 4096) (k : Fin 512) :
    k0_pay4 v5 v24 (ix2 n k) = (qW cd ws n.val k.val : EReal) := by
  pointwise [k0_pay4]
  rw [hw, hc]
  unfold qW
  rw [if_pos k.isLt, ← cLo8, EReal.coe_mul]
  rfl
theorem pay5_at (v5 : Vec Ideal S4096x512 .i8) (v24 : Vec Ideal S4096x4 .f32) (hc : ∀ (n : Fin 4096) (k : Fin 512), v5 (ix2 n k) = cd n.val k.val)
    (hw : ∀ (n : Fin 4096) (g : Fin 4), v24 (ix2 n g) = (ws n.val (4 + g.val) : EReal)) (n : Fin 4096) (k : Fin 512) :
    k0_pay5 v5 v24 (ix2 n k) = (qW cd ws n.val (512 + k.val) : EReal) := by
  pointwise [k0_pay5]
  rw [hw, hc]
  unfold qW
  rw [if_neg (by omega), show 512 + k.val - 512 = k.val by omega, show (512 + k.val) / 128 = 4 + k.val / 128 by omega, ← cHi8, EReal.coe_mul]
  rfl

/-- What the masked error is made of. -/
structure Rops (L : Cert.KernelIdeal.S16.Idx → BitVec 32) (x c s w : ℕ → ℕ → ℝ) (v4 : FVec Ideal S16x128x4096 .f32) (v37 : Vec Ideal S16x128x1024 .i8)
    (v39 : Vec Ideal S16x128x1 .f32) (v53 : Vec Ideal S16x1x1 .i32) : Prop where
  ok : Cert.Proof.Lsq.LensOK L
  y : ∀ (b : Fin 16) (t : Fin 128) (n : Fin 4096), v4 (ix3 b t n) = ((∑ k ∈ Finset.range 1024, w n.val k * x (128 * b.val + t.val) k : ℝ) : EReal)
  c : ∀ (b : Fin 16) (t : Fin 128) (k : Fin 1024), (FloatOps.sitofp (F := Ideal) .bf16 (v37 (ix3 b t k)) : EReal) = (c (128 * b.val + t.val) k.val : EReal)
  s : ∀ (b : Fin 16) (t : Fin 128), v39 (ix3 b t 0) = (s b.val t.val : EReal)
  l : ∀ (b : Fin 16), (v53 (ix3 b 0 0)).toNat = lnN L b.val

theorem ln_le (hL : Cert.Proof.Lsq.LensOK L) (b : ℕ) : lnN L b ≤ 128 := hL b

section
variable {v4 : FVec Ideal S16x128x4096 .f32} {v37 : Vec Ideal S16x128x1024 .i8} {v39 : Vec Ideal S16x128x1 .f32} {v53 : Vec Ideal S16x1x1 .i32} (H : Rops L x c s w v4 v37 v39 v53)
include H

theorem pay10_at {q : ℕ → ℕ → ℝ} (v29 : FVec Ideal S4096x512 .bf16) (v36 : FVec Ideal S4096x512 .bf16)
    (h29 : ∀ (n : Fin 4096) (k : Fin 512), v29 (ix2 n k) = (q n.val k.val : EReal)) (h36 : ∀ (n : Fin 4096) (k : Fin 512), v36 (ix2 n k) = (q n.val (512 + k.val) : EReal))
    (b : Fin 16) (t : Fin 128) (n : Fin 4096) :
    k0_pay10 v4 v29 v36 v37 v39 v53 (ix3 b t n) = (rM L x c s w q n.val b.val t.val : EReal) := by
  pointwise [k0_pay10, k0_pay6, k0_pay7, k0_pay8]
  rw [sel_lt t.isLt (by rw [H.l]; exact ln_le H.ok _), H.l, H.y, H.s]
  unfold rM
  split
  · rw [sum_mul_coe 512 (fun k => c (128 * b.val + t.val) k) (fun k => q n.val k) _ _ (fun k => H.c b t ⟨k.val, by omega⟩) (fun k => h29 n k),
      sum_mul_coe 512 (fun k => c (128 * b.val + t.val) (512 + k)) (fun k => q n.val (512 + k)) _ _ (fun k => H.c b t ⟨512 + k.val, by omega⟩) (fun k => h36 n k),
      ← EReal.coe_add, ← Finset.sum_range_add (fun k => c (128 * b.val + t.val) k * q n.val k) 512 512, ← EReal.coe_mul, ← EReal.coe_sub]
    unfold rT
    rw [Finset.sum_congr rfl fun k _ => mul_comm (q n.val k) _]
  · rfl

theorem pay11_at {q : ℕ → ℕ → ℝ} (v29 : FVec Ideal S4096x512 .bf16) (v36 : FVec Ideal S4096x512 .bf16)
    (h29 : ∀ (n : Fin 4096) (k : Fin 512), v29 (ix2 n k) = (q n.val k.val : EReal)) (h36 : ∀ (n : Fin 4096) (k : Fin 512), v36 (ix2 n k) = (q n.val (512 + k.val) : EReal))
    (v57 : Vec Ideal S1x1 .f32) (n : Fin 4096) :
    k0_pay11 v4 v29 v36 v37 v39 v53 v57 (ix2 0 n) = Ideal.div (lossS L x c s w q n.val : EReal) (v57 (ix2 0 0)) := by
  pointwise [k0_pay11, k0_pay9]
  rw [red_at _ n (fun b t => rM L x c s w q n.val b t * rM L x c s w q n.val b t) fun b t => by
    show k0_pay10 v4 v29 v36 v37 v39 v53 (ix3 b t n) * k0_pay10 v4 v29 v36 v37 v39 v53 (ix3 b t n) = _
    rw [pay10_at H v29 v36 h29 h36, EReal.coe_mul]]
  rfl

theorem pay12_at {q : ℕ → ℕ → ℝ} (v29 : FVec Ideal S4096x512 .bf16) (v36 : FVec Ideal S4096x512 .bf16)
    (h29 : ∀ (n : Fin 4096) (k : Fin 512), v29 (ix2 n k) = (q n.val k.val : EReal)) (h36 : ∀ (n : Fin 4096) (k : Fin 512), v36 (ix2 n k) = (q n.val (512 + k.val) : EReal))
    (v76 : Vec Ideal S1024x1024 .f32) (h76 : ∀ j k : Fin 1024, v76 (ix2 j k) = (h j.val k.val : EReal)) (n : Fin 4096) (j : Fin 1024) :
    k0_pay12 v4 v29 v36 v37 v39 v53 v76 (ix2 n j) = (dwS L x c s h w q n.val j.val : EReal) := by
  pointwise [k0_pay12, k0_pay6, k0_pay7]
  unfold dwS
  refine sum_mul_coe 1024 (fun k => ∑ r ∈ Finset.range 2048, c r k * (s (r / 128) (r % 128) * rM L x c s w q n.val (r / 128) (r % 128))) (fun k => h j.val k) _ _ (fun k => ?_) (fun k => h76 j k)
  refine sum_mul_coe 2048 (fun r => c r k.val) (fun r => s (r / 128) (r % 128) * rM L x c s w q n.val (r / 128) (r % 128)) _ _ (fun r => ?_) (fun r => ?_)
  · refine (H.c _ _ k).trans ?_
    show ((c (128 * (r.val / 128) + r.val % 128) k.val : ℝ) : EReal) = _
    rw [show 128 * (r.val / 128) + r.val % 128 = r.val by omega]
  · rw [H.s, pay10_at H v29 v36 h29 h36, ← EReal.coe_mul]

theorem pay1_at {q d : ℕ → ℕ → ℝ} (v29 : FVec Ideal S4096x512 .bf16) (v36 : FVec Ideal S4096x512 .bf16)
    (h29 : ∀ (n : Fin 4096) (k : Fin 512), v29 (ix2 n k) = (q n.val k.val : EReal)) (h36 : ∀ (n : Fin 4096) (k : Fin 512), v36 (ix2 n k) = (q n.val (512 + k.val) : EReal))
    (v77 : FVec Ideal S4096x1024 .f32) (h77 : ∀ (n : Fin 4096) (j : Fin 1024), v77 (ix2 n j) = (d n.val j.val : EReal)) (n : Fin 4096) (j : Fin 1024) :
    k0_pay1 v29 v36 v77 (ix2 n j) = ((q n.val j.val + d n.val j.val : ℝ) : EReal) := by
  pointwise [k0_pay1]
  rw [h77, EReal.coe_add]
  congr 1
  split
  · rw [h29]
  · rw [h36]
    show ((q n.val (512 + (j.val - 512)) : ℝ) : EReal) = _
    rw [show 512 + (j.val - 512) = j.val by omega]

theorem pay2_at {W : ℕ → ℕ → ℝ} (v29 : FVec Ideal S4096x512 .bf16) (v36 : FVec Ideal S4096x512 .bf16) (v77 : FVec Ideal S4096x1024 .f32)
    (h1 : ∀ (n : Fin 4096) (j : Fin 1024), k0_pay1 v29 v36 v77 (ix2 n j) = (W n.val j.val : EReal)) (v57 : Vec Ideal S1x1 .f32) (n : Fin 4096) :
    k0_pay2 v4 v29 v36 (k0_pay6 v37) (k0_pay7 v39) (k0_pay8 (F := Ideal) v53) (k0_pay9 v57) v77 (ix2 0 n) = Ideal.div (lossS L x c s w W n.val : EReal) (v57 (ix2 0 0)) := by
  pointwise [k0_pay2, k0_pay9]
  rw [red_at _ n (fun b t => rM L x c s w W n.val b t * rM L x c s w W n.val b t) fun b t => ?_]
  · rfl
  pointwise [k0_pay6, k0_pay7, k0_pay8]
  rw [sel_lt t.isLt (by rw [H.l]; exact ln_le H.ok _), sel_lt t.isLt (by rw [H.l]; exact ln_le H.ok _), H.l, H.y, H.s, EReal.coe_mul]
  have e : (if t.val < lnN L b.val then ((∑ k ∈ Finset.range 1024, w n.val k * x (128 * b.val + t.val) k : ℝ) : EReal)
      - (∑ k : Fin 1024, (FloatOps.sitofp (F := Ideal) .bf16 (v37 (ix3 b t k)) : EReal) * k0_pay1 v29 v36 v77 (ix2 n k)) * (s b.val t.val : EReal) else 0)
      = (rM L x c s w W n.val b.val t.val : EReal) := by
    unfold rM
    split
    · rw [sum_mul_coe 1024 (fun k => c (128 * b.val + t.val) k) (fun k => W n.val k) _ _ (fun k => H.c b t k) (fun k => h1 n k), ← EReal.coe_mul, ← EReal.coe_sub]
      unfold rT
      rw [Finset.sum_congr rfl fun k _ => mul_comm (W n.val k) _]
    · rfl
  rw [← e]
  split
  · rfl
  · exact (mul_zero _).symm
end

end Cert.Proof.Ref

end
-- ==== Proof.RefRun.lean ====
/-
  The reference's run: what its four results hold, as the real numbers of the inputs.
-/
module

public import proofs.«01_k».proof.Proof.IdealRef
public import proofs.«01_k».proof.Proof.Inputs
public import proofs.«01_k».proof.Proof.Vals
public import Idealize.ShloMosaic.Lib.Claim

@[expose] public section

set_option maxRecDepth 16384

noncomputable section

namespace Cert.Proof.Ref

open Idealize.ShloMosaic Idealize.ShloMosaic.TcCoe Idealize.ShloMosaic.Tactic
open Cert.ReferenceIdeal Cert.ReferenceIdeal.Gen
open Idealize.ShloMosaic.Pipeline (Dat)
open Cert.Proof.Lsq (lnN rT rM dwS wcS lossS qW)
open Cert.Proof.Inp (Inputs)

variable (m : (ℓ : Loc nD τ sig) → Buf (Elt Ideal) ℓ) (c : Dev nD)

/-- The one point. -/
def t₀ : Fin cfg0.N := ⟨0, by decide⟩

/-- A window of the one point is its whole array. -/
theorem iblk_0 : iblk m c 0 t₀ = V m c main_arg0 := by
  funext j
  show V m c main_arg0 _ = V m c main_arg0 j
  refine congrArg (V m c main_arg0) (funext fun a => Fin.ext ?_)
  match a with
  | 0 => show 0 * _ + 1 * (j 0).val = (j 0).val; omega
  | 1 => show 0 * _ + 1 * (j 1).val = (j 1).val; omega
  | 2 => show 0 * _ + 1 * (j 2).val = (j 2).val; omega
theorem iblk_1 : iblk m c 1 t₀ = V m c main_arg1 := by
  funext j
  show V m c main_arg1 _ = V m c main_arg1 j
  refine congrArg (V m c main_arg1) (funext fun a => Fin.ext ?_)
  match a with
  | 0 => show 0 * _ + 1 * (j 0).val = (j 0).val; omega
  | 1 => show 0 * _ + 1 * (j 1).val = (j 1).val; omega
  | 2 => show 0 * _ + 1 * (j 2).val = (j 2).val; omega
theorem iblk_2 : iblk m c 2 t₀ = V m c main_v3 := by
  funext j
  show V m c main_v3 _ = V m c main_v3 j
  refine congrArg (V m c main_v3) (funext fun a => Fin.ext ?_)
  match a with
  | 0 => show 0 * _ + 1 * (j 0).val = (j 0).val; omega
  | 1 => show 0 * _ + 1 * (j 1).val = (j 1).val; omega
  | 2 => show 0 * _ + 1 * (j 2).val = (j 2).val; omega
theorem iblk_3 : iblk m c 3 t₀ = V m c main_arg3 := by
  funext j
  show V m c main_arg3 _ = V m c main_arg3 j
  refine congrArg (V m c main_arg3) (funext fun a => Fin.ext ?_)
  match a with
  | 0 => show 0 * _ + 1 * (j 0).val = (j 0).val; omega
  | 1 => show 0 * _ + 1 * (j 1).val = (j 1).val; omega
theorem iblk_4 : iblk m c 4 t₀ = V m c main_arg4 := by
  funext j
  show V m c main_arg4 _ = V m c main_arg4 j
  refine congrArg (V m c main_arg4) (funext fun a => Fin.ext ?_)
  match a with
  | 0 => show 0 * _ + 1 * (j 0).val = (j 0).val; omega
  | 1 => show 0 * _ + 1 * (j 1).val = (j 1).val; omega
theorem iblk_5 : iblk m c 5 t₀ = V m c main_arg5 := by
  funext j
  show V m c main_arg5 _ = V m c main_arg5 j
  refine congrArg (V m c main_arg5) (funext fun a => Fin.ext ?_)
  match a with
  | 0 => show 0 * _ + 1 * (j 0).val = (j 0).val; omega
  | 1 => show 0 * _ + 1 * (j 1).val = (j 1).val; omega
theorem iblk_6 : iblk m c 6 t₀ = V m c main_arg6 := by
  funext j
  show V m c main_arg6 _ = V m c main_arg6 j
  refine congrArg (V m c main_arg6) (funext fun a => Fin.ext ?_)
  match a with
  | 0 => show 0 * _ + 1 * (j 0).val = (j 0).val; omega
  | 1 => show 0 * _ + 1 * (j 1).val = (j 1).val; omega
theorem iblk_7 : iblk m c 7 t₀ = V m c main_v4 := by
  funext j
  show V m c main_v4 _ = V m c main_v4 j
  refine congrArg (V m c main_v4) (funext fun a => Fin.ext ?_)
  match a with
  | 0 => show 0 * _ + 1 * (j 0).val = (j 0).val; omega
  | 1 => show 0 * _ + 1 * (j 1).val = (j 1).val; omega
  | 2 => show 0 * _ + 1 * (j 2).val = (j 2).val; omega
theorem iblk_8 : iblk m c 8 t₀ = V m c main_v2 := by
  funext j
  show V m c main_v2 _ = V m c main_v2 j
  refine congrArg (V m c main_v2) (funext fun a => Fin.ext ?_)
  match a with
  | 0 => show 0 * _ + 1 * (j 0).val = (j 0).val; omega
  | 1 => show 0 * _ + 1 * (j 1).val = (j 1).val; omega

theorem V_v3 : V m c main_v3 = broadcastInDim S16x128x1 ![0, 1] bcast_S16x128_S16x128x1_0_1 (m ((c : Thread nD τ).loc main_arg2)) := by
  show StableHlo.after (List.flatten [hostOps0]) (fun b => m (c, b)) _ = _
  simp only [hostOps0, List.flatten_cons, List.flatten_nil, List.append_nil]
  after_results
theorem V_v4 : V m c main_v4 = shapeCast S16x1x1 (m ((c : Thread nD τ).loc main_arg7)) shapeCasts_S16_S16x1x1 := by
  show StableHlo.after (List.flatten [hostOps0]) (fun b => m (c, b)) _ = _
  simp only [hostOps0, List.flatten_cons, List.flatten_nil, List.append_nil]
  after_results
  rfl
theorem V_v2 : V m c main_v2 = shapeCast S1x1 (sitofp (F := Ideal) .f32 (Host.reduce IntOp.addi (m ((c : Thread nD τ).loc main_arg7)) (constantI S_ 32 0#32) reducesTo_S16_S_d0 h_S_)) shapeCasts_S_S1x1 := by
  show StableHlo.after (List.flatten [hostOps0]) (fun b => m (c, b)) _ = _
  simp only [hostOps0, List.flatten_cons, List.flatten_nil, List.append_nil]
  after_results
  rfl

/-- The number of tokens: the words added in either order of writing. -/
theorem count_eq (L : S16.Idx → BitVec 32) (j : S_.Idx) : Host.reduce IntOp.addi L (constantI S_ 32 0#32) reducesTo_S16_S_d0 h_S_ j = Cert.Proof.Lsq.lenS L := by
  rw [Host.reduce_eq_foldl]
  rw [List.filter_eq_self.2 fun i _ => by simpa using (funext fun a => a.elim0 : reducesTo_S16_S_d0.drop i = j)]
  rw [List.foldl_map]
  unfold Cert.Proof.Lsq.lenS
  rw [← List.map_coe_finRange_eq_range, List.foldl_map]
  have e : ∀ n : Fin 16, L (S16.rowMajor.symm n) = Cert.Proof.Lsq.ln L n.val := fun n => by
    unfold Cert.Proof.Lsq.ln
    refine congrArg L (funext fun a => ?_)
    match a with
    | ⟨0, _⟩ =>
      refine Fin.ext (Eq.trans ?_ (Nat.mod_eq_of_lt n.isLt).symm)
      exact (by decide +kernel : ∀ n : Fin 16, (S16.rowMajor.symm n (0 : Fin 1)).val = n.val) n
  have f : ∀ (l : List (Fin 16)) (r : BitVec 32), l.foldl (fun r n => IntOp.addi r (L (S16.rowMajor.symm n))) r = l.foldl (fun r n => Scalar.addi r (Cert.Proof.Lsq.ln L n.val)) r := by
    intro l
    induction l with
    | nil => intro r; rfl
    | cons n l ih => intro r; exact (congrArg (fun v => l.foldl (fun r n => IntOp.addi r (L (S16.rowMajor.symm n))) (IntOp.addi r v)) (e n)).trans (ih _)
  exact f (List.finRange 16) 0#32

theorem hz2 : (![0, 0] : Fin 2 → Nat) = fun _ => 0 := funext fun a => by fin_cases a <;> rfl
theorem hz3 : (![0, 0, 0] : Fin 3 → Nat) = fun _ => 0 := funext fun a => by fin_cases a <;> rfl

section
variable {A0 : Vec Ideal S16x128x1024 .bf16} {A1 : Vec Ideal S16x128x1024 .i8} {A2 : Vec Ideal S16x128 .f32} {A3 : Vec Ideal S4096x1024 .bf16} {A4 : Vec Ideal S4096x512 .i8}
  {A5 : Vec Ideal S4096x8 .f32} {A6 : Vec Ideal S1024x1024 .f32} {A7 : Vec Ideal S16 .i32} {x cc s h w ws : ℕ → ℕ → ℝ} {cd : ℕ → ℕ → BitVec 8}
  (I : Inputs A0 A1 A2 A3 A4 A5 A6 A7 x cc s h w ws cd)
/-- The three operands the host lines make: the scales as a column, the lengths as a column, the number of tokens. -/
abbrev B2 (A2 : Vec Ideal S16x128 .f32) : Vec Ideal S16x128x1 .f32 := broadcastInDim S16x128x1 ![0, 1] bcast_S16x128_S16x128x1_0_1 A2
abbrev B7 (A7 : Vec Ideal S16 .i32) : Vec Ideal S16x1x1 .i32 := shapeCast S16x1x1 A7 shapeCasts_S16_S16x1x1
abbrev B8 (A7 : Vec Ideal S16 .i32) : Vec Ideal S1x1 .f32 :=
  shapeCast S1x1 (sitofp (F := Ideal) .f32 (Host.reduce IntOp.addi A7 (constantI S_ 32 0#32) reducesTo_S16_S_d0 h_S_)) shapeCasts_S_S1x1

theorem B2_at (b : Fin 16) (t : Fin 128) : B2 A2 (ix3 b t 0) = A2 (ix2 b t) := by pointwise
theorem B7_at (b : Fin 16) : B7 A7 (ix3 b 0 0) = A7 (ix1 b) := by pointwise
theorem B8_at : B8 A7 (ix2 0 0) = (Scalar.sitofp (F := Ideal) .f32 (Cert.Proof.Lsq.lenS A7)) := by
  show FloatOps.sitofp (F := Ideal) .f32 (Host.reduce IntOp.addi A7 (constantI S_ 32 0#32) reducesTo_S16_S_d0 h_S_ _) = _
  rw [count_eq]; rfl

include I
theorem rops : Rops A7 x cc s w (k0_pay13 A0 A1 (B2 A2) A3 A4 A5 A6 (B7 A7) (B8 A7)) (View.ld A1 r0_0) (View.ld (B2 A2) r0_5) (View.ld (B7 A7) r0_6) where
  ok := I.ok
  y := fun b t n => by
    unfold k0_pay13
    rw [View.ld_unit_zero hz3, View.ld_unit_zero hz2]
    exact pay3_at _ _ I.a0 I.a3 b t n
  c := fun b t k => by rw [View.ld_unit_zero hz3]; exact I.a1 b t k
  s := fun b t => by rw [View.ld_unit_zero hz3, B2_at]; exact I.a2 b t
  l := fun b => by
    rw [View.ld_unit_zero hz3, B7_at]
    unfold lnN Cert.Proof.Lsq.ln
    exact congrArg (fun i => (A7 i).toNat) (funext fun a => by
      match a with
      | 0 => exact Fin.ext (Nat.mod_eq_of_lt b.isLt).symm)

theorem p14 (n : Fin 4096) (k : Fin 512) : k0_pay14 A0 A1 (B2 A2) A3 A4 A5 A6 (B7 A7) (B8 A7) (ix2 n k) = (qW cd ws n.val k.val : EReal) := by
  unfold k0_pay14
  rw [View.ld_unit_zero hz2]
  refine pay4_at _ _ I.a4 (fun n g => ?_) n k
  refine Eq.trans (congrArg A5 (funext fun a => Fin.ext ?_)) (I.a5 n ⟨g.val, by omega⟩)
  match a with
  | 0 => show 0 + 1 * n.val = n.val; omega
  | 1 => show 0 + 1 * g.val = g.val; omega
theorem p15 (n : Fin 4096) (k : Fin 512) : k0_pay15 A0 A1 (B2 A2) A3 A4 A5 A6 (B7 A7) (B8 A7) (ix2 n k) = (qW cd ws n.val (512 + k.val) : EReal) := by
  unfold k0_pay15
  rw [View.ld_unit_zero hz2]
  refine pay5_at _ _ I.a4 (fun n g => ?_) n k
  refine Eq.trans (congrArg A5 (funext fun a => Fin.ext ?_)) (I.a5 n ⟨4 + g.val, by omega⟩)
  match a with
  | 0 => show 0 + 1 * n.val = n.val; omega
  | 1 => show 4 + 1 * g.val = 4 + g.val; omega
theorem p16 (n : Fin 4096) (j : Fin 1024) : k0_pay16 A0 A1 (B2 A2) A3 A4 A5 A6 (B7 A7) (B8 A7) (ix2 n j) = (dwS A7 x cc s h w (qW cd ws) n.val j.val : EReal) := by
  unfold k0_pay16
  exact pay12_at (rops I) _ _ (p14 I) (p15 I) _ (fun j k => by rw [View.ld_unit_zero hz2]; exact I.a6 j k) n j

theorem wc_at (n : Fin 4096) (j : Fin 1024) : out0_9 A0 A1 (B2 A2) A3 A4 A5 A6 (B7 A7) (B8 A7) (ix2 n j) = (wcS A7 x cc s h w (qW cd ws) n.val j.val : EReal) := by
  unfold out0_9
  rw [View.canon_unit_zero hz2]
  exact pay1_at (rops I) _ _ (p14 I) (p15 I) _ (p16 I) n j
theorem dw_at (n : Fin 4096) (j : Fin 1024) : out0_12 A0 A1 (B2 A2) A3 A4 A5 A6 (B7 A7) (B8 A7) (ix2 n j) = (dwS A7 x cc s h w (qW cd ws) n.val j.val : EReal) := by
  unfold out0_12
  rw [View.canon_unit_zero hz2]
  exact p16 I n j
theorem lb_at (n : Fin 4096) : out0_10 A0 A1 (B2 A2) A3 A4 A5 A6 (B7 A7) (B8 A7) (ix2 0 n)
    = Ideal.div (lossS A7 x cc s w (qW cd ws) n.val : EReal) (Scalar.sitofp (F := Ideal) .f32 (Cert.Proof.Lsq.lenS A7)) := by
  unfold out0_10
  rw [View.canon_unit_zero hz2, ← B8_at]
  refine (pay11_at (rops I) _ _ (p14 I) (p15 I) _ n).trans ?_
  rw [View.ld_unit_zero hz2]
theorem la_at (n : Fin 4096) : out0_11 A0 A1 (B2 A2) A3 A4 A5 A6 (B7 A7) (B8 A7) (ix2 0 n)
    = Ideal.div (lossS A7 x cc s w (wcS A7 x cc s h w (qW cd ws)) n.val : EReal) (Scalar.sitofp (F := Ideal) .f32 (Cert.Proof.Lsq.lenS A7)) := by
  unfold out0_11
  rw [View.canon_unit_zero hz2, ← B8_at]
  refine (pay2_at (W := wcS A7 x cc s h w (qW cd ws)) (rops I) _ _ _ (fun n j => pay1_at (rops I) _ _ (p14 I) (p15 I) _ (p16 I) n j) _ n).trans ?_
  rw [View.ld_unit_zero hz2]
end

/-! ## The run -/

/-- An array an output window writes whole at the one point: what the body left. -/
theorem fin_9 : (dats m 0 c).arrAt (9 : Fin 13) cfg0.N = (dats m 0 c).after 9 t₀ := by
  have ho : ((cfg0.win (9 : Fin 13)).blk t₀).view.read (Elt Ideal) ((dats m 0 c).arrAt (9 : Fin 13) cfg0.N) = (dats m 0 c).flushed (9 : Fin 13) t₀ := by
    rw [show cfg0.N = (t₀ : Fin cfg0.N).val + 1 from rfl, (dats m 0 c).arrAt_succ (9 : Fin 13) t₀]
    rw [show (cfg0.win (9 : Fin 13)).flush t₀ = true from by decide, if_pos rfl]
    exact View.read_write_univ _ _
  have hz : (fun a => (win0_9.index t₀) a * main_v5_0.ty.shape.size a) = fun _ => 0 := funext fun a => by fin_cases a <;> decide
  rw [← Memref.read_access_unit_zero (Elt Ideal) main_v5_0 hz (fun a => by fin_cases a <;> decide) ((dats m 0 c).arrAt (9 : Fin 13) cfg0.N)]
  exact ho
theorem fin_10 : (dats m 0 c).arrAt (10 : Fin 13) cfg0.N = (dats m 0 c).after 10 t₀ := by
  have ho : ((cfg0.win (10 : Fin 13)).blk t₀).view.read (Elt Ideal) ((dats m 0 c).arrAt (10 : Fin 13) cfg0.N) = (dats m 0 c).flushed (10 : Fin 13) t₀ := by
    rw [show cfg0.N = (t₀ : Fin cfg0.N).val + 1 from rfl, (dats m 0 c).arrAt_succ (10 : Fin 13) t₀]
    rw [show (cfg0.win (10 : Fin 13)).flush t₀ = true from by decide, if_pos rfl]
    exact View.read_write_univ _ _
  have hz : (fun a => (win0_10.index t₀) a * main_v5_1.ty.shape.size a) = fun _ => 0 := funext fun a => by fin_cases a <;> decide
  rw [← Memref.read_access_unit_zero (Elt Ideal) main_v5_1 hz (fun a => by fin_cases a <;> decide) ((dats m 0 c).arrAt (10 : Fin 13) cfg0.N)]
  exact ho
theorem fin_11 : (dats m 0 c).arrAt (11 : Fin 13) cfg0.N = (dats m 0 c).after 11 t₀ := by
  have ho : ((cfg0.win (11 : Fin 13)).blk t₀).view.read (Elt Ideal) ((dats m 0 c).arrAt (11 : Fin 13) cfg0.N) = (dats m 0 c).flushed (11 : Fin 13) t₀ := by
    rw [show cfg0.N = (t₀ : Fin cfg0.N).val + 1 from rfl, (dats m 0 c).arrAt_succ (11 : Fin 13) t₀]
    rw [show (cfg0.win (11 : Fin 13)).flush t₀ = true from by decide, if_pos rfl]
    exact View.read_write_univ _ _
  have hz : (fun a => (win0_11.index t₀) a * main_v5_2.ty.shape.size a) = fun _ => 0 := funext fun a => by fin_cases a <;> decide
  rw [← Memref.read_access_unit_zero (Elt Ideal) main_v5_2 hz (fun a => by fin_cases a <;> decide) ((dats m 0 c).arrAt (11 : Fin 13) cfg0.N)]
  exact ho
theorem fin_12 : (dats m 0 c).arrAt (12 : Fin 13) cfg0.N = (dats m 0 c).after 12 t₀ := by
  have ho : ((cfg0.win (12 : Fin 13)).blk t₀).view.read (Elt Ideal) ((dats m 0 c).arrAt (12 : Fin 13) cfg0.N) = (dats m 0 c).flushed (12 : Fin 13) t₀ := by
    rw [show cfg0.N = (t₀ : Fin cfg0.N).val + 1 from rfl, (dats m 0 c).arrAt_succ (12 : Fin 13) t₀]
    rw [show (cfg0.win (12 : Fin 13)).flush t₀ = true from by decide, if_pos rfl]
    exact View.read_write_univ _ _
  have hz : (fun a => (win0_12.index t₀) a * main_v5_3.ty.shape.size a) = fun _ => 0 := funext fun a => by fin_cases a <;> decide
  rw [← Memref.read_access_unit_zero (Elt Ideal) main_v5_3 hz (fun a => by fin_cases a <;> decide) ((dats m 0 c).arrAt (12 : Fin 13) cfg0.N)]
  exact ho

theorem W_v6 : Pipeline.afterTail₀ cfgs (dats m) 0 (V0 m) [hostOps1] c main_v6 = shapeCast S8x1x512 ((dats m 0 c).arrAt (10 : Fin 13) cfg0.N) shapeCasts_S1x4096_S8x1x512 := by
  unfold Pipeline.afterTail₀
  simp only [hostOps1, List.flatten_cons, List.flatten_nil, List.append_nil]
  after_results
  exact congrArg (fun v => shapeCast S8x1x512 v shapeCasts_S1x4096_S8x1x512) (Pipeline.withArrays_arr spec0 (by decide) c (V0 m c) (fun w => (dats m 0 c).arrAt w cfg0.N) 10)
theorem W_v7 : Pipeline.afterTail₀ cfgs (dats m) 0 (V0 m) [hostOps1] c main_v7 = shapeCast S8x1x512 ((dats m 0 c).arrAt (11 : Fin 13) cfg0.N) shapeCasts_S1x4096_S8x1x512 := by
  unfold Pipeline.afterTail₀
  simp only [hostOps1, List.flatten_cons, List.flatten_nil, List.append_nil]
  after_results
  exact congrArg (fun v => shapeCast S8x1x512 v shapeCasts_S1x4096_S8x1x512) (Pipeline.withArrays_arr spec0 (by decide) c (V0 m c) (fun w => (dats m 0 c).arrAt w cfg0.N) 11)

/-- A row of the losses, cut into eight. -/
theorem cut_at (v : Vec Ideal S1x4096 .f32) (a : Fin 8) (n : Fin 512) : shapeCast S8x1x512 v shapeCasts_S1x4096_S8x1x512 (ix3 a 0 n) = v (ix2 0 ⟨512 * a.val + n.val, by omega⟩) := by
  pointwise
  exact congrArg (fun r : Fin 4096 => v (ix2 0 r)) (Fin.ext (by simp only []; omega))

section
variable {x cc s h w ws : ℕ → ℕ → ℝ} {cd : ℕ → ℕ → BitVec 8}
  (I : Inputs (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) x cc s h w ws cd)
include I

theorem res_wc : (dats m 0 c).arrAt (9 : Fin 13) cfg0.N = Cert.Proof.Inp.vWC (m ((c : Thread nD τ).loc main_arg7)) x cc s h w (qW cd ws) := by
  rw [fin_9, after0_9, iblk_0, iblk_1, iblk_2, iblk_3, iblk_4, iblk_5, iblk_6, iblk_7, iblk_8, V_main_arg0, V_main_arg1, V_v3, V_main_arg3, V_main_arg4, V_main_arg5, V_main_arg6, V_v4, V_v2]
  funext i
  have hi : i = ix2 (i 0) (i 1) := funext fun a => by match a with | 0 => rfl | 1 => rfl
  rw [hi]
  exact wc_at I (i 0) (i 1)
theorem res_dw : (dats m 0 c).arrAt (12 : Fin 13) cfg0.N = Cert.Proof.Inp.vDW (m ((c : Thread nD τ).loc main_arg7)) x cc s h w (qW cd ws) := by
  rw [fin_12, after0_12, iblk_0, iblk_1, iblk_2, iblk_3, iblk_4, iblk_5, iblk_6, iblk_7, iblk_8, V_main_arg0, V_main_arg1, V_v3, V_main_arg3, V_main_arg4, V_main_arg5, V_main_arg6, V_v4, V_v2]
  funext i
  have hi : i = ix2 (i 0) (i 1) := funext fun a => by match a with | 0 => rfl | 1 => rfl
  rw [hi]
  exact dw_at I (i 0) (i 1)
theorem res_lb : shapeCast S8x1x512 ((dats m 0 c).arrAt (10 : Fin 13) cfg0.N) shapeCasts_S1x4096_S8x1x512 = Cert.Proof.Inp.vL (m ((c : Thread nD τ).loc main_arg7)) x cc s w (qW cd ws) := by
  rw [fin_10, after0_10, iblk_0, iblk_1, iblk_2, iblk_3, iblk_4, iblk_5, iblk_6, iblk_7, iblk_8, V_main_arg0, V_main_arg1, V_v3, V_main_arg3, V_main_arg4, V_main_arg5, V_main_arg6, V_v4, V_v2]
  funext i
  have hi : i = ix3 (i 0) 0 (i 2) := funext fun a => by match a with | 0 => rfl | 1 => exact Subsingleton.elim (α := Fin 1) _ _ | 2 => rfl
  rw [hi]
  exact (cut_at _ (i 0) (i 2)).trans (lb_at I _)
theorem res_la : shapeCast S8x1x512 ((dats m 0 c).arrAt (11 : Fin 13) cfg0.N) shapeCasts_S1x4096_S8x1x512
    = Cert.Proof.Inp.vL (m ((c : Thread nD τ).loc main_arg7)) x cc s w (wcS (m ((c : Thread nD τ).loc main_arg7)) x cc s h w (qW cd ws)) := by
  rw [fin_11, after0_11, iblk_0, iblk_1, iblk_2, iblk_3, iblk_4, iblk_5, iblk_6, iblk_7, iblk_8, V_main_arg0, V_main_arg1, V_v3, V_main_arg3, V_main_arg4, V_main_arg5, V_main_arg6, V_v4, V_v2]
  funext i
  have hi : i = ix3 (i 0) 0 (i 2) := funext fun a => by match a with | 0 => rfl | 1 => exact Subsingleton.elim (α := Fin 1) _ _ | 2 => rfl
  rw [hi]
  exact (cut_at _ (i 0) (i 2)).trans (la_at I _)
end

end Cert.Proof.Ref

end
-- ==== Proof.lean ====
/- The proof of the claim: the two readings of the kernel run and leave their arguments as they were, and so does the
   reference; over the extended reals the kernel and the reference end with the same four results. -/
module

public import proofs.«01_k».proof.Defs
public import proofs.«01_k».proof.Proof.Pre
public import proofs.«01_k».proof.Proof.Launch
public import proofs.«01_k».proof.Proof.Bits.Launch
public import proofs.«01_k».proof.Proof.Gen.ReferenceIdeal.Frame
public import proofs.«01_k».proof.Proof.Inputs
public import proofs.«01_k».proof.Proof.KerRun
public import proofs.«01_k».proof.Proof.RefRun
public import Idealize.ShloMosaic.Adequacy
public import Idealize.ShloMosaic.Init

@[expose] public section

noncomputable section

namespace Cert.Proof

open Idealize.ShloMosaic Idealize.SL.Sem

/-- The kernel runs and leaves its arguments as they were. -/
theorem frame_kernel : @Cert.quiescent_Kernel Cert.Kernel.Gen.facts Cert.Pre_lens_ok.Gen.facts := fun m ρ hp =>
  (θ_run Cert.Kernel.defs _ _).mono (fun r h => ⟨fun c => LsqK.frame_of m ρ r h.1 c, h.2⟩)
    (LsqK.run_main m ρ (by
      rw [LsqK.V_kept m ρ (0 : Fin 1) Cert.Kernel.main_arg7 (by decide)]
      exact fun b => Lsq.word_le (congrFun (hp (0 : Fin 1)) _)))

/-- The kernel over the reals runs and leaves its arguments as they were. -/
theorem frame_ideal : @Cert.quiescent_KernelIdeal Cert.KernelIdeal.Gen.facts Cert.Pre_lens_ok.Gen.facts := fun m ρ hp =>
  (θ_run Cert.KernelIdeal.defs _ _).mono (fun r h => ⟨fun c => Lsq.frame_of m ρ r h.1 c, h.2⟩)
    (Lsq.run_main m ρ (by
      rw [Lsq.V_kept m ρ (0 : Fin 1) Cert.KernelIdeal.main_arg7 (by decide)]
      exact fun b => Lsq.word_le (congrFun (hp (0 : Fin 1)) _)))

section
open Cert.KernelIdeal Idealize.ShloMosaic.TcCoe

/-- The lengths of admitted inputs, as the launch reads them. -/
theorem lens_of (m : (ℓ : Loc nD τ sig) → Buf (Elt Ideal) ℓ) (g : Dev nD → PrngReg)
    (hp : @Cert.Pre_KernelIdeal_inputs_ok Cert.Proof.Inp.facts m) : Lsq.LensOK (Lsq.V m g (0 : Fin 1) main_arg7) := by
  obtain ⟨_, _, _, _, _, _, _, I⟩ := Inp.inputs_of _ _ _ _ _ _ _ _ (hp (0 : Fin 1))
  rw [Lsq.V_kept m g (0 : Fin 1) main_arg7 (by decide)]
  exact I.ok

theorem frame_ideal_inputs : @Cert.quiescent_KernelIdeal_pre_inputs_ok Cert.KernelIdeal.Gen.facts Cert.Proof.Inp.facts := fun m ρ hp =>
  (θ_run Cert.KernelIdeal.defs _ _).mono (fun r h => ⟨fun c => Lsq.frame_of m ρ r h.1 c, h.2⟩) (Lsq.run_main m ρ (lens_of m ρ hp))

end

open Cert.Proof.Lsq (wcS qW) in
open Cert.Proof.Inp (vWC vDW vL) in
/-- The kernel and the reference end with the same results: the real arrays of the inputs. -/
theorem results : @Cert.algebraic_KernelIdeal_ReferenceIdeal_pre_inputs_ok Cert.KernelIdeal.Gen.facts Cert.ReferenceIdeal.Gen.facts Cert.Proof.Inp.facts := by
  intro m g m' g' hp hm
  obtain ⟨x, cc, s, h, w, ws, cd, I⟩ := Inp.inputs_of _ _ _ _ _ _ _ _ (hp (0 : Fin 1))
  obtain ⟨a0, a1, a2, a3, a4, a5, a6, a7⟩ := hm (0 : Fin 1)
  have I' := I
  rw [← a0, ← a1, ← a2, ← a3, ← a4, ← a5, ← a6, ← a7] at I'
  refine ⟨fun _ => vWC (m ((Dev.tc (0 : Fin 1) : Thread Cert.KernelIdeal.nD Cert.KernelIdeal.τ).loc Cert.KernelIdeal.main_arg7)) x cc s h w (qW cd ws),
    fun _ => vL (m ((Dev.tc (0 : Fin 1) : Thread Cert.KernelIdeal.nD Cert.KernelIdeal.τ).loc Cert.KernelIdeal.main_arg7)) x cc s w (qW cd ws),
    fun _ => vL (m ((Dev.tc (0 : Fin 1) : Thread Cert.KernelIdeal.nD Cert.KernelIdeal.τ).loc Cert.KernelIdeal.main_arg7)) x cc s w
      (wcS (m ((Dev.tc (0 : Fin 1) : Thread Cert.KernelIdeal.nD Cert.KernelIdeal.τ).loc Cert.KernelIdeal.main_arg7)) x cc s h w (qW cd ws)),
    fun _ => vDW (m ((Dev.tc (0 : Fin 1) : Thread Cert.KernelIdeal.nD Cert.KernelIdeal.τ).loc Cert.KernelIdeal.main_arg7)) x cc s h w (qW cd ws), ?_, ?_⟩
  · refine (θ_run Cert.KernelIdeal.defs _ _).mono (fun r hr c => ?_) (Lsq.run_main m g (lens_of m g hp))
    obtain rfl := Lsq.dev0 c
    have q := (hr.1 (0 : Fin 1)).1
    exact ⟨(q 7).trans (Lsq.fin_7 m g _ I), (q 8).trans (Lsq.fin_8 m g _ I), (q 9).trans (Lsq.fin_9 m g _ I), (q 10).trans (Lsq.fin_10 m g _ I),
      Lsq.frame_of m g r hr.1 _⟩
  · refine (θ_run Cert.ReferenceIdeal.defs _ _).mono (fun r hr c => ?_)
      (θ_run_and (Cert.ReferenceIdeal.Gen.run_main m' g') (Cert.ReferenceIdeal.Gen.frame m' g'))
    obtain rfl := Lsq.dev0 c
    have q := hr.1 (0 : Fin 1)
    refine ⟨?_, ?_, ?_, ?_, hr.2.1 _⟩
    · exact (q.1 9).trans ((Ref.res_wc m' _ I').trans (by rw [a7]))
    · exact (q.2 Cert.ReferenceIdeal.main_v6 (Pipeline.mem_restRefs_of Cert.ReferenceIdeal.main_v6 (by decide) (by decide))).trans
        ((Ref.W_v6 m' _).trans ((Ref.res_lb m' _ I').trans (by rw [a7])))
    · exact (q.2 Cert.ReferenceIdeal.main_v7 (Pipeline.mem_restRefs_of Cert.ReferenceIdeal.main_v7 (by decide) (by decide))).trans
        ((Ref.W_v7 m' _).trans ((Ref.res_la m' _ I').trans (by rw [a7])))
    · exact (q.1 12).trans ((Ref.res_dw m' _ I').trans (by rw [a7]))

theorem claim : Cert.Claim := ⟨Cert.Kernel.Gen.facts, Cert.KernelIdeal.Gen.facts, Cert.ReferenceIdeal.Gen.facts, Cert.Pre_lens_ok.Gen.facts,
  Cert.Proof.Inp.facts, frame_kernel, frame_ideal, frame_ideal_inputs, fun m ρ _ => Cert.ReferenceIdeal.Gen.frame m ρ,
  fun m ρ _ => Cert.ReferenceIdeal.Gen.frame m ρ, trivial, results⟩

end Cert.Proof

end
